-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_in_pool [hPre_pages_in_pool : Cert.Pre_pages_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_in_pool [hReferenceIdeal : Cert.ReferenceIdeal.Facts] [hPre_pages_in_pool : Cert.Pre_pages_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)) (v4 : (c : Dev Cert.Kernel2Ideal.nD) → Buf (Elt Ideal) ((c.tc : Thread Cert.Kernel2Ideal.nD Cert.Kernel2Ideal.τ).loc Cert.Kernel2Ideal.main_v29_4)) (v5 : (c : Dev Cert.Kernel2Ideal.nD) → Buf (Elt Ideal) ((c.tc : Thread Cert.Kernel2Ideal.nD Cert.Kernel2Ideal.τ).loc Cert.Kernel2Ideal.main_v29_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_v29_4) = v4 c
          ∧ r.2.mem ((c.tc : Thread Cert.Kernel2Ideal.nD Cert.Kernel2Ideal.τ).loc Cert.Kernel2Ideal.main_v29_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v64) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v81) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_pages_in_pool : Cert.Pre_pages_in_pool.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_ReferenceIdeal (hReferenceIdeal := hReferenceIdeal)
    ∧ quiescent_ReferenceIdeal_pre_pages_in_pool (hReferenceIdeal := hReferenceIdeal) (hPre_pages_in_pool := hPre_pages_in_pool)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_pages_in_pool := hPre_pages_in_pool)
    ∧ preserves_Kernel2_Kernel2Ideal
    ∧ algebraic_Kernel2Ideal_Reference2Ideal (hKernel2Ideal := hKernel2Ideal) (hReference2Ideal := hReference2Ideal)
-- ==== Pre_pages_in_pool.lean ====
abbrev S4x8x4096x64 : Shape := ⟨4, ![4, 8, 4096, 64]⟩
abbrev S2x5120x8x128x64 : Shape := ⟨5, ![2, 5120, 8, 128, 64]⟩
abbrev S32x128 : Shape := ⟨2, ![32, 128]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : FVec F S4x8x4096x64 .f32) (main_arg1 : FVec F S4x8x4096x64 .f32) (main_arg2 : FVec F S4x8x4096x64 .f32) (main_arg3 : FVec F S2x5120x8x128x64 .f32) (main_arg4 : IVec S32x128 32) : IVec S32x128 1 :=
  let main_c : IVec S_ 32 := constantI S_ 32 0#32
  let main_v0 : IVec S32x128 32 := broadcastInDim S32x128 ![] bcast_S_S32x128 main_c
  let main_v1 : IVec S32x128 1 := cmpi .sge main_arg4 main_v0
  let main_c_0 : IVec S_ 32 := constantI S_ 32 5120#32
  let main_v2 : IVec S32x128 32 := broadcastInDim S32x128 ![] bcast_S_S32x128 main_c_0
  let main_v3 : IVec S32x128 1 := cmpi .slt main_arg4 main_v2
  let main_v4 : IVec S32x128 1 := andi main_v1 main_v3
  main_v4
-- ==== Kernel.lean ====
abbrev S4x8x4096x64 : Shape := ⟨4, ![4, 8, 4096, 64]⟩
abbrev S2x5120x8x128x64 : Shape := ⟨5, ![2, 5120, 8, 128, 64]⟩
abbrev S32x128 : Shape := ⟨2, ![32, 128]⟩
abbrev S2x5120x8x64x128 : Shape := ⟨5, ![2, 5120, 8, 64, 128]⟩
abbrev S4096 : Shape := ⟨1, ![4096]⟩
abbrev S4x8x64x4096 : Shape := ⟨4, ![4, 8, 64, 4096]⟩
abbrev S4x512x4096 : Shape := ⟨3, ![4, 512, 4096]⟩
abbrev S4x4096x512 : Shape := ⟨3, ![4, 4096, 512]⟩
abbrev S32x8x64x128 : Shape := ⟨4, ![32, 8, 64, 128]⟩
abbrev S1x256x256 : Shape := ⟨3, ![1, 256, 256]⟩
abbrev S1x4096x256 : Shape := ⟨3, ![1, 4096, 256]⟩
abbrev S1x256x4096 : Shape := ⟨3, ![1, 256, 4096]⟩
abbrev S1x8x64x128 : Shape := ⟨4, ![1, 8, 64, 128]⟩
abbrev S4x16x64 : Shape := ⟨3, ![4, 16, 64]⟩
abbrev S4x4x80x1024 : Shape := ⟨4, ![4, 4, 80, 1024]⟩
abbrev S4x16x256 : Shape := ⟨3, ![4, 16, 256]⟩
abbrev S4x4096x256 : Shape := ⟨3, ![4, 4096, 256]⟩
abbrev S2x32x8x64x128 : Shape := ⟨5, ![2, 32, 8, 64, 128]⟩
abbrev S2x32 : Shape := ⟨2, ![2, 32]⟩
abbrev S16x4096 : Shape := ⟨2, ![16, 4096]⟩
abbrev S1x64x4096 : Shape := ⟨3, ![1, 64, 4096]⟩
abbrev S64x4096 : Shape := ⟨2, ![64, 4096]⟩
abbrev S16x64 : Shape := ⟨2, ![16, 64]⟩
abbrev S1x16x64 : Shape := ⟨3, ![1, 16, 64]⟩
abbrev S16x1024 : Shape := ⟨2, ![16, 1024]⟩
abbrev S1x64x1024 : Shape := ⟨3, ![1, 64, 1024]⟩
abbrev S64x1024 : Shape := ⟨2, ![64, 1024]⟩
abbrev S1x1x64x1024 : Shape := ⟨4, ![1, 1, 64, 1024]⟩
abbrev S1x1x16x1024 : Shape := ⟨4, ![1, 1, 16, 1024]⟩
abbrev S256x256 : Shape := ⟨2, ![256, 256]⟩
abbrev S16x256 : Shape := ⟨2, ![16, 256]⟩
abbrev S64x256 : Shape := ⟨2, ![64, 256]⟩
abbrev S1x256 : Shape := ⟨2, ![1, 256]⟩
abbrev S1x16x256 : Shape := ⟨3, ![1, 16, 256]⟩
abbrev S1x1024x256 : Shape := ⟨3, ![1, 1024, 256]⟩
abbrev S1024x256 : Shape := ⟨2, ![1024, 256]⟩
abbrev S1x1x256 : Shape := ⟨3, ![1, 1, 256]⟩
abbrev S256 : Shape := ⟨1, ![256]⟩
abbrev S1 : Shape := ⟨1, ![1]⟩
abbrev S1x1 : Shape := ⟨2, ![1, 1]⟩
abbrev S_ : Shape := ⟨0, ![]⟩
abbrev S1x1x8x64x128 : Shape := ⟨5, ![1, 1, 8, 64, 128]⟩
abbrev S8x64x128 : Shape := ⟨3, ![8, 64, 128]⟩
abbrev S64x128 : Shape := ⟨2, ![64, 128]⟩
abbrev S1x1x64x128 : Shape := ⟨4, ![1, 1, 64, 128]⟩
abbrev S1x1x1x64x128 : Shape := ⟨5, ![1, 1, 1, 64, 128]⟩
abbrev S64 : Shape := ⟨1, ![64]⟩
abbrev S64x1 : Shape := ⟨2, ![64, 1]⟩
abbrev S1x768x256 : Shape := ⟨3, ![1, 768, 256]⟩
abbrev S768x256 : Shape := ⟨2, ![768, 256]⟩
abbrev S1x512x256 : Shape := ⟨3, ![1, 512, 256]⟩
abbrev S512x256 : Shape := ⟨2, ![512, 256]⟩
abbrev S80x256 : Shape := ⟨2, ![80, 256]⟩
abbrev S1x1x80x1024 : Shape := ⟨4, ![1, 1, 80, 1024]⟩
abbrev S80x1024 : Shape := ⟨2, ![80, 1024]⟩
abbrev S1x1x80x768 : Shape := ⟨4, ![1, 1, 80, 768]⟩
abbrev S80x768 : Shape := ⟨2, ![80, 768]⟩
abbrev S1x1x80x512 : Shape := ⟨4, ![1, 1, 80, 512]⟩
abbrev S80x512 : Shape := ⟨2, ![80, 512]⟩
abbrev S1x1x80x256 : Shape := ⟨4, ![1, 1, 80, 256]⟩

abbrev nBuf : Space → Nat
  | .hbm => 16
  | .vmem => 14
  | .smem => 1
  | _ => 0

abbrev bufTy : (tb : Table) → Fin (tcTables nBuf tb) → BufTy
  | .hbm, ⟨0, _⟩ => ⟨S4x8x4096x64, .f32⟩
  | .hbm, ⟨1, _⟩ => ⟨S4x8x4096x64, .f32⟩
  | .hbm, ⟨2, _⟩ => ⟨S4x8x4096x64, .f32⟩
  | .hbm, ⟨3, _⟩ => ⟨S2x5120x8x128x64, .f32⟩
  | .hbm, ⟨4, _⟩ => ⟨S32x128, .i32⟩
  | .hbm, ⟨5, _⟩ => ⟨S2x5120x8x64x128, .f32⟩
  | .hbm, ⟨6, _⟩ => ⟨S4x8x64x4096, .f32⟩
  | .hbm, ⟨7, _⟩ => ⟨S4x512x4096, .f32⟩
  | .hbm, ⟨8, _⟩ => ⟨S4x8x64x4096, .f32⟩
  | .hbm, ⟨9, _⟩ => ⟨S4x512x4096, .f32⟩
  | .hbm, ⟨10, _⟩ => ⟨S4x8x64x4096, .f32⟩
  | .hbm, ⟨11, _⟩ => ⟨S4x512x4096, .f32⟩
  | .hbm, ⟨12, _⟩ => ⟨S4x4096x512, .f32⟩
  | .hbm, ⟨13, _⟩ => ⟨S4x4096x512, .bf16⟩
  | .hbm, ⟨14, _⟩ => ⟨S4x4096x512, .bf16⟩
  | .hbm, ⟨15, _⟩ => ⟨S32x8x64x128, .f32⟩
  | .local _ .vmem, ⟨0, _⟩ => ⟨S1x256x256, .f32⟩
  | .local _ .vmem, ⟨1, _⟩ => ⟨S1x256x256, .f32⟩
  | .local _ .vmem, ⟨2, _⟩ => ⟨S1x4096x256, .bf16⟩
  | .local _ .vmem, ⟨3, _⟩ => ⟨S1x256x4096, .f32⟩
  | .local _ .vmem, ⟨4, _⟩ => ⟨S1x256x4096, .f32⟩
  | .local _ .vmem, ⟨5, _⟩ => ⟨S1x256x256, .bf16⟩
  | .local _ .vmem, ⟨6, _⟩ => ⟨S1x256x256, .bf16⟩
  | .local _ .vmem, ⟨7, _⟩ => ⟨S1x8x64x128, .f32⟩
  | .local _ .vmem, ⟨8, _⟩ => ⟨S1x8x64x128, .f32⟩
  | .local _ .vmem, ⟨9, _⟩ => ⟨S4x16x64, .f32⟩
  | .local _ .vmem, ⟨10, _⟩ => ⟨S4x4x80x1024, .bf16⟩
  | .local _ .vmem, ⟨11, _⟩ => ⟨S4x16x256, .f32⟩
  | .local _ .vmem, ⟨12, _⟩ => ⟨S4x4096x256, .f32⟩
  | .local _ .vmem, ⟨13, _⟩ => ⟨S2x32x8x64x128, .f32⟩
  | .local _ .smem, ⟨0, _⟩ => ⟨S4096, .i32⟩
  | _, _ => ⟨S4x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![4, 2, 16], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop (i : grid0.Coords) : Scf.Loop 32 :=
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_119 : BitVec 32 := 1#32
  ⟨c0_i32_117, v849, c1_i32_119⟩
def k0_mult1 (i : grid0.Coords) (k0_t1 : Fin (k0_t1_loop i).trips) : BitVec 32 :=
  let c0_i32_117 : BitVec 32 := 0#32
  let c1_i32_119 : BitVec 32 := 1#32
  let arg17 : BitVec 32 := Scf.iv c0_i32_117 c1_i32_119 k0_t1
  let c1024_i32_436 : BitVec 32 := 1024#32
  let v1130 : BitVec 32 := Scalar.muli arg17 c1024_i32_436
  v1130
def k0_mult2 (i : grid0.Coords) (k0_t1 : Fin (k0_t1_loop i).trips) : BitVec 32 :=
  let c0_i32_117 : BitVec 32 := 0#32
  let c1_i32_119 : BitVec 32 := 1#32
  let arg17 : BitVec 32 := Scf.iv c0_i32_117 c1_i32_119 k0_t1
  let c1024_i32_437 : BitVec 32 := 1024#32
  let v1132 : BitVec 32 := Scalar.muli arg17 c1024_i32_437
  v1132
def k0_off1 (i : grid0.Coords) (k0_t1 : Fin (k0_t1_loop i).trips) : Fin 3 → Nat :=
  let c0_438 : Index := 0#32
  let c0_i32_117 : BitVec 32 := 0#32
  let c1_i32_119 : BitVec 32 := 1#32
  let arg17 : BitVec 32 := Scf.iv c0_i32_117 c1_i32_119 k0_t1
  let c1024_i32_437 : BitVec 32 := 1024#32
  let v1132 : BitVec 32 := Scalar.muli arg17 c1024_i32_437
  let v1133 : BitVec 32 := v1132
  let v1134 : Index := Scalar.indexCast v1133
  let c0_439 : Index := 0#32
  ![0, v1134.toNat, 0]
def k0_off2 (i : grid0.Coords) (k0_t1 : Fin (k0_t1_loop i).trips) (c0_i32_442 : BitVec 32) : Fin 3 → Nat :=
  let c0_443 : Index := 0#32
  let c0_i32_117 : BitVec 32 := 0#32
  let c1_i32_119 : BitVec 32 := 1#32
  let arg17 : BitVec 32 := Scf.iv c0_i32_117 c1_i32_119 k0_t1
  let c4_i32_441 : BitVec 32 := 4#32
  let v1139 : BitVec 32 := Scalar.muli arg17 c4_i32_441
  let v1140 : BitVec 32 := Scalar.addi v1139 c0_i32_442
  let v1141 : Index := Scalar.indexCast v1140
  let c0_444 : Index := 0#32
  ![0, v1141.toNat, 0]
def k0_off3 (i : grid0.Coords) (k0_t1 : Fin (k0_t1_loop i).trips) : Fin 3 → Nat :=
  let c0_457 : Index := 0#32
  let c0_i32_117 : BitVec 32 := 0#32
  let c1_i32_119 : BitVec 32 := 1#32
  let arg17 : BitVec 32 := Scf.iv c0_i32_117 c1_i32_119 k0_t1
  let c1024_i32_436 : BitVec 32 := 1024#32
  let v1130 : BitVec 32 := Scalar.muli arg17 c1024_i32_436
  let v1131 : BitVec 32 := v1130
  let v1171 : Index := Scalar.indexCast v1131
  let c0_458 : Index := 0#32
  ![0, v1171.toNat, 0]
def k0_mult3 (i : grid0.Coords) (k0_t1 : Fin (k0_t1_loop i).trips) : BitVec 32 :=
  let c0_i32_117 : BitVec 32 := 0#32
  let c1_i32_119 : BitVec 32 := 1#32
  let arg17 : BitVec 32 := Scf.iv c0_i32_117 c1_i32_119 k0_t1
  let c1024_i32_460 : BitVec 32 := 1024#32
  let v1178 : BitVec 32 := Scalar.muli arg17 c1024_i32_460
  v1178
def k0_off4 (i : grid0.Coords) (k0_t1 : Fin (k0_t1_loop i).trips) (c0_i32_465 : BitVec 32) : Fin 3 → Nat :=
  let c1_466 : Index := 1#32
  let c0_i32_117 : BitVec 32 := 0#32
  let c1_i32_119 : BitVec 32 := 1#32
  let arg17 : BitVec 32 := Scf.iv c0_i32_117 c1_i32_119 k0_t1
  let c4_i32_464 : BitVec 32 := 4#32
  let v1185 : BitVec 32 := Scalar.muli arg17 c4_i32_464
  let v1186 : BitVec 32 := Scalar.addi v1185 c0_i32_465
  let v1187 : Index := Scalar.indexCast v1186
  let c0_467 : Index := 0#32
  ![1, v1187.toNat, 0]
def k0_off5 (i : grid0.Coords) (k0_t1 : Fin (k0_t1_loop i).trips) : Fin 3 → Nat :=
  let c1_480 : Index := 1#32
  let c0_i32_117 : BitVec 32 := 0#32
  let c1_i32_119 : BitVec 32 := 1#32
  let arg17 : BitVec 32 := Scf.iv c0_i32_117 c1_i32_119 k0_t1
  let c1024_i32_436 : BitVec 32 := 1024#32
  let v1130 : BitVec 32 := Scalar.muli arg17 c1024_i32_436
  let v1131 : BitVec 32 := v1130
  let v1217 : Index := Scalar.indexCast v1131
  let c0_481 : Index := 0#32
  ![1, v1217.toNat, 0]
def k0_mult4 (i : grid0.Coords) (k0_t1 : Fin (k0_t1_loop i).trips) : BitVec 32 :=
  let c0_i32_117 : BitVec 32 := 0#32
  let c1_i32_119 : BitVec 32 := 1#32
  let arg17 : BitVec 32 := Scf.iv c0_i32_117 c1_i32_119 k0_t1
  let c1024_i32_483 : BitVec 32 := 1024#32
  let v1224 : BitVec 32 := Scalar.muli arg17 c1024_i32_483
  v1224
def k0_off6 (i : grid0.Coords) (k0_t1 : Fin (k0_t1_loop i).trips) (c0_i32_488 : BitVec 32) : Fin 3 → Nat :=
  let c2_489 : Index := 2#32
  let c0_i32_117 : BitVec 32 := 0#32
  let c1_i32_119 : BitVec 32 := 1#32
  let arg17 : BitVec 32 := Scf.iv c0_i32_117 c1_i32_119 k0_t1
  let c4_i32_487 : BitVec 32 := 4#32
  let v1231 : BitVec 32 := Scalar.muli arg17 c4_i32_487
  let v1232 : BitVec 32 := Scalar.addi v1231 c0_i32_488
  let v1233 : Index := Scalar.indexCast v1232
  let c0_490 : Index := 0#32
  ![2, v1233.toNat, 0]
def k0_off7 (i : grid0.Coords) (k0_t1 : Fin (k0_t1_loop i).trips) : Fin 3 → Nat :=
  let c2_503 : Index := 2#32
  let c0_i32_117 : BitVec 32 := 0#32
  let c1_i32_119 : BitVec 32 := 1#32
  let arg17 : BitVec 32 := Scf.iv c0_i32_117 c1_i32_119 k0_t1
  let c1024_i32_436 : BitVec 32 := 1024#32
  let v1130 : BitVec 32 := Scalar.muli arg17 c1024_i32_436
  let v1131 : BitVec 32 := v1130
  let v1263 : Index := Scalar.indexCast v1131
  let c0_504 : Index := 0#32
  ![2, v1263.toNat, 0]
def k0_mult5 (i : grid0.Coords) (k0_t1 : Fin (k0_t1_loop i).trips) : BitVec 32 :=
  let c0_i32_117 : BitVec 32 := 0#32
  let c1_i32_119 : BitVec 32 := 1#32
  let arg17 : BitVec 32 := Scf.iv c0_i32_117 c1_i32_119 k0_t1
  let c1024_i32_506 : BitVec 32 := 1024#32
  let v1270 : BitVec 32 := Scalar.muli arg17 c1024_i32_506
  v1270
def k0_off8 (i : grid0.Coords) (k0_t1 : Fin (k0_t1_loop i).trips) (c0_i32_511 : BitVec 32) : Fin 3 → Nat :=
  let c3_512 : Index := 3#32
  let c0_i32_117 : BitVec 32 := 0#32
  let c1_i32_119 : BitVec 32 := 1#32
  let arg17 : BitVec 32 := Scf.iv c0_i32_117 c1_i32_119 k0_t1
  let c4_i32_510 : BitVec 32 := 4#32
  let v1277 : BitVec 32 := Scalar.muli arg17 c4_i32_510
  let v1278 : BitVec 32 := Scalar.addi v1277 c0_i32_511
  let v1279 : Index := Scalar.indexCast v1278
  let c0_513 : Index := 0#32
  ![3, v1279.toNat, 0]
def k0_off9 (i : grid0.Coords) (k0_t1 : Fin (k0_t1_loop i).trips) : Fin 3 → Nat :=
  let c3_526 : Index := 3#32
  let c0_i32_117 : BitVec 32 := 0#32
  let c1_i32_119 : BitVec 32 := 1#32
  let arg17 : BitVec 32 := Scf.iv c0_i32_117 c1_i32_119 k0_t1
  let c1024_i32_436 : BitVec 32 := 1024#32
  let v1130 : BitVec 32 := Scalar.muli arg17 c1024_i32_436
  let v1131 : BitVec 32 := v1130
  let v1309 : Index := Scalar.indexCast v1131
  let c0_527 : Index := 0#32
  ![3, v1309.toNat, 0]
@[reducible] def k0_t2_loop (i : grid0.Coords) : Scf.Loop 32 :=
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let v846 : BitVec 32 := Scalar.addi c0_i32_117 v845
  let c1_i32_120 : BitVec 32 := 1#32
  ⟨v849, v846, c1_i32_120⟩
def k0_mult6 (i : grid0.Coords) (k0_t2 : Fin (k0_t2_loop i).trips) : BitVec 32 :=
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_436 : BitVec 32 := 1024#32
  let v1130 : BitVec 32 := Scalar.muli arg17 c1024_i32_436
  v1130
def k0_mult7 (i : grid0.Coords) (k0_t2 : Fin (k0_t2_loop i).trips) : BitVec 32 :=
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_437 : BitVec 32 := 1024#32
  let v1132 : BitVec 32 := Scalar.muli arg17 c1024_i32_437
  v1132
def k0_off10 (i : grid0.Coords) (k0_t2 : Fin (k0_t2_loop i).trips) : Fin 3 → Nat :=
  let c0_438 : Index := 0#32
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_437 : BitVec 32 := 1024#32
  let v1132 : BitVec 32 := Scalar.muli arg17 c1024_i32_437
  let v1133 : BitVec 32 := v1132
  let v1134 : Index := Scalar.indexCast v1133
  let c0_439 : Index := 0#32
  ![0, v1134.toNat, 0]
def k0_off11 (i : grid0.Coords) (k0_t2 : Fin (k0_t2_loop i).trips) (c0_i32_442 : BitVec 32) : Fin 3 → Nat :=
  let c0_443 : Index := 0#32
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c4_i32_441 : BitVec 32 := 4#32
  let v1139 : BitVec 32 := Scalar.muli arg17 c4_i32_441
  let v1140 : BitVec 32 := Scalar.addi v1139 c0_i32_442
  let v1141 : Index := Scalar.indexCast v1140
  let c0_444 : Index := 0#32
  ![0, v1141.toNat, 0]
def k0_off12 (i : grid0.Coords) (k0_t2 : Fin (k0_t2_loop i).trips) : Fin 3 → Nat :=
  let c0_457 : Index := 0#32
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_436 : BitVec 32 := 1024#32
  let v1130 : BitVec 32 := Scalar.muli arg17 c1024_i32_436
  let v1131 : BitVec 32 := v1130
  let v1171 : Index := Scalar.indexCast v1131
  let c0_458 : Index := 0#32
  ![0, v1171.toNat, 0]
def k0_mult8 (i : grid0.Coords) (k0_t2 : Fin (k0_t2_loop i).trips) : BitVec 32 :=
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_460 : BitVec 32 := 1024#32
  let v1178 : BitVec 32 := Scalar.muli arg17 c1024_i32_460
  v1178
def k0_off13 (i : grid0.Coords) (k0_t2 : Fin (k0_t2_loop i).trips) (c0_i32_465 : BitVec 32) : Fin 3 → Nat :=
  let c1_466 : Index := 1#32
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c4_i32_464 : BitVec 32 := 4#32
  let v1185 : BitVec 32 := Scalar.muli arg17 c4_i32_464
  let v1186 : BitVec 32 := Scalar.addi v1185 c0_i32_465
  let v1187 : Index := Scalar.indexCast v1186
  let c0_467 : Index := 0#32
  ![1, v1187.toNat, 0]
def k0_off14 (i : grid0.Coords) (k0_t2 : Fin (k0_t2_loop i).trips) : Fin 3 → Nat :=
  let c1_480 : Index := 1#32
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_436 : BitVec 32 := 1024#32
  let v1130 : BitVec 32 := Scalar.muli arg17 c1024_i32_436
  let v1131 : BitVec 32 := v1130
  let v1217 : Index := Scalar.indexCast v1131
  let c0_481 : Index := 0#32
  ![1, v1217.toNat, 0]
def k0_mult9 (i : grid0.Coords) (k0_t2 : Fin (k0_t2_loop i).trips) : BitVec 32 :=
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_483 : BitVec 32 := 1024#32
  let v1224 : BitVec 32 := Scalar.muli arg17 c1024_i32_483
  v1224
def k0_off15 (i : grid0.Coords) (k0_t2 : Fin (k0_t2_loop i).trips) (c0_i32_488 : BitVec 32) : Fin 3 → Nat :=
  let c2_489 : Index := 2#32
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c4_i32_487 : BitVec 32 := 4#32
  let v1231 : BitVec 32 := Scalar.muli arg17 c4_i32_487
  let v1232 : BitVec 32 := Scalar.addi v1231 c0_i32_488
  let v1233 : Index := Scalar.indexCast v1232
  let c0_490 : Index := 0#32
  ![2, v1233.toNat, 0]
def k0_off16 (i : grid0.Coords) (k0_t2 : Fin (k0_t2_loop i).trips) : Fin 3 → Nat :=
  let c2_503 : Index := 2#32
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_436 : BitVec 32 := 1024#32
  let v1130 : BitVec 32 := Scalar.muli arg17 c1024_i32_436
  let v1131 : BitVec 32 := v1130
  let v1263 : Index := Scalar.indexCast v1131
  let c0_504 : Index := 0#32
  ![2, v1263.toNat, 0]
def k0_mult10 (i : grid0.Coords) (k0_t2 : Fin (k0_t2_loop i).trips) : BitVec 32 :=
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_506 : BitVec 32 := 1024#32
  let v1270 : BitVec 32 := Scalar.muli arg17 c1024_i32_506
  v1270
def k0_off17 (i : grid0.Coords) (k0_t2 : Fin (k0_t2_loop i).trips) (c0_i32_511 : BitVec 32) : Fin 3 → Nat :=
  let c3_512 : Index := 3#32
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c4_i32_510 : BitVec 32 := 4#32
  let v1277 : BitVec 32 := Scalar.muli arg17 c4_i32_510
  let v1278 : BitVec 32 := Scalar.addi v1277 c0_i32_511
  let v1279 : Index := Scalar.indexCast v1278
  let c0_513 : Index := 0#32
  ![3, v1279.toNat, 0]
def k0_off18 (i : grid0.Coords) (k0_t2 : Fin (k0_t2_loop i).trips) : Fin 3 → Nat :=
  let c3_526 : Index := 3#32
  let c0_i32_117 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v845 : BitVec 32 := Scalar.subi v840 c0_i32_117
  let c1_i32_118 : BitVec 32 := 1#32
  let v847 : BitVec 32 := Scalar.divsi v845 c1_i32_118
  let v848 : BitVec 32 := Scalar.muli v847 c1_i32_118
  let v849 : BitVec 32 := Scalar.addi c0_i32_117 v848
  let c1_i32_120 : BitVec 32 := 1#32
  let arg17 : BitVec 32 := Scf.iv v849 c1_i32_120 k0_t2
  let c1024_i32_436 : BitVec 32 := 1024#32
  let v1130 : BitVec 32 := Scalar.muli arg17 c1024_i32_436
  let v1131 : BitVec 32 := v1130
  let v1309 : Index := Scalar.indexCast v1131
  let c0_527 : Index := 0#32
  ![3, v1309.toNat, 0]
def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c0_i32_133 : BitVec 32 := 0#32
  let v872 : BitVec 1 := Scalar.cmpi .eq v3 c0_i32_133
  let v873 : BitVec 32 := Scalar.extui v872
  let c0_i32_134 : BitVec 32 := 0#32
  let v874 : BitVec 1 := Scalar.cmpi .ne v873 c0_i32_134
  v874

def k0_off19 (v1130 : BitVec 32) : Fin 5 → Nat :=
  let c0_i32_437 : BitVec 32 := 0#32
  let c0_i32_445 : BitVec 32 := 0#32
  let c0_i32_446 : BitVec 32 := 0#32
  let c0_i32_447 : BitVec 32 := 0#32
  ![0, v1130.toNat, 0, 0, 0]

def k0_chk1 (i : grid0.Coords) (v1130 : BitVec 32) : Prop :=
  (∀ (k0_h2 : k0_cond2 i = 1#1), ∀ a, (k0_off19 v1130) a + S1x1x8x64x128.size a ≤ S2x5120x8x64x128.size a)
theorem k0_off19_inb : ∀ (i : grid0.Coords) (v1130 : BitVec 32) (k0_hw1 : k0_chk1 i v1130), ∀ (k0_h2 : k0_cond2 i = 1#1), ∀ a, (k0_off19 v1130) a + S1x1x8x64x128.size a ≤ S2x5120x8x64x128.size a := fun i v1130 k0_hw1 k0_h2 => k0_hw1 k0_h2

def k0_off20 (v1137 : BitVec 32) : Fin 5 → Nat :=
  let c0_i32_449 : BitVec 32 := 0#32
  let c0_i32_457 : BitVec 32 := 0#32
  let c0_i32_458 : BitVec 32 := 0#32
  let c0_i32_459 : BitVec 32 := 0#32
  ![0, v1137.toNat, 0, 0, 0]

def k0_chk2 (i : grid0.Coords) (v1137 : BitVec 32) : Prop :=
  (∀ (k0_h2 : k0_cond2 i = 1#1), ∀ a, (k0_off20 v1137) a + S1x1x8x64x128.size a ≤ S2x5120x8x64x128.size a)
theorem k0_off20_inb : ∀ (i : grid0.Coords) (v1137 : BitVec 32) (k0_hw2 : k0_chk2 i v1137), ∀ (k0_h2 : k0_cond2 i = 1#1), ∀ a, (k0_off20 v1137) a + S1x1x8x64x128.size a ≤ S2x5120x8x64x128.size a := fun i v1137 k0_hw2 k0_h2 => k0_hw2 k0_h2

def k0_off21 (v1144 : BitVec 32) : Fin 5 → Nat :=
  let c0_i32_461 : BitVec 32 := 0#32
  let c0_i32_469 : BitVec 32 := 0#32
  let c0_i32_470 : BitVec 32 := 0#32
  let c0_i32_471 : BitVec 32 := 0#32
  ![0, v1144.toNat, 0, 0, 0]

def k0_chk3 (i : grid0.Coords) (v1144 : BitVec 32) : Prop :=
  (∀ (k0_h2 : k0_cond2 i = 1#1), ∀ a, (k0_off21 v1144) a + S1x1x8x64x128.size a ≤ S2x5120x8x64x128.size a)
theorem k0_off21_inb : ∀ (i : grid0.Coords) (v1144 : BitVec 32) (k0_hw3 : k0_chk3 i v1144), ∀ (k0_h2 : k0_cond2 i = 1#1), ∀ a, (k0_off21 v1144) a + S1x1x8x64x128.size a ≤ S2x5120x8x64x128.size a := fun i v1144 k0_hw3 k0_h2 => k0_hw3 k0_h2

def k0_off22 (v1151 : BitVec 32) : Fin 5 → Nat :=
  let c0_i32_473 : BitVec 32 := 0#32
  let c0_i32_481 : BitVec 32 := 0#32
  let c0_i32_482 : BitVec 32 := 0#32
  let c0_i32_483 : BitVec 32 := 0#32
  ![0, v1151.toNat, 0, 0, 0]

def k0_chk4 (i : grid0.Coords) (v1151 : BitVec 32) : Prop :=
  (∀ (k0_h2 : k0_cond2 i = 1#1), ∀ a, (k0_off22 v1151) a + S1x1x8x64x128.size a ≤ S2x5120x8x64x128.size a)
theorem k0_off22_inb : ∀ (i : grid0.Coords) (v1151 : BitVec 32) (k0_hw4 : k0_chk4 i v1151), ∀ (k0_h2 : k0_cond2 i = 1#1), ∀ a, (k0_off22 v1151) a + S1x1x8x64x128.size a ≤ S2x5120x8x64x128.size a := fun i v1151 k0_hw4 k0_h2 => k0_hw4 k0_h2

def k0_off23 (v1158 : BitVec 32) : Fin 5 → Nat :=
  let c0_i32_484 : BitVec 32 := 0#32
  let c0_i32_492 : BitVec 32 := 0#32
  let c0_i32_493 : BitVec 32 := 0#32
  let c0_i32_494 : BitVec 32 := 0#32
  ![0, v1158.toNat, 0, 0, 0]

def k0_chk5 (i : grid0.Coords) (v1158 : BitVec 32) : Prop :=
  (∀ (k0_h2 : k0_cond2 i = 1#1), ∀ a, (k0_off23 v1158) a + S1x1x8x64x128.size a ≤ S2x5120x8x64x128.size a)
theorem k0_off23_inb : ∀ (i : grid0.Coords) (v1158 : BitVec 32) (k0_hw5 : k0_chk5 i v1158), ∀ (k0_h2 : k0_cond2 i = 1#1), ∀ a, (k0_off23 v1158) a + S1x1x8x64x128.size a ≤ S2x5120x8x64x128.size a := fun i v1158 k0_hw5 k0_h2 => k0_hw5 k0_h2

def k0_off24 (v1165 : BitVec 32) : Fin 5 → Nat :=
  let c0_i32_495 : BitVec 32 := 0#32
  let c0_i32_503 : BitVec 32 := 0#32
  let c0_i32_504 : BitVec 32 := 0#32
  let c0_i32_505 : BitVec 32 := 0#32
  ![0, v1165.toNat, 0, 0, 0]

def k0_chk6 (i : grid0.Coords) (v1165 : BitVec 32) : Prop :=
  (∀ (k0_h2 : k0_cond2 i = 1#1), ∀ a, (k0_off24 v1165) a + S1x1x8x64x128.size a ≤ S2x5120x8x64x128.size a)
theorem k0_off24_inb : ∀ (i : grid0.Coords) (v1165 : BitVec 32) (k0_hw6 : k0_chk6 i v1165), ∀ (k0_h2 : k0_cond2 i = 1#1), ∀ a, (k0_off24 v1165) a + S1x1x8x64x128.size a ≤ S2x5120x8x64x128.size a := fun i v1165 k0_hw6 k0_h2 => k0_hw6 k0_h2

def k0_off25 (v1172 : BitVec 32) : Fin 5 → Nat :=
  let c0_i32_506 : BitVec 32 := 0#32
  let c0_i32_514 : BitVec 32 := 0#32
  let c0_i32_515 : BitVec 32 := 0#32
  let c0_i32_516 : BitVec 32 := 0#32
  ![0, v1172.toNat, 0, 0, 0]

def k0_chk7 (i : grid0.Coords) (v1172 : BitVec 32) : Prop :=
  (∀ (k0_h2 : k0_cond2 i = 1#1), ∀ a, (k0_off25 v1172) a + S1x1x8x64x128.size a ≤ S2x5120x8x64x128.size a)
theorem k0_off25_inb : ∀ (i : grid0.Coords) (v1172 : BitVec 32) (k0_hw7 : k0_chk7 i v1172), ∀ (k0_h2 : k0_cond2 i = 1#1), ∀ a, (k0_off25 v1172) a + S1x1x8x64x128.size a ≤ S2x5120x8x64x128.size a := fun i v1172 k0_hw7 k0_h2 => k0_hw7 k0_h2

def k0_off26 (v1179 : BitVec 32) : Fin 5 → Nat :=
  let c0_i32_517 : BitVec 32 := 0#32
  let c0_i32_525 : BitVec 32 := 0#32
  let c0_i32_526 : BitVec 32 := 0#32
  let c0_i32_527 : BitVec 32 := 0#32
  ![0, v1179.toNat, 0, 0, 0]

def k0_chk8 (i : grid0.Coords) (v1179 : BitVec 32) : Prop :=
  (∀ (k0_h2 : k0_cond2 i = 1#1), ∀ a, (k0_off26 v1179) a + S1x1x8x64x128.size a ≤ S2x5120x8x64x128.size a)
theorem k0_off26_inb : ∀ (i : grid0.Coords) (v1179 : BitVec 32) (k0_hw8 : k0_chk8 i v1179), ∀ (k0_h2 : k0_cond2 i = 1#1), ∀ a, (k0_off26 v1179) a + S1x1x8x64x128.size a ≤ S2x5120x8x64x128.size a := fun i v1179 k0_hw8 k0_h2 => k0_hw8 k0_h2

def k0_off27 (v1186 : BitVec 32) : Fin 5 → Nat :=
  let c0_i32_528 : BitVec 32 := 0#32
  let c0_i32_536 : BitVec 32 := 0#32
  let c0_i32_537 : BitVec 32 := 0#32
  let c0_i32_538 : BitVec 32 := 0#32
  ![0, v1186.toNat, 0, 0, 0]

def k0_chk9 (i : grid0.Coords) (v1186 : BitVec 32) : Prop :=
  (∀ (k0_h2 : k0_cond2 i = 1#1), ∀ a, (k0_off27 v1186) a + S1x1x8x64x128.size a ≤ S2x5120x8x64x128.size a)
theorem k0_off27_inb : ∀ (i : grid0.Coords) (v1186 : BitVec 32) (k0_hw9 : k0_chk9 i v1186), ∀ (k0_h2 : k0_cond2 i = 1#1), ∀ a, (k0_off27 v1186) a + S1x1x8x64x128.size a ≤ S2x5120x8x64x128.size a := fun i v1186 k0_hw9 k0_h2 => k0_hw9 k0_h2

def k0_off28 (v1193 : BitVec 32) : Fin 5 → Nat :=
  let c0_i32_539 : BitVec 32 := 0#32
  let c0_i32_547 : BitVec 32 := 0#32
  let c0_i32_548 : BitVec 32 := 0#32
  let c0_i32_549 : BitVec 32 := 0#32
  ![0, v1193.toNat, 0, 0, 0]

def k0_chk10 (i : grid0.Coords) (v1193 : BitVec 32) : Prop :=
  (∀ (k0_h2 : k0_cond2 i = 1#1), ∀ a, (k0_off28 v1193) a + S1x1x8x64x128.size a ≤ S2x5120x8x64x128.size a)
theorem k0_off28_inb : ∀ (i : grid0.Coords) (v1193 : BitVec 32) (k0_hw10 : k0_chk10 i v1193), ∀ (k0_h2 : k0_cond2 i = 1#1), ∀ a, (k0_off28 v1193) a + S1x1x8x64x128.size a ≤ S2x5120x8x64x128.size a := fun i v1193 k0_hw10 k0_h2 => k0_hw10 k0_h2

def k0_off29 (v1200 : BitVec 32) : Fin 5 → Nat :=
  let c0_i32_550 : BitVec 32 := 0#32
  let c0_i32_558 : BitVec 32 := 0#32
  let c0_i32_559 : BitVec 32 := 0#32
  let c0_i32_560 : BitVec 32 := 0#32
  ![0, v1200.toNat, 0, 0, 0]

def k0_chk11 (i : grid0.Coords) (v1200 : BitVec 32) : Prop :=
  (∀ (k0_h2 : k0_cond2 i = 1#1), ∀ a, (k0_off29 v1200) a + S1x1x8x64x128.size a ≤ S2x5120x8x64x128.size a)
theorem k0_off29_inb : ∀ (i : grid0.Coords) (v1200 : BitVec 32) (k0_hw11 : k0_chk11 i v1200), ∀ (k0_h2 : k0_cond2 i = 1#1), ∀ a, (k0_off29 v1200) a + S1x1x8x64x128.size a ≤ S2x5120x8x64x128.size a := fun i v1200 k0_hw11 k0_h2 => k0_hw11 k0_h2

def k0_off30 (v1207 : BitVec 32) : Fin 5 → Nat :=
  let c0_i32_561 : BitVec 32 := 0#32
  let c0_i32_569 : BitVec 32 := 0#32
  let c0_i32_570 : BitVec 32 := 0#32
  let c0_i32_571 : BitVec 32 := 0#32
  ![0, v1207.toNat, 0, 0, 0]

def k0_chk12 (i : grid0.Coords) (v1207 : BitVec 32) : Prop :=
  (∀ (k0_h2 : k0_cond2 i = 1#1), ∀ a, (k0_off30 v1207) a + S1x1x8x64x128.size a ≤ S2x5120x8x64x128.size a)
theorem k0_off30_inb : ∀ (i : grid0.Coords) (v1207 : BitVec 32) (k0_hw12 : k0_chk12 i v1207), ∀ (k0_h2 : k0_cond2 i = 1#1), ∀ a, (k0_off30 v1207) a + S1x1x8x64x128.size a ≤ S2x5120x8x64x128.size a := fun i v1207 k0_hw12 k0_h2 => k0_hw12 k0_h2

def k0_off31 (v1214 : BitVec 32) : Fin 5 → Nat :=
  let c0_i32_572 : BitVec 32 := 0#32
  let c0_i32_580 : BitVec 32 := 0#32
  let c0_i32_581 : BitVec 32 := 0#32
  let c0_i32_582 : BitVec 32 := 0#32
  ![0, v1214.toNat, 0, 0, 0]

def k0_chk13 (i : grid0.Coords) (v1214 : BitVec 32) : Prop :=
  (∀ (k0_h2 : k0_cond2 i = 1#1), ∀ a, (k0_off31 v1214) a + S1x1x8x64x128.size a ≤ S2x5120x8x64x128.size a)
theorem k0_off31_inb : ∀ (i : grid0.Coords) (v1214 : BitVec 32) (k0_hw13 : k0_chk13 i v1214), ∀ (k0_h2 : k0_cond2 i = 1#1), ∀ a, (k0_off31 v1214) a + S1x1x8x64x128.size a ≤ S2x5120x8x64x128.size a := fun i v1214 k0_hw13 k0_h2 => k0_hw13 k0_h2

def k0_off32 (v1221 : BitVec 32) : Fin 5 → Nat :=
  let c0_i32_583 : BitVec 32 := 0#32
  let c0_i32_591 : BitVec 32 := 0#32
  let c0_i32_592 : BitVec 32 := 0#32
  let c0_i32_593 : BitVec 32 := 0#32
  ![0, v1221.toNat, 0, 0, 0]

def k0_chk14 (i : grid0.Coords) (v1221 : BitVec 32) : Prop :=
  (∀ (k0_h2 : k0_cond2 i = 1#1), ∀ a, (k0_off32 v1221) a + S1x1x8x64x128.size a ≤ S2x5120x8x64x128.size a)
theorem k0_off32_inb : ∀ (i : grid0.Coords) (v1221 : BitVec 32) (k0_hw14 : k0_chk14 i v1221), ∀ (k0_h2 : k0_cond2 i = 1#1), ∀ a, (k0_off32 v1221) a + S1x1x8x64x128.size a ≤ S2x5120x8x64x128.size a := fun i v1221 k0_hw14 k0_h2 => k0_hw14 k0_h2

def k0_off33 (v1228 : BitVec 32) : Fin 5 → Nat :=
  let c0_i32_594 : BitVec 32 := 0#32
  let c0_i32_602 : BitVec 32 := 0#32
  let c0_i32_603 : BitVec 32 := 0#32
  let c0_i32_604 : BitVec 32 := 0#32
  ![0, v1228.toNat, 0, 0, 0]

def k0_chk15 (i : grid0.Coords) (v1228 : BitVec 32) : Prop :=
  (∀ (k0_h2 : k0_cond2 i = 1#1), ∀ a, (k0_off33 v1228) a + S1x1x8x64x128.size a ≤ S2x5120x8x64x128.size a)
theorem k0_off33_inb : ∀ (i : grid0.Coords) (v1228 : BitVec 32) (k0_hw15 : k0_chk15 i v1228), ∀ (k0_h2 : k0_cond2 i = 1#1), ∀ a, (k0_off33 v1228) a + S1x1x8x64x128.size a ≤ S2x5120x8x64x128.size a := fun i v1228 k0_hw15 k0_h2 => k0_hw15 k0_h2

def k0_off34 (v1235 : BitVec 32) : Fin 5 → Nat :=
  let c0_i32_605 : BitVec 32 := 0#32
  let c0_i32_613 : BitVec 32 := 0#32
  let c0_i32_614 : BitVec 32 := 0#32
  let c0_i32_615 : BitVec 32 := 0#32
  ![0, v1235.toNat, 0, 0, 0]

def k0_chk16 (i : grid0.Coords) (v1235 : BitVec 32) : Prop :=
  (∀ (k0_h2 : k0_cond2 i = 1#1), ∀ a, (k0_off34 v1235) a + S1x1x8x64x128.size a ≤ S2x5120x8x64x128.size a)
theorem k0_off34_inb : ∀ (i : grid0.Coords) (v1235 : BitVec 32) (k0_hw16 : k0_chk16 i v1235), ∀ (k0_h2 : k0_cond2 i = 1#1), ∀ a, (k0_off34 v1235) a + S1x1x8x64x128.size a ≤ S2x5120x8x64x128.size a := fun i v1235 k0_hw16 k0_h2 => k0_hw16 k0_h2

def k0_off35 (v1242 : BitVec 32) : Fin 5 → Nat :=
  let c0_i32_616 : BitVec 32 := 0#32
  let c0_i32_624 : BitVec 32 := 0#32
  let c0_i32_625 : BitVec 32 := 0#32
  let c0_i32_626 : BitVec 32 := 0#32
  ![0, v1242.toNat, 0, 0, 0]

def k0_chk17 (i : grid0.Coords) (v1242 : BitVec 32) : Prop :=
  (∀ (k0_h2 : k0_cond2 i = 1#1), ∀ a, (k0_off35 v1242) a + S1x1x8x64x128.size a ≤ S2x5120x8x64x128.size a)
theorem k0_off35_inb : ∀ (i : grid0.Coords) (v1242 : BitVec 32) (k0_hw17 : k0_chk17 i v1242), ∀ (k0_h2 : k0_cond2 i = 1#1), ∀ a, (k0_off35 v1242) a + S1x1x8x64x128.size a ≤ S2x5120x8x64x128.size a := fun i v1242 k0_hw17 k0_h2 => k0_hw17 k0_h2

def k0_off36 (v1249 : BitVec 32) : Fin 5 → Nat :=
  let c0_i32_627 : BitVec 32 := 0#32
  let c0_i32_635 : BitVec 32 := 0#32
  let c0_i32_636 : BitVec 32 := 0#32
  let c0_i32_637 : BitVec 32 := 0#32
  ![0, v1249.toNat, 0, 0, 0]

def k0_chk18 (i : grid0.Coords) (v1249 : BitVec 32) : Prop :=
  (∀ (k0_h2 : k0_cond2 i = 1#1), ∀ a, (k0_off36 v1249) a + S1x1x8x64x128.size a ≤ S2x5120x8x64x128.size a)
theorem k0_off36_inb : ∀ (i : grid0.Coords) (v1249 : BitVec 32) (k0_hw18 : k0_chk18 i v1249), ∀ (k0_h2 : k0_cond2 i = 1#1), ∀ a, (k0_off36 v1249) a + S1x1x8x64x128.size a ≤ S2x5120x8x64x128.size a := fun i v1249 k0_hw18 k0_h2 => k0_hw18 k0_h2

def k0_off37 (v1256 : BitVec 32) : Fin 5 → Nat :=
  let c0_i32_638 : BitVec 32 := 0#32
  let c0_i32_646 : BitVec 32 := 0#32
  let c0_i32_647 : BitVec 32 := 0#32
  let c0_i32_648 : BitVec 32 := 0#32
  ![0, v1256.toNat, 0, 0, 0]

def k0_chk19 (i : grid0.Coords) (v1256 : BitVec 32) : Prop :=
  (∀ (k0_h2 : k0_cond2 i = 1#1), ∀ a, (k0_off37 v1256) a + S1x1x8x64x128.size a ≤ S2x5120x8x64x128.size a)
theorem k0_off37_inb : ∀ (i : grid0.Coords) (v1256 : BitVec 32) (k0_hw19 : k0_chk19 i v1256), ∀ (k0_h2 : k0_cond2 i = 1#1), ∀ a, (k0_off37 v1256) a + S1x1x8x64x128.size a ≤ S2x5120x8x64x128.size a := fun i v1256 k0_hw19 k0_h2 => k0_hw19 k0_h2

def k0_off38 (v1263 : BitVec 32) : Fin 5 → Nat :=
  let c0_i32_649 : BitVec 32 := 0#32
  let c0_i32_657 : BitVec 32 := 0#32
  let c0_i32_658 : BitVec 32 := 0#32
  let c0_i32_659 : BitVec 32 := 0#32
  ![0, v1263.toNat, 0, 0, 0]

def k0_chk20 (i : grid0.Coords) (v1263 : BitVec 32) : Prop :=
  (∀ (k0_h2 : k0_cond2 i = 1#1), ∀ a, (k0_off38 v1263) a + S1x1x8x64x128.size a ≤ S2x5120x8x64x128.size a)
theorem k0_off38_inb : ∀ (i : grid0.Coords) (v1263 : BitVec 32) (k0_hw20 : k0_chk20 i v1263), ∀ (k0_h2 : k0_cond2 i = 1#1), ∀ a, (k0_off38 v1263) a + S1x1x8x64x128.size a ≤ S2x5120x8x64x128.size a := fun i v1263 k0_hw20 k0_h2 => k0_hw20 k0_h2

def k0_off39 (v1270 : BitVec 32) : Fin 5 → Nat :=
  let c0_i32_660 : BitVec 32 := 0#32
  let c0_i32_668 : BitVec 32 := 0#32
  let c0_i32_669 : BitVec 32 := 0#32
  let c0_i32_670 : BitVec 32 := 0#32
  ![0, v1270.toNat, 0, 0, 0]

def k0_chk21 (i : grid0.Coords) (v1270 : BitVec 32) : Prop :=
  (∀ (k0_h2 : k0_cond2 i = 1#1), ∀ a, (k0_off39 v1270) a + S1x1x8x64x128.size a ≤ S2x5120x8x64x128.size a)
theorem k0_off39_inb : ∀ (i : grid0.Coords) (v1270 : BitVec 32) (k0_hw21 : k0_chk21 i v1270), ∀ (k0_h2 : k0_cond2 i = 1#1), ∀ a, (k0_off39 v1270) a + S1x1x8x64x128.size a ≤ S2x5120x8x64x128.size a := fun i v1270 k0_hw21 k0_h2 => k0_hw21 k0_h2

def k0_off40 (v1277 : BitVec 32) : Fin 5 → Nat :=
  let c0_i32_671 : BitVec 32 := 0#32
  let c0_i32_679 : BitVec 32 := 0#32
  let c0_i32_680 : BitVec 32 := 0#32
  let c0_i32_681 : BitVec 32 := 0#32
  ![0, v1277.toNat, 0, 0, 0]

def k0_chk22 (i : grid0.Coords) (v1277 : BitVec 32) : Prop :=
  (∀ (k0_h2 : k0_cond2 i = 1#1), ∀ a, (k0_off40 v1277) a + S1x1x8x64x128.size a ≤ S2x5120x8x64x128.size a)
theorem k0_off40_inb : ∀ (i : grid0.Coords) (v1277 : BitVec 32) (k0_hw22 : k0_chk22 i v1277), ∀ (k0_h2 : k0_cond2 i = 1#1), ∀ a, (k0_off40 v1277) a + S1x1x8x64x128.size a ≤ S2x5120x8x64x128.size a := fun i v1277 k0_hw22 k0_h2 => k0_hw22 k0_h2

def k0_off41 (v1284 : BitVec 32) : Fin 5 → Nat :=
  let c0_i32_682 : BitVec 32 := 0#32
  let c0_i32_690 : BitVec 32 := 0#32
  let c0_i32_691 : BitVec 32 := 0#32
  let c0_i32_692 : BitVec 32 := 0#32
  ![0, v1284.toNat, 0, 0, 0]

def k0_chk23 (i : grid0.Coords) (v1284 : BitVec 32) : Prop :=
  (∀ (k0_h2 : k0_cond2 i = 1#1), ∀ a, (k0_off41 v1284) a + S1x1x8x64x128.size a ≤ S2x5120x8x64x128.size a)
theorem k0_off41_inb : ∀ (i : grid0.Coords) (v1284 : BitVec 32) (k0_hw23 : k0_chk23 i v1284), ∀ (k0_h2 : k0_cond2 i = 1#1), ∀ a, (k0_off41 v1284) a + S1x1x8x64x128.size a ≤ S2x5120x8x64x128.size a := fun i v1284 k0_hw23 k0_h2 => k0_hw23 k0_h2

def k0_off42 (v1291 : BitVec 32) : Fin 5 → Nat :=
  let c0_i32_693 : BitVec 32 := 0#32
  let c0_i32_701 : BitVec 32 := 0#32
  let c0_i32_702 : BitVec 32 := 0#32
  let c0_i32_703 : BitVec 32 := 0#32
  ![0, v1291.toNat, 0, 0, 0]

def k0_chk24 (i : grid0.Coords) (v1291 : BitVec 32) : Prop :=
  (∀ (k0_h2 : k0_cond2 i = 1#1), ∀ a, (k0_off42 v1291) a + S1x1x8x64x128.size a ≤ S2x5120x8x64x128.size a)
theorem k0_off42_inb : ∀ (i : grid0.Coords) (v1291 : BitVec 32) (k0_hw24 : k0_chk24 i v1291), ∀ (k0_h2 : k0_cond2 i = 1#1), ∀ a, (k0_off42 v1291) a + S1x1x8x64x128.size a ≤ S2x5120x8x64x128.size a := fun i v1291 k0_hw24 k0_h2 => k0_hw24 k0_h2

def k0_off43 (v1298 : BitVec 32) : Fin 5 → Nat :=
  let c0_i32_704 : BitVec 32 := 0#32
  let c0_i32_712 : BitVec 32 := 0#32
  let c0_i32_713 : BitVec 32 := 0#32
  let c0_i32_714 : BitVec 32 := 0#32
  ![0, v1298.toNat, 0, 0, 0]

def k0_chk25 (i : grid0.Coords) (v1298 : BitVec 32) : Prop :=
  (∀ (k0_h2 : k0_cond2 i = 1#1), ∀ a, (k0_off43 v1298) a + S1x1x8x64x128.size a ≤ S2x5120x8x64x128.size a)
theorem k0_off43_inb : ∀ (i : grid0.Coords) (v1298 : BitVec 32) (k0_hw25 : k0_chk25 i v1298), ∀ (k0_h2 : k0_cond2 i = 1#1), ∀ a, (k0_off43 v1298) a + S1x1x8x64x128.size a ≤ S2x5120x8x64x128.size a := fun i v1298 k0_hw25 k0_h2 => k0_hw25 k0_h2

def k0_off44 (v1305 : BitVec 32) : Fin 5 → Nat :=
  let c0_i32_715 : BitVec 32 := 0#32
  let c0_i32_723 : BitVec 32 := 0#32
  let c0_i32_724 : BitVec 32 := 0#32
  let c0_i32_725 : BitVec 32 := 0#32
  ![0, v1305.toNat, 0, 0, 0]

def k0_chk26 (i : grid0.Coords) (v1305 : BitVec 32) : Prop :=
  (∀ (k0_h2 : k0_cond2 i = 1#1), ∀ a, (k0_off44 v1305) a + S1x1x8x64x128.size a ≤ S2x5120x8x64x128.size a)
theorem k0_off44_inb : ∀ (i : grid0.Coords) (v1305 : BitVec 32) (k0_hw26 : k0_chk26 i v1305), ∀ (k0_h2 : k0_cond2 i = 1#1), ∀ a, (k0_off44 v1305) a + S1x1x8x64x128.size a ≤ S2x5120x8x64x128.size a := fun i v1305 k0_hw26 k0_h2 => k0_hw26 k0_h2

def k0_off45 (v1312 : BitVec 32) : Fin 5 → Nat :=
  let c0_i32_726 : BitVec 32 := 0#32
  let c0_i32_734 : BitVec 32 := 0#32
  let c0_i32_735 : BitVec 32 := 0#32
  let c0_i32_736 : BitVec 32 := 0#32
  ![0, v1312.toNat, 0, 0, 0]

def k0_chk27 (i : grid0.Coords) (v1312 : BitVec 32) : Prop :=
  (∀ (k0_h2 : k0_cond2 i = 1#1), ∀ a, (k0_off45 v1312) a + S1x1x8x64x128.size a ≤ S2x5120x8x64x128.size a)
theorem k0_off45_inb : ∀ (i : grid0.Coords) (v1312 : BitVec 32) (k0_hw27 : k0_chk27 i v1312), ∀ (k0_h2 : k0_cond2 i = 1#1), ∀ a, (k0_off45 v1312) a + S1x1x8x64x128.size a ≤ S2x5120x8x64x128.size a := fun i v1312 k0_hw27 k0_h2 => k0_hw27 k0_h2

def k0_off46 (v1319 : BitVec 32) : Fin 5 → Nat :=
  let c0_i32_737 : BitVec 32 := 0#32
  let c0_i32_745 : BitVec 32 := 0#32
  let c0_i32_746 : BitVec 32 := 0#32
  let c0_i32_747 : BitVec 32 := 0#32
  ![0, v1319.toNat, 0, 0, 0]

def k0_chk28 (i : grid0.Coords) (v1319 : BitVec 32) : Prop :=
  (∀ (k0_h2 : k0_cond2 i = 1#1), ∀ a, (k0_off46 v1319) a + S1x1x8x64x128.size a ≤ S2x5120x8x64x128.size a)
theorem k0_off46_inb : ∀ (i : grid0.Coords) (v1319 : BitVec 32) (k0_hw28 : k0_chk28 i v1319), ∀ (k0_h2 : k0_cond2 i = 1#1), ∀ a, (k0_off46 v1319) a + S1x1x8x64x128.size a ≤ S2x5120x8x64x128.size a := fun i v1319 k0_hw28 k0_h2 => k0_hw28 k0_h2

def k0_off47 (v1326 : BitVec 32) : Fin 5 → Nat :=
  let c0_i32_748 : BitVec 32 := 0#32
  let c0_i32_756 : BitVec 32 := 0#32
  let c0_i32_757 : BitVec 32 := 0#32
  let c0_i32_758 : BitVec 32 := 0#32
  ![0, v1326.toNat, 0, 0, 0]

def k0_chk29 (i : grid0.Coords) (v1326 : BitVec 32) : Prop :=
  (∀ (k0_h2 : k0_cond2 i = 1#1), ∀ a, (k0_off47 v1326) a + S1x1x8x64x128.size a ≤ S2x5120x8x64x128.size a)
theorem k0_off47_inb : ∀ (i : grid0.Coords) (v1326 : BitVec 32) (k0_hw29 : k0_chk29 i v1326), ∀ (k0_h2 : k0_cond2 i = 1#1), ∀ a, (k0_off47 v1326) a + S1x1x8x64x128.size a ≤ S2x5120x8x64x128.size a := fun i v1326 k0_hw29 k0_h2 => k0_hw29 k0_h2

def k0_off48 (v1333 : BitVec 32) : Fin 5 → Nat :=
  let c0_i32_759 : BitVec 32 := 0#32
  let c0_i32_767 : BitVec 32 := 0#32
  let c0_i32_768 : BitVec 32 := 0#32
  let c0_i32_769 : BitVec 32 := 0#32
  ![0, v1333.toNat, 0, 0, 0]

def k0_chk30 (i : grid0.Coords) (v1333 : BitVec 32) : Prop :=
  (∀ (k0_h2 : k0_cond2 i = 1#1), ∀ a, (k0_off48 v1333) a + S1x1x8x64x128.size a ≤ S2x5120x8x64x128.size a)
theorem k0_off48_inb : ∀ (i : grid0.Coords) (v1333 : BitVec 32) (k0_hw30 : k0_chk30 i v1333), ∀ (k0_h2 : k0_cond2 i = 1#1), ∀ a, (k0_off48 v1333) a + S1x1x8x64x128.size a ≤ S2x5120x8x64x128.size a := fun i v1333 k0_hw30 k0_h2 => k0_hw30 k0_h2

def k0_off49 (v1340 : BitVec 32) : Fin 5 → Nat :=
  let c0_i32_770 : BitVec 32 := 0#32
  let c0_i32_778 : BitVec 32 := 0#32
  let c0_i32_779 : BitVec 32 := 0#32
  let c0_i32_780 : BitVec 32 := 0#32
  ![0, v1340.toNat, 0, 0, 0]

def k0_chk31 (i : grid0.Coords) (v1340 : BitVec 32) : Prop :=
  (∀ (k0_h2 : k0_cond2 i = 1#1), ∀ a, (k0_off49 v1340) a + S1x1x8x64x128.size a ≤ S2x5120x8x64x128.size a)
theorem k0_off49_inb : ∀ (i : grid0.Coords) (v1340 : BitVec 32) (k0_hw31 : k0_chk31 i v1340), ∀ (k0_h2 : k0_cond2 i = 1#1), ∀ a, (k0_off49 v1340) a + S1x1x8x64x128.size a ≤ S2x5120x8x64x128.size a := fun i v1340 k0_hw31 k0_h2 => k0_hw31 k0_h2

def k0_off50 (v1347 : BitVec 32) : Fin 5 → Nat :=
  let c0_i32_781 : BitVec 32 := 0#32
  let c0_i32_789 : BitVec 32 := 0#32
  let c0_i32_790 : BitVec 32 := 0#32
  let c0_i32_791 : BitVec 32 := 0#32
  ![0, v1347.toNat, 0, 0, 0]

def k0_chk32 (i : grid0.Coords) (v1347 : BitVec 32) : Prop :=
  (∀ (k0_h2 : k0_cond2 i = 1#1), ∀ a, (k0_off50 v1347) a + S1x1x8x64x128.size a ≤ S2x5120x8x64x128.size a)
theorem k0_off50_inb : ∀ (i : grid0.Coords) (v1347 : BitVec 32) (k0_hw32 : k0_chk32 i v1347), ∀ (k0_h2 : k0_cond2 i = 1#1), ∀ a, (k0_off50 v1347) a + S1x1x8x64x128.size a ≤ S2x5120x8x64x128.size a := fun i v1347 k0_hw32 k0_h2 => k0_hw32 k0_h2

def k0_cond3 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_135 : BitVec 32 := 1#32
  let v875 : BitVec 32 := Scalar.addi v3 c1_i32_135
  let c128_i32_136 : BitVec 32 := 128#32
  let v876 : BitVec 1 := Scalar.cmpi .slt v875 c128_i32_136
  let v877 : BitVec 32 := Scalar.extui v876
  let c0_i32_137 : BitVec 32 := 0#32
  let v878 : BitVec 1 := Scalar.cmpi .ne v877 c0_i32_137
  v878

def k0_off51 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32 : BitVec 32 := 32#32
  let v1132 : BitVec 32 := Scalar.muli v1130 c32_i32
  let c0_i32_438 : BitVec 32 := 0#32
  let v1133 : BitVec 32 := Scalar.addi v1132 c0_i32_438
  let v1134 : Index := Scalar.indexCast v1133
  ![v1134.toNat]
def k0_off52 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c0_i32_441 : BitVec 32 := 0#32
  ![v1131.toNat, 0]
def k0_off53 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c0_i32_440 : BitVec 32 := 0#32
  let c0_i32_442 : BitVec 32 := 0#32
  let c0_i32_443 : BitVec 32 := 0#32
  let c0_i32_444 : BitVec 32 := 0#32
  ![v1131.toNat, 0, 0, 0, 0]
def k0_off54 (v1135 : BitVec 32) : Fin 5 → Nat :=
  let c0_i32_439 : BitVec 32 := 0#32
  let c0_i32_445 : BitVec 32 := 0#32
  let c0_i32_446 : BitVec 32 := 0#32
  let c0_i32_447 : BitVec 32 := 0#32
  ![0, v1135.toNat, 0, 0, 0]

def k0_chk33 (i : grid0.Coords) (v1135 : BitVec 32) : Prop :=
  (∀ (k0_h3 : k0_cond3 i = 1#1), ∀ a, (k0_off54 v1135) a + S1x1x8x64x128.size a ≤ S2x5120x8x64x128.size a)
theorem k0_off54_inb : ∀ (i : grid0.Coords) (v1135 : BitVec 32) (k0_hw33 : k0_chk33 i v1135), ∀ (k0_h3 : k0_cond3 i = 1#1), ∀ a, (k0_off54 v1135) a + S1x1x8x64x128.size a ≤ S2x5120x8x64x128.size a := fun i v1135 k0_hw33 k0_h3 => k0_hw33 k0_h3

def k0_off55 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_448 : BitVec 32 := 32#32
  let v1142 : BitVec 32 := Scalar.muli v1130 c32_i32_448
  let c1_i32_449 : BitVec 32 := 1#32
  let v1143 : BitVec 32 := Scalar.addi v1142 c1_i32_449
  let v1144 : Index := Scalar.indexCast v1143
  ![v1144.toNat]
def k0_off56 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c1_i32_452 : BitVec 32 := 1#32
  ![v1131.toNat, 1]
def k0_off57 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c1_i32_451 : BitVec 32 := 1#32
  let c0_i32_453 : BitVec 32 := 0#32
  let c0_i32_454 : BitVec 32 := 0#32
  let c0_i32_455 : BitVec 32 := 0#32
  ![v1131.toNat, 1, 0, 0, 0]
def k0_off58 (v1145 : BitVec 32) : Fin 5 → Nat :=
  let c0_i32_450 : BitVec 32 := 0#32
  let c0_i32_456 : BitVec 32 := 0#32
  let c0_i32_457 : BitVec 32 := 0#32
  let c0_i32_458 : BitVec 32 := 0#32
  ![0, v1145.toNat, 0, 0, 0]

def k0_chk34 (i : grid0.Coords) (v1145 : BitVec 32) : Prop :=
  (∀ (k0_h3 : k0_cond3 i = 1#1), ∀ a, (k0_off58 v1145) a + S1x1x8x64x128.size a ≤ S2x5120x8x64x128.size a)
theorem k0_off58_inb : ∀ (i : grid0.Coords) (v1145 : BitVec 32) (k0_hw34 : k0_chk34 i v1145), ∀ (k0_h3 : k0_cond3 i = 1#1), ∀ a, (k0_off58 v1145) a + S1x1x8x64x128.size a ≤ S2x5120x8x64x128.size a := fun i v1145 k0_hw34 k0_h3 => k0_hw34 k0_h3

def k0_off59 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_459 : BitVec 32 := 32#32
  let v1152 : BitVec 32 := Scalar.muli v1130 c32_i32_459
  let c2_i32_460 : BitVec 32 := 2#32
  let v1153 : BitVec 32 := Scalar.addi v1152 c2_i32_460
  let v1154 : Index := Scalar.indexCast v1153
  ![v1154.toNat]
def k0_off60 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c2_i32_463 : BitVec 32 := 2#32
  ![v1131.toNat, 2]
def k0_off61 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c2_i32_462 : BitVec 32 := 2#32
  let c0_i32_464 : BitVec 32 := 0#32
  let c0_i32_465 : BitVec 32 := 0#32
  let c0_i32_466 : BitVec 32 := 0#32
  ![v1131.toNat, 2, 0, 0, 0]
def k0_off62 (v1155 : BitVec 32) : Fin 5 → Nat :=
  let c0_i32_461 : BitVec 32 := 0#32
  let c0_i32_467 : BitVec 32 := 0#32
  let c0_i32_468 : BitVec 32 := 0#32
  let c0_i32_469 : BitVec 32 := 0#32
  ![0, v1155.toNat, 0, 0, 0]

def k0_chk35 (i : grid0.Coords) (v1155 : BitVec 32) : Prop :=
  (∀ (k0_h3 : k0_cond3 i = 1#1), ∀ a, (k0_off62 v1155) a + S1x1x8x64x128.size a ≤ S2x5120x8x64x128.size a)
theorem k0_off62_inb : ∀ (i : grid0.Coords) (v1155 : BitVec 32) (k0_hw35 : k0_chk35 i v1155), ∀ (k0_h3 : k0_cond3 i = 1#1), ∀ a, (k0_off62 v1155) a + S1x1x8x64x128.size a ≤ S2x5120x8x64x128.size a := fun i v1155 k0_hw35 k0_h3 => k0_hw35 k0_h3

def k0_off63 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_470 : BitVec 32 := 32#32
  let v1162 : BitVec 32 := Scalar.muli v1130 c32_i32_470
  let c3_i32_471 : BitVec 32 := 3#32
  let v1163 : BitVec 32 := Scalar.addi v1162 c3_i32_471
  let v1164 : Index := Scalar.indexCast v1163
  ![v1164.toNat]
def k0_off64 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c3_i32_474 : BitVec 32 := 3#32
  ![v1131.toNat, 3]
def k0_off65 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c3_i32_473 : BitVec 32 := 3#32
  let c0_i32_475 : BitVec 32 := 0#32
  let c0_i32_476 : BitVec 32 := 0#32
  let c0_i32_477 : BitVec 32 := 0#32
  ![v1131.toNat, 3, 0, 0, 0]
def k0_off66 (v1165 : BitVec 32) : Fin 5 → Nat :=
  let c0_i32_472 : BitVec 32 := 0#32
  let c0_i32_478 : BitVec 32 := 0#32
  let c0_i32_479 : BitVec 32 := 0#32
  let c0_i32_480 : BitVec 32 := 0#32
  ![0, v1165.toNat, 0, 0, 0]

def k0_chk36 (i : grid0.Coords) (v1165 : BitVec 32) : Prop :=
  (∀ (k0_h3 : k0_cond3 i = 1#1), ∀ a, (k0_off66 v1165) a + S1x1x8x64x128.size a ≤ S2x5120x8x64x128.size a)
theorem k0_off66_inb : ∀ (i : grid0.Coords) (v1165 : BitVec 32) (k0_hw36 : k0_chk36 i v1165), ∀ (k0_h3 : k0_cond3 i = 1#1), ∀ a, (k0_off66 v1165) a + S1x1x8x64x128.size a ≤ S2x5120x8x64x128.size a := fun i v1165 k0_hw36 k0_h3 => k0_hw36 k0_h3

def k0_off67 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_481 : BitVec 32 := 32#32
  let v1172 : BitVec 32 := Scalar.muli v1130 c32_i32_481
  let c4_i32_482 : BitVec 32 := 4#32
  let v1173 : BitVec 32 := Scalar.addi v1172 c4_i32_482
  let v1174 : Index := Scalar.indexCast v1173
  ![v1174.toNat]
def k0_off68 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c4_i32_485 : BitVec 32 := 4#32
  ![v1131.toNat, 4]
def k0_off69 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c4_i32_484 : BitVec 32 := 4#32
  let c0_i32_486 : BitVec 32 := 0#32
  let c0_i32_487 : BitVec 32 := 0#32
  let c0_i32_488 : BitVec 32 := 0#32
  ![v1131.toNat, 4, 0, 0, 0]
def k0_off70 (v1175 : BitVec 32) : Fin 5 → Nat :=
  let c0_i32_483 : BitVec 32 := 0#32
  let c0_i32_489 : BitVec 32 := 0#32
  let c0_i32_490 : BitVec 32 := 0#32
  let c0_i32_491 : BitVec 32 := 0#32
  ![0, v1175.toNat, 0, 0, 0]

def k0_chk37 (i : grid0.Coords) (v1175 : BitVec 32) : Prop :=
  (∀ (k0_h3 : k0_cond3 i = 1#1), ∀ a, (k0_off70 v1175) a + S1x1x8x64x128.size a ≤ S2x5120x8x64x128.size a)
theorem k0_off70_inb : ∀ (i : grid0.Coords) (v1175 : BitVec 32) (k0_hw37 : k0_chk37 i v1175), ∀ (k0_h3 : k0_cond3 i = 1#1), ∀ a, (k0_off70 v1175) a + S1x1x8x64x128.size a ≤ S2x5120x8x64x128.size a := fun i v1175 k0_hw37 k0_h3 => k0_hw37 k0_h3

def k0_off71 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_492 : BitVec 32 := 32#32
  let v1182 : BitVec 32 := Scalar.muli v1130 c32_i32_492
  let c5_i32_493 : BitVec 32 := 5#32
  let v1183 : BitVec 32 := Scalar.addi v1182 c5_i32_493
  let v1184 : Index := Scalar.indexCast v1183
  ![v1184.toNat]
def k0_off72 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c5_i32_496 : BitVec 32 := 5#32
  ![v1131.toNat, 5]
def k0_off73 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c5_i32_495 : BitVec 32 := 5#32
  let c0_i32_497 : BitVec 32 := 0#32
  let c0_i32_498 : BitVec 32 := 0#32
  let c0_i32_499 : BitVec 32 := 0#32
  ![v1131.toNat, 5, 0, 0, 0]
def k0_off74 (v1185 : BitVec 32) : Fin 5 → Nat :=
  let c0_i32_494 : BitVec 32 := 0#32
  let c0_i32_500 : BitVec 32 := 0#32
  let c0_i32_501 : BitVec 32 := 0#32
  let c0_i32_502 : BitVec 32 := 0#32
  ![0, v1185.toNat, 0, 0, 0]

def k0_chk38 (i : grid0.Coords) (v1185 : BitVec 32) : Prop :=
  (∀ (k0_h3 : k0_cond3 i = 1#1), ∀ a, (k0_off74 v1185) a + S1x1x8x64x128.size a ≤ S2x5120x8x64x128.size a)
theorem k0_off74_inb : ∀ (i : grid0.Coords) (v1185 : BitVec 32) (k0_hw38 : k0_chk38 i v1185), ∀ (k0_h3 : k0_cond3 i = 1#1), ∀ a, (k0_off74 v1185) a + S1x1x8x64x128.size a ≤ S2x5120x8x64x128.size a := fun i v1185 k0_hw38 k0_h3 => k0_hw38 k0_h3

def k0_off75 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_503 : BitVec 32 := 32#32
  let v1192 : BitVec 32 := Scalar.muli v1130 c32_i32_503
  let c6_i32_504 : BitVec 32 := 6#32
  let v1193 : BitVec 32 := Scalar.addi v1192 c6_i32_504
  let v1194 : Index := Scalar.indexCast v1193
  ![v1194.toNat]
def k0_off76 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c6_i32_507 : BitVec 32 := 6#32
  ![v1131.toNat, 6]
def k0_off77 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c6_i32_506 : BitVec 32 := 6#32
  let c0_i32_508 : BitVec 32 := 0#32
  let c0_i32_509 : BitVec 32 := 0#32
  let c0_i32_510 : BitVec 32 := 0#32
  ![v1131.toNat, 6, 0, 0, 0]
def k0_off78 (v1195 : BitVec 32) : Fin 5 → Nat :=
  let c0_i32_505 : BitVec 32 := 0#32
  let c0_i32_511 : BitVec 32 := 0#32
  let c0_i32_512 : BitVec 32 := 0#32
  let c0_i32_513 : BitVec 32 := 0#32
  ![0, v1195.toNat, 0, 0, 0]

def k0_chk39 (i : grid0.Coords) (v1195 : BitVec 32) : Prop :=
  (∀ (k0_h3 : k0_cond3 i = 1#1), ∀ a, (k0_off78 v1195) a + S1x1x8x64x128.size a ≤ S2x5120x8x64x128.size a)
theorem k0_off78_inb : ∀ (i : grid0.Coords) (v1195 : BitVec 32) (k0_hw39 : k0_chk39 i v1195), ∀ (k0_h3 : k0_cond3 i = 1#1), ∀ a, (k0_off78 v1195) a + S1x1x8x64x128.size a ≤ S2x5120x8x64x128.size a := fun i v1195 k0_hw39 k0_h3 => k0_hw39 k0_h3

def k0_off79 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_514 : BitVec 32 := 32#32
  let v1202 : BitVec 32 := Scalar.muli v1130 c32_i32_514
  let c7_i32_515 : BitVec 32 := 7#32
  let v1203 : BitVec 32 := Scalar.addi v1202 c7_i32_515
  let v1204 : Index := Scalar.indexCast v1203
  ![v1204.toNat]
def k0_off80 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c7_i32_518 : BitVec 32 := 7#32
  ![v1131.toNat, 7]
def k0_off81 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c7_i32_517 : BitVec 32 := 7#32
  let c0_i32_519 : BitVec 32 := 0#32
  let c0_i32_520 : BitVec 32 := 0#32
  let c0_i32_521 : BitVec 32 := 0#32
  ![v1131.toNat, 7, 0, 0, 0]
def k0_off82 (v1205 : BitVec 32) : Fin 5 → Nat :=
  let c0_i32_516 : BitVec 32 := 0#32
  let c0_i32_522 : BitVec 32 := 0#32
  let c0_i32_523 : BitVec 32 := 0#32
  let c0_i32_524 : BitVec 32 := 0#32
  ![0, v1205.toNat, 0, 0, 0]

def k0_chk40 (i : grid0.Coords) (v1205 : BitVec 32) : Prop :=
  (∀ (k0_h3 : k0_cond3 i = 1#1), ∀ a, (k0_off82 v1205) a + S1x1x8x64x128.size a ≤ S2x5120x8x64x128.size a)
theorem k0_off82_inb : ∀ (i : grid0.Coords) (v1205 : BitVec 32) (k0_hw40 : k0_chk40 i v1205), ∀ (k0_h3 : k0_cond3 i = 1#1), ∀ a, (k0_off82 v1205) a + S1x1x8x64x128.size a ≤ S2x5120x8x64x128.size a := fun i v1205 k0_hw40 k0_h3 => k0_hw40 k0_h3

def k0_off83 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_525 : BitVec 32 := 32#32
  let v1212 : BitVec 32 := Scalar.muli v1130 c32_i32_525
  let c8_i32_526 : BitVec 32 := 8#32
  let v1213 : BitVec 32 := Scalar.addi v1212 c8_i32_526
  let v1214 : Index := Scalar.indexCast v1213
  ![v1214.toNat]
def k0_off84 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c8_i32_529 : BitVec 32 := 8#32
  ![v1131.toNat, 8]
def k0_off85 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c8_i32_528 : BitVec 32 := 8#32
  let c0_i32_530 : BitVec 32 := 0#32
  let c0_i32_531 : BitVec 32 := 0#32
  let c0_i32_532 : BitVec 32 := 0#32
  ![v1131.toNat, 8, 0, 0, 0]
def k0_off86 (v1215 : BitVec 32) : Fin 5 → Nat :=
  let c0_i32_527 : BitVec 32 := 0#32
  let c0_i32_533 : BitVec 32 := 0#32
  let c0_i32_534 : BitVec 32 := 0#32
  let c0_i32_535 : BitVec 32 := 0#32
  ![0, v1215.toNat, 0, 0, 0]

def k0_chk41 (i : grid0.Coords) (v1215 : BitVec 32) : Prop :=
  (∀ (k0_h3 : k0_cond3 i = 1#1), ∀ a, (k0_off86 v1215) a + S1x1x8x64x128.size a ≤ S2x5120x8x64x128.size a)
theorem k0_off86_inb : ∀ (i : grid0.Coords) (v1215 : BitVec 32) (k0_hw41 : k0_chk41 i v1215), ∀ (k0_h3 : k0_cond3 i = 1#1), ∀ a, (k0_off86 v1215) a + S1x1x8x64x128.size a ≤ S2x5120x8x64x128.size a := fun i v1215 k0_hw41 k0_h3 => k0_hw41 k0_h3

def k0_off87 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_536 : BitVec 32 := 32#32
  let v1222 : BitVec 32 := Scalar.muli v1130 c32_i32_536
  let c9_i32_537 : BitVec 32 := 9#32
  let v1223 : BitVec 32 := Scalar.addi v1222 c9_i32_537
  let v1224 : Index := Scalar.indexCast v1223
  ![v1224.toNat]
def k0_off88 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c9_i32_540 : BitVec 32 := 9#32
  ![v1131.toNat, 9]
def k0_off89 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c9_i32_539 : BitVec 32 := 9#32
  let c0_i32_541 : BitVec 32 := 0#32
  let c0_i32_542 : BitVec 32 := 0#32
  let c0_i32_543 : BitVec 32 := 0#32
  ![v1131.toNat, 9, 0, 0, 0]
def k0_off90 (v1225 : BitVec 32) : Fin 5 → Nat :=
  let c0_i32_538 : BitVec 32 := 0#32
  let c0_i32_544 : BitVec 32 := 0#32
  let c0_i32_545 : BitVec 32 := 0#32
  let c0_i32_546 : BitVec 32 := 0#32
  ![0, v1225.toNat, 0, 0, 0]

def k0_chk42 (i : grid0.Coords) (v1225 : BitVec 32) : Prop :=
  (∀ (k0_h3 : k0_cond3 i = 1#1), ∀ a, (k0_off90 v1225) a + S1x1x8x64x128.size a ≤ S2x5120x8x64x128.size a)
theorem k0_off90_inb : ∀ (i : grid0.Coords) (v1225 : BitVec 32) (k0_hw42 : k0_chk42 i v1225), ∀ (k0_h3 : k0_cond3 i = 1#1), ∀ a, (k0_off90 v1225) a + S1x1x8x64x128.size a ≤ S2x5120x8x64x128.size a := fun i v1225 k0_hw42 k0_h3 => k0_hw42 k0_h3

def k0_off91 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_547 : BitVec 32 := 32#32
  let v1232 : BitVec 32 := Scalar.muli v1130 c32_i32_547
  let c10_i32_548 : BitVec 32 := 10#32
  let v1233 : BitVec 32 := Scalar.addi v1232 c10_i32_548
  let v1234 : Index := Scalar.indexCast v1233
  ![v1234.toNat]
def k0_off92 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c10_i32_551 : BitVec 32 := 10#32
  ![v1131.toNat, 10]
def k0_off93 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c10_i32_550 : BitVec 32 := 10#32
  let c0_i32_552 : BitVec 32 := 0#32
  let c0_i32_553 : BitVec 32 := 0#32
  let c0_i32_554 : BitVec 32 := 0#32
  ![v1131.toNat, 10, 0, 0, 0]
def k0_off94 (v1235 : BitVec 32) : Fin 5 → Nat :=
  let c0_i32_549 : BitVec 32 := 0#32
  let c0_i32_555 : BitVec 32 := 0#32
  let c0_i32_556 : BitVec 32 := 0#32
  let c0_i32_557 : BitVec 32 := 0#32
  ![0, v1235.toNat, 0, 0, 0]

def k0_chk43 (i : grid0.Coords) (v1235 : BitVec 32) : Prop :=
  (∀ (k0_h3 : k0_cond3 i = 1#1), ∀ a, (k0_off94 v1235) a + S1x1x8x64x128.size a ≤ S2x5120x8x64x128.size a)
theorem k0_off94_inb : ∀ (i : grid0.Coords) (v1235 : BitVec 32) (k0_hw43 : k0_chk43 i v1235), ∀ (k0_h3 : k0_cond3 i = 1#1), ∀ a, (k0_off94 v1235) a + S1x1x8x64x128.size a ≤ S2x5120x8x64x128.size a := fun i v1235 k0_hw43 k0_h3 => k0_hw43 k0_h3

def k0_off95 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_558 : BitVec 32 := 32#32
  let v1242 : BitVec 32 := Scalar.muli v1130 c32_i32_558
  let c11_i32_559 : BitVec 32 := 11#32
  let v1243 : BitVec 32 := Scalar.addi v1242 c11_i32_559
  let v1244 : Index := Scalar.indexCast v1243
  ![v1244.toNat]
def k0_off96 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c11_i32_562 : BitVec 32 := 11#32
  ![v1131.toNat, 11]
def k0_off97 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c11_i32_561 : BitVec 32 := 11#32
  let c0_i32_563 : BitVec 32 := 0#32
  let c0_i32_564 : BitVec 32 := 0#32
  let c0_i32_565 : BitVec 32 := 0#32
  ![v1131.toNat, 11, 0, 0, 0]
def k0_off98 (v1245 : BitVec 32) : Fin 5 → Nat :=
  let c0_i32_560 : BitVec 32 := 0#32
  let c0_i32_566 : BitVec 32 := 0#32
  let c0_i32_567 : BitVec 32 := 0#32
  let c0_i32_568 : BitVec 32 := 0#32
  ![0, v1245.toNat, 0, 0, 0]

def k0_chk44 (i : grid0.Coords) (v1245 : BitVec 32) : Prop :=
  (∀ (k0_h3 : k0_cond3 i = 1#1), ∀ a, (k0_off98 v1245) a + S1x1x8x64x128.size a ≤ S2x5120x8x64x128.size a)
theorem k0_off98_inb : ∀ (i : grid0.Coords) (v1245 : BitVec 32) (k0_hw44 : k0_chk44 i v1245), ∀ (k0_h3 : k0_cond3 i = 1#1), ∀ a, (k0_off98 v1245) a + S1x1x8x64x128.size a ≤ S2x5120x8x64x128.size a := fun i v1245 k0_hw44 k0_h3 => k0_hw44 k0_h3

def k0_off99 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_569 : BitVec 32 := 32#32
  let v1252 : BitVec 32 := Scalar.muli v1130 c32_i32_569
  let c12_i32_570 : BitVec 32 := 12#32
  let v1253 : BitVec 32 := Scalar.addi v1252 c12_i32_570
  let v1254 : Index := Scalar.indexCast v1253
  ![v1254.toNat]
def k0_off100 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c12_i32_573 : BitVec 32 := 12#32
  ![v1131.toNat, 12]
def k0_off101 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c12_i32_572 : BitVec 32 := 12#32
  let c0_i32_574 : BitVec 32 := 0#32
  let c0_i32_575 : BitVec 32 := 0#32
  let c0_i32_576 : BitVec 32 := 0#32
  ![v1131.toNat, 12, 0, 0, 0]
def k0_off102 (v1255 : BitVec 32) : Fin 5 → Nat :=
  let c0_i32_571 : BitVec 32 := 0#32
  let c0_i32_577 : BitVec 32 := 0#32
  let c0_i32_578 : BitVec 32 := 0#32
  let c0_i32_579 : BitVec 32 := 0#32
  ![0, v1255.toNat, 0, 0, 0]

def k0_chk45 (i : grid0.Coords) (v1255 : BitVec 32) : Prop :=
  (∀ (k0_h3 : k0_cond3 i = 1#1), ∀ a, (k0_off102 v1255) a + S1x1x8x64x128.size a ≤ S2x5120x8x64x128.size a)
theorem k0_off102_inb : ∀ (i : grid0.Coords) (v1255 : BitVec 32) (k0_hw45 : k0_chk45 i v1255), ∀ (k0_h3 : k0_cond3 i = 1#1), ∀ a, (k0_off102 v1255) a + S1x1x8x64x128.size a ≤ S2x5120x8x64x128.size a := fun i v1255 k0_hw45 k0_h3 => k0_hw45 k0_h3

def k0_off103 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_580 : BitVec 32 := 32#32
  let v1262 : BitVec 32 := Scalar.muli v1130 c32_i32_580
  let c13_i32_581 : BitVec 32 := 13#32
  let v1263 : BitVec 32 := Scalar.addi v1262 c13_i32_581
  let v1264 : Index := Scalar.indexCast v1263
  ![v1264.toNat]
def k0_off104 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c13_i32_584 : BitVec 32 := 13#32
  ![v1131.toNat, 13]
def k0_off105 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c13_i32_583 : BitVec 32 := 13#32
  let c0_i32_585 : BitVec 32 := 0#32
  let c0_i32_586 : BitVec 32 := 0#32
  let c0_i32_587 : BitVec 32 := 0#32
  ![v1131.toNat, 13, 0, 0, 0]
def k0_off106 (v1265 : BitVec 32) : Fin 5 → Nat :=
  let c0_i32_582 : BitVec 32 := 0#32
  let c0_i32_588 : BitVec 32 := 0#32
  let c0_i32_589 : BitVec 32 := 0#32
  let c0_i32_590 : BitVec 32 := 0#32
  ![0, v1265.toNat, 0, 0, 0]

def k0_chk46 (i : grid0.Coords) (v1265 : BitVec 32) : Prop :=
  (∀ (k0_h3 : k0_cond3 i = 1#1), ∀ a, (k0_off106 v1265) a + S1x1x8x64x128.size a ≤ S2x5120x8x64x128.size a)
theorem k0_off106_inb : ∀ (i : grid0.Coords) (v1265 : BitVec 32) (k0_hw46 : k0_chk46 i v1265), ∀ (k0_h3 : k0_cond3 i = 1#1), ∀ a, (k0_off106 v1265) a + S1x1x8x64x128.size a ≤ S2x5120x8x64x128.size a := fun i v1265 k0_hw46 k0_h3 => k0_hw46 k0_h3

def k0_off107 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_591 : BitVec 32 := 32#32
  let v1272 : BitVec 32 := Scalar.muli v1130 c32_i32_591
  let c14_i32_592 : BitVec 32 := 14#32
  let v1273 : BitVec 32 := Scalar.addi v1272 c14_i32_592
  let v1274 : Index := Scalar.indexCast v1273
  ![v1274.toNat]
def k0_off108 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c14_i32_595 : BitVec 32 := 14#32
  ![v1131.toNat, 14]
def k0_off109 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c14_i32_594 : BitVec 32 := 14#32
  let c0_i32_596 : BitVec 32 := 0#32
  let c0_i32_597 : BitVec 32 := 0#32
  let c0_i32_598 : BitVec 32 := 0#32
  ![v1131.toNat, 14, 0, 0, 0]
def k0_off110 (v1275 : BitVec 32) : Fin 5 → Nat :=
  let c0_i32_593 : BitVec 32 := 0#32
  let c0_i32_599 : BitVec 32 := 0#32
  let c0_i32_600 : BitVec 32 := 0#32
  let c0_i32_601 : BitVec 32 := 0#32
  ![0, v1275.toNat, 0, 0, 0]

def k0_chk47 (i : grid0.Coords) (v1275 : BitVec 32) : Prop :=
  (∀ (k0_h3 : k0_cond3 i = 1#1), ∀ a, (k0_off110 v1275) a + S1x1x8x64x128.size a ≤ S2x5120x8x64x128.size a)
theorem k0_off110_inb : ∀ (i : grid0.Coords) (v1275 : BitVec 32) (k0_hw47 : k0_chk47 i v1275), ∀ (k0_h3 : k0_cond3 i = 1#1), ∀ a, (k0_off110 v1275) a + S1x1x8x64x128.size a ≤ S2x5120x8x64x128.size a := fun i v1275 k0_hw47 k0_h3 => k0_hw47 k0_h3

def k0_off111 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_602 : BitVec 32 := 32#32
  let v1282 : BitVec 32 := Scalar.muli v1130 c32_i32_602
  let c15_i32_603 : BitVec 32 := 15#32
  let v1283 : BitVec 32 := Scalar.addi v1282 c15_i32_603
  let v1284 : Index := Scalar.indexCast v1283
  ![v1284.toNat]
def k0_off112 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c15_i32_606 : BitVec 32 := 15#32
  ![v1131.toNat, 15]
def k0_off113 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c15_i32_605 : BitVec 32 := 15#32
  let c0_i32_607 : BitVec 32 := 0#32
  let c0_i32_608 : BitVec 32 := 0#32
  let c0_i32_609 : BitVec 32 := 0#32
  ![v1131.toNat, 15, 0, 0, 0]
def k0_off114 (v1285 : BitVec 32) : Fin 5 → Nat :=
  let c0_i32_604 : BitVec 32 := 0#32
  let c0_i32_610 : BitVec 32 := 0#32
  let c0_i32_611 : BitVec 32 := 0#32
  let c0_i32_612 : BitVec 32 := 0#32
  ![0, v1285.toNat, 0, 0, 0]

def k0_chk48 (i : grid0.Coords) (v1285 : BitVec 32) : Prop :=
  (∀ (k0_h3 : k0_cond3 i = 1#1), ∀ a, (k0_off114 v1285) a + S1x1x8x64x128.size a ≤ S2x5120x8x64x128.size a)
theorem k0_off114_inb : ∀ (i : grid0.Coords) (v1285 : BitVec 32) (k0_hw48 : k0_chk48 i v1285), ∀ (k0_h3 : k0_cond3 i = 1#1), ∀ a, (k0_off114 v1285) a + S1x1x8x64x128.size a ≤ S2x5120x8x64x128.size a := fun i v1285 k0_hw48 k0_h3 => k0_hw48 k0_h3

def k0_off115 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_613 : BitVec 32 := 32#32
  let v1292 : BitVec 32 := Scalar.muli v1130 c32_i32_613
  let c16_i32_614 : BitVec 32 := 16#32
  let v1293 : BitVec 32 := Scalar.addi v1292 c16_i32_614
  let v1294 : Index := Scalar.indexCast v1293
  ![v1294.toNat]
def k0_off116 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c16_i32_617 : BitVec 32 := 16#32
  ![v1131.toNat, 16]
def k0_off117 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c16_i32_616 : BitVec 32 := 16#32
  let c0_i32_618 : BitVec 32 := 0#32
  let c0_i32_619 : BitVec 32 := 0#32
  let c0_i32_620 : BitVec 32 := 0#32
  ![v1131.toNat, 16, 0, 0, 0]
def k0_off118 (v1295 : BitVec 32) : Fin 5 → Nat :=
  let c0_i32_615 : BitVec 32 := 0#32
  let c0_i32_621 : BitVec 32 := 0#32
  let c0_i32_622 : BitVec 32 := 0#32
  let c0_i32_623 : BitVec 32 := 0#32
  ![0, v1295.toNat, 0, 0, 0]

def k0_chk49 (i : grid0.Coords) (v1295 : BitVec 32) : Prop :=
  (∀ (k0_h3 : k0_cond3 i = 1#1), ∀ a, (k0_off118 v1295) a + S1x1x8x64x128.size a ≤ S2x5120x8x64x128.size a)
theorem k0_off118_inb : ∀ (i : grid0.Coords) (v1295 : BitVec 32) (k0_hw49 : k0_chk49 i v1295), ∀ (k0_h3 : k0_cond3 i = 1#1), ∀ a, (k0_off118 v1295) a + S1x1x8x64x128.size a ≤ S2x5120x8x64x128.size a := fun i v1295 k0_hw49 k0_h3 => k0_hw49 k0_h3

def k0_off119 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_624 : BitVec 32 := 32#32
  let v1302 : BitVec 32 := Scalar.muli v1130 c32_i32_624
  let c17_i32_625 : BitVec 32 := 17#32
  let v1303 : BitVec 32 := Scalar.addi v1302 c17_i32_625
  let v1304 : Index := Scalar.indexCast v1303
  ![v1304.toNat]
def k0_off120 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c17_i32_628 : BitVec 32 := 17#32
  ![v1131.toNat, 17]
def k0_off121 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c17_i32_627 : BitVec 32 := 17#32
  let c0_i32_629 : BitVec 32 := 0#32
  let c0_i32_630 : BitVec 32 := 0#32
  let c0_i32_631 : BitVec 32 := 0#32
  ![v1131.toNat, 17, 0, 0, 0]
def k0_off122 (v1305 : BitVec 32) : Fin 5 → Nat :=
  let c0_i32_626 : BitVec 32 := 0#32
  let c0_i32_632 : BitVec 32 := 0#32
  let c0_i32_633 : BitVec 32 := 0#32
  let c0_i32_634 : BitVec 32 := 0#32
  ![0, v1305.toNat, 0, 0, 0]

def k0_chk50 (i : grid0.Coords) (v1305 : BitVec 32) : Prop :=
  (∀ (k0_h3 : k0_cond3 i = 1#1), ∀ a, (k0_off122 v1305) a + S1x1x8x64x128.size a ≤ S2x5120x8x64x128.size a)
theorem k0_off122_inb : ∀ (i : grid0.Coords) (v1305 : BitVec 32) (k0_hw50 : k0_chk50 i v1305), ∀ (k0_h3 : k0_cond3 i = 1#1), ∀ a, (k0_off122 v1305) a + S1x1x8x64x128.size a ≤ S2x5120x8x64x128.size a := fun i v1305 k0_hw50 k0_h3 => k0_hw50 k0_h3

def k0_off123 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_635 : BitVec 32 := 32#32
  let v1312 : BitVec 32 := Scalar.muli v1130 c32_i32_635
  let c18_i32_636 : BitVec 32 := 18#32
  let v1313 : BitVec 32 := Scalar.addi v1312 c18_i32_636
  let v1314 : Index := Scalar.indexCast v1313
  ![v1314.toNat]
def k0_off124 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c18_i32_639 : BitVec 32 := 18#32
  ![v1131.toNat, 18]
def k0_off125 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c18_i32_638 : BitVec 32 := 18#32
  let c0_i32_640 : BitVec 32 := 0#32
  let c0_i32_641 : BitVec 32 := 0#32
  let c0_i32_642 : BitVec 32 := 0#32
  ![v1131.toNat, 18, 0, 0, 0]
def k0_off126 (v1315 : BitVec 32) : Fin 5 → Nat :=
  let c0_i32_637 : BitVec 32 := 0#32
  let c0_i32_643 : BitVec 32 := 0#32
  let c0_i32_644 : BitVec 32 := 0#32
  let c0_i32_645 : BitVec 32 := 0#32
  ![0, v1315.toNat, 0, 0, 0]

def k0_chk51 (i : grid0.Coords) (v1315 : BitVec 32) : Prop :=
  (∀ (k0_h3 : k0_cond3 i = 1#1), ∀ a, (k0_off126 v1315) a + S1x1x8x64x128.size a ≤ S2x5120x8x64x128.size a)
theorem k0_off126_inb : ∀ (i : grid0.Coords) (v1315 : BitVec 32) (k0_hw51 : k0_chk51 i v1315), ∀ (k0_h3 : k0_cond3 i = 1#1), ∀ a, (k0_off126 v1315) a + S1x1x8x64x128.size a ≤ S2x5120x8x64x128.size a := fun i v1315 k0_hw51 k0_h3 => k0_hw51 k0_h3

def k0_off127 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_646 : BitVec 32 := 32#32
  let v1322 : BitVec 32 := Scalar.muli v1130 c32_i32_646
  let c19_i32_647 : BitVec 32 := 19#32
  let v1323 : BitVec 32 := Scalar.addi v1322 c19_i32_647
  let v1324 : Index := Scalar.indexCast v1323
  ![v1324.toNat]
def k0_off128 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c19_i32_650 : BitVec 32 := 19#32
  ![v1131.toNat, 19]
def k0_off129 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c19_i32_649 : BitVec 32 := 19#32
  let c0_i32_651 : BitVec 32 := 0#32
  let c0_i32_652 : BitVec 32 := 0#32
  let c0_i32_653 : BitVec 32 := 0#32
  ![v1131.toNat, 19, 0, 0, 0]
def k0_off130 (v1325 : BitVec 32) : Fin 5 → Nat :=
  let c0_i32_648 : BitVec 32 := 0#32
  let c0_i32_654 : BitVec 32 := 0#32
  let c0_i32_655 : BitVec 32 := 0#32
  let c0_i32_656 : BitVec 32 := 0#32
  ![0, v1325.toNat, 0, 0, 0]

def k0_chk52 (i : grid0.Coords) (v1325 : BitVec 32) : Prop :=
  (∀ (k0_h3 : k0_cond3 i = 1#1), ∀ a, (k0_off130 v1325) a + S1x1x8x64x128.size a ≤ S2x5120x8x64x128.size a)
theorem k0_off130_inb : ∀ (i : grid0.Coords) (v1325 : BitVec 32) (k0_hw52 : k0_chk52 i v1325), ∀ (k0_h3 : k0_cond3 i = 1#1), ∀ a, (k0_off130 v1325) a + S1x1x8x64x128.size a ≤ S2x5120x8x64x128.size a := fun i v1325 k0_hw52 k0_h3 => k0_hw52 k0_h3

def k0_off131 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_657 : BitVec 32 := 32#32
  let v1332 : BitVec 32 := Scalar.muli v1130 c32_i32_657
  let c20_i32_658 : BitVec 32 := 20#32
  let v1333 : BitVec 32 := Scalar.addi v1332 c20_i32_658
  let v1334 : Index := Scalar.indexCast v1333
  ![v1334.toNat]
def k0_off132 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c20_i32_661 : BitVec 32 := 20#32
  ![v1131.toNat, 20]
def k0_off133 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c20_i32_660 : BitVec 32 := 20#32
  let c0_i32_662 : BitVec 32 := 0#32
  let c0_i32_663 : BitVec 32 := 0#32
  let c0_i32_664 : BitVec 32 := 0#32
  ![v1131.toNat, 20, 0, 0, 0]
def k0_off134 (v1335 : BitVec 32) : Fin 5 → Nat :=
  let c0_i32_659 : BitVec 32 := 0#32
  let c0_i32_665 : BitVec 32 := 0#32
  let c0_i32_666 : BitVec 32 := 0#32
  let c0_i32_667 : BitVec 32 := 0#32
  ![0, v1335.toNat, 0, 0, 0]

def k0_chk53 (i : grid0.Coords) (v1335 : BitVec 32) : Prop :=
  (∀ (k0_h3 : k0_cond3 i = 1#1), ∀ a, (k0_off134 v1335) a + S1x1x8x64x128.size a ≤ S2x5120x8x64x128.size a)
theorem k0_off134_inb : ∀ (i : grid0.Coords) (v1335 : BitVec 32) (k0_hw53 : k0_chk53 i v1335), ∀ (k0_h3 : k0_cond3 i = 1#1), ∀ a, (k0_off134 v1335) a + S1x1x8x64x128.size a ≤ S2x5120x8x64x128.size a := fun i v1335 k0_hw53 k0_h3 => k0_hw53 k0_h3

def k0_off135 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_668 : BitVec 32 := 32#32
  let v1342 : BitVec 32 := Scalar.muli v1130 c32_i32_668
  let c21_i32_669 : BitVec 32 := 21#32
  let v1343 : BitVec 32 := Scalar.addi v1342 c21_i32_669
  let v1344 : Index := Scalar.indexCast v1343
  ![v1344.toNat]
def k0_off136 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c21_i32_672 : BitVec 32 := 21#32
  ![v1131.toNat, 21]
def k0_off137 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c21_i32_671 : BitVec 32 := 21#32
  let c0_i32_673 : BitVec 32 := 0#32
  let c0_i32_674 : BitVec 32 := 0#32
  let c0_i32_675 : BitVec 32 := 0#32
  ![v1131.toNat, 21, 0, 0, 0]
def k0_off138 (v1345 : BitVec 32) : Fin 5 → Nat :=
  let c0_i32_670 : BitVec 32 := 0#32
  let c0_i32_676 : BitVec 32 := 0#32
  let c0_i32_677 : BitVec 32 := 0#32
  let c0_i32_678 : BitVec 32 := 0#32
  ![0, v1345.toNat, 0, 0, 0]

def k0_chk54 (i : grid0.Coords) (v1345 : BitVec 32) : Prop :=
  (∀ (k0_h3 : k0_cond3 i = 1#1), ∀ a, (k0_off138 v1345) a + S1x1x8x64x128.size a ≤ S2x5120x8x64x128.size a)
theorem k0_off138_inb : ∀ (i : grid0.Coords) (v1345 : BitVec 32) (k0_hw54 : k0_chk54 i v1345), ∀ (k0_h3 : k0_cond3 i = 1#1), ∀ a, (k0_off138 v1345) a + S1x1x8x64x128.size a ≤ S2x5120x8x64x128.size a := fun i v1345 k0_hw54 k0_h3 => k0_hw54 k0_h3

def k0_off139 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_679 : BitVec 32 := 32#32
  let v1352 : BitVec 32 := Scalar.muli v1130 c32_i32_679
  let c22_i32_680 : BitVec 32 := 22#32
  let v1353 : BitVec 32 := Scalar.addi v1352 c22_i32_680
  let v1354 : Index := Scalar.indexCast v1353
  ![v1354.toNat]
def k0_off140 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c22_i32_683 : BitVec 32 := 22#32
  ![v1131.toNat, 22]
def k0_off141 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c22_i32_682 : BitVec 32 := 22#32
  let c0_i32_684 : BitVec 32 := 0#32
  let c0_i32_685 : BitVec 32 := 0#32
  let c0_i32_686 : BitVec 32 := 0#32
  ![v1131.toNat, 22, 0, 0, 0]
def k0_off142 (v1355 : BitVec 32) : Fin 5 → Nat :=
  let c0_i32_681 : BitVec 32 := 0#32
  let c0_i32_687 : BitVec 32 := 0#32
  let c0_i32_688 : BitVec 32 := 0#32
  let c0_i32_689 : BitVec 32 := 0#32
  ![0, v1355.toNat, 0, 0, 0]

def k0_chk55 (i : grid0.Coords) (v1355 : BitVec 32) : Prop :=
  (∀ (k0_h3 : k0_cond3 i = 1#1), ∀ a, (k0_off142 v1355) a + S1x1x8x64x128.size a ≤ S2x5120x8x64x128.size a)
theorem k0_off142_inb : ∀ (i : grid0.Coords) (v1355 : BitVec 32) (k0_hw55 : k0_chk55 i v1355), ∀ (k0_h3 : k0_cond3 i = 1#1), ∀ a, (k0_off142 v1355) a + S1x1x8x64x128.size a ≤ S2x5120x8x64x128.size a := fun i v1355 k0_hw55 k0_h3 => k0_hw55 k0_h3

def k0_off143 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_690 : BitVec 32 := 32#32
  let v1362 : BitVec 32 := Scalar.muli v1130 c32_i32_690
  let c23_i32_691 : BitVec 32 := 23#32
  let v1363 : BitVec 32 := Scalar.addi v1362 c23_i32_691
  let v1364 : Index := Scalar.indexCast v1363
  ![v1364.toNat]
def k0_off144 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c23_i32_694 : BitVec 32 := 23#32
  ![v1131.toNat, 23]
def k0_off145 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c23_i32_693 : BitVec 32 := 23#32
  let c0_i32_695 : BitVec 32 := 0#32
  let c0_i32_696 : BitVec 32 := 0#32
  let c0_i32_697 : BitVec 32 := 0#32
  ![v1131.toNat, 23, 0, 0, 0]
def k0_off146 (v1365 : BitVec 32) : Fin 5 → Nat :=
  let c0_i32_692 : BitVec 32 := 0#32
  let c0_i32_698 : BitVec 32 := 0#32
  let c0_i32_699 : BitVec 32 := 0#32
  let c0_i32_700 : BitVec 32 := 0#32
  ![0, v1365.toNat, 0, 0, 0]

def k0_chk56 (i : grid0.Coords) (v1365 : BitVec 32) : Prop :=
  (∀ (k0_h3 : k0_cond3 i = 1#1), ∀ a, (k0_off146 v1365) a + S1x1x8x64x128.size a ≤ S2x5120x8x64x128.size a)
theorem k0_off146_inb : ∀ (i : grid0.Coords) (v1365 : BitVec 32) (k0_hw56 : k0_chk56 i v1365), ∀ (k0_h3 : k0_cond3 i = 1#1), ∀ a, (k0_off146 v1365) a + S1x1x8x64x128.size a ≤ S2x5120x8x64x128.size a := fun i v1365 k0_hw56 k0_h3 => k0_hw56 k0_h3

def k0_off147 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_701 : BitVec 32 := 32#32
  let v1372 : BitVec 32 := Scalar.muli v1130 c32_i32_701
  let c24_i32_702 : BitVec 32 := 24#32
  let v1373 : BitVec 32 := Scalar.addi v1372 c24_i32_702
  let v1374 : Index := Scalar.indexCast v1373
  ![v1374.toNat]
def k0_off148 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c24_i32_705 : BitVec 32 := 24#32
  ![v1131.toNat, 24]
def k0_off149 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c24_i32_704 : BitVec 32 := 24#32
  let c0_i32_706 : BitVec 32 := 0#32
  let c0_i32_707 : BitVec 32 := 0#32
  let c0_i32_708 : BitVec 32 := 0#32
  ![v1131.toNat, 24, 0, 0, 0]
def k0_off150 (v1375 : BitVec 32) : Fin 5 → Nat :=
  let c0_i32_703 : BitVec 32 := 0#32
  let c0_i32_709 : BitVec 32 := 0#32
  let c0_i32_710 : BitVec 32 := 0#32
  let c0_i32_711 : BitVec 32 := 0#32
  ![0, v1375.toNat, 0, 0, 0]

def k0_chk57 (i : grid0.Coords) (v1375 : BitVec 32) : Prop :=
  (∀ (k0_h3 : k0_cond3 i = 1#1), ∀ a, (k0_off150 v1375) a + S1x1x8x64x128.size a ≤ S2x5120x8x64x128.size a)
theorem k0_off150_inb : ∀ (i : grid0.Coords) (v1375 : BitVec 32) (k0_hw57 : k0_chk57 i v1375), ∀ (k0_h3 : k0_cond3 i = 1#1), ∀ a, (k0_off150 v1375) a + S1x1x8x64x128.size a ≤ S2x5120x8x64x128.size a := fun i v1375 k0_hw57 k0_h3 => k0_hw57 k0_h3

def k0_off151 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_712 : BitVec 32 := 32#32
  let v1382 : BitVec 32 := Scalar.muli v1130 c32_i32_712
  let c25_i32_713 : BitVec 32 := 25#32
  let v1383 : BitVec 32 := Scalar.addi v1382 c25_i32_713
  let v1384 : Index := Scalar.indexCast v1383
  ![v1384.toNat]
def k0_off152 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c25_i32_716 : BitVec 32 := 25#32
  ![v1131.toNat, 25]
def k0_off153 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c25_i32_715 : BitVec 32 := 25#32
  let c0_i32_717 : BitVec 32 := 0#32
  let c0_i32_718 : BitVec 32 := 0#32
  let c0_i32_719 : BitVec 32 := 0#32
  ![v1131.toNat, 25, 0, 0, 0]
def k0_off154 (v1385 : BitVec 32) : Fin 5 → Nat :=
  let c0_i32_714 : BitVec 32 := 0#32
  let c0_i32_720 : BitVec 32 := 0#32
  let c0_i32_721 : BitVec 32 := 0#32
  let c0_i32_722 : BitVec 32 := 0#32
  ![0, v1385.toNat, 0, 0, 0]

def k0_chk58 (i : grid0.Coords) (v1385 : BitVec 32) : Prop :=
  (∀ (k0_h3 : k0_cond3 i = 1#1), ∀ a, (k0_off154 v1385) a + S1x1x8x64x128.size a ≤ S2x5120x8x64x128.size a)
theorem k0_off154_inb : ∀ (i : grid0.Coords) (v1385 : BitVec 32) (k0_hw58 : k0_chk58 i v1385), ∀ (k0_h3 : k0_cond3 i = 1#1), ∀ a, (k0_off154 v1385) a + S1x1x8x64x128.size a ≤ S2x5120x8x64x128.size a := fun i v1385 k0_hw58 k0_h3 => k0_hw58 k0_h3

def k0_off155 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_723 : BitVec 32 := 32#32
  let v1392 : BitVec 32 := Scalar.muli v1130 c32_i32_723
  let c26_i32_724 : BitVec 32 := 26#32
  let v1393 : BitVec 32 := Scalar.addi v1392 c26_i32_724
  let v1394 : Index := Scalar.indexCast v1393
  ![v1394.toNat]
def k0_off156 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c26_i32_727 : BitVec 32 := 26#32
  ![v1131.toNat, 26]
def k0_off157 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c26_i32_726 : BitVec 32 := 26#32
  let c0_i32_728 : BitVec 32 := 0#32
  let c0_i32_729 : BitVec 32 := 0#32
  let c0_i32_730 : BitVec 32 := 0#32
  ![v1131.toNat, 26, 0, 0, 0]
def k0_off158 (v1395 : BitVec 32) : Fin 5 → Nat :=
  let c0_i32_725 : BitVec 32 := 0#32
  let c0_i32_731 : BitVec 32 := 0#32
  let c0_i32_732 : BitVec 32 := 0#32
  let c0_i32_733 : BitVec 32 := 0#32
  ![0, v1395.toNat, 0, 0, 0]

def k0_chk59 (i : grid0.Coords) (v1395 : BitVec 32) : Prop :=
  (∀ (k0_h3 : k0_cond3 i = 1#1), ∀ a, (k0_off158 v1395) a + S1x1x8x64x128.size a ≤ S2x5120x8x64x128.size a)
theorem k0_off158_inb : ∀ (i : grid0.Coords) (v1395 : BitVec 32) (k0_hw59 : k0_chk59 i v1395), ∀ (k0_h3 : k0_cond3 i = 1#1), ∀ a, (k0_off158 v1395) a + S1x1x8x64x128.size a ≤ S2x5120x8x64x128.size a := fun i v1395 k0_hw59 k0_h3 => k0_hw59 k0_h3

def k0_off159 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_734 : BitVec 32 := 32#32
  let v1402 : BitVec 32 := Scalar.muli v1130 c32_i32_734
  let c27_i32_735 : BitVec 32 := 27#32
  let v1403 : BitVec 32 := Scalar.addi v1402 c27_i32_735
  let v1404 : Index := Scalar.indexCast v1403
  ![v1404.toNat]
def k0_off160 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c27_i32_738 : BitVec 32 := 27#32
  ![v1131.toNat, 27]
def k0_off161 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c27_i32_737 : BitVec 32 := 27#32
  let c0_i32_739 : BitVec 32 := 0#32
  let c0_i32_740 : BitVec 32 := 0#32
  let c0_i32_741 : BitVec 32 := 0#32
  ![v1131.toNat, 27, 0, 0, 0]
def k0_off162 (v1405 : BitVec 32) : Fin 5 → Nat :=
  let c0_i32_736 : BitVec 32 := 0#32
  let c0_i32_742 : BitVec 32 := 0#32
  let c0_i32_743 : BitVec 32 := 0#32
  let c0_i32_744 : BitVec 32 := 0#32
  ![0, v1405.toNat, 0, 0, 0]

def k0_chk60 (i : grid0.Coords) (v1405 : BitVec 32) : Prop :=
  (∀ (k0_h3 : k0_cond3 i = 1#1), ∀ a, (k0_off162 v1405) a + S1x1x8x64x128.size a ≤ S2x5120x8x64x128.size a)
theorem k0_off162_inb : ∀ (i : grid0.Coords) (v1405 : BitVec 32) (k0_hw60 : k0_chk60 i v1405), ∀ (k0_h3 : k0_cond3 i = 1#1), ∀ a, (k0_off162 v1405) a + S1x1x8x64x128.size a ≤ S2x5120x8x64x128.size a := fun i v1405 k0_hw60 k0_h3 => k0_hw60 k0_h3

def k0_off163 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_745 : BitVec 32 := 32#32
  let v1412 : BitVec 32 := Scalar.muli v1130 c32_i32_745
  let c28_i32_746 : BitVec 32 := 28#32
  let v1413 : BitVec 32 := Scalar.addi v1412 c28_i32_746
  let v1414 : Index := Scalar.indexCast v1413
  ![v1414.toNat]
def k0_off164 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c28_i32_749 : BitVec 32 := 28#32
  ![v1131.toNat, 28]
def k0_off165 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c28_i32_748 : BitVec 32 := 28#32
  let c0_i32_750 : BitVec 32 := 0#32
  let c0_i32_751 : BitVec 32 := 0#32
  let c0_i32_752 : BitVec 32 := 0#32
  ![v1131.toNat, 28, 0, 0, 0]
def k0_off166 (v1415 : BitVec 32) : Fin 5 → Nat :=
  let c0_i32_747 : BitVec 32 := 0#32
  let c0_i32_753 : BitVec 32 := 0#32
  let c0_i32_754 : BitVec 32 := 0#32
  let c0_i32_755 : BitVec 32 := 0#32
  ![0, v1415.toNat, 0, 0, 0]

def k0_chk61 (i : grid0.Coords) (v1415 : BitVec 32) : Prop :=
  (∀ (k0_h3 : k0_cond3 i = 1#1), ∀ a, (k0_off166 v1415) a + S1x1x8x64x128.size a ≤ S2x5120x8x64x128.size a)
theorem k0_off166_inb : ∀ (i : grid0.Coords) (v1415 : BitVec 32) (k0_hw61 : k0_chk61 i v1415), ∀ (k0_h3 : k0_cond3 i = 1#1), ∀ a, (k0_off166 v1415) a + S1x1x8x64x128.size a ≤ S2x5120x8x64x128.size a := fun i v1415 k0_hw61 k0_h3 => k0_hw61 k0_h3

def k0_off167 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_756 : BitVec 32 := 32#32
  let v1422 : BitVec 32 := Scalar.muli v1130 c32_i32_756
  let c29_i32_757 : BitVec 32 := 29#32
  let v1423 : BitVec 32 := Scalar.addi v1422 c29_i32_757
  let v1424 : Index := Scalar.indexCast v1423
  ![v1424.toNat]
def k0_off168 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c29_i32_760 : BitVec 32 := 29#32
  ![v1131.toNat, 29]
def k0_off169 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c29_i32_759 : BitVec 32 := 29#32
  let c0_i32_761 : BitVec 32 := 0#32
  let c0_i32_762 : BitVec 32 := 0#32
  let c0_i32_763 : BitVec 32 := 0#32
  ![v1131.toNat, 29, 0, 0, 0]
def k0_off170 (v1425 : BitVec 32) : Fin 5 → Nat :=
  let c0_i32_758 : BitVec 32 := 0#32
  let c0_i32_764 : BitVec 32 := 0#32
  let c0_i32_765 : BitVec 32 := 0#32
  let c0_i32_766 : BitVec 32 := 0#32
  ![0, v1425.toNat, 0, 0, 0]

def k0_chk62 (i : grid0.Coords) (v1425 : BitVec 32) : Prop :=
  (∀ (k0_h3 : k0_cond3 i = 1#1), ∀ a, (k0_off170 v1425) a + S1x1x8x64x128.size a ≤ S2x5120x8x64x128.size a)
theorem k0_off170_inb : ∀ (i : grid0.Coords) (v1425 : BitVec 32) (k0_hw62 : k0_chk62 i v1425), ∀ (k0_h3 : k0_cond3 i = 1#1), ∀ a, (k0_off170 v1425) a + S1x1x8x64x128.size a ≤ S2x5120x8x64x128.size a := fun i v1425 k0_hw62 k0_h3 => k0_hw62 k0_h3

def k0_off171 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_767 : BitVec 32 := 32#32
  let v1432 : BitVec 32 := Scalar.muli v1130 c32_i32_767
  let c30_i32_768 : BitVec 32 := 30#32
  let v1433 : BitVec 32 := Scalar.addi v1432 c30_i32_768
  let v1434 : Index := Scalar.indexCast v1433
  ![v1434.toNat]
def k0_off172 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c30_i32_771 : BitVec 32 := 30#32
  ![v1131.toNat, 30]
def k0_off173 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c30_i32_770 : BitVec 32 := 30#32
  let c0_i32_772 : BitVec 32 := 0#32
  let c0_i32_773 : BitVec 32 := 0#32
  let c0_i32_774 : BitVec 32 := 0#32
  ![v1131.toNat, 30, 0, 0, 0]
def k0_off174 (v1435 : BitVec 32) : Fin 5 → Nat :=
  let c0_i32_769 : BitVec 32 := 0#32
  let c0_i32_775 : BitVec 32 := 0#32
  let c0_i32_776 : BitVec 32 := 0#32
  let c0_i32_777 : BitVec 32 := 0#32
  ![0, v1435.toNat, 0, 0, 0]

def k0_chk63 (i : grid0.Coords) (v1435 : BitVec 32) : Prop :=
  (∀ (k0_h3 : k0_cond3 i = 1#1), ∀ a, (k0_off174 v1435) a + S1x1x8x64x128.size a ≤ S2x5120x8x64x128.size a)
theorem k0_off174_inb : ∀ (i : grid0.Coords) (v1435 : BitVec 32) (k0_hw63 : k0_chk63 i v1435), ∀ (k0_h3 : k0_cond3 i = 1#1), ∀ a, (k0_off174 v1435) a + S1x1x8x64x128.size a ≤ S2x5120x8x64x128.size a := fun i v1435 k0_hw63 k0_h3 => k0_hw63 k0_h3

def k0_off175 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c1_i32_436 : BitVec 32 := 1#32
  let v1130 : BitVec 32 := Scalar.addi v3 c1_i32_436
  let c32_i32_778 : BitVec 32 := 32#32
  let v1442 : BitVec 32 := Scalar.muli v1130 c32_i32_778
  let c31_i32_779 : BitVec 32 := 31#32
  let v1443 : BitVec 32 := Scalar.addi v1442 c31_i32_779
  let v1444 : Index := Scalar.indexCast v1443
  ![v1444.toNat]
def k0_off176 (i : grid0.Coords) : Fin 2 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c31_i32_782 : BitVec 32 := 31#32
  ![v1131.toNat, 31]
def k0_off177 (i : grid0.Coords) : Fin 5 → Nat :=
  let c1_i32_437 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let v1131 : BitVec 32 := Scalar.subi c1_i32_437 v861
  let c31_i32_781 : BitVec 32 := 31#32
  let c0_i32_783 : BitVec 32 := 0#32
  let c0_i32_784 : BitVec 32 := 0#32
  let c0_i32_785 : BitVec 32 := 0#32
  ![v1131.toNat, 31, 0, 0, 0]
def k0_off178 (v1445 : BitVec 32) : Fin 5 → Nat :=
  let c0_i32_780 : BitVec 32 := 0#32
  let c0_i32_786 : BitVec 32 := 0#32
  let c0_i32_787 : BitVec 32 := 0#32
  let c0_i32_788 : BitVec 32 := 0#32
  ![0, v1445.toNat, 0, 0, 0]

def k0_chk64 (i : grid0.Coords) (v1445 : BitVec 32) : Prop :=
  (∀ (k0_h3 : k0_cond3 i = 1#1), ∀ a, (k0_off178 v1445) a + S1x1x8x64x128.size a ≤ S2x5120x8x64x128.size a)
theorem k0_off178_inb : ∀ (i : grid0.Coords) (v1445 : BitVec 32) (k0_hw64 : k0_chk64 i v1445), ∀ (k0_h3 : k0_cond3 i = 1#1), ∀ a, (k0_off178 v1445) a + S1x1x8x64x128.size a ≤ S2x5120x8x64x128.size a := fun i v1445 k0_hw64 k0_h3 => k0_hw64 k0_h3

def k0_off179 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c0_i32_142 : BitVec 32 := 0#32
  ![v861.toNat, 0]
def k0_off180 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c0_i32_141 : BitVec 32 := 0#32
  let c0_i32_143 : BitVec 32 := 0#32
  let c0_i32_144 : BitVec 32 := 0#32
  let c0_i32_145 : BitVec 32 := 0#32
  ![v861.toNat, 0, 0, 0, 0]
def k0_off181 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c1_i32_151 : BitVec 32 := 1#32
  ![v861.toNat, 1]
def k0_off182 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c1_i32_150 : BitVec 32 := 1#32
  let c0_i32_152 : BitVec 32 := 0#32
  let c0_i32_153 : BitVec 32 := 0#32
  let c0_i32_154 : BitVec 32 := 0#32
  ![v861.toNat, 1, 0, 0, 0]
def k0_off183 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c2_i32_160 : BitVec 32 := 2#32
  ![v861.toNat, 2]
def k0_off184 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c2_i32_159 : BitVec 32 := 2#32
  let c0_i32_161 : BitVec 32 := 0#32
  let c0_i32_162 : BitVec 32 := 0#32
  let c0_i32_163 : BitVec 32 := 0#32
  ![v861.toNat, 2, 0, 0, 0]
def k0_off185 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c3_i32_169 : BitVec 32 := 3#32
  ![v861.toNat, 3]
def k0_off186 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c3_i32_168 : BitVec 32 := 3#32
  let c0_i32_170 : BitVec 32 := 0#32
  let c0_i32_171 : BitVec 32 := 0#32
  let c0_i32_172 : BitVec 32 := 0#32
  ![v861.toNat, 3, 0, 0, 0]
def k0_off187 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c4_i32_178 : BitVec 32 := 4#32
  ![v861.toNat, 4]
def k0_off188 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c4_i32_177 : BitVec 32 := 4#32
  let c0_i32_179 : BitVec 32 := 0#32
  let c0_i32_180 : BitVec 32 := 0#32
  let c0_i32_181 : BitVec 32 := 0#32
  ![v861.toNat, 4, 0, 0, 0]
def k0_off189 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c5_i32_187 : BitVec 32 := 5#32
  ![v861.toNat, 5]
def k0_off190 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c5_i32_186 : BitVec 32 := 5#32
  let c0_i32_188 : BitVec 32 := 0#32
  let c0_i32_189 : BitVec 32 := 0#32
  let c0_i32_190 : BitVec 32 := 0#32
  ![v861.toNat, 5, 0, 0, 0]
def k0_off191 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c6_i32_196 : BitVec 32 := 6#32
  ![v861.toNat, 6]
def k0_off192 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c6_i32_195 : BitVec 32 := 6#32
  let c0_i32_197 : BitVec 32 := 0#32
  let c0_i32_198 : BitVec 32 := 0#32
  let c0_i32_199 : BitVec 32 := 0#32
  ![v861.toNat, 6, 0, 0, 0]
def k0_off193 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c7_i32_205 : BitVec 32 := 7#32
  ![v861.toNat, 7]
def k0_off194 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c7_i32_204 : BitVec 32 := 7#32
  let c0_i32_206 : BitVec 32 := 0#32
  let c0_i32_207 : BitVec 32 := 0#32
  let c0_i32_208 : BitVec 32 := 0#32
  ![v861.toNat, 7, 0, 0, 0]
def k0_off195 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c8_i32_214 : BitVec 32 := 8#32
  ![v861.toNat, 8]
def k0_off196 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c8_i32_213 : BitVec 32 := 8#32
  let c0_i32_215 : BitVec 32 := 0#32
  let c0_i32_216 : BitVec 32 := 0#32
  let c0_i32_217 : BitVec 32 := 0#32
  ![v861.toNat, 8, 0, 0, 0]
def k0_off197 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c9_i32_223 : BitVec 32 := 9#32
  ![v861.toNat, 9]
def k0_off198 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c9_i32_222 : BitVec 32 := 9#32
  let c0_i32_224 : BitVec 32 := 0#32
  let c0_i32_225 : BitVec 32 := 0#32
  let c0_i32_226 : BitVec 32 := 0#32
  ![v861.toNat, 9, 0, 0, 0]
def k0_off199 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c10_i32_232 : BitVec 32 := 10#32
  ![v861.toNat, 10]
def k0_off200 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c10_i32_231 : BitVec 32 := 10#32
  let c0_i32_233 : BitVec 32 := 0#32
  let c0_i32_234 : BitVec 32 := 0#32
  let c0_i32_235 : BitVec 32 := 0#32
  ![v861.toNat, 10, 0, 0, 0]
def k0_off201 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c11_i32_241 : BitVec 32 := 11#32
  ![v861.toNat, 11]
def k0_off202 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c11_i32_240 : BitVec 32 := 11#32
  let c0_i32_242 : BitVec 32 := 0#32
  let c0_i32_243 : BitVec 32 := 0#32
  let c0_i32_244 : BitVec 32 := 0#32
  ![v861.toNat, 11, 0, 0, 0]
def k0_off203 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c12_i32_250 : BitVec 32 := 12#32
  ![v861.toNat, 12]
def k0_off204 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c12_i32_249 : BitVec 32 := 12#32
  let c0_i32_251 : BitVec 32 := 0#32
  let c0_i32_252 : BitVec 32 := 0#32
  let c0_i32_253 : BitVec 32 := 0#32
  ![v861.toNat, 12, 0, 0, 0]
def k0_off205 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c13_i32_259 : BitVec 32 := 13#32
  ![v861.toNat, 13]
def k0_off206 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c13_i32_258 : BitVec 32 := 13#32
  let c0_i32_260 : BitVec 32 := 0#32
  let c0_i32_261 : BitVec 32 := 0#32
  let c0_i32_262 : BitVec 32 := 0#32
  ![v861.toNat, 13, 0, 0, 0]
def k0_off207 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c14_i32_268 : BitVec 32 := 14#32
  ![v861.toNat, 14]
def k0_off208 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c14_i32_267 : BitVec 32 := 14#32
  let c0_i32_269 : BitVec 32 := 0#32
  let c0_i32_270 : BitVec 32 := 0#32
  let c0_i32_271 : BitVec 32 := 0#32
  ![v861.toNat, 14, 0, 0, 0]
def k0_off209 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c15_i32_277 : BitVec 32 := 15#32
  ![v861.toNat, 15]
def k0_off210 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c15_i32_276 : BitVec 32 := 15#32
  let c0_i32_278 : BitVec 32 := 0#32
  let c0_i32_279 : BitVec 32 := 0#32
  let c0_i32_280 : BitVec 32 := 0#32
  ![v861.toNat, 15, 0, 0, 0]
def k0_off211 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c16_i32_286 : BitVec 32 := 16#32
  ![v861.toNat, 16]
def k0_off212 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c16_i32_285 : BitVec 32 := 16#32
  let c0_i32_287 : BitVec 32 := 0#32
  let c0_i32_288 : BitVec 32 := 0#32
  let c0_i32_289 : BitVec 32 := 0#32
  ![v861.toNat, 16, 0, 0, 0]
def k0_off213 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c17_i32_294 : BitVec 32 := 17#32
  ![v861.toNat, 17]
def k0_off214 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c17_i32_293 : BitVec 32 := 17#32
  let c0_i32_295 : BitVec 32 := 0#32
  let c0_i32_296 : BitVec 32 := 0#32
  let c0_i32_297 : BitVec 32 := 0#32
  ![v861.toNat, 17, 0, 0, 0]
def k0_off215 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c18_i32_302 : BitVec 32 := 18#32
  ![v861.toNat, 18]
def k0_off216 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c18_i32_301 : BitVec 32 := 18#32
  let c0_i32_303 : BitVec 32 := 0#32
  let c0_i32_304 : BitVec 32 := 0#32
  let c0_i32_305 : BitVec 32 := 0#32
  ![v861.toNat, 18, 0, 0, 0]
def k0_off217 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c19_i32_310 : BitVec 32 := 19#32
  ![v861.toNat, 19]
def k0_off218 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c19_i32_309 : BitVec 32 := 19#32
  let c0_i32_311 : BitVec 32 := 0#32
  let c0_i32_312 : BitVec 32 := 0#32
  let c0_i32_313 : BitVec 32 := 0#32
  ![v861.toNat, 19, 0, 0, 0]
def k0_off219 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c20_i32_318 : BitVec 32 := 20#32
  ![v861.toNat, 20]
def k0_off220 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c20_i32_317 : BitVec 32 := 20#32
  let c0_i32_319 : BitVec 32 := 0#32
  let c0_i32_320 : BitVec 32 := 0#32
  let c0_i32_321 : BitVec 32 := 0#32
  ![v861.toNat, 20, 0, 0, 0]
def k0_off221 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c21_i32_326 : BitVec 32 := 21#32
  ![v861.toNat, 21]
def k0_off222 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c21_i32_325 : BitVec 32 := 21#32
  let c0_i32_327 : BitVec 32 := 0#32
  let c0_i32_328 : BitVec 32 := 0#32
  let c0_i32_329 : BitVec 32 := 0#32
  ![v861.toNat, 21, 0, 0, 0]
def k0_off223 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c22_i32_334 : BitVec 32 := 22#32
  ![v861.toNat, 22]
def k0_off224 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c22_i32_333 : BitVec 32 := 22#32
  let c0_i32_335 : BitVec 32 := 0#32
  let c0_i32_336 : BitVec 32 := 0#32
  let c0_i32_337 : BitVec 32 := 0#32
  ![v861.toNat, 22, 0, 0, 0]
def k0_off225 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c23_i32_342 : BitVec 32 := 23#32
  ![v861.toNat, 23]
def k0_off226 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c23_i32_341 : BitVec 32 := 23#32
  let c0_i32_343 : BitVec 32 := 0#32
  let c0_i32_344 : BitVec 32 := 0#32
  let c0_i32_345 : BitVec 32 := 0#32
  ![v861.toNat, 23, 0, 0, 0]
def k0_off227 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c24_i32_350 : BitVec 32 := 24#32
  ![v861.toNat, 24]
def k0_off228 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c24_i32_349 : BitVec 32 := 24#32
  let c0_i32_351 : BitVec 32 := 0#32
  let c0_i32_352 : BitVec 32 := 0#32
  let c0_i32_353 : BitVec 32 := 0#32
  ![v861.toNat, 24, 0, 0, 0]
def k0_off229 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c25_i32_358 : BitVec 32 := 25#32
  ![v861.toNat, 25]
def k0_off230 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c25_i32_357 : BitVec 32 := 25#32
  let c0_i32_359 : BitVec 32 := 0#32
  let c0_i32_360 : BitVec 32 := 0#32
  let c0_i32_361 : BitVec 32 := 0#32
  ![v861.toNat, 25, 0, 0, 0]
def k0_off231 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c26_i32_366 : BitVec 32 := 26#32
  ![v861.toNat, 26]
def k0_off232 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c26_i32_365 : BitVec 32 := 26#32
  let c0_i32_367 : BitVec 32 := 0#32
  let c0_i32_368 : BitVec 32 := 0#32
  let c0_i32_369 : BitVec 32 := 0#32
  ![v861.toNat, 26, 0, 0, 0]
def k0_off233 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c27_i32_374 : BitVec 32 := 27#32
  ![v861.toNat, 27]
def k0_off234 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c27_i32_373 : BitVec 32 := 27#32
  let c0_i32_375 : BitVec 32 := 0#32
  let c0_i32_376 : BitVec 32 := 0#32
  let c0_i32_377 : BitVec 32 := 0#32
  ![v861.toNat, 27, 0, 0, 0]
def k0_off235 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c28_i32_382 : BitVec 32 := 28#32
  ![v861.toNat, 28]
def k0_off236 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c28_i32_381 : BitVec 32 := 28#32
  let c0_i32_383 : BitVec 32 := 0#32
  let c0_i32_384 : BitVec 32 := 0#32
  let c0_i32_385 : BitVec 32 := 0#32
  ![v861.toNat, 28, 0, 0, 0]
def k0_off237 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c29_i32_390 : BitVec 32 := 29#32
  ![v861.toNat, 29]
def k0_off238 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c29_i32_389 : BitVec 32 := 29#32
  let c0_i32_391 : BitVec 32 := 0#32
  let c0_i32_392 : BitVec 32 := 0#32
  let c0_i32_393 : BitVec 32 := 0#32
  ![v861.toNat, 29, 0, 0, 0]
def k0_off239 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c30_i32_398 : BitVec 32 := 30#32
  ![v861.toNat, 30]
def k0_off240 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c30_i32_397 : BitVec 32 := 30#32
  let c0_i32_399 : BitVec 32 := 0#32
  let c0_i32_400 : BitVec 32 := 0#32
  let c0_i32_401 : BitVec 32 := 0#32
  ![v861.toNat, 30, 0, 0, 0]
def k0_off241 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c31_i32_406 : BitVec 32 := 31#32
  ![v861.toNat, 31]
def k0_off242 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_121 : BitVec 32 := 2#32
  let c0_i32_122 : BitVec 32 := 0#32
  let v852 : BitVec 1 := Scalar.cmpi .eq c2_i32_121 c0_i32_122
  let c1_i32_123 : BitVec 32 := 1#32
  let v853 : BitVec 32 := Scalar.select v852 c1_i32_123 c2_i32_121
  let v854 : BitVec 32 := Scalar.remsi v3 v853
  let c0_i32_125 : BitVec 32 := 0#32
  let v856 : BitVec 1 := Scalar.cmpi .slt v854 c0_i32_125
  let c0_i32_126 : BitVec 32 := 0#32
  let v857 : BitVec 1 := Scalar.cmpi .slt v853 c0_i32_126
  let v858 : BitVec 1 := Scalar.xori v856 v857
  let c0_i32_124 : BitVec 32 := 0#32
  let v855 : BitVec 1 := Scalar.cmpi .ne v854 c0_i32_124
  let v859 : BitVec 1 := Scalar.andi v858 v855
  let v860 : BitVec 32 := Scalar.addi v854 v853
  let v861 : BitVec 32 := Scalar.select v859 v860 v854
  let c31_i32_405 : BitVec 32 := 31#32
  let c0_i32_407 : BitVec 32 := 0#32
  let c0_i32_408 : BitVec 32 := 0#32
  let c0_i32_409 : BitVec 32 := 0#32
  ![v861.toNat, 31, 0, 0, 0]
def k0_mult11 (i : grid0.Coords) : BitVec 32 :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  v1084
def k0_cond5 (i : grid0.Coords) : BitVec 1 :=
  let arg2 : BitVec 32 := BitVec.ofNat 32 (i 2).val
  let c4_i32_413 : BitVec 32 := 4#32
  let c0_i32_414 : BitVec 32 := 0#32
  let v1074 : BitVec 1 := Scalar.cmpi .eq c4_i32_413 c0_i32_414
  let c1_i32_415 : BitVec 32 := 1#32
  let v1075 : BitVec 32 := Scalar.select v1074 c1_i32_415 c4_i32_413
  let v1076 : BitVec 32 := Scalar.remsi arg2 v1075
  let c0_i32_417 : BitVec 32 := 0#32
  let v1078 : BitVec 1 := Scalar.cmpi .slt v1076 c0_i32_417
  let c0_i32_418 : BitVec 32 := 0#32
  let v1079 : BitVec 1 := Scalar.cmpi .slt v1075 c0_i32_418
  let v1080 : BitVec 1 := Scalar.xori v1078 v1079
  let c0_i32_416 : BitVec 32 := 0#32
  let v1077 : BitVec 1 := Scalar.cmpi .ne v1076 c0_i32_416
  let v1081 : BitVec 1 := Scalar.andi v1080 v1077
  let v1082 : BitVec 32 := Scalar.addi v1076 v1075
  let v1083 : BitVec 32 := Scalar.select v1081 v1082 v1076
  let c0_i32_419 : BitVec 32 := 0#32
  let v1089 : BitVec 32 := Scalar.maxsi v1083 c0_i32_419
  let c3_i32_420 : BitVec 32 := 3#32
  let v1090 : BitVec 32 := Scalar.minsi v1089 c3_i32_420
  let c0_i32_421 : BitVec 32 := 0#32
  let v1091 : BitVec 1 := Scalar.cmpi .ne v1090 c0_i32_421
  v1091

def k0_cond6 (i : grid0.Coords) : BitVec 1 :=
  let arg2 : BitVec 32 := BitVec.ofNat 32 (i 2).val
  let c4_i32_413 : BitVec 32 := 4#32
  let c0_i32_414 : BitVec 32 := 0#32
  let v1074 : BitVec 1 := Scalar.cmpi .eq c4_i32_413 c0_i32_414
  let c1_i32_415 : BitVec 32 := 1#32
  let v1075 : BitVec 32 := Scalar.select v1074 c1_i32_415 c4_i32_413
  let v1076 : BitVec 32 := Scalar.remsi arg2 v1075
  let c0_i32_417 : BitVec 32 := 0#32
  let v1078 : BitVec 1 := Scalar.cmpi .slt v1076 c0_i32_417
  let c0_i32_418 : BitVec 32 := 0#32
  let v1079 : BitVec 1 := Scalar.cmpi .slt v1075 c0_i32_418
  let v1080 : BitVec 1 := Scalar.xori v1078 v1079
  let c0_i32_416 : BitVec 32 := 0#32
  let v1077 : BitVec 1 := Scalar.cmpi .ne v1076 c0_i32_416
  let v1081 : BitVec 1 := Scalar.andi v1080 v1077
  let v1082 : BitVec 32 := Scalar.addi v1076 v1075
  let v1083 : BitVec 32 := Scalar.select v1081 v1082 v1076
  let c0_i32_419 : BitVec 32 := 0#32
  let v1089 : BitVec 32 := Scalar.maxsi v1083 c0_i32_419
  let c3_i32_420 : BitVec 32 := 3#32
  let v1090 : BitVec 32 := Scalar.minsi v1089 c3_i32_420
  let c1_i32_436 : BitVec 32 := 1#32
  let v1130 : BitVec 32 := Scalar.subi v1090 c1_i32_436
  let c0_i32_437 : BitVec 32 := 0#32
  let v1131 : BitVec 1 := Scalar.cmpi .ne v1130 c0_i32_437
  v1131

def k0_cond7 (i : grid0.Coords) : BitVec 1 :=
  let arg2 : BitVec 32 := BitVec.ofNat 32 (i 2).val
  let c4_i32_413 : BitVec 32 := 4#32
  let c0_i32_414 : BitVec 32 := 0#32
  let v1074 : BitVec 1 := Scalar.cmpi .eq c4_i32_413 c0_i32_414
  let c1_i32_415 : BitVec 32 := 1#32
  let v1075 : BitVec 32 := Scalar.select v1074 c1_i32_415 c4_i32_413
  let v1076 : BitVec 32 := Scalar.remsi arg2 v1075
  let c0_i32_417 : BitVec 32 := 0#32
  let v1078 : BitVec 1 := Scalar.cmpi .slt v1076 c0_i32_417
  let c0_i32_418 : BitVec 32 := 0#32
  let v1079 : BitVec 1 := Scalar.cmpi .slt v1075 c0_i32_418
  let v1080 : BitVec 1 := Scalar.xori v1078 v1079
  let c0_i32_416 : BitVec 32 := 0#32
  let v1077 : BitVec 1 := Scalar.cmpi .ne v1076 c0_i32_416
  let v1081 : BitVec 1 := Scalar.andi v1080 v1077
  let v1082 : BitVec 32 := Scalar.addi v1076 v1075
  let v1083 : BitVec 32 := Scalar.select v1081 v1082 v1076
  let c0_i32_419 : BitVec 32 := 0#32
  let v1089 : BitVec 32 := Scalar.maxsi v1083 c0_i32_419
  let c3_i32_420 : BitVec 32 := 3#32
  let v1090 : BitVec 32 := Scalar.minsi v1089 c3_i32_420
  let c1_i32_436 : BitVec 32 := 1#32
  let v1130 : BitVec 32 := Scalar.subi v1090 c1_i32_436
  let c1_i32_438 : BitVec 32 := 1#32
  let v1133 : BitVec 32 := Scalar.subi v1130 c1_i32_438
  let c0_i32_439 : BitVec 32 := 0#32
  let v1134 : BitVec 1 := Scalar.cmpi .ne v1133 c0_i32_439
  v1134

def k0_off243 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1159 : Index := Scalar.indexCast v1145
  let c0_456 : Index := 0#32
  let c0_457 : Index := 0#32
  let c0_458 : Index := 0#32
  let c0_459 : Index := 0#32
  ![v1159.toNat, 0, 0, 0, 0]
def k0_off244 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1162 : Index := Scalar.indexCast v1145
  let c1_460 : Index := 1#32
  let c0_461 : Index := 0#32
  let c0_462 : Index := 0#32
  let c0_463 : Index := 0#32
  ![v1162.toNat, 1, 0, 0, 0]
def k0_off245 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1175 : Index := Scalar.indexCast v1145
  let c2_467 : Index := 2#32
  let c0_468 : Index := 0#32
  let c0_469 : Index := 0#32
  let c0_470 : Index := 0#32
  ![v1175.toNat, 2, 0, 0, 0]
def k0_off246 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1178 : Index := Scalar.indexCast v1145
  let c3_471 : Index := 3#32
  let c0_472 : Index := 0#32
  let c0_473 : Index := 0#32
  let c0_474 : Index := 0#32
  ![v1178.toNat, 3, 0, 0, 0]
def k0_off247 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1191 : Index := Scalar.indexCast v1145
  let c4 : Index := 4#32
  let c0_478 : Index := 0#32
  let c0_479 : Index := 0#32
  let c0_480 : Index := 0#32
  ![v1191.toNat, 4, 0, 0, 0]
def k0_off248 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1194 : Index := Scalar.indexCast v1145
  let c5 : Index := 5#32
  let c0_481 : Index := 0#32
  let c0_482 : Index := 0#32
  let c0_483 : Index := 0#32
  ![v1194.toNat, 5, 0, 0, 0]
def k0_off249 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1207 : Index := Scalar.indexCast v1145
  let c6 : Index := 6#32
  let c0_487 : Index := 0#32
  let c0_488 : Index := 0#32
  let c0_489 : Index := 0#32
  ![v1207.toNat, 6, 0, 0, 0]
def k0_off250 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1210 : Index := Scalar.indexCast v1145
  let c7 : Index := 7#32
  let c0_490 : Index := 0#32
  let c0_491 : Index := 0#32
  let c0_492 : Index := 0#32
  ![v1210.toNat, 7, 0, 0, 0]
def k0_off251 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1223 : Index := Scalar.indexCast v1145
  let c8 : Index := 8#32
  let c0_496 : Index := 0#32
  let c0_497 : Index := 0#32
  let c0_498 : Index := 0#32
  ![v1223.toNat, 8, 0, 0, 0]
def k0_off252 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1226 : Index := Scalar.indexCast v1145
  let c9 : Index := 9#32
  let c0_499 : Index := 0#32
  let c0_500 : Index := 0#32
  let c0_501 : Index := 0#32
  ![v1226.toNat, 9, 0, 0, 0]
def k0_off253 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1239 : Index := Scalar.indexCast v1145
  let c10 : Index := 10#32
  let c0_505 : Index := 0#32
  let c0_506 : Index := 0#32
  let c0_507 : Index := 0#32
  ![v1239.toNat, 10, 0, 0, 0]
def k0_off254 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1242 : Index := Scalar.indexCast v1145
  let c11 : Index := 11#32
  let c0_508 : Index := 0#32
  let c0_509 : Index := 0#32
  let c0_510 : Index := 0#32
  ![v1242.toNat, 11, 0, 0, 0]
def k0_off255 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1255 : Index := Scalar.indexCast v1145
  let c12 : Index := 12#32
  let c0_514 : Index := 0#32
  let c0_515 : Index := 0#32
  let c0_516 : Index := 0#32
  ![v1255.toNat, 12, 0, 0, 0]
def k0_off256 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1258 : Index := Scalar.indexCast v1145
  let c13 : Index := 13#32
  let c0_517 : Index := 0#32
  let c0_518 : Index := 0#32
  let c0_519 : Index := 0#32
  ![v1258.toNat, 13, 0, 0, 0]
def k0_off257 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1271 : Index := Scalar.indexCast v1145
  let c14 : Index := 14#32
  let c0_523 : Index := 0#32
  let c0_524 : Index := 0#32
  let c0_525 : Index := 0#32
  ![v1271.toNat, 14, 0, 0, 0]
def k0_off258 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1274 : Index := Scalar.indexCast v1145
  let c15 : Index := 15#32
  let c0_526 : Index := 0#32
  let c0_527 : Index := 0#32
  let c0_528 : Index := 0#32
  ![v1274.toNat, 15, 0, 0, 0]
def k0_off259 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1287 : Index := Scalar.indexCast v1145
  let c16 : Index := 16#32
  let c0_532 : Index := 0#32
  let c0_533 : Index := 0#32
  let c0_534 : Index := 0#32
  ![v1287.toNat, 16, 0, 0, 0]
def k0_off260 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1290 : Index := Scalar.indexCast v1145
  let c17 : Index := 17#32
  let c0_535 : Index := 0#32
  let c0_536 : Index := 0#32
  let c0_537 : Index := 0#32
  ![v1290.toNat, 17, 0, 0, 0]
def k0_off261 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1303 : Index := Scalar.indexCast v1145
  let c18 : Index := 18#32
  let c0_541 : Index := 0#32
  let c0_542 : Index := 0#32
  let c0_543 : Index := 0#32
  ![v1303.toNat, 18, 0, 0, 0]
def k0_off262 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1306 : Index := Scalar.indexCast v1145
  let c19 : Index := 19#32
  let c0_544 : Index := 0#32
  let c0_545 : Index := 0#32
  let c0_546 : Index := 0#32
  ![v1306.toNat, 19, 0, 0, 0]
def k0_off263 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1319 : Index := Scalar.indexCast v1145
  let c20 : Index := 20#32
  let c0_550 : Index := 0#32
  let c0_551 : Index := 0#32
  let c0_552 : Index := 0#32
  ![v1319.toNat, 20, 0, 0, 0]
def k0_off264 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1322 : Index := Scalar.indexCast v1145
  let c21 : Index := 21#32
  let c0_553 : Index := 0#32
  let c0_554 : Index := 0#32
  let c0_555 : Index := 0#32
  ![v1322.toNat, 21, 0, 0, 0]
def k0_off265 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1335 : Index := Scalar.indexCast v1145
  let c22 : Index := 22#32
  let c0_559 : Index := 0#32
  let c0_560 : Index := 0#32
  let c0_561 : Index := 0#32
  ![v1335.toNat, 22, 0, 0, 0]
def k0_off266 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1338 : Index := Scalar.indexCast v1145
  let c23 : Index := 23#32
  let c0_562 : Index := 0#32
  let c0_563 : Index := 0#32
  let c0_564 : Index := 0#32
  ![v1338.toNat, 23, 0, 0, 0]
def k0_off267 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1351 : Index := Scalar.indexCast v1145
  let c24 : Index := 24#32
  let c0_568 : Index := 0#32
  let c0_569 : Index := 0#32
  let c0_570 : Index := 0#32
  ![v1351.toNat, 24, 0, 0, 0]
def k0_off268 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1354 : Index := Scalar.indexCast v1145
  let c25 : Index := 25#32
  let c0_571 : Index := 0#32
  let c0_572 : Index := 0#32
  let c0_573 : Index := 0#32
  ![v1354.toNat, 25, 0, 0, 0]
def k0_off269 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1367 : Index := Scalar.indexCast v1145
  let c26 : Index := 26#32
  let c0_577 : Index := 0#32
  let c0_578 : Index := 0#32
  let c0_579 : Index := 0#32
  ![v1367.toNat, 26, 0, 0, 0]
def k0_off270 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1370 : Index := Scalar.indexCast v1145
  let c27 : Index := 27#32
  let c0_580 : Index := 0#32
  let c0_581 : Index := 0#32
  let c0_582 : Index := 0#32
  ![v1370.toNat, 27, 0, 0, 0]
def k0_off271 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1383 : Index := Scalar.indexCast v1145
  let c28 : Index := 28#32
  let c0_586 : Index := 0#32
  let c0_587 : Index := 0#32
  let c0_588 : Index := 0#32
  ![v1383.toNat, 28, 0, 0, 0]
def k0_off272 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1386 : Index := Scalar.indexCast v1145
  let c29 : Index := 29#32
  let c0_589 : Index := 0#32
  let c0_590 : Index := 0#32
  let c0_591 : Index := 0#32
  ![v1386.toNat, 29, 0, 0, 0]
def k0_off273 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1399 : Index := Scalar.indexCast v1145
  let c30 : Index := 30#32
  let c0_595 : Index := 0#32
  let c0_596 : Index := 0#32
  let c0_597 : Index := 0#32
  ![v1399.toNat, 30, 0, 0, 0]
def k0_off274 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1402 : Index := Scalar.indexCast v1145
  let c31 : Index := 31#32
  let c0_598 : Index := 0#32
  let c0_599 : Index := 0#32
  let c0_600 : Index := 0#32
  ![v1402.toNat, 31, 0, 0, 0]
def k0_off275 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1420 : Index := Scalar.indexCast v1145
  let c0_612 : Index := 0#32
  let c1_613 : Index := 1#32
  let c0_614 : Index := 0#32
  let c0_615 : Index := 0#32
  ![v1420.toNat, 0, 1, 0, 0]
def k0_off276 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1423 : Index := Scalar.indexCast v1145
  let c1_616 : Index := 1#32
  let c1_617 : Index := 1#32
  let c0_618 : Index := 0#32
  let c0_619 : Index := 0#32
  ![v1423.toNat, 1, 1, 0, 0]
def k0_off277 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1436 : Index := Scalar.indexCast v1145
  let c2_623 : Index := 2#32
  let c1_624 : Index := 1#32
  let c0_625 : Index := 0#32
  let c0_626 : Index := 0#32
  ![v1436.toNat, 2, 1, 0, 0]
def k0_off278 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1439 : Index := Scalar.indexCast v1145
  let c3_627 : Index := 3#32
  let c1_628 : Index := 1#32
  let c0_629 : Index := 0#32
  let c0_630 : Index := 0#32
  ![v1439.toNat, 3, 1, 0, 0]
def k0_off279 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1452 : Index := Scalar.indexCast v1145
  let c4_634 : Index := 4#32
  let c1_635 : Index := 1#32
  let c0_636 : Index := 0#32
  let c0_637 : Index := 0#32
  ![v1452.toNat, 4, 1, 0, 0]
def k0_off280 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1455 : Index := Scalar.indexCast v1145
  let c5_638 : Index := 5#32
  let c1_639 : Index := 1#32
  let c0_640 : Index := 0#32
  let c0_641 : Index := 0#32
  ![v1455.toNat, 5, 1, 0, 0]
def k0_off281 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1468 : Index := Scalar.indexCast v1145
  let c6_645 : Index := 6#32
  let c1_646 : Index := 1#32
  let c0_647 : Index := 0#32
  let c0_648 : Index := 0#32
  ![v1468.toNat, 6, 1, 0, 0]
def k0_off282 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1471 : Index := Scalar.indexCast v1145
  let c7_649 : Index := 7#32
  let c1_650 : Index := 1#32
  let c0_651 : Index := 0#32
  let c0_652 : Index := 0#32
  ![v1471.toNat, 7, 1, 0, 0]
def k0_off283 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1484 : Index := Scalar.indexCast v1145
  let c8_656 : Index := 8#32
  let c1_657 : Index := 1#32
  let c0_658 : Index := 0#32
  let c0_659 : Index := 0#32
  ![v1484.toNat, 8, 1, 0, 0]
def k0_off284 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1487 : Index := Scalar.indexCast v1145
  let c9_660 : Index := 9#32
  let c1_661 : Index := 1#32
  let c0_662 : Index := 0#32
  let c0_663 : Index := 0#32
  ![v1487.toNat, 9, 1, 0, 0]
def k0_off285 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1500 : Index := Scalar.indexCast v1145
  let c10_667 : Index := 10#32
  let c1_668 : Index := 1#32
  let c0_669 : Index := 0#32
  let c0_670 : Index := 0#32
  ![v1500.toNat, 10, 1, 0, 0]
def k0_off286 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1503 : Index := Scalar.indexCast v1145
  let c11_671 : Index := 11#32
  let c1_672 : Index := 1#32
  let c0_673 : Index := 0#32
  let c0_674 : Index := 0#32
  ![v1503.toNat, 11, 1, 0, 0]
def k0_off287 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1516 : Index := Scalar.indexCast v1145
  let c12_678 : Index := 12#32
  let c1_679 : Index := 1#32
  let c0_680 : Index := 0#32
  let c0_681 : Index := 0#32
  ![v1516.toNat, 12, 1, 0, 0]
def k0_off288 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1519 : Index := Scalar.indexCast v1145
  let c13_682 : Index := 13#32
  let c1_683 : Index := 1#32
  let c0_684 : Index := 0#32
  let c0_685 : Index := 0#32
  ![v1519.toNat, 13, 1, 0, 0]
def k0_off289 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1532 : Index := Scalar.indexCast v1145
  let c14_689 : Index := 14#32
  let c1_690 : Index := 1#32
  let c0_691 : Index := 0#32
  let c0_692 : Index := 0#32
  ![v1532.toNat, 14, 1, 0, 0]
def k0_off290 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1535 : Index := Scalar.indexCast v1145
  let c15_693 : Index := 15#32
  let c1_694 : Index := 1#32
  let c0_695 : Index := 0#32
  let c0_696 : Index := 0#32
  ![v1535.toNat, 15, 1, 0, 0]
def k0_off291 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1548 : Index := Scalar.indexCast v1145
  let c16_700 : Index := 16#32
  let c1_701 : Index := 1#32
  let c0_702 : Index := 0#32
  let c0_703 : Index := 0#32
  ![v1548.toNat, 16, 1, 0, 0]
def k0_off292 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1551 : Index := Scalar.indexCast v1145
  let c17_704 : Index := 17#32
  let c1_705 : Index := 1#32
  let c0_706 : Index := 0#32
  let c0_707 : Index := 0#32
  ![v1551.toNat, 17, 1, 0, 0]
def k0_off293 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1564 : Index := Scalar.indexCast v1145
  let c18_711 : Index := 18#32
  let c1_712 : Index := 1#32
  let c0_713 : Index := 0#32
  let c0_714 : Index := 0#32
  ![v1564.toNat, 18, 1, 0, 0]
def k0_off294 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1567 : Index := Scalar.indexCast v1145
  let c19_715 : Index := 19#32
  let c1_716 : Index := 1#32
  let c0_717 : Index := 0#32
  let c0_718 : Index := 0#32
  ![v1567.toNat, 19, 1, 0, 0]
def k0_off295 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1580 : Index := Scalar.indexCast v1145
  let c20_722 : Index := 20#32
  let c1_723 : Index := 1#32
  let c0_724 : Index := 0#32
  let c0_725 : Index := 0#32
  ![v1580.toNat, 20, 1, 0, 0]
def k0_off296 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1583 : Index := Scalar.indexCast v1145
  let c21_726 : Index := 21#32
  let c1_727 : Index := 1#32
  let c0_728 : Index := 0#32
  let c0_729 : Index := 0#32
  ![v1583.toNat, 21, 1, 0, 0]
def k0_off297 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1596 : Index := Scalar.indexCast v1145
  let c22_733 : Index := 22#32
  let c1_734 : Index := 1#32
  let c0_735 : Index := 0#32
  let c0_736 : Index := 0#32
  ![v1596.toNat, 22, 1, 0, 0]
def k0_off298 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1599 : Index := Scalar.indexCast v1145
  let c23_737 : Index := 23#32
  let c1_738 : Index := 1#32
  let c0_739 : Index := 0#32
  let c0_740 : Index := 0#32
  ![v1599.toNat, 23, 1, 0, 0]
def k0_off299 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1612 : Index := Scalar.indexCast v1145
  let c24_744 : Index := 24#32
  let c1_745 : Index := 1#32
  let c0_746 : Index := 0#32
  let c0_747 : Index := 0#32
  ![v1612.toNat, 24, 1, 0, 0]
def k0_off300 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1615 : Index := Scalar.indexCast v1145
  let c25_748 : Index := 25#32
  let c1_749 : Index := 1#32
  let c0_750 : Index := 0#32
  let c0_751 : Index := 0#32
  ![v1615.toNat, 25, 1, 0, 0]
def k0_off301 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1628 : Index := Scalar.indexCast v1145
  let c26_755 : Index := 26#32
  let c1_756 : Index := 1#32
  let c0_757 : Index := 0#32
  let c0_758 : Index := 0#32
  ![v1628.toNat, 26, 1, 0, 0]
def k0_off302 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1631 : Index := Scalar.indexCast v1145
  let c27_759 : Index := 27#32
  let c1_760 : Index := 1#32
  let c0_761 : Index := 0#32
  let c0_762 : Index := 0#32
  ![v1631.toNat, 27, 1, 0, 0]
def k0_off303 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1644 : Index := Scalar.indexCast v1145
  let c28_766 : Index := 28#32
  let c1_767 : Index := 1#32
  let c0_768 : Index := 0#32
  let c0_769 : Index := 0#32
  ![v1644.toNat, 28, 1, 0, 0]
def k0_off304 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1647 : Index := Scalar.indexCast v1145
  let c29_770 : Index := 29#32
  let c1_771 : Index := 1#32
  let c0_772 : Index := 0#32
  let c0_773 : Index := 0#32
  ![v1647.toNat, 29, 1, 0, 0]
def k0_off305 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1660 : Index := Scalar.indexCast v1145
  let c30_777 : Index := 30#32
  let c1_778 : Index := 1#32
  let c0_779 : Index := 0#32
  let c0_780 : Index := 0#32
  ![v1660.toNat, 30, 1, 0, 0]
def k0_off306 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1663 : Index := Scalar.indexCast v1145
  let c31_781 : Index := 31#32
  let c1_782 : Index := 1#32
  let c0_783 : Index := 0#32
  let c0_784 : Index := 0#32
  ![v1663.toNat, 31, 1, 0, 0]
def k0_off307 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1681 : Index := Scalar.indexCast v1145
  let c0_796 : Index := 0#32
  let c2_797 : Index := 2#32
  let c0_798 : Index := 0#32
  let c0_799 : Index := 0#32
  ![v1681.toNat, 0, 2, 0, 0]
def k0_off308 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1684 : Index := Scalar.indexCast v1145
  let c1_800 : Index := 1#32
  let c2_801 : Index := 2#32
  let c0_802 : Index := 0#32
  let c0_803 : Index := 0#32
  ![v1684.toNat, 1, 2, 0, 0]
def k0_off309 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1697 : Index := Scalar.indexCast v1145
  let c2_807 : Index := 2#32
  let c2_808 : Index := 2#32
  let c0_809 : Index := 0#32
  let c0_810 : Index := 0#32
  ![v1697.toNat, 2, 2, 0, 0]
def k0_off310 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1700 : Index := Scalar.indexCast v1145
  let c3_811 : Index := 3#32
  let c2_812 : Index := 2#32
  let c0_813 : Index := 0#32
  let c0_814 : Index := 0#32
  ![v1700.toNat, 3, 2, 0, 0]
def k0_off311 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1713 : Index := Scalar.indexCast v1145
  let c4_818 : Index := 4#32
  let c2_819 : Index := 2#32
  let c0_820 : Index := 0#32
  let c0_821 : Index := 0#32
  ![v1713.toNat, 4, 2, 0, 0]
def k0_off312 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1716 : Index := Scalar.indexCast v1145
  let c5_822 : Index := 5#32
  let c2_823 : Index := 2#32
  let c0_824 : Index := 0#32
  let c0_825 : Index := 0#32
  ![v1716.toNat, 5, 2, 0, 0]
def k0_off313 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1729 : Index := Scalar.indexCast v1145
  let c6_829 : Index := 6#32
  let c2_830 : Index := 2#32
  let c0_831 : Index := 0#32
  let c0_832 : Index := 0#32
  ![v1729.toNat, 6, 2, 0, 0]
def k0_off314 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1732 : Index := Scalar.indexCast v1145
  let c7_833 : Index := 7#32
  let c2_834 : Index := 2#32
  let c0_835 : Index := 0#32
  let c0_836 : Index := 0#32
  ![v1732.toNat, 7, 2, 0, 0]
def k0_off315 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1745 : Index := Scalar.indexCast v1145
  let c8_840 : Index := 8#32
  let c2_841 : Index := 2#32
  let c0_842 : Index := 0#32
  let c0_843 : Index := 0#32
  ![v1745.toNat, 8, 2, 0, 0]
def k0_off316 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1748 : Index := Scalar.indexCast v1145
  let c9_844 : Index := 9#32
  let c2_845 : Index := 2#32
  let c0_846 : Index := 0#32
  let c0_847 : Index := 0#32
  ![v1748.toNat, 9, 2, 0, 0]
def k0_off317 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1761 : Index := Scalar.indexCast v1145
  let c10_851 : Index := 10#32
  let c2_852 : Index := 2#32
  let c0_853 : Index := 0#32
  let c0_854 : Index := 0#32
  ![v1761.toNat, 10, 2, 0, 0]
def k0_off318 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1764 : Index := Scalar.indexCast v1145
  let c11_855 : Index := 11#32
  let c2_856 : Index := 2#32
  let c0_857 : Index := 0#32
  let c0_858 : Index := 0#32
  ![v1764.toNat, 11, 2, 0, 0]
def k0_off319 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1777 : Index := Scalar.indexCast v1145
  let c12_862 : Index := 12#32
  let c2_863 : Index := 2#32
  let c0_864 : Index := 0#32
  let c0_865 : Index := 0#32
  ![v1777.toNat, 12, 2, 0, 0]
def k0_off320 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1780 : Index := Scalar.indexCast v1145
  let c13_866 : Index := 13#32
  let c2_867 : Index := 2#32
  let c0_868 : Index := 0#32
  let c0_869 : Index := 0#32
  ![v1780.toNat, 13, 2, 0, 0]
def k0_off321 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1793 : Index := Scalar.indexCast v1145
  let c14_873 : Index := 14#32
  let c2_874 : Index := 2#32
  let c0_875 : Index := 0#32
  let c0_876 : Index := 0#32
  ![v1793.toNat, 14, 2, 0, 0]
def k0_off322 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1796 : Index := Scalar.indexCast v1145
  let c15_877 : Index := 15#32
  let c2_878 : Index := 2#32
  let c0_879 : Index := 0#32
  let c0_880 : Index := 0#32
  ![v1796.toNat, 15, 2, 0, 0]
def k0_off323 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1809 : Index := Scalar.indexCast v1145
  let c16_884 : Index := 16#32
  let c2_885 : Index := 2#32
  let c0_886 : Index := 0#32
  let c0_887 : Index := 0#32
  ![v1809.toNat, 16, 2, 0, 0]
def k0_off324 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1812 : Index := Scalar.indexCast v1145
  let c17_888 : Index := 17#32
  let c2_889 : Index := 2#32
  let c0_890 : Index := 0#32
  let c0_891 : Index := 0#32
  ![v1812.toNat, 17, 2, 0, 0]
def k0_off325 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1825 : Index := Scalar.indexCast v1145
  let c18_895 : Index := 18#32
  let c2_896 : Index := 2#32
  let c0_897 : Index := 0#32
  let c0_898 : Index := 0#32
  ![v1825.toNat, 18, 2, 0, 0]
def k0_off326 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1828 : Index := Scalar.indexCast v1145
  let c19_899 : Index := 19#32
  let c2_900 : Index := 2#32
  let c0_901 : Index := 0#32
  let c0_902 : Index := 0#32
  ![v1828.toNat, 19, 2, 0, 0]
def k0_off327 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1841 : Index := Scalar.indexCast v1145
  let c20_906 : Index := 20#32
  let c2_907 : Index := 2#32
  let c0_908 : Index := 0#32
  let c0_909 : Index := 0#32
  ![v1841.toNat, 20, 2, 0, 0]
def k0_off328 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1844 : Index := Scalar.indexCast v1145
  let c21_910 : Index := 21#32
  let c2_911 : Index := 2#32
  let c0_912 : Index := 0#32
  let c0_913 : Index := 0#32
  ![v1844.toNat, 21, 2, 0, 0]
def k0_off329 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1857 : Index := Scalar.indexCast v1145
  let c22_917 : Index := 22#32
  let c2_918 : Index := 2#32
  let c0_919 : Index := 0#32
  let c0_920 : Index := 0#32
  ![v1857.toNat, 22, 2, 0, 0]
def k0_off330 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1860 : Index := Scalar.indexCast v1145
  let c23_921 : Index := 23#32
  let c2_922 : Index := 2#32
  let c0_923 : Index := 0#32
  let c0_924 : Index := 0#32
  ![v1860.toNat, 23, 2, 0, 0]
def k0_off331 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1873 : Index := Scalar.indexCast v1145
  let c24_928 : Index := 24#32
  let c2_929 : Index := 2#32
  let c0_930 : Index := 0#32
  let c0_931 : Index := 0#32
  ![v1873.toNat, 24, 2, 0, 0]
def k0_off332 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1876 : Index := Scalar.indexCast v1145
  let c25_932 : Index := 25#32
  let c2_933 : Index := 2#32
  let c0_934 : Index := 0#32
  let c0_935 : Index := 0#32
  ![v1876.toNat, 25, 2, 0, 0]
def k0_off333 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1889 : Index := Scalar.indexCast v1145
  let c26_939 : Index := 26#32
  let c2_940 : Index := 2#32
  let c0_941 : Index := 0#32
  let c0_942 : Index := 0#32
  ![v1889.toNat, 26, 2, 0, 0]
def k0_off334 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1892 : Index := Scalar.indexCast v1145
  let c27_943 : Index := 27#32
  let c2_944 : Index := 2#32
  let c0_945 : Index := 0#32
  let c0_946 : Index := 0#32
  ![v1892.toNat, 27, 2, 0, 0]
def k0_off335 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1905 : Index := Scalar.indexCast v1145
  let c28_950 : Index := 28#32
  let c2_951 : Index := 2#32
  let c0_952 : Index := 0#32
  let c0_953 : Index := 0#32
  ![v1905.toNat, 28, 2, 0, 0]
def k0_off336 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1908 : Index := Scalar.indexCast v1145
  let c29_954 : Index := 29#32
  let c2_955 : Index := 2#32
  let c0_956 : Index := 0#32
  let c0_957 : Index := 0#32
  ![v1908.toNat, 29, 2, 0, 0]
def k0_off337 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1921 : Index := Scalar.indexCast v1145
  let c30_961 : Index := 30#32
  let c2_962 : Index := 2#32
  let c0_963 : Index := 0#32
  let c0_964 : Index := 0#32
  ![v1921.toNat, 30, 2, 0, 0]
def k0_off338 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1924 : Index := Scalar.indexCast v1145
  let c31_965 : Index := 31#32
  let c2_966 : Index := 2#32
  let c0_967 : Index := 0#32
  let c0_968 : Index := 0#32
  ![v1924.toNat, 31, 2, 0, 0]
def k0_off339 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1942 : Index := Scalar.indexCast v1145
  let c0_980 : Index := 0#32
  let c3_981 : Index := 3#32
  let c0_982 : Index := 0#32
  let c0_983 : Index := 0#32
  ![v1942.toNat, 0, 3, 0, 0]
def k0_off340 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1945 : Index := Scalar.indexCast v1145
  let c1_984 : Index := 1#32
  let c3_985 : Index := 3#32
  let c0_986 : Index := 0#32
  let c0_987 : Index := 0#32
  ![v1945.toNat, 1, 3, 0, 0]
def k0_off341 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1958 : Index := Scalar.indexCast v1145
  let c2_991 : Index := 2#32
  let c3_992 : Index := 3#32
  let c0_993 : Index := 0#32
  let c0_994 : Index := 0#32
  ![v1958.toNat, 2, 3, 0, 0]
def k0_off342 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1961 : Index := Scalar.indexCast v1145
  let c3_995 : Index := 3#32
  let c3_996 : Index := 3#32
  let c0_997 : Index := 0#32
  let c0_998 : Index := 0#32
  ![v1961.toNat, 3, 3, 0, 0]
def k0_off343 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1974 : Index := Scalar.indexCast v1145
  let c4_1002 : Index := 4#32
  let c3_1003 : Index := 3#32
  let c0_1004 : Index := 0#32
  let c0_1005 : Index := 0#32
  ![v1974.toNat, 4, 3, 0, 0]
def k0_off344 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1977 : Index := Scalar.indexCast v1145
  let c5_1006 : Index := 5#32
  let c3_1007 : Index := 3#32
  let c0_1008 : Index := 0#32
  let c0_1009 : Index := 0#32
  ![v1977.toNat, 5, 3, 0, 0]
def k0_off345 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1990 : Index := Scalar.indexCast v1145
  let c6_1013 : Index := 6#32
  let c3_1014 : Index := 3#32
  let c0_1015 : Index := 0#32
  let c0_1016 : Index := 0#32
  ![v1990.toNat, 6, 3, 0, 0]
def k0_off346 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1993 : Index := Scalar.indexCast v1145
  let c7_1017 : Index := 7#32
  let c3_1018 : Index := 3#32
  let c0_1019 : Index := 0#32
  let c0_1020 : Index := 0#32
  ![v1993.toNat, 7, 3, 0, 0]
def k0_off347 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2006 : Index := Scalar.indexCast v1145
  let c8_1024 : Index := 8#32
  let c3_1025 : Index := 3#32
  let c0_1026 : Index := 0#32
  let c0_1027 : Index := 0#32
  ![v2006.toNat, 8, 3, 0, 0]
def k0_off348 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2009 : Index := Scalar.indexCast v1145
  let c9_1028 : Index := 9#32
  let c3_1029 : Index := 3#32
  let c0_1030 : Index := 0#32
  let c0_1031 : Index := 0#32
  ![v2009.toNat, 9, 3, 0, 0]
def k0_off349 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2022 : Index := Scalar.indexCast v1145
  let c10_1035 : Index := 10#32
  let c3_1036 : Index := 3#32
  let c0_1037 : Index := 0#32
  let c0_1038 : Index := 0#32
  ![v2022.toNat, 10, 3, 0, 0]
def k0_off350 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2025 : Index := Scalar.indexCast v1145
  let c11_1039 : Index := 11#32
  let c3_1040 : Index := 3#32
  let c0_1041 : Index := 0#32
  let c0_1042 : Index := 0#32
  ![v2025.toNat, 11, 3, 0, 0]
def k0_off351 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2038 : Index := Scalar.indexCast v1145
  let c12_1046 : Index := 12#32
  let c3_1047 : Index := 3#32
  let c0_1048 : Index := 0#32
  let c0_1049 : Index := 0#32
  ![v2038.toNat, 12, 3, 0, 0]
def k0_off352 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2041 : Index := Scalar.indexCast v1145
  let c13_1050 : Index := 13#32
  let c3_1051 : Index := 3#32
  let c0_1052 : Index := 0#32
  let c0_1053 : Index := 0#32
  ![v2041.toNat, 13, 3, 0, 0]
def k0_off353 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2054 : Index := Scalar.indexCast v1145
  let c14_1057 : Index := 14#32
  let c3_1058 : Index := 3#32
  let c0_1059 : Index := 0#32
  let c0_1060 : Index := 0#32
  ![v2054.toNat, 14, 3, 0, 0]
def k0_off354 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2057 : Index := Scalar.indexCast v1145
  let c15_1061 : Index := 15#32
  let c3_1062 : Index := 3#32
  let c0_1063 : Index := 0#32
  let c0_1064 : Index := 0#32
  ![v2057.toNat, 15, 3, 0, 0]
def k0_off355 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2070 : Index := Scalar.indexCast v1145
  let c16_1068 : Index := 16#32
  let c3_1069 : Index := 3#32
  let c0_1070 : Index := 0#32
  let c0_1071 : Index := 0#32
  ![v2070.toNat, 16, 3, 0, 0]
def k0_off356 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2073 : Index := Scalar.indexCast v1145
  let c17_1072 : Index := 17#32
  let c3_1073 : Index := 3#32
  let c0_1074 : Index := 0#32
  let c0_1075 : Index := 0#32
  ![v2073.toNat, 17, 3, 0, 0]
def k0_off357 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2086 : Index := Scalar.indexCast v1145
  let c18_1079 : Index := 18#32
  let c3_1080 : Index := 3#32
  let c0_1081 : Index := 0#32
  let c0_1082 : Index := 0#32
  ![v2086.toNat, 18, 3, 0, 0]
def k0_off358 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2089 : Index := Scalar.indexCast v1145
  let c19_1083 : Index := 19#32
  let c3_1084 : Index := 3#32
  let c0_1085 : Index := 0#32
  let c0_1086 : Index := 0#32
  ![v2089.toNat, 19, 3, 0, 0]
def k0_off359 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2102 : Index := Scalar.indexCast v1145
  let c20_1090 : Index := 20#32
  let c3_1091 : Index := 3#32
  let c0_1092 : Index := 0#32
  let c0_1093 : Index := 0#32
  ![v2102.toNat, 20, 3, 0, 0]
def k0_off360 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2105 : Index := Scalar.indexCast v1145
  let c21_1094 : Index := 21#32
  let c3_1095 : Index := 3#32
  let c0_1096 : Index := 0#32
  let c0_1097 : Index := 0#32
  ![v2105.toNat, 21, 3, 0, 0]
def k0_off361 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2118 : Index := Scalar.indexCast v1145
  let c22_1101 : Index := 22#32
  let c3_1102 : Index := 3#32
  let c0_1103 : Index := 0#32
  let c0_1104 : Index := 0#32
  ![v2118.toNat, 22, 3, 0, 0]
def k0_off362 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2121 : Index := Scalar.indexCast v1145
  let c23_1105 : Index := 23#32
  let c3_1106 : Index := 3#32
  let c0_1107 : Index := 0#32
  let c0_1108 : Index := 0#32
  ![v2121.toNat, 23, 3, 0, 0]
def k0_off363 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2134 : Index := Scalar.indexCast v1145
  let c24_1112 : Index := 24#32
  let c3_1113 : Index := 3#32
  let c0_1114 : Index := 0#32
  let c0_1115 : Index := 0#32
  ![v2134.toNat, 24, 3, 0, 0]
def k0_off364 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2137 : Index := Scalar.indexCast v1145
  let c25_1116 : Index := 25#32
  let c3_1117 : Index := 3#32
  let c0_1118 : Index := 0#32
  let c0_1119 : Index := 0#32
  ![v2137.toNat, 25, 3, 0, 0]
def k0_off365 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2150 : Index := Scalar.indexCast v1145
  let c26_1123 : Index := 26#32
  let c3_1124 : Index := 3#32
  let c0_1125 : Index := 0#32
  let c0_1126 : Index := 0#32
  ![v2150.toNat, 26, 3, 0, 0]
def k0_off366 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2153 : Index := Scalar.indexCast v1145
  let c27_1127 : Index := 27#32
  let c3_1128 : Index := 3#32
  let c0_1129 : Index := 0#32
  let c0_1130 : Index := 0#32
  ![v2153.toNat, 27, 3, 0, 0]
def k0_off367 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2166 : Index := Scalar.indexCast v1145
  let c28_1134 : Index := 28#32
  let c3_1135 : Index := 3#32
  let c0_1136 : Index := 0#32
  let c0_1137 : Index := 0#32
  ![v2166.toNat, 28, 3, 0, 0]
def k0_off368 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2169 : Index := Scalar.indexCast v1145
  let c29_1138 : Index := 29#32
  let c3_1139 : Index := 3#32
  let c0_1140 : Index := 0#32
  let c0_1141 : Index := 0#32
  ![v2169.toNat, 29, 3, 0, 0]
def k0_off369 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2182 : Index := Scalar.indexCast v1145
  let c30_1145 : Index := 30#32
  let c3_1146 : Index := 3#32
  let c0_1147 : Index := 0#32
  let c0_1148 : Index := 0#32
  ![v2182.toNat, 30, 3, 0, 0]
def k0_off370 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2185 : Index := Scalar.indexCast v1145
  let c31_1149 : Index := 31#32
  let c3_1150 : Index := 3#32
  let c0_1151 : Index := 0#32
  let c0_1152 : Index := 0#32
  ![v2185.toNat, 31, 3, 0, 0]
def k0_off371 (i : grid0.Coords) : Fin 3 → Nat :=
  let c0_1160 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2201 : Index := Scalar.indexCast v1085
  let c0_1161 : Index := 0#32
  ![0, v2201.toNat, 0]
def k0_off372 (i : grid0.Coords) (c0_i32_1164 : BitVec 32) : Fin 3 → Nat :=
  let c0_1165 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1163 : BitVec 32 := 4#32
  let v2206 : BitVec 32 := Scalar.muli v840 c4_i32_1163
  let v2207 : BitVec 32 := Scalar.addi v2206 c0_i32_1164
  let v2208 : Index := Scalar.indexCast v2207
  let c0_1166 : Index := 0#32
  ![0, v2208.toNat, 0]
def k0_off373 (i : grid0.Coords) : Fin 3 → Nat :=
  let c0_1176 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2233 : Index := Scalar.indexCast v1085
  let c0_1177 : Index := 0#32
  ![0, v2233.toNat, 0]
def k0_off374 (i : grid0.Coords) (c0_i32_1183 : BitVec 32) : Fin 3 → Nat :=
  let c1_1184 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1182 : BitVec 32 := 4#32
  let v2245 : BitVec 32 := Scalar.muli v840 c4_i32_1182
  let v2246 : BitVec 32 := Scalar.addi v2245 c0_i32_1183
  let v2247 : Index := Scalar.indexCast v2246
  let c0_1185 : Index := 0#32
  ![1, v2247.toNat, 0]
def k0_off375 (i : grid0.Coords) : Fin 3 → Nat :=
  let c1_1195 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2272 : Index := Scalar.indexCast v1085
  let c0_1196 : Index := 0#32
  ![1, v2272.toNat, 0]
def k0_off376 (i : grid0.Coords) (c0_i32_1202 : BitVec 32) : Fin 3 → Nat :=
  let c2_1203 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1201 : BitVec 32 := 4#32
  let v2284 : BitVec 32 := Scalar.muli v840 c4_i32_1201
  let v2285 : BitVec 32 := Scalar.addi v2284 c0_i32_1202
  let v2286 : Index := Scalar.indexCast v2285
  let c0_1204 : Index := 0#32
  ![2, v2286.toNat, 0]
def k0_off377 (i : grid0.Coords) : Fin 3 → Nat :=
  let c2_1214 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2311 : Index := Scalar.indexCast v1085
  let c0_1215 : Index := 0#32
  ![2, v2311.toNat, 0]
def k0_off378 (i : grid0.Coords) (c0_i32_1221 : BitVec 32) : Fin 3 → Nat :=
  let c3_1222 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1220 : BitVec 32 := 4#32
  let v2323 : BitVec 32 := Scalar.muli v840 c4_i32_1220
  let v2324 : BitVec 32 := Scalar.addi v2323 c0_i32_1221
  let v2325 : Index := Scalar.indexCast v2324
  let c0_1223 : Index := 0#32
  ![3, v2325.toNat, 0]
def k0_off379 (i : grid0.Coords) : Fin 3 → Nat :=
  let c3_1233 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2350 : Index := Scalar.indexCast v1085
  let c0_1234 : Index := 0#32
  ![3, v2350.toNat, 0]
def k0_off380 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1159 : Index := Scalar.indexCast v1145
  let c0_456 : Index := 0#32
  let c0_457 : Index := 0#32
  let c0_458 : Index := 0#32
  let c0_459 : Index := 0#32
  ![v1159.toNat, 0, 0, 0, 0]
def k0_off381 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1162 : Index := Scalar.indexCast v1145
  let c1_460 : Index := 1#32
  let c0_461 : Index := 0#32
  let c0_462 : Index := 0#32
  let c0_463 : Index := 0#32
  ![v1162.toNat, 1, 0, 0, 0]
def k0_off382 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1175 : Index := Scalar.indexCast v1145
  let c2_467 : Index := 2#32
  let c0_468 : Index := 0#32
  let c0_469 : Index := 0#32
  let c0_470 : Index := 0#32
  ![v1175.toNat, 2, 0, 0, 0]
def k0_off383 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1178 : Index := Scalar.indexCast v1145
  let c3_471 : Index := 3#32
  let c0_472 : Index := 0#32
  let c0_473 : Index := 0#32
  let c0_474 : Index := 0#32
  ![v1178.toNat, 3, 0, 0, 0]
def k0_off384 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1191 : Index := Scalar.indexCast v1145
  let c4 : Index := 4#32
  let c0_478 : Index := 0#32
  let c0_479 : Index := 0#32
  let c0_480 : Index := 0#32
  ![v1191.toNat, 4, 0, 0, 0]
def k0_off385 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1194 : Index := Scalar.indexCast v1145
  let c5 : Index := 5#32
  let c0_481 : Index := 0#32
  let c0_482 : Index := 0#32
  let c0_483 : Index := 0#32
  ![v1194.toNat, 5, 0, 0, 0]
def k0_off386 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1207 : Index := Scalar.indexCast v1145
  let c6 : Index := 6#32
  let c0_487 : Index := 0#32
  let c0_488 : Index := 0#32
  let c0_489 : Index := 0#32
  ![v1207.toNat, 6, 0, 0, 0]
def k0_off387 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1210 : Index := Scalar.indexCast v1145
  let c7 : Index := 7#32
  let c0_490 : Index := 0#32
  let c0_491 : Index := 0#32
  let c0_492 : Index := 0#32
  ![v1210.toNat, 7, 0, 0, 0]
def k0_off388 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1223 : Index := Scalar.indexCast v1145
  let c8 : Index := 8#32
  let c0_496 : Index := 0#32
  let c0_497 : Index := 0#32
  let c0_498 : Index := 0#32
  ![v1223.toNat, 8, 0, 0, 0]
def k0_off389 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1226 : Index := Scalar.indexCast v1145
  let c9 : Index := 9#32
  let c0_499 : Index := 0#32
  let c0_500 : Index := 0#32
  let c0_501 : Index := 0#32
  ![v1226.toNat, 9, 0, 0, 0]
def k0_off390 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1239 : Index := Scalar.indexCast v1145
  let c10 : Index := 10#32
  let c0_505 : Index := 0#32
  let c0_506 : Index := 0#32
  let c0_507 : Index := 0#32
  ![v1239.toNat, 10, 0, 0, 0]
def k0_off391 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1242 : Index := Scalar.indexCast v1145
  let c11 : Index := 11#32
  let c0_508 : Index := 0#32
  let c0_509 : Index := 0#32
  let c0_510 : Index := 0#32
  ![v1242.toNat, 11, 0, 0, 0]
def k0_off392 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1255 : Index := Scalar.indexCast v1145
  let c12 : Index := 12#32
  let c0_514 : Index := 0#32
  let c0_515 : Index := 0#32
  let c0_516 : Index := 0#32
  ![v1255.toNat, 12, 0, 0, 0]
def k0_off393 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1258 : Index := Scalar.indexCast v1145
  let c13 : Index := 13#32
  let c0_517 : Index := 0#32
  let c0_518 : Index := 0#32
  let c0_519 : Index := 0#32
  ![v1258.toNat, 13, 0, 0, 0]
def k0_off394 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1271 : Index := Scalar.indexCast v1145
  let c14 : Index := 14#32
  let c0_523 : Index := 0#32
  let c0_524 : Index := 0#32
  let c0_525 : Index := 0#32
  ![v1271.toNat, 14, 0, 0, 0]
def k0_off395 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1274 : Index := Scalar.indexCast v1145
  let c15 : Index := 15#32
  let c0_526 : Index := 0#32
  let c0_527 : Index := 0#32
  let c0_528 : Index := 0#32
  ![v1274.toNat, 15, 0, 0, 0]
def k0_off396 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1287 : Index := Scalar.indexCast v1145
  let c16 : Index := 16#32
  let c0_532 : Index := 0#32
  let c0_533 : Index := 0#32
  let c0_534 : Index := 0#32
  ![v1287.toNat, 16, 0, 0, 0]
def k0_off397 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1290 : Index := Scalar.indexCast v1145
  let c17 : Index := 17#32
  let c0_535 : Index := 0#32
  let c0_536 : Index := 0#32
  let c0_537 : Index := 0#32
  ![v1290.toNat, 17, 0, 0, 0]
def k0_off398 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1303 : Index := Scalar.indexCast v1145
  let c18 : Index := 18#32
  let c0_541 : Index := 0#32
  let c0_542 : Index := 0#32
  let c0_543 : Index := 0#32
  ![v1303.toNat, 18, 0, 0, 0]
def k0_off399 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1306 : Index := Scalar.indexCast v1145
  let c19 : Index := 19#32
  let c0_544 : Index := 0#32
  let c0_545 : Index := 0#32
  let c0_546 : Index := 0#32
  ![v1306.toNat, 19, 0, 0, 0]
def k0_off400 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1319 : Index := Scalar.indexCast v1145
  let c20 : Index := 20#32
  let c0_550 : Index := 0#32
  let c0_551 : Index := 0#32
  let c0_552 : Index := 0#32
  ![v1319.toNat, 20, 0, 0, 0]
def k0_off401 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1322 : Index := Scalar.indexCast v1145
  let c21 : Index := 21#32
  let c0_553 : Index := 0#32
  let c0_554 : Index := 0#32
  let c0_555 : Index := 0#32
  ![v1322.toNat, 21, 0, 0, 0]
def k0_off402 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1335 : Index := Scalar.indexCast v1145
  let c22 : Index := 22#32
  let c0_559 : Index := 0#32
  let c0_560 : Index := 0#32
  let c0_561 : Index := 0#32
  ![v1335.toNat, 22, 0, 0, 0]
def k0_off403 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1338 : Index := Scalar.indexCast v1145
  let c23 : Index := 23#32
  let c0_562 : Index := 0#32
  let c0_563 : Index := 0#32
  let c0_564 : Index := 0#32
  ![v1338.toNat, 23, 0, 0, 0]
def k0_off404 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1351 : Index := Scalar.indexCast v1145
  let c24 : Index := 24#32
  let c0_568 : Index := 0#32
  let c0_569 : Index := 0#32
  let c0_570 : Index := 0#32
  ![v1351.toNat, 24, 0, 0, 0]
def k0_off405 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1354 : Index := Scalar.indexCast v1145
  let c25 : Index := 25#32
  let c0_571 : Index := 0#32
  let c0_572 : Index := 0#32
  let c0_573 : Index := 0#32
  ![v1354.toNat, 25, 0, 0, 0]
def k0_off406 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1367 : Index := Scalar.indexCast v1145
  let c26 : Index := 26#32
  let c0_577 : Index := 0#32
  let c0_578 : Index := 0#32
  let c0_579 : Index := 0#32
  ![v1367.toNat, 26, 0, 0, 0]
def k0_off407 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1370 : Index := Scalar.indexCast v1145
  let c27 : Index := 27#32
  let c0_580 : Index := 0#32
  let c0_581 : Index := 0#32
  let c0_582 : Index := 0#32
  ![v1370.toNat, 27, 0, 0, 0]
def k0_off408 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1383 : Index := Scalar.indexCast v1145
  let c28 : Index := 28#32
  let c0_586 : Index := 0#32
  let c0_587 : Index := 0#32
  let c0_588 : Index := 0#32
  ![v1383.toNat, 28, 0, 0, 0]
def k0_off409 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1386 : Index := Scalar.indexCast v1145
  let c29 : Index := 29#32
  let c0_589 : Index := 0#32
  let c0_590 : Index := 0#32
  let c0_591 : Index := 0#32
  ![v1386.toNat, 29, 0, 0, 0]
def k0_off410 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1399 : Index := Scalar.indexCast v1145
  let c30 : Index := 30#32
  let c0_595 : Index := 0#32
  let c0_596 : Index := 0#32
  let c0_597 : Index := 0#32
  ![v1399.toNat, 30, 0, 0, 0]
def k0_off411 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1402 : Index := Scalar.indexCast v1145
  let c31 : Index := 31#32
  let c0_598 : Index := 0#32
  let c0_599 : Index := 0#32
  let c0_600 : Index := 0#32
  ![v1402.toNat, 31, 0, 0, 0]
def k0_off412 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1420 : Index := Scalar.indexCast v1145
  let c0_612 : Index := 0#32
  let c1_613 : Index := 1#32
  let c0_614 : Index := 0#32
  let c0_615 : Index := 0#32
  ![v1420.toNat, 0, 1, 0, 0]
def k0_off413 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1423 : Index := Scalar.indexCast v1145
  let c1_616 : Index := 1#32
  let c1_617 : Index := 1#32
  let c0_618 : Index := 0#32
  let c0_619 : Index := 0#32
  ![v1423.toNat, 1, 1, 0, 0]
def k0_off414 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1436 : Index := Scalar.indexCast v1145
  let c2_623 : Index := 2#32
  let c1_624 : Index := 1#32
  let c0_625 : Index := 0#32
  let c0_626 : Index := 0#32
  ![v1436.toNat, 2, 1, 0, 0]
def k0_off415 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1439 : Index := Scalar.indexCast v1145
  let c3_627 : Index := 3#32
  let c1_628 : Index := 1#32
  let c0_629 : Index := 0#32
  let c0_630 : Index := 0#32
  ![v1439.toNat, 3, 1, 0, 0]
def k0_off416 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1452 : Index := Scalar.indexCast v1145
  let c4_634 : Index := 4#32
  let c1_635 : Index := 1#32
  let c0_636 : Index := 0#32
  let c0_637 : Index := 0#32
  ![v1452.toNat, 4, 1, 0, 0]
def k0_off417 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1455 : Index := Scalar.indexCast v1145
  let c5_638 : Index := 5#32
  let c1_639 : Index := 1#32
  let c0_640 : Index := 0#32
  let c0_641 : Index := 0#32
  ![v1455.toNat, 5, 1, 0, 0]
def k0_off418 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1468 : Index := Scalar.indexCast v1145
  let c6_645 : Index := 6#32
  let c1_646 : Index := 1#32
  let c0_647 : Index := 0#32
  let c0_648 : Index := 0#32
  ![v1468.toNat, 6, 1, 0, 0]
def k0_off419 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1471 : Index := Scalar.indexCast v1145
  let c7_649 : Index := 7#32
  let c1_650 : Index := 1#32
  let c0_651 : Index := 0#32
  let c0_652 : Index := 0#32
  ![v1471.toNat, 7, 1, 0, 0]
def k0_off420 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1484 : Index := Scalar.indexCast v1145
  let c8_656 : Index := 8#32
  let c1_657 : Index := 1#32
  let c0_658 : Index := 0#32
  let c0_659 : Index := 0#32
  ![v1484.toNat, 8, 1, 0, 0]
def k0_off421 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1487 : Index := Scalar.indexCast v1145
  let c9_660 : Index := 9#32
  let c1_661 : Index := 1#32
  let c0_662 : Index := 0#32
  let c0_663 : Index := 0#32
  ![v1487.toNat, 9, 1, 0, 0]
def k0_off422 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1500 : Index := Scalar.indexCast v1145
  let c10_667 : Index := 10#32
  let c1_668 : Index := 1#32
  let c0_669 : Index := 0#32
  let c0_670 : Index := 0#32
  ![v1500.toNat, 10, 1, 0, 0]
def k0_off423 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1503 : Index := Scalar.indexCast v1145
  let c11_671 : Index := 11#32
  let c1_672 : Index := 1#32
  let c0_673 : Index := 0#32
  let c0_674 : Index := 0#32
  ![v1503.toNat, 11, 1, 0, 0]
def k0_off424 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1516 : Index := Scalar.indexCast v1145
  let c12_678 : Index := 12#32
  let c1_679 : Index := 1#32
  let c0_680 : Index := 0#32
  let c0_681 : Index := 0#32
  ![v1516.toNat, 12, 1, 0, 0]
def k0_off425 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1519 : Index := Scalar.indexCast v1145
  let c13_682 : Index := 13#32
  let c1_683 : Index := 1#32
  let c0_684 : Index := 0#32
  let c0_685 : Index := 0#32
  ![v1519.toNat, 13, 1, 0, 0]
def k0_off426 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1532 : Index := Scalar.indexCast v1145
  let c14_689 : Index := 14#32
  let c1_690 : Index := 1#32
  let c0_691 : Index := 0#32
  let c0_692 : Index := 0#32
  ![v1532.toNat, 14, 1, 0, 0]
def k0_off427 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1535 : Index := Scalar.indexCast v1145
  let c15_693 : Index := 15#32
  let c1_694 : Index := 1#32
  let c0_695 : Index := 0#32
  let c0_696 : Index := 0#32
  ![v1535.toNat, 15, 1, 0, 0]
def k0_off428 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1548 : Index := Scalar.indexCast v1145
  let c16_700 : Index := 16#32
  let c1_701 : Index := 1#32
  let c0_702 : Index := 0#32
  let c0_703 : Index := 0#32
  ![v1548.toNat, 16, 1, 0, 0]
def k0_off429 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1551 : Index := Scalar.indexCast v1145
  let c17_704 : Index := 17#32
  let c1_705 : Index := 1#32
  let c0_706 : Index := 0#32
  let c0_707 : Index := 0#32
  ![v1551.toNat, 17, 1, 0, 0]
def k0_off430 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1564 : Index := Scalar.indexCast v1145
  let c18_711 : Index := 18#32
  let c1_712 : Index := 1#32
  let c0_713 : Index := 0#32
  let c0_714 : Index := 0#32
  ![v1564.toNat, 18, 1, 0, 0]
def k0_off431 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1567 : Index := Scalar.indexCast v1145
  let c19_715 : Index := 19#32
  let c1_716 : Index := 1#32
  let c0_717 : Index := 0#32
  let c0_718 : Index := 0#32
  ![v1567.toNat, 19, 1, 0, 0]
def k0_off432 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1580 : Index := Scalar.indexCast v1145
  let c20_722 : Index := 20#32
  let c1_723 : Index := 1#32
  let c0_724 : Index := 0#32
  let c0_725 : Index := 0#32
  ![v1580.toNat, 20, 1, 0, 0]
def k0_off433 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1583 : Index := Scalar.indexCast v1145
  let c21_726 : Index := 21#32
  let c1_727 : Index := 1#32
  let c0_728 : Index := 0#32
  let c0_729 : Index := 0#32
  ![v1583.toNat, 21, 1, 0, 0]
def k0_off434 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1596 : Index := Scalar.indexCast v1145
  let c22_733 : Index := 22#32
  let c1_734 : Index := 1#32
  let c0_735 : Index := 0#32
  let c0_736 : Index := 0#32
  ![v1596.toNat, 22, 1, 0, 0]
def k0_off435 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1599 : Index := Scalar.indexCast v1145
  let c23_737 : Index := 23#32
  let c1_738 : Index := 1#32
  let c0_739 : Index := 0#32
  let c0_740 : Index := 0#32
  ![v1599.toNat, 23, 1, 0, 0]
def k0_off436 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1612 : Index := Scalar.indexCast v1145
  let c24_744 : Index := 24#32
  let c1_745 : Index := 1#32
  let c0_746 : Index := 0#32
  let c0_747 : Index := 0#32
  ![v1612.toNat, 24, 1, 0, 0]
def k0_off437 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1615 : Index := Scalar.indexCast v1145
  let c25_748 : Index := 25#32
  let c1_749 : Index := 1#32
  let c0_750 : Index := 0#32
  let c0_751 : Index := 0#32
  ![v1615.toNat, 25, 1, 0, 0]
def k0_off438 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1628 : Index := Scalar.indexCast v1145
  let c26_755 : Index := 26#32
  let c1_756 : Index := 1#32
  let c0_757 : Index := 0#32
  let c0_758 : Index := 0#32
  ![v1628.toNat, 26, 1, 0, 0]
def k0_off439 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1631 : Index := Scalar.indexCast v1145
  let c27_759 : Index := 27#32
  let c1_760 : Index := 1#32
  let c0_761 : Index := 0#32
  let c0_762 : Index := 0#32
  ![v1631.toNat, 27, 1, 0, 0]
def k0_off440 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1644 : Index := Scalar.indexCast v1145
  let c28_766 : Index := 28#32
  let c1_767 : Index := 1#32
  let c0_768 : Index := 0#32
  let c0_769 : Index := 0#32
  ![v1644.toNat, 28, 1, 0, 0]
def k0_off441 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1647 : Index := Scalar.indexCast v1145
  let c29_770 : Index := 29#32
  let c1_771 : Index := 1#32
  let c0_772 : Index := 0#32
  let c0_773 : Index := 0#32
  ![v1647.toNat, 29, 1, 0, 0]
def k0_off442 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1660 : Index := Scalar.indexCast v1145
  let c30_777 : Index := 30#32
  let c1_778 : Index := 1#32
  let c0_779 : Index := 0#32
  let c0_780 : Index := 0#32
  ![v1660.toNat, 30, 1, 0, 0]
def k0_off443 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1663 : Index := Scalar.indexCast v1145
  let c31_781 : Index := 31#32
  let c1_782 : Index := 1#32
  let c0_783 : Index := 0#32
  let c0_784 : Index := 0#32
  ![v1663.toNat, 31, 1, 0, 0]
def k0_off444 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1681 : Index := Scalar.indexCast v1145
  let c0_796 : Index := 0#32
  let c2_797 : Index := 2#32
  let c0_798 : Index := 0#32
  let c0_799 : Index := 0#32
  ![v1681.toNat, 0, 2, 0, 0]
def k0_off445 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1684 : Index := Scalar.indexCast v1145
  let c1_800 : Index := 1#32
  let c2_801 : Index := 2#32
  let c0_802 : Index := 0#32
  let c0_803 : Index := 0#32
  ![v1684.toNat, 1, 2, 0, 0]
def k0_off446 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1697 : Index := Scalar.indexCast v1145
  let c2_807 : Index := 2#32
  let c2_808 : Index := 2#32
  let c0_809 : Index := 0#32
  let c0_810 : Index := 0#32
  ![v1697.toNat, 2, 2, 0, 0]
def k0_off447 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1700 : Index := Scalar.indexCast v1145
  let c3_811 : Index := 3#32
  let c2_812 : Index := 2#32
  let c0_813 : Index := 0#32
  let c0_814 : Index := 0#32
  ![v1700.toNat, 3, 2, 0, 0]
def k0_off448 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1713 : Index := Scalar.indexCast v1145
  let c4_818 : Index := 4#32
  let c2_819 : Index := 2#32
  let c0_820 : Index := 0#32
  let c0_821 : Index := 0#32
  ![v1713.toNat, 4, 2, 0, 0]
def k0_off449 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1716 : Index := Scalar.indexCast v1145
  let c5_822 : Index := 5#32
  let c2_823 : Index := 2#32
  let c0_824 : Index := 0#32
  let c0_825 : Index := 0#32
  ![v1716.toNat, 5, 2, 0, 0]
def k0_off450 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1729 : Index := Scalar.indexCast v1145
  let c6_829 : Index := 6#32
  let c2_830 : Index := 2#32
  let c0_831 : Index := 0#32
  let c0_832 : Index := 0#32
  ![v1729.toNat, 6, 2, 0, 0]
def k0_off451 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1732 : Index := Scalar.indexCast v1145
  let c7_833 : Index := 7#32
  let c2_834 : Index := 2#32
  let c0_835 : Index := 0#32
  let c0_836 : Index := 0#32
  ![v1732.toNat, 7, 2, 0, 0]
def k0_off452 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1745 : Index := Scalar.indexCast v1145
  let c8_840 : Index := 8#32
  let c2_841 : Index := 2#32
  let c0_842 : Index := 0#32
  let c0_843 : Index := 0#32
  ![v1745.toNat, 8, 2, 0, 0]
def k0_off453 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1748 : Index := Scalar.indexCast v1145
  let c9_844 : Index := 9#32
  let c2_845 : Index := 2#32
  let c0_846 : Index := 0#32
  let c0_847 : Index := 0#32
  ![v1748.toNat, 9, 2, 0, 0]
def k0_off454 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1761 : Index := Scalar.indexCast v1145
  let c10_851 : Index := 10#32
  let c2_852 : Index := 2#32
  let c0_853 : Index := 0#32
  let c0_854 : Index := 0#32
  ![v1761.toNat, 10, 2, 0, 0]
def k0_off455 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1764 : Index := Scalar.indexCast v1145
  let c11_855 : Index := 11#32
  let c2_856 : Index := 2#32
  let c0_857 : Index := 0#32
  let c0_858 : Index := 0#32
  ![v1764.toNat, 11, 2, 0, 0]
def k0_off456 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1777 : Index := Scalar.indexCast v1145
  let c12_862 : Index := 12#32
  let c2_863 : Index := 2#32
  let c0_864 : Index := 0#32
  let c0_865 : Index := 0#32
  ![v1777.toNat, 12, 2, 0, 0]
def k0_off457 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1780 : Index := Scalar.indexCast v1145
  let c13_866 : Index := 13#32
  let c2_867 : Index := 2#32
  let c0_868 : Index := 0#32
  let c0_869 : Index := 0#32
  ![v1780.toNat, 13, 2, 0, 0]
def k0_off458 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1793 : Index := Scalar.indexCast v1145
  let c14_873 : Index := 14#32
  let c2_874 : Index := 2#32
  let c0_875 : Index := 0#32
  let c0_876 : Index := 0#32
  ![v1793.toNat, 14, 2, 0, 0]
def k0_off459 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1796 : Index := Scalar.indexCast v1145
  let c15_877 : Index := 15#32
  let c2_878 : Index := 2#32
  let c0_879 : Index := 0#32
  let c0_880 : Index := 0#32
  ![v1796.toNat, 15, 2, 0, 0]
def k0_off460 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1809 : Index := Scalar.indexCast v1145
  let c16_884 : Index := 16#32
  let c2_885 : Index := 2#32
  let c0_886 : Index := 0#32
  let c0_887 : Index := 0#32
  ![v1809.toNat, 16, 2, 0, 0]
def k0_off461 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1812 : Index := Scalar.indexCast v1145
  let c17_888 : Index := 17#32
  let c2_889 : Index := 2#32
  let c0_890 : Index := 0#32
  let c0_891 : Index := 0#32
  ![v1812.toNat, 17, 2, 0, 0]
def k0_off462 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1825 : Index := Scalar.indexCast v1145
  let c18_895 : Index := 18#32
  let c2_896 : Index := 2#32
  let c0_897 : Index := 0#32
  let c0_898 : Index := 0#32
  ![v1825.toNat, 18, 2, 0, 0]
def k0_off463 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1828 : Index := Scalar.indexCast v1145
  let c19_899 : Index := 19#32
  let c2_900 : Index := 2#32
  let c0_901 : Index := 0#32
  let c0_902 : Index := 0#32
  ![v1828.toNat, 19, 2, 0, 0]
def k0_off464 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1841 : Index := Scalar.indexCast v1145
  let c20_906 : Index := 20#32
  let c2_907 : Index := 2#32
  let c0_908 : Index := 0#32
  let c0_909 : Index := 0#32
  ![v1841.toNat, 20, 2, 0, 0]
def k0_off465 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1844 : Index := Scalar.indexCast v1145
  let c21_910 : Index := 21#32
  let c2_911 : Index := 2#32
  let c0_912 : Index := 0#32
  let c0_913 : Index := 0#32
  ![v1844.toNat, 21, 2, 0, 0]
def k0_off466 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1857 : Index := Scalar.indexCast v1145
  let c22_917 : Index := 22#32
  let c2_918 : Index := 2#32
  let c0_919 : Index := 0#32
  let c0_920 : Index := 0#32
  ![v1857.toNat, 22, 2, 0, 0]
def k0_off467 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1860 : Index := Scalar.indexCast v1145
  let c23_921 : Index := 23#32
  let c2_922 : Index := 2#32
  let c0_923 : Index := 0#32
  let c0_924 : Index := 0#32
  ![v1860.toNat, 23, 2, 0, 0]
def k0_off468 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1873 : Index := Scalar.indexCast v1145
  let c24_928 : Index := 24#32
  let c2_929 : Index := 2#32
  let c0_930 : Index := 0#32
  let c0_931 : Index := 0#32
  ![v1873.toNat, 24, 2, 0, 0]
def k0_off469 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1876 : Index := Scalar.indexCast v1145
  let c25_932 : Index := 25#32
  let c2_933 : Index := 2#32
  let c0_934 : Index := 0#32
  let c0_935 : Index := 0#32
  ![v1876.toNat, 25, 2, 0, 0]
def k0_off470 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1889 : Index := Scalar.indexCast v1145
  let c26_939 : Index := 26#32
  let c2_940 : Index := 2#32
  let c0_941 : Index := 0#32
  let c0_942 : Index := 0#32
  ![v1889.toNat, 26, 2, 0, 0]
def k0_off471 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1892 : Index := Scalar.indexCast v1145
  let c27_943 : Index := 27#32
  let c2_944 : Index := 2#32
  let c0_945 : Index := 0#32
  let c0_946 : Index := 0#32
  ![v1892.toNat, 27, 2, 0, 0]
def k0_off472 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1905 : Index := Scalar.indexCast v1145
  let c28_950 : Index := 28#32
  let c2_951 : Index := 2#32
  let c0_952 : Index := 0#32
  let c0_953 : Index := 0#32
  ![v1905.toNat, 28, 2, 0, 0]
def k0_off473 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1908 : Index := Scalar.indexCast v1145
  let c29_954 : Index := 29#32
  let c2_955 : Index := 2#32
  let c0_956 : Index := 0#32
  let c0_957 : Index := 0#32
  ![v1908.toNat, 29, 2, 0, 0]
def k0_off474 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1921 : Index := Scalar.indexCast v1145
  let c30_961 : Index := 30#32
  let c2_962 : Index := 2#32
  let c0_963 : Index := 0#32
  let c0_964 : Index := 0#32
  ![v1921.toNat, 30, 2, 0, 0]
def k0_off475 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1924 : Index := Scalar.indexCast v1145
  let c31_965 : Index := 31#32
  let c2_966 : Index := 2#32
  let c0_967 : Index := 0#32
  let c0_968 : Index := 0#32
  ![v1924.toNat, 31, 2, 0, 0]
def k0_off476 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1942 : Index := Scalar.indexCast v1145
  let c0_980 : Index := 0#32
  let c3_981 : Index := 3#32
  let c0_982 : Index := 0#32
  let c0_983 : Index := 0#32
  ![v1942.toNat, 0, 3, 0, 0]
def k0_off477 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1945 : Index := Scalar.indexCast v1145
  let c1_984 : Index := 1#32
  let c3_985 : Index := 3#32
  let c0_986 : Index := 0#32
  let c0_987 : Index := 0#32
  ![v1945.toNat, 1, 3, 0, 0]
def k0_off478 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1958 : Index := Scalar.indexCast v1145
  let c2_991 : Index := 2#32
  let c3_992 : Index := 3#32
  let c0_993 : Index := 0#32
  let c0_994 : Index := 0#32
  ![v1958.toNat, 2, 3, 0, 0]
def k0_off479 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1961 : Index := Scalar.indexCast v1145
  let c3_995 : Index := 3#32
  let c3_996 : Index := 3#32
  let c0_997 : Index := 0#32
  let c0_998 : Index := 0#32
  ![v1961.toNat, 3, 3, 0, 0]
def k0_off480 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1974 : Index := Scalar.indexCast v1145
  let c4_1002 : Index := 4#32
  let c3_1003 : Index := 3#32
  let c0_1004 : Index := 0#32
  let c0_1005 : Index := 0#32
  ![v1974.toNat, 4, 3, 0, 0]
def k0_off481 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1977 : Index := Scalar.indexCast v1145
  let c5_1006 : Index := 5#32
  let c3_1007 : Index := 3#32
  let c0_1008 : Index := 0#32
  let c0_1009 : Index := 0#32
  ![v1977.toNat, 5, 3, 0, 0]
def k0_off482 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1990 : Index := Scalar.indexCast v1145
  let c6_1013 : Index := 6#32
  let c3_1014 : Index := 3#32
  let c0_1015 : Index := 0#32
  let c0_1016 : Index := 0#32
  ![v1990.toNat, 6, 3, 0, 0]
def k0_off483 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1993 : Index := Scalar.indexCast v1145
  let c7_1017 : Index := 7#32
  let c3_1018 : Index := 3#32
  let c0_1019 : Index := 0#32
  let c0_1020 : Index := 0#32
  ![v1993.toNat, 7, 3, 0, 0]
def k0_off484 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2006 : Index := Scalar.indexCast v1145
  let c8_1024 : Index := 8#32
  let c3_1025 : Index := 3#32
  let c0_1026 : Index := 0#32
  let c0_1027 : Index := 0#32
  ![v2006.toNat, 8, 3, 0, 0]
def k0_off485 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2009 : Index := Scalar.indexCast v1145
  let c9_1028 : Index := 9#32
  let c3_1029 : Index := 3#32
  let c0_1030 : Index := 0#32
  let c0_1031 : Index := 0#32
  ![v2009.toNat, 9, 3, 0, 0]
def k0_off486 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2022 : Index := Scalar.indexCast v1145
  let c10_1035 : Index := 10#32
  let c3_1036 : Index := 3#32
  let c0_1037 : Index := 0#32
  let c0_1038 : Index := 0#32
  ![v2022.toNat, 10, 3, 0, 0]
def k0_off487 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2025 : Index := Scalar.indexCast v1145
  let c11_1039 : Index := 11#32
  let c3_1040 : Index := 3#32
  let c0_1041 : Index := 0#32
  let c0_1042 : Index := 0#32
  ![v2025.toNat, 11, 3, 0, 0]
def k0_off488 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2038 : Index := Scalar.indexCast v1145
  let c12_1046 : Index := 12#32
  let c3_1047 : Index := 3#32
  let c0_1048 : Index := 0#32
  let c0_1049 : Index := 0#32
  ![v2038.toNat, 12, 3, 0, 0]
def k0_off489 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2041 : Index := Scalar.indexCast v1145
  let c13_1050 : Index := 13#32
  let c3_1051 : Index := 3#32
  let c0_1052 : Index := 0#32
  let c0_1053 : Index := 0#32
  ![v2041.toNat, 13, 3, 0, 0]
def k0_off490 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2054 : Index := Scalar.indexCast v1145
  let c14_1057 : Index := 14#32
  let c3_1058 : Index := 3#32
  let c0_1059 : Index := 0#32
  let c0_1060 : Index := 0#32
  ![v2054.toNat, 14, 3, 0, 0]
def k0_off491 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2057 : Index := Scalar.indexCast v1145
  let c15_1061 : Index := 15#32
  let c3_1062 : Index := 3#32
  let c0_1063 : Index := 0#32
  let c0_1064 : Index := 0#32
  ![v2057.toNat, 15, 3, 0, 0]
def k0_off492 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2070 : Index := Scalar.indexCast v1145
  let c16_1068 : Index := 16#32
  let c3_1069 : Index := 3#32
  let c0_1070 : Index := 0#32
  let c0_1071 : Index := 0#32
  ![v2070.toNat, 16, 3, 0, 0]
def k0_off493 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2073 : Index := Scalar.indexCast v1145
  let c17_1072 : Index := 17#32
  let c3_1073 : Index := 3#32
  let c0_1074 : Index := 0#32
  let c0_1075 : Index := 0#32
  ![v2073.toNat, 17, 3, 0, 0]
def k0_off494 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2086 : Index := Scalar.indexCast v1145
  let c18_1079 : Index := 18#32
  let c3_1080 : Index := 3#32
  let c0_1081 : Index := 0#32
  let c0_1082 : Index := 0#32
  ![v2086.toNat, 18, 3, 0, 0]
def k0_off495 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2089 : Index := Scalar.indexCast v1145
  let c19_1083 : Index := 19#32
  let c3_1084 : Index := 3#32
  let c0_1085 : Index := 0#32
  let c0_1086 : Index := 0#32
  ![v2089.toNat, 19, 3, 0, 0]
def k0_off496 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2102 : Index := Scalar.indexCast v1145
  let c20_1090 : Index := 20#32
  let c3_1091 : Index := 3#32
  let c0_1092 : Index := 0#32
  let c0_1093 : Index := 0#32
  ![v2102.toNat, 20, 3, 0, 0]
def k0_off497 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2105 : Index := Scalar.indexCast v1145
  let c21_1094 : Index := 21#32
  let c3_1095 : Index := 3#32
  let c0_1096 : Index := 0#32
  let c0_1097 : Index := 0#32
  ![v2105.toNat, 21, 3, 0, 0]
def k0_off498 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2118 : Index := Scalar.indexCast v1145
  let c22_1101 : Index := 22#32
  let c3_1102 : Index := 3#32
  let c0_1103 : Index := 0#32
  let c0_1104 : Index := 0#32
  ![v2118.toNat, 22, 3, 0, 0]
def k0_off499 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2121 : Index := Scalar.indexCast v1145
  let c23_1105 : Index := 23#32
  let c3_1106 : Index := 3#32
  let c0_1107 : Index := 0#32
  let c0_1108 : Index := 0#32
  ![v2121.toNat, 23, 3, 0, 0]
def k0_off500 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2134 : Index := Scalar.indexCast v1145
  let c24_1112 : Index := 24#32
  let c3_1113 : Index := 3#32
  let c0_1114 : Index := 0#32
  let c0_1115 : Index := 0#32
  ![v2134.toNat, 24, 3, 0, 0]
def k0_off501 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2137 : Index := Scalar.indexCast v1145
  let c25_1116 : Index := 25#32
  let c3_1117 : Index := 3#32
  let c0_1118 : Index := 0#32
  let c0_1119 : Index := 0#32
  ![v2137.toNat, 25, 3, 0, 0]
def k0_off502 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2150 : Index := Scalar.indexCast v1145
  let c26_1123 : Index := 26#32
  let c3_1124 : Index := 3#32
  let c0_1125 : Index := 0#32
  let c0_1126 : Index := 0#32
  ![v2150.toNat, 26, 3, 0, 0]
def k0_off503 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2153 : Index := Scalar.indexCast v1145
  let c27_1127 : Index := 27#32
  let c3_1128 : Index := 3#32
  let c0_1129 : Index := 0#32
  let c0_1130 : Index := 0#32
  ![v2153.toNat, 27, 3, 0, 0]
def k0_off504 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2166 : Index := Scalar.indexCast v1145
  let c28_1134 : Index := 28#32
  let c3_1135 : Index := 3#32
  let c0_1136 : Index := 0#32
  let c0_1137 : Index := 0#32
  ![v2166.toNat, 28, 3, 0, 0]
def k0_off505 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2169 : Index := Scalar.indexCast v1145
  let c29_1138 : Index := 29#32
  let c3_1139 : Index := 3#32
  let c0_1140 : Index := 0#32
  let c0_1141 : Index := 0#32
  ![v2169.toNat, 29, 3, 0, 0]
def k0_off506 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2182 : Index := Scalar.indexCast v1145
  let c30_1145 : Index := 30#32
  let c3_1146 : Index := 3#32
  let c0_1147 : Index := 0#32
  let c0_1148 : Index := 0#32
  ![v2182.toNat, 30, 3, 0, 0]
def k0_off507 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2185 : Index := Scalar.indexCast v1145
  let c31_1149 : Index := 31#32
  let c3_1150 : Index := 3#32
  let c0_1151 : Index := 0#32
  let c0_1152 : Index := 0#32
  ![v2185.toNat, 31, 3, 0, 0]
def k0_off508 (i : grid0.Coords) : Fin 3 → Nat :=
  let c0_1160 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2201 : Index := Scalar.indexCast v1085
  let c0_1161 : Index := 0#32
  ![0, v2201.toNat, 0]
def k0_off509 (i : grid0.Coords) (c0_i32_1164 : BitVec 32) : Fin 3 → Nat :=
  let c0_1165 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1163 : BitVec 32 := 4#32
  let v2206 : BitVec 32 := Scalar.muli v840 c4_i32_1163
  let v2207 : BitVec 32 := Scalar.addi v2206 c0_i32_1164
  let v2208 : Index := Scalar.indexCast v2207
  let c0_1166 : Index := 0#32
  ![0, v2208.toNat, 0]
def k0_off510 (i : grid0.Coords) : Fin 3 → Nat :=
  let c0_1172 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2225 : Index := Scalar.indexCast v1085
  let c0_1173 : Index := 0#32
  ![0, v2225.toNat, 0]
def k0_off511 (i : grid0.Coords) (c0_i32_1179 : BitVec 32) : Fin 3 → Nat :=
  let c1_1180 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1178 : BitVec 32 := 4#32
  let v2237 : BitVec 32 := Scalar.muli v840 c4_i32_1178
  let v2238 : BitVec 32 := Scalar.addi v2237 c0_i32_1179
  let v2239 : Index := Scalar.indexCast v2238
  let c0_1181 : Index := 0#32
  ![1, v2239.toNat, 0]
def k0_off512 (i : grid0.Coords) : Fin 3 → Nat :=
  let c1_1187 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2256 : Index := Scalar.indexCast v1085
  let c0_1188 : Index := 0#32
  ![1, v2256.toNat, 0]
def k0_off513 (i : grid0.Coords) (c0_i32_1194 : BitVec 32) : Fin 3 → Nat :=
  let c2_1195 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1193 : BitVec 32 := 4#32
  let v2268 : BitVec 32 := Scalar.muli v840 c4_i32_1193
  let v2269 : BitVec 32 := Scalar.addi v2268 c0_i32_1194
  let v2270 : Index := Scalar.indexCast v2269
  let c0_1196 : Index := 0#32
  ![2, v2270.toNat, 0]
def k0_off514 (i : grid0.Coords) : Fin 3 → Nat :=
  let c2_1202 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2287 : Index := Scalar.indexCast v1085
  let c0_1203 : Index := 0#32
  ![2, v2287.toNat, 0]
def k0_off515 (i : grid0.Coords) (c0_i32_1209 : BitVec 32) : Fin 3 → Nat :=
  let c3_1210 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1208 : BitVec 32 := 4#32
  let v2299 : BitVec 32 := Scalar.muli v840 c4_i32_1208
  let v2300 : BitVec 32 := Scalar.addi v2299 c0_i32_1209
  let v2301 : Index := Scalar.indexCast v2300
  let c0_1211 : Index := 0#32
  ![3, v2301.toNat, 0]
def k0_off516 (i : grid0.Coords) : Fin 3 → Nat :=
  let c3_1217 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2318 : Index := Scalar.indexCast v1085
  let c0_1218 : Index := 0#32
  ![3, v2318.toNat, 0]
def k0_off517 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1156 : Index := Scalar.indexCast v1142
  let c0_454 : Index := 0#32
  let c0_455 : Index := 0#32
  let c0_456 : Index := 0#32
  let c0_457 : Index := 0#32
  ![v1156.toNat, 0, 0, 0, 0]
def k0_off518 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1159 : Index := Scalar.indexCast v1142
  let c1_458 : Index := 1#32
  let c0_459 : Index := 0#32
  let c0_460 : Index := 0#32
  let c0_461 : Index := 0#32
  ![v1159.toNat, 1, 0, 0, 0]
def k0_off519 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1172 : Index := Scalar.indexCast v1142
  let c2_465 : Index := 2#32
  let c0_466 : Index := 0#32
  let c0_467 : Index := 0#32
  let c0_468 : Index := 0#32
  ![v1172.toNat, 2, 0, 0, 0]
def k0_off520 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1175 : Index := Scalar.indexCast v1142
  let c3_469 : Index := 3#32
  let c0_470 : Index := 0#32
  let c0_471 : Index := 0#32
  let c0_472 : Index := 0#32
  ![v1175.toNat, 3, 0, 0, 0]
def k0_off521 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1188 : Index := Scalar.indexCast v1142
  let c4 : Index := 4#32
  let c0_476 : Index := 0#32
  let c0_477 : Index := 0#32
  let c0_478 : Index := 0#32
  ![v1188.toNat, 4, 0, 0, 0]
def k0_off522 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1191 : Index := Scalar.indexCast v1142
  let c5 : Index := 5#32
  let c0_479 : Index := 0#32
  let c0_480 : Index := 0#32
  let c0_481 : Index := 0#32
  ![v1191.toNat, 5, 0, 0, 0]
def k0_off523 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1204 : Index := Scalar.indexCast v1142
  let c6 : Index := 6#32
  let c0_485 : Index := 0#32
  let c0_486 : Index := 0#32
  let c0_487 : Index := 0#32
  ![v1204.toNat, 6, 0, 0, 0]
def k0_off524 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1207 : Index := Scalar.indexCast v1142
  let c7 : Index := 7#32
  let c0_488 : Index := 0#32
  let c0_489 : Index := 0#32
  let c0_490 : Index := 0#32
  ![v1207.toNat, 7, 0, 0, 0]
def k0_off525 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1220 : Index := Scalar.indexCast v1142
  let c8 : Index := 8#32
  let c0_494 : Index := 0#32
  let c0_495 : Index := 0#32
  let c0_496 : Index := 0#32
  ![v1220.toNat, 8, 0, 0, 0]
def k0_off526 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1223 : Index := Scalar.indexCast v1142
  let c9 : Index := 9#32
  let c0_497 : Index := 0#32
  let c0_498 : Index := 0#32
  let c0_499 : Index := 0#32
  ![v1223.toNat, 9, 0, 0, 0]
def k0_off527 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1236 : Index := Scalar.indexCast v1142
  let c10 : Index := 10#32
  let c0_503 : Index := 0#32
  let c0_504 : Index := 0#32
  let c0_505 : Index := 0#32
  ![v1236.toNat, 10, 0, 0, 0]
def k0_off528 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1239 : Index := Scalar.indexCast v1142
  let c11 : Index := 11#32
  let c0_506 : Index := 0#32
  let c0_507 : Index := 0#32
  let c0_508 : Index := 0#32
  ![v1239.toNat, 11, 0, 0, 0]
def k0_off529 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1252 : Index := Scalar.indexCast v1142
  let c12 : Index := 12#32
  let c0_512 : Index := 0#32
  let c0_513 : Index := 0#32
  let c0_514 : Index := 0#32
  ![v1252.toNat, 12, 0, 0, 0]
def k0_off530 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1255 : Index := Scalar.indexCast v1142
  let c13 : Index := 13#32
  let c0_515 : Index := 0#32
  let c0_516 : Index := 0#32
  let c0_517 : Index := 0#32
  ![v1255.toNat, 13, 0, 0, 0]
def k0_off531 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1268 : Index := Scalar.indexCast v1142
  let c14 : Index := 14#32
  let c0_521 : Index := 0#32
  let c0_522 : Index := 0#32
  let c0_523 : Index := 0#32
  ![v1268.toNat, 14, 0, 0, 0]
def k0_off532 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1271 : Index := Scalar.indexCast v1142
  let c15 : Index := 15#32
  let c0_524 : Index := 0#32
  let c0_525 : Index := 0#32
  let c0_526 : Index := 0#32
  ![v1271.toNat, 15, 0, 0, 0]
def k0_off533 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1284 : Index := Scalar.indexCast v1142
  let c16 : Index := 16#32
  let c0_530 : Index := 0#32
  let c0_531 : Index := 0#32
  let c0_532 : Index := 0#32
  ![v1284.toNat, 16, 0, 0, 0]
def k0_off534 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1287 : Index := Scalar.indexCast v1142
  let c17 : Index := 17#32
  let c0_533 : Index := 0#32
  let c0_534 : Index := 0#32
  let c0_535 : Index := 0#32
  ![v1287.toNat, 17, 0, 0, 0]
def k0_off535 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1300 : Index := Scalar.indexCast v1142
  let c18 : Index := 18#32
  let c0_539 : Index := 0#32
  let c0_540 : Index := 0#32
  let c0_541 : Index := 0#32
  ![v1300.toNat, 18, 0, 0, 0]
def k0_off536 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1303 : Index := Scalar.indexCast v1142
  let c19 : Index := 19#32
  let c0_542 : Index := 0#32
  let c0_543 : Index := 0#32
  let c0_544 : Index := 0#32
  ![v1303.toNat, 19, 0, 0, 0]
def k0_off537 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1316 : Index := Scalar.indexCast v1142
  let c20 : Index := 20#32
  let c0_548 : Index := 0#32
  let c0_549 : Index := 0#32
  let c0_550 : Index := 0#32
  ![v1316.toNat, 20, 0, 0, 0]
def k0_off538 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1319 : Index := Scalar.indexCast v1142
  let c21 : Index := 21#32
  let c0_551 : Index := 0#32
  let c0_552 : Index := 0#32
  let c0_553 : Index := 0#32
  ![v1319.toNat, 21, 0, 0, 0]
def k0_off539 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1332 : Index := Scalar.indexCast v1142
  let c22 : Index := 22#32
  let c0_557 : Index := 0#32
  let c0_558 : Index := 0#32
  let c0_559 : Index := 0#32
  ![v1332.toNat, 22, 0, 0, 0]
def k0_off540 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1335 : Index := Scalar.indexCast v1142
  let c23 : Index := 23#32
  let c0_560 : Index := 0#32
  let c0_561 : Index := 0#32
  let c0_562 : Index := 0#32
  ![v1335.toNat, 23, 0, 0, 0]
def k0_off541 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1348 : Index := Scalar.indexCast v1142
  let c24 : Index := 24#32
  let c0_566 : Index := 0#32
  let c0_567 : Index := 0#32
  let c0_568 : Index := 0#32
  ![v1348.toNat, 24, 0, 0, 0]
def k0_off542 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1351 : Index := Scalar.indexCast v1142
  let c25 : Index := 25#32
  let c0_569 : Index := 0#32
  let c0_570 : Index := 0#32
  let c0_571 : Index := 0#32
  ![v1351.toNat, 25, 0, 0, 0]
def k0_off543 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1364 : Index := Scalar.indexCast v1142
  let c26 : Index := 26#32
  let c0_575 : Index := 0#32
  let c0_576 : Index := 0#32
  let c0_577 : Index := 0#32
  ![v1364.toNat, 26, 0, 0, 0]
def k0_off544 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1367 : Index := Scalar.indexCast v1142
  let c27 : Index := 27#32
  let c0_578 : Index := 0#32
  let c0_579 : Index := 0#32
  let c0_580 : Index := 0#32
  ![v1367.toNat, 27, 0, 0, 0]
def k0_off545 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1380 : Index := Scalar.indexCast v1142
  let c28 : Index := 28#32
  let c0_584 : Index := 0#32
  let c0_585 : Index := 0#32
  let c0_586 : Index := 0#32
  ![v1380.toNat, 28, 0, 0, 0]
def k0_off546 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1383 : Index := Scalar.indexCast v1142
  let c29 : Index := 29#32
  let c0_587 : Index := 0#32
  let c0_588 : Index := 0#32
  let c0_589 : Index := 0#32
  ![v1383.toNat, 29, 0, 0, 0]
def k0_off547 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1396 : Index := Scalar.indexCast v1142
  let c30 : Index := 30#32
  let c0_593 : Index := 0#32
  let c0_594 : Index := 0#32
  let c0_595 : Index := 0#32
  ![v1396.toNat, 30, 0, 0, 0]
def k0_off548 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1399 : Index := Scalar.indexCast v1142
  let c31 : Index := 31#32
  let c0_596 : Index := 0#32
  let c0_597 : Index := 0#32
  let c0_598 : Index := 0#32
  ![v1399.toNat, 31, 0, 0, 0]
def k0_off549 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1417 : Index := Scalar.indexCast v1142
  let c0_610 : Index := 0#32
  let c1_611 : Index := 1#32
  let c0_612 : Index := 0#32
  let c0_613 : Index := 0#32
  ![v1417.toNat, 0, 1, 0, 0]
def k0_off550 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1420 : Index := Scalar.indexCast v1142
  let c1_614 : Index := 1#32
  let c1_615 : Index := 1#32
  let c0_616 : Index := 0#32
  let c0_617 : Index := 0#32
  ![v1420.toNat, 1, 1, 0, 0]
def k0_off551 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1433 : Index := Scalar.indexCast v1142
  let c2_621 : Index := 2#32
  let c1_622 : Index := 1#32
  let c0_623 : Index := 0#32
  let c0_624 : Index := 0#32
  ![v1433.toNat, 2, 1, 0, 0]
def k0_off552 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1436 : Index := Scalar.indexCast v1142
  let c3_625 : Index := 3#32
  let c1_626 : Index := 1#32
  let c0_627 : Index := 0#32
  let c0_628 : Index := 0#32
  ![v1436.toNat, 3, 1, 0, 0]
def k0_off553 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1449 : Index := Scalar.indexCast v1142
  let c4_632 : Index := 4#32
  let c1_633 : Index := 1#32
  let c0_634 : Index := 0#32
  let c0_635 : Index := 0#32
  ![v1449.toNat, 4, 1, 0, 0]
def k0_off554 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1452 : Index := Scalar.indexCast v1142
  let c5_636 : Index := 5#32
  let c1_637 : Index := 1#32
  let c0_638 : Index := 0#32
  let c0_639 : Index := 0#32
  ![v1452.toNat, 5, 1, 0, 0]
def k0_off555 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1465 : Index := Scalar.indexCast v1142
  let c6_643 : Index := 6#32
  let c1_644 : Index := 1#32
  let c0_645 : Index := 0#32
  let c0_646 : Index := 0#32
  ![v1465.toNat, 6, 1, 0, 0]
def k0_off556 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1468 : Index := Scalar.indexCast v1142
  let c7_647 : Index := 7#32
  let c1_648 : Index := 1#32
  let c0_649 : Index := 0#32
  let c0_650 : Index := 0#32
  ![v1468.toNat, 7, 1, 0, 0]
def k0_off557 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1481 : Index := Scalar.indexCast v1142
  let c8_654 : Index := 8#32
  let c1_655 : Index := 1#32
  let c0_656 : Index := 0#32
  let c0_657 : Index := 0#32
  ![v1481.toNat, 8, 1, 0, 0]
def k0_off558 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1484 : Index := Scalar.indexCast v1142
  let c9_658 : Index := 9#32
  let c1_659 : Index := 1#32
  let c0_660 : Index := 0#32
  let c0_661 : Index := 0#32
  ![v1484.toNat, 9, 1, 0, 0]
def k0_off559 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1497 : Index := Scalar.indexCast v1142
  let c10_665 : Index := 10#32
  let c1_666 : Index := 1#32
  let c0_667 : Index := 0#32
  let c0_668 : Index := 0#32
  ![v1497.toNat, 10, 1, 0, 0]
def k0_off560 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1500 : Index := Scalar.indexCast v1142
  let c11_669 : Index := 11#32
  let c1_670 : Index := 1#32
  let c0_671 : Index := 0#32
  let c0_672 : Index := 0#32
  ![v1500.toNat, 11, 1, 0, 0]
def k0_off561 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1513 : Index := Scalar.indexCast v1142
  let c12_676 : Index := 12#32
  let c1_677 : Index := 1#32
  let c0_678 : Index := 0#32
  let c0_679 : Index := 0#32
  ![v1513.toNat, 12, 1, 0, 0]
def k0_off562 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1516 : Index := Scalar.indexCast v1142
  let c13_680 : Index := 13#32
  let c1_681 : Index := 1#32
  let c0_682 : Index := 0#32
  let c0_683 : Index := 0#32
  ![v1516.toNat, 13, 1, 0, 0]
def k0_off563 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1529 : Index := Scalar.indexCast v1142
  let c14_687 : Index := 14#32
  let c1_688 : Index := 1#32
  let c0_689 : Index := 0#32
  let c0_690 : Index := 0#32
  ![v1529.toNat, 14, 1, 0, 0]
def k0_off564 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1532 : Index := Scalar.indexCast v1142
  let c15_691 : Index := 15#32
  let c1_692 : Index := 1#32
  let c0_693 : Index := 0#32
  let c0_694 : Index := 0#32
  ![v1532.toNat, 15, 1, 0, 0]
def k0_off565 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1545 : Index := Scalar.indexCast v1142
  let c16_698 : Index := 16#32
  let c1_699 : Index := 1#32
  let c0_700 : Index := 0#32
  let c0_701 : Index := 0#32
  ![v1545.toNat, 16, 1, 0, 0]
def k0_off566 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1548 : Index := Scalar.indexCast v1142
  let c17_702 : Index := 17#32
  let c1_703 : Index := 1#32
  let c0_704 : Index := 0#32
  let c0_705 : Index := 0#32
  ![v1548.toNat, 17, 1, 0, 0]
def k0_off567 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1561 : Index := Scalar.indexCast v1142
  let c18_709 : Index := 18#32
  let c1_710 : Index := 1#32
  let c0_711 : Index := 0#32
  let c0_712 : Index := 0#32
  ![v1561.toNat, 18, 1, 0, 0]
def k0_off568 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1564 : Index := Scalar.indexCast v1142
  let c19_713 : Index := 19#32
  let c1_714 : Index := 1#32
  let c0_715 : Index := 0#32
  let c0_716 : Index := 0#32
  ![v1564.toNat, 19, 1, 0, 0]
def k0_off569 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1577 : Index := Scalar.indexCast v1142
  let c20_720 : Index := 20#32
  let c1_721 : Index := 1#32
  let c0_722 : Index := 0#32
  let c0_723 : Index := 0#32
  ![v1577.toNat, 20, 1, 0, 0]
def k0_off570 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1580 : Index := Scalar.indexCast v1142
  let c21_724 : Index := 21#32
  let c1_725 : Index := 1#32
  let c0_726 : Index := 0#32
  let c0_727 : Index := 0#32
  ![v1580.toNat, 21, 1, 0, 0]
def k0_off571 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1593 : Index := Scalar.indexCast v1142
  let c22_731 : Index := 22#32
  let c1_732 : Index := 1#32
  let c0_733 : Index := 0#32
  let c0_734 : Index := 0#32
  ![v1593.toNat, 22, 1, 0, 0]
def k0_off572 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1596 : Index := Scalar.indexCast v1142
  let c23_735 : Index := 23#32
  let c1_736 : Index := 1#32
  let c0_737 : Index := 0#32
  let c0_738 : Index := 0#32
  ![v1596.toNat, 23, 1, 0, 0]
def k0_off573 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1609 : Index := Scalar.indexCast v1142
  let c24_742 : Index := 24#32
  let c1_743 : Index := 1#32
  let c0_744 : Index := 0#32
  let c0_745 : Index := 0#32
  ![v1609.toNat, 24, 1, 0, 0]
def k0_off574 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1612 : Index := Scalar.indexCast v1142
  let c25_746 : Index := 25#32
  let c1_747 : Index := 1#32
  let c0_748 : Index := 0#32
  let c0_749 : Index := 0#32
  ![v1612.toNat, 25, 1, 0, 0]
def k0_off575 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1625 : Index := Scalar.indexCast v1142
  let c26_753 : Index := 26#32
  let c1_754 : Index := 1#32
  let c0_755 : Index := 0#32
  let c0_756 : Index := 0#32
  ![v1625.toNat, 26, 1, 0, 0]
def k0_off576 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1628 : Index := Scalar.indexCast v1142
  let c27_757 : Index := 27#32
  let c1_758 : Index := 1#32
  let c0_759 : Index := 0#32
  let c0_760 : Index := 0#32
  ![v1628.toNat, 27, 1, 0, 0]
def k0_off577 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1641 : Index := Scalar.indexCast v1142
  let c28_764 : Index := 28#32
  let c1_765 : Index := 1#32
  let c0_766 : Index := 0#32
  let c0_767 : Index := 0#32
  ![v1641.toNat, 28, 1, 0, 0]
def k0_off578 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1644 : Index := Scalar.indexCast v1142
  let c29_768 : Index := 29#32
  let c1_769 : Index := 1#32
  let c0_770 : Index := 0#32
  let c0_771 : Index := 0#32
  ![v1644.toNat, 29, 1, 0, 0]
def k0_off579 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1657 : Index := Scalar.indexCast v1142
  let c30_775 : Index := 30#32
  let c1_776 : Index := 1#32
  let c0_777 : Index := 0#32
  let c0_778 : Index := 0#32
  ![v1657.toNat, 30, 1, 0, 0]
def k0_off580 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1660 : Index := Scalar.indexCast v1142
  let c31_779 : Index := 31#32
  let c1_780 : Index := 1#32
  let c0_781 : Index := 0#32
  let c0_782 : Index := 0#32
  ![v1660.toNat, 31, 1, 0, 0]
def k0_off581 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1678 : Index := Scalar.indexCast v1142
  let c0_794 : Index := 0#32
  let c2_795 : Index := 2#32
  let c0_796 : Index := 0#32
  let c0_797 : Index := 0#32
  ![v1678.toNat, 0, 2, 0, 0]
def k0_off582 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1681 : Index := Scalar.indexCast v1142
  let c1_798 : Index := 1#32
  let c2_799 : Index := 2#32
  let c0_800 : Index := 0#32
  let c0_801 : Index := 0#32
  ![v1681.toNat, 1, 2, 0, 0]
def k0_off583 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1694 : Index := Scalar.indexCast v1142
  let c2_805 : Index := 2#32
  let c2_806 : Index := 2#32
  let c0_807 : Index := 0#32
  let c0_808 : Index := 0#32
  ![v1694.toNat, 2, 2, 0, 0]
def k0_off584 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1697 : Index := Scalar.indexCast v1142
  let c3_809 : Index := 3#32
  let c2_810 : Index := 2#32
  let c0_811 : Index := 0#32
  let c0_812 : Index := 0#32
  ![v1697.toNat, 3, 2, 0, 0]
def k0_off585 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1710 : Index := Scalar.indexCast v1142
  let c4_816 : Index := 4#32
  let c2_817 : Index := 2#32
  let c0_818 : Index := 0#32
  let c0_819 : Index := 0#32
  ![v1710.toNat, 4, 2, 0, 0]
def k0_off586 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1713 : Index := Scalar.indexCast v1142
  let c5_820 : Index := 5#32
  let c2_821 : Index := 2#32
  let c0_822 : Index := 0#32
  let c0_823 : Index := 0#32
  ![v1713.toNat, 5, 2, 0, 0]
def k0_off587 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1726 : Index := Scalar.indexCast v1142
  let c6_827 : Index := 6#32
  let c2_828 : Index := 2#32
  let c0_829 : Index := 0#32
  let c0_830 : Index := 0#32
  ![v1726.toNat, 6, 2, 0, 0]
def k0_off588 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1729 : Index := Scalar.indexCast v1142
  let c7_831 : Index := 7#32
  let c2_832 : Index := 2#32
  let c0_833 : Index := 0#32
  let c0_834 : Index := 0#32
  ![v1729.toNat, 7, 2, 0, 0]
def k0_off589 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1742 : Index := Scalar.indexCast v1142
  let c8_838 : Index := 8#32
  let c2_839 : Index := 2#32
  let c0_840 : Index := 0#32
  let c0_841 : Index := 0#32
  ![v1742.toNat, 8, 2, 0, 0]
def k0_off590 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1745 : Index := Scalar.indexCast v1142
  let c9_842 : Index := 9#32
  let c2_843 : Index := 2#32
  let c0_844 : Index := 0#32
  let c0_845 : Index := 0#32
  ![v1745.toNat, 9, 2, 0, 0]
def k0_off591 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1758 : Index := Scalar.indexCast v1142
  let c10_849 : Index := 10#32
  let c2_850 : Index := 2#32
  let c0_851 : Index := 0#32
  let c0_852 : Index := 0#32
  ![v1758.toNat, 10, 2, 0, 0]
def k0_off592 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1761 : Index := Scalar.indexCast v1142
  let c11_853 : Index := 11#32
  let c2_854 : Index := 2#32
  let c0_855 : Index := 0#32
  let c0_856 : Index := 0#32
  ![v1761.toNat, 11, 2, 0, 0]
def k0_off593 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1774 : Index := Scalar.indexCast v1142
  let c12_860 : Index := 12#32
  let c2_861 : Index := 2#32
  let c0_862 : Index := 0#32
  let c0_863 : Index := 0#32
  ![v1774.toNat, 12, 2, 0, 0]
def k0_off594 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1777 : Index := Scalar.indexCast v1142
  let c13_864 : Index := 13#32
  let c2_865 : Index := 2#32
  let c0_866 : Index := 0#32
  let c0_867 : Index := 0#32
  ![v1777.toNat, 13, 2, 0, 0]
def k0_off595 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1790 : Index := Scalar.indexCast v1142
  let c14_871 : Index := 14#32
  let c2_872 : Index := 2#32
  let c0_873 : Index := 0#32
  let c0_874 : Index := 0#32
  ![v1790.toNat, 14, 2, 0, 0]
def k0_off596 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1793 : Index := Scalar.indexCast v1142
  let c15_875 : Index := 15#32
  let c2_876 : Index := 2#32
  let c0_877 : Index := 0#32
  let c0_878 : Index := 0#32
  ![v1793.toNat, 15, 2, 0, 0]
def k0_off597 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1806 : Index := Scalar.indexCast v1142
  let c16_882 : Index := 16#32
  let c2_883 : Index := 2#32
  let c0_884 : Index := 0#32
  let c0_885 : Index := 0#32
  ![v1806.toNat, 16, 2, 0, 0]
def k0_off598 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1809 : Index := Scalar.indexCast v1142
  let c17_886 : Index := 17#32
  let c2_887 : Index := 2#32
  let c0_888 : Index := 0#32
  let c0_889 : Index := 0#32
  ![v1809.toNat, 17, 2, 0, 0]
def k0_off599 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1822 : Index := Scalar.indexCast v1142
  let c18_893 : Index := 18#32
  let c2_894 : Index := 2#32
  let c0_895 : Index := 0#32
  let c0_896 : Index := 0#32
  ![v1822.toNat, 18, 2, 0, 0]
def k0_off600 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1825 : Index := Scalar.indexCast v1142
  let c19_897 : Index := 19#32
  let c2_898 : Index := 2#32
  let c0_899 : Index := 0#32
  let c0_900 : Index := 0#32
  ![v1825.toNat, 19, 2, 0, 0]
def k0_off601 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1838 : Index := Scalar.indexCast v1142
  let c20_904 : Index := 20#32
  let c2_905 : Index := 2#32
  let c0_906 : Index := 0#32
  let c0_907 : Index := 0#32
  ![v1838.toNat, 20, 2, 0, 0]
def k0_off602 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1841 : Index := Scalar.indexCast v1142
  let c21_908 : Index := 21#32
  let c2_909 : Index := 2#32
  let c0_910 : Index := 0#32
  let c0_911 : Index := 0#32
  ![v1841.toNat, 21, 2, 0, 0]
def k0_off603 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1854 : Index := Scalar.indexCast v1142
  let c22_915 : Index := 22#32
  let c2_916 : Index := 2#32
  let c0_917 : Index := 0#32
  let c0_918 : Index := 0#32
  ![v1854.toNat, 22, 2, 0, 0]
def k0_off604 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1857 : Index := Scalar.indexCast v1142
  let c23_919 : Index := 23#32
  let c2_920 : Index := 2#32
  let c0_921 : Index := 0#32
  let c0_922 : Index := 0#32
  ![v1857.toNat, 23, 2, 0, 0]
def k0_off605 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1870 : Index := Scalar.indexCast v1142
  let c24_926 : Index := 24#32
  let c2_927 : Index := 2#32
  let c0_928 : Index := 0#32
  let c0_929 : Index := 0#32
  ![v1870.toNat, 24, 2, 0, 0]
def k0_off606 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1873 : Index := Scalar.indexCast v1142
  let c25_930 : Index := 25#32
  let c2_931 : Index := 2#32
  let c0_932 : Index := 0#32
  let c0_933 : Index := 0#32
  ![v1873.toNat, 25, 2, 0, 0]
def k0_off607 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1886 : Index := Scalar.indexCast v1142
  let c26_937 : Index := 26#32
  let c2_938 : Index := 2#32
  let c0_939 : Index := 0#32
  let c0_940 : Index := 0#32
  ![v1886.toNat, 26, 2, 0, 0]
def k0_off608 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1889 : Index := Scalar.indexCast v1142
  let c27_941 : Index := 27#32
  let c2_942 : Index := 2#32
  let c0_943 : Index := 0#32
  let c0_944 : Index := 0#32
  ![v1889.toNat, 27, 2, 0, 0]
def k0_off609 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1902 : Index := Scalar.indexCast v1142
  let c28_948 : Index := 28#32
  let c2_949 : Index := 2#32
  let c0_950 : Index := 0#32
  let c0_951 : Index := 0#32
  ![v1902.toNat, 28, 2, 0, 0]
def k0_off610 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1905 : Index := Scalar.indexCast v1142
  let c29_952 : Index := 29#32
  let c2_953 : Index := 2#32
  let c0_954 : Index := 0#32
  let c0_955 : Index := 0#32
  ![v1905.toNat, 29, 2, 0, 0]
def k0_off611 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1918 : Index := Scalar.indexCast v1142
  let c30_959 : Index := 30#32
  let c2_960 : Index := 2#32
  let c0_961 : Index := 0#32
  let c0_962 : Index := 0#32
  ![v1918.toNat, 30, 2, 0, 0]
def k0_off612 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1921 : Index := Scalar.indexCast v1142
  let c31_963 : Index := 31#32
  let c2_964 : Index := 2#32
  let c0_965 : Index := 0#32
  let c0_966 : Index := 0#32
  ![v1921.toNat, 31, 2, 0, 0]
def k0_off613 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1939 : Index := Scalar.indexCast v1142
  let c0_978 : Index := 0#32
  let c3_979 : Index := 3#32
  let c0_980 : Index := 0#32
  let c0_981 : Index := 0#32
  ![v1939.toNat, 0, 3, 0, 0]
def k0_off614 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1942 : Index := Scalar.indexCast v1142
  let c1_982 : Index := 1#32
  let c3_983 : Index := 3#32
  let c0_984 : Index := 0#32
  let c0_985 : Index := 0#32
  ![v1942.toNat, 1, 3, 0, 0]
def k0_off615 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1955 : Index := Scalar.indexCast v1142
  let c2_989 : Index := 2#32
  let c3_990 : Index := 3#32
  let c0_991 : Index := 0#32
  let c0_992 : Index := 0#32
  ![v1955.toNat, 2, 3, 0, 0]
def k0_off616 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1958 : Index := Scalar.indexCast v1142
  let c3_993 : Index := 3#32
  let c3_994 : Index := 3#32
  let c0_995 : Index := 0#32
  let c0_996 : Index := 0#32
  ![v1958.toNat, 3, 3, 0, 0]
def k0_off617 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1971 : Index := Scalar.indexCast v1142
  let c4_1000 : Index := 4#32
  let c3_1001 : Index := 3#32
  let c0_1002 : Index := 0#32
  let c0_1003 : Index := 0#32
  ![v1971.toNat, 4, 3, 0, 0]
def k0_off618 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1974 : Index := Scalar.indexCast v1142
  let c5_1004 : Index := 5#32
  let c3_1005 : Index := 3#32
  let c0_1006 : Index := 0#32
  let c0_1007 : Index := 0#32
  ![v1974.toNat, 5, 3, 0, 0]
def k0_off619 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1987 : Index := Scalar.indexCast v1142
  let c6_1011 : Index := 6#32
  let c3_1012 : Index := 3#32
  let c0_1013 : Index := 0#32
  let c0_1014 : Index := 0#32
  ![v1987.toNat, 6, 3, 0, 0]
def k0_off620 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1990 : Index := Scalar.indexCast v1142
  let c7_1015 : Index := 7#32
  let c3_1016 : Index := 3#32
  let c0_1017 : Index := 0#32
  let c0_1018 : Index := 0#32
  ![v1990.toNat, 7, 3, 0, 0]
def k0_off621 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2003 : Index := Scalar.indexCast v1142
  let c8_1022 : Index := 8#32
  let c3_1023 : Index := 3#32
  let c0_1024 : Index := 0#32
  let c0_1025 : Index := 0#32
  ![v2003.toNat, 8, 3, 0, 0]
def k0_off622 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2006 : Index := Scalar.indexCast v1142
  let c9_1026 : Index := 9#32
  let c3_1027 : Index := 3#32
  let c0_1028 : Index := 0#32
  let c0_1029 : Index := 0#32
  ![v2006.toNat, 9, 3, 0, 0]
def k0_off623 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2019 : Index := Scalar.indexCast v1142
  let c10_1033 : Index := 10#32
  let c3_1034 : Index := 3#32
  let c0_1035 : Index := 0#32
  let c0_1036 : Index := 0#32
  ![v2019.toNat, 10, 3, 0, 0]
def k0_off624 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2022 : Index := Scalar.indexCast v1142
  let c11_1037 : Index := 11#32
  let c3_1038 : Index := 3#32
  let c0_1039 : Index := 0#32
  let c0_1040 : Index := 0#32
  ![v2022.toNat, 11, 3, 0, 0]
def k0_off625 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2035 : Index := Scalar.indexCast v1142
  let c12_1044 : Index := 12#32
  let c3_1045 : Index := 3#32
  let c0_1046 : Index := 0#32
  let c0_1047 : Index := 0#32
  ![v2035.toNat, 12, 3, 0, 0]
def k0_off626 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2038 : Index := Scalar.indexCast v1142
  let c13_1048 : Index := 13#32
  let c3_1049 : Index := 3#32
  let c0_1050 : Index := 0#32
  let c0_1051 : Index := 0#32
  ![v2038.toNat, 13, 3, 0, 0]
def k0_off627 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2051 : Index := Scalar.indexCast v1142
  let c14_1055 : Index := 14#32
  let c3_1056 : Index := 3#32
  let c0_1057 : Index := 0#32
  let c0_1058 : Index := 0#32
  ![v2051.toNat, 14, 3, 0, 0]
def k0_off628 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2054 : Index := Scalar.indexCast v1142
  let c15_1059 : Index := 15#32
  let c3_1060 : Index := 3#32
  let c0_1061 : Index := 0#32
  let c0_1062 : Index := 0#32
  ![v2054.toNat, 15, 3, 0, 0]
def k0_off629 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2067 : Index := Scalar.indexCast v1142
  let c16_1066 : Index := 16#32
  let c3_1067 : Index := 3#32
  let c0_1068 : Index := 0#32
  let c0_1069 : Index := 0#32
  ![v2067.toNat, 16, 3, 0, 0]
def k0_off630 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2070 : Index := Scalar.indexCast v1142
  let c17_1070 : Index := 17#32
  let c3_1071 : Index := 3#32
  let c0_1072 : Index := 0#32
  let c0_1073 : Index := 0#32
  ![v2070.toNat, 17, 3, 0, 0]
def k0_off631 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2083 : Index := Scalar.indexCast v1142
  let c18_1077 : Index := 18#32
  let c3_1078 : Index := 3#32
  let c0_1079 : Index := 0#32
  let c0_1080 : Index := 0#32
  ![v2083.toNat, 18, 3, 0, 0]
def k0_off632 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2086 : Index := Scalar.indexCast v1142
  let c19_1081 : Index := 19#32
  let c3_1082 : Index := 3#32
  let c0_1083 : Index := 0#32
  let c0_1084 : Index := 0#32
  ![v2086.toNat, 19, 3, 0, 0]
def k0_off633 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2099 : Index := Scalar.indexCast v1142
  let c20_1088 : Index := 20#32
  let c3_1089 : Index := 3#32
  let c0_1090 : Index := 0#32
  let c0_1091 : Index := 0#32
  ![v2099.toNat, 20, 3, 0, 0]
def k0_off634 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2102 : Index := Scalar.indexCast v1142
  let c21_1092 : Index := 21#32
  let c3_1093 : Index := 3#32
  let c0_1094 : Index := 0#32
  let c0_1095 : Index := 0#32
  ![v2102.toNat, 21, 3, 0, 0]
def k0_off635 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2115 : Index := Scalar.indexCast v1142
  let c22_1099 : Index := 22#32
  let c3_1100 : Index := 3#32
  let c0_1101 : Index := 0#32
  let c0_1102 : Index := 0#32
  ![v2115.toNat, 22, 3, 0, 0]
def k0_off636 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2118 : Index := Scalar.indexCast v1142
  let c23_1103 : Index := 23#32
  let c3_1104 : Index := 3#32
  let c0_1105 : Index := 0#32
  let c0_1106 : Index := 0#32
  ![v2118.toNat, 23, 3, 0, 0]
def k0_off637 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2131 : Index := Scalar.indexCast v1142
  let c24_1110 : Index := 24#32
  let c3_1111 : Index := 3#32
  let c0_1112 : Index := 0#32
  let c0_1113 : Index := 0#32
  ![v2131.toNat, 24, 3, 0, 0]
def k0_off638 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2134 : Index := Scalar.indexCast v1142
  let c25_1114 : Index := 25#32
  let c3_1115 : Index := 3#32
  let c0_1116 : Index := 0#32
  let c0_1117 : Index := 0#32
  ![v2134.toNat, 25, 3, 0, 0]
def k0_off639 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2147 : Index := Scalar.indexCast v1142
  let c26_1121 : Index := 26#32
  let c3_1122 : Index := 3#32
  let c0_1123 : Index := 0#32
  let c0_1124 : Index := 0#32
  ![v2147.toNat, 26, 3, 0, 0]
def k0_off640 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2150 : Index := Scalar.indexCast v1142
  let c27_1125 : Index := 27#32
  let c3_1126 : Index := 3#32
  let c0_1127 : Index := 0#32
  let c0_1128 : Index := 0#32
  ![v2150.toNat, 27, 3, 0, 0]
def k0_off641 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2163 : Index := Scalar.indexCast v1142
  let c28_1132 : Index := 28#32
  let c3_1133 : Index := 3#32
  let c0_1134 : Index := 0#32
  let c0_1135 : Index := 0#32
  ![v2163.toNat, 28, 3, 0, 0]
def k0_off642 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2166 : Index := Scalar.indexCast v1142
  let c29_1136 : Index := 29#32
  let c3_1137 : Index := 3#32
  let c0_1138 : Index := 0#32
  let c0_1139 : Index := 0#32
  ![v2166.toNat, 29, 3, 0, 0]
def k0_off643 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2179 : Index := Scalar.indexCast v1142
  let c30_1143 : Index := 30#32
  let c3_1144 : Index := 3#32
  let c0_1145 : Index := 0#32
  let c0_1146 : Index := 0#32
  ![v2179.toNat, 30, 3, 0, 0]
def k0_off644 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2182 : Index := Scalar.indexCast v1142
  let c31_1147 : Index := 31#32
  let c3_1148 : Index := 3#32
  let c0_1149 : Index := 0#32
  let c0_1150 : Index := 0#32
  ![v2182.toNat, 31, 3, 0, 0]
def k0_off645 (i : grid0.Coords) : Fin 3 → Nat :=
  let c0_1158 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2198 : Index := Scalar.indexCast v1085
  let c0_1159 : Index := 0#32
  ![0, v2198.toNat, 0]
def k0_off646 (i : grid0.Coords) : Fin 3 → Nat :=
  let c0_1163 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1161 : BitVec 32 := 4#32
  let v2203 : BitVec 32 := Scalar.muli v840 c4_i32_1161
  let c0_i32_1162 : BitVec 32 := 0#32
  let v2204 : BitVec 32 := Scalar.addi v2203 c0_i32_1162
  let v2205 : Index := Scalar.indexCast v2204
  let c0_1164 : Index := 0#32
  ![0, v2205.toNat, 0]
def k0_off647 (i : grid0.Coords) : Fin 3 → Nat :=
  let c0_1166 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2214 : Index := Scalar.indexCast v1085
  let c0_1167 : Index := 0#32
  ![0, v2214.toNat, 0]
def k0_off648 (i : grid0.Coords) : Fin 3 → Nat :=
  let c1_1174 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1172 : BitVec 32 := 4#32
  let v2226 : BitVec 32 := Scalar.muli v840 c4_i32_1172
  let c0_i32_1173 : BitVec 32 := 0#32
  let v2227 : BitVec 32 := Scalar.addi v2226 c0_i32_1173
  let v2228 : Index := Scalar.indexCast v2227
  let c0_1175 : Index := 0#32
  ![1, v2228.toNat, 0]
def k0_off649 (i : grid0.Coords) : Fin 3 → Nat :=
  let c1_1177 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2237 : Index := Scalar.indexCast v1085
  let c0_1178 : Index := 0#32
  ![1, v2237.toNat, 0]
def k0_off650 (i : grid0.Coords) : Fin 3 → Nat :=
  let c2_1185 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1183 : BitVec 32 := 4#32
  let v2249 : BitVec 32 := Scalar.muli v840 c4_i32_1183
  let c0_i32_1184 : BitVec 32 := 0#32
  let v2250 : BitVec 32 := Scalar.addi v2249 c0_i32_1184
  let v2251 : Index := Scalar.indexCast v2250
  let c0_1186 : Index := 0#32
  ![2, v2251.toNat, 0]
def k0_off651 (i : grid0.Coords) : Fin 3 → Nat :=
  let c2_1188 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2260 : Index := Scalar.indexCast v1085
  let c0_1189 : Index := 0#32
  ![2, v2260.toNat, 0]
def k0_off652 (i : grid0.Coords) : Fin 3 → Nat :=
  let c3_1196 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c4_i32_1194 : BitVec 32 := 4#32
  let v2272 : BitVec 32 := Scalar.muli v840 c4_i32_1194
  let c0_i32_1195 : BitVec 32 := 0#32
  let v2273 : BitVec 32 := Scalar.addi v2272 c0_i32_1195
  let v2274 : Index := Scalar.indexCast v2273
  let c0_1197 : Index := 0#32
  ![3, v2274.toNat, 0]
def k0_off653 (i : grid0.Coords) : Fin 3 → Nat :=
  let c3_1199 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2283 : Index := Scalar.indexCast v1085
  let c0_1200 : Index := 0#32
  ![3, v2283.toNat, 0]
def k0_off654 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1153 : Index := Scalar.indexCast v1139
  let c0_452 : Index := 0#32
  let c0_453 : Index := 0#32
  let c0_454 : Index := 0#32
  let c0_455 : Index := 0#32
  ![v1153.toNat, 0, 0, 0, 0]
def k0_off655 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1156 : Index := Scalar.indexCast v1139
  let c1_456 : Index := 1#32
  let c0_457 : Index := 0#32
  let c0_458 : Index := 0#32
  let c0_459 : Index := 0#32
  ![v1156.toNat, 1, 0, 0, 0]
def k0_off656 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1169 : Index := Scalar.indexCast v1139
  let c2_463 : Index := 2#32
  let c0_464 : Index := 0#32
  let c0_465 : Index := 0#32
  let c0_466 : Index := 0#32
  ![v1169.toNat, 2, 0, 0, 0]
def k0_off657 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1172 : Index := Scalar.indexCast v1139
  let c3_467 : Index := 3#32
  let c0_468 : Index := 0#32
  let c0_469 : Index := 0#32
  let c0_470 : Index := 0#32
  ![v1172.toNat, 3, 0, 0, 0]
def k0_off658 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1185 : Index := Scalar.indexCast v1139
  let c4 : Index := 4#32
  let c0_474 : Index := 0#32
  let c0_475 : Index := 0#32
  let c0_476 : Index := 0#32
  ![v1185.toNat, 4, 0, 0, 0]
def k0_off659 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1188 : Index := Scalar.indexCast v1139
  let c5 : Index := 5#32
  let c0_477 : Index := 0#32
  let c0_478 : Index := 0#32
  let c0_479 : Index := 0#32
  ![v1188.toNat, 5, 0, 0, 0]
def k0_off660 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1201 : Index := Scalar.indexCast v1139
  let c6 : Index := 6#32
  let c0_483 : Index := 0#32
  let c0_484 : Index := 0#32
  let c0_485 : Index := 0#32
  ![v1201.toNat, 6, 0, 0, 0]
def k0_off661 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1204 : Index := Scalar.indexCast v1139
  let c7 : Index := 7#32
  let c0_486 : Index := 0#32
  let c0_487 : Index := 0#32
  let c0_488 : Index := 0#32
  ![v1204.toNat, 7, 0, 0, 0]
def k0_off662 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1217 : Index := Scalar.indexCast v1139
  let c8 : Index := 8#32
  let c0_492 : Index := 0#32
  let c0_493 : Index := 0#32
  let c0_494 : Index := 0#32
  ![v1217.toNat, 8, 0, 0, 0]
def k0_off663 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1220 : Index := Scalar.indexCast v1139
  let c9 : Index := 9#32
  let c0_495 : Index := 0#32
  let c0_496 : Index := 0#32
  let c0_497 : Index := 0#32
  ![v1220.toNat, 9, 0, 0, 0]
def k0_off664 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1233 : Index := Scalar.indexCast v1139
  let c10 : Index := 10#32
  let c0_501 : Index := 0#32
  let c0_502 : Index := 0#32
  let c0_503 : Index := 0#32
  ![v1233.toNat, 10, 0, 0, 0]
def k0_off665 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1236 : Index := Scalar.indexCast v1139
  let c11 : Index := 11#32
  let c0_504 : Index := 0#32
  let c0_505 : Index := 0#32
  let c0_506 : Index := 0#32
  ![v1236.toNat, 11, 0, 0, 0]
def k0_off666 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1249 : Index := Scalar.indexCast v1139
  let c12 : Index := 12#32
  let c0_510 : Index := 0#32
  let c0_511 : Index := 0#32
  let c0_512 : Index := 0#32
  ![v1249.toNat, 12, 0, 0, 0]
def k0_off667 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1252 : Index := Scalar.indexCast v1139
  let c13 : Index := 13#32
  let c0_513 : Index := 0#32
  let c0_514 : Index := 0#32
  let c0_515 : Index := 0#32
  ![v1252.toNat, 13, 0, 0, 0]
def k0_off668 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1265 : Index := Scalar.indexCast v1139
  let c14 : Index := 14#32
  let c0_519 : Index := 0#32
  let c0_520 : Index := 0#32
  let c0_521 : Index := 0#32
  ![v1265.toNat, 14, 0, 0, 0]
def k0_off669 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1268 : Index := Scalar.indexCast v1139
  let c15 : Index := 15#32
  let c0_522 : Index := 0#32
  let c0_523 : Index := 0#32
  let c0_524 : Index := 0#32
  ![v1268.toNat, 15, 0, 0, 0]
def k0_off670 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1281 : Index := Scalar.indexCast v1139
  let c16 : Index := 16#32
  let c0_528 : Index := 0#32
  let c0_529 : Index := 0#32
  let c0_530 : Index := 0#32
  ![v1281.toNat, 16, 0, 0, 0]
def k0_off671 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1284 : Index := Scalar.indexCast v1139
  let c17 : Index := 17#32
  let c0_531 : Index := 0#32
  let c0_532 : Index := 0#32
  let c0_533 : Index := 0#32
  ![v1284.toNat, 17, 0, 0, 0]
def k0_off672 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1297 : Index := Scalar.indexCast v1139
  let c18 : Index := 18#32
  let c0_537 : Index := 0#32
  let c0_538 : Index := 0#32
  let c0_539 : Index := 0#32
  ![v1297.toNat, 18, 0, 0, 0]
def k0_off673 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1300 : Index := Scalar.indexCast v1139
  let c19 : Index := 19#32
  let c0_540 : Index := 0#32
  let c0_541 : Index := 0#32
  let c0_542 : Index := 0#32
  ![v1300.toNat, 19, 0, 0, 0]
def k0_off674 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1313 : Index := Scalar.indexCast v1139
  let c20 : Index := 20#32
  let c0_546 : Index := 0#32
  let c0_547 : Index := 0#32
  let c0_548 : Index := 0#32
  ![v1313.toNat, 20, 0, 0, 0]
def k0_off675 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1316 : Index := Scalar.indexCast v1139
  let c21 : Index := 21#32
  let c0_549 : Index := 0#32
  let c0_550 : Index := 0#32
  let c0_551 : Index := 0#32
  ![v1316.toNat, 21, 0, 0, 0]
def k0_off676 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1329 : Index := Scalar.indexCast v1139
  let c22 : Index := 22#32
  let c0_555 : Index := 0#32
  let c0_556 : Index := 0#32
  let c0_557 : Index := 0#32
  ![v1329.toNat, 22, 0, 0, 0]
def k0_off677 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1332 : Index := Scalar.indexCast v1139
  let c23 : Index := 23#32
  let c0_558 : Index := 0#32
  let c0_559 : Index := 0#32
  let c0_560 : Index := 0#32
  ![v1332.toNat, 23, 0, 0, 0]
def k0_off678 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1345 : Index := Scalar.indexCast v1139
  let c24 : Index := 24#32
  let c0_564 : Index := 0#32
  let c0_565 : Index := 0#32
  let c0_566 : Index := 0#32
  ![v1345.toNat, 24, 0, 0, 0]
def k0_off679 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1348 : Index := Scalar.indexCast v1139
  let c25 : Index := 25#32
  let c0_567 : Index := 0#32
  let c0_568 : Index := 0#32
  let c0_569 : Index := 0#32
  ![v1348.toNat, 25, 0, 0, 0]
def k0_off680 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1361 : Index := Scalar.indexCast v1139
  let c26 : Index := 26#32
  let c0_573 : Index := 0#32
  let c0_574 : Index := 0#32
  let c0_575 : Index := 0#32
  ![v1361.toNat, 26, 0, 0, 0]
def k0_off681 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1364 : Index := Scalar.indexCast v1139
  let c27 : Index := 27#32
  let c0_576 : Index := 0#32
  let c0_577 : Index := 0#32
  let c0_578 : Index := 0#32
  ![v1364.toNat, 27, 0, 0, 0]
def k0_off682 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1377 : Index := Scalar.indexCast v1139
  let c28 : Index := 28#32
  let c0_582 : Index := 0#32
  let c0_583 : Index := 0#32
  let c0_584 : Index := 0#32
  ![v1377.toNat, 28, 0, 0, 0]
def k0_off683 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1380 : Index := Scalar.indexCast v1139
  let c29 : Index := 29#32
  let c0_585 : Index := 0#32
  let c0_586 : Index := 0#32
  let c0_587 : Index := 0#32
  ![v1380.toNat, 29, 0, 0, 0]
def k0_off684 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1393 : Index := Scalar.indexCast v1139
  let c30 : Index := 30#32
  let c0_591 : Index := 0#32
  let c0_592 : Index := 0#32
  let c0_593 : Index := 0#32
  ![v1393.toNat, 30, 0, 0, 0]
def k0_off685 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1396 : Index := Scalar.indexCast v1139
  let c31 : Index := 31#32
  let c0_594 : Index := 0#32
  let c0_595 : Index := 0#32
  let c0_596 : Index := 0#32
  ![v1396.toNat, 31, 0, 0, 0]
def k0_off686 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1414 : Index := Scalar.indexCast v1139
  let c0_608 : Index := 0#32
  let c1_609 : Index := 1#32
  let c0_610 : Index := 0#32
  let c0_611 : Index := 0#32
  ![v1414.toNat, 0, 1, 0, 0]
def k0_off687 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1417 : Index := Scalar.indexCast v1139
  let c1_612 : Index := 1#32
  let c1_613 : Index := 1#32
  let c0_614 : Index := 0#32
  let c0_615 : Index := 0#32
  ![v1417.toNat, 1, 1, 0, 0]
def k0_off688 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1430 : Index := Scalar.indexCast v1139
  let c2_619 : Index := 2#32
  let c1_620 : Index := 1#32
  let c0_621 : Index := 0#32
  let c0_622 : Index := 0#32
  ![v1430.toNat, 2, 1, 0, 0]
def k0_off689 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1433 : Index := Scalar.indexCast v1139
  let c3_623 : Index := 3#32
  let c1_624 : Index := 1#32
  let c0_625 : Index := 0#32
  let c0_626 : Index := 0#32
  ![v1433.toNat, 3, 1, 0, 0]
def k0_off690 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1446 : Index := Scalar.indexCast v1139
  let c4_630 : Index := 4#32
  let c1_631 : Index := 1#32
  let c0_632 : Index := 0#32
  let c0_633 : Index := 0#32
  ![v1446.toNat, 4, 1, 0, 0]
def k0_off691 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1449 : Index := Scalar.indexCast v1139
  let c5_634 : Index := 5#32
  let c1_635 : Index := 1#32
  let c0_636 : Index := 0#32
  let c0_637 : Index := 0#32
  ![v1449.toNat, 5, 1, 0, 0]
def k0_off692 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1462 : Index := Scalar.indexCast v1139
  let c6_641 : Index := 6#32
  let c1_642 : Index := 1#32
  let c0_643 : Index := 0#32
  let c0_644 : Index := 0#32
  ![v1462.toNat, 6, 1, 0, 0]
def k0_off693 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1465 : Index := Scalar.indexCast v1139
  let c7_645 : Index := 7#32
  let c1_646 : Index := 1#32
  let c0_647 : Index := 0#32
  let c0_648 : Index := 0#32
  ![v1465.toNat, 7, 1, 0, 0]
def k0_off694 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1478 : Index := Scalar.indexCast v1139
  let c8_652 : Index := 8#32
  let c1_653 : Index := 1#32
  let c0_654 : Index := 0#32
  let c0_655 : Index := 0#32
  ![v1478.toNat, 8, 1, 0, 0]
def k0_off695 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1481 : Index := Scalar.indexCast v1139
  let c9_656 : Index := 9#32
  let c1_657 : Index := 1#32
  let c0_658 : Index := 0#32
  let c0_659 : Index := 0#32
  ![v1481.toNat, 9, 1, 0, 0]
def k0_off696 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1494 : Index := Scalar.indexCast v1139
  let c10_663 : Index := 10#32
  let c1_664 : Index := 1#32
  let c0_665 : Index := 0#32
  let c0_666 : Index := 0#32
  ![v1494.toNat, 10, 1, 0, 0]
def k0_off697 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1497 : Index := Scalar.indexCast v1139
  let c11_667 : Index := 11#32
  let c1_668 : Index := 1#32
  let c0_669 : Index := 0#32
  let c0_670 : Index := 0#32
  ![v1497.toNat, 11, 1, 0, 0]
def k0_off698 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1510 : Index := Scalar.indexCast v1139
  let c12_674 : Index := 12#32
  let c1_675 : Index := 1#32
  let c0_676 : Index := 0#32
  let c0_677 : Index := 0#32
  ![v1510.toNat, 12, 1, 0, 0]
def k0_off699 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1513 : Index := Scalar.indexCast v1139
  let c13_678 : Index := 13#32
  let c1_679 : Index := 1#32
  let c0_680 : Index := 0#32
  let c0_681 : Index := 0#32
  ![v1513.toNat, 13, 1, 0, 0]
def k0_off700 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1526 : Index := Scalar.indexCast v1139
  let c14_685 : Index := 14#32
  let c1_686 : Index := 1#32
  let c0_687 : Index := 0#32
  let c0_688 : Index := 0#32
  ![v1526.toNat, 14, 1, 0, 0]
def k0_off701 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1529 : Index := Scalar.indexCast v1139
  let c15_689 : Index := 15#32
  let c1_690 : Index := 1#32
  let c0_691 : Index := 0#32
  let c0_692 : Index := 0#32
  ![v1529.toNat, 15, 1, 0, 0]
def k0_off702 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1542 : Index := Scalar.indexCast v1139
  let c16_696 : Index := 16#32
  let c1_697 : Index := 1#32
  let c0_698 : Index := 0#32
  let c0_699 : Index := 0#32
  ![v1542.toNat, 16, 1, 0, 0]
def k0_off703 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1545 : Index := Scalar.indexCast v1139
  let c17_700 : Index := 17#32
  let c1_701 : Index := 1#32
  let c0_702 : Index := 0#32
  let c0_703 : Index := 0#32
  ![v1545.toNat, 17, 1, 0, 0]
def k0_off704 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1558 : Index := Scalar.indexCast v1139
  let c18_707 : Index := 18#32
  let c1_708 : Index := 1#32
  let c0_709 : Index := 0#32
  let c0_710 : Index := 0#32
  ![v1558.toNat, 18, 1, 0, 0]
def k0_off705 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1561 : Index := Scalar.indexCast v1139
  let c19_711 : Index := 19#32
  let c1_712 : Index := 1#32
  let c0_713 : Index := 0#32
  let c0_714 : Index := 0#32
  ![v1561.toNat, 19, 1, 0, 0]
def k0_off706 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1574 : Index := Scalar.indexCast v1139
  let c20_718 : Index := 20#32
  let c1_719 : Index := 1#32
  let c0_720 : Index := 0#32
  let c0_721 : Index := 0#32
  ![v1574.toNat, 20, 1, 0, 0]
def k0_off707 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1577 : Index := Scalar.indexCast v1139
  let c21_722 : Index := 21#32
  let c1_723 : Index := 1#32
  let c0_724 : Index := 0#32
  let c0_725 : Index := 0#32
  ![v1577.toNat, 21, 1, 0, 0]
def k0_off708 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1590 : Index := Scalar.indexCast v1139
  let c22_729 : Index := 22#32
  let c1_730 : Index := 1#32
  let c0_731 : Index := 0#32
  let c0_732 : Index := 0#32
  ![v1590.toNat, 22, 1, 0, 0]
def k0_off709 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1593 : Index := Scalar.indexCast v1139
  let c23_733 : Index := 23#32
  let c1_734 : Index := 1#32
  let c0_735 : Index := 0#32
  let c0_736 : Index := 0#32
  ![v1593.toNat, 23, 1, 0, 0]
def k0_off710 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1606 : Index := Scalar.indexCast v1139
  let c24_740 : Index := 24#32
  let c1_741 : Index := 1#32
  let c0_742 : Index := 0#32
  let c0_743 : Index := 0#32
  ![v1606.toNat, 24, 1, 0, 0]
def k0_off711 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1609 : Index := Scalar.indexCast v1139
  let c25_744 : Index := 25#32
  let c1_745 : Index := 1#32
  let c0_746 : Index := 0#32
  let c0_747 : Index := 0#32
  ![v1609.toNat, 25, 1, 0, 0]
def k0_off712 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1622 : Index := Scalar.indexCast v1139
  let c26_751 : Index := 26#32
  let c1_752 : Index := 1#32
  let c0_753 : Index := 0#32
  let c0_754 : Index := 0#32
  ![v1622.toNat, 26, 1, 0, 0]
def k0_off713 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1625 : Index := Scalar.indexCast v1139
  let c27_755 : Index := 27#32
  let c1_756 : Index := 1#32
  let c0_757 : Index := 0#32
  let c0_758 : Index := 0#32
  ![v1625.toNat, 27, 1, 0, 0]
def k0_off714 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1638 : Index := Scalar.indexCast v1139
  let c28_762 : Index := 28#32
  let c1_763 : Index := 1#32
  let c0_764 : Index := 0#32
  let c0_765 : Index := 0#32
  ![v1638.toNat, 28, 1, 0, 0]
def k0_off715 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1641 : Index := Scalar.indexCast v1139
  let c29_766 : Index := 29#32
  let c1_767 : Index := 1#32
  let c0_768 : Index := 0#32
  let c0_769 : Index := 0#32
  ![v1641.toNat, 29, 1, 0, 0]
def k0_off716 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1654 : Index := Scalar.indexCast v1139
  let c30_773 : Index := 30#32
  let c1_774 : Index := 1#32
  let c0_775 : Index := 0#32
  let c0_776 : Index := 0#32
  ![v1654.toNat, 30, 1, 0, 0]
def k0_off717 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1657 : Index := Scalar.indexCast v1139
  let c31_777 : Index := 31#32
  let c1_778 : Index := 1#32
  let c0_779 : Index := 0#32
  let c0_780 : Index := 0#32
  ![v1657.toNat, 31, 1, 0, 0]
def k0_off718 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1675 : Index := Scalar.indexCast v1139
  let c0_792 : Index := 0#32
  let c2_793 : Index := 2#32
  let c0_794 : Index := 0#32
  let c0_795 : Index := 0#32
  ![v1675.toNat, 0, 2, 0, 0]
def k0_off719 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1678 : Index := Scalar.indexCast v1139
  let c1_796 : Index := 1#32
  let c2_797 : Index := 2#32
  let c0_798 : Index := 0#32
  let c0_799 : Index := 0#32
  ![v1678.toNat, 1, 2, 0, 0]
def k0_off720 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1691 : Index := Scalar.indexCast v1139
  let c2_803 : Index := 2#32
  let c2_804 : Index := 2#32
  let c0_805 : Index := 0#32
  let c0_806 : Index := 0#32
  ![v1691.toNat, 2, 2, 0, 0]
def k0_off721 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1694 : Index := Scalar.indexCast v1139
  let c3_807 : Index := 3#32
  let c2_808 : Index := 2#32
  let c0_809 : Index := 0#32
  let c0_810 : Index := 0#32
  ![v1694.toNat, 3, 2, 0, 0]
def k0_off722 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1707 : Index := Scalar.indexCast v1139
  let c4_814 : Index := 4#32
  let c2_815 : Index := 2#32
  let c0_816 : Index := 0#32
  let c0_817 : Index := 0#32
  ![v1707.toNat, 4, 2, 0, 0]
def k0_off723 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1710 : Index := Scalar.indexCast v1139
  let c5_818 : Index := 5#32
  let c2_819 : Index := 2#32
  let c0_820 : Index := 0#32
  let c0_821 : Index := 0#32
  ![v1710.toNat, 5, 2, 0, 0]
def k0_off724 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1723 : Index := Scalar.indexCast v1139
  let c6_825 : Index := 6#32
  let c2_826 : Index := 2#32
  let c0_827 : Index := 0#32
  let c0_828 : Index := 0#32
  ![v1723.toNat, 6, 2, 0, 0]
def k0_off725 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1726 : Index := Scalar.indexCast v1139
  let c7_829 : Index := 7#32
  let c2_830 : Index := 2#32
  let c0_831 : Index := 0#32
  let c0_832 : Index := 0#32
  ![v1726.toNat, 7, 2, 0, 0]
def k0_off726 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1739 : Index := Scalar.indexCast v1139
  let c8_836 : Index := 8#32
  let c2_837 : Index := 2#32
  let c0_838 : Index := 0#32
  let c0_839 : Index := 0#32
  ![v1739.toNat, 8, 2, 0, 0]
def k0_off727 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1742 : Index := Scalar.indexCast v1139
  let c9_840 : Index := 9#32
  let c2_841 : Index := 2#32
  let c0_842 : Index := 0#32
  let c0_843 : Index := 0#32
  ![v1742.toNat, 9, 2, 0, 0]
def k0_off728 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1755 : Index := Scalar.indexCast v1139
  let c10_847 : Index := 10#32
  let c2_848 : Index := 2#32
  let c0_849 : Index := 0#32
  let c0_850 : Index := 0#32
  ![v1755.toNat, 10, 2, 0, 0]
def k0_off729 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1758 : Index := Scalar.indexCast v1139
  let c11_851 : Index := 11#32
  let c2_852 : Index := 2#32
  let c0_853 : Index := 0#32
  let c0_854 : Index := 0#32
  ![v1758.toNat, 11, 2, 0, 0]
def k0_off730 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1771 : Index := Scalar.indexCast v1139
  let c12_858 : Index := 12#32
  let c2_859 : Index := 2#32
  let c0_860 : Index := 0#32
  let c0_861 : Index := 0#32
  ![v1771.toNat, 12, 2, 0, 0]
def k0_off731 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1774 : Index := Scalar.indexCast v1139
  let c13_862 : Index := 13#32
  let c2_863 : Index := 2#32
  let c0_864 : Index := 0#32
  let c0_865 : Index := 0#32
  ![v1774.toNat, 13, 2, 0, 0]
def k0_off732 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1787 : Index := Scalar.indexCast v1139
  let c14_869 : Index := 14#32
  let c2_870 : Index := 2#32
  let c0_871 : Index := 0#32
  let c0_872 : Index := 0#32
  ![v1787.toNat, 14, 2, 0, 0]
def k0_off733 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1790 : Index := Scalar.indexCast v1139
  let c15_873 : Index := 15#32
  let c2_874 : Index := 2#32
  let c0_875 : Index := 0#32
  let c0_876 : Index := 0#32
  ![v1790.toNat, 15, 2, 0, 0]
def k0_off734 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1803 : Index := Scalar.indexCast v1139
  let c16_880 : Index := 16#32
  let c2_881 : Index := 2#32
  let c0_882 : Index := 0#32
  let c0_883 : Index := 0#32
  ![v1803.toNat, 16, 2, 0, 0]
def k0_off735 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1806 : Index := Scalar.indexCast v1139
  let c17_884 : Index := 17#32
  let c2_885 : Index := 2#32
  let c0_886 : Index := 0#32
  let c0_887 : Index := 0#32
  ![v1806.toNat, 17, 2, 0, 0]
def k0_off736 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1819 : Index := Scalar.indexCast v1139
  let c18_891 : Index := 18#32
  let c2_892 : Index := 2#32
  let c0_893 : Index := 0#32
  let c0_894 : Index := 0#32
  ![v1819.toNat, 18, 2, 0, 0]
def k0_off737 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1822 : Index := Scalar.indexCast v1139
  let c19_895 : Index := 19#32
  let c2_896 : Index := 2#32
  let c0_897 : Index := 0#32
  let c0_898 : Index := 0#32
  ![v1822.toNat, 19, 2, 0, 0]
def k0_off738 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1835 : Index := Scalar.indexCast v1139
  let c20_902 : Index := 20#32
  let c2_903 : Index := 2#32
  let c0_904 : Index := 0#32
  let c0_905 : Index := 0#32
  ![v1835.toNat, 20, 2, 0, 0]
def k0_off739 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1838 : Index := Scalar.indexCast v1139
  let c21_906 : Index := 21#32
  let c2_907 : Index := 2#32
  let c0_908 : Index := 0#32
  let c0_909 : Index := 0#32
  ![v1838.toNat, 21, 2, 0, 0]
def k0_off740 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1851 : Index := Scalar.indexCast v1139
  let c22_913 : Index := 22#32
  let c2_914 : Index := 2#32
  let c0_915 : Index := 0#32
  let c0_916 : Index := 0#32
  ![v1851.toNat, 22, 2, 0, 0]
def k0_off741 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1854 : Index := Scalar.indexCast v1139
  let c23_917 : Index := 23#32
  let c2_918 : Index := 2#32
  let c0_919 : Index := 0#32
  let c0_920 : Index := 0#32
  ![v1854.toNat, 23, 2, 0, 0]
def k0_off742 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1867 : Index := Scalar.indexCast v1139
  let c24_924 : Index := 24#32
  let c2_925 : Index := 2#32
  let c0_926 : Index := 0#32
  let c0_927 : Index := 0#32
  ![v1867.toNat, 24, 2, 0, 0]
def k0_off743 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1870 : Index := Scalar.indexCast v1139
  let c25_928 : Index := 25#32
  let c2_929 : Index := 2#32
  let c0_930 : Index := 0#32
  let c0_931 : Index := 0#32
  ![v1870.toNat, 25, 2, 0, 0]
def k0_off744 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1883 : Index := Scalar.indexCast v1139
  let c26_935 : Index := 26#32
  let c2_936 : Index := 2#32
  let c0_937 : Index := 0#32
  let c0_938 : Index := 0#32
  ![v1883.toNat, 26, 2, 0, 0]
def k0_off745 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1886 : Index := Scalar.indexCast v1139
  let c27_939 : Index := 27#32
  let c2_940 : Index := 2#32
  let c0_941 : Index := 0#32
  let c0_942 : Index := 0#32
  ![v1886.toNat, 27, 2, 0, 0]
def k0_off746 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1899 : Index := Scalar.indexCast v1139
  let c28_946 : Index := 28#32
  let c2_947 : Index := 2#32
  let c0_948 : Index := 0#32
  let c0_949 : Index := 0#32
  ![v1899.toNat, 28, 2, 0, 0]
def k0_off747 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1902 : Index := Scalar.indexCast v1139
  let c29_950 : Index := 29#32
  let c2_951 : Index := 2#32
  let c0_952 : Index := 0#32
  let c0_953 : Index := 0#32
  ![v1902.toNat, 29, 2, 0, 0]
def k0_off748 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1915 : Index := Scalar.indexCast v1139
  let c30_957 : Index := 30#32
  let c2_958 : Index := 2#32
  let c0_959 : Index := 0#32
  let c0_960 : Index := 0#32
  ![v1915.toNat, 30, 2, 0, 0]
def k0_off749 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1918 : Index := Scalar.indexCast v1139
  let c31_961 : Index := 31#32
  let c2_962 : Index := 2#32
  let c0_963 : Index := 0#32
  let c0_964 : Index := 0#32
  ![v1918.toNat, 31, 2, 0, 0]
def k0_off750 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1936 : Index := Scalar.indexCast v1139
  let c0_976 : Index := 0#32
  let c3_977 : Index := 3#32
  let c0_978 : Index := 0#32
  let c0_979 : Index := 0#32
  ![v1936.toNat, 0, 3, 0, 0]
def k0_off751 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1939 : Index := Scalar.indexCast v1139
  let c1_980 : Index := 1#32
  let c3_981 : Index := 3#32
  let c0_982 : Index := 0#32
  let c0_983 : Index := 0#32
  ![v1939.toNat, 1, 3, 0, 0]
def k0_off752 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1952 : Index := Scalar.indexCast v1139
  let c2_987 : Index := 2#32
  let c3_988 : Index := 3#32
  let c0_989 : Index := 0#32
  let c0_990 : Index := 0#32
  ![v1952.toNat, 2, 3, 0, 0]
def k0_off753 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1955 : Index := Scalar.indexCast v1139
  let c3_991 : Index := 3#32
  let c3_992 : Index := 3#32
  let c0_993 : Index := 0#32
  let c0_994 : Index := 0#32
  ![v1955.toNat, 3, 3, 0, 0]
def k0_off754 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1968 : Index := Scalar.indexCast v1139
  let c4_998 : Index := 4#32
  let c3_999 : Index := 3#32
  let c0_1000 : Index := 0#32
  let c0_1001 : Index := 0#32
  ![v1968.toNat, 4, 3, 0, 0]
def k0_off755 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1971 : Index := Scalar.indexCast v1139
  let c5_1002 : Index := 5#32
  let c3_1003 : Index := 3#32
  let c0_1004 : Index := 0#32
  let c0_1005 : Index := 0#32
  ![v1971.toNat, 5, 3, 0, 0]
def k0_off756 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1984 : Index := Scalar.indexCast v1139
  let c6_1009 : Index := 6#32
  let c3_1010 : Index := 3#32
  let c0_1011 : Index := 0#32
  let c0_1012 : Index := 0#32
  ![v1984.toNat, 6, 3, 0, 0]
def k0_off757 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1987 : Index := Scalar.indexCast v1139
  let c7_1013 : Index := 7#32
  let c3_1014 : Index := 3#32
  let c0_1015 : Index := 0#32
  let c0_1016 : Index := 0#32
  ![v1987.toNat, 7, 3, 0, 0]
def k0_off758 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2000 : Index := Scalar.indexCast v1139
  let c8_1020 : Index := 8#32
  let c3_1021 : Index := 3#32
  let c0_1022 : Index := 0#32
  let c0_1023 : Index := 0#32
  ![v2000.toNat, 8, 3, 0, 0]
def k0_off759 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2003 : Index := Scalar.indexCast v1139
  let c9_1024 : Index := 9#32
  let c3_1025 : Index := 3#32
  let c0_1026 : Index := 0#32
  let c0_1027 : Index := 0#32
  ![v2003.toNat, 9, 3, 0, 0]
def k0_off760 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2016 : Index := Scalar.indexCast v1139
  let c10_1031 : Index := 10#32
  let c3_1032 : Index := 3#32
  let c0_1033 : Index := 0#32
  let c0_1034 : Index := 0#32
  ![v2016.toNat, 10, 3, 0, 0]
def k0_off761 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2019 : Index := Scalar.indexCast v1139
  let c11_1035 : Index := 11#32
  let c3_1036 : Index := 3#32
  let c0_1037 : Index := 0#32
  let c0_1038 : Index := 0#32
  ![v2019.toNat, 11, 3, 0, 0]
def k0_off762 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2032 : Index := Scalar.indexCast v1139
  let c12_1042 : Index := 12#32
  let c3_1043 : Index := 3#32
  let c0_1044 : Index := 0#32
  let c0_1045 : Index := 0#32
  ![v2032.toNat, 12, 3, 0, 0]
def k0_off763 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2035 : Index := Scalar.indexCast v1139
  let c13_1046 : Index := 13#32
  let c3_1047 : Index := 3#32
  let c0_1048 : Index := 0#32
  let c0_1049 : Index := 0#32
  ![v2035.toNat, 13, 3, 0, 0]
def k0_off764 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2048 : Index := Scalar.indexCast v1139
  let c14_1053 : Index := 14#32
  let c3_1054 : Index := 3#32
  let c0_1055 : Index := 0#32
  let c0_1056 : Index := 0#32
  ![v2048.toNat, 14, 3, 0, 0]
def k0_off765 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2051 : Index := Scalar.indexCast v1139
  let c15_1057 : Index := 15#32
  let c3_1058 : Index := 3#32
  let c0_1059 : Index := 0#32
  let c0_1060 : Index := 0#32
  ![v2051.toNat, 15, 3, 0, 0]
def k0_off766 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2064 : Index := Scalar.indexCast v1139
  let c16_1064 : Index := 16#32
  let c3_1065 : Index := 3#32
  let c0_1066 : Index := 0#32
  let c0_1067 : Index := 0#32
  ![v2064.toNat, 16, 3, 0, 0]
def k0_off767 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2067 : Index := Scalar.indexCast v1139
  let c17_1068 : Index := 17#32
  let c3_1069 : Index := 3#32
  let c0_1070 : Index := 0#32
  let c0_1071 : Index := 0#32
  ![v2067.toNat, 17, 3, 0, 0]
def k0_off768 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2080 : Index := Scalar.indexCast v1139
  let c18_1075 : Index := 18#32
  let c3_1076 : Index := 3#32
  let c0_1077 : Index := 0#32
  let c0_1078 : Index := 0#32
  ![v2080.toNat, 18, 3, 0, 0]
def k0_off769 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2083 : Index := Scalar.indexCast v1139
  let c19_1079 : Index := 19#32
  let c3_1080 : Index := 3#32
  let c0_1081 : Index := 0#32
  let c0_1082 : Index := 0#32
  ![v2083.toNat, 19, 3, 0, 0]
def k0_off770 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2096 : Index := Scalar.indexCast v1139
  let c20_1086 : Index := 20#32
  let c3_1087 : Index := 3#32
  let c0_1088 : Index := 0#32
  let c0_1089 : Index := 0#32
  ![v2096.toNat, 20, 3, 0, 0]
def k0_off771 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2099 : Index := Scalar.indexCast v1139
  let c21_1090 : Index := 21#32
  let c3_1091 : Index := 3#32
  let c0_1092 : Index := 0#32
  let c0_1093 : Index := 0#32
  ![v2099.toNat, 21, 3, 0, 0]
def k0_off772 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2112 : Index := Scalar.indexCast v1139
  let c22_1097 : Index := 22#32
  let c3_1098 : Index := 3#32
  let c0_1099 : Index := 0#32
  let c0_1100 : Index := 0#32
  ![v2112.toNat, 22, 3, 0, 0]
def k0_off773 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2115 : Index := Scalar.indexCast v1139
  let c23_1101 : Index := 23#32
  let c3_1102 : Index := 3#32
  let c0_1103 : Index := 0#32
  let c0_1104 : Index := 0#32
  ![v2115.toNat, 23, 3, 0, 0]
def k0_off774 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2128 : Index := Scalar.indexCast v1139
  let c24_1108 : Index := 24#32
  let c3_1109 : Index := 3#32
  let c0_1110 : Index := 0#32
  let c0_1111 : Index := 0#32
  ![v2128.toNat, 24, 3, 0, 0]
def k0_off775 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2131 : Index := Scalar.indexCast v1139
  let c25_1112 : Index := 25#32
  let c3_1113 : Index := 3#32
  let c0_1114 : Index := 0#32
  let c0_1115 : Index := 0#32
  ![v2131.toNat, 25, 3, 0, 0]
def k0_off776 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2144 : Index := Scalar.indexCast v1139
  let c26_1119 : Index := 26#32
  let c3_1120 : Index := 3#32
  let c0_1121 : Index := 0#32
  let c0_1122 : Index := 0#32
  ![v2144.toNat, 26, 3, 0, 0]
def k0_off777 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2147 : Index := Scalar.indexCast v1139
  let c27_1123 : Index := 27#32
  let c3_1124 : Index := 3#32
  let c0_1125 : Index := 0#32
  let c0_1126 : Index := 0#32
  ![v2147.toNat, 27, 3, 0, 0]
def k0_off778 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2160 : Index := Scalar.indexCast v1139
  let c28_1130 : Index := 28#32
  let c3_1131 : Index := 3#32
  let c0_1132 : Index := 0#32
  let c0_1133 : Index := 0#32
  ![v2160.toNat, 28, 3, 0, 0]
def k0_off779 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2163 : Index := Scalar.indexCast v1139
  let c29_1134 : Index := 29#32
  let c3_1135 : Index := 3#32
  let c0_1136 : Index := 0#32
  let c0_1137 : Index := 0#32
  ![v2163.toNat, 29, 3, 0, 0]
def k0_off780 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2176 : Index := Scalar.indexCast v1139
  let c30_1141 : Index := 30#32
  let c3_1142 : Index := 3#32
  let c0_1143 : Index := 0#32
  let c0_1144 : Index := 0#32
  ![v2176.toNat, 30, 3, 0, 0]
def k0_off781 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2179 : Index := Scalar.indexCast v1139
  let c31_1145 : Index := 31#32
  let c3_1146 : Index := 3#32
  let c0_1147 : Index := 0#32
  let c0_1148 : Index := 0#32
  ![v2179.toNat, 31, 3, 0, 0]
def k0_off782 (i : grid0.Coords) : Fin 3 → Nat :=
  let c0_1156 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2195 : Index := Scalar.indexCast v1085
  let c0_1157 : Index := 0#32
  ![0, v2195.toNat, 0]
def k0_off783 (i : grid0.Coords) : Fin 3 → Nat :=
  let c0_1160 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2201 : Index := Scalar.indexCast v1085
  let c0_1161 : Index := 0#32
  ![0, v2201.toNat, 0]
def k0_off784 (i : grid0.Coords) : Fin 3 → Nat :=
  let c1_1167 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2214 : Index := Scalar.indexCast v1085
  let c0_1168 : Index := 0#32
  ![1, v2214.toNat, 0]
def k0_off785 (i : grid0.Coords) : Fin 3 → Nat :=
  let c2_1174 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2227 : Index := Scalar.indexCast v1085
  let c0_1175 : Index := 0#32
  ![2, v2227.toNat, 0]
def k0_off786 (i : grid0.Coords) : Fin 3 → Nat :=
  let c3_1181 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32 : BitVec 32 := 1024#32
  let v1084 : BitVec 32 := Scalar.muli v840 c1024_i32
  let v1085 : BitVec 32 := v1084
  let v2240 : Index := Scalar.indexCast v1085
  let c0_1182 : Index := 0#32
  ![3, v2240.toNat, 0]
@[reducible] def k0_t3_loop (i : grid0.Coords) : Scf.Loop 32 :=
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_428 : BitVec 32 := 1#32
  ⟨c0_i32_426, v1101, c1_i32_428⟩
def k0_mult12 (i : grid0.Coords) (k0_t3 : Fin (k0_t3_loop i).trips) : BitVec 32 :=
  let c0_i32_426 : BitVec 32 := 0#32
  let c1_i32_428 : BitVec 32 := 1#32
  let arg17 : BitVec 32 := Scf.iv c0_i32_426 c1_i32_428 k0_t3
  let c1024_i32_436 : BitVec 32 := 1024#32
  let v1130 : BitVec 32 := Scalar.muli arg17 c1024_i32_436
  v1130
def k0_off787 (i : grid0.Coords) (k0_t3 : Fin (k0_t3_loop i).trips) : Fin 3 → Nat :=
  let c0_437 : Index := 0#32
  let c0_i32_426 : BitVec 32 := 0#32
  let c1_i32_428 : BitVec 32 := 1#32
  let arg17 : BitVec 32 := Scf.iv c0_i32_426 c1_i32_428 k0_t3
  let c1024_i32_436 : BitVec 32 := 1024#32
  let v1130 : BitVec 32 := Scalar.muli arg17 c1024_i32_436
  let v1131 : BitVec 32 := v1130
  let v1132 : Index := Scalar.indexCast v1131
  let c0_438 : Index := 0#32
  ![0, v1132.toNat, 0]
def k0_off788 (i : grid0.Coords) (k0_t3 : Fin (k0_t3_loop i).trips) : Fin 4 → Nat :=
  let c0_i32_426 : BitVec 32 := 0#32
  let c1_i32_428 : BitVec 32 := 1#32
  let arg17 : BitVec 32 := Scf.iv c0_i32_426 c1_i32_428 k0_t3
  let v1138 : Index := Scalar.indexCast arg17
  let c0_439 : Index := 0#32
  let c0_440 : Index := 0#32
  let c0_441 : Index := 0#32
  ![v1138.toNat, 0, 0, 0]
def k0_off789 (i : grid0.Coords) (k0_t3 : Fin (k0_t3_loop i).trips) : Fin 3 → Nat :=
  let c1_443 : Index := 1#32
  let c0_i32_426 : BitVec 32 := 0#32
  let c1_i32_428 : BitVec 32 := 1#32
  let arg17 : BitVec 32 := Scf.iv c0_i32_426 c1_i32_428 k0_t3
  let c1024_i32_436 : BitVec 32 := 1024#32
  let v1130 : BitVec 32 := Scalar.muli arg17 c1024_i32_436
  let v1131 : BitVec 32 := v1130
  let v1144 : Index := Scalar.indexCast v1131
  let c0_444 : Index := 0#32
  ![1, v1144.toNat, 0]
def k0_off790 (i : grid0.Coords) (k0_t3 : Fin (k0_t3_loop i).trips) : Fin 4 → Nat :=
  let c0_i32_426 : BitVec 32 := 0#32
  let c1_i32_428 : BitVec 32 := 1#32
  let arg17 : BitVec 32 := Scf.iv c0_i32_426 c1_i32_428 k0_t3
  let v1150 : Index := Scalar.indexCast arg17
  let c1_445 : Index := 1#32
  let c0_446 : Index := 0#32
  let c0_447 : Index := 0#32
  ![v1150.toNat, 1, 0, 0]
def k0_off791 (i : grid0.Coords) (k0_t3 : Fin (k0_t3_loop i).trips) : Fin 3 → Nat :=
  let c2_449 : Index := 2#32
  let c0_i32_426 : BitVec 32 := 0#32
  let c1_i32_428 : BitVec 32 := 1#32
  let arg17 : BitVec 32 := Scf.iv c0_i32_426 c1_i32_428 k0_t3
  let c1024_i32_436 : BitVec 32 := 1024#32
  let v1130 : BitVec 32 := Scalar.muli arg17 c1024_i32_436
  let v1131 : BitVec 32 := v1130
  let v1156 : Index := Scalar.indexCast v1131
  let c0_450 : Index := 0#32
  ![2, v1156.toNat, 0]
def k0_off792 (i : grid0.Coords) (k0_t3 : Fin (k0_t3_loop i).trips) : Fin 4 → Nat :=
  let c0_i32_426 : BitVec 32 := 0#32
  let c1_i32_428 : BitVec 32 := 1#32
  let arg17 : BitVec 32 := Scf.iv c0_i32_426 c1_i32_428 k0_t3
  let v1162 : Index := Scalar.indexCast arg17
  let c2_451 : Index := 2#32
  let c0_452 : Index := 0#32
  let c0_453 : Index := 0#32
  ![v1162.toNat, 2, 0, 0]
def k0_off793 (i : grid0.Coords) (k0_t3 : Fin (k0_t3_loop i).trips) : Fin 3 → Nat :=
  let c3_455 : Index := 3#32
  let c0_i32_426 : BitVec 32 := 0#32
  let c1_i32_428 : BitVec 32 := 1#32
  let arg17 : BitVec 32 := Scf.iv c0_i32_426 c1_i32_428 k0_t3
  let c1024_i32_436 : BitVec 32 := 1024#32
  let v1130 : BitVec 32 := Scalar.muli arg17 c1024_i32_436
  let v1131 : BitVec 32 := v1130
  let v1168 : Index := Scalar.indexCast v1131
  let c0_456 : Index := 0#32
  ![3, v1168.toNat, 0]
def k0_off794 (i : grid0.Coords) (k0_t3 : Fin (k0_t3_loop i).trips) : Fin 4 → Nat :=
  let c0_i32_426 : BitVec 32 := 0#32
  let c1_i32_428 : BitVec 32 := 1#32
  let arg17 : BitVec 32 := Scf.iv c0_i32_426 c1_i32_428 k0_t3
  let v1174 : Index := Scalar.indexCast arg17
  let c3_457 : Index := 3#32
  let c0_458 : Index := 0#32
  let c0_459 : Index := 0#32
  ![v1174.toNat, 3, 0, 0]
@[reducible] def k0_t4_loop (i : grid0.Coords) : Scf.Loop 32 :=
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let v1098 : BitVec 32 := Scalar.addi c0_i32_426 v1097
  let c1_i32_429 : BitVec 32 := 1#32
  ⟨v1101, v1098, c1_i32_429⟩
def k0_mult13 (i : grid0.Coords) (k0_t4 : Fin (k0_t4_loop i).trips) : BitVec 32 :=
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_429 : BitVec 32 := 1#32
  let arg17 : BitVec 32 := Scf.iv v1101 c1_i32_429 k0_t4
  let c1024_i32_436 : BitVec 32 := 1024#32
  let v1130 : BitVec 32 := Scalar.muli arg17 c1024_i32_436
  v1130
def k0_off795 (i : grid0.Coords) (k0_t4 : Fin (k0_t4_loop i).trips) : Fin 3 → Nat :=
  let c0_437 : Index := 0#32
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_429 : BitVec 32 := 1#32
  let arg17 : BitVec 32 := Scf.iv v1101 c1_i32_429 k0_t4
  let c1024_i32_436 : BitVec 32 := 1024#32
  let v1130 : BitVec 32 := Scalar.muli arg17 c1024_i32_436
  let v1131 : BitVec 32 := v1130
  let v1132 : Index := Scalar.indexCast v1131
  let c0_438 : Index := 0#32
  ![0, v1132.toNat, 0]
def k0_off796 (i : grid0.Coords) (k0_t4 : Fin (k0_t4_loop i).trips) : Fin 4 → Nat :=
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_429 : BitVec 32 := 1#32
  let arg17 : BitVec 32 := Scf.iv v1101 c1_i32_429 k0_t4
  let v1138 : Index := Scalar.indexCast arg17
  let c0_439 : Index := 0#32
  let c0_440 : Index := 0#32
  let c0_441 : Index := 0#32
  ![v1138.toNat, 0, 0, 0]
def k0_off797 (i : grid0.Coords) (k0_t4 : Fin (k0_t4_loop i).trips) : Fin 3 → Nat :=
  let c1_443 : Index := 1#32
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_429 : BitVec 32 := 1#32
  let arg17 : BitVec 32 := Scf.iv v1101 c1_i32_429 k0_t4
  let c1024_i32_436 : BitVec 32 := 1024#32
  let v1130 : BitVec 32 := Scalar.muli arg17 c1024_i32_436
  let v1131 : BitVec 32 := v1130
  let v1144 : Index := Scalar.indexCast v1131
  let c0_444 : Index := 0#32
  ![1, v1144.toNat, 0]
def k0_off798 (i : grid0.Coords) (k0_t4 : Fin (k0_t4_loop i).trips) : Fin 4 → Nat :=
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_429 : BitVec 32 := 1#32
  let arg17 : BitVec 32 := Scf.iv v1101 c1_i32_429 k0_t4
  let v1150 : Index := Scalar.indexCast arg17
  let c1_445 : Index := 1#32
  let c0_446 : Index := 0#32
  let c0_447 : Index := 0#32
  ![v1150.toNat, 1, 0, 0]
def k0_off799 (i : grid0.Coords) (k0_t4 : Fin (k0_t4_loop i).trips) : Fin 3 → Nat :=
  let c2_449 : Index := 2#32
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_429 : BitVec 32 := 1#32
  let arg17 : BitVec 32 := Scf.iv v1101 c1_i32_429 k0_t4
  let c1024_i32_436 : BitVec 32 := 1024#32
  let v1130 : BitVec 32 := Scalar.muli arg17 c1024_i32_436
  let v1131 : BitVec 32 := v1130
  let v1156 : Index := Scalar.indexCast v1131
  let c0_450 : Index := 0#32
  ![2, v1156.toNat, 0]
def k0_off800 (i : grid0.Coords) (k0_t4 : Fin (k0_t4_loop i).trips) : Fin 4 → Nat :=
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_429 : BitVec 32 := 1#32
  let arg17 : BitVec 32 := Scf.iv v1101 c1_i32_429 k0_t4
  let v1162 : Index := Scalar.indexCast arg17
  let c2_451 : Index := 2#32
  let c0_452 : Index := 0#32
  let c0_453 : Index := 0#32
  ![v1162.toNat, 2, 0, 0]
def k0_off801 (i : grid0.Coords) (k0_t4 : Fin (k0_t4_loop i).trips) : Fin 3 → Nat :=
  let c3_455 : Index := 3#32
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_429 : BitVec 32 := 1#32
  let arg17 : BitVec 32 := Scf.iv v1101 c1_i32_429 k0_t4
  let c1024_i32_436 : BitVec 32 := 1024#32
  let v1130 : BitVec 32 := Scalar.muli arg17 c1024_i32_436
  let v1131 : BitVec 32 := v1130
  let v1168 : Index := Scalar.indexCast v1131
  let c0_456 : Index := 0#32
  ![3, v1168.toNat, 0]
def k0_off802 (i : grid0.Coords) (k0_t4 : Fin (k0_t4_loop i).trips) : Fin 4 → Nat :=
  let c0_i32_426 : BitVec 32 := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v1097 : BitVec 32 := Scalar.subi v840 c0_i32_426
  let c1_i32_427 : BitVec 32 := 1#32
  let v1099 : BitVec 32 := Scalar.divsi v1097 c1_i32_427
  let v1100 : BitVec 32 := Scalar.muli v1099 c1_i32_427
  let v1101 : BitVec 32 := Scalar.addi c0_i32_426 v1100
  let c1_i32_429 : BitVec 32 := 1#32
  let arg17 : BitVec 32 := Scf.iv v1101 c1_i32_429 k0_t4
  let v1174 : Index := Scalar.indexCast arg17
  let c3_457 : Index := 3#32
  let c0_458 : Index := 0#32
  let c0_459 : Index := 0#32
  ![v1174.toNat, 3, 0, 0]
def k0_cond8 (i : grid0.Coords) : BitVec 1 :=
  let arg2 : BitVec 32 := BitVec.ofNat 32 (i 2).val
  let c4_i32_413 : BitVec 32 := 4#32
  let c0_i32_414 : BitVec 32 := 0#32
  let v1074 : BitVec 1 := Scalar.cmpi .eq c4_i32_413 c0_i32_414
  let c1_i32_415 : BitVec 32 := 1#32
  let v1075 : BitVec 32 := Scalar.select v1074 c1_i32_415 c4_i32_413
  let v1076 : BitVec 32 := Scalar.remsi arg2 v1075
  let c0_i32_417 : BitVec 32 := 0#32
  let v1078 : BitVec 1 := Scalar.cmpi .slt v1076 c0_i32_417
  let c0_i32_418 : BitVec 32 := 0#32
  let v1079 : BitVec 1 := Scalar.cmpi .slt v1075 c0_i32_418
  let v1080 : BitVec 1 := Scalar.xori v1078 v1079
  let c0_i32_416 : BitVec 32 := 0#32
  let v1077 : BitVec 1 := Scalar.cmpi .ne v1076 c0_i32_416
  let v1081 : BitVec 1 := Scalar.andi v1080 v1077
  let v1082 : BitVec 32 := Scalar.addi v1076 v1075
  let v1083 : BitVec 32 := Scalar.select v1081 v1082 v1076
  let c0_i32_430 : BitVec 32 := 0#32
  let v1104 : BitVec 32 := Scalar.maxsi v1083 c0_i32_430
  let c3_i32_431 : BitVec 32 := 3#32
  let v1105 : BitVec 32 := Scalar.minsi v1104 c3_i32_431
  let c0_i32_432 : BitVec 32 := 0#32
  let v1106 : BitVec 1 := Scalar.cmpi .ne v1105 c0_i32_432
  v1106

def k0_cond9 (i : grid0.Coords) : BitVec 1 :=
  let arg2 : BitVec 32 := BitVec.ofNat 32 (i 2).val
  let c4_i32_413 : BitVec 32 := 4#32
  let c0_i32_414 : BitVec 32 := 0#32
  let v1074 : BitVec 1 := Scalar.cmpi .eq c4_i32_413 c0_i32_414
  let c1_i32_415 : BitVec 32 := 1#32
  let v1075 : BitVec 32 := Scalar.select v1074 c1_i32_415 c4_i32_413
  let v1076 : BitVec 32 := Scalar.remsi arg2 v1075
  let c0_i32_417 : BitVec 32 := 0#32
  let v1078 : BitVec 1 := Scalar.cmpi .slt v1076 c0_i32_417
  let c0_i32_418 : BitVec 32 := 0#32
  let v1079 : BitVec 1 := Scalar.cmpi .slt v1075 c0_i32_418
  let v1080 : BitVec 1 := Scalar.xori v1078 v1079
  let c0_i32_416 : BitVec 32 := 0#32
  let v1077 : BitVec 1 := Scalar.cmpi .ne v1076 c0_i32_416
  let v1081 : BitVec 1 := Scalar.andi v1080 v1077
  let v1082 : BitVec 32 := Scalar.addi v1076 v1075
  let v1083 : BitVec 32 := Scalar.select v1081 v1082 v1076
  let c0_i32_430 : BitVec 32 := 0#32
  let v1104 : BitVec 32 := Scalar.maxsi v1083 c0_i32_430
  let c3_i32_431 : BitVec 32 := 3#32
  let v1105 : BitVec 32 := Scalar.minsi v1104 c3_i32_431
  let c1_i32_436 : BitVec 32 := 1#32
  let v1130 : BitVec 32 := Scalar.subi v1105 c1_i32_436
  let c0_i32_437 : BitVec 32 := 0#32
  let v1131 : BitVec 1 := Scalar.cmpi .ne v1130 c0_i32_437
  v1131

def k0_cond10 (i : grid0.Coords) : BitVec 1 :=
  let arg2 : BitVec 32 := BitVec.ofNat 32 (i 2).val
  let c4_i32_413 : BitVec 32 := 4#32
  let c0_i32_414 : BitVec 32 := 0#32
  let v1074 : BitVec 1 := Scalar.cmpi .eq c4_i32_413 c0_i32_414
  let c1_i32_415 : BitVec 32 := 1#32
  let v1075 : BitVec 32 := Scalar.select v1074 c1_i32_415 c4_i32_413
  let v1076 : BitVec 32 := Scalar.remsi arg2 v1075
  let c0_i32_417 : BitVec 32 := 0#32
  let v1078 : BitVec 1 := Scalar.cmpi .slt v1076 c0_i32_417
  let c0_i32_418 : BitVec 32 := 0#32
  let v1079 : BitVec 1 := Scalar.cmpi .slt v1075 c0_i32_418
  let v1080 : BitVec 1 := Scalar.xori v1078 v1079
  let c0_i32_416 : BitVec 32 := 0#32
  let v1077 : BitVec 1 := Scalar.cmpi .ne v1076 c0_i32_416
  let v1081 : BitVec 1 := Scalar.andi v1080 v1077
  let v1082 : BitVec 32 := Scalar.addi v1076 v1075
  let v1083 : BitVec 32 := Scalar.select v1081 v1082 v1076
  let c0_i32_430 : BitVec 32 := 0#32
  let v1104 : BitVec 32 := Scalar.maxsi v1083 c0_i32_430
  let c3_i32_431 : BitVec 32 := 3#32
  let v1105 : BitVec 32 := Scalar.minsi v1104 c3_i32_431
  let c1_i32_436 : BitVec 32 := 1#32
  let v1130 : BitVec 32 := Scalar.subi v1105 c1_i32_436
  let c1_i32_438 : BitVec 32 := 1#32
  let v1133 : BitVec 32 := Scalar.subi v1130 c1_i32_438
  let c0_i32_439 : BitVec 32 := 0#32
  let v1134 : BitVec 1 := Scalar.cmpi .ne v1133 c0_i32_439
  v1134

def k0_off803 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1159 : Index := Scalar.indexCast v1145
  let c0_455 : Index := 0#32
  let c4_456 : Index := 4#32
  let c0_457 : Index := 0#32
  let c0_458 : Index := 0#32
  ![v1159.toNat, 0, 4, 0, 0]
def k0_off804 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1162 : Index := Scalar.indexCast v1145
  let c1_459 : Index := 1#32
  let c4_460 : Index := 4#32
  let c0_461 : Index := 0#32
  let c0_462 : Index := 0#32
  ![v1162.toNat, 1, 4, 0, 0]
def k0_off805 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1175 : Index := Scalar.indexCast v1145
  let c2_466 : Index := 2#32
  let c4_467 : Index := 4#32
  let c0_468 : Index := 0#32
  let c0_469 : Index := 0#32
  ![v1175.toNat, 2, 4, 0, 0]
def k0_off806 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1178 : Index := Scalar.indexCast v1145
  let c3_470 : Index := 3#32
  let c4_471 : Index := 4#32
  let c0_472 : Index := 0#32
  let c0_473 : Index := 0#32
  ![v1178.toNat, 3, 4, 0, 0]
def k0_off807 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1191 : Index := Scalar.indexCast v1145
  let c4_477 : Index := 4#32
  let c4_478 : Index := 4#32
  let c0_479 : Index := 0#32
  let c0_480 : Index := 0#32
  ![v1191.toNat, 4, 4, 0, 0]
def k0_off808 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1194 : Index := Scalar.indexCast v1145
  let c5 : Index := 5#32
  let c4_481 : Index := 4#32
  let c0_482 : Index := 0#32
  let c0_483 : Index := 0#32
  ![v1194.toNat, 5, 4, 0, 0]
def k0_off809 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1207 : Index := Scalar.indexCast v1145
  let c6 : Index := 6#32
  let c4_487 : Index := 4#32
  let c0_488 : Index := 0#32
  let c0_489 : Index := 0#32
  ![v1207.toNat, 6, 4, 0, 0]
def k0_off810 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1210 : Index := Scalar.indexCast v1145
  let c7 : Index := 7#32
  let c4_490 : Index := 4#32
  let c0_491 : Index := 0#32
  let c0_492 : Index := 0#32
  ![v1210.toNat, 7, 4, 0, 0]
def k0_off811 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1223 : Index := Scalar.indexCast v1145
  let c8 : Index := 8#32
  let c4_496 : Index := 4#32
  let c0_497 : Index := 0#32
  let c0_498 : Index := 0#32
  ![v1223.toNat, 8, 4, 0, 0]
def k0_off812 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1226 : Index := Scalar.indexCast v1145
  let c9 : Index := 9#32
  let c4_499 : Index := 4#32
  let c0_500 : Index := 0#32
  let c0_501 : Index := 0#32
  ![v1226.toNat, 9, 4, 0, 0]
def k0_off813 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1239 : Index := Scalar.indexCast v1145
  let c10 : Index := 10#32
  let c4_505 : Index := 4#32
  let c0_506 : Index := 0#32
  let c0_507 : Index := 0#32
  ![v1239.toNat, 10, 4, 0, 0]
def k0_off814 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1242 : Index := Scalar.indexCast v1145
  let c11 : Index := 11#32
  let c4_508 : Index := 4#32
  let c0_509 : Index := 0#32
  let c0_510 : Index := 0#32
  ![v1242.toNat, 11, 4, 0, 0]
def k0_off815 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1255 : Index := Scalar.indexCast v1145
  let c12 : Index := 12#32
  let c4_514 : Index := 4#32
  let c0_515 : Index := 0#32
  let c0_516 : Index := 0#32
  ![v1255.toNat, 12, 4, 0, 0]
def k0_off816 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1258 : Index := Scalar.indexCast v1145
  let c13 : Index := 13#32
  let c4_517 : Index := 4#32
  let c0_518 : Index := 0#32
  let c0_519 : Index := 0#32
  ![v1258.toNat, 13, 4, 0, 0]
def k0_off817 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1271 : Index := Scalar.indexCast v1145
  let c14 : Index := 14#32
  let c4_523 : Index := 4#32
  let c0_524 : Index := 0#32
  let c0_525 : Index := 0#32
  ![v1271.toNat, 14, 4, 0, 0]
def k0_off818 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1274 : Index := Scalar.indexCast v1145
  let c15 : Index := 15#32
  let c4_526 : Index := 4#32
  let c0_527 : Index := 0#32
  let c0_528 : Index := 0#32
  ![v1274.toNat, 15, 4, 0, 0]
def k0_off819 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1287 : Index := Scalar.indexCast v1145
  let c16 : Index := 16#32
  let c4_532 : Index := 4#32
  let c0_533 : Index := 0#32
  let c0_534 : Index := 0#32
  ![v1287.toNat, 16, 4, 0, 0]
def k0_off820 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1290 : Index := Scalar.indexCast v1145
  let c17 : Index := 17#32
  let c4_535 : Index := 4#32
  let c0_536 : Index := 0#32
  let c0_537 : Index := 0#32
  ![v1290.toNat, 17, 4, 0, 0]
def k0_off821 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1303 : Index := Scalar.indexCast v1145
  let c18 : Index := 18#32
  let c4_541 : Index := 4#32
  let c0_542 : Index := 0#32
  let c0_543 : Index := 0#32
  ![v1303.toNat, 18, 4, 0, 0]
def k0_off822 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1306 : Index := Scalar.indexCast v1145
  let c19 : Index := 19#32
  let c4_544 : Index := 4#32
  let c0_545 : Index := 0#32
  let c0_546 : Index := 0#32
  ![v1306.toNat, 19, 4, 0, 0]
def k0_off823 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1319 : Index := Scalar.indexCast v1145
  let c20 : Index := 20#32
  let c4_550 : Index := 4#32
  let c0_551 : Index := 0#32
  let c0_552 : Index := 0#32
  ![v1319.toNat, 20, 4, 0, 0]
def k0_off824 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1322 : Index := Scalar.indexCast v1145
  let c21 : Index := 21#32
  let c4_553 : Index := 4#32
  let c0_554 : Index := 0#32
  let c0_555 : Index := 0#32
  ![v1322.toNat, 21, 4, 0, 0]
def k0_off825 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1335 : Index := Scalar.indexCast v1145
  let c22 : Index := 22#32
  let c4_559 : Index := 4#32
  let c0_560 : Index := 0#32
  let c0_561 : Index := 0#32
  ![v1335.toNat, 22, 4, 0, 0]
def k0_off826 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1338 : Index := Scalar.indexCast v1145
  let c23 : Index := 23#32
  let c4_562 : Index := 4#32
  let c0_563 : Index := 0#32
  let c0_564 : Index := 0#32
  ![v1338.toNat, 23, 4, 0, 0]
def k0_off827 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1351 : Index := Scalar.indexCast v1145
  let c24 : Index := 24#32
  let c4_568 : Index := 4#32
  let c0_569 : Index := 0#32
  let c0_570 : Index := 0#32
  ![v1351.toNat, 24, 4, 0, 0]
def k0_off828 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1354 : Index := Scalar.indexCast v1145
  let c25 : Index := 25#32
  let c4_571 : Index := 4#32
  let c0_572 : Index := 0#32
  let c0_573 : Index := 0#32
  ![v1354.toNat, 25, 4, 0, 0]
def k0_off829 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1367 : Index := Scalar.indexCast v1145
  let c26 : Index := 26#32
  let c4_577 : Index := 4#32
  let c0_578 : Index := 0#32
  let c0_579 : Index := 0#32
  ![v1367.toNat, 26, 4, 0, 0]
def k0_off830 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1370 : Index := Scalar.indexCast v1145
  let c27 : Index := 27#32
  let c4_580 : Index := 4#32
  let c0_581 : Index := 0#32
  let c0_582 : Index := 0#32
  ![v1370.toNat, 27, 4, 0, 0]
def k0_off831 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1383 : Index := Scalar.indexCast v1145
  let c28 : Index := 28#32
  let c4_586 : Index := 4#32
  let c0_587 : Index := 0#32
  let c0_588 : Index := 0#32
  ![v1383.toNat, 28, 4, 0, 0]
def k0_off832 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1386 : Index := Scalar.indexCast v1145
  let c29 : Index := 29#32
  let c4_589 : Index := 4#32
  let c0_590 : Index := 0#32
  let c0_591 : Index := 0#32
  ![v1386.toNat, 29, 4, 0, 0]
def k0_off833 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1399 : Index := Scalar.indexCast v1145
  let c30 : Index := 30#32
  let c4_595 : Index := 4#32
  let c0_596 : Index := 0#32
  let c0_597 : Index := 0#32
  ![v1399.toNat, 30, 4, 0, 0]
def k0_off834 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1402 : Index := Scalar.indexCast v1145
  let c31 : Index := 31#32
  let c4_598 : Index := 4#32
  let c0_599 : Index := 0#32
  let c0_600 : Index := 0#32
  ![v1402.toNat, 31, 4, 0, 0]
def k0_off835 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1420 : Index := Scalar.indexCast v1145
  let c0_612 : Index := 0#32
  let c5_613 : Index := 5#32
  let c0_614 : Index := 0#32
  let c0_615 : Index := 0#32
  ![v1420.toNat, 0, 5, 0, 0]
def k0_off836 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1423 : Index := Scalar.indexCast v1145
  let c1_616 : Index := 1#32
  let c5_617 : Index := 5#32
  let c0_618 : Index := 0#32
  let c0_619 : Index := 0#32
  ![v1423.toNat, 1, 5, 0, 0]
def k0_off837 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1436 : Index := Scalar.indexCast v1145
  let c2_623 : Index := 2#32
  let c5_624 : Index := 5#32
  let c0_625 : Index := 0#32
  let c0_626 : Index := 0#32
  ![v1436.toNat, 2, 5, 0, 0]
def k0_off838 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1439 : Index := Scalar.indexCast v1145
  let c3_627 : Index := 3#32
  let c5_628 : Index := 5#32
  let c0_629 : Index := 0#32
  let c0_630 : Index := 0#32
  ![v1439.toNat, 3, 5, 0, 0]
def k0_off839 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1452 : Index := Scalar.indexCast v1145
  let c4_634 : Index := 4#32
  let c5_635 : Index := 5#32
  let c0_636 : Index := 0#32
  let c0_637 : Index := 0#32
  ![v1452.toNat, 4, 5, 0, 0]
def k0_off840 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1455 : Index := Scalar.indexCast v1145
  let c5_638 : Index := 5#32
  let c5_639 : Index := 5#32
  let c0_640 : Index := 0#32
  let c0_641 : Index := 0#32
  ![v1455.toNat, 5, 5, 0, 0]
def k0_off841 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1468 : Index := Scalar.indexCast v1145
  let c6_645 : Index := 6#32
  let c5_646 : Index := 5#32
  let c0_647 : Index := 0#32
  let c0_648 : Index := 0#32
  ![v1468.toNat, 6, 5, 0, 0]
def k0_off842 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1471 : Index := Scalar.indexCast v1145
  let c7_649 : Index := 7#32
  let c5_650 : Index := 5#32
  let c0_651 : Index := 0#32
  let c0_652 : Index := 0#32
  ![v1471.toNat, 7, 5, 0, 0]
def k0_off843 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1484 : Index := Scalar.indexCast v1145
  let c8_656 : Index := 8#32
  let c5_657 : Index := 5#32
  let c0_658 : Index := 0#32
  let c0_659 : Index := 0#32
  ![v1484.toNat, 8, 5, 0, 0]
def k0_off844 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1487 : Index := Scalar.indexCast v1145
  let c9_660 : Index := 9#32
  let c5_661 : Index := 5#32
  let c0_662 : Index := 0#32
  let c0_663 : Index := 0#32
  ![v1487.toNat, 9, 5, 0, 0]
def k0_off845 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1500 : Index := Scalar.indexCast v1145
  let c10_667 : Index := 10#32
  let c5_668 : Index := 5#32
  let c0_669 : Index := 0#32
  let c0_670 : Index := 0#32
  ![v1500.toNat, 10, 5, 0, 0]
def k0_off846 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1503 : Index := Scalar.indexCast v1145
  let c11_671 : Index := 11#32
  let c5_672 : Index := 5#32
  let c0_673 : Index := 0#32
  let c0_674 : Index := 0#32
  ![v1503.toNat, 11, 5, 0, 0]
def k0_off847 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1516 : Index := Scalar.indexCast v1145
  let c12_678 : Index := 12#32
  let c5_679 : Index := 5#32
  let c0_680 : Index := 0#32
  let c0_681 : Index := 0#32
  ![v1516.toNat, 12, 5, 0, 0]
def k0_off848 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1519 : Index := Scalar.indexCast v1145
  let c13_682 : Index := 13#32
  let c5_683 : Index := 5#32
  let c0_684 : Index := 0#32
  let c0_685 : Index := 0#32
  ![v1519.toNat, 13, 5, 0, 0]
def k0_off849 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1532 : Index := Scalar.indexCast v1145
  let c14_689 : Index := 14#32
  let c5_690 : Index := 5#32
  let c0_691 : Index := 0#32
  let c0_692 : Index := 0#32
  ![v1532.toNat, 14, 5, 0, 0]
def k0_off850 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1535 : Index := Scalar.indexCast v1145
  let c15_693 : Index := 15#32
  let c5_694 : Index := 5#32
  let c0_695 : Index := 0#32
  let c0_696 : Index := 0#32
  ![v1535.toNat, 15, 5, 0, 0]
def k0_off851 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1548 : Index := Scalar.indexCast v1145
  let c16_700 : Index := 16#32
  let c5_701 : Index := 5#32
  let c0_702 : Index := 0#32
  let c0_703 : Index := 0#32
  ![v1548.toNat, 16, 5, 0, 0]
def k0_off852 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1551 : Index := Scalar.indexCast v1145
  let c17_704 : Index := 17#32
  let c5_705 : Index := 5#32
  let c0_706 : Index := 0#32
  let c0_707 : Index := 0#32
  ![v1551.toNat, 17, 5, 0, 0]
def k0_off853 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1564 : Index := Scalar.indexCast v1145
  let c18_711 : Index := 18#32
  let c5_712 : Index := 5#32
  let c0_713 : Index := 0#32
  let c0_714 : Index := 0#32
  ![v1564.toNat, 18, 5, 0, 0]
def k0_off854 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1567 : Index := Scalar.indexCast v1145
  let c19_715 : Index := 19#32
  let c5_716 : Index := 5#32
  let c0_717 : Index := 0#32
  let c0_718 : Index := 0#32
  ![v1567.toNat, 19, 5, 0, 0]
def k0_off855 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1580 : Index := Scalar.indexCast v1145
  let c20_722 : Index := 20#32
  let c5_723 : Index := 5#32
  let c0_724 : Index := 0#32
  let c0_725 : Index := 0#32
  ![v1580.toNat, 20, 5, 0, 0]
def k0_off856 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1583 : Index := Scalar.indexCast v1145
  let c21_726 : Index := 21#32
  let c5_727 : Index := 5#32
  let c0_728 : Index := 0#32
  let c0_729 : Index := 0#32
  ![v1583.toNat, 21, 5, 0, 0]
def k0_off857 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1596 : Index := Scalar.indexCast v1145
  let c22_733 : Index := 22#32
  let c5_734 : Index := 5#32
  let c0_735 : Index := 0#32
  let c0_736 : Index := 0#32
  ![v1596.toNat, 22, 5, 0, 0]
def k0_off858 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1599 : Index := Scalar.indexCast v1145
  let c23_737 : Index := 23#32
  let c5_738 : Index := 5#32
  let c0_739 : Index := 0#32
  let c0_740 : Index := 0#32
  ![v1599.toNat, 23, 5, 0, 0]
def k0_off859 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1612 : Index := Scalar.indexCast v1145
  let c24_744 : Index := 24#32
  let c5_745 : Index := 5#32
  let c0_746 : Index := 0#32
  let c0_747 : Index := 0#32
  ![v1612.toNat, 24, 5, 0, 0]
def k0_off860 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1615 : Index := Scalar.indexCast v1145
  let c25_748 : Index := 25#32
  let c5_749 : Index := 5#32
  let c0_750 : Index := 0#32
  let c0_751 : Index := 0#32
  ![v1615.toNat, 25, 5, 0, 0]
def k0_off861 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1628 : Index := Scalar.indexCast v1145
  let c26_755 : Index := 26#32
  let c5_756 : Index := 5#32
  let c0_757 : Index := 0#32
  let c0_758 : Index := 0#32
  ![v1628.toNat, 26, 5, 0, 0]
def k0_off862 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1631 : Index := Scalar.indexCast v1145
  let c27_759 : Index := 27#32
  let c5_760 : Index := 5#32
  let c0_761 : Index := 0#32
  let c0_762 : Index := 0#32
  ![v1631.toNat, 27, 5, 0, 0]
def k0_off863 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1644 : Index := Scalar.indexCast v1145
  let c28_766 : Index := 28#32
  let c5_767 : Index := 5#32
  let c0_768 : Index := 0#32
  let c0_769 : Index := 0#32
  ![v1644.toNat, 28, 5, 0, 0]
def k0_off864 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1647 : Index := Scalar.indexCast v1145
  let c29_770 : Index := 29#32
  let c5_771 : Index := 5#32
  let c0_772 : Index := 0#32
  let c0_773 : Index := 0#32
  ![v1647.toNat, 29, 5, 0, 0]
def k0_off865 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1660 : Index := Scalar.indexCast v1145
  let c30_777 : Index := 30#32
  let c5_778 : Index := 5#32
  let c0_779 : Index := 0#32
  let c0_780 : Index := 0#32
  ![v1660.toNat, 30, 5, 0, 0]
def k0_off866 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1663 : Index := Scalar.indexCast v1145
  let c31_781 : Index := 31#32
  let c5_782 : Index := 5#32
  let c0_783 : Index := 0#32
  let c0_784 : Index := 0#32
  ![v1663.toNat, 31, 5, 0, 0]
def k0_off867 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1681 : Index := Scalar.indexCast v1145
  let c0_796 : Index := 0#32
  let c6_797 : Index := 6#32
  let c0_798 : Index := 0#32
  let c0_799 : Index := 0#32
  ![v1681.toNat, 0, 6, 0, 0]
def k0_off868 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1684 : Index := Scalar.indexCast v1145
  let c1_800 : Index := 1#32
  let c6_801 : Index := 6#32
  let c0_802 : Index := 0#32
  let c0_803 : Index := 0#32
  ![v1684.toNat, 1, 6, 0, 0]
def k0_off869 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1697 : Index := Scalar.indexCast v1145
  let c2_807 : Index := 2#32
  let c6_808 : Index := 6#32
  let c0_809 : Index := 0#32
  let c0_810 : Index := 0#32
  ![v1697.toNat, 2, 6, 0, 0]
def k0_off870 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1700 : Index := Scalar.indexCast v1145
  let c3_811 : Index := 3#32
  let c6_812 : Index := 6#32
  let c0_813 : Index := 0#32
  let c0_814 : Index := 0#32
  ![v1700.toNat, 3, 6, 0, 0]
def k0_off871 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1713 : Index := Scalar.indexCast v1145
  let c4_818 : Index := 4#32
  let c6_819 : Index := 6#32
  let c0_820 : Index := 0#32
  let c0_821 : Index := 0#32
  ![v1713.toNat, 4, 6, 0, 0]
def k0_off872 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1716 : Index := Scalar.indexCast v1145
  let c5_822 : Index := 5#32
  let c6_823 : Index := 6#32
  let c0_824 : Index := 0#32
  let c0_825 : Index := 0#32
  ![v1716.toNat, 5, 6, 0, 0]
def k0_off873 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1729 : Index := Scalar.indexCast v1145
  let c6_829 : Index := 6#32
  let c6_830 : Index := 6#32
  let c0_831 : Index := 0#32
  let c0_832 : Index := 0#32
  ![v1729.toNat, 6, 6, 0, 0]
def k0_off874 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1732 : Index := Scalar.indexCast v1145
  let c7_833 : Index := 7#32
  let c6_834 : Index := 6#32
  let c0_835 : Index := 0#32
  let c0_836 : Index := 0#32
  ![v1732.toNat, 7, 6, 0, 0]
def k0_off875 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1745 : Index := Scalar.indexCast v1145
  let c8_840 : Index := 8#32
  let c6_841 : Index := 6#32
  let c0_842 : Index := 0#32
  let c0_843 : Index := 0#32
  ![v1745.toNat, 8, 6, 0, 0]
def k0_off876 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1748 : Index := Scalar.indexCast v1145
  let c9_844 : Index := 9#32
  let c6_845 : Index := 6#32
  let c0_846 : Index := 0#32
  let c0_847 : Index := 0#32
  ![v1748.toNat, 9, 6, 0, 0]
def k0_off877 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1761 : Index := Scalar.indexCast v1145
  let c10_851 : Index := 10#32
  let c6_852 : Index := 6#32
  let c0_853 : Index := 0#32
  let c0_854 : Index := 0#32
  ![v1761.toNat, 10, 6, 0, 0]
def k0_off878 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1764 : Index := Scalar.indexCast v1145
  let c11_855 : Index := 11#32
  let c6_856 : Index := 6#32
  let c0_857 : Index := 0#32
  let c0_858 : Index := 0#32
  ![v1764.toNat, 11, 6, 0, 0]
def k0_off879 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1777 : Index := Scalar.indexCast v1145
  let c12_862 : Index := 12#32
  let c6_863 : Index := 6#32
  let c0_864 : Index := 0#32
  let c0_865 : Index := 0#32
  ![v1777.toNat, 12, 6, 0, 0]
def k0_off880 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1780 : Index := Scalar.indexCast v1145
  let c13_866 : Index := 13#32
  let c6_867 : Index := 6#32
  let c0_868 : Index := 0#32
  let c0_869 : Index := 0#32
  ![v1780.toNat, 13, 6, 0, 0]
def k0_off881 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1793 : Index := Scalar.indexCast v1145
  let c14_873 : Index := 14#32
  let c6_874 : Index := 6#32
  let c0_875 : Index := 0#32
  let c0_876 : Index := 0#32
  ![v1793.toNat, 14, 6, 0, 0]
def k0_off882 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1796 : Index := Scalar.indexCast v1145
  let c15_877 : Index := 15#32
  let c6_878 : Index := 6#32
  let c0_879 : Index := 0#32
  let c0_880 : Index := 0#32
  ![v1796.toNat, 15, 6, 0, 0]
def k0_off883 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1809 : Index := Scalar.indexCast v1145
  let c16_884 : Index := 16#32
  let c6_885 : Index := 6#32
  let c0_886 : Index := 0#32
  let c0_887 : Index := 0#32
  ![v1809.toNat, 16, 6, 0, 0]
def k0_off884 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1812 : Index := Scalar.indexCast v1145
  let c17_888 : Index := 17#32
  let c6_889 : Index := 6#32
  let c0_890 : Index := 0#32
  let c0_891 : Index := 0#32
  ![v1812.toNat, 17, 6, 0, 0]
def k0_off885 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1825 : Index := Scalar.indexCast v1145
  let c18_895 : Index := 18#32
  let c6_896 : Index := 6#32
  let c0_897 : Index := 0#32
  let c0_898 : Index := 0#32
  ![v1825.toNat, 18, 6, 0, 0]
def k0_off886 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1828 : Index := Scalar.indexCast v1145
  let c19_899 : Index := 19#32
  let c6_900 : Index := 6#32
  let c0_901 : Index := 0#32
  let c0_902 : Index := 0#32
  ![v1828.toNat, 19, 6, 0, 0]
def k0_off887 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1841 : Index := Scalar.indexCast v1145
  let c20_906 : Index := 20#32
  let c6_907 : Index := 6#32
  let c0_908 : Index := 0#32
  let c0_909 : Index := 0#32
  ![v1841.toNat, 20, 6, 0, 0]
def k0_off888 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1844 : Index := Scalar.indexCast v1145
  let c21_910 : Index := 21#32
  let c6_911 : Index := 6#32
  let c0_912 : Index := 0#32
  let c0_913 : Index := 0#32
  ![v1844.toNat, 21, 6, 0, 0]
def k0_off889 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1857 : Index := Scalar.indexCast v1145
  let c22_917 : Index := 22#32
  let c6_918 : Index := 6#32
  let c0_919 : Index := 0#32
  let c0_920 : Index := 0#32
  ![v1857.toNat, 22, 6, 0, 0]
def k0_off890 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1860 : Index := Scalar.indexCast v1145
  let c23_921 : Index := 23#32
  let c6_922 : Index := 6#32
  let c0_923 : Index := 0#32
  let c0_924 : Index := 0#32
  ![v1860.toNat, 23, 6, 0, 0]
def k0_off891 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1873 : Index := Scalar.indexCast v1145
  let c24_928 : Index := 24#32
  let c6_929 : Index := 6#32
  let c0_930 : Index := 0#32
  let c0_931 : Index := 0#32
  ![v1873.toNat, 24, 6, 0, 0]
def k0_off892 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1876 : Index := Scalar.indexCast v1145
  let c25_932 : Index := 25#32
  let c6_933 : Index := 6#32
  let c0_934 : Index := 0#32
  let c0_935 : Index := 0#32
  ![v1876.toNat, 25, 6, 0, 0]
def k0_off893 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1889 : Index := Scalar.indexCast v1145
  let c26_939 : Index := 26#32
  let c6_940 : Index := 6#32
  let c0_941 : Index := 0#32
  let c0_942 : Index := 0#32
  ![v1889.toNat, 26, 6, 0, 0]
def k0_off894 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1892 : Index := Scalar.indexCast v1145
  let c27_943 : Index := 27#32
  let c6_944 : Index := 6#32
  let c0_945 : Index := 0#32
  let c0_946 : Index := 0#32
  ![v1892.toNat, 27, 6, 0, 0]
def k0_off895 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1905 : Index := Scalar.indexCast v1145
  let c28_950 : Index := 28#32
  let c6_951 : Index := 6#32
  let c0_952 : Index := 0#32
  let c0_953 : Index := 0#32
  ![v1905.toNat, 28, 6, 0, 0]
def k0_off896 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1908 : Index := Scalar.indexCast v1145
  let c29_954 : Index := 29#32
  let c6_955 : Index := 6#32
  let c0_956 : Index := 0#32
  let c0_957 : Index := 0#32
  ![v1908.toNat, 29, 6, 0, 0]
def k0_off897 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1921 : Index := Scalar.indexCast v1145
  let c30_961 : Index := 30#32
  let c6_962 : Index := 6#32
  let c0_963 : Index := 0#32
  let c0_964 : Index := 0#32
  ![v1921.toNat, 30, 6, 0, 0]
def k0_off898 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1924 : Index := Scalar.indexCast v1145
  let c31_965 : Index := 31#32
  let c6_966 : Index := 6#32
  let c0_967 : Index := 0#32
  let c0_968 : Index := 0#32
  ![v1924.toNat, 31, 6, 0, 0]
def k0_off899 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1942 : Index := Scalar.indexCast v1145
  let c0_980 : Index := 0#32
  let c7_981 : Index := 7#32
  let c0_982 : Index := 0#32
  let c0_983 : Index := 0#32
  ![v1942.toNat, 0, 7, 0, 0]
def k0_off900 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1945 : Index := Scalar.indexCast v1145
  let c1_984 : Index := 1#32
  let c7_985 : Index := 7#32
  let c0_986 : Index := 0#32
  let c0_987 : Index := 0#32
  ![v1945.toNat, 1, 7, 0, 0]
def k0_off901 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1958 : Index := Scalar.indexCast v1145
  let c2_991 : Index := 2#32
  let c7_992 : Index := 7#32
  let c0_993 : Index := 0#32
  let c0_994 : Index := 0#32
  ![v1958.toNat, 2, 7, 0, 0]
def k0_off902 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1961 : Index := Scalar.indexCast v1145
  let c3_995 : Index := 3#32
  let c7_996 : Index := 7#32
  let c0_997 : Index := 0#32
  let c0_998 : Index := 0#32
  ![v1961.toNat, 3, 7, 0, 0]
def k0_off903 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1974 : Index := Scalar.indexCast v1145
  let c4_1002 : Index := 4#32
  let c7_1003 : Index := 7#32
  let c0_1004 : Index := 0#32
  let c0_1005 : Index := 0#32
  ![v1974.toNat, 4, 7, 0, 0]
def k0_off904 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1977 : Index := Scalar.indexCast v1145
  let c5_1006 : Index := 5#32
  let c7_1007 : Index := 7#32
  let c0_1008 : Index := 0#32
  let c0_1009 : Index := 0#32
  ![v1977.toNat, 5, 7, 0, 0]
def k0_off905 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1990 : Index := Scalar.indexCast v1145
  let c6_1013 : Index := 6#32
  let c7_1014 : Index := 7#32
  let c0_1015 : Index := 0#32
  let c0_1016 : Index := 0#32
  ![v1990.toNat, 6, 7, 0, 0]
def k0_off906 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1993 : Index := Scalar.indexCast v1145
  let c7_1017 : Index := 7#32
  let c7_1018 : Index := 7#32
  let c0_1019 : Index := 0#32
  let c0_1020 : Index := 0#32
  ![v1993.toNat, 7, 7, 0, 0]
def k0_off907 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2006 : Index := Scalar.indexCast v1145
  let c8_1024 : Index := 8#32
  let c7_1025 : Index := 7#32
  let c0_1026 : Index := 0#32
  let c0_1027 : Index := 0#32
  ![v2006.toNat, 8, 7, 0, 0]
def k0_off908 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2009 : Index := Scalar.indexCast v1145
  let c9_1028 : Index := 9#32
  let c7_1029 : Index := 7#32
  let c0_1030 : Index := 0#32
  let c0_1031 : Index := 0#32
  ![v2009.toNat, 9, 7, 0, 0]
def k0_off909 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2022 : Index := Scalar.indexCast v1145
  let c10_1035 : Index := 10#32
  let c7_1036 : Index := 7#32
  let c0_1037 : Index := 0#32
  let c0_1038 : Index := 0#32
  ![v2022.toNat, 10, 7, 0, 0]
def k0_off910 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2025 : Index := Scalar.indexCast v1145
  let c11_1039 : Index := 11#32
  let c7_1040 : Index := 7#32
  let c0_1041 : Index := 0#32
  let c0_1042 : Index := 0#32
  ![v2025.toNat, 11, 7, 0, 0]
def k0_off911 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2038 : Index := Scalar.indexCast v1145
  let c12_1046 : Index := 12#32
  let c7_1047 : Index := 7#32
  let c0_1048 : Index := 0#32
  let c0_1049 : Index := 0#32
  ![v2038.toNat, 12, 7, 0, 0]
def k0_off912 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2041 : Index := Scalar.indexCast v1145
  let c13_1050 : Index := 13#32
  let c7_1051 : Index := 7#32
  let c0_1052 : Index := 0#32
  let c0_1053 : Index := 0#32
  ![v2041.toNat, 13, 7, 0, 0]
def k0_off913 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2054 : Index := Scalar.indexCast v1145
  let c14_1057 : Index := 14#32
  let c7_1058 : Index := 7#32
  let c0_1059 : Index := 0#32
  let c0_1060 : Index := 0#32
  ![v2054.toNat, 14, 7, 0, 0]
def k0_off914 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2057 : Index := Scalar.indexCast v1145
  let c15_1061 : Index := 15#32
  let c7_1062 : Index := 7#32
  let c0_1063 : Index := 0#32
  let c0_1064 : Index := 0#32
  ![v2057.toNat, 15, 7, 0, 0]
def k0_off915 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2070 : Index := Scalar.indexCast v1145
  let c16_1068 : Index := 16#32
  let c7_1069 : Index := 7#32
  let c0_1070 : Index := 0#32
  let c0_1071 : Index := 0#32
  ![v2070.toNat, 16, 7, 0, 0]
def k0_off916 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2073 : Index := Scalar.indexCast v1145
  let c17_1072 : Index := 17#32
  let c7_1073 : Index := 7#32
  let c0_1074 : Index := 0#32
  let c0_1075 : Index := 0#32
  ![v2073.toNat, 17, 7, 0, 0]
def k0_off917 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2086 : Index := Scalar.indexCast v1145
  let c18_1079 : Index := 18#32
  let c7_1080 : Index := 7#32
  let c0_1081 : Index := 0#32
  let c0_1082 : Index := 0#32
  ![v2086.toNat, 18, 7, 0, 0]
def k0_off918 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2089 : Index := Scalar.indexCast v1145
  let c19_1083 : Index := 19#32
  let c7_1084 : Index := 7#32
  let c0_1085 : Index := 0#32
  let c0_1086 : Index := 0#32
  ![v2089.toNat, 19, 7, 0, 0]
def k0_off919 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2102 : Index := Scalar.indexCast v1145
  let c20_1090 : Index := 20#32
  let c7_1091 : Index := 7#32
  let c0_1092 : Index := 0#32
  let c0_1093 : Index := 0#32
  ![v2102.toNat, 20, 7, 0, 0]
def k0_off920 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2105 : Index := Scalar.indexCast v1145
  let c21_1094 : Index := 21#32
  let c7_1095 : Index := 7#32
  let c0_1096 : Index := 0#32
  let c0_1097 : Index := 0#32
  ![v2105.toNat, 21, 7, 0, 0]
def k0_off921 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2118 : Index := Scalar.indexCast v1145
  let c22_1101 : Index := 22#32
  let c7_1102 : Index := 7#32
  let c0_1103 : Index := 0#32
  let c0_1104 : Index := 0#32
  ![v2118.toNat, 22, 7, 0, 0]
def k0_off922 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2121 : Index := Scalar.indexCast v1145
  let c23_1105 : Index := 23#32
  let c7_1106 : Index := 7#32
  let c0_1107 : Index := 0#32
  let c0_1108 : Index := 0#32
  ![v2121.toNat, 23, 7, 0, 0]
def k0_off923 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2134 : Index := Scalar.indexCast v1145
  let c24_1112 : Index := 24#32
  let c7_1113 : Index := 7#32
  let c0_1114 : Index := 0#32
  let c0_1115 : Index := 0#32
  ![v2134.toNat, 24, 7, 0, 0]
def k0_off924 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2137 : Index := Scalar.indexCast v1145
  let c25_1116 : Index := 25#32
  let c7_1117 : Index := 7#32
  let c0_1118 : Index := 0#32
  let c0_1119 : Index := 0#32
  ![v2137.toNat, 25, 7, 0, 0]
def k0_off925 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2150 : Index := Scalar.indexCast v1145
  let c26_1123 : Index := 26#32
  let c7_1124 : Index := 7#32
  let c0_1125 : Index := 0#32
  let c0_1126 : Index := 0#32
  ![v2150.toNat, 26, 7, 0, 0]
def k0_off926 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2153 : Index := Scalar.indexCast v1145
  let c27_1127 : Index := 27#32
  let c7_1128 : Index := 7#32
  let c0_1129 : Index := 0#32
  let c0_1130 : Index := 0#32
  ![v2153.toNat, 27, 7, 0, 0]
def k0_off927 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2166 : Index := Scalar.indexCast v1145
  let c28_1134 : Index := 28#32
  let c7_1135 : Index := 7#32
  let c0_1136 : Index := 0#32
  let c0_1137 : Index := 0#32
  ![v2166.toNat, 28, 7, 0, 0]
def k0_off928 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2169 : Index := Scalar.indexCast v1145
  let c29_1138 : Index := 29#32
  let c7_1139 : Index := 7#32
  let c0_1140 : Index := 0#32
  let c0_1141 : Index := 0#32
  ![v2169.toNat, 29, 7, 0, 0]
def k0_off929 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2182 : Index := Scalar.indexCast v1145
  let c30_1145 : Index := 30#32
  let c7_1146 : Index := 7#32
  let c0_1147 : Index := 0#32
  let c0_1148 : Index := 0#32
  ![v2182.toNat, 30, 7, 0, 0]
def k0_off930 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2185 : Index := Scalar.indexCast v1145
  let c31_1149 : Index := 31#32
  let c7_1150 : Index := 7#32
  let c0_1151 : Index := 0#32
  let c0_1152 : Index := 0#32
  ![v2185.toNat, 31, 7, 0, 0]
def k0_mult14 (i : grid0.Coords) : BitVec 32 :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  v2201
def k0_off931 (i : grid0.Coords) : Fin 3 → Nat :=
  let c0_1161 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  let v2202 : BitVec 32 := v2201
  let v2203 : Index := Scalar.indexCast v2202
  let c0_1162 : Index := 0#32
  ![0, v2203.toNat, 0]
def k0_off932 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2209 : Index := Scalar.indexCast v840
  let c0_1163 : Index := 0#32
  let c0_1164 : Index := 0#32
  let c0_1165 : Index := 0#32
  ![v2209.toNat, 0, 0, 0]
def k0_off933 (i : grid0.Coords) : Fin 3 → Nat :=
  let c1_1167 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  let v2202 : BitVec 32 := v2201
  let v2215 : Index := Scalar.indexCast v2202
  let c0_1168 : Index := 0#32
  ![1, v2215.toNat, 0]
def k0_off934 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2221 : Index := Scalar.indexCast v840
  let c1_1169 : Index := 1#32
  let c0_1170 : Index := 0#32
  let c0_1171 : Index := 0#32
  ![v2221.toNat, 1, 0, 0]
def k0_off935 (i : grid0.Coords) : Fin 3 → Nat :=
  let c2_1173 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  let v2202 : BitVec 32 := v2201
  let v2227 : Index := Scalar.indexCast v2202
  let c0_1174 : Index := 0#32
  ![2, v2227.toNat, 0]
def k0_off936 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2233 : Index := Scalar.indexCast v840
  let c2_1175 : Index := 2#32
  let c0_1176 : Index := 0#32
  let c0_1177 : Index := 0#32
  ![v2233.toNat, 2, 0, 0]
def k0_off937 (i : grid0.Coords) : Fin 3 → Nat :=
  let c3_1179 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  let v2202 : BitVec 32 := v2201
  let v2239 : Index := Scalar.indexCast v2202
  let c0_1180 : Index := 0#32
  ![3, v2239.toNat, 0]
def k0_off938 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2245 : Index := Scalar.indexCast v840
  let c3_1181 : Index := 3#32
  let c0_1182 : Index := 0#32
  let c0_1183 : Index := 0#32
  ![v2245.toNat, 3, 0, 0]
def k0_off939 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1159 : Index := Scalar.indexCast v1145
  let c0_455 : Index := 0#32
  let c4_456 : Index := 4#32
  let c0_457 : Index := 0#32
  let c0_458 : Index := 0#32
  ![v1159.toNat, 0, 4, 0, 0]
def k0_off940 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1162 : Index := Scalar.indexCast v1145
  let c1_459 : Index := 1#32
  let c4_460 : Index := 4#32
  let c0_461 : Index := 0#32
  let c0_462 : Index := 0#32
  ![v1162.toNat, 1, 4, 0, 0]
def k0_off941 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1175 : Index := Scalar.indexCast v1145
  let c2_466 : Index := 2#32
  let c4_467 : Index := 4#32
  let c0_468 : Index := 0#32
  let c0_469 : Index := 0#32
  ![v1175.toNat, 2, 4, 0, 0]
def k0_off942 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1178 : Index := Scalar.indexCast v1145
  let c3_470 : Index := 3#32
  let c4_471 : Index := 4#32
  let c0_472 : Index := 0#32
  let c0_473 : Index := 0#32
  ![v1178.toNat, 3, 4, 0, 0]
def k0_off943 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1191 : Index := Scalar.indexCast v1145
  let c4_477 : Index := 4#32
  let c4_478 : Index := 4#32
  let c0_479 : Index := 0#32
  let c0_480 : Index := 0#32
  ![v1191.toNat, 4, 4, 0, 0]
def k0_off944 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1194 : Index := Scalar.indexCast v1145
  let c5 : Index := 5#32
  let c4_481 : Index := 4#32
  let c0_482 : Index := 0#32
  let c0_483 : Index := 0#32
  ![v1194.toNat, 5, 4, 0, 0]
def k0_off945 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1207 : Index := Scalar.indexCast v1145
  let c6 : Index := 6#32
  let c4_487 : Index := 4#32
  let c0_488 : Index := 0#32
  let c0_489 : Index := 0#32
  ![v1207.toNat, 6, 4, 0, 0]
def k0_off946 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1210 : Index := Scalar.indexCast v1145
  let c7 : Index := 7#32
  let c4_490 : Index := 4#32
  let c0_491 : Index := 0#32
  let c0_492 : Index := 0#32
  ![v1210.toNat, 7, 4, 0, 0]
def k0_off947 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1223 : Index := Scalar.indexCast v1145
  let c8 : Index := 8#32
  let c4_496 : Index := 4#32
  let c0_497 : Index := 0#32
  let c0_498 : Index := 0#32
  ![v1223.toNat, 8, 4, 0, 0]
def k0_off948 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1226 : Index := Scalar.indexCast v1145
  let c9 : Index := 9#32
  let c4_499 : Index := 4#32
  let c0_500 : Index := 0#32
  let c0_501 : Index := 0#32
  ![v1226.toNat, 9, 4, 0, 0]
def k0_off949 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1239 : Index := Scalar.indexCast v1145
  let c10 : Index := 10#32
  let c4_505 : Index := 4#32
  let c0_506 : Index := 0#32
  let c0_507 : Index := 0#32
  ![v1239.toNat, 10, 4, 0, 0]
def k0_off950 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1242 : Index := Scalar.indexCast v1145
  let c11 : Index := 11#32
  let c4_508 : Index := 4#32
  let c0_509 : Index := 0#32
  let c0_510 : Index := 0#32
  ![v1242.toNat, 11, 4, 0, 0]
def k0_off951 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1255 : Index := Scalar.indexCast v1145
  let c12 : Index := 12#32
  let c4_514 : Index := 4#32
  let c0_515 : Index := 0#32
  let c0_516 : Index := 0#32
  ![v1255.toNat, 12, 4, 0, 0]
def k0_off952 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1258 : Index := Scalar.indexCast v1145
  let c13 : Index := 13#32
  let c4_517 : Index := 4#32
  let c0_518 : Index := 0#32
  let c0_519 : Index := 0#32
  ![v1258.toNat, 13, 4, 0, 0]
def k0_off953 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1271 : Index := Scalar.indexCast v1145
  let c14 : Index := 14#32
  let c4_523 : Index := 4#32
  let c0_524 : Index := 0#32
  let c0_525 : Index := 0#32
  ![v1271.toNat, 14, 4, 0, 0]
def k0_off954 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1274 : Index := Scalar.indexCast v1145
  let c15 : Index := 15#32
  let c4_526 : Index := 4#32
  let c0_527 : Index := 0#32
  let c0_528 : Index := 0#32
  ![v1274.toNat, 15, 4, 0, 0]
def k0_off955 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1287 : Index := Scalar.indexCast v1145
  let c16 : Index := 16#32
  let c4_532 : Index := 4#32
  let c0_533 : Index := 0#32
  let c0_534 : Index := 0#32
  ![v1287.toNat, 16, 4, 0, 0]
def k0_off956 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1290 : Index := Scalar.indexCast v1145
  let c17 : Index := 17#32
  let c4_535 : Index := 4#32
  let c0_536 : Index := 0#32
  let c0_537 : Index := 0#32
  ![v1290.toNat, 17, 4, 0, 0]
def k0_off957 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1303 : Index := Scalar.indexCast v1145
  let c18 : Index := 18#32
  let c4_541 : Index := 4#32
  let c0_542 : Index := 0#32
  let c0_543 : Index := 0#32
  ![v1303.toNat, 18, 4, 0, 0]
def k0_off958 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1306 : Index := Scalar.indexCast v1145
  let c19 : Index := 19#32
  let c4_544 : Index := 4#32
  let c0_545 : Index := 0#32
  let c0_546 : Index := 0#32
  ![v1306.toNat, 19, 4, 0, 0]
def k0_off959 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1319 : Index := Scalar.indexCast v1145
  let c20 : Index := 20#32
  let c4_550 : Index := 4#32
  let c0_551 : Index := 0#32
  let c0_552 : Index := 0#32
  ![v1319.toNat, 20, 4, 0, 0]
def k0_off960 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1322 : Index := Scalar.indexCast v1145
  let c21 : Index := 21#32
  let c4_553 : Index := 4#32
  let c0_554 : Index := 0#32
  let c0_555 : Index := 0#32
  ![v1322.toNat, 21, 4, 0, 0]
def k0_off961 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1335 : Index := Scalar.indexCast v1145
  let c22 : Index := 22#32
  let c4_559 : Index := 4#32
  let c0_560 : Index := 0#32
  let c0_561 : Index := 0#32
  ![v1335.toNat, 22, 4, 0, 0]
def k0_off962 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1338 : Index := Scalar.indexCast v1145
  let c23 : Index := 23#32
  let c4_562 : Index := 4#32
  let c0_563 : Index := 0#32
  let c0_564 : Index := 0#32
  ![v1338.toNat, 23, 4, 0, 0]
def k0_off963 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1351 : Index := Scalar.indexCast v1145
  let c24 : Index := 24#32
  let c4_568 : Index := 4#32
  let c0_569 : Index := 0#32
  let c0_570 : Index := 0#32
  ![v1351.toNat, 24, 4, 0, 0]
def k0_off964 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1354 : Index := Scalar.indexCast v1145
  let c25 : Index := 25#32
  let c4_571 : Index := 4#32
  let c0_572 : Index := 0#32
  let c0_573 : Index := 0#32
  ![v1354.toNat, 25, 4, 0, 0]
def k0_off965 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1367 : Index := Scalar.indexCast v1145
  let c26 : Index := 26#32
  let c4_577 : Index := 4#32
  let c0_578 : Index := 0#32
  let c0_579 : Index := 0#32
  ![v1367.toNat, 26, 4, 0, 0]
def k0_off966 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1370 : Index := Scalar.indexCast v1145
  let c27 : Index := 27#32
  let c4_580 : Index := 4#32
  let c0_581 : Index := 0#32
  let c0_582 : Index := 0#32
  ![v1370.toNat, 27, 4, 0, 0]
def k0_off967 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1383 : Index := Scalar.indexCast v1145
  let c28 : Index := 28#32
  let c4_586 : Index := 4#32
  let c0_587 : Index := 0#32
  let c0_588 : Index := 0#32
  ![v1383.toNat, 28, 4, 0, 0]
def k0_off968 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1386 : Index := Scalar.indexCast v1145
  let c29 : Index := 29#32
  let c4_589 : Index := 4#32
  let c0_590 : Index := 0#32
  let c0_591 : Index := 0#32
  ![v1386.toNat, 29, 4, 0, 0]
def k0_off969 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1399 : Index := Scalar.indexCast v1145
  let c30 : Index := 30#32
  let c4_595 : Index := 4#32
  let c0_596 : Index := 0#32
  let c0_597 : Index := 0#32
  ![v1399.toNat, 30, 4, 0, 0]
def k0_off970 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1402 : Index := Scalar.indexCast v1145
  let c31 : Index := 31#32
  let c4_598 : Index := 4#32
  let c0_599 : Index := 0#32
  let c0_600 : Index := 0#32
  ![v1402.toNat, 31, 4, 0, 0]
def k0_off971 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1420 : Index := Scalar.indexCast v1145
  let c0_612 : Index := 0#32
  let c5_613 : Index := 5#32
  let c0_614 : Index := 0#32
  let c0_615 : Index := 0#32
  ![v1420.toNat, 0, 5, 0, 0]
def k0_off972 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1423 : Index := Scalar.indexCast v1145
  let c1_616 : Index := 1#32
  let c5_617 : Index := 5#32
  let c0_618 : Index := 0#32
  let c0_619 : Index := 0#32
  ![v1423.toNat, 1, 5, 0, 0]
def k0_off973 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1436 : Index := Scalar.indexCast v1145
  let c2_623 : Index := 2#32
  let c5_624 : Index := 5#32
  let c0_625 : Index := 0#32
  let c0_626 : Index := 0#32
  ![v1436.toNat, 2, 5, 0, 0]
def k0_off974 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1439 : Index := Scalar.indexCast v1145
  let c3_627 : Index := 3#32
  let c5_628 : Index := 5#32
  let c0_629 : Index := 0#32
  let c0_630 : Index := 0#32
  ![v1439.toNat, 3, 5, 0, 0]
def k0_off975 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1452 : Index := Scalar.indexCast v1145
  let c4_634 : Index := 4#32
  let c5_635 : Index := 5#32
  let c0_636 : Index := 0#32
  let c0_637 : Index := 0#32
  ![v1452.toNat, 4, 5, 0, 0]
def k0_off976 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1455 : Index := Scalar.indexCast v1145
  let c5_638 : Index := 5#32
  let c5_639 : Index := 5#32
  let c0_640 : Index := 0#32
  let c0_641 : Index := 0#32
  ![v1455.toNat, 5, 5, 0, 0]
def k0_off977 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1468 : Index := Scalar.indexCast v1145
  let c6_645 : Index := 6#32
  let c5_646 : Index := 5#32
  let c0_647 : Index := 0#32
  let c0_648 : Index := 0#32
  ![v1468.toNat, 6, 5, 0, 0]
def k0_off978 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1471 : Index := Scalar.indexCast v1145
  let c7_649 : Index := 7#32
  let c5_650 : Index := 5#32
  let c0_651 : Index := 0#32
  let c0_652 : Index := 0#32
  ![v1471.toNat, 7, 5, 0, 0]
def k0_off979 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1484 : Index := Scalar.indexCast v1145
  let c8_656 : Index := 8#32
  let c5_657 : Index := 5#32
  let c0_658 : Index := 0#32
  let c0_659 : Index := 0#32
  ![v1484.toNat, 8, 5, 0, 0]
def k0_off980 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1487 : Index := Scalar.indexCast v1145
  let c9_660 : Index := 9#32
  let c5_661 : Index := 5#32
  let c0_662 : Index := 0#32
  let c0_663 : Index := 0#32
  ![v1487.toNat, 9, 5, 0, 0]
def k0_off981 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1500 : Index := Scalar.indexCast v1145
  let c10_667 : Index := 10#32
  let c5_668 : Index := 5#32
  let c0_669 : Index := 0#32
  let c0_670 : Index := 0#32
  ![v1500.toNat, 10, 5, 0, 0]
def k0_off982 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1503 : Index := Scalar.indexCast v1145
  let c11_671 : Index := 11#32
  let c5_672 : Index := 5#32
  let c0_673 : Index := 0#32
  let c0_674 : Index := 0#32
  ![v1503.toNat, 11, 5, 0, 0]
def k0_off983 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1516 : Index := Scalar.indexCast v1145
  let c12_678 : Index := 12#32
  let c5_679 : Index := 5#32
  let c0_680 : Index := 0#32
  let c0_681 : Index := 0#32
  ![v1516.toNat, 12, 5, 0, 0]
def k0_off984 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1519 : Index := Scalar.indexCast v1145
  let c13_682 : Index := 13#32
  let c5_683 : Index := 5#32
  let c0_684 : Index := 0#32
  let c0_685 : Index := 0#32
  ![v1519.toNat, 13, 5, 0, 0]
def k0_off985 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1532 : Index := Scalar.indexCast v1145
  let c14_689 : Index := 14#32
  let c5_690 : Index := 5#32
  let c0_691 : Index := 0#32
  let c0_692 : Index := 0#32
  ![v1532.toNat, 14, 5, 0, 0]
def k0_off986 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1535 : Index := Scalar.indexCast v1145
  let c15_693 : Index := 15#32
  let c5_694 : Index := 5#32
  let c0_695 : Index := 0#32
  let c0_696 : Index := 0#32
  ![v1535.toNat, 15, 5, 0, 0]
def k0_off987 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1548 : Index := Scalar.indexCast v1145
  let c16_700 : Index := 16#32
  let c5_701 : Index := 5#32
  let c0_702 : Index := 0#32
  let c0_703 : Index := 0#32
  ![v1548.toNat, 16, 5, 0, 0]
def k0_off988 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1551 : Index := Scalar.indexCast v1145
  let c17_704 : Index := 17#32
  let c5_705 : Index := 5#32
  let c0_706 : Index := 0#32
  let c0_707 : Index := 0#32
  ![v1551.toNat, 17, 5, 0, 0]
def k0_off989 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1564 : Index := Scalar.indexCast v1145
  let c18_711 : Index := 18#32
  let c5_712 : Index := 5#32
  let c0_713 : Index := 0#32
  let c0_714 : Index := 0#32
  ![v1564.toNat, 18, 5, 0, 0]
def k0_off990 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1567 : Index := Scalar.indexCast v1145
  let c19_715 : Index := 19#32
  let c5_716 : Index := 5#32
  let c0_717 : Index := 0#32
  let c0_718 : Index := 0#32
  ![v1567.toNat, 19, 5, 0, 0]
def k0_off991 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1580 : Index := Scalar.indexCast v1145
  let c20_722 : Index := 20#32
  let c5_723 : Index := 5#32
  let c0_724 : Index := 0#32
  let c0_725 : Index := 0#32
  ![v1580.toNat, 20, 5, 0, 0]
def k0_off992 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1583 : Index := Scalar.indexCast v1145
  let c21_726 : Index := 21#32
  let c5_727 : Index := 5#32
  let c0_728 : Index := 0#32
  let c0_729 : Index := 0#32
  ![v1583.toNat, 21, 5, 0, 0]
def k0_off993 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1596 : Index := Scalar.indexCast v1145
  let c22_733 : Index := 22#32
  let c5_734 : Index := 5#32
  let c0_735 : Index := 0#32
  let c0_736 : Index := 0#32
  ![v1596.toNat, 22, 5, 0, 0]
def k0_off994 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1599 : Index := Scalar.indexCast v1145
  let c23_737 : Index := 23#32
  let c5_738 : Index := 5#32
  let c0_739 : Index := 0#32
  let c0_740 : Index := 0#32
  ![v1599.toNat, 23, 5, 0, 0]
def k0_off995 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1612 : Index := Scalar.indexCast v1145
  let c24_744 : Index := 24#32
  let c5_745 : Index := 5#32
  let c0_746 : Index := 0#32
  let c0_747 : Index := 0#32
  ![v1612.toNat, 24, 5, 0, 0]
def k0_off996 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1615 : Index := Scalar.indexCast v1145
  let c25_748 : Index := 25#32
  let c5_749 : Index := 5#32
  let c0_750 : Index := 0#32
  let c0_751 : Index := 0#32
  ![v1615.toNat, 25, 5, 0, 0]
def k0_off997 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1628 : Index := Scalar.indexCast v1145
  let c26_755 : Index := 26#32
  let c5_756 : Index := 5#32
  let c0_757 : Index := 0#32
  let c0_758 : Index := 0#32
  ![v1628.toNat, 26, 5, 0, 0]
def k0_off998 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1631 : Index := Scalar.indexCast v1145
  let c27_759 : Index := 27#32
  let c5_760 : Index := 5#32
  let c0_761 : Index := 0#32
  let c0_762 : Index := 0#32
  ![v1631.toNat, 27, 5, 0, 0]
def k0_off999 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1644 : Index := Scalar.indexCast v1145
  let c28_766 : Index := 28#32
  let c5_767 : Index := 5#32
  let c0_768 : Index := 0#32
  let c0_769 : Index := 0#32
  ![v1644.toNat, 28, 5, 0, 0]
def k0_off1000 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1647 : Index := Scalar.indexCast v1145
  let c29_770 : Index := 29#32
  let c5_771 : Index := 5#32
  let c0_772 : Index := 0#32
  let c0_773 : Index := 0#32
  ![v1647.toNat, 29, 5, 0, 0]
def k0_off1001 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1660 : Index := Scalar.indexCast v1145
  let c30_777 : Index := 30#32
  let c5_778 : Index := 5#32
  let c0_779 : Index := 0#32
  let c0_780 : Index := 0#32
  ![v1660.toNat, 30, 5, 0, 0]
def k0_off1002 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1663 : Index := Scalar.indexCast v1145
  let c31_781 : Index := 31#32
  let c5_782 : Index := 5#32
  let c0_783 : Index := 0#32
  let c0_784 : Index := 0#32
  ![v1663.toNat, 31, 5, 0, 0]
def k0_off1003 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1681 : Index := Scalar.indexCast v1145
  let c0_796 : Index := 0#32
  let c6_797 : Index := 6#32
  let c0_798 : Index := 0#32
  let c0_799 : Index := 0#32
  ![v1681.toNat, 0, 6, 0, 0]
def k0_off1004 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1684 : Index := Scalar.indexCast v1145
  let c1_800 : Index := 1#32
  let c6_801 : Index := 6#32
  let c0_802 : Index := 0#32
  let c0_803 : Index := 0#32
  ![v1684.toNat, 1, 6, 0, 0]
def k0_off1005 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1697 : Index := Scalar.indexCast v1145
  let c2_807 : Index := 2#32
  let c6_808 : Index := 6#32
  let c0_809 : Index := 0#32
  let c0_810 : Index := 0#32
  ![v1697.toNat, 2, 6, 0, 0]
def k0_off1006 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1700 : Index := Scalar.indexCast v1145
  let c3_811 : Index := 3#32
  let c6_812 : Index := 6#32
  let c0_813 : Index := 0#32
  let c0_814 : Index := 0#32
  ![v1700.toNat, 3, 6, 0, 0]
def k0_off1007 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1713 : Index := Scalar.indexCast v1145
  let c4_818 : Index := 4#32
  let c6_819 : Index := 6#32
  let c0_820 : Index := 0#32
  let c0_821 : Index := 0#32
  ![v1713.toNat, 4, 6, 0, 0]
def k0_off1008 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1716 : Index := Scalar.indexCast v1145
  let c5_822 : Index := 5#32
  let c6_823 : Index := 6#32
  let c0_824 : Index := 0#32
  let c0_825 : Index := 0#32
  ![v1716.toNat, 5, 6, 0, 0]
def k0_off1009 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1729 : Index := Scalar.indexCast v1145
  let c6_829 : Index := 6#32
  let c6_830 : Index := 6#32
  let c0_831 : Index := 0#32
  let c0_832 : Index := 0#32
  ![v1729.toNat, 6, 6, 0, 0]
def k0_off1010 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1732 : Index := Scalar.indexCast v1145
  let c7_833 : Index := 7#32
  let c6_834 : Index := 6#32
  let c0_835 : Index := 0#32
  let c0_836 : Index := 0#32
  ![v1732.toNat, 7, 6, 0, 0]
def k0_off1011 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1745 : Index := Scalar.indexCast v1145
  let c8_840 : Index := 8#32
  let c6_841 : Index := 6#32
  let c0_842 : Index := 0#32
  let c0_843 : Index := 0#32
  ![v1745.toNat, 8, 6, 0, 0]
def k0_off1012 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1748 : Index := Scalar.indexCast v1145
  let c9_844 : Index := 9#32
  let c6_845 : Index := 6#32
  let c0_846 : Index := 0#32
  let c0_847 : Index := 0#32
  ![v1748.toNat, 9, 6, 0, 0]
def k0_off1013 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1761 : Index := Scalar.indexCast v1145
  let c10_851 : Index := 10#32
  let c6_852 : Index := 6#32
  let c0_853 : Index := 0#32
  let c0_854 : Index := 0#32
  ![v1761.toNat, 10, 6, 0, 0]
def k0_off1014 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1764 : Index := Scalar.indexCast v1145
  let c11_855 : Index := 11#32
  let c6_856 : Index := 6#32
  let c0_857 : Index := 0#32
  let c0_858 : Index := 0#32
  ![v1764.toNat, 11, 6, 0, 0]
def k0_off1015 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1777 : Index := Scalar.indexCast v1145
  let c12_862 : Index := 12#32
  let c6_863 : Index := 6#32
  let c0_864 : Index := 0#32
  let c0_865 : Index := 0#32
  ![v1777.toNat, 12, 6, 0, 0]
def k0_off1016 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1780 : Index := Scalar.indexCast v1145
  let c13_866 : Index := 13#32
  let c6_867 : Index := 6#32
  let c0_868 : Index := 0#32
  let c0_869 : Index := 0#32
  ![v1780.toNat, 13, 6, 0, 0]
def k0_off1017 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1793 : Index := Scalar.indexCast v1145
  let c14_873 : Index := 14#32
  let c6_874 : Index := 6#32
  let c0_875 : Index := 0#32
  let c0_876 : Index := 0#32
  ![v1793.toNat, 14, 6, 0, 0]
def k0_off1018 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1796 : Index := Scalar.indexCast v1145
  let c15_877 : Index := 15#32
  let c6_878 : Index := 6#32
  let c0_879 : Index := 0#32
  let c0_880 : Index := 0#32
  ![v1796.toNat, 15, 6, 0, 0]
def k0_off1019 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1809 : Index := Scalar.indexCast v1145
  let c16_884 : Index := 16#32
  let c6_885 : Index := 6#32
  let c0_886 : Index := 0#32
  let c0_887 : Index := 0#32
  ![v1809.toNat, 16, 6, 0, 0]
def k0_off1020 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1812 : Index := Scalar.indexCast v1145
  let c17_888 : Index := 17#32
  let c6_889 : Index := 6#32
  let c0_890 : Index := 0#32
  let c0_891 : Index := 0#32
  ![v1812.toNat, 17, 6, 0, 0]
def k0_off1021 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1825 : Index := Scalar.indexCast v1145
  let c18_895 : Index := 18#32
  let c6_896 : Index := 6#32
  let c0_897 : Index := 0#32
  let c0_898 : Index := 0#32
  ![v1825.toNat, 18, 6, 0, 0]
def k0_off1022 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1828 : Index := Scalar.indexCast v1145
  let c19_899 : Index := 19#32
  let c6_900 : Index := 6#32
  let c0_901 : Index := 0#32
  let c0_902 : Index := 0#32
  ![v1828.toNat, 19, 6, 0, 0]
def k0_off1023 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1841 : Index := Scalar.indexCast v1145
  let c20_906 : Index := 20#32
  let c6_907 : Index := 6#32
  let c0_908 : Index := 0#32
  let c0_909 : Index := 0#32
  ![v1841.toNat, 20, 6, 0, 0]
def k0_off1024 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1844 : Index := Scalar.indexCast v1145
  let c21_910 : Index := 21#32
  let c6_911 : Index := 6#32
  let c0_912 : Index := 0#32
  let c0_913 : Index := 0#32
  ![v1844.toNat, 21, 6, 0, 0]
def k0_off1025 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1857 : Index := Scalar.indexCast v1145
  let c22_917 : Index := 22#32
  let c6_918 : Index := 6#32
  let c0_919 : Index := 0#32
  let c0_920 : Index := 0#32
  ![v1857.toNat, 22, 6, 0, 0]
def k0_off1026 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1860 : Index := Scalar.indexCast v1145
  let c23_921 : Index := 23#32
  let c6_922 : Index := 6#32
  let c0_923 : Index := 0#32
  let c0_924 : Index := 0#32
  ![v1860.toNat, 23, 6, 0, 0]
def k0_off1027 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1873 : Index := Scalar.indexCast v1145
  let c24_928 : Index := 24#32
  let c6_929 : Index := 6#32
  let c0_930 : Index := 0#32
  let c0_931 : Index := 0#32
  ![v1873.toNat, 24, 6, 0, 0]
def k0_off1028 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1876 : Index := Scalar.indexCast v1145
  let c25_932 : Index := 25#32
  let c6_933 : Index := 6#32
  let c0_934 : Index := 0#32
  let c0_935 : Index := 0#32
  ![v1876.toNat, 25, 6, 0, 0]
def k0_off1029 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1889 : Index := Scalar.indexCast v1145
  let c26_939 : Index := 26#32
  let c6_940 : Index := 6#32
  let c0_941 : Index := 0#32
  let c0_942 : Index := 0#32
  ![v1889.toNat, 26, 6, 0, 0]
def k0_off1030 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1892 : Index := Scalar.indexCast v1145
  let c27_943 : Index := 27#32
  let c6_944 : Index := 6#32
  let c0_945 : Index := 0#32
  let c0_946 : Index := 0#32
  ![v1892.toNat, 27, 6, 0, 0]
def k0_off1031 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1905 : Index := Scalar.indexCast v1145
  let c28_950 : Index := 28#32
  let c6_951 : Index := 6#32
  let c0_952 : Index := 0#32
  let c0_953 : Index := 0#32
  ![v1905.toNat, 28, 6, 0, 0]
def k0_off1032 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1908 : Index := Scalar.indexCast v1145
  let c29_954 : Index := 29#32
  let c6_955 : Index := 6#32
  let c0_956 : Index := 0#32
  let c0_957 : Index := 0#32
  ![v1908.toNat, 29, 6, 0, 0]
def k0_off1033 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1921 : Index := Scalar.indexCast v1145
  let c30_961 : Index := 30#32
  let c6_962 : Index := 6#32
  let c0_963 : Index := 0#32
  let c0_964 : Index := 0#32
  ![v1921.toNat, 30, 6, 0, 0]
def k0_off1034 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1924 : Index := Scalar.indexCast v1145
  let c31_965 : Index := 31#32
  let c6_966 : Index := 6#32
  let c0_967 : Index := 0#32
  let c0_968 : Index := 0#32
  ![v1924.toNat, 31, 6, 0, 0]
def k0_off1035 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1942 : Index := Scalar.indexCast v1145
  let c0_980 : Index := 0#32
  let c7_981 : Index := 7#32
  let c0_982 : Index := 0#32
  let c0_983 : Index := 0#32
  ![v1942.toNat, 0, 7, 0, 0]
def k0_off1036 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1945 : Index := Scalar.indexCast v1145
  let c1_984 : Index := 1#32
  let c7_985 : Index := 7#32
  let c0_986 : Index := 0#32
  let c0_987 : Index := 0#32
  ![v1945.toNat, 1, 7, 0, 0]
def k0_off1037 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1958 : Index := Scalar.indexCast v1145
  let c2_991 : Index := 2#32
  let c7_992 : Index := 7#32
  let c0_993 : Index := 0#32
  let c0_994 : Index := 0#32
  ![v1958.toNat, 2, 7, 0, 0]
def k0_off1038 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1961 : Index := Scalar.indexCast v1145
  let c3_995 : Index := 3#32
  let c7_996 : Index := 7#32
  let c0_997 : Index := 0#32
  let c0_998 : Index := 0#32
  ![v1961.toNat, 3, 7, 0, 0]
def k0_off1039 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1974 : Index := Scalar.indexCast v1145
  let c4_1002 : Index := 4#32
  let c7_1003 : Index := 7#32
  let c0_1004 : Index := 0#32
  let c0_1005 : Index := 0#32
  ![v1974.toNat, 4, 7, 0, 0]
def k0_off1040 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1977 : Index := Scalar.indexCast v1145
  let c5_1006 : Index := 5#32
  let c7_1007 : Index := 7#32
  let c0_1008 : Index := 0#32
  let c0_1009 : Index := 0#32
  ![v1977.toNat, 5, 7, 0, 0]
def k0_off1041 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1990 : Index := Scalar.indexCast v1145
  let c6_1013 : Index := 6#32
  let c7_1014 : Index := 7#32
  let c0_1015 : Index := 0#32
  let c0_1016 : Index := 0#32
  ![v1990.toNat, 6, 7, 0, 0]
def k0_off1042 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v1993 : Index := Scalar.indexCast v1145
  let c7_1017 : Index := 7#32
  let c7_1018 : Index := 7#32
  let c0_1019 : Index := 0#32
  let c0_1020 : Index := 0#32
  ![v1993.toNat, 7, 7, 0, 0]
def k0_off1043 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2006 : Index := Scalar.indexCast v1145
  let c8_1024 : Index := 8#32
  let c7_1025 : Index := 7#32
  let c0_1026 : Index := 0#32
  let c0_1027 : Index := 0#32
  ![v2006.toNat, 8, 7, 0, 0]
def k0_off1044 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2009 : Index := Scalar.indexCast v1145
  let c9_1028 : Index := 9#32
  let c7_1029 : Index := 7#32
  let c0_1030 : Index := 0#32
  let c0_1031 : Index := 0#32
  ![v2009.toNat, 9, 7, 0, 0]
def k0_off1045 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2022 : Index := Scalar.indexCast v1145
  let c10_1035 : Index := 10#32
  let c7_1036 : Index := 7#32
  let c0_1037 : Index := 0#32
  let c0_1038 : Index := 0#32
  ![v2022.toNat, 10, 7, 0, 0]
def k0_off1046 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2025 : Index := Scalar.indexCast v1145
  let c11_1039 : Index := 11#32
  let c7_1040 : Index := 7#32
  let c0_1041 : Index := 0#32
  let c0_1042 : Index := 0#32
  ![v2025.toNat, 11, 7, 0, 0]
def k0_off1047 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2038 : Index := Scalar.indexCast v1145
  let c12_1046 : Index := 12#32
  let c7_1047 : Index := 7#32
  let c0_1048 : Index := 0#32
  let c0_1049 : Index := 0#32
  ![v2038.toNat, 12, 7, 0, 0]
def k0_off1048 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2041 : Index := Scalar.indexCast v1145
  let c13_1050 : Index := 13#32
  let c7_1051 : Index := 7#32
  let c0_1052 : Index := 0#32
  let c0_1053 : Index := 0#32
  ![v2041.toNat, 13, 7, 0, 0]
def k0_off1049 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2054 : Index := Scalar.indexCast v1145
  let c14_1057 : Index := 14#32
  let c7_1058 : Index := 7#32
  let c0_1059 : Index := 0#32
  let c0_1060 : Index := 0#32
  ![v2054.toNat, 14, 7, 0, 0]
def k0_off1050 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2057 : Index := Scalar.indexCast v1145
  let c15_1061 : Index := 15#32
  let c7_1062 : Index := 7#32
  let c0_1063 : Index := 0#32
  let c0_1064 : Index := 0#32
  ![v2057.toNat, 15, 7, 0, 0]
def k0_off1051 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2070 : Index := Scalar.indexCast v1145
  let c16_1068 : Index := 16#32
  let c7_1069 : Index := 7#32
  let c0_1070 : Index := 0#32
  let c0_1071 : Index := 0#32
  ![v2070.toNat, 16, 7, 0, 0]
def k0_off1052 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2073 : Index := Scalar.indexCast v1145
  let c17_1072 : Index := 17#32
  let c7_1073 : Index := 7#32
  let c0_1074 : Index := 0#32
  let c0_1075 : Index := 0#32
  ![v2073.toNat, 17, 7, 0, 0]
def k0_off1053 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2086 : Index := Scalar.indexCast v1145
  let c18_1079 : Index := 18#32
  let c7_1080 : Index := 7#32
  let c0_1081 : Index := 0#32
  let c0_1082 : Index := 0#32
  ![v2086.toNat, 18, 7, 0, 0]
def k0_off1054 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2089 : Index := Scalar.indexCast v1145
  let c19_1083 : Index := 19#32
  let c7_1084 : Index := 7#32
  let c0_1085 : Index := 0#32
  let c0_1086 : Index := 0#32
  ![v2089.toNat, 19, 7, 0, 0]
def k0_off1055 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2102 : Index := Scalar.indexCast v1145
  let c20_1090 : Index := 20#32
  let c7_1091 : Index := 7#32
  let c0_1092 : Index := 0#32
  let c0_1093 : Index := 0#32
  ![v2102.toNat, 20, 7, 0, 0]
def k0_off1056 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2105 : Index := Scalar.indexCast v1145
  let c21_1094 : Index := 21#32
  let c7_1095 : Index := 7#32
  let c0_1096 : Index := 0#32
  let c0_1097 : Index := 0#32
  ![v2105.toNat, 21, 7, 0, 0]
def k0_off1057 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2118 : Index := Scalar.indexCast v1145
  let c22_1101 : Index := 22#32
  let c7_1102 : Index := 7#32
  let c0_1103 : Index := 0#32
  let c0_1104 : Index := 0#32
  ![v2118.toNat, 22, 7, 0, 0]
def k0_off1058 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2121 : Index := Scalar.indexCast v1145
  let c23_1105 : Index := 23#32
  let c7_1106 : Index := 7#32
  let c0_1107 : Index := 0#32
  let c0_1108 : Index := 0#32
  ![v2121.toNat, 23, 7, 0, 0]
def k0_off1059 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2134 : Index := Scalar.indexCast v1145
  let c24_1112 : Index := 24#32
  let c7_1113 : Index := 7#32
  let c0_1114 : Index := 0#32
  let c0_1115 : Index := 0#32
  ![v2134.toNat, 24, 7, 0, 0]
def k0_off1060 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2137 : Index := Scalar.indexCast v1145
  let c25_1116 : Index := 25#32
  let c7_1117 : Index := 7#32
  let c0_1118 : Index := 0#32
  let c0_1119 : Index := 0#32
  ![v2137.toNat, 25, 7, 0, 0]
def k0_off1061 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2150 : Index := Scalar.indexCast v1145
  let c26_1123 : Index := 26#32
  let c7_1124 : Index := 7#32
  let c0_1125 : Index := 0#32
  let c0_1126 : Index := 0#32
  ![v2150.toNat, 26, 7, 0, 0]
def k0_off1062 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2153 : Index := Scalar.indexCast v1145
  let c27_1127 : Index := 27#32
  let c7_1128 : Index := 7#32
  let c0_1129 : Index := 0#32
  let c0_1130 : Index := 0#32
  ![v2153.toNat, 27, 7, 0, 0]
def k0_off1063 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2166 : Index := Scalar.indexCast v1145
  let c28_1134 : Index := 28#32
  let c7_1135 : Index := 7#32
  let c0_1136 : Index := 0#32
  let c0_1137 : Index := 0#32
  ![v2166.toNat, 28, 7, 0, 0]
def k0_off1064 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2169 : Index := Scalar.indexCast v1145
  let c29_1138 : Index := 29#32
  let c7_1139 : Index := 7#32
  let c0_1140 : Index := 0#32
  let c0_1141 : Index := 0#32
  ![v2169.toNat, 29, 7, 0, 0]
def k0_off1065 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2182 : Index := Scalar.indexCast v1145
  let c30_1145 : Index := 30#32
  let c7_1146 : Index := 7#32
  let c0_1147 : Index := 0#32
  let c0_1148 : Index := 0#32
  ![v2182.toNat, 30, 7, 0, 0]
def k0_off1066 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_440 : BitVec 32 := 2#32
  let c0_i32_441 : BitVec 32 := 0#32
  let v1136 : BitVec 1 := Scalar.cmpi .eq c2_i32_440 c0_i32_441
  let c1_i32_442 : BitVec 32 := 1#32
  let v1137 : BitVec 32 := Scalar.select v1136 c1_i32_442 c2_i32_440
  let v1138 : BitVec 32 := Scalar.remsi v3 v1137
  let c0_i32_444 : BitVec 32 := 0#32
  let v1140 : BitVec 1 := Scalar.cmpi .slt v1138 c0_i32_444
  let c0_i32_445 : BitVec 32 := 0#32
  let v1141 : BitVec 1 := Scalar.cmpi .slt v1137 c0_i32_445
  let v1142 : BitVec 1 := Scalar.xori v1140 v1141
  let c0_i32_443 : BitVec 32 := 0#32
  let v1139 : BitVec 1 := Scalar.cmpi .ne v1138 c0_i32_443
  let v1143 : BitVec 1 := Scalar.andi v1142 v1139
  let v1144 : BitVec 32 := Scalar.addi v1138 v1137
  let v1145 : BitVec 32 := Scalar.select v1143 v1144 v1138
  let v2185 : Index := Scalar.indexCast v1145
  let c31_1149 : Index := 31#32
  let c7_1150 : Index := 7#32
  let c0_1151 : Index := 0#32
  let c0_1152 : Index := 0#32
  ![v2185.toNat, 31, 7, 0, 0]
def k0_mult15 (i : grid0.Coords) : BitVec 32 :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  v2201
def k0_off1067 (i : grid0.Coords) : Fin 3 → Nat :=
  let c0_1161 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  let v2202 : BitVec 32 := v2201
  let v2203 : Index := Scalar.indexCast v2202
  let c0_1162 : Index := 0#32
  ![0, v2203.toNat, 0]
def k0_off1068 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2209 : Index := Scalar.indexCast v840
  let c0_1163 : Index := 0#32
  let c0_1164 : Index := 0#32
  let c0_1165 : Index := 0#32
  ![v2209.toNat, 0, 0, 0]
def k0_off1069 (i : grid0.Coords) : Fin 3 → Nat :=
  let c1_1167 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  let v2202 : BitVec 32 := v2201
  let v2215 : Index := Scalar.indexCast v2202
  let c0_1168 : Index := 0#32
  ![1, v2215.toNat, 0]
def k0_off1070 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2221 : Index := Scalar.indexCast v840
  let c1_1169 : Index := 1#32
  let c0_1170 : Index := 0#32
  let c0_1171 : Index := 0#32
  ![v2221.toNat, 1, 0, 0]
def k0_off1071 (i : grid0.Coords) : Fin 3 → Nat :=
  let c2_1173 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  let v2202 : BitVec 32 := v2201
  let v2227 : Index := Scalar.indexCast v2202
  let c0_1174 : Index := 0#32
  ![2, v2227.toNat, 0]
def k0_off1072 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2233 : Index := Scalar.indexCast v840
  let c2_1175 : Index := 2#32
  let c0_1176 : Index := 0#32
  let c0_1177 : Index := 0#32
  ![v2233.toNat, 2, 0, 0]
def k0_off1073 (i : grid0.Coords) : Fin 3 → Nat :=
  let c3_1179 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1160 : BitVec 32 := 1024#32
  let v2201 : BitVec 32 := Scalar.muli v840 c1024_i32_1160
  let v2202 : BitVec 32 := v2201
  let v2239 : Index := Scalar.indexCast v2202
  let c0_1180 : Index := 0#32
  ![3, v2239.toNat, 0]
def k0_off1074 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2245 : Index := Scalar.indexCast v840
  let c3_1181 : Index := 3#32
  let c0_1182 : Index := 0#32
  let c0_1183 : Index := 0#32
  ![v2245.toNat, 3, 0, 0]
def k0_off1075 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1156 : Index := Scalar.indexCast v1142
  let c0_453 : Index := 0#32
  let c4_454 : Index := 4#32
  let c0_455 : Index := 0#32
  let c0_456 : Index := 0#32
  ![v1156.toNat, 0, 4, 0, 0]
def k0_off1076 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1159 : Index := Scalar.indexCast v1142
  let c1_457 : Index := 1#32
  let c4_458 : Index := 4#32
  let c0_459 : Index := 0#32
  let c0_460 : Index := 0#32
  ![v1159.toNat, 1, 4, 0, 0]
def k0_off1077 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1172 : Index := Scalar.indexCast v1142
  let c2_464 : Index := 2#32
  let c4_465 : Index := 4#32
  let c0_466 : Index := 0#32
  let c0_467 : Index := 0#32
  ![v1172.toNat, 2, 4, 0, 0]
def k0_off1078 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1175 : Index := Scalar.indexCast v1142
  let c3_468 : Index := 3#32
  let c4_469 : Index := 4#32
  let c0_470 : Index := 0#32
  let c0_471 : Index := 0#32
  ![v1175.toNat, 3, 4, 0, 0]
def k0_off1079 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1188 : Index := Scalar.indexCast v1142
  let c4_475 : Index := 4#32
  let c4_476 : Index := 4#32
  let c0_477 : Index := 0#32
  let c0_478 : Index := 0#32
  ![v1188.toNat, 4, 4, 0, 0]
def k0_off1080 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1191 : Index := Scalar.indexCast v1142
  let c5 : Index := 5#32
  let c4_479 : Index := 4#32
  let c0_480 : Index := 0#32
  let c0_481 : Index := 0#32
  ![v1191.toNat, 5, 4, 0, 0]
def k0_off1081 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1204 : Index := Scalar.indexCast v1142
  let c6 : Index := 6#32
  let c4_485 : Index := 4#32
  let c0_486 : Index := 0#32
  let c0_487 : Index := 0#32
  ![v1204.toNat, 6, 4, 0, 0]
def k0_off1082 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1207 : Index := Scalar.indexCast v1142
  let c7 : Index := 7#32
  let c4_488 : Index := 4#32
  let c0_489 : Index := 0#32
  let c0_490 : Index := 0#32
  ![v1207.toNat, 7, 4, 0, 0]
def k0_off1083 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1220 : Index := Scalar.indexCast v1142
  let c8 : Index := 8#32
  let c4_494 : Index := 4#32
  let c0_495 : Index := 0#32
  let c0_496 : Index := 0#32
  ![v1220.toNat, 8, 4, 0, 0]
def k0_off1084 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1223 : Index := Scalar.indexCast v1142
  let c9 : Index := 9#32
  let c4_497 : Index := 4#32
  let c0_498 : Index := 0#32
  let c0_499 : Index := 0#32
  ![v1223.toNat, 9, 4, 0, 0]
def k0_off1085 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1236 : Index := Scalar.indexCast v1142
  let c10 : Index := 10#32
  let c4_503 : Index := 4#32
  let c0_504 : Index := 0#32
  let c0_505 : Index := 0#32
  ![v1236.toNat, 10, 4, 0, 0]
def k0_off1086 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1239 : Index := Scalar.indexCast v1142
  let c11 : Index := 11#32
  let c4_506 : Index := 4#32
  let c0_507 : Index := 0#32
  let c0_508 : Index := 0#32
  ![v1239.toNat, 11, 4, 0, 0]
def k0_off1087 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1252 : Index := Scalar.indexCast v1142
  let c12 : Index := 12#32
  let c4_512 : Index := 4#32
  let c0_513 : Index := 0#32
  let c0_514 : Index := 0#32
  ![v1252.toNat, 12, 4, 0, 0]
def k0_off1088 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1255 : Index := Scalar.indexCast v1142
  let c13 : Index := 13#32
  let c4_515 : Index := 4#32
  let c0_516 : Index := 0#32
  let c0_517 : Index := 0#32
  ![v1255.toNat, 13, 4, 0, 0]
def k0_off1089 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1268 : Index := Scalar.indexCast v1142
  let c14 : Index := 14#32
  let c4_521 : Index := 4#32
  let c0_522 : Index := 0#32
  let c0_523 : Index := 0#32
  ![v1268.toNat, 14, 4, 0, 0]
def k0_off1090 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1271 : Index := Scalar.indexCast v1142
  let c15 : Index := 15#32
  let c4_524 : Index := 4#32
  let c0_525 : Index := 0#32
  let c0_526 : Index := 0#32
  ![v1271.toNat, 15, 4, 0, 0]
def k0_off1091 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1284 : Index := Scalar.indexCast v1142
  let c16 : Index := 16#32
  let c4_530 : Index := 4#32
  let c0_531 : Index := 0#32
  let c0_532 : Index := 0#32
  ![v1284.toNat, 16, 4, 0, 0]
def k0_off1092 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1287 : Index := Scalar.indexCast v1142
  let c17 : Index := 17#32
  let c4_533 : Index := 4#32
  let c0_534 : Index := 0#32
  let c0_535 : Index := 0#32
  ![v1287.toNat, 17, 4, 0, 0]
def k0_off1093 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1300 : Index := Scalar.indexCast v1142
  let c18 : Index := 18#32
  let c4_539 : Index := 4#32
  let c0_540 : Index := 0#32
  let c0_541 : Index := 0#32
  ![v1300.toNat, 18, 4, 0, 0]
def k0_off1094 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1303 : Index := Scalar.indexCast v1142
  let c19 : Index := 19#32
  let c4_542 : Index := 4#32
  let c0_543 : Index := 0#32
  let c0_544 : Index := 0#32
  ![v1303.toNat, 19, 4, 0, 0]
def k0_off1095 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1316 : Index := Scalar.indexCast v1142
  let c20 : Index := 20#32
  let c4_548 : Index := 4#32
  let c0_549 : Index := 0#32
  let c0_550 : Index := 0#32
  ![v1316.toNat, 20, 4, 0, 0]
def k0_off1096 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1319 : Index := Scalar.indexCast v1142
  let c21 : Index := 21#32
  let c4_551 : Index := 4#32
  let c0_552 : Index := 0#32
  let c0_553 : Index := 0#32
  ![v1319.toNat, 21, 4, 0, 0]
def k0_off1097 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1332 : Index := Scalar.indexCast v1142
  let c22 : Index := 22#32
  let c4_557 : Index := 4#32
  let c0_558 : Index := 0#32
  let c0_559 : Index := 0#32
  ![v1332.toNat, 22, 4, 0, 0]
def k0_off1098 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1335 : Index := Scalar.indexCast v1142
  let c23 : Index := 23#32
  let c4_560 : Index := 4#32
  let c0_561 : Index := 0#32
  let c0_562 : Index := 0#32
  ![v1335.toNat, 23, 4, 0, 0]
def k0_off1099 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1348 : Index := Scalar.indexCast v1142
  let c24 : Index := 24#32
  let c4_566 : Index := 4#32
  let c0_567 : Index := 0#32
  let c0_568 : Index := 0#32
  ![v1348.toNat, 24, 4, 0, 0]
def k0_off1100 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1351 : Index := Scalar.indexCast v1142
  let c25 : Index := 25#32
  let c4_569 : Index := 4#32
  let c0_570 : Index := 0#32
  let c0_571 : Index := 0#32
  ![v1351.toNat, 25, 4, 0, 0]
def k0_off1101 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1364 : Index := Scalar.indexCast v1142
  let c26 : Index := 26#32
  let c4_575 : Index := 4#32
  let c0_576 : Index := 0#32
  let c0_577 : Index := 0#32
  ![v1364.toNat, 26, 4, 0, 0]
def k0_off1102 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1367 : Index := Scalar.indexCast v1142
  let c27 : Index := 27#32
  let c4_578 : Index := 4#32
  let c0_579 : Index := 0#32
  let c0_580 : Index := 0#32
  ![v1367.toNat, 27, 4, 0, 0]
def k0_off1103 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1380 : Index := Scalar.indexCast v1142
  let c28 : Index := 28#32
  let c4_584 : Index := 4#32
  let c0_585 : Index := 0#32
  let c0_586 : Index := 0#32
  ![v1380.toNat, 28, 4, 0, 0]
def k0_off1104 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1383 : Index := Scalar.indexCast v1142
  let c29 : Index := 29#32
  let c4_587 : Index := 4#32
  let c0_588 : Index := 0#32
  let c0_589 : Index := 0#32
  ![v1383.toNat, 29, 4, 0, 0]
def k0_off1105 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1396 : Index := Scalar.indexCast v1142
  let c30 : Index := 30#32
  let c4_593 : Index := 4#32
  let c0_594 : Index := 0#32
  let c0_595 : Index := 0#32
  ![v1396.toNat, 30, 4, 0, 0]
def k0_off1106 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1399 : Index := Scalar.indexCast v1142
  let c31 : Index := 31#32
  let c4_596 : Index := 4#32
  let c0_597 : Index := 0#32
  let c0_598 : Index := 0#32
  ![v1399.toNat, 31, 4, 0, 0]
def k0_off1107 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1417 : Index := Scalar.indexCast v1142
  let c0_610 : Index := 0#32
  let c5_611 : Index := 5#32
  let c0_612 : Index := 0#32
  let c0_613 : Index := 0#32
  ![v1417.toNat, 0, 5, 0, 0]
def k0_off1108 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1420 : Index := Scalar.indexCast v1142
  let c1_614 : Index := 1#32
  let c5_615 : Index := 5#32
  let c0_616 : Index := 0#32
  let c0_617 : Index := 0#32
  ![v1420.toNat, 1, 5, 0, 0]
def k0_off1109 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1433 : Index := Scalar.indexCast v1142
  let c2_621 : Index := 2#32
  let c5_622 : Index := 5#32
  let c0_623 : Index := 0#32
  let c0_624 : Index := 0#32
  ![v1433.toNat, 2, 5, 0, 0]
def k0_off1110 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1436 : Index := Scalar.indexCast v1142
  let c3_625 : Index := 3#32
  let c5_626 : Index := 5#32
  let c0_627 : Index := 0#32
  let c0_628 : Index := 0#32
  ![v1436.toNat, 3, 5, 0, 0]
def k0_off1111 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1449 : Index := Scalar.indexCast v1142
  let c4_632 : Index := 4#32
  let c5_633 : Index := 5#32
  let c0_634 : Index := 0#32
  let c0_635 : Index := 0#32
  ![v1449.toNat, 4, 5, 0, 0]
def k0_off1112 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1452 : Index := Scalar.indexCast v1142
  let c5_636 : Index := 5#32
  let c5_637 : Index := 5#32
  let c0_638 : Index := 0#32
  let c0_639 : Index := 0#32
  ![v1452.toNat, 5, 5, 0, 0]
def k0_off1113 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1465 : Index := Scalar.indexCast v1142
  let c6_643 : Index := 6#32
  let c5_644 : Index := 5#32
  let c0_645 : Index := 0#32
  let c0_646 : Index := 0#32
  ![v1465.toNat, 6, 5, 0, 0]
def k0_off1114 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1468 : Index := Scalar.indexCast v1142
  let c7_647 : Index := 7#32
  let c5_648 : Index := 5#32
  let c0_649 : Index := 0#32
  let c0_650 : Index := 0#32
  ![v1468.toNat, 7, 5, 0, 0]
def k0_off1115 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1481 : Index := Scalar.indexCast v1142
  let c8_654 : Index := 8#32
  let c5_655 : Index := 5#32
  let c0_656 : Index := 0#32
  let c0_657 : Index := 0#32
  ![v1481.toNat, 8, 5, 0, 0]
def k0_off1116 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1484 : Index := Scalar.indexCast v1142
  let c9_658 : Index := 9#32
  let c5_659 : Index := 5#32
  let c0_660 : Index := 0#32
  let c0_661 : Index := 0#32
  ![v1484.toNat, 9, 5, 0, 0]
def k0_off1117 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1497 : Index := Scalar.indexCast v1142
  let c10_665 : Index := 10#32
  let c5_666 : Index := 5#32
  let c0_667 : Index := 0#32
  let c0_668 : Index := 0#32
  ![v1497.toNat, 10, 5, 0, 0]
def k0_off1118 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1500 : Index := Scalar.indexCast v1142
  let c11_669 : Index := 11#32
  let c5_670 : Index := 5#32
  let c0_671 : Index := 0#32
  let c0_672 : Index := 0#32
  ![v1500.toNat, 11, 5, 0, 0]
def k0_off1119 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1513 : Index := Scalar.indexCast v1142
  let c12_676 : Index := 12#32
  let c5_677 : Index := 5#32
  let c0_678 : Index := 0#32
  let c0_679 : Index := 0#32
  ![v1513.toNat, 12, 5, 0, 0]
def k0_off1120 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1516 : Index := Scalar.indexCast v1142
  let c13_680 : Index := 13#32
  let c5_681 : Index := 5#32
  let c0_682 : Index := 0#32
  let c0_683 : Index := 0#32
  ![v1516.toNat, 13, 5, 0, 0]
def k0_off1121 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1529 : Index := Scalar.indexCast v1142
  let c14_687 : Index := 14#32
  let c5_688 : Index := 5#32
  let c0_689 : Index := 0#32
  let c0_690 : Index := 0#32
  ![v1529.toNat, 14, 5, 0, 0]
def k0_off1122 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1532 : Index := Scalar.indexCast v1142
  let c15_691 : Index := 15#32
  let c5_692 : Index := 5#32
  let c0_693 : Index := 0#32
  let c0_694 : Index := 0#32
  ![v1532.toNat, 15, 5, 0, 0]
def k0_off1123 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1545 : Index := Scalar.indexCast v1142
  let c16_698 : Index := 16#32
  let c5_699 : Index := 5#32
  let c0_700 : Index := 0#32
  let c0_701 : Index := 0#32
  ![v1545.toNat, 16, 5, 0, 0]
def k0_off1124 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1548 : Index := Scalar.indexCast v1142
  let c17_702 : Index := 17#32
  let c5_703 : Index := 5#32
  let c0_704 : Index := 0#32
  let c0_705 : Index := 0#32
  ![v1548.toNat, 17, 5, 0, 0]
def k0_off1125 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1561 : Index := Scalar.indexCast v1142
  let c18_709 : Index := 18#32
  let c5_710 : Index := 5#32
  let c0_711 : Index := 0#32
  let c0_712 : Index := 0#32
  ![v1561.toNat, 18, 5, 0, 0]
def k0_off1126 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1564 : Index := Scalar.indexCast v1142
  let c19_713 : Index := 19#32
  let c5_714 : Index := 5#32
  let c0_715 : Index := 0#32
  let c0_716 : Index := 0#32
  ![v1564.toNat, 19, 5, 0, 0]
def k0_off1127 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1577 : Index := Scalar.indexCast v1142
  let c20_720 : Index := 20#32
  let c5_721 : Index := 5#32
  let c0_722 : Index := 0#32
  let c0_723 : Index := 0#32
  ![v1577.toNat, 20, 5, 0, 0]
def k0_off1128 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1580 : Index := Scalar.indexCast v1142
  let c21_724 : Index := 21#32
  let c5_725 : Index := 5#32
  let c0_726 : Index := 0#32
  let c0_727 : Index := 0#32
  ![v1580.toNat, 21, 5, 0, 0]
def k0_off1129 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1593 : Index := Scalar.indexCast v1142
  let c22_731 : Index := 22#32
  let c5_732 : Index := 5#32
  let c0_733 : Index := 0#32
  let c0_734 : Index := 0#32
  ![v1593.toNat, 22, 5, 0, 0]
def k0_off1130 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1596 : Index := Scalar.indexCast v1142
  let c23_735 : Index := 23#32
  let c5_736 : Index := 5#32
  let c0_737 : Index := 0#32
  let c0_738 : Index := 0#32
  ![v1596.toNat, 23, 5, 0, 0]
def k0_off1131 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1609 : Index := Scalar.indexCast v1142
  let c24_742 : Index := 24#32
  let c5_743 : Index := 5#32
  let c0_744 : Index := 0#32
  let c0_745 : Index := 0#32
  ![v1609.toNat, 24, 5, 0, 0]
def k0_off1132 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1612 : Index := Scalar.indexCast v1142
  let c25_746 : Index := 25#32
  let c5_747 : Index := 5#32
  let c0_748 : Index := 0#32
  let c0_749 : Index := 0#32
  ![v1612.toNat, 25, 5, 0, 0]
def k0_off1133 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1625 : Index := Scalar.indexCast v1142
  let c26_753 : Index := 26#32
  let c5_754 : Index := 5#32
  let c0_755 : Index := 0#32
  let c0_756 : Index := 0#32
  ![v1625.toNat, 26, 5, 0, 0]
def k0_off1134 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1628 : Index := Scalar.indexCast v1142
  let c27_757 : Index := 27#32
  let c5_758 : Index := 5#32
  let c0_759 : Index := 0#32
  let c0_760 : Index := 0#32
  ![v1628.toNat, 27, 5, 0, 0]
def k0_off1135 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1641 : Index := Scalar.indexCast v1142
  let c28_764 : Index := 28#32
  let c5_765 : Index := 5#32
  let c0_766 : Index := 0#32
  let c0_767 : Index := 0#32
  ![v1641.toNat, 28, 5, 0, 0]
def k0_off1136 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1644 : Index := Scalar.indexCast v1142
  let c29_768 : Index := 29#32
  let c5_769 : Index := 5#32
  let c0_770 : Index := 0#32
  let c0_771 : Index := 0#32
  ![v1644.toNat, 29, 5, 0, 0]
def k0_off1137 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1657 : Index := Scalar.indexCast v1142
  let c30_775 : Index := 30#32
  let c5_776 : Index := 5#32
  let c0_777 : Index := 0#32
  let c0_778 : Index := 0#32
  ![v1657.toNat, 30, 5, 0, 0]
def k0_off1138 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1660 : Index := Scalar.indexCast v1142
  let c31_779 : Index := 31#32
  let c5_780 : Index := 5#32
  let c0_781 : Index := 0#32
  let c0_782 : Index := 0#32
  ![v1660.toNat, 31, 5, 0, 0]
def k0_off1139 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1678 : Index := Scalar.indexCast v1142
  let c0_794 : Index := 0#32
  let c6_795 : Index := 6#32
  let c0_796 : Index := 0#32
  let c0_797 : Index := 0#32
  ![v1678.toNat, 0, 6, 0, 0]
def k0_off1140 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1681 : Index := Scalar.indexCast v1142
  let c1_798 : Index := 1#32
  let c6_799 : Index := 6#32
  let c0_800 : Index := 0#32
  let c0_801 : Index := 0#32
  ![v1681.toNat, 1, 6, 0, 0]
def k0_off1141 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1694 : Index := Scalar.indexCast v1142
  let c2_805 : Index := 2#32
  let c6_806 : Index := 6#32
  let c0_807 : Index := 0#32
  let c0_808 : Index := 0#32
  ![v1694.toNat, 2, 6, 0, 0]
def k0_off1142 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1697 : Index := Scalar.indexCast v1142
  let c3_809 : Index := 3#32
  let c6_810 : Index := 6#32
  let c0_811 : Index := 0#32
  let c0_812 : Index := 0#32
  ![v1697.toNat, 3, 6, 0, 0]
def k0_off1143 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1710 : Index := Scalar.indexCast v1142
  let c4_816 : Index := 4#32
  let c6_817 : Index := 6#32
  let c0_818 : Index := 0#32
  let c0_819 : Index := 0#32
  ![v1710.toNat, 4, 6, 0, 0]
def k0_off1144 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1713 : Index := Scalar.indexCast v1142
  let c5_820 : Index := 5#32
  let c6_821 : Index := 6#32
  let c0_822 : Index := 0#32
  let c0_823 : Index := 0#32
  ![v1713.toNat, 5, 6, 0, 0]
def k0_off1145 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1726 : Index := Scalar.indexCast v1142
  let c6_827 : Index := 6#32
  let c6_828 : Index := 6#32
  let c0_829 : Index := 0#32
  let c0_830 : Index := 0#32
  ![v1726.toNat, 6, 6, 0, 0]
def k0_off1146 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1729 : Index := Scalar.indexCast v1142
  let c7_831 : Index := 7#32
  let c6_832 : Index := 6#32
  let c0_833 : Index := 0#32
  let c0_834 : Index := 0#32
  ![v1729.toNat, 7, 6, 0, 0]
def k0_off1147 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1742 : Index := Scalar.indexCast v1142
  let c8_838 : Index := 8#32
  let c6_839 : Index := 6#32
  let c0_840 : Index := 0#32
  let c0_841 : Index := 0#32
  ![v1742.toNat, 8, 6, 0, 0]
def k0_off1148 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1745 : Index := Scalar.indexCast v1142
  let c9_842 : Index := 9#32
  let c6_843 : Index := 6#32
  let c0_844 : Index := 0#32
  let c0_845 : Index := 0#32
  ![v1745.toNat, 9, 6, 0, 0]
def k0_off1149 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1758 : Index := Scalar.indexCast v1142
  let c10_849 : Index := 10#32
  let c6_850 : Index := 6#32
  let c0_851 : Index := 0#32
  let c0_852 : Index := 0#32
  ![v1758.toNat, 10, 6, 0, 0]
def k0_off1150 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1761 : Index := Scalar.indexCast v1142
  let c11_853 : Index := 11#32
  let c6_854 : Index := 6#32
  let c0_855 : Index := 0#32
  let c0_856 : Index := 0#32
  ![v1761.toNat, 11, 6, 0, 0]
def k0_off1151 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1774 : Index := Scalar.indexCast v1142
  let c12_860 : Index := 12#32
  let c6_861 : Index := 6#32
  let c0_862 : Index := 0#32
  let c0_863 : Index := 0#32
  ![v1774.toNat, 12, 6, 0, 0]
def k0_off1152 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1777 : Index := Scalar.indexCast v1142
  let c13_864 : Index := 13#32
  let c6_865 : Index := 6#32
  let c0_866 : Index := 0#32
  let c0_867 : Index := 0#32
  ![v1777.toNat, 13, 6, 0, 0]
def k0_off1153 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1790 : Index := Scalar.indexCast v1142
  let c14_871 : Index := 14#32
  let c6_872 : Index := 6#32
  let c0_873 : Index := 0#32
  let c0_874 : Index := 0#32
  ![v1790.toNat, 14, 6, 0, 0]
def k0_off1154 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1793 : Index := Scalar.indexCast v1142
  let c15_875 : Index := 15#32
  let c6_876 : Index := 6#32
  let c0_877 : Index := 0#32
  let c0_878 : Index := 0#32
  ![v1793.toNat, 15, 6, 0, 0]
def k0_off1155 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1806 : Index := Scalar.indexCast v1142
  let c16_882 : Index := 16#32
  let c6_883 : Index := 6#32
  let c0_884 : Index := 0#32
  let c0_885 : Index := 0#32
  ![v1806.toNat, 16, 6, 0, 0]
def k0_off1156 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1809 : Index := Scalar.indexCast v1142
  let c17_886 : Index := 17#32
  let c6_887 : Index := 6#32
  let c0_888 : Index := 0#32
  let c0_889 : Index := 0#32
  ![v1809.toNat, 17, 6, 0, 0]
def k0_off1157 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1822 : Index := Scalar.indexCast v1142
  let c18_893 : Index := 18#32
  let c6_894 : Index := 6#32
  let c0_895 : Index := 0#32
  let c0_896 : Index := 0#32
  ![v1822.toNat, 18, 6, 0, 0]
def k0_off1158 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1825 : Index := Scalar.indexCast v1142
  let c19_897 : Index := 19#32
  let c6_898 : Index := 6#32
  let c0_899 : Index := 0#32
  let c0_900 : Index := 0#32
  ![v1825.toNat, 19, 6, 0, 0]
def k0_off1159 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1838 : Index := Scalar.indexCast v1142
  let c20_904 : Index := 20#32
  let c6_905 : Index := 6#32
  let c0_906 : Index := 0#32
  let c0_907 : Index := 0#32
  ![v1838.toNat, 20, 6, 0, 0]
def k0_off1160 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1841 : Index := Scalar.indexCast v1142
  let c21_908 : Index := 21#32
  let c6_909 : Index := 6#32
  let c0_910 : Index := 0#32
  let c0_911 : Index := 0#32
  ![v1841.toNat, 21, 6, 0, 0]
def k0_off1161 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1854 : Index := Scalar.indexCast v1142
  let c22_915 : Index := 22#32
  let c6_916 : Index := 6#32
  let c0_917 : Index := 0#32
  let c0_918 : Index := 0#32
  ![v1854.toNat, 22, 6, 0, 0]
def k0_off1162 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1857 : Index := Scalar.indexCast v1142
  let c23_919 : Index := 23#32
  let c6_920 : Index := 6#32
  let c0_921 : Index := 0#32
  let c0_922 : Index := 0#32
  ![v1857.toNat, 23, 6, 0, 0]
def k0_off1163 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1870 : Index := Scalar.indexCast v1142
  let c24_926 : Index := 24#32
  let c6_927 : Index := 6#32
  let c0_928 : Index := 0#32
  let c0_929 : Index := 0#32
  ![v1870.toNat, 24, 6, 0, 0]
def k0_off1164 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1873 : Index := Scalar.indexCast v1142
  let c25_930 : Index := 25#32
  let c6_931 : Index := 6#32
  let c0_932 : Index := 0#32
  let c0_933 : Index := 0#32
  ![v1873.toNat, 25, 6, 0, 0]
def k0_off1165 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1886 : Index := Scalar.indexCast v1142
  let c26_937 : Index := 26#32
  let c6_938 : Index := 6#32
  let c0_939 : Index := 0#32
  let c0_940 : Index := 0#32
  ![v1886.toNat, 26, 6, 0, 0]
def k0_off1166 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1889 : Index := Scalar.indexCast v1142
  let c27_941 : Index := 27#32
  let c6_942 : Index := 6#32
  let c0_943 : Index := 0#32
  let c0_944 : Index := 0#32
  ![v1889.toNat, 27, 6, 0, 0]
def k0_off1167 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1902 : Index := Scalar.indexCast v1142
  let c28_948 : Index := 28#32
  let c6_949 : Index := 6#32
  let c0_950 : Index := 0#32
  let c0_951 : Index := 0#32
  ![v1902.toNat, 28, 6, 0, 0]
def k0_off1168 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1905 : Index := Scalar.indexCast v1142
  let c29_952 : Index := 29#32
  let c6_953 : Index := 6#32
  let c0_954 : Index := 0#32
  let c0_955 : Index := 0#32
  ![v1905.toNat, 29, 6, 0, 0]
def k0_off1169 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1918 : Index := Scalar.indexCast v1142
  let c30_959 : Index := 30#32
  let c6_960 : Index := 6#32
  let c0_961 : Index := 0#32
  let c0_962 : Index := 0#32
  ![v1918.toNat, 30, 6, 0, 0]
def k0_off1170 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1921 : Index := Scalar.indexCast v1142
  let c31_963 : Index := 31#32
  let c6_964 : Index := 6#32
  let c0_965 : Index := 0#32
  let c0_966 : Index := 0#32
  ![v1921.toNat, 31, 6, 0, 0]
def k0_off1171 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1939 : Index := Scalar.indexCast v1142
  let c0_978 : Index := 0#32
  let c7_979 : Index := 7#32
  let c0_980 : Index := 0#32
  let c0_981 : Index := 0#32
  ![v1939.toNat, 0, 7, 0, 0]
def k0_off1172 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1942 : Index := Scalar.indexCast v1142
  let c1_982 : Index := 1#32
  let c7_983 : Index := 7#32
  let c0_984 : Index := 0#32
  let c0_985 : Index := 0#32
  ![v1942.toNat, 1, 7, 0, 0]
def k0_off1173 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1955 : Index := Scalar.indexCast v1142
  let c2_989 : Index := 2#32
  let c7_990 : Index := 7#32
  let c0_991 : Index := 0#32
  let c0_992 : Index := 0#32
  ![v1955.toNat, 2, 7, 0, 0]
def k0_off1174 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1958 : Index := Scalar.indexCast v1142
  let c3_993 : Index := 3#32
  let c7_994 : Index := 7#32
  let c0_995 : Index := 0#32
  let c0_996 : Index := 0#32
  ![v1958.toNat, 3, 7, 0, 0]
def k0_off1175 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1971 : Index := Scalar.indexCast v1142
  let c4_1000 : Index := 4#32
  let c7_1001 : Index := 7#32
  let c0_1002 : Index := 0#32
  let c0_1003 : Index := 0#32
  ![v1971.toNat, 4, 7, 0, 0]
def k0_off1176 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1974 : Index := Scalar.indexCast v1142
  let c5_1004 : Index := 5#32
  let c7_1005 : Index := 7#32
  let c0_1006 : Index := 0#32
  let c0_1007 : Index := 0#32
  ![v1974.toNat, 5, 7, 0, 0]
def k0_off1177 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1987 : Index := Scalar.indexCast v1142
  let c6_1011 : Index := 6#32
  let c7_1012 : Index := 7#32
  let c0_1013 : Index := 0#32
  let c0_1014 : Index := 0#32
  ![v1987.toNat, 6, 7, 0, 0]
def k0_off1178 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v1990 : Index := Scalar.indexCast v1142
  let c7_1015 : Index := 7#32
  let c7_1016 : Index := 7#32
  let c0_1017 : Index := 0#32
  let c0_1018 : Index := 0#32
  ![v1990.toNat, 7, 7, 0, 0]
def k0_off1179 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2003 : Index := Scalar.indexCast v1142
  let c8_1022 : Index := 8#32
  let c7_1023 : Index := 7#32
  let c0_1024 : Index := 0#32
  let c0_1025 : Index := 0#32
  ![v2003.toNat, 8, 7, 0, 0]
def k0_off1180 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2006 : Index := Scalar.indexCast v1142
  let c9_1026 : Index := 9#32
  let c7_1027 : Index := 7#32
  let c0_1028 : Index := 0#32
  let c0_1029 : Index := 0#32
  ![v2006.toNat, 9, 7, 0, 0]
def k0_off1181 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2019 : Index := Scalar.indexCast v1142
  let c10_1033 : Index := 10#32
  let c7_1034 : Index := 7#32
  let c0_1035 : Index := 0#32
  let c0_1036 : Index := 0#32
  ![v2019.toNat, 10, 7, 0, 0]
def k0_off1182 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2022 : Index := Scalar.indexCast v1142
  let c11_1037 : Index := 11#32
  let c7_1038 : Index := 7#32
  let c0_1039 : Index := 0#32
  let c0_1040 : Index := 0#32
  ![v2022.toNat, 11, 7, 0, 0]
def k0_off1183 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2035 : Index := Scalar.indexCast v1142
  let c12_1044 : Index := 12#32
  let c7_1045 : Index := 7#32
  let c0_1046 : Index := 0#32
  let c0_1047 : Index := 0#32
  ![v2035.toNat, 12, 7, 0, 0]
def k0_off1184 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2038 : Index := Scalar.indexCast v1142
  let c13_1048 : Index := 13#32
  let c7_1049 : Index := 7#32
  let c0_1050 : Index := 0#32
  let c0_1051 : Index := 0#32
  ![v2038.toNat, 13, 7, 0, 0]
def k0_off1185 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2051 : Index := Scalar.indexCast v1142
  let c14_1055 : Index := 14#32
  let c7_1056 : Index := 7#32
  let c0_1057 : Index := 0#32
  let c0_1058 : Index := 0#32
  ![v2051.toNat, 14, 7, 0, 0]
def k0_off1186 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2054 : Index := Scalar.indexCast v1142
  let c15_1059 : Index := 15#32
  let c7_1060 : Index := 7#32
  let c0_1061 : Index := 0#32
  let c0_1062 : Index := 0#32
  ![v2054.toNat, 15, 7, 0, 0]
def k0_off1187 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2067 : Index := Scalar.indexCast v1142
  let c16_1066 : Index := 16#32
  let c7_1067 : Index := 7#32
  let c0_1068 : Index := 0#32
  let c0_1069 : Index := 0#32
  ![v2067.toNat, 16, 7, 0, 0]
def k0_off1188 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2070 : Index := Scalar.indexCast v1142
  let c17_1070 : Index := 17#32
  let c7_1071 : Index := 7#32
  let c0_1072 : Index := 0#32
  let c0_1073 : Index := 0#32
  ![v2070.toNat, 17, 7, 0, 0]
def k0_off1189 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2083 : Index := Scalar.indexCast v1142
  let c18_1077 : Index := 18#32
  let c7_1078 : Index := 7#32
  let c0_1079 : Index := 0#32
  let c0_1080 : Index := 0#32
  ![v2083.toNat, 18, 7, 0, 0]
def k0_off1190 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2086 : Index := Scalar.indexCast v1142
  let c19_1081 : Index := 19#32
  let c7_1082 : Index := 7#32
  let c0_1083 : Index := 0#32
  let c0_1084 : Index := 0#32
  ![v2086.toNat, 19, 7, 0, 0]
def k0_off1191 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2099 : Index := Scalar.indexCast v1142
  let c20_1088 : Index := 20#32
  let c7_1089 : Index := 7#32
  let c0_1090 : Index := 0#32
  let c0_1091 : Index := 0#32
  ![v2099.toNat, 20, 7, 0, 0]
def k0_off1192 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2102 : Index := Scalar.indexCast v1142
  let c21_1092 : Index := 21#32
  let c7_1093 : Index := 7#32
  let c0_1094 : Index := 0#32
  let c0_1095 : Index := 0#32
  ![v2102.toNat, 21, 7, 0, 0]
def k0_off1193 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2115 : Index := Scalar.indexCast v1142
  let c22_1099 : Index := 22#32
  let c7_1100 : Index := 7#32
  let c0_1101 : Index := 0#32
  let c0_1102 : Index := 0#32
  ![v2115.toNat, 22, 7, 0, 0]
def k0_off1194 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2118 : Index := Scalar.indexCast v1142
  let c23_1103 : Index := 23#32
  let c7_1104 : Index := 7#32
  let c0_1105 : Index := 0#32
  let c0_1106 : Index := 0#32
  ![v2118.toNat, 23, 7, 0, 0]
def k0_off1195 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2131 : Index := Scalar.indexCast v1142
  let c24_1110 : Index := 24#32
  let c7_1111 : Index := 7#32
  let c0_1112 : Index := 0#32
  let c0_1113 : Index := 0#32
  ![v2131.toNat, 24, 7, 0, 0]
def k0_off1196 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2134 : Index := Scalar.indexCast v1142
  let c25_1114 : Index := 25#32
  let c7_1115 : Index := 7#32
  let c0_1116 : Index := 0#32
  let c0_1117 : Index := 0#32
  ![v2134.toNat, 25, 7, 0, 0]
def k0_off1197 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2147 : Index := Scalar.indexCast v1142
  let c26_1121 : Index := 26#32
  let c7_1122 : Index := 7#32
  let c0_1123 : Index := 0#32
  let c0_1124 : Index := 0#32
  ![v2147.toNat, 26, 7, 0, 0]
def k0_off1198 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2150 : Index := Scalar.indexCast v1142
  let c27_1125 : Index := 27#32
  let c7_1126 : Index := 7#32
  let c0_1127 : Index := 0#32
  let c0_1128 : Index := 0#32
  ![v2150.toNat, 27, 7, 0, 0]
def k0_off1199 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2163 : Index := Scalar.indexCast v1142
  let c28_1132 : Index := 28#32
  let c7_1133 : Index := 7#32
  let c0_1134 : Index := 0#32
  let c0_1135 : Index := 0#32
  ![v2163.toNat, 28, 7, 0, 0]
def k0_off1200 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2166 : Index := Scalar.indexCast v1142
  let c29_1136 : Index := 29#32
  let c7_1137 : Index := 7#32
  let c0_1138 : Index := 0#32
  let c0_1139 : Index := 0#32
  ![v2166.toNat, 29, 7, 0, 0]
def k0_off1201 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2179 : Index := Scalar.indexCast v1142
  let c30_1143 : Index := 30#32
  let c7_1144 : Index := 7#32
  let c0_1145 : Index := 0#32
  let c0_1146 : Index := 0#32
  ![v2179.toNat, 30, 7, 0, 0]
def k0_off1202 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_438 : BitVec 32 := 2#32
  let c0_i32_439 : BitVec 32 := 0#32
  let v1133 : BitVec 1 := Scalar.cmpi .eq c2_i32_438 c0_i32_439
  let c1_i32_440 : BitVec 32 := 1#32
  let v1134 : BitVec 32 := Scalar.select v1133 c1_i32_440 c2_i32_438
  let v1135 : BitVec 32 := Scalar.remsi v3 v1134
  let c0_i32_442 : BitVec 32 := 0#32
  let v1137 : BitVec 1 := Scalar.cmpi .slt v1135 c0_i32_442
  let c0_i32_443 : BitVec 32 := 0#32
  let v1138 : BitVec 1 := Scalar.cmpi .slt v1134 c0_i32_443
  let v1139 : BitVec 1 := Scalar.xori v1137 v1138
  let c0_i32_441 : BitVec 32 := 0#32
  let v1136 : BitVec 1 := Scalar.cmpi .ne v1135 c0_i32_441
  let v1140 : BitVec 1 := Scalar.andi v1139 v1136
  let v1141 : BitVec 32 := Scalar.addi v1135 v1134
  let v1142 : BitVec 32 := Scalar.select v1140 v1141 v1135
  let v2182 : Index := Scalar.indexCast v1142
  let c31_1147 : Index := 31#32
  let c7_1148 : Index := 7#32
  let c0_1149 : Index := 0#32
  let c0_1150 : Index := 0#32
  ![v2182.toNat, 31, 7, 0, 0]
def k0_mult16 (i : grid0.Coords) : BitVec 32 :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1158 : BitVec 32 := 1024#32
  let v2198 : BitVec 32 := Scalar.muli v840 c1024_i32_1158
  v2198
def k0_off1203 (i : grid0.Coords) : Fin 3 → Nat :=
  let c0_1159 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1158 : BitVec 32 := 1024#32
  let v2198 : BitVec 32 := Scalar.muli v840 c1024_i32_1158
  let v2199 : BitVec 32 := v2198
  let v2200 : Index := Scalar.indexCast v2199
  let c0_1160 : Index := 0#32
  ![0, v2200.toNat, 0]
def k0_off1204 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2206 : Index := Scalar.indexCast v840
  let c0_1161 : Index := 0#32
  let c0_1162 : Index := 0#32
  let c0_1163 : Index := 0#32
  ![v2206.toNat, 0, 0, 0]
def k0_off1205 (i : grid0.Coords) : Fin 3 → Nat :=
  let c1_1165 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1158 : BitVec 32 := 1024#32
  let v2198 : BitVec 32 := Scalar.muli v840 c1024_i32_1158
  let v2199 : BitVec 32 := v2198
  let v2212 : Index := Scalar.indexCast v2199
  let c0_1166 : Index := 0#32
  ![1, v2212.toNat, 0]
def k0_off1206 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2218 : Index := Scalar.indexCast v840
  let c1_1167 : Index := 1#32
  let c0_1168 : Index := 0#32
  let c0_1169 : Index := 0#32
  ![v2218.toNat, 1, 0, 0]
def k0_off1207 (i : grid0.Coords) : Fin 3 → Nat :=
  let c2_1171 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1158 : BitVec 32 := 1024#32
  let v2198 : BitVec 32 := Scalar.muli v840 c1024_i32_1158
  let v2199 : BitVec 32 := v2198
  let v2224 : Index := Scalar.indexCast v2199
  let c0_1172 : Index := 0#32
  ![2, v2224.toNat, 0]
def k0_off1208 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2230 : Index := Scalar.indexCast v840
  let c2_1173 : Index := 2#32
  let c0_1174 : Index := 0#32
  let c0_1175 : Index := 0#32
  ![v2230.toNat, 2, 0, 0]
def k0_off1209 (i : grid0.Coords) : Fin 3 → Nat :=
  let c3_1177 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1158 : BitVec 32 := 1024#32
  let v2198 : BitVec 32 := Scalar.muli v840 c1024_i32_1158
  let v2199 : BitVec 32 := v2198
  let v2236 : Index := Scalar.indexCast v2199
  let c0_1178 : Index := 0#32
  ![3, v2236.toNat, 0]
def k0_off1210 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2242 : Index := Scalar.indexCast v840
  let c3_1179 : Index := 3#32
  let c0_1180 : Index := 0#32
  let c0_1181 : Index := 0#32
  ![v2242.toNat, 3, 0, 0]
def k0_off1211 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1153 : Index := Scalar.indexCast v1139
  let c0_451 : Index := 0#32
  let c4_452 : Index := 4#32
  let c0_453 : Index := 0#32
  let c0_454 : Index := 0#32
  ![v1153.toNat, 0, 4, 0, 0]
def k0_off1212 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1156 : Index := Scalar.indexCast v1139
  let c1_455 : Index := 1#32
  let c4_456 : Index := 4#32
  let c0_457 : Index := 0#32
  let c0_458 : Index := 0#32
  ![v1156.toNat, 1, 4, 0, 0]
def k0_off1213 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1169 : Index := Scalar.indexCast v1139
  let c2_462 : Index := 2#32
  let c4_463 : Index := 4#32
  let c0_464 : Index := 0#32
  let c0_465 : Index := 0#32
  ![v1169.toNat, 2, 4, 0, 0]
def k0_off1214 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1172 : Index := Scalar.indexCast v1139
  let c3_466 : Index := 3#32
  let c4_467 : Index := 4#32
  let c0_468 : Index := 0#32
  let c0_469 : Index := 0#32
  ![v1172.toNat, 3, 4, 0, 0]
def k0_off1215 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1185 : Index := Scalar.indexCast v1139
  let c4_473 : Index := 4#32
  let c4_474 : Index := 4#32
  let c0_475 : Index := 0#32
  let c0_476 : Index := 0#32
  ![v1185.toNat, 4, 4, 0, 0]
def k0_off1216 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1188 : Index := Scalar.indexCast v1139
  let c5 : Index := 5#32
  let c4_477 : Index := 4#32
  let c0_478 : Index := 0#32
  let c0_479 : Index := 0#32
  ![v1188.toNat, 5, 4, 0, 0]
def k0_off1217 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1201 : Index := Scalar.indexCast v1139
  let c6 : Index := 6#32
  let c4_483 : Index := 4#32
  let c0_484 : Index := 0#32
  let c0_485 : Index := 0#32
  ![v1201.toNat, 6, 4, 0, 0]
def k0_off1218 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1204 : Index := Scalar.indexCast v1139
  let c7 : Index := 7#32
  let c4_486 : Index := 4#32
  let c0_487 : Index := 0#32
  let c0_488 : Index := 0#32
  ![v1204.toNat, 7, 4, 0, 0]
def k0_off1219 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1217 : Index := Scalar.indexCast v1139
  let c8 : Index := 8#32
  let c4_492 : Index := 4#32
  let c0_493 : Index := 0#32
  let c0_494 : Index := 0#32
  ![v1217.toNat, 8, 4, 0, 0]
def k0_off1220 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1220 : Index := Scalar.indexCast v1139
  let c9 : Index := 9#32
  let c4_495 : Index := 4#32
  let c0_496 : Index := 0#32
  let c0_497 : Index := 0#32
  ![v1220.toNat, 9, 4, 0, 0]
def k0_off1221 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1233 : Index := Scalar.indexCast v1139
  let c10 : Index := 10#32
  let c4_501 : Index := 4#32
  let c0_502 : Index := 0#32
  let c0_503 : Index := 0#32
  ![v1233.toNat, 10, 4, 0, 0]
def k0_off1222 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1236 : Index := Scalar.indexCast v1139
  let c11 : Index := 11#32
  let c4_504 : Index := 4#32
  let c0_505 : Index := 0#32
  let c0_506 : Index := 0#32
  ![v1236.toNat, 11, 4, 0, 0]
def k0_off1223 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1249 : Index := Scalar.indexCast v1139
  let c12 : Index := 12#32
  let c4_510 : Index := 4#32
  let c0_511 : Index := 0#32
  let c0_512 : Index := 0#32
  ![v1249.toNat, 12, 4, 0, 0]
def k0_off1224 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1252 : Index := Scalar.indexCast v1139
  let c13 : Index := 13#32
  let c4_513 : Index := 4#32
  let c0_514 : Index := 0#32
  let c0_515 : Index := 0#32
  ![v1252.toNat, 13, 4, 0, 0]
def k0_off1225 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1265 : Index := Scalar.indexCast v1139
  let c14 : Index := 14#32
  let c4_519 : Index := 4#32
  let c0_520 : Index := 0#32
  let c0_521 : Index := 0#32
  ![v1265.toNat, 14, 4, 0, 0]
def k0_off1226 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1268 : Index := Scalar.indexCast v1139
  let c15 : Index := 15#32
  let c4_522 : Index := 4#32
  let c0_523 : Index := 0#32
  let c0_524 : Index := 0#32
  ![v1268.toNat, 15, 4, 0, 0]
def k0_off1227 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1281 : Index := Scalar.indexCast v1139
  let c16 : Index := 16#32
  let c4_528 : Index := 4#32
  let c0_529 : Index := 0#32
  let c0_530 : Index := 0#32
  ![v1281.toNat, 16, 4, 0, 0]
def k0_off1228 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1284 : Index := Scalar.indexCast v1139
  let c17 : Index := 17#32
  let c4_531 : Index := 4#32
  let c0_532 : Index := 0#32
  let c0_533 : Index := 0#32
  ![v1284.toNat, 17, 4, 0, 0]
def k0_off1229 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1297 : Index := Scalar.indexCast v1139
  let c18 : Index := 18#32
  let c4_537 : Index := 4#32
  let c0_538 : Index := 0#32
  let c0_539 : Index := 0#32
  ![v1297.toNat, 18, 4, 0, 0]
def k0_off1230 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1300 : Index := Scalar.indexCast v1139
  let c19 : Index := 19#32
  let c4_540 : Index := 4#32
  let c0_541 : Index := 0#32
  let c0_542 : Index := 0#32
  ![v1300.toNat, 19, 4, 0, 0]
def k0_off1231 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1313 : Index := Scalar.indexCast v1139
  let c20 : Index := 20#32
  let c4_546 : Index := 4#32
  let c0_547 : Index := 0#32
  let c0_548 : Index := 0#32
  ![v1313.toNat, 20, 4, 0, 0]
def k0_off1232 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1316 : Index := Scalar.indexCast v1139
  let c21 : Index := 21#32
  let c4_549 : Index := 4#32
  let c0_550 : Index := 0#32
  let c0_551 : Index := 0#32
  ![v1316.toNat, 21, 4, 0, 0]
def k0_off1233 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1329 : Index := Scalar.indexCast v1139
  let c22 : Index := 22#32
  let c4_555 : Index := 4#32
  let c0_556 : Index := 0#32
  let c0_557 : Index := 0#32
  ![v1329.toNat, 22, 4, 0, 0]
def k0_off1234 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1332 : Index := Scalar.indexCast v1139
  let c23 : Index := 23#32
  let c4_558 : Index := 4#32
  let c0_559 : Index := 0#32
  let c0_560 : Index := 0#32
  ![v1332.toNat, 23, 4, 0, 0]
def k0_off1235 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1345 : Index := Scalar.indexCast v1139
  let c24 : Index := 24#32
  let c4_564 : Index := 4#32
  let c0_565 : Index := 0#32
  let c0_566 : Index := 0#32
  ![v1345.toNat, 24, 4, 0, 0]
def k0_off1236 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1348 : Index := Scalar.indexCast v1139
  let c25 : Index := 25#32
  let c4_567 : Index := 4#32
  let c0_568 : Index := 0#32
  let c0_569 : Index := 0#32
  ![v1348.toNat, 25, 4, 0, 0]
def k0_off1237 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1361 : Index := Scalar.indexCast v1139
  let c26 : Index := 26#32
  let c4_573 : Index := 4#32
  let c0_574 : Index := 0#32
  let c0_575 : Index := 0#32
  ![v1361.toNat, 26, 4, 0, 0]
def k0_off1238 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1364 : Index := Scalar.indexCast v1139
  let c27 : Index := 27#32
  let c4_576 : Index := 4#32
  let c0_577 : Index := 0#32
  let c0_578 : Index := 0#32
  ![v1364.toNat, 27, 4, 0, 0]
def k0_off1239 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1377 : Index := Scalar.indexCast v1139
  let c28 : Index := 28#32
  let c4_582 : Index := 4#32
  let c0_583 : Index := 0#32
  let c0_584 : Index := 0#32
  ![v1377.toNat, 28, 4, 0, 0]
def k0_off1240 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1380 : Index := Scalar.indexCast v1139
  let c29 : Index := 29#32
  let c4_585 : Index := 4#32
  let c0_586 : Index := 0#32
  let c0_587 : Index := 0#32
  ![v1380.toNat, 29, 4, 0, 0]
def k0_off1241 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1393 : Index := Scalar.indexCast v1139
  let c30 : Index := 30#32
  let c4_591 : Index := 4#32
  let c0_592 : Index := 0#32
  let c0_593 : Index := 0#32
  ![v1393.toNat, 30, 4, 0, 0]

variable {F : FTy → Type} [FloatOps F]

def k0_off1242 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1396 : Index := Scalar.indexCast v1139
  let c31 : Index := 31#32
  let c4_594 : Index := 4#32
  let c0_595 : Index := 0#32
  let c0_596 : Index := 0#32
  ![v1396.toNat, 31, 4, 0, 0]
def k0_off1243 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1414 : Index := Scalar.indexCast v1139
  let c0_608 : Index := 0#32
  let c5_609 : Index := 5#32
  let c0_610 : Index := 0#32
  let c0_611 : Index := 0#32
  ![v1414.toNat, 0, 5, 0, 0]
def k0_off1244 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1417 : Index := Scalar.indexCast v1139
  let c1_612 : Index := 1#32
  let c5_613 : Index := 5#32
  let c0_614 : Index := 0#32
  let c0_615 : Index := 0#32
  ![v1417.toNat, 1, 5, 0, 0]
def k0_off1245 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1430 : Index := Scalar.indexCast v1139
  let c2_619 : Index := 2#32
  let c5_620 : Index := 5#32
  let c0_621 : Index := 0#32
  let c0_622 : Index := 0#32
  ![v1430.toNat, 2, 5, 0, 0]
def k0_off1246 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1433 : Index := Scalar.indexCast v1139
  let c3_623 : Index := 3#32
  let c5_624 : Index := 5#32
  let c0_625 : Index := 0#32
  let c0_626 : Index := 0#32
  ![v1433.toNat, 3, 5, 0, 0]
def k0_off1247 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1446 : Index := Scalar.indexCast v1139
  let c4_630 : Index := 4#32
  let c5_631 : Index := 5#32
  let c0_632 : Index := 0#32
  let c0_633 : Index := 0#32
  ![v1446.toNat, 4, 5, 0, 0]
def k0_off1248 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1449 : Index := Scalar.indexCast v1139
  let c5_634 : Index := 5#32
  let c5_635 : Index := 5#32
  let c0_636 : Index := 0#32
  let c0_637 : Index := 0#32
  ![v1449.toNat, 5, 5, 0, 0]
def k0_off1249 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1462 : Index := Scalar.indexCast v1139
  let c6_641 : Index := 6#32
  let c5_642 : Index := 5#32
  let c0_643 : Index := 0#32
  let c0_644 : Index := 0#32
  ![v1462.toNat, 6, 5, 0, 0]
def k0_off1250 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1465 : Index := Scalar.indexCast v1139
  let c7_645 : Index := 7#32
  let c5_646 : Index := 5#32
  let c0_647 : Index := 0#32
  let c0_648 : Index := 0#32
  ![v1465.toNat, 7, 5, 0, 0]
def k0_off1251 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1478 : Index := Scalar.indexCast v1139
  let c8_652 : Index := 8#32
  let c5_653 : Index := 5#32
  let c0_654 : Index := 0#32
  let c0_655 : Index := 0#32
  ![v1478.toNat, 8, 5, 0, 0]
def k0_off1252 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1481 : Index := Scalar.indexCast v1139
  let c9_656 : Index := 9#32
  let c5_657 : Index := 5#32
  let c0_658 : Index := 0#32
  let c0_659 : Index := 0#32
  ![v1481.toNat, 9, 5, 0, 0]
def k0_off1253 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1494 : Index := Scalar.indexCast v1139
  let c10_663 : Index := 10#32
  let c5_664 : Index := 5#32
  let c0_665 : Index := 0#32
  let c0_666 : Index := 0#32
  ![v1494.toNat, 10, 5, 0, 0]
def k0_off1254 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1497 : Index := Scalar.indexCast v1139
  let c11_667 : Index := 11#32
  let c5_668 : Index := 5#32
  let c0_669 : Index := 0#32
  let c0_670 : Index := 0#32
  ![v1497.toNat, 11, 5, 0, 0]
def k0_off1255 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1510 : Index := Scalar.indexCast v1139
  let c12_674 : Index := 12#32
  let c5_675 : Index := 5#32
  let c0_676 : Index := 0#32
  let c0_677 : Index := 0#32
  ![v1510.toNat, 12, 5, 0, 0]
def k0_off1256 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1513 : Index := Scalar.indexCast v1139
  let c13_678 : Index := 13#32
  let c5_679 : Index := 5#32
  let c0_680 : Index := 0#32
  let c0_681 : Index := 0#32
  ![v1513.toNat, 13, 5, 0, 0]
def k0_off1257 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1526 : Index := Scalar.indexCast v1139
  let c14_685 : Index := 14#32
  let c5_686 : Index := 5#32
  let c0_687 : Index := 0#32
  let c0_688 : Index := 0#32
  ![v1526.toNat, 14, 5, 0, 0]
def k0_off1258 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1529 : Index := Scalar.indexCast v1139
  let c15_689 : Index := 15#32
  let c5_690 : Index := 5#32
  let c0_691 : Index := 0#32
  let c0_692 : Index := 0#32
  ![v1529.toNat, 15, 5, 0, 0]
def k0_off1259 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1542 : Index := Scalar.indexCast v1139
  let c16_696 : Index := 16#32
  let c5_697 : Index := 5#32
  let c0_698 : Index := 0#32
  let c0_699 : Index := 0#32
  ![v1542.toNat, 16, 5, 0, 0]
def k0_off1260 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1545 : Index := Scalar.indexCast v1139
  let c17_700 : Index := 17#32
  let c5_701 : Index := 5#32
  let c0_702 : Index := 0#32
  let c0_703 : Index := 0#32
  ![v1545.toNat, 17, 5, 0, 0]
def k0_off1261 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1558 : Index := Scalar.indexCast v1139
  let c18_707 : Index := 18#32
  let c5_708 : Index := 5#32
  let c0_709 : Index := 0#32
  let c0_710 : Index := 0#32
  ![v1558.toNat, 18, 5, 0, 0]
def k0_off1262 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1561 : Index := Scalar.indexCast v1139
  let c19_711 : Index := 19#32
  let c5_712 : Index := 5#32
  let c0_713 : Index := 0#32
  let c0_714 : Index := 0#32
  ![v1561.toNat, 19, 5, 0, 0]
def k0_off1263 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1574 : Index := Scalar.indexCast v1139
  let c20_718 : Index := 20#32
  let c5_719 : Index := 5#32
  let c0_720 : Index := 0#32
  let c0_721 : Index := 0#32
  ![v1574.toNat, 20, 5, 0, 0]
def k0_off1264 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1577 : Index := Scalar.indexCast v1139
  let c21_722 : Index := 21#32
  let c5_723 : Index := 5#32
  let c0_724 : Index := 0#32
  let c0_725 : Index := 0#32
  ![v1577.toNat, 21, 5, 0, 0]
def k0_off1265 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1590 : Index := Scalar.indexCast v1139
  let c22_729 : Index := 22#32
  let c5_730 : Index := 5#32
  let c0_731 : Index := 0#32
  let c0_732 : Index := 0#32
  ![v1590.toNat, 22, 5, 0, 0]
def k0_off1266 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1593 : Index := Scalar.indexCast v1139
  let c23_733 : Index := 23#32
  let c5_734 : Index := 5#32
  let c0_735 : Index := 0#32
  let c0_736 : Index := 0#32
  ![v1593.toNat, 23, 5, 0, 0]
def k0_off1267 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1606 : Index := Scalar.indexCast v1139
  let c24_740 : Index := 24#32
  let c5_741 : Index := 5#32
  let c0_742 : Index := 0#32
  let c0_743 : Index := 0#32
  ![v1606.toNat, 24, 5, 0, 0]
def k0_off1268 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1609 : Index := Scalar.indexCast v1139
  let c25_744 : Index := 25#32
  let c5_745 : Index := 5#32
  let c0_746 : Index := 0#32
  let c0_747 : Index := 0#32
  ![v1609.toNat, 25, 5, 0, 0]
def k0_off1269 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1622 : Index := Scalar.indexCast v1139
  let c26_751 : Index := 26#32
  let c5_752 : Index := 5#32
  let c0_753 : Index := 0#32
  let c0_754 : Index := 0#32
  ![v1622.toNat, 26, 5, 0, 0]
def k0_off1270 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1625 : Index := Scalar.indexCast v1139
  let c27_755 : Index := 27#32
  let c5_756 : Index := 5#32
  let c0_757 : Index := 0#32
  let c0_758 : Index := 0#32
  ![v1625.toNat, 27, 5, 0, 0]
def k0_off1271 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1638 : Index := Scalar.indexCast v1139
  let c28_762 : Index := 28#32
  let c5_763 : Index := 5#32
  let c0_764 : Index := 0#32
  let c0_765 : Index := 0#32
  ![v1638.toNat, 28, 5, 0, 0]
def k0_off1272 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1641 : Index := Scalar.indexCast v1139
  let c29_766 : Index := 29#32
  let c5_767 : Index := 5#32
  let c0_768 : Index := 0#32
  let c0_769 : Index := 0#32
  ![v1641.toNat, 29, 5, 0, 0]
def k0_off1273 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1654 : Index := Scalar.indexCast v1139
  let c30_773 : Index := 30#32
  let c5_774 : Index := 5#32
  let c0_775 : Index := 0#32
  let c0_776 : Index := 0#32
  ![v1654.toNat, 30, 5, 0, 0]
def k0_off1274 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1657 : Index := Scalar.indexCast v1139
  let c31_777 : Index := 31#32
  let c5_778 : Index := 5#32
  let c0_779 : Index := 0#32
  let c0_780 : Index := 0#32
  ![v1657.toNat, 31, 5, 0, 0]
def k0_off1275 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1675 : Index := Scalar.indexCast v1139
  let c0_792 : Index := 0#32
  let c6_793 : Index := 6#32
  let c0_794 : Index := 0#32
  let c0_795 : Index := 0#32
  ![v1675.toNat, 0, 6, 0, 0]
def k0_off1276 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1678 : Index := Scalar.indexCast v1139
  let c1_796 : Index := 1#32
  let c6_797 : Index := 6#32
  let c0_798 : Index := 0#32
  let c0_799 : Index := 0#32
  ![v1678.toNat, 1, 6, 0, 0]
def k0_off1277 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1691 : Index := Scalar.indexCast v1139
  let c2_803 : Index := 2#32
  let c6_804 : Index := 6#32
  let c0_805 : Index := 0#32
  let c0_806 : Index := 0#32
  ![v1691.toNat, 2, 6, 0, 0]
def k0_off1278 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1694 : Index := Scalar.indexCast v1139
  let c3_807 : Index := 3#32
  let c6_808 : Index := 6#32
  let c0_809 : Index := 0#32
  let c0_810 : Index := 0#32
  ![v1694.toNat, 3, 6, 0, 0]
def k0_off1279 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1707 : Index := Scalar.indexCast v1139
  let c4_814 : Index := 4#32
  let c6_815 : Index := 6#32
  let c0_816 : Index := 0#32
  let c0_817 : Index := 0#32
  ![v1707.toNat, 4, 6, 0, 0]
def k0_off1280 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1710 : Index := Scalar.indexCast v1139
  let c5_818 : Index := 5#32
  let c6_819 : Index := 6#32
  let c0_820 : Index := 0#32
  let c0_821 : Index := 0#32
  ![v1710.toNat, 5, 6, 0, 0]
def k0_off1281 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1723 : Index := Scalar.indexCast v1139
  let c6_825 : Index := 6#32
  let c6_826 : Index := 6#32
  let c0_827 : Index := 0#32
  let c0_828 : Index := 0#32
  ![v1723.toNat, 6, 6, 0, 0]
def k0_off1282 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1726 : Index := Scalar.indexCast v1139
  let c7_829 : Index := 7#32
  let c6_830 : Index := 6#32
  let c0_831 : Index := 0#32
  let c0_832 : Index := 0#32
  ![v1726.toNat, 7, 6, 0, 0]
def k0_off1283 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1739 : Index := Scalar.indexCast v1139
  let c8_836 : Index := 8#32
  let c6_837 : Index := 6#32
  let c0_838 : Index := 0#32
  let c0_839 : Index := 0#32
  ![v1739.toNat, 8, 6, 0, 0]
def k0_off1284 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1742 : Index := Scalar.indexCast v1139
  let c9_840 : Index := 9#32
  let c6_841 : Index := 6#32
  let c0_842 : Index := 0#32
  let c0_843 : Index := 0#32
  ![v1742.toNat, 9, 6, 0, 0]
def k0_off1285 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1755 : Index := Scalar.indexCast v1139
  let c10_847 : Index := 10#32
  let c6_848 : Index := 6#32
  let c0_849 : Index := 0#32
  let c0_850 : Index := 0#32
  ![v1755.toNat, 10, 6, 0, 0]
def k0_off1286 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1758 : Index := Scalar.indexCast v1139
  let c11_851 : Index := 11#32
  let c6_852 : Index := 6#32
  let c0_853 : Index := 0#32
  let c0_854 : Index := 0#32
  ![v1758.toNat, 11, 6, 0, 0]
def k0_off1287 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1771 : Index := Scalar.indexCast v1139
  let c12_858 : Index := 12#32
  let c6_859 : Index := 6#32
  let c0_860 : Index := 0#32
  let c0_861 : Index := 0#32
  ![v1771.toNat, 12, 6, 0, 0]
def k0_off1288 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1774 : Index := Scalar.indexCast v1139
  let c13_862 : Index := 13#32
  let c6_863 : Index := 6#32
  let c0_864 : Index := 0#32
  let c0_865 : Index := 0#32
  ![v1774.toNat, 13, 6, 0, 0]
def k0_off1289 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1787 : Index := Scalar.indexCast v1139
  let c14_869 : Index := 14#32
  let c6_870 : Index := 6#32
  let c0_871 : Index := 0#32
  let c0_872 : Index := 0#32
  ![v1787.toNat, 14, 6, 0, 0]
def k0_off1290 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1790 : Index := Scalar.indexCast v1139
  let c15_873 : Index := 15#32
  let c6_874 : Index := 6#32
  let c0_875 : Index := 0#32
  let c0_876 : Index := 0#32
  ![v1790.toNat, 15, 6, 0, 0]
def k0_off1291 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1803 : Index := Scalar.indexCast v1139
  let c16_880 : Index := 16#32
  let c6_881 : Index := 6#32
  let c0_882 : Index := 0#32
  let c0_883 : Index := 0#32
  ![v1803.toNat, 16, 6, 0, 0]
def k0_off1292 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1806 : Index := Scalar.indexCast v1139
  let c17_884 : Index := 17#32
  let c6_885 : Index := 6#32
  let c0_886 : Index := 0#32
  let c0_887 : Index := 0#32
  ![v1806.toNat, 17, 6, 0, 0]
def k0_off1293 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1819 : Index := Scalar.indexCast v1139
  let c18_891 : Index := 18#32
  let c6_892 : Index := 6#32
  let c0_893 : Index := 0#32
  let c0_894 : Index := 0#32
  ![v1819.toNat, 18, 6, 0, 0]
def k0_off1294 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1822 : Index := Scalar.indexCast v1139
  let c19_895 : Index := 19#32
  let c6_896 : Index := 6#32
  let c0_897 : Index := 0#32
  let c0_898 : Index := 0#32
  ![v1822.toNat, 19, 6, 0, 0]
def k0_off1295 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1835 : Index := Scalar.indexCast v1139
  let c20_902 : Index := 20#32
  let c6_903 : Index := 6#32
  let c0_904 : Index := 0#32
  let c0_905 : Index := 0#32
  ![v1835.toNat, 20, 6, 0, 0]
def k0_off1296 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1838 : Index := Scalar.indexCast v1139
  let c21_906 : Index := 21#32
  let c6_907 : Index := 6#32
  let c0_908 : Index := 0#32
  let c0_909 : Index := 0#32
  ![v1838.toNat, 21, 6, 0, 0]
def k0_off1297 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1851 : Index := Scalar.indexCast v1139
  let c22_913 : Index := 22#32
  let c6_914 : Index := 6#32
  let c0_915 : Index := 0#32
  let c0_916 : Index := 0#32
  ![v1851.toNat, 22, 6, 0, 0]
def k0_off1298 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1854 : Index := Scalar.indexCast v1139
  let c23_917 : Index := 23#32
  let c6_918 : Index := 6#32
  let c0_919 : Index := 0#32
  let c0_920 : Index := 0#32
  ![v1854.toNat, 23, 6, 0, 0]
def k0_off1299 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1867 : Index := Scalar.indexCast v1139
  let c24_924 : Index := 24#32
  let c6_925 : Index := 6#32
  let c0_926 : Index := 0#32
  let c0_927 : Index := 0#32
  ![v1867.toNat, 24, 6, 0, 0]
def k0_off1300 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1870 : Index := Scalar.indexCast v1139
  let c25_928 : Index := 25#32
  let c6_929 : Index := 6#32
  let c0_930 : Index := 0#32
  let c0_931 : Index := 0#32
  ![v1870.toNat, 25, 6, 0, 0]
def k0_off1301 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1883 : Index := Scalar.indexCast v1139
  let c26_935 : Index := 26#32
  let c6_936 : Index := 6#32
  let c0_937 : Index := 0#32
  let c0_938 : Index := 0#32
  ![v1883.toNat, 26, 6, 0, 0]
def k0_off1302 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1886 : Index := Scalar.indexCast v1139
  let c27_939 : Index := 27#32
  let c6_940 : Index := 6#32
  let c0_941 : Index := 0#32
  let c0_942 : Index := 0#32
  ![v1886.toNat, 27, 6, 0, 0]
def k0_off1303 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1899 : Index := Scalar.indexCast v1139
  let c28_946 : Index := 28#32
  let c6_947 : Index := 6#32
  let c0_948 : Index := 0#32
  let c0_949 : Index := 0#32
  ![v1899.toNat, 28, 6, 0, 0]
def k0_off1304 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1902 : Index := Scalar.indexCast v1139
  let c29_950 : Index := 29#32
  let c6_951 : Index := 6#32
  let c0_952 : Index := 0#32
  let c0_953 : Index := 0#32
  ![v1902.toNat, 29, 6, 0, 0]
def k0_off1305 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1915 : Index := Scalar.indexCast v1139
  let c30_957 : Index := 30#32
  let c6_958 : Index := 6#32
  let c0_959 : Index := 0#32
  let c0_960 : Index := 0#32
  ![v1915.toNat, 30, 6, 0, 0]
def k0_off1306 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1918 : Index := Scalar.indexCast v1139
  let c31_961 : Index := 31#32
  let c6_962 : Index := 6#32
  let c0_963 : Index := 0#32
  let c0_964 : Index := 0#32
  ![v1918.toNat, 31, 6, 0, 0]
def k0_off1307 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1936 : Index := Scalar.indexCast v1139
  let c0_976 : Index := 0#32
  let c7_977 : Index := 7#32
  let c0_978 : Index := 0#32
  let c0_979 : Index := 0#32
  ![v1936.toNat, 0, 7, 0, 0]
def k0_off1308 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1939 : Index := Scalar.indexCast v1139
  let c1_980 : Index := 1#32
  let c7_981 : Index := 7#32
  let c0_982 : Index := 0#32
  let c0_983 : Index := 0#32
  ![v1939.toNat, 1, 7, 0, 0]
def k0_off1309 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1952 : Index := Scalar.indexCast v1139
  let c2_987 : Index := 2#32
  let c7_988 : Index := 7#32
  let c0_989 : Index := 0#32
  let c0_990 : Index := 0#32
  ![v1952.toNat, 2, 7, 0, 0]
def k0_off1310 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1955 : Index := Scalar.indexCast v1139
  let c3_991 : Index := 3#32
  let c7_992 : Index := 7#32
  let c0_993 : Index := 0#32
  let c0_994 : Index := 0#32
  ![v1955.toNat, 3, 7, 0, 0]
def k0_off1311 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1968 : Index := Scalar.indexCast v1139
  let c4_998 : Index := 4#32
  let c7_999 : Index := 7#32
  let c0_1000 : Index := 0#32
  let c0_1001 : Index := 0#32
  ![v1968.toNat, 4, 7, 0, 0]
def k0_off1312 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1971 : Index := Scalar.indexCast v1139
  let c5_1002 : Index := 5#32
  let c7_1003 : Index := 7#32
  let c0_1004 : Index := 0#32
  let c0_1005 : Index := 0#32
  ![v1971.toNat, 5, 7, 0, 0]
def k0_off1313 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1984 : Index := Scalar.indexCast v1139
  let c6_1009 : Index := 6#32
  let c7_1010 : Index := 7#32
  let c0_1011 : Index := 0#32
  let c0_1012 : Index := 0#32
  ![v1984.toNat, 6, 7, 0, 0]
def k0_off1314 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v1987 : Index := Scalar.indexCast v1139
  let c7_1013 : Index := 7#32
  let c7_1014 : Index := 7#32
  let c0_1015 : Index := 0#32
  let c0_1016 : Index := 0#32
  ![v1987.toNat, 7, 7, 0, 0]
def k0_off1315 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2000 : Index := Scalar.indexCast v1139
  let c8_1020 : Index := 8#32
  let c7_1021 : Index := 7#32
  let c0_1022 : Index := 0#32
  let c0_1023 : Index := 0#32
  ![v2000.toNat, 8, 7, 0, 0]
def k0_off1316 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2003 : Index := Scalar.indexCast v1139
  let c9_1024 : Index := 9#32
  let c7_1025 : Index := 7#32
  let c0_1026 : Index := 0#32
  let c0_1027 : Index := 0#32
  ![v2003.toNat, 9, 7, 0, 0]
def k0_off1317 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2016 : Index := Scalar.indexCast v1139
  let c10_1031 : Index := 10#32
  let c7_1032 : Index := 7#32
  let c0_1033 : Index := 0#32
  let c0_1034 : Index := 0#32
  ![v2016.toNat, 10, 7, 0, 0]
def k0_off1318 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2019 : Index := Scalar.indexCast v1139
  let c11_1035 : Index := 11#32
  let c7_1036 : Index := 7#32
  let c0_1037 : Index := 0#32
  let c0_1038 : Index := 0#32
  ![v2019.toNat, 11, 7, 0, 0]
def k0_off1319 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2032 : Index := Scalar.indexCast v1139
  let c12_1042 : Index := 12#32
  let c7_1043 : Index := 7#32
  let c0_1044 : Index := 0#32
  let c0_1045 : Index := 0#32
  ![v2032.toNat, 12, 7, 0, 0]
def k0_off1320 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2035 : Index := Scalar.indexCast v1139
  let c13_1046 : Index := 13#32
  let c7_1047 : Index := 7#32
  let c0_1048 : Index := 0#32
  let c0_1049 : Index := 0#32
  ![v2035.toNat, 13, 7, 0, 0]
def k0_off1321 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2048 : Index := Scalar.indexCast v1139
  let c14_1053 : Index := 14#32
  let c7_1054 : Index := 7#32
  let c0_1055 : Index := 0#32
  let c0_1056 : Index := 0#32
  ![v2048.toNat, 14, 7, 0, 0]
def k0_off1322 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2051 : Index := Scalar.indexCast v1139
  let c15_1057 : Index := 15#32
  let c7_1058 : Index := 7#32
  let c0_1059 : Index := 0#32
  let c0_1060 : Index := 0#32
  ![v2051.toNat, 15, 7, 0, 0]
def k0_off1323 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2064 : Index := Scalar.indexCast v1139
  let c16_1064 : Index := 16#32
  let c7_1065 : Index := 7#32
  let c0_1066 : Index := 0#32
  let c0_1067 : Index := 0#32
  ![v2064.toNat, 16, 7, 0, 0]
def k0_off1324 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2067 : Index := Scalar.indexCast v1139
  let c17_1068 : Index := 17#32
  let c7_1069 : Index := 7#32
  let c0_1070 : Index := 0#32
  let c0_1071 : Index := 0#32
  ![v2067.toNat, 17, 7, 0, 0]
def k0_off1325 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2080 : Index := Scalar.indexCast v1139
  let c18_1075 : Index := 18#32
  let c7_1076 : Index := 7#32
  let c0_1077 : Index := 0#32
  let c0_1078 : Index := 0#32
  ![v2080.toNat, 18, 7, 0, 0]
def k0_off1326 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2083 : Index := Scalar.indexCast v1139
  let c19_1079 : Index := 19#32
  let c7_1080 : Index := 7#32
  let c0_1081 : Index := 0#32
  let c0_1082 : Index := 0#32
  ![v2083.toNat, 19, 7, 0, 0]
def k0_off1327 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2096 : Index := Scalar.indexCast v1139
  let c20_1086 : Index := 20#32
  let c7_1087 : Index := 7#32
  let c0_1088 : Index := 0#32
  let c0_1089 : Index := 0#32
  ![v2096.toNat, 20, 7, 0, 0]
def k0_off1328 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2099 : Index := Scalar.indexCast v1139
  let c21_1090 : Index := 21#32
  let c7_1091 : Index := 7#32
  let c0_1092 : Index := 0#32
  let c0_1093 : Index := 0#32
  ![v2099.toNat, 21, 7, 0, 0]
def k0_off1329 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2112 : Index := Scalar.indexCast v1139
  let c22_1097 : Index := 22#32
  let c7_1098 : Index := 7#32
  let c0_1099 : Index := 0#32
  let c0_1100 : Index := 0#32
  ![v2112.toNat, 22, 7, 0, 0]
def k0_off1330 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2115 : Index := Scalar.indexCast v1139
  let c23_1101 : Index := 23#32
  let c7_1102 : Index := 7#32
  let c0_1103 : Index := 0#32
  let c0_1104 : Index := 0#32
  ![v2115.toNat, 23, 7, 0, 0]
def k0_off1331 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2128 : Index := Scalar.indexCast v1139
  let c24_1108 : Index := 24#32
  let c7_1109 : Index := 7#32
  let c0_1110 : Index := 0#32
  let c0_1111 : Index := 0#32
  ![v2128.toNat, 24, 7, 0, 0]
def k0_off1332 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2131 : Index := Scalar.indexCast v1139
  let c25_1112 : Index := 25#32
  let c7_1113 : Index := 7#32
  let c0_1114 : Index := 0#32
  let c0_1115 : Index := 0#32
  ![v2131.toNat, 25, 7, 0, 0]
def k0_off1333 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2144 : Index := Scalar.indexCast v1139
  let c26_1119 : Index := 26#32
  let c7_1120 : Index := 7#32
  let c0_1121 : Index := 0#32
  let c0_1122 : Index := 0#32
  ![v2144.toNat, 26, 7, 0, 0]
def k0_off1334 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2147 : Index := Scalar.indexCast v1139
  let c27_1123 : Index := 27#32
  let c7_1124 : Index := 7#32
  let c0_1125 : Index := 0#32
  let c0_1126 : Index := 0#32
  ![v2147.toNat, 27, 7, 0, 0]
def k0_off1335 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2160 : Index := Scalar.indexCast v1139
  let c28_1130 : Index := 28#32
  let c7_1131 : Index := 7#32
  let c0_1132 : Index := 0#32
  let c0_1133 : Index := 0#32
  ![v2160.toNat, 28, 7, 0, 0]
def k0_off1336 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2163 : Index := Scalar.indexCast v1139
  let c29_1134 : Index := 29#32
  let c7_1135 : Index := 7#32
  let c0_1136 : Index := 0#32
  let c0_1137 : Index := 0#32
  ![v2163.toNat, 29, 7, 0, 0]
def k0_off1337 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2176 : Index := Scalar.indexCast v1139
  let c30_1141 : Index := 30#32
  let c7_1142 : Index := 7#32
  let c0_1143 : Index := 0#32
  let c0_1144 : Index := 0#32
  ![v2176.toNat, 30, 7, 0, 0]
def k0_off1338 (i : grid0.Coords) : Fin 5 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c2_i32_436 : BitVec 32 := 2#32
  let c0_i32_437 : BitVec 32 := 0#32
  let v1130 : BitVec 1 := Scalar.cmpi .eq c2_i32_436 c0_i32_437
  let c1_i32_438 : BitVec 32 := 1#32
  let v1131 : BitVec 32 := Scalar.select v1130 c1_i32_438 c2_i32_436
  let v1132 : BitVec 32 := Scalar.remsi v3 v1131
  let c0_i32_440 : BitVec 32 := 0#32
  let v1134 : BitVec 1 := Scalar.cmpi .slt v1132 c0_i32_440
  let c0_i32_441 : BitVec 32 := 0#32
  let v1135 : BitVec 1 := Scalar.cmpi .slt v1131 c0_i32_441
  let v1136 : BitVec 1 := Scalar.xori v1134 v1135
  let c0_i32_439 : BitVec 32 := 0#32
  let v1133 : BitVec 1 := Scalar.cmpi .ne v1132 c0_i32_439
  let v1137 : BitVec 1 := Scalar.andi v1136 v1133
  let v1138 : BitVec 32 := Scalar.addi v1132 v1131
  let v1139 : BitVec 32 := Scalar.select v1137 v1138 v1132
  let v2179 : Index := Scalar.indexCast v1139
  let c31_1145 : Index := 31#32
  let c7_1146 : Index := 7#32
  let c0_1147 : Index := 0#32
  let c0_1148 : Index := 0#32
  ![v2179.toNat, 31, 7, 0, 0]
def k0_mult17 (i : grid0.Coords) : BitVec 32 :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1156 : BitVec 32 := 1024#32
  let v2195 : BitVec 32 := Scalar.muli v840 c1024_i32_1156
  v2195
def k0_off1339 (i : grid0.Coords) : Fin 3 → Nat :=
  let c0_1157 : Index := 0#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1156 : BitVec 32 := 1024#32
  let v2195 : BitVec 32 := Scalar.muli v840 c1024_i32_1156
  let v2196 : BitVec 32 := v2195
  let v2197 : Index := Scalar.indexCast v2196
  let c0_1158 : Index := 0#32
  ![0, v2197.toNat, 0]
def k0_off1340 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2203 : Index := Scalar.indexCast v840
  let c0_1159 : Index := 0#32
  let c0_1160 : Index := 0#32
  let c0_1161 : Index := 0#32
  ![v2203.toNat, 0, 0, 0]
def k0_off1341 (i : grid0.Coords) : Fin 3 → Nat :=
  let c1_1163 : Index := 1#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1156 : BitVec 32 := 1024#32
  let v2195 : BitVec 32 := Scalar.muli v840 c1024_i32_1156
  let v2196 : BitVec 32 := v2195
  let v2209 : Index := Scalar.indexCast v2196
  let c0_1164 : Index := 0#32
  ![1, v2209.toNat, 0]
def k0_off1342 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2215 : Index := Scalar.indexCast v840
  let c1_1165 : Index := 1#32
  let c0_1166 : Index := 0#32
  let c0_1167 : Index := 0#32
  ![v2215.toNat, 1, 0, 0]
def k0_off1343 (i : grid0.Coords) : Fin 3 → Nat :=
  let c2_1169 : Index := 2#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1156 : BitVec 32 := 1024#32
  let v2195 : BitVec 32 := Scalar.muli v840 c1024_i32_1156
  let v2196 : BitVec 32 := v2195
  let v2221 : Index := Scalar.indexCast v2196
  let c0_1170 : Index := 0#32
  ![2, v2221.toNat, 0]
def k0_off1344 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2227 : Index := Scalar.indexCast v840
  let c2_1171 : Index := 2#32
  let c0_1172 : Index := 0#32
  let c0_1173 : Index := 0#32
  ![v2227.toNat, 2, 0, 0]
def k0_off1345 (i : grid0.Coords) : Fin 3 → Nat :=
  let c3_1175 : Index := 3#32
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let c1024_i32_1156 : BitVec 32 := 1024#32
  let v2195 : BitVec 32 := Scalar.muli v840 c1024_i32_1156
  let v2196 : BitVec 32 := v2195
  let v2233 : Index := Scalar.indexCast v2196
  let c0_1176 : Index := 0#32
  ![3, v2233.toNat, 0]
def k0_off1346 (i : grid0.Coords) : Fin 4 → Nat :=
  let arg2 : BitVec 32 := BitVec.ofNat 32 (i 2).val
  let c0_i32_107 : BitVec 32 := 0#32
  let v825 : BitVec 1 := Scalar.cmpi .sgt arg2 c0_i32_107
  let v826 : BitVec 32 := Scalar.extui v825
  let c0_i32_108 : BitVec 32 := 0#32
  let v827 : BitVec 1 := Scalar.cmpi .slt arg2 c0_i32_108
  let v828 : BitVec 32 := Scalar.extui v827
  let v829 : BitVec 32 := Scalar.subi v826 v828
  let c4_i32_106 : BitVec 32 := 4#32
  let c0_i32_109 : BitVec 32 := 0#32
  let v830 : BitVec 1 := Scalar.cmpi .sgt c4_i32_106 c0_i32_109
  let v831 : BitVec 32 := Scalar.extui v830
  let c0_i32_110 : BitVec 32 := 0#32
  let v832 : BitVec 1 := Scalar.cmpi .slt c4_i32_106 c0_i32_110
  let v833 : BitVec 32 := Scalar.extui v832
  let v834 : BitVec 32 := Scalar.subi v831 v833
  let v835 : BitVec 1 := Scalar.cmpi .ne v829 v834
  let v836 : BitVec 32 := Scalar.remsi arg2 c4_i32_106
  let c0_i32_111 : BitVec 32 := 0#32
  let v837 : BitVec 1 := Scalar.cmpi .ne v836 c0_i32_111
  let v838 : BitVec 1 := Scalar.andi v835 v837
  let v824 : BitVec 32 := Scalar.divsi arg2 c4_i32_106
  let c1_i32_112 : BitVec 32 := 1#32
  let v839 : BitVec 32 := Scalar.subi v824 c1_i32_112
  let v840 : BitVec 32 := Scalar.select v838 v839 v824
  let v2239 : Index := Scalar.indexCast v840
  let c3_1177 : Index := 3#32
  let c0_1178 : Index := 0#32
  let c0_1179 : Index := 0#32
  ![v2239.toNat, 3, 0, 0]
def k0_cond4 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c16_i32 : BitVec 32 := 16#32
  let v2 : BitVec 32 := Scalar.muli v1 c16_i32
  let arg2 : BitVec 32 := BitVec.ofNat 32 (i 2).val
  let v3 : BitVec 32 := Scalar.addi v2 arg2
  let c4_i32_127 : BitVec 32 := 4#32
  let c0_i32_128 : BitVec 32 := 0#32
  let v862 : BitVec 1 := Scalar.cmpi .eq c4_i32_127 c0_i32_128
  let c1_i32_129 : BitVec 32 := 1#32
  let v863 : BitVec 32 := Scalar.select v862 c1_i32_129 c4_i32_127
  let v864 : BitVec 32 := Scalar.remsi v3 v863
  let c0_i32_131 : BitVec 32 := 0#32
  let v866 : BitVec 1 := Scalar.cmpi .slt v864 c0_i32_131
  let c0_i32_132 : BitVec 32 := 0#32
  let v867 : BitVec 1 := Scalar.cmpi .slt v863 c0_i32_132
  let v868 : BitVec 1 := Scalar.xori v866 v867
  let c0_i32_130 : BitVec 32 := 0#32
  let v865 : BitVec 1 := Scalar.cmpi .ne v864 c0_i32_130
  let v869 : BitVec 1 := Scalar.andi v868 v865
  let v870 : BitVec 32 := Scalar.addi v864 v863
  let v871 : BitVec 32 := Scalar.select v869 v870 v864
  let c0_i32_138 : BitVec 32 := 0#32
  let v879 : BitVec 1 := Scalar.cmpi .eq v871 c0_i32_138
  let v880 : BitVec 32 := Scalar.extui v879
  let c0_i32_139 : BitVec 32 := 0#32
  let v881 : BitVec 1 := Scalar.cmpi .ne v880 c0_i32_139
  v881

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v3 c4_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  let c0_i32_6 : BitVec 32 := 0#32
  let c0_i32_7 : BitVec 32 := 0#32
  ![v20.toNat, c0_i32_4.toNat, c0_i32_5.toNat, c0_i32_6.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "scale" => some (((1 / 8) * (Real.log 2)⁻¹ : ℝ) : EReal)
  | _ => none
variable {F : FTy → Type} [FloatOps F] [Named F]
-- ==== ReferenceIdeal.lean ====
abbrev S4x8x4096x64 : Shape := ⟨4, ![4, 8, 4096, 64]⟩
abbrev S2x5120x8x128x64 : Shape := ⟨5, ![2, 5120, 8, 128, 64]⟩
abbrev S32x128 : Shape := ⟨2, ![32, 128]⟩
abbrev S32x16x256x64 : Shape := ⟨4, ![32, 16, 256, 64]⟩
abbrev S32x4096x64 : Shape := ⟨3, ![32, 4096, 64]⟩
abbrev S_ : Shape := ⟨0, ![]⟩
abbrev S32x16x64 : Shape := ⟨3, ![32, 16, 64]⟩
abbrev S16 : Shape := ⟨1, ![16]⟩
abbrev S256 : Shape := ⟨1, ![256]⟩
abbrev S1x16 : Shape := ⟨2, ![1, 16]⟩
abbrev S16x1 : Shape := ⟨2, ![16, 1]⟩
abbrev S16x16 : Shape := ⟨2, ![16, 16]⟩
abbrev S32x16x256x16 : Shape := ⟨4, ![32, 16, 256, 16]⟩
abbrev S16x1x16 : Shape := ⟨3, ![16, 1, 16]⟩
abbrev S32x16x256x16x1 : Shape := ⟨5, ![32, 16, 256, 16, 1]⟩
abbrev S32x16x256x1x16 : Shape := ⟨5, ![32, 16, 256, 1, 16]⟩
abbrev S32x16x256x16x16 : Shape := ⟨5, ![32, 16, 256, 16, 16]⟩
abbrev S1x1x1x16x16 : Shape := ⟨5, ![1, 1, 1, 16, 16]⟩
abbrev S1x16x1x16 : Shape := ⟨4, ![1, 16, 1, 16]⟩
abbrev S16x1x16x1 : Shape := ⟨4, ![16, 1, 16, 1]⟩
abbrev S1x256 : Shape := ⟨2, ![1, 256]⟩
abbrev S256x1 : Shape := ⟨2, ![256, 1]⟩
abbrev S256x256 : Shape := ⟨2, ![256, 256]⟩
abbrev S1x256x1x256 : Shape := ⟨4, ![1, 256, 1, 256]⟩
abbrev S16x256x16x256 : Shape := ⟨4, ![16, 256, 16, 256]⟩
abbrev S1x16x256x16x256 : Shape := ⟨5, ![1, 16, 256, 16, 256]⟩
abbrev S32x16x256x16x256 : Shape := ⟨5, ![32, 16, 256, 16, 256]⟩
abbrev S32x16x256x4096 : Shape := ⟨4, ![32, 16, 256, 4096]⟩
abbrev S32x16x256 : Shape := ⟨3, ![32, 16, 256]⟩
abbrev S32x16x256x1 : Shape := ⟨4, ![32, 16, 256, 1]⟩
abbrev S4x4096x8x64 : Shape := ⟨4, ![4, 4096, 8, 64]⟩
abbrev S4x4096x512 : Shape := ⟨3, ![4, 4096, 512]⟩

abbrev nBuf : Space → Nat
  | .hbm => 100
  | .vmem => 0
  | .smem => 0
  | _ => 0

abbrev bufTy : (tb : Table) → Fin (tcTables nBuf tb) → BufTy
  | .hbm, ⟨0, _⟩ => ⟨S4x8x4096x64, .f32⟩
  | .hbm, ⟨1, _⟩ => ⟨S4x8x4096x64, .f32⟩
  | .hbm, ⟨2, _⟩ => ⟨S4x8x4096x64, .f32⟩
  | .hbm, ⟨3, _⟩ => ⟨S2x5120x8x128x64, .f32⟩
  | .hbm, ⟨4, _⟩ => ⟨S32x128, .i32⟩
  | .hbm, ⟨5, _⟩ => ⟨S32x16x256x64, .f32⟩
  | .hbm, ⟨6, _⟩ => ⟨S32x4096x64, .f32⟩
  | .hbm, ⟨7, _⟩ => ⟨S32x4096x64, .f32⟩
  | .hbm, ⟨8, _⟩ => ⟨S32x16x256x64, .f32⟩
  | .hbm, ⟨9, _⟩ => ⟨S_, .f32⟩
  | .hbm, ⟨10, _⟩ => ⟨S32x16x64, .f32⟩
  | .hbm, ⟨11, _⟩ => ⟨S_, .f32⟩
  | .hbm, ⟨12, _⟩ => ⟨S32x16x64, .f32⟩
  | .hbm, ⟨13, _⟩ => ⟨S32x16x64, .f32⟩
  | .hbm, ⟨14, _⟩ => ⟨S16, .i32⟩
  | .hbm, ⟨15, _⟩ => ⟨S256, .i32⟩
  | .hbm, ⟨16, _⟩ => ⟨S1x16, .i32⟩
  | .hbm, ⟨17, _⟩ => ⟨S16x1, .i32⟩
  | .hbm, ⟨18, _⟩ => ⟨S16x16, .i32⟩
  | .hbm, ⟨19, _⟩ => ⟨S16x16, .i32⟩
  | .hbm, ⟨20, _⟩ => ⟨S16x16, .i1⟩
  | .hbm, ⟨21, _⟩ => ⟨S32x16x256x16, .f32⟩
  | .hbm, ⟨22, _⟩ => ⟨S16x1x16, .i1⟩
  | .hbm, ⟨23, _⟩ => ⟨S_, .f32⟩
  | .hbm, ⟨24, _⟩ => ⟨S_, .f32⟩
  | .hbm, ⟨25, _⟩ => ⟨S32x16x256x16, .i1⟩
  | .hbm, ⟨26, _⟩ => ⟨S32x16x256x16, .f32⟩
  | .hbm, ⟨27, _⟩ => ⟨S32x16x256x16, .f32⟩
  | .hbm, ⟨28, _⟩ => ⟨S32x16x256x16x1, .f32⟩
  | .hbm, ⟨29, _⟩ => ⟨S32x16x256x1x16, .f32⟩
  | .hbm, ⟨30, _⟩ => ⟨S32x16x256x16x16, .f32⟩
  | .hbm, ⟨31, _⟩ => ⟨S32x16x256x16x16, .f32⟩
  | .hbm, ⟨32, _⟩ => ⟨S32x16x256x16x16, .i1⟩
  | .hbm, ⟨33, _⟩ => ⟨S32x16x256x16x16, .f32⟩
  | .hbm, ⟨34, _⟩ => ⟨S32x16x256x16x16, .f32⟩
  | .hbm, ⟨35, _⟩ => ⟨S32x16x256x16x16, .i1⟩
  | .hbm, ⟨36, _⟩ => ⟨S16x1, .i32⟩
  | .hbm, ⟨37, _⟩ => ⟨S1x16, .i32⟩
  | .hbm, ⟨38, _⟩ => ⟨S16x16, .i32⟩
  | .hbm, ⟨39, _⟩ => ⟨S16x16, .i32⟩
  | .hbm, ⟨40, _⟩ => ⟨S16x16, .i1⟩
  | .hbm, ⟨41, _⟩ => ⟨S1x1x1x16x16, .i1⟩
  | .hbm, ⟨42, _⟩ => ⟨S32x16x256x16x16, .i1⟩
  | .hbm, ⟨43, _⟩ => ⟨S32x16x256x16x16, .i1⟩
  | .hbm, ⟨44, _⟩ => ⟨S32x16x256x16x16, .i1⟩
  | .hbm, ⟨45, _⟩ => ⟨S32x16x256x16x16, .i32⟩
  | .hbm, ⟨46, _⟩ => ⟨S_, .i32⟩
  | .hbm, ⟨47, _⟩ => ⟨S32x16x256x16, .i32⟩
  | .hbm, ⟨48, _⟩ => ⟨S_, .i32⟩
  | .hbm, ⟨49, _⟩ => ⟨S32x16x256x16, .i32⟩
  | .hbm, ⟨50, _⟩ => ⟨S32x16x256x16, .i1⟩
  | .hbm, ⟨51, _⟩ => ⟨S16x1x16, .i1⟩
  | .hbm, ⟨52, _⟩ => ⟨S1x16x1x16, .i1⟩
  | .hbm, ⟨53, _⟩ => ⟨S32x16x256x16, .i1⟩
  | .hbm, ⟨54, _⟩ => ⟨S32x16x256x16, .i1⟩
  | .hbm, ⟨55, _⟩ => ⟨S16x1, .i32⟩
  | .hbm, ⟨56, _⟩ => ⟨S1x16, .i32⟩
  | .hbm, ⟨57, _⟩ => ⟨S16x16, .i32⟩
  | .hbm, ⟨58, _⟩ => ⟨S16x16, .i32⟩
  | .hbm, ⟨59, _⟩ => ⟨S16x16, .i1⟩
  | .hbm, ⟨60, _⟩ => ⟨S16x1x16x1, .i1⟩
  | .hbm, ⟨61, _⟩ => ⟨S1x256, .i32⟩
  | .hbm, ⟨62, _⟩ => ⟨S256x1, .i32⟩
  | .hbm, ⟨63, _⟩ => ⟨S256x256, .i32⟩
  | .hbm, ⟨64, _⟩ => ⟨S256x256, .i32⟩
  | .hbm, ⟨65, _⟩ => ⟨S256x256, .i1⟩
  | .hbm, ⟨66, _⟩ => ⟨S1x256x1x256, .i1⟩
  | .hbm, ⟨67, _⟩ => ⟨S16x256x16x256, .i1⟩
  | .hbm, ⟨68, _⟩ => ⟨S16x256x16x256, .i1⟩
  | .hbm, ⟨69, _⟩ => ⟨S16x256x16x256, .i1⟩
  | .hbm, ⟨70, _⟩ => ⟨S32x16x256x16x1, .i1⟩
  | .hbm, ⟨71, _⟩ => ⟨S1x16x256x16x256, .i1⟩
  | .hbm, ⟨72, _⟩ => ⟨S32x16x256x16x256, .i1⟩
  | .hbm, ⟨73, _⟩ => ⟨S32x16x256x16x256, .i1⟩
  | .hbm, ⟨74, _⟩ => ⟨S32x16x256x16x256, .i1⟩
  | .hbm, ⟨75, _⟩ => ⟨S32x16x256x4096, .i1⟩
  | .hbm, ⟨76, _⟩ => ⟨S_, .f32⟩
  | .hbm, ⟨77, _⟩ => ⟨S32x16x256x64, .f32⟩
  | .hbm, ⟨78, _⟩ => ⟨S32x16x256x64, .f32⟩
  | .hbm, ⟨79, _⟩ => ⟨S32x16x256x4096, .f32⟩
  | .hbm, ⟨80, _⟩ => ⟨S_, .f32⟩
  | .hbm, ⟨81, _⟩ => ⟨S_, .f32⟩
  | .hbm, ⟨82, _⟩ => ⟨S32x16x256x4096, .f32⟩
  | .hbm, ⟨83, _⟩ => ⟨S32x16x256x4096, .f32⟩
  | .hbm, ⟨84, _⟩ => ⟨S_, .f32⟩
  | .hbm, ⟨85, _⟩ => ⟨S32x16x256, .f32⟩
  | .hbm, ⟨86, _⟩ => ⟨S32x16x256x1, .f32⟩
  | .hbm, ⟨87, _⟩ => ⟨S32x16x256x4096, .f32⟩
  | .hbm, ⟨88, _⟩ => ⟨S32x16x256x4096, .f32⟩
  | .hbm, ⟨89, _⟩ => ⟨S32x16x256x4096, .f32⟩
  | .hbm, ⟨90, _⟩ => ⟨S32x16x256x64, .f32⟩
  | .hbm, ⟨91, _⟩ => ⟨S_, .f32⟩
  | .hbm, ⟨92, _⟩ => ⟨S32x16x256, .f32⟩
  | .hbm, ⟨93, _⟩ => ⟨S32x16x256x1, .f32⟩
  | .hbm, ⟨94, _⟩ => ⟨S32x16x256x64, .f32⟩
  | .hbm, ⟨95, _⟩ => ⟨S32x16x256x64, .f32⟩
  | .hbm, ⟨96, _⟩ => ⟨S4x8x4096x64, .f32⟩
  | .hbm, ⟨97, _⟩ => ⟨S4x4096x8x64, .f32⟩
  | .hbm, ⟨98, _⟩ => ⟨S4x4096x512, .f32⟩
  | .hbm, ⟨99, _⟩ => ⟨S4x4096x512, .bf16⟩
  | _, _ => ⟨S4x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_v35 : Ref sig .tc := ⟨.hbm, 47, rfl⟩
abbrev main_c_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_3 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_call1_v0 : Ref sig .tc := ⟨.hbm, 81, rfl⟩
abbrev main_call1_v1 : Ref sig .tc := ⟨.hbm, 82, rfl⟩
abbrev main_v66 : Ref sig .tc := ⟨.hbm, 83, rfl⟩
abbrev main_cst_5 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_6 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1x1024 : Shape := ⟨3, ![4, 1, 1024]⟩
abbrev S1024 : Shape := ⟨1, ![1024]⟩
abbrev S1024x3072 : Shape := ⟨2, ![1024, 3072]⟩
abbrev S1024x256 : Shape := ⟨2, ![1024, 256]⟩
abbrev S1024x512 : Shape := ⟨2, ![1024, 512]⟩
abbrev S1024x1536 : Shape := ⟨2, ![1024, 1536]⟩
abbrev S1536x1024 : Shape := ⟨2, ![1536, 1024]⟩
abbrev S4096 : Shape := ⟨1, ![4096]⟩
abbrev S32 : Shape := ⟨1, ![32]⟩
abbrev S_ : Shape := ⟨0, ![]⟩
abbrev S32x1 : Shape := ⟨2, ![32, 1]⟩
abbrev S1x4096 : Shape := ⟨2, ![1, 4096]⟩
abbrev S32x4096 : Shape := ⟨2, ![32, 4096]⟩
abbrev S1x1024 : Shape := ⟨2, ![1, 1024]⟩
abbrev S4x4096x512 : Shape := ⟨3, ![4, 4096, 512]⟩
abbrev S4x512x4096 : Shape := ⟨3, ![4, 512, 4096]⟩
abbrev S1x512x1024 : Shape := ⟨3, ![1, 512, 1024]⟩
abbrev S1x1x1024 : Shape := ⟨3, ![1, 1, 1024]⟩
abbrev S32x512 : Shape := ⟨2, ![32, 512]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1024x1024 : Shape := ⟨2, ![1024, 1024]⟩
abbrev S1x32x512 : Shape := ⟨3, ![1, 32, 512]⟩

abbrev nBuf : Space → Nat
  | .hbm => 42
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3072, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x256, .f32⟩
  | .hbm, ⟨12, _⟩ => ⟨S1024x256, .f32⟩
  | .hbm, ⟨13, _⟩ => ⟨S1024x1536, .f32⟩
  | .hbm, ⟨14, _⟩ => ⟨S1024x1536, .bf16⟩
  | .hbm, ⟨15, _⟩ => ⟨S1024x1536, .f32⟩
  | .hbm, ⟨16, _⟩ => ⟨S1536x1024, .f32⟩
  | .hbm, ⟨17, _⟩ => ⟨S1536x1024, .bf16⟩
  | .hbm, ⟨18, _⟩ => ⟨S4096, .i32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32x1, .f32⟩
  | .hbm, ⟨28, _⟩ => ⟨S4096, .f32⟩
  | .hbm, ⟨29, _⟩ => ⟨S1x4096, .f32⟩
  | .hbm, ⟨30, _⟩ => ⟨S32x4096, .f32⟩
  | .hbm, ⟨31, _⟩ => ⟨S32x4096, .f32⟩
  | .hbm, ⟨32, _⟩ => ⟨S32x4096, .f32⟩
  | .hbm, ⟨33, _⟩ => ⟨S32x4096, .f32⟩
  | .hbm, ⟨34, _⟩ => ⟨S32x4096, .f32⟩
  | .hbm, ⟨35, _⟩ => ⟨S1x1024, .f32⟩
  | .hbm, ⟨36, _⟩ => ⟨S4x4096x512, .f32⟩
  | .hbm, ⟨37, _⟩ => ⟨S4x4096x1024, .bf16⟩
  | .hbm, ⟨38, _⟩ => ⟨S4x4096x512, .bf16⟩
  | .hbm, ⟨39, _⟩ => ⟨S4x512x4096, .f32⟩
  | .hbm, ⟨40, _⟩ => ⟨S4x512x4096, .f32⟩
  | .hbm, ⟨41, _⟩ => ⟨S4x512x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1536x1024, .bf16⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S1x512x512, .f32⟩
  | .local _ .vmem, ⟨14, _⟩ => ⟨S1x512x512, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v29_3 : Ref sig .tc := ⟨.hbm, 39, rfl⟩
abbrev main_v29_4 : Ref sig .tc := ⟨.hbm, 40, rfl⟩
abbrev main_v29_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4x4096x1024 : Shape := ⟨3, ![4, 4096, 1024]⟩
abbrev S4x1x1024 : Shape := ⟨3, ![4, 1, 1024]⟩
abbrev S1024 : Shape := ⟨1, ![1024]⟩
abbrev S1024x3072 : Shape := ⟨2, ![1024, 3072]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x4096x256 : Shape := ⟨3, ![4, 4096, 256]⟩
abbrev S4x4096x512 : Shape := ⟨3, ![4, 4096, 512]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x64 : Shape := ⟨4, ![4, 4096, 8, 64]⟩
abbrev S4x4096x8x32 : Shape := ⟨4, ![4, 4096, 8, 32]⟩
abbrev S4x512x4096 : Shape := ⟨3, ![4, 512, 4096]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3072, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x3072, .f32⟩
  | .hbm, ⟨29, _⟩ => ⟨S4x4096x256, .f32⟩
  | .hbm, ⟨30, _⟩ => ⟨S4x4096x256, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x256, .f32⟩
  | .hbm, ⟨36, _⟩ => ⟨S4x4096x256, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S4096, .i32⟩
  | .hbm, ⟨46, _⟩ => ⟨S4096, .f32⟩
  | .hbm, ⟨47, _⟩ => ⟨S4096x1, .f32⟩
  | .hbm, ⟨48, _⟩ => ⟨S1x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S1x4096x1x32, .f32⟩
  | .hbm, ⟨54, _⟩ => ⟨S4096x32, .f32⟩
  | .hbm, ⟨55, _⟩ => ⟨S1x4096x1x32, .f32⟩
  | .hbm, ⟨56, _⟩ => ⟨S4x4096x8x64, .f32⟩
  | .hbm, ⟨57, _⟩ => ⟨S4x4096x8x32, .f32⟩
  | .hbm, ⟨58, _⟩ => ⟨S4x4096x8x32, .f32⟩
  | .hbm, ⟨59, _⟩ => ⟨S4x4096x8x32, .f32⟩
  | .hbm, ⟨60, _⟩ => ⟨S4x4096x8x32, .f32⟩
  | .hbm, ⟨61, _⟩ => ⟨S4x4096x8x32, .f32⟩
  | .hbm, ⟨62, _⟩ => ⟨S4x4096x8x32, .f32⟩
  | .hbm, ⟨63, _⟩ => ⟨S4x4096x8x32, .f32⟩
  | .hbm, ⟨64, _⟩ => ⟨S4x4096x8x32, .f32⟩
  | .hbm, ⟨65, _⟩ => ⟨S4x4096x8x32, .f32⟩
  | .hbm, ⟨66, _⟩ => ⟨S4x4096x8x32, .f32⟩
  | .hbm, ⟨67, _⟩ => ⟨S4x4096x8x32, .f32⟩
  | .hbm, ⟨68, _⟩ => ⟨S4x4096x8x32, .f32⟩
  | .hbm, ⟨69, _⟩ => ⟨S4x4096x8x64, .f32⟩
  | .hbm, ⟨70, _⟩ => ⟨S4x4096x512, .f32⟩
  | .hbm, ⟨71, _⟩ => ⟨S4x4096x512, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096x1024, .f32⟩
  | .hbm, ⟨77, _⟩ => ⟨S4x4096x1024, .f32⟩
  | .hbm, ⟨78, _⟩ => ⟨S_, .f32⟩
  | .hbm, ⟨79, _⟩ => ⟨S4x4096x1024, .f32⟩
  | .hbm, ⟨80, _⟩ => ⟨S4x4096x1024, .f32⟩
  | .hbm, ⟨81, _⟩ => ⟨S4x4096x1024, .f32⟩
  | .hbm, ⟨82, _⟩ => ⟨S4x4096x1024, .bf16⟩
  | .hbm, ⟨83, _⟩ => ⟨S4x4096x512, .bf16⟩
  | .hbm, ⟨84, _⟩ => ⟨S4x4096x8x64, .f32⟩
  | .hbm, ⟨85, _⟩ => ⟨S4x4096x8x32, .f32⟩
  | .hbm, ⟨86, _⟩ => ⟨S4x4096x8x32, .f32⟩
  | .hbm, ⟨87, _⟩ => ⟨S4x4096x8x32, .f32⟩
  | .hbm, ⟨88, _⟩ => ⟨S4x4096x8x32, .f32⟩
  | .hbm, ⟨89, _⟩ => ⟨S4x4096x8x32, .f32⟩
  | .hbm, ⟨90, _⟩ => ⟨S4x4096x8x32, .f32⟩
  | .hbm, ⟨91, _⟩ => ⟨S4x4096x8x32, .f32⟩
  | .hbm, ⟨92, _⟩ => ⟨S4x4096x8x32, .f32⟩
  | .hbm, ⟨93, _⟩ => ⟨S4x4096x8x32, .f32⟩
  | .hbm, ⟨94, _⟩ => ⟨S4x4096x8x32, .f32⟩
  | .hbm, ⟨95, _⟩ => ⟨S4x4096x8x32, .f32⟩
  | .hbm, ⟨96, _⟩ => ⟨S4x4096x8x32, .f32⟩
  | .hbm, ⟨97, _⟩ => ⟨S4x4096x8x64, .f32⟩
  | .hbm, ⟨98, _⟩ => ⟨S4x4096x512, .f32⟩
  | .hbm, ⟨99, _⟩ => ⟨S4x512x4096, .f32⟩
  | .hbm, ⟨100, _⟩ => ⟨S4x512x4096, .f32⟩
  | .hbm, ⟨101, _⟩ => ⟨S4x512x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Proof.Words.lean ====
/- The words of a grid point and the bounds of every access of the kernel's body. -/
module

public import proofs.«01_k».proof.KernelIdeal

@[expose] public section

noncomputable section

namespace Cert.KernelIdeal.Body

open Idealize.ShloMosaic Idealize.SL.Sem
open Cert.KernelIdeal

/-- The query block, as a word. -/
def qiW (i : grid0.Coords) : BitVec 32 := BitVec.ofNat 32 (i 2).val

/-- The number of the step, as a word. -/
def stepW (i : grid0.Coords) : BitVec 32 :=
  Scalar.addi (Scalar.muli (Scalar.addi (Scalar.muli (BitVec.ofNat 32 (i 0).val) 2#32) (BitVec.ofNat 32 (i 1).val)) 16#32) (qiW i)

/-- The remainder of a division rounding down. -/
def modW (x d : BitVec 32) : BitVec 32 :=
  let d' : BitVec 32 := Scalar.select (Scalar.cmpi .eq d 0#32) 1#32 d
  let r : BitVec 32 := Scalar.remsi x d'
  Scalar.select (Scalar.andi (Scalar.xori (Scalar.cmpi .slt r 0#32) (Scalar.cmpi .slt d' 0#32)) (Scalar.cmpi .ne r 0#32)) (Scalar.addi r d') r

/-- The page slot this step reads. -/
def slotW (i : grid0.Coords) : BitVec 32 := modW (stepW i) 2#32

/-- The quarter of the block of page sums this step fills. -/
def quarterW (i : grid0.Coords) : BitVec 32 := modW (stepW i) 4#32

/-- The group of four key blocks the query block lies in. -/
def ownW (i : grid0.Coords) : BitVec 32 :=
  let a : BitVec 32 := qiW i
  let c : BitVec 32 := 4#32
  let z : BitVec 32 := 0#32
  let sa : BitVec 32 := Scalar.subi (Scalar.extui (Scalar.cmpi .sgt a z)) (Scalar.extui (Scalar.cmpi .slt a z))
  let sc : BitVec 32 := Scalar.subi (Scalar.extui (Scalar.cmpi .sgt c z)) (Scalar.extui (Scalar.cmpi .slt c z))
  Scalar.select (Scalar.andi (Scalar.cmpi .ne sa sc) (Scalar.cmpi .ne (Scalar.remsi a c) z)) (Scalar.subi (Scalar.divsi a c) 1#32) (Scalar.divsi a c)

/-- The row a group of four key blocks starts at. -/
def rowW (g : BitVec 32) : BitVec 32 := Scalar.muli g 1024#32

theorem modW_two_lt (n : Fin 128) : (modW (BitVec.ofNat 32 n.val) 2#32).toNat < 2 := by
  revert n; decide +kernel

theorem stepW_lt (i : grid0.Coords) : 32 * (i 0).val + 16 * (i 1).val + (i 2).val < 128 := by
  have h0 : (i 0).val < 4 := (i 0).2
  have h1 : (i 1).val < 2 := (i 1).2
  have h2 : (i 2).val < 16 := (i 2).2
  omega

/-- The step's number in closed form. -/
theorem stepW_eq (i : grid0.Coords) : stepW i = BitVec.ofNat 32 (32 * (i 0).val + 16 * (i 1).val + (i 2).val) := by
  have h := stepW_lt i
  apply BitVec.eq_of_toNat_eq
  simp only [stepW, qiW, Scalar.addi, Scalar.muli, IntOp.addi, IntOp.muli, BitVec.toNat_add, BitVec.toNat_mul, BitVec.toNat_ofNat]
  omega

theorem slotW_lt (i : grid0.Coords) : (slotW i).toNat < 2 := by
  unfold slotW; rw [stepW_eq]; exact modW_two_lt ⟨_, stepW_lt i⟩

theorem ownW_toNat (i : grid0.Coords) : (ownW i).toNat = (i 2).val / 4 := by
  have h2 : (i 2).val < 16 := (i 2).2
  have key : ∀ n : Fin 16, (Scalar.select (Scalar.andi (Scalar.cmpi .ne (Scalar.subi (Scalar.extui (Scalar.cmpi .sgt (BitVec.ofNat 32 n.val) 0#32)) (Scalar.extui (Scalar.cmpi .slt (BitVec.ofNat 32 n.val) 0#32)))
      (Scalar.subi (Scalar.extui (Scalar.cmpi .sgt 4#32 0#32)) (Scalar.extui (Scalar.cmpi .slt 4#32 0#32)))) (Scalar.cmpi .ne (Scalar.remsi (BitVec.ofNat 32 n.val) 4#32) 0#32))
      (Scalar.subi (Scalar.divsi (BitVec.ofNat 32 n.val) 4#32) 1#32) (Scalar.divsi (BitVec.ofNat 32 n.val) 4#32) : BitVec 32).toNat = n.val / 4 := by
    decide +kernel
  exact key ⟨_, h2⟩

theorem ownW_lt (i : grid0.Coords) : (ownW i).toNat < 4 := by
  have h2 : (i 2).val < 16 := (i 2).2
  rw [ownW_toNat]; omega

theorem rowW_le (g : BitVec 32) (h : g.toNat < 4) : (rowW g).toNat = 1024 * g.toNat := by
  simp only [rowW, Scalar.muli, IntOp.muli, BitVec.toNat_mul, BitVec.toNat_ofNat]
  omega

theorem inb_km (hh : Fin 4) : ∀ a, (![hh.val, 0, 0] : Fin 3 → Nat) a + S1x16x64.size a ≤ S4x16x64.size a := by
  revert hh; decide

theorem inb_kt (hh : Fin 4) : ∀ a, (![0, 64 * hh.val, 0] : Fin 3 → Nat) a + S1x64x4096.size a ≤ S1x256x4096.size a := by
  revert hh; decide

theorem inb_vt (g hh : Fin 4) : ∀ a, (![0, 64 * hh.val, 1024 * g.val] : Fin 3 → Nat) a + S1x64x1024.size a ≤ S1x256x4096.size a := by
  revert g hh; decide

theorem inb_vb (g hh : Fin 4) : ∀ a, (![g.val, hh.val, 0, 0] : Fin 4 → Nat) a + S1x1x64x1024.size a ≤ S4x4x80x1024.size a := by
  revert g hh; decide

theorem inb_vbOne (g hh : Fin 4) : ∀ a, (![g.val, hh.val, 64, 0] : Fin 4 → Nat) a + S1x1x16x1024.size a ≤ S4x4x80x1024.size a := by
  revert g hh; decide

theorem packed_vb : ∀ g hh : Fin 4, (Rect.unit (s := S4x4x80x1024) ![g.val, hh.val, 0, 0] S1x1x64x1024.size (inb_vb g hh)).PackedRows (EltTy.packing .bf16) := by
  decide

theorem packed_vbOne : ∀ g hh : Fin 4, (Rect.unit (s := S4x4x80x1024) ![g.val, hh.val, 64, 0] S1x1x16x1024.size (inb_vbOne g hh)).PackedRows (EltTy.packing .bf16) := by
  decide

theorem slices_q (hh : Fin 4) : S256x256.Slices ![64 * hh.val, 0] S64x256 := by
  revert hh; decide

theorem slices_row (k : Fin 16) : S16x256.Slices ![k.val, 0] S1x256 := by
  revert k; decide

theorem inb_bias (hh : Fin 4) : ∀ a, (![hh.val, 0, 0] : Fin 3 → Nat) a + S1x16x256.size a ≤ S4x16x256.size a := by
  revert hh; decide

theorem inb_k (n : Nat) (r : BitVec 32) (h : r.toNat + n ≤ 4096) : ∀ a, (![0, r.toNat, 0] : Fin 3 → Nat) a + (![1, n, 256] : Fin 3 → Nat) a ≤ S1x4096x256.size a
  | 0 => Nat.le_refl _
  | 1 => h
  | 2 => Nat.le_refl _

theorem inb_sc (hh : Fin 4) (n : Nat) (r : BitVec 32) (h : r.toNat + n ≤ 4096) : ∀ a, (![hh.val, r.toNat, 0] : Fin 3 → Nat) a + (![1, n, 256] : Fin 3 → Nat) a ≤ S4x4096x256.size a
  | 0 => hh.2
  | 1 => h
  | 2 => Nat.le_refl _

theorem inb_b (hh : Fin 4) (b : BitVec 32) (h : b.toNat < 16) : ∀ a, (![hh.val, b.toNat, 0] : Fin 3 → Nat) a + S1x1x256.size a ≤ S4x16x256.size a
  | 0 => hh.2
  | 1 => h
  | 2 => Nat.le_refl _

theorem inb_v (hh : Fin 4) (n : Nat) (hn : n ≤ 1024) (g : BitVec 32) (h : g.toNat < 4) : ∀ a, (![g.toNat, hh.val, 0, 0] : Fin 4 → Nat) a + (![1, 1, 80, n] : Fin 4 → Nat) a ≤ S4x4x80x1024.size a
  | 0 => h
  | 1 => hh.2
  | 2 => Nat.le_refl _
  | 3 => by simpa using hn

/-- The word of block `j` of a group. -/
def blkW (g : BitVec 32) (j : Fin 4) : BitVec 32 := Scalar.addi (Scalar.muli g 4#32) (BitVec.ofNat 32 j.val)

theorem blkW_toNat (g : BitVec 32) (j : Fin 4) (h : g.toNat < 4) : (blkW g j).toNat = 4 * g.toNat + j.val := by
  have := j.2
  simp only [blkW, Scalar.addi, Scalar.muli, IntOp.addi, IntOp.muli, BitVec.toNat_add, BitVec.toNat_mul, BitVec.toNat_ofNat]
  omega

theorem blkW_lt (g : BitVec 32) (j : Fin 4) (h : g.toNat < 4) : (blkW g j).toNat < 16 := by
  have := j.2
  rw [blkW_toNat g j h]; omega

theorem row_le (g : BitVec 32) (hg : g.toNat < 4) (n : Nat) (hn : n ≤ 1024) : (rowW g).toNat + n ≤ 4096 := by
  rw [rowW_le g hg]; omega

theorem inb_sem (s : Nat) (hs : s < 2) (j : Fin 32) : ∀ a, (![s, j.val] : Fin 2 → Nat) a + S1x1.size a ≤ S2x32.size a
  | 0 => hs
  | 1 => j.2

theorem inb_pg (s : Nat) (hs : s < 2) (j : Fin 32) : ∀ a, (![s, j.val, 0, 0, 0] : Fin 5 → Nat) a + S1x1x8x64x128.size a ≤ S2x32x8x64x128.size a
  | 0 => hs
  | 1 => j.2
  | 2 => Nat.le_refl _
  | 3 => Nat.le_refl _
  | 4 => Nat.le_refl _

/-- The first step's table words. -/
theorem inb_first (j : Fin 32) : ∀ a, (![j.val] : Fin 1 → Nat) a + S1.size a ≤ S4096.size a
  | 0 => by have := j.2; show j.val + 1 ≤ 4096; omega

/-- The table word of page `j` of the next step. -/
def nextW (i : grid0.Coords) (j : Fin 32) : BitVec 32 := Scalar.addi (Scalar.muli (Scalar.addi (stepW i) 1#32) 32#32) (BitVec.ofNat 32 j.val)

theorem nextW_toNat (i : grid0.Coords) (j : Fin 32) : (nextW i j).toNat = 32 * (32 * (i 0).val + 16 * (i 1).val + (i 2).val + 1) + j.val := by
  have h := stepW_lt i
  have := j.2
  simp only [nextW, stepW_eq, Scalar.addi, Scalar.muli, IntOp.addi, IntOp.muli, BitVec.toNat_add, BitVec.toNat_mul, BitVec.toNat_ofNat]
  omega

theorem cond3_lt (i : grid0.Coords) (h : k0_cond3 i = 1#1) : 32 * (i 0).val + 16 * (i 1).val + (i 2).val + 1 < 128 := by
  have key : ∀ n : Fin 128, (Scalar.cmpi .ne (Scalar.extui (Scalar.cmpi .slt (Scalar.addi (BitVec.ofNat 32 n.val) 1#32) 128#32) : BitVec 32) 0#32) = 1#1 → n.val + 1 < 128 := by
    decide +kernel
  refine key ⟨_, stepW_lt i⟩ ?_
  rw [← stepW_eq]
  exact h

theorem nextW_lt (i : grid0.Coords) (h : k0_cond3 i = 1#1) (j : Fin 32) : (nextW i j).toNat < 4096 := by
  have := cond3_lt i h
  have := j.2
  rw [nextW_toNat]; omega

theorem inb_next (i : grid0.Coords) (h : k0_cond3 i = 1#1) (j : Fin 32) : ∀ a, (![(nextW i j).toNat] : Fin 1 → Nat) a + S1.size a ≤ S4096.size a
  | 0 => nextW_lt i h j

/-- The other slot. -/
def otherW (i : grid0.Coords) : BitVec 32 := Scalar.subi 1#32 (slotW i)

theorem otherW_lt (i : grid0.Coords) : (otherW i).toNat < 2 := by
  have key : ∀ n : Fin 128, (Scalar.subi 1#32 (modW (BitVec.ofNat 32 n.val) 2#32)).toNat < 2 := by decide +kernel
  unfold otherW slotW; rw [stepW_eq]; exact key ⟨_, stepW_lt i⟩

/-- The group a trip of the first loops takes. -/
def trip1 (i : grid0.Coords) (k : Fin (k0_t1_loop i).trips) : BitVec 32 := Scf.iv 0#32 1#32 k.val

/-- The group a trip of the remainder loop of the first pass would take (it has none). -/
def trip2 (i : grid0.Coords) (k : Fin (k0_t2_loop i).trips) : BitVec 32 := Scf.iv (k0_t2_loop i).lb 1#32 k.val

/-- The group a trip of the second pass takes. -/
def trip3 (i : grid0.Coords) (k : Fin (k0_t3_loop i).trips) : BitVec 32 := Scf.iv 0#32 1#32 k.val

/-- The group a trip of its remainder loop would take (it has none). -/
def trip4 (i : grid0.Coords) (k : Fin (k0_t4_loop i).trips) : BitVec 32 := Scf.iv (k0_t4_loop i).lb 1#32 k.val

theorem divOne : ∀ n : Fin 4, Scf.trips 0#32 (Scalar.addi 0#32 (Scalar.muli (Scalar.divsi (Scalar.subi (BitVec.ofNat 32 n.val) 0#32) 1#32) 1#32)) 1#32 = n.val := by
  decide +kernel

theorem noTrips : ∀ n : Fin 4, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
  decide +kernel

theorem ownW_ofNat (i : grid0.Coords) : ownW i = BitVec.ofNat 32 ((i 2).val / 4) := by
  have h2 : (i 2).val < 16 := (i 2).2
  apply BitVec.eq_of_toNat_eq
  rw [ownW_toNat, BitVec.toNat_ofNat]; omega

theorem trips1 (i : grid0.Coords) : (k0_t1_loop i).trips = (i 2).val / 4 := by
  have h2 : (i 2).val < 16 := (i 2).2
  have h : (k0_t1_loop i).trips = Scf.trips 0#32 (Scalar.addi 0#32 (Scalar.muli (Scalar.divsi (Scalar.subi (ownW i) 0#32) 1#32) 1#32)) 1#32 := rfl
  rw [h, ownW_ofNat]; exact divOne ⟨_, by omega⟩

theorem trips3 (i : grid0.Coords) : (k0_t3_loop i).trips = (i 2).val / 4 := trips1 i

theorem trips2 (i : grid0.Coords) : (k0_t2_loop i).trips = 0 := by
  have h2 : (i 2).val < 16 := (i 2).2
  have h : (k0_t2_loop i).trips = Scf.trips (Scalar.addi 0#32 (Scalar.muli (Scalar.divsi (Scalar.subi (ownW i) 0#32) 1#32) 1#32)) (Scalar.addi 0#32 (Scalar.subi (ownW i) 0#32)) 1#32 := rfl
  rw [h, ownW_ofNat]; exact noTrips ⟨_, by omega⟩

theorem trips4 (i : grid0.Coords) : (k0_t4_loop i).trips = 0 := trips2 i

theorem trip1_toNat (i : grid0.Coords) (k : Fin (k0_t1_loop i).trips) : (trip1 i k).toNat = k.val := by
  have h2 : (i 2).val < 16 := (i 2).2
  have hk : k.val < (i 2).val / 4 := lt_of_lt_of_eq k.2 (trips1 i)
  simp only [trip1, Scf.iv, BitVec.toNat_add, BitVec.toNat_mul, BitVec.toNat_ofNat]
  omega

theorem trip3_toNat (i : grid0.Coords) (k : Fin (k0_t3_loop i).trips) : (trip3 i k).toNat = k.val := trip1_toNat i k

theorem trip1_lt (i : grid0.Coords) (k : Fin (k0_t1_loop i).trips) : (trip1 i k).toNat < 4 := by
  have h2 : (i 2).val < 16 := (i 2).2
  have hk : k.val < (i 2).val / 4 := lt_of_lt_of_eq k.2 (trips1 i)
  rw [trip1_toNat]; omega

theorem trip3_lt (i : grid0.Coords) (k : Fin (k0_t3_loop i).trips) : (trip3 i k).toNat < 4 := trip1_lt i k

theorem trip2_lt (i : grid0.Coords) (k : Fin (k0_t2_loop i).trips) : (trip2 i k).toNat < 4 :=
  absurd (lt_of_lt_of_eq k.2 (trips2 i)) (Nat.not_lt_zero _)

theorem trip4_lt (i : grid0.Coords) (k : Fin (k0_t4_loop i).trips) : (trip4 i k).toNat < 4 :=
  absurd (lt_of_lt_of_eq k.2 (trips4 i)) (Nat.not_lt_zero _)

theorem inb_ks (h8 : Fin 8) : ∀ a, (![0, h8.val, 0, 0] : Fin 4 → Nat) a + S1x1x64x128.size a ≤ S1x8x64x128.size a := by
  revert h8; decide

theorem inb_page (s : Nat) (hs : s < 2) (p : Nat) (hp : p < 32) (h8 : Fin 8) : ∀ a, (![s, p, h8.val, 0, 0] : Fin 5 → Nat) a + S1x1x1x64x128.size a ≤ S2x32x8x64x128.size a
  | 0 => hs
  | 1 => hp
  | 2 => h8.2
  | 3 => Nat.le_refl _
  | 4 => Nat.le_refl _

/-- The number of a step. -/
def nn (i : grid0.Coords) : Nat := 32 * (i 0).val + 16 * (i 1).val + (i 2).val

theorem nn_lt (i : grid0.Coords) : nn i < 128 := stepW_lt i

theorem slotW_toNat (i : grid0.Coords) : (slotW i).toNat = nn i % 2 := by
  have key : ∀ n : Fin 128, (modW (BitVec.ofNat 32 n.val) 2#32).toNat = n.val % 2 := by decide +kernel
  unfold slotW; rw [stepW_eq]; exact key ⟨_, stepW_lt i⟩

theorem otherW_toNat (i : grid0.Coords) : (otherW i).toNat = (nn i + 1) % 2 := by
  have key : ∀ n : Fin 128, (Scalar.subi 1#32 (modW (BitVec.ofNat 32 n.val) 2#32) : BitVec 32).toNat = (n.val + 1) % 2 := by decide +kernel
  unfold otherW slotW; rw [stepW_eq]; exact key ⟨_, stepW_lt i⟩

theorem cond2_iff (i : grid0.Coords) : k0_cond2 i = 1#1 ↔ nn i = 0 := by
  have key : ∀ n : Fin 128, (Scalar.cmpi .ne (Scalar.extui (Scalar.cmpi .eq (BitVec.ofNat 32 n.val) 0#32) : BitVec 32) 0#32) = 1#1 ↔ n.val = 0 := by decide +kernel
  refine Iff.trans ?_ (key ⟨_, stepW_lt i⟩)
  rw [← stepW_eq]
  exact Iff.rfl

theorem cond3_iff (i : grid0.Coords) : k0_cond3 i = 1#1 ↔ nn i + 1 < 128 := by
  have key : ∀ n : Fin 128, (Scalar.cmpi .ne (Scalar.extui (Scalar.cmpi .slt (Scalar.addi (BitVec.ofNat 32 n.val) 1#32) 128#32) : BitVec 32) 0#32) = 1#1 ↔ n.val + 1 < 128 := by decide +kernel
  refine Iff.trans ?_ (key ⟨_, stepW_lt i⟩)
  rw [← stepW_eq]
  exact Iff.rfl

theorem inb_word (w : BitVec 32) (h : w.toNat < 5120) : ∀ a, (![0, w.toNat, 0, 0, 0] : Fin 5 → Nat) a + S1x1x8x64x128.size a ≤ S2x5120x8x64x128.size a
  | 0 => Nat.le_add_right 1 1
  | 1 => by show w.toNat + 1 ≤ 5120; omega
  | 2 => Nat.le_refl 8
  | 3 => Nat.le_refl 64
  | 4 => Nat.le_refl 128

end Cert.KernelIdeal.Body

end
-- ==== Proof.Body.lean ====
/- The kernel's body as a program over heads, pages and blocks: the printed body writes every head, page and block out
   once more; here each is one definition called for each of them. `Proof.BodyEq` proves the printed body IS this
   program. -/
module

public import proofs.«01_k».proof.KernelIdeal
public import proofs.«01_k».proof.Proof.Words

@[expose] public section

noncomputable section

namespace Cert.KernelIdeal.Body

open Idealize.ShloMosaic Idealize.SL.Sem
open Cert.KernelIdeal

variable {F : FTy → Type} [FloatOps F] [Named F]
variable [Facts]
open Facts Facts₀ Shapes1.Facts₀ K0.R1.Facts₀ K0.R2.Facts₀

/-- A piece of the body. -/
abbrev Pg (F : FTy → Type) (α : Type) := Prog (TpuEff nD τ sig (Elt F) Λ₀ .tc) α

/-- Load a window of a buffer, then go on. -/
abbrev ld {β : Type} {s : Shape} {e : EltTy} (m : Memref sig .tc .vmem s e) (off size : Fin s.rank → Nat) (inb : ∀ a, off a + size a ≤ s.size a)
    (h : 0 < (Rect.unit off size inb).toLoadRect.shape.numel) (k : ((Rect.unit off size inb).shape.Idx → Elt F e) → Pg F β) : Pg F β :=
  .op (.load m (Rect.unit off size inb).toLoadRect (View.loadsAt_vmem h)) k

/-- Store a window of a buffer, then go on. -/
abbrev st {β : Type} {s : Shape} {e : EltTy} (m : Memref sig .tc .vmem s e) (off size : Fin s.rank → Nat) (inb : ∀ a, off a + size a ≤ s.size a)
    (w : (Rect.unit off size inb).shape.Idx → Elt F e) (h : (m.access (Rect.unit off size inb)).Stores Finset.univ) (k : Pg F β) : Pg F β :=
  .op (.store m (Rect.unit off size inb) w Finset.univ h (.inl rfl)) fun _ => k

/-! ## The bank of the sequence: the block means and the values, filled at the first query block -/

/-- The rows that average each block of 256 keys: 1/256 on the block, zero elsewhere. -/
def blockMean : FVec F S16x4096 .f32 :=
  have x : IVec S16x4096 32 := iota .tc S16x4096 32 [1] iota_S16x4096_d1_w32
  let c : BitVec 32 := 256#32
  let z : BitVec 32 := 0#32
  have sx : IVec S16x4096 32 := subi (extui 32 (cmpi .sgt x (broadcast S16x4096 z)) natLt_1_32) (extui 32 (cmpi .slt x (broadcast S16x4096 z)) natLt_1_32)
  let sc : BitVec 32 := Scalar.subi (Scalar.extui (Scalar.cmpi .sgt c z)) (Scalar.extui (Scalar.cmpi .slt c z))
  have ne : IVec S16x4096 1 := andi (cmpi .ne sx (broadcast S16x4096 sc)) (cmpi .ne (remsi x (broadcast S16x4096 c)) (broadcast S16x4096 z))
  have blk : IVec S16x4096 32 := select ne (subi (divsi x (broadcast S16x4096 c)) (broadcast S16x4096 1#32)) (divsi x (broadcast S16x4096 c))
  select (cmpi .eq blk (iota .tc S16x4096 32 [0] iota_S16x4096_d0_w32))
    (broadcast S16x4096 (Scalar.ofBits .f32 0x3B800000#32 : F .f32)) (broadcast S16x4096 (Scalar.ofBits .f32 0x00000000#32 : F .f32))

/-- The row of ones (the other fifteen rows zero) stacked under the values. -/
def onesRow : FVec F S16x1024 .bf16 :=
  truncf .bf16 (sitofp .f32 (extui 32 (cmpi .eq (iota .tc S16x1024 32 [0] iota_S16x1024_d0_w32) (broadcast S16x1024 0#32)) natLt_1_32) : FVec F S16x1024 .f32) bitsLt_bf16_f32

/-- A head's block means from its keys. -/
def meansOf (k : Vec F S1x64x4096 .f32) : FVec F S1x16x64 .f32 :=
  shapeCast S1x16x64 (matmul dot_S16x4096_S64x4096_S16x64_1_1_0_0_n_n (some .fp32) blockMean (shapeCast S64x4096 k shapeCasts_S1x64x4096_S64x4096)
    (constant S16x64 .f32 0x00000000#32) : FVec F S16x64 .f32) shapeCasts_S16x64_S1x16x64

/-- A head's values of a group, as the second pass reads them. -/
def valuesOf (v : Vec F S1x64x1024 .f32) : FVec F S1x1x64x1024 .bf16 :=
  shapeCast S1x1x64x1024 (truncf .bf16 (shapeCast S64x1024 v shapeCasts_S1x64x1024_S64x1024 : FVec F S64x1024 .f32) bitsLt_bf16_f32 : FVec F S64x1024 .bf16) shapeCasts_S64x1024_S1x1x64x1024

/-- The ones under them. -/
def onesOf : FVec F S1x1x16x1024 .bf16 := shapeCast S1x1x16x1024 (onesRow : FVec F S16x1024 .bf16) shapeCasts_S16x1024_S1x1x16x1024

/-- Fill a head's block means. -/
def fillKm {β : Type} (arg6 : Memref sig .tc .vmem S1x256x4096 .f32) (arg11 : Memref sig .tc .vmem S4x16x64 .f32) (hh : Fin 4) (next : Pg F β) : Pg F β :=
  ld arg6 ![0, 64 * hh.val, 0] S1x64x4096.size (inb_kt hh) h_S1x64x4096 fun (k : Vec F S1x64x4096 .f32) =>
  ld arg11 ![hh.val, 0, 0] S1x16x64.size (inb_km hh) h_S1x16x64 fun (_ : Vec F S1x16x64 .f32) =>
  st arg11 ![hh.val, 0, 0] S1x16x64.size (inb_km hh) (meansOf k) (View.stores_vmem_bits_univ h_S1x16x64 rfl) next

/-- Fill the values of a group of keys and a head, and the ones under them. -/
def fillVb {β : Type} (arg7 : Memref sig .tc .vmem S1x256x4096 .f32) (arg12 : Memref sig .tc .vmem S4x4x80x1024 .bf16) (harg12 : arg12.IsWhole) (g hh : Fin 4) (next : Pg F β) : Pg F β :=
  ld arg7 ![0, 64 * hh.val, 1024 * g.val] S1x64x1024.size (inb_vt g hh) h_S1x64x1024 fun (v : Vec F S1x64x1024 .f32) =>
  ld arg12 ![g.val, hh.val, 0, 0] S1x1x64x1024.size (inb_vb g hh) h_S1x1x64x1024 fun (_ : Vec F S1x1x64x1024 .bf16) =>
  st arg12 ![g.val, hh.val, 0, 0] S1x1x64x1024.size (inb_vb g hh) (valuesOf v)
    (View.stores_vmem h_S1x1x64x1024 (harg12.storeExact_slice rfl _ (packed_vb g hh)) (fun _ => rfl)) <|
  ld arg12 ![g.val, hh.val, 64, 0] S1x1x16x1024.size (inb_vbOne g hh) h_S1x1x16x1024 fun (_ : Vec F S1x1x16x1024 .bf16) =>
  st arg12 ![g.val, hh.val, 64, 0] S1x1x16x1024.size (inb_vbOne g hh) onesOf
    (View.stores_vmem h_S1x1x16x1024 (harg12.storeExact_slice rfl _ (packed_vbOne g hh)) (fun _ => rfl)) next

/-- A piece run for each of a list, then on. -/
def each {α β : Type} (f : α → Pg F β → Pg F β) : List α → Pg F β → Pg F β
  | [], next => next
  | a :: l, next => f a (each f l next)

/-- The four heads. -/
abbrev heads : List (Fin 4) := [0, 1, 2, 3]

/-- The sixteen key blocks. -/
abbrev blocks : List (Fin 16) := [0, 1, 2, 3, 4, 5, 6, 7, 8, 9, 10, 11, 12, 13, 14, 15]

/-- The thirty-two pages of a step. -/
abbrev pages : List (Fin 32) := [0, 1, 2, 3, 4, 5, 6, 7, 8, 9, 10, 11, 12, 13, 14, 15, 16, 17, 18, 19, 20, 21, 22, 23, 24, 25, 26, 27, 28, 29, 30, 31]

/-- The whole filling. -/
def fill {β : Type} (arg6 arg7 : Memref sig .tc .vmem S1x256x4096 .f32) (arg11 : Memref sig .tc .vmem S4x16x64 .f32)
    (arg12 : Memref sig .tc .vmem S4x4x80x1024 .bf16) (harg12 : arg12.IsWhole) (next : Pg F β) : Pg F β :=
  each (fillKm arg6 arg11) heads <| each (fun g => each (fillVb arg7 arg12 harg12 g) heads) heads next

/-! ## Selection -/

/-- The queries, feature by query. -/
def queries (q : Vec F S1x256x256 .f32) : FVec F S256x256 .f32 := shapeCast S256x256 q shapeCasts_S1x256x256_S256x256

/-- The scaled queries with every head but one masked to zero. -/
def headQ (q : FVec F S256x256 .f32) (hh : Fin 4) : FVec F S256x256 .bf16 :=
  have sc : FVec F S256x256 .f32 := broadcast S256x256 (Named.named κ "scale" 0x3E38AA3B#32 : F .f32)
  have x : FVec F S256x256 .bf16 := truncf .bf16 (mulf q sc) bitsLt_bf16_f32
  have r : IVec S256x256 32 := iota .tc S256x256 32 [0] iota_S256x256_d0_w32
  select (andi (cmpi .sge r (broadcast S256x256 (BitVec.ofNat 32 (64 * hh.val)))) (cmpi .slt r (broadcast S256x256 (BitVec.ofNat 32 (64 * hh.val + 64)))))
    x (broadcast S256x256 (Scalar.ofBits .bf16 0x0000#16 : F .bf16))

/-- The number of each row of the bank. -/
def rowNo : IVec S16x256 32 := iota .tc S16x256 32 [0] iota_S16x256_d0_w32

/-- The blocks wholly before the query block. -/
def isPast (i : grid0.Coords) : IVec S16x256 1 := cmpi .slt rowNo (broadcast S16x256 (qiW i))

/-- The block scores of a head, past blocks only. -/
def blockScores (i : grid0.Coords) (q : FVec F S256x256 .f32) (km : Vec F S1x16x64 .f32) (hh : Fin 4) : FVec F S16x256 .f32 :=
  have m : FVec F S16x256 .f32 := matmul dot_S16x64_S64x256_S16x256_1_0_0_1_n_n (some .fp32) (shapeCast S16x64 km shapeCasts_S1x16x64_S16x64)
    (extractStridedSlice S64x256 ![64 * hh.val, 0] q (slices_q hh)) (constant S16x256 .f32 0x00000000#32)
  select (isPast i) m (broadcast S16x256 (Scalar.ofBits .f32 0xFF800000#32 : F .f32))

/-- One more block counted: 1 where block `k` beats a row's own block. -/
def countBlock (sb : FVec F S16x256 .f32) (cnt : IVec S16x256 32) (k : Fin 16) : IVec S16x256 32 :=
  have bt : FVec F S16x256 .f32 := broadcastTo S16x256 (extractStridedSlice S1x256 ![k.val, 0] sb (slices_row k)) broadcasts_S1x256_S16x256
  addi cnt (extui 32 (ori (cmpf .ogt bt sb) (andi (cmpf .oeq bt sb) (cmpi .sgt rowNo (broadcast S16x256 (BitVec.ofNat 32 k.val))))) natLt_1_32)

/-- How many blocks beat each. -/
def rankCount (sb : FVec F S16x256 .f32) : IVec S16x256 32 :=
  blocks.foldl (countBlock sb) (broadcast S16x256 0#32)

/-- Zero at the blocks a query sees, the mask's value at the others. -/
def biasRows (i : grid0.Coords) (sb : FVec F S16x256 .f32) : FVec F S16x256 .f32 :=
  select (ori (andi (cmpi .slt (rankCount sb) (broadcast S16x256 3#32)) (isPast i)) (cmpi .eq rowNo (broadcast S16x256 (qiW i))))
    (broadcast S16x256 (Scalar.ofBits .f32 0x00000000#32 : F .f32)) (broadcast S16x256 (Named.named κ "mask" 0xF149F2CA#32 : F .f32))

/-- The bias rows as they are stored. -/
def biasOf (i : grid0.Coords) (sb : FVec F S16x256 .f32) : FVec F S1x16x256 .f32 :=
  shapeCast S1x16x256 (biasRows i sb) shapeCasts_S16x256_S1x16x256

/-- Select a head's blocks. -/
def selectHead {β : Type} (arg11 : Memref sig .tc .vmem S4x16x64 .f32) (arg13 : Memref sig .tc .vmem S4x16x256 .f32) (i : grid0.Coords)
    (q : FVec F S256x256 .f32) (hh : Fin 4) (next : Pg F β) : Pg F β :=
  ld arg11 ![hh.val, 0, 0] S1x16x64.size (inb_km hh) h_S1x16x64 fun (km : Vec F S1x16x64 .f32) =>
  ld arg13 ![hh.val, 0, 0] S1x16x256.size (inb_bias hh) h_S1x16x256 fun (_ : Vec F S1x16x256 .f32) =>
  st arg13 ![hh.val, 0, 0] S1x16x256.size (inb_bias hh) (biasOf i (blockScores i q km hh)) (View.stores_vmem_bits_univ h_S1x16x256 rfl) next

/-! ## First pass: scores and running maxima -/

/-- A value for each of the four heads. -/
abbrev Four (α : Type) := α × α × α × α

/-- A head's entry of four. -/
def Four.at {α : Type} (m : Four α) : Fin 4 → α
  | 0 => m.1
  | 1 => m.2.1
  | 2 => m.2.2.1
  | 3 => m.2.2.2

/-- The mask's value in a row: the maximum of nothing. -/
def noMax : FVec F S1x256 .f32 := broadcast S1x256 (Named.named κ "mask" 0xF149F2CA#32 : F .f32)

/-- A bias row over a block's rows. -/
def overBlock (b : Vec F S1x1x256 .f32) : FVec F S256x256 .f32 := broadcastTo S256x256 (shapeCast S1x256 b shapeCasts_S1x1x256_S1x256) broadcasts_S1x256_S256x256

/-- Load the bias row of block `j` of a group. -/
def biasRow {β : Type} (arg13 : Memref sig .tc .vmem S4x16x256 .f32) (hh : Fin 4) (g : BitVec 32) (hg : g.toNat < 4) (j : Fin 4) (next : Vec F S1x1x256 .f32 → Pg F β) : Pg F β :=
  ld arg13 ![hh.val, (blkW g j).toNat, 0] S1x1x256.size (inb_b hh _ (blkW_lt g j hg)) h_S1x1x256 next

/-- Keys at or before the query, within the query's own block. -/
def causal : IVec S256x256 1 := cmpi .sle (iota .tc S256x256 32 [0] iota_S256x256_d0_w32) (iota .tc S256x256 32 [1] iota_S256x256_d1_w32)

/-- The own block's scores, later keys masked. -/
def ownScores (s : FVec F S256x256 .f32) : FVec F S256x256 .f32 :=
  select causal s (broadcast S256x256 (Named.named κ "mask" 0xF149F2CA#32 : F .f32))

/-- The scores of a group of four blocks before the own group. -/
def groupScores (k : Vec F S1x1024x256 .bf16) (w : FVec F S256x256 .bf16) (b0 b1 b2 b3 : Vec F S1x1x256 .f32) : FVec F S1024x256 .f32 :=
  have s : FVec F S1024x256 .f32 := matmul dot_S1024x256_S256x256_S1024x256_1_0_0_1_n_n none (shapeCast S1024x256 k shapeCasts_S1x1024x256_S1024x256) w (constant S1024x256 .f32 0x00000000#32)
  concatenate S1024x256 0 [⟨S256x256, addf (extractStridedSlice S256x256 ![0, 0] s slices_S1024x256_o0_0_S256x256) (overBlock b0)⟩,
    ⟨S256x256, addf (extractStridedSlice S256x256 ![256, 0] s slices_S1024x256_o256_0_S256x256) (overBlock b1)⟩,
    ⟨S256x256, addf (extractStridedSlice S256x256 ![512, 0] s slices_S1024x256_o512_0_S256x256) (overBlock b2)⟩,
    ⟨S256x256, addf (extractStridedSlice S256x256 ![768, 0] s slices_S1024x256_o768_0_S256x256) (overBlock b3)⟩] concatenates_S256x256_S256x256_S256x256_S256x256_S1024x256_d0

/-- A group before the own group, for one head: its scores stored, the maximum carried. -/
def group {β : Type} (arg5 : Memref sig .tc .vmem S1x4096x256 .bf16) (arg13 : Memref sig .tc .vmem S4x16x256 .f32) (arg14 : Memref sig .tc .vmem S4x4096x256 .f32)
    (g : BitVec 32) (hg : g.toNat < 4) (w : FVec F S256x256 .bf16) (hh : Fin 4) (m : FVec F S1x256 .f32) (next : FVec F S1x256 .f32 → Pg F β) : Pg F β :=
  ld arg5 ![0, (rowW g).toNat, 0] S1x1024x256.size (inb_k 1024 _ (row_le g hg _ (by decide))) h_S1x1024x256 fun (k : Vec F S1x1024x256 .bf16) =>
  biasRow arg13 hh g hg 0 fun b0 =>
  biasRow arg13 hh g hg 1 fun b1 =>
  biasRow arg13 hh g hg 2 fun b2 =>
  biasRow arg13 hh g hg 3 fun b3 =>
  ld arg14 ![hh.val, (rowW g).toNat, 0] S1x1024x256.size (inb_sc hh 1024 _ (row_le g hg _ (by decide))) h_S1x1024x256 fun (_ : Vec F S1x1024x256 .f32) =>
  st arg14 ![hh.val, (rowW g).toNat, 0] S1x1024x256.size (inb_sc hh 1024 _ (row_le g hg _ (by decide))) (shapeCast S1x1024x256 (groupScores k w b0 b1 b2 b3) shapeCasts_S1024x256_S1x1024x256) (View.stores_vmem_bits_univ h_S1x1024x256 rfl) <|
  next (maximumf m (shapeCast S1x256 (multiReduction .maximumf [0] S256 (groupScores k w b0 b1 b2 b3) 0xFF800000#32 reduces_S1024x256_S256 (.inl rfl) rfl) shapeCasts_S256_S1x256))

/-- The scores of the own group, of one block. -/
def own1Scores (k : Vec F S1x256x256 .bf16) (w : FVec F S256x256 .bf16) : FVec F S256x256 .f32 :=
  have s : FVec F S256x256 .f32 := matmul dot_S256x256_S256x256_S256x256_1_0_0_1_n_n none (shapeCast S256x256 k shapeCasts_S1x256x256_S256x256) w (constant S256x256 .f32 0x00000000#32)
  ownScores s

/-- The own group, of one block, for one head: its scores stored, the maximum carried. -/
def own1 {β : Type} (arg5 : Memref sig .tc .vmem S1x4096x256 .bf16) (arg13 : Memref sig .tc .vmem S4x16x256 .f32) (arg14 : Memref sig .tc .vmem S4x4096x256 .f32)
    (g : BitVec 32) (hg : g.toNat < 4) (w : FVec F S256x256 .bf16) (hh : Fin 4) (m : FVec F S1x256 .f32) (next : FVec F S1x256 .f32 → Pg F β) : Pg F β :=
  ld arg5 ![0, (rowW g).toNat, 0] S1x256x256.size (inb_k 256 _ (row_le g hg _ (by decide))) h_S1x256x256 fun (k : Vec F S1x256x256 .bf16) =>
  ld arg14 ![hh.val, (rowW g).toNat, 0] S1x256x256.size (inb_sc hh 256 _ (row_le g hg _ (by decide))) h_S1x256x256 fun (_ : Vec F S1x256x256 .f32) =>
  st arg14 ![hh.val, (rowW g).toNat, 0] S1x256x256.size (inb_sc hh 256 _ (row_le g hg _ (by decide))) (shapeCast S1x256x256 (own1Scores k w) shapeCasts_S256x256_S1x256x256) (View.stores_vmem_bits_univ h_S1x256x256 rfl) <|
  next (maximumf m (shapeCast S1x256 (multiReduction .maximumf [0] S256 (own1Scores k w) 0xFF800000#32 reduces_S256x256_S256 (.inl rfl) rfl) shapeCasts_S256_S1x256))

/-- The scores of the own group, of two blocks. -/
def own2Scores (k : Vec F S1x512x256 .bf16) (w : FVec F S256x256 .bf16) (b0 : Vec F S1x1x256 .f32) : FVec F S512x256 .f32 :=
  have s : FVec F S512x256 .f32 := matmul dot_S512x256_S256x256_S512x256_1_0_0_1_n_n none (shapeCast S512x256 k shapeCasts_S1x512x256_S512x256) w (constant S512x256 .f32 0x00000000#32)
  concatenate S512x256 0 [⟨S256x256, addf (extractStridedSlice S256x256 ![0, 0] s slices_S512x256_o0_0_S256x256) (overBlock b0)⟩,
    ⟨S256x256, ownScores (extractStridedSlice S256x256 ![256, 0] s slices_S512x256_o256_0_S256x256)⟩] concatenates_S256x256_S256x256_S512x256_d0

/-- The own group, of two blocks, for one head: its scores stored, the maximum carried. -/
def own2 {β : Type} (arg5 : Memref sig .tc .vmem S1x4096x256 .bf16) (arg13 : Memref sig .tc .vmem S4x16x256 .f32) (arg14 : Memref sig .tc .vmem S4x4096x256 .f32)
    (g : BitVec 32) (hg : g.toNat < 4) (w : FVec F S256x256 .bf16) (hh : Fin 4) (m : FVec F S1x256 .f32) (next : FVec F S1x256 .f32 → Pg F β) : Pg F β :=
  ld arg5 ![0, (rowW g).toNat, 0] S1x512x256.size (inb_k 512 _ (row_le g hg _ (by decide))) h_S1x512x256 fun (k : Vec F S1x512x256 .bf16) =>
  biasRow arg13 hh g hg 0 fun b0 =>
  ld arg14 ![hh.val, (rowW g).toNat, 0] S1x512x256.size (inb_sc hh 512 _ (row_le g hg _ (by decide))) h_S1x512x256 fun (_ : Vec F S1x512x256 .f32) =>
  st arg14 ![hh.val, (rowW g).toNat, 0] S1x512x256.size (inb_sc hh 512 _ (row_le g hg _ (by decide))) (shapeCast S1x512x256 (own2Scores k w b0) shapeCasts_S512x256_S1x512x256) (View.stores_vmem_bits_univ h_S1x512x256 rfl) <|
  next (maximumf m (shapeCast S1x256 (multiReduction .maximumf [0] S256 (own2Scores k w b0) 0xFF800000#32 reduces_S512x256_S256 (.inl rfl) rfl) shapeCasts_S256_S1x256))

/-- The scores of the own group, of three blocks. -/
def own3Scores (k : Vec F S1x768x256 .bf16) (w : FVec F S256x256 .bf16) (b0 b1 : Vec F S1x1x256 .f32) : FVec F S768x256 .f32 :=
  have s : FVec F S768x256 .f32 := matmul dot_S768x256_S256x256_S768x256_1_0_0_1_n_n none (shapeCast S768x256 k shapeCasts_S1x768x256_S768x256) w (constant S768x256 .f32 0x00000000#32)
  concatenate S768x256 0 [⟨S256x256, addf (extractStridedSlice S256x256 ![0, 0] s slices_S768x256_o0_0_S256x256) (overBlock b0)⟩,
    ⟨S256x256, addf (extractStridedSlice S256x256 ![256, 0] s slices_S768x256_o256_0_S256x256) (overBlock b1)⟩,
    ⟨S256x256, ownScores (extractStridedSlice S256x256 ![512, 0] s slices_S768x256_o512_0_S256x256)⟩] concatenates_S256x256_S256x256_S256x256_S768x256_d0

/-- The own group, of three blocks, for one head: its scores stored, the maximum carried. -/
def own3 {β : Type} (arg5 : Memref sig .tc .vmem S1x4096x256 .bf16) (arg13 : Memref sig .tc .vmem S4x16x256 .f32) (arg14 : Memref sig .tc .vmem S4x4096x256 .f32)
    (g : BitVec 32) (hg : g.toNat < 4) (w : FVec F S256x256 .bf16) (hh : Fin 4) (m : FVec F S1x256 .f32) (next : FVec F S1x256 .f32 → Pg F β) : Pg F β :=
  ld arg5 ![0, (rowW g).toNat, 0] S1x768x256.size (inb_k 768 _ (row_le g hg _ (by decide))) h_S1x768x256 fun (k : Vec F S1x768x256 .bf16) =>
  biasRow arg13 hh g hg 0 fun b0 =>
  biasRow arg13 hh g hg 1 fun b1 =>
  ld arg14 ![hh.val, (rowW g).toNat, 0] S1x768x256.size (inb_sc hh 768 _ (row_le g hg _ (by decide))) h_S1x768x256 fun (_ : Vec F S1x768x256 .f32) =>
  st arg14 ![hh.val, (rowW g).toNat, 0] S1x768x256.size (inb_sc hh 768 _ (row_le g hg _ (by decide))) (shapeCast S1x768x256 (own3Scores k w b0 b1) shapeCasts_S768x256_S1x768x256) (View.stores_vmem_bits_univ h_S1x768x256 rfl) <|
  next (maximumf m (shapeCast S1x256 (multiReduction .maximumf [0] S256 (own3Scores k w b0 b1) 0xFF800000#32 reduces_S768x256_S256 (.inl rfl) rfl) shapeCasts_S256_S1x256))

/-- The scores of the own group, of four blocks. -/
def own4Scores (k : Vec F S1x1024x256 .bf16) (w : FVec F S256x256 .bf16) (b0 b1 b2 : Vec F S1x1x256 .f32) : FVec F S1024x256 .f32 :=
  have s : FVec F S1024x256 .f32 := matmul dot_S1024x256_S256x256_S1024x256_1_0_0_1_n_n none (shapeCast S1024x256 k shapeCasts_S1x1024x256_S1024x256) w (constant S1024x256 .f32 0x00000000#32)
  concatenate S1024x256 0 [⟨S256x256, addf (extractStridedSlice S256x256 ![0, 0] s slices_S1024x256_o0_0_S256x256) (overBlock b0)⟩,
    ⟨S256x256, addf (extractStridedSlice S256x256 ![256, 0] s slices_S1024x256_o256_0_S256x256) (overBlock b1)⟩,
    ⟨S256x256, addf (extractStridedSlice S256x256 ![512, 0] s slices_S1024x256_o512_0_S256x256) (overBlock b2)⟩,
    ⟨S256x256, ownScores (extractStridedSlice S256x256 ![768, 0] s slices_S1024x256_o768_0_S256x256)⟩] concatenates_S256x256_S256x256_S256x256_S256x256_S1024x256_d0

/-- The own group, of four blocks, for one head: its scores stored, the maximum carried. -/
def own4 {β : Type} (arg5 : Memref sig .tc .vmem S1x4096x256 .bf16) (arg13 : Memref sig .tc .vmem S4x16x256 .f32) (arg14 : Memref sig .tc .vmem S4x4096x256 .f32)
    (g : BitVec 32) (hg : g.toNat < 4) (w : FVec F S256x256 .bf16) (hh : Fin 4) (m : FVec F S1x256 .f32) (next : FVec F S1x256 .f32 → Pg F β) : Pg F β :=
  ld arg5 ![0, (rowW g).toNat, 0] S1x1024x256.size (inb_k 1024 _ (row_le g hg _ (by decide))) h_S1x1024x256 fun (k : Vec F S1x1024x256 .bf16) =>
  biasRow arg13 hh g hg 0 fun b0 =>
  biasRow arg13 hh g hg 1 fun b1 =>
  biasRow arg13 hh g hg 2 fun b2 =>
  ld arg14 ![hh.val, (rowW g).toNat, 0] S1x1024x256.size (inb_sc hh 1024 _ (row_le g hg _ (by decide))) h_S1x1024x256 fun (_ : Vec F S1x1024x256 .f32) =>
  st arg14 ![hh.val, (rowW g).toNat, 0] S1x1024x256.size (inb_sc hh 1024 _ (row_le g hg _ (by decide))) (shapeCast S1x1024x256 (own4Scores k w b0 b1 b2) shapeCasts_S1024x256_S1x1024x256) (View.stores_vmem_bits_univ h_S1x1024x256 rfl) <|
  next (maximumf m (shapeCast S1x256 (multiReduction .maximumf [0] S256 (own4Scores k w b0 b1 b2) 0xFF800000#32 reduces_S1024x256_S256 (.inl rfl) rfl) shapeCasts_S256_S1x256))

/-- The four heads in turn, each carrying its own value. -/
def fourHeads {α β : Type} (f : Fin 4 → α → (α → Pg F β) → Pg F β) (m : Four α) (next : Four α → Pg F β) : Pg F β :=
  f 0 m.1 fun m0 => f 1 m.2.1 fun m1 => f 2 m.2.2.1 fun m2 => f 3 m.2.2.2 fun m3 => next (m0, m1, m2, m3)

/-! ## Page copies -/

/-- The semaphore of page `j` of slot `s`. -/
abbrev pageSem (arg16 : DmaSems sig S2x32) (s : Nat) (hs : s < 2) (j : Fin 32)
    (h : ∀ a, (![s, j.val] : Fin 2 → Nat) a + S1x1.size a ≤ S2x32.size a) : DmaSems sig S_ :=
  (arg16.slice (Rect.unit (s := S2x32) ![s, j.val] S1x1.size h)).squeeze S_ squeezes_S1x1_S_

/-- Page `j` of slot `s`. -/
abbrev pageBuf (arg15 : Memref sig .tc .vmem S2x32x8x64x128 .f32) (s : Nat) (hs : s < 2) (j : Fin 32) : Memref sig .tc .vmem S8x64x128 .f32 :=
  (arg15.slice (Rect.unit (s := S2x32x8x64x128) ![s, j.val, 0, 0, 0] S1x1x8x64x128.size (inb_pg s hs j)) (fun _ => rfl)).squeeze S8x64x128 squeezes_S1x1x8x64x128_S8x64x128

/-- Start the copy of page `j` into slot `s`: the table word at `off`, which `P` says is a page. -/
def startPage {β : Type} (arg3 : Memref sig .tc .smem S4096 .i32) (arg8 : Memref sig .tc .hbm S2x5120x8x64x128 .f32) (arg15 : Memref sig .tc .vmem S2x32x8x64x128 .f32) (arg16 : DmaSems sig S2x32)
    (s : Nat) (hs : s < 2) (off : Fin 32 → Nat) (hoff : ∀ j, ∀ a, (![off j] : Fin 1 → Nat) a + S1.size a ≤ S4096.size a)
    (P : BitVec 32 → Prop) (dec : ∀ w, Decidable (P w))
    (hP : ∀ w, P w → ∀ a, (![0, w.toNat, 0, 0, 0] : Fin 5 → Nat) a + S1x1x8x64x128.size a ≤ S2x5120x8x64x128.size a) (j : Fin 32) (next : Pg F β) : Pg F β :=
  .op (.load arg3 (Rect.unit (s := S4096) ![off j] S1.size (hoff j)).toLoadRect (View.loadsAt_rect (View.loads_smem_one rfl numel1_S1))) fun f =>
  have w : BitVec 32 := f (Shape.Idx.first (numel1_S1.symm ▸ Nat.one_pos))
  .op (.assume (P w) (dec w)) fun hw =>
  .op (.enqueueDma ((arg8.slice (Rect.unit (s := S2x5120x8x64x128) ![0, w.toNat, 0, 0, 0] S1x1x8x64x128.size (hP w hw.down)) (fun _ => rfl)).squeeze S8x64x128 squeezes_S1x1x8x64x128_S8x64x128)
    (.here (pageBuf arg15 s hs j)) (.dma (pageSem arg16 s hs j (inb_sem s hs j)).sem) ((View.wordExact_bits rfl).reshape _ _) ((View.wordExact_bits rfl).reshape _ _) ⟨Or.inl rfl, trivial⟩) fun _ => next

/-- Wait for page `j` of a slot. -/
def waitPage {β : Type} (arg15 : Memref sig .tc .vmem S2x32x8x64x128 .f32) (arg16 : DmaSems sig S2x32) (s : Nat) (hs : s < 2) (j : Fin 32) (next : Pg F β) : Pg F β :=
  .op (.waitDma2 (pageSem arg16 s hs j (inb_sem s hs j)).sem (pageBuf arg15 s hs j) (pageBuf arg15 s hs j) ((View.wordExact_bits rfl).reshape _ _) ((View.wordExact_bits rfl).reshape _ _)) fun _ => next

/-! ## Page sums -/

/-- One page pair's sum put in its lane. -/
def pairSum (i : grid0.Coords) (acc : FVec F S64x128 .f32) (a b : Vec F S1x1x1x64x128 .f32) (p : Fin 16) : FVec F S64x128 .f32 :=
  select (cmpi .eq (iota .tc S64x128 32 [1] iota_S64x128_d1_w32) (broadcast S64x128 (Scalar.addi (Scalar.muli (quarterW i) 16#32) (BitVec.ofNat 32 p.val))))
    (broadcastTo S64x128 (shapeCast S64x1 (shapeCast S64x1
      (multiReduction .add [1] S64 (addf (shapeCast S64x128 a shapeCasts_S1x1x1x64x128_S64x128) (shapeCast S64x128 b shapeCasts_S1x1x1x64x128_S64x128) : FVec F S64x128 .f32) 0x00000000#32 reduces_S64x128_S64 (.inl rfl) rfl)
      shapeCasts_S64_S64x1) shapeCasts_S64x1_S64x1) broadcasts_S64x1_S64x128) acc

/-- The sums of a head's page pairs, each in its lane. -/
def pairSums {β : Type} (arg15 : Memref sig .tc .vmem S2x32x8x64x128 .f32) (i : grid0.Coords) (h8 : Fin 8) (next : FVec F S64x128 .f32 → Pg F β) : List (Fin 16) → FVec F S64x128 .f32 → Pg F β
  | [], acc => next acc
  | p :: l, acc =>
    ld arg15 ![(slotW i).toNat, 2 * p.val, h8.val, 0, 0] S1x1x1x64x128.size (inb_page _ (slotW_lt i) _ (by have := p.2; omega) h8) h_S1x1x1x64x128 fun (a : Vec F S1x1x1x64x128 .f32) =>
    ld arg15 ![(slotW i).toNat, 2 * p.val + 1, h8.val, 0, 0] S1x1x1x64x128.size (inb_page _ (slotW_lt i) _ (by have := p.2; omega) h8) h_S1x1x1x64x128 fun (b : Vec F S1x1x1x64x128 .f32) =>
    pairSums arg15 i h8 next l (pairSum i acc a b p)

/-- A head's page sums merged into their block. -/
def mergeHead {β : Type} (arg10 : Memref sig .tc .vmem S1x8x64x128 .f32) (arg15 : Memref sig .tc .vmem S2x32x8x64x128 .f32) (i : grid0.Coords) (h8 : Fin 8) (next : Pg F β) : Pg F β :=
  ld arg10 ![0, h8.val, 0, 0] S1x1x64x128.size (inb_ks h8) h_S1x1x64x128 fun (x : Vec F S1x1x64x128 .f32) =>
  pairSums arg15 i h8 (fun y =>
    ld arg10 ![0, h8.val, 0, 0] S1x1x64x128.size (inb_ks h8) h_S1x1x64x128 fun (_ : Vec F S1x1x64x128 .f32) =>
    st arg10 ![0, h8.val, 0, 0] S1x1x64x128.size (inb_ks h8) (shapeCast S1x1x64x128 y shapeCasts_S64x128_S1x1x64x128) (View.stores_vmem_bits_univ h_S1x1x64x128 rfl) next)
    blocks (shapeCast S64x128 x shapeCasts_S1x1x64x128_S64x128)

/-! ## Second pass: the weighted values -/

/-- The weighted values of one block added up. -/
def weighOf1 (s : Vec F S1x256x256 .f32) (v : Vec F S1x1x80x256 .bf16) (m : FVec F S1x256 .f32) (acc : FVec F S80x256 .f32) : FVec F S80x256 .f32 :=
  have p : FVec F S256x256 .f32 := exp2 (subf (shapeCast S256x256 s shapeCasts_S1x256x256_S256x256) (broadcastTo S256x256 m broadcasts_S1x256_S256x256))
  addf acc (matmul dot_S80x256_S256x256_S80x256_1_0_0_1_n_n none (shapeCast S80x256 v shapeCasts_S1x1x80x256_S80x256) (truncf .bf16 p bitsLt_bf16_f32) (constant S80x256 .f32 0x00000000#32))

/-- One block of a group for one head. -/
def weigh1 {β : Type} (arg12 : Memref sig .tc .vmem S4x4x80x1024 .bf16) (arg14 : Memref sig .tc .vmem S4x4096x256 .f32)
    (g : BitVec 32) (hg : g.toNat < 4) (m : FVec F S1x256 .f32) (hh : Fin 4) (acc : FVec F S80x256 .f32) (next : FVec F S80x256 .f32 → Pg F β) : Pg F β :=
  ld arg14 ![hh.val, (rowW g).toNat, 0] S1x256x256.size (inb_sc hh 256 _ (row_le g hg _ (by decide))) h_S1x256x256 fun (s : Vec F S1x256x256 .f32) =>
  ld arg12 ![g.toNat, hh.val, 0, 0] S1x1x80x256.size (inb_v hh 256 (by decide) g hg) h_S1x1x80x256 fun (v : Vec F S1x1x80x256 .bf16) =>
  next (weighOf1 s v m acc)

/-- The weighted values of two blocks added up. -/
def weighOf2 (s : Vec F S1x512x256 .f32) (v : Vec F S1x1x80x512 .bf16) (m : FVec F S1x256 .f32) (acc : FVec F S80x256 .f32) : FVec F S80x256 .f32 :=
  have p : FVec F S512x256 .f32 := exp2 (subf (shapeCast S512x256 s shapeCasts_S1x512x256_S512x256) (broadcastTo S512x256 m broadcasts_S1x256_S512x256))
  addf acc (matmul dot_S80x512_S512x256_S80x256_1_0_0_1_n_n none (shapeCast S80x512 v shapeCasts_S1x1x80x512_S80x512) (truncf .bf16 p bitsLt_bf16_f32) (constant S80x256 .f32 0x00000000#32))

/-- Two blocks of a group for one head. -/
def weigh2 {β : Type} (arg12 : Memref sig .tc .vmem S4x4x80x1024 .bf16) (arg14 : Memref sig .tc .vmem S4x4096x256 .f32)
    (g : BitVec 32) (hg : g.toNat < 4) (m : FVec F S1x256 .f32) (hh : Fin 4) (acc : FVec F S80x256 .f32) (next : FVec F S80x256 .f32 → Pg F β) : Pg F β :=
  ld arg14 ![hh.val, (rowW g).toNat, 0] S1x512x256.size (inb_sc hh 512 _ (row_le g hg _ (by decide))) h_S1x512x256 fun (s : Vec F S1x512x256 .f32) =>
  ld arg12 ![g.toNat, hh.val, 0, 0] S1x1x80x512.size (inb_v hh 512 (by decide) g hg) h_S1x1x80x512 fun (v : Vec F S1x1x80x512 .bf16) =>
  next (weighOf2 s v m acc)

/-- The weighted values of three blocks added up. -/
def weighOf3 (s : Vec F S1x768x256 .f32) (v : Vec F S1x1x80x768 .bf16) (m : FVec F S1x256 .f32) (acc : FVec F S80x256 .f32) : FVec F S80x256 .f32 :=
  have p : FVec F S768x256 .f32 := exp2 (subf (shapeCast S768x256 s shapeCasts_S1x768x256_S768x256) (broadcastTo S768x256 m broadcasts_S1x256_S768x256))
  addf acc (matmul dot_S80x768_S768x256_S80x256_1_0_0_1_n_n none (shapeCast S80x768 v shapeCasts_S1x1x80x768_S80x768) (truncf .bf16 p bitsLt_bf16_f32) (constant S80x256 .f32 0x00000000#32))

/-- Three blocks of a group for one head. -/
def weigh3 {β : Type} (arg12 : Memref sig .tc .vmem S4x4x80x1024 .bf16) (arg14 : Memref sig .tc .vmem S4x4096x256 .f32)
    (g : BitVec 32) (hg : g.toNat < 4) (m : FVec F S1x256 .f32) (hh : Fin 4) (acc : FVec F S80x256 .f32) (next : FVec F S80x256 .f32 → Pg F β) : Pg F β :=
  ld arg14 ![hh.val, (rowW g).toNat, 0] S1x768x256.size (inb_sc hh 768 _ (row_le g hg _ (by decide))) h_S1x768x256 fun (s : Vec F S1x768x256 .f32) =>
  ld arg12 ![g.toNat, hh.val, 0, 0] S1x1x80x768.size (inb_v hh 768 (by decide) g hg) h_S1x1x80x768 fun (v : Vec F S1x1x80x768 .bf16) =>
  next (weighOf3 s v m acc)

/-- The weighted values of four blocks added up. -/
def weighOf4 (s : Vec F S1x1024x256 .f32) (v : Vec F S1x1x80x1024 .bf16) (m : FVec F S1x256 .f32) (acc : FVec F S80x256 .f32) : FVec F S80x256 .f32 :=
  have p : FVec F S1024x256 .f32 := exp2 (subf (shapeCast S1024x256 s shapeCasts_S1x1024x256_S1024x256) (broadcastTo S1024x256 m broadcasts_S1x256_S1024x256))
  addf acc (matmul dot_S80x1024_S1024x256_S80x256_1_0_0_1_n_n none (shapeCast S80x1024 v shapeCasts_S1x1x80x1024_S80x1024) (truncf .bf16 p bitsLt_bf16_f32) (constant S80x256 .f32 0x00000000#32))

/-- Four blocks of a group for one head. -/
def weigh4 {β : Type} (arg12 : Memref sig .tc .vmem S4x4x80x1024 .bf16) (arg14 : Memref sig .tc .vmem S4x4096x256 .f32)
    (g : BitVec 32) (hg : g.toNat < 4) (m : FVec F S1x256 .f32) (hh : Fin 4) (acc : FVec F S80x256 .f32) (next : FVec F S80x256 .f32 → Pg F β) : Pg F β :=
  ld arg14 ![hh.val, (rowW g).toNat, 0] S1x1024x256.size (inb_sc hh 1024 _ (row_le g hg _ (by decide))) h_S1x1024x256 fun (s : Vec F S1x1024x256 .f32) =>
  ld arg12 ![g.toNat, hh.val, 0, 0] S1x1x80x1024.size (inb_v hh 1024 (by decide) g hg) h_S1x1x80x1024 fun (v : Vec F S1x1x80x1024 .bf16) =>
  next (weighOf4 s v m acc)

/-! ## The output block -/

/-- A head's weighted values over its weights' sum. -/
def headOut (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

/-- The output block of four heads. -/
def outBlock (acc : Four (FVec F S80x256 .f32)) : FVec F S256x256 .bf16 :=
  truncf .bf16 (transpose S256x256 [1, 0] (concatenate S256x256 0 [⟨S64x256, headOut acc.1⟩, ⟨S64x256, headOut acc.2.1⟩, ⟨S64x256, headOut acc.2.2.1⟩, ⟨S64x256, headOut acc.2.2.2⟩]
    concatenates_S64x256_S64x256_S64x256_S64x256_S256x256_d0 : FVec F S256x256 .f32) transposes_S256x256_p1_0_S256x256) bitsLt_bf16_f32

/-! ## The body, phase by phase -/

section Phases

variable (i : grid0.Coords) (arg3 : Memref sig .tc .smem S4096 .i32) (arg4 : Memref sig .tc .vmem S1x256x256 .f32) (arg5 : Memref sig .tc .vmem S1x4096x256 .bf16)
  (arg6 : Memref sig .tc .vmem S1x256x4096 .f32) (arg7 : Memref sig .tc .vmem S1x256x4096 .f32) (arg8 : Memref sig .tc .hbm S2x5120x8x64x128 .f32)
  (arg9 : Memref sig .tc .vmem S1x256x256 .bf16) (harg9 : arg9.IsWhole) (arg10 : Memref sig .tc .vmem S1x8x64x128 .f32)
  (arg11 : Memref sig .tc .vmem S4x16x64 .f32) (arg12 : Memref sig .tc .vmem S4x4x80x1024 .bf16) (harg12 : arg12.IsWhole)
  (arg13 : Memref sig .tc .vmem S4x16x256 .f32) (arg14 : Memref sig .tc .vmem S4x4096x256 .f32) (arg15 : Memref sig .tc .vmem S2x32x8x64x128 .f32) (arg16 : DmaSems sig S2x32)

/-- Whether the query block is the first of its sequence, as the kernel asks it. -/
def isFirst : BitVec 1 := Scalar.cmpi .ne (Scalar.extui (Scalar.cmpi .eq (qiW i) 0#32) : BitVec 32) 0#32

/-- The filling, at the first query block. -/
def phFill {β : Type} (next : Pg F β) : Pg F β :=
  if isFirst i = 1#1 then fill arg6 arg7 arg11 arg12 harg12 next else next

/-- The selection. -/
def phSelect {β : Type} (next : FVec F S256x256 .f32 → Pg F β) : Pg F β :=
  ld arg4 ![0, 0, 0] S1x256x256.size inb_S1x256x256_S1x256x256_0_0_0 h_S1x256x256 fun (q : Vec F S1x256x256 .f32) =>
  each (selectHead arg11 arg13 i (queries q)) heads (next (queries q))

/-- The scores of the groups before the own group. -/
def phScores (q : FVec F S256x256 .f32) : Pg F (Four (FVec F S1x256 .f32)) :=
  Scf.Loop.for (k0_t1_loop i) (k0_t1_ok i) (noMax, noMax, noMax, noMax) fun k m =>
    fourHeads (fun hh => group arg5 arg13 arg14 (trip1 i k) (trip1_lt i k) (headQ q hh) hh) m pure

/-- Its remainder loop, which takes no trip. -/
def phScores' (q : FVec F S256x256 .f32) (m : Four (FVec F S1x256 .f32)) : Pg F (Four (FVec F S1x256 .f32)) :=
  Scf.Loop.for (k0_t2_loop i) (k0_t2_ok i) m fun k m =>
    fourHeads (fun hh => group arg5 arg13 arg14 (trip2 i k) (trip2_lt i k) (headQ q hh) hh) m pure

/-- The first step starts its own pages. -/
def phFirst {β : Type} (next : Pg F β) : Pg F β :=
  if h2 : k0_cond2 i = 1#1 then
    each (startPage arg3 arg8 arg15 arg16 0 (by decide) (fun j => j.val) inb_first (k0_chk1 i) (k0_chk1.dec i) (fun _ hw => hw h2)) pages next
  else next

/-- Every step but the last starts the next step's pages. -/
def phNext {β : Type} (next : Pg F β) : Pg F β :=
  if h3 : k0_cond3 i = 1#1 then
    each (startPage arg3 arg8 arg15 arg16 (otherW i).toNat (otherW_lt i) (fun j => (nextW i j).toNat) (inb_next i h3) (k0_chk33 i) (k0_chk33.dec i) (fun _ hw => hw h3)) pages next
  else next

/-- The block of page sums is cleared at the first of its four steps. -/
def phClear {β : Type} (next : Pg F β) : Pg F β :=
  if k0_cond4 i = 1#1 then
    ld arg10 ![0, 0, 0, 0] S1x8x64x128.size inb_S1x8x64x128_S1x8x64x128_0_0_0_0 h_S1x8x64x128 fun (_ : Vec F S1x8x64x128 .f32) =>
    st arg10 ![0, 0, 0, 0] S1x8x64x128.size inb_S1x8x64x128_S1x8x64x128_0_0_0_0 (broadcast S1x8x64x128 (Scalar.ofBits .f32 0x00000000#32 : F .f32)) (View.stores_vmem_bits_univ h_S1x8x64x128 rfl) next
  else next

/-- The waits. -/
def phWait {β : Type} (next : Pg F β) : Pg F β := each (waitPage arg15 arg16 (slotW i).toNat (slotW_lt i)) pages next

/-- A branch of the first switch: four heads' page sums, then the own group's scores. -/
def br1 {β : Type} (f : Fin 4 → FVec F S1x256 .f32 → (FVec F S1x256 .f32 → Pg F β) → Pg F β) (m : Four (FVec F S1x256 .f32)) (next : Four (FVec F S1x256 .f32) → Pg F β) : Pg F β :=
  each (mergeHead arg10 arg15 i) [0, 1, 2, 3] <| fourHeads f m next

/-- The first switch, on the query block's place in its group. -/
def phOwn {β : Type} (q : FVec F S256x256 .f32) (m : Four (FVec F S1x256 .f32)) (next : Four (FVec F S1x256 .f32) → Pg F β) : Pg F β :=
  if k0_cond5 i = 1#1 then
    if k0_cond6 i = 1#1 then
      if k0_cond7 i = 1#1 then br1 i arg10 arg15 (fun hh => own4 arg5 arg13 arg14 (ownW i) (ownW_lt i) (headQ q hh) hh) m next
      else br1 i arg10 arg15 (fun hh => own3 arg5 arg13 arg14 (ownW i) (ownW_lt i) (headQ q hh) hh) m next
    else br1 i arg10 arg15 (fun hh => own2 arg5 arg13 arg14 (ownW i) (ownW_lt i) (headQ q hh) hh) m next
  else br1 i arg10 arg15 (fun hh => own1 arg5 arg13 arg14 (ownW i) (ownW_lt i) (headQ q hh) hh) m next

/-- No weighted value yet. -/
def noAcc : FVec F S80x256 .f32 := broadcast S80x256 (Scalar.ofBits .f32 0x00000000#32 : F .f32)

/-- The weighted values of the groups before the own group. -/
def phWeigh (m : Four (FVec F S1x256 .f32)) : Pg F (Four (FVec F S80x256 .f32)) :=
  Scf.Loop.for (k0_t3_loop i) (k0_t3_ok i) (noAcc, noAcc, noAcc, noAcc) fun k acc =>
    fourHeads (fun hh => weigh4 arg12 arg14 (trip3 i k) (trip3_lt i k) (m.at hh) hh) acc pure

/-- Its remainder loop, which takes no trip. -/
def phWeigh' (m : Four (FVec F S1x256 .f32)) (acc : Four (FVec F S80x256 .f32)) : Pg F (Four (FVec F S80x256 .f32)) :=
  Scf.Loop.for (k0_t4_loop i) (k0_t4_ok i) acc fun k acc =>
    fourHeads (fun hh => weigh4 arg12 arg14 (trip4 i k) (trip4_lt i k) (m.at hh) hh) acc pure

/-- A branch of the second switch: the other heads' page sums, then the own group's weighted values. -/
def br2 {β : Type} (f : Fin 4 → FVec F S80x256 .f32 → (FVec F S80x256 .f32 → Pg F β) → Pg F β) (acc : Four (FVec F S80x256 .f32)) (next : Four (FVec F S80x256 .f32) → Pg F β) : Pg F β :=
  each (mergeHead arg10 arg15 i) [4, 5, 6, 7] <| fourHeads f acc next

/-- The second switch. -/
def phWeighOwn {β : Type} (m : Four (FVec F S1x256 .f32)) (acc : Four (FVec F S80x256 .f32)) (next : Four (FVec F S80x256 .f32) → Pg F β) : Pg F β :=
  if k0_cond8 i = 1#1 then
    if k0_cond9 i = 1#1 then
      if k0_cond10 i = 1#1 then br2 i arg10 arg15 (fun hh => weigh4 arg12 arg14 (ownW i) (ownW_lt i) (m.at hh) hh) acc next
      else br2 i arg10 arg15 (fun hh => weigh3 arg12 arg14 (ownW i) (ownW_lt i) (m.at hh) hh) acc next
    else br2 i arg10 arg15 (fun hh => weigh2 arg12 arg14 (ownW i) (ownW_lt i) (m.at hh) hh) acc next
  else br2 i arg10 arg15 (fun hh => weigh1 arg12 arg14 (ownW i) (ownW_lt i) (m.at hh) hh) acc next

/-- The output block stored. -/
def phOut (acc : Four (FVec F S80x256 .f32)) : Pg F PUnit :=
  ld arg9 ![0, 0, 0] S1x256x256.size inb_S1x256x256_S1x256x256_0_0_0 h_S1x256x256 fun (_ : Vec F S1x256x256 .bf16) =>
  st arg9 ![0, 0, 0] S1x256x256.size inb_S1x256x256_S1x256x256_0_0_0 (shapeCast S1x256x256 (outBlock acc) shapeCasts_S256x256_S1x256x256)
    (View.stores_vmem h_S1x256x256 (harg9.storeExact_slice rfl _ packedbf16_S1x256x256_S1x256x256_0_0_0) (fun _ => rfl)) (pure ⟨⟩)

/-- From the second pass on. -/
def body5 (m : Four (FVec F S1x256 .f32)) : Pg F PUnit := do
  let acc ← phWeigh i arg12 arg14 m
  let acc ← phWeigh' i arg12 arg14 m acc
  phWeighOwn i arg10 arg12 arg14 arg15 m acc (phOut arg9 harg9)

/-- From the last waits on. -/
def body4 (q : FVec F S256x256 .f32) (m : Four (FVec F S1x256 .f32)) : Pg F PUnit :=
  phOwn i arg5 arg10 arg13 arg14 arg15 q m (body5 i arg9 harg9 arg10 arg12 arg14 arg15)

/-- From the copies on. -/
def body3 (q : FVec F S256x256 .f32) (m : Four (FVec F S1x256 .f32)) : Pg F PUnit :=
  phFirst i arg3 arg8 arg15 arg16 <| phNext i arg3 arg8 arg15 arg16 <| phClear i arg10 <|
  phWait i arg15 arg16 (body4 i arg5 arg9 harg9 arg10 arg12 arg13 arg14 arg15 q m)

/-- From the scores on. -/
def body2 (q : FVec F S256x256 .f32) : Pg F PUnit := do
  let m ← phScores i arg5 arg13 arg14 q
  let m ← phScores' i arg5 arg13 arg14 q m
  body3 i arg3 arg5 arg8 arg9 harg9 arg10 arg12 arg13 arg14 arg15 arg16 q m

/-- The whole body. -/
def body : Pg F PUnit :=
  phFill i arg6 arg7 arg11 arg12 harg12 <|
  phSelect i arg4 arg11 arg13 (body2 i arg3 arg5 arg8 arg9 harg9 arg10 arg12 arg13 arg14 arg15 arg16)

end Phases

end Cert.KernelIdeal.Body

end
-- ==== Proof.Rules.lean ====
/- The steps of the body over buffers held by their values: a load hands over a window of them, a store puts one. A
   buffer's values after each phase are a plain function of the values before it. -/
module

public import proofs.«01_k».proof.Proof.Body
public import Idealize.ShloMosaic.Lib.VecWindow
public import Idealize.ShloMosaic.Lib.Tactic
public import Idealize.ShloMosaic.Lib.Transfers

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal

variable {F : FTy → Type} [FloatOps F] [Named F]
variable [Facts]
open Facts Facts₀ Shapes1.Facts₀ K0.R1.Facts₀ K0.R2.Facts₀

local notation "𝕄" => MT nD τ sig Unit (Elt F) ℕ (Pipeline.UD sig nD τ) ℕ

/-- A piece of the body run to a post. -/
abbrev Run (c : Dev nD) {β : Type} (p : Pg F β) (Q : β → sProp 𝕄) : sProp 𝕄 :=
  wp frame (wpE (defs₀ (F := F)) Variants.none (c : Thread nD τ) none) Set.univ p Q

/-- A vector memory buffer held whole at values. -/
abbrev Has (c : Dev nD) {s : Shape} {e : EltTy} (m : Memref sig .tc .vmem s e) (X : s.Idx → Elt F e) : sProp 𝕄 :=
  owns (c : Thread nD τ) m fullShare X

variable (c : Dev nD) {β : Type}

/-- A load hands over a window. -/
theorem run_ld (Q : β → sProp 𝕄) {s : Shape} {e : EltTy} (m : Memref sig .tc .vmem s e) (X : s.Idx → Elt F e) (off size : Fin s.rank → Nat) (inb : ∀ a, off a + size a ≤ s.size a)
    (h : 0 < (Rect.unit off size inb).toLoadRect.shape.numel) (k : ((Rect.unit off size inb).shape.Idx → Elt F e) → Pg F β) :
    Has c m X ⊢ iprop((Has c m X -∗ Run c (k (window X off size inb)) Q) -∗ Run c (ld m off size inb h k) Q) := by
  have e : (Has c m X : sProp 𝕄) ⊢ iprop(∃ f, ⌜m.view.read (Elt F) f = X⌝ ∗ (m.view.loc (c : Thread nD τ) ↦[m.view.set]{fullShare} f)) := .rfl
  have e' : iprop(∃ f, ⌜m.view.read (Elt F) f = X⌝ ∗ (m.view.loc (c : Thread nD τ) ↦[m.view.set]{fullShare} f)) ⊢ (Has c m X : sProp 𝕄) := .rfl
  iintro H Hk
  ihave H := e $$ H
  icases H with ⟨%f, %hf, H⟩
  subst hf
  iapply (wp_load Variants.none (c : Thread nD τ) none Set.univ (View.setOn_subset_set _ _)) $$ H
  iintro H
  rw [View.readAt_unit m.view f inb rfl inb]
  iapply Hk
  iapply e'
  iexists f
  isplitr
  · ipureintro; rfl
  · iexact H

/-- A store puts a window. -/
theorem run_st (Q : β → sProp 𝕄) {s : Shape} {e : EltTy} (m : Memref sig .tc .vmem s e) (X : s.Idx → Elt F e) (off size : Fin s.rank → Nat) (inb : ∀ a, off a + size a ≤ s.size a)
    (w : (Rect.unit off size inb).shape.Idx → Elt F e) (h : (m.access (Rect.unit off size inb)).Stores Finset.univ) (k : Pg F β) :
    Has c m X ⊢ iprop((Has c m (put X off size w) -∗ Run c k Q) -∗ Run c (st m off size inb w h k) Q) := by
  have e : (Has c m X : sProp 𝕄) ⊢ iprop(∃ f, ⌜m.view.read (Elt F) f = X⌝ ∗ (m.view.loc (c : Thread nD τ) ↦[m.view.set]{fullShare} f)) := .rfl
  have e' : iprop(∃ f, ⌜m.view.read (Elt F) f = put X off size w⌝ ∗ (m.view.loc (c : Thread nD τ) ↦[m.view.set]{fullShare} f)) ⊢ (Has c m (put X off size w) : sProp 𝕄) := .rfl
  iintro H Hk
  ihave H := e $$ H
  icases H with ⟨%f, %hf, H⟩
  subst hf
  iapply (wp_store Variants.none (c : Thread nD τ) none Set.univ (m := m) (r := Rect.unit off size inb) (w := w) (Mk := Finset.univ) (hx := h)
    (k := fun _ => k) (S := m.view.set) (f := f) (View.set_slice_subset m.view _)) $$ H
  iintro H
  iapply Hk
  iapply e'
  iexists ((m.access (Rect.unit off size inb)).write (Elt F) f w Finset.univ)
  isplitr
  · ipureintro
    exact View.read_writes_cons_put m.view f inb w [] rfl
  · iexact H

/-- Each of a list in turn, by what one does to a state. -/
theorem run_each (Q : β → sProp 𝕄) {α σ : Type} (R : σ → sProp 𝕄) (step : σ → α → σ) (f : α → Pg F β → Pg F β)
    (hf : ∀ a s next, R s ⊢ iprop((R (step s a) -∗ Run c next Q) -∗ Run c (f a next) Q)) :
    ∀ (l : List α) (s : σ) (next : Pg F β), R s ⊢ iprop((R (l.foldl step s) -∗ Run c next Q) -∗ Run c (each f l next) Q)
  | [], s, next => by
    iintro H Hk
    simp only [each, List.foldl_nil]
    iapply Hk $$ H
  | a :: l, s, next => by
    iintro H Hk
    simp only [each, List.foldl_cons]
    iapply (hf a s (each f l next)) $$ H
    iintro H
    iapply (run_each Q R step f hf l (step s a) next) $$ H Hk

/-- The four heads in turn, by what one does to a state and its carried value. -/
def four {α σ : Type} (step : Fin 4 → α → σ → σ) (val : Fin 4 → α → σ → α) (m : Four α) (s : σ) : Four α × σ :=
  let s1 := step 0 m.1 s
  let s2 := step 1 m.2.1 s1
  let s3 := step 2 m.2.2.1 s2
  ((val 0 m.1 s, val 1 m.2.1 s1, val 2 m.2.2.1 s2, val 3 m.2.2.2 s3), step 3 m.2.2.2 s3)

theorem run_four (Q : β → sProp 𝕄) {α σ : Type} (R : σ → sProp 𝕄) (step : Fin 4 → α → σ → σ) (val : Fin 4 → α → σ → α) (f : Fin 4 → α → (α → Pg F β) → Pg F β)
    (hf : ∀ a x s next, R s ⊢ iprop((R (step a x s) -∗ Run c (next (val a x s)) Q) -∗ Run c (f a x next) Q))
    (m : Four α) (s : σ) (next : Four α → Pg F β) :
    R s ⊢ iprop((R (four step val m s).2 -∗ Run c (next (four step val m s).1) Q) -∗ Run c (fourHeads f m next) Q) := by
  iintro H Hk
  unfold fourHeads four
  iapply (hf 0 m.1 s _) $$ H
  iintro H
  iapply (hf 1 m.2.1 _ _) $$ H
  iintro H
  iapply (hf 2 m.2.2.1 _ _) $$ H
  iintro H
  iapply (hf 3 m.2.2.2 _ _) $$ H
  iintro H
  iapply Hk $$ H

/-- The first `k` trips of a loop. -/
def upTo {n : Nat} {σ : Type} (step : Fin n → σ → σ) (s : σ) : Nat → σ
  | 0 => s
  | k + 1 => if h : k < n then step ⟨k, h⟩ (upTo step s k) else upTo step s k

theorem upTo_succ {n : Nat} {σ : Type} (step : Fin n → σ → σ) (s : σ) (k : Fin n) : upTo step s (k.val + 1) = step k (upTo step s k.val) := by
  simp only [upTo, dif_pos k.2]

/-- A loop, by what a trip does to a state and the carried values. -/
theorem run_for (Q : β → sProp 𝕄) {α σ : Type} (L : Scf.Loop 32) (ok : L.OK) (R : σ → sProp 𝕄) (step : Fin L.trips → α × σ → α × σ) (body : Fin L.trips → α → Pg F α)
    (hf : ∀ k x s (Q : α → sProp 𝕄), R s ⊢ iprop((∀ y, ⌜y = (step k (x, s)).1⌝ -∗ R (step k (x, s)).2 -∗ Q y) -∗ Run c (body k x) Q))
    (x : α) (s : σ) (next : α → Pg F β) :
    R s ⊢ iprop((R (upTo step (x, s) L.trips).2 -∗ Run c (next (upTo step (x, s) L.trips).1) Q) -∗ Run c (L.for ok x body >>= next) Q) := by
  iintro H Hk
  iapply (Scf.wp_for_bind frame (wpE (defs₀ (F := F)) Variants.none (c : Thread nD τ) none) Set.univ L.lb L.ub L.st ok x body
    (fun k y => iprop(⌜y = (upTo step (x, s) k).1⌝ ∗ R (upTo step (x, s) k).2)) ?_) $$ [H]
  · intro k y
    rw [upTo_succ]
    iintro ⟨%hy, H⟩
    subst hy
    iapply (hf k _ _ _) $$ H
    iintro %z %hz H
    isplitr
    · ipureintro; exact hz
    · iexact H
  · isplitr
    · ipureintro; rfl
    · simp only [upTo]; iexact H
  · iintro %y ⟨%hy, H⟩
    have hy' : y = (upTo step (x, s) L.trips).1 := hy
    subst hy'
    iapply Hk $$ H

end Cert.KernelIdeal.Body

end
-- ==== Proof.Steps.lean ====
/- What each phase of the body does to the buffers' values, as plain functions of them, and the proof that it does. -/
module

public import proofs.«01_k».proof.Proof.Rules

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal

variable {F : FTy → Type} [FloatOps F] [Named F]
variable [Facts]
open Facts Facts₀ Shapes1.Facts₀ K0.R1.Facts₀ K0.R2.Facts₀

local notation "𝕄" => MT nD τ sig Unit (Elt F) ℕ (Pipeline.UD sig nD τ) ℕ

variable (c : Dev nD) {β : Type}

theorem run_ret (y : β) (Q : β → sProp 𝕄) : Q y ⊢ Run c (pure y) Q := by
  show Q y ⊢ wp _ _ _ (.ret y) Q
  rw [wp_ret]
  exact BI.fupd_intro

/-! ## The filling -/

def kmStep (K : S1x256x4096.Idx → Elt F .f32) (X : S4x16x64.Idx → Elt F .f32) (hh : Fin 4) : S4x16x64.Idx → Elt F .f32 :=
  put X ![hh.val, 0, 0] S1x16x64.size (meansOf (window K ![0, 64 * hh.val, 0] S1x64x4096.size (inb_kt hh)))

def vbStep (V : S1x256x4096.Idx → Elt F .f32) (g : Fin 4) (X : S4x4x80x1024.Idx → Elt F .bf16) (hh : Fin 4) : S4x4x80x1024.Idx → Elt F .bf16 :=
  put (put X ![g.val, hh.val, 0, 0] S1x1x64x1024.size (valuesOf (window V ![0, 64 * hh.val, 1024 * g.val] S1x64x1024.size (inb_vt g hh))))
    ![g.val, hh.val, 64, 0] S1x1x16x1024.size onesOf

/-- The block means after the filling. -/
def kmFilled (K : S1x256x4096.Idx → Elt F .f32) (X : S4x16x64.Idx → Elt F .f32) : S4x16x64.Idx → Elt F .f32 := heads.foldl (kmStep K) X

/-- The bank of values after the filling. -/
def vbFilled (V : S1x256x4096.Idx → Elt F .f32) (X : S4x4x80x1024.Idx → Elt F .bf16) : S4x4x80x1024.Idx → Elt F .bf16 :=
  heads.foldl (fun X g => heads.foldl (vbStep V g) X) X

section
variable (arg6 arg7 : Memref sig .tc .vmem S1x256x4096 .f32) (arg11 : Memref sig .tc .vmem S4x16x64 .f32) (arg12 : Memref sig .tc .vmem S4x4x80x1024 .bf16) (harg12 : arg12.IsWhole)
  (K V : S1x256x4096.Idx → Elt F .f32)

theorem run_fillKm (Q : β → sProp 𝕄) (hh : Fin 4) (X : S4x16x64.Idx → Elt F .f32) (next : Pg F β) :
    iprop(Has c arg6 K ∗ Has c arg11 X) ⊢ iprop((iprop(Has c arg6 K ∗ Has c arg11 (kmStep K X hh)) -∗ Run c next Q) -∗ Run c (fillKm arg6 arg11 hh next) Q) := by
  unfold fillKm
  iintro ⟨HK, HX⟩ Hk
  iapply (run_ld c Q arg6 K _ _ _ _ _) $$ HK
  iintro HK
  iapply (run_ld c Q arg11 X _ _ _ _ _) $$ HX
  iintro HX
  iapply (run_st c Q arg11 X _ _ _ _ _ _) $$ HX
  iintro HX
  iapply Hk
  isplitl [HK]
  · iexact HK
  · iexact HX

theorem run_fillVb (Q : β → sProp 𝕄) (g hh : Fin 4) (X : S4x4x80x1024.Idx → Elt F .bf16) (next : Pg F β) :
    iprop(Has c arg7 V ∗ Has c arg12 X) ⊢ iprop((iprop(Has c arg7 V ∗ Has c arg12 (vbStep V g X hh)) -∗ Run c next Q) -∗ Run c (fillVb arg7 arg12 harg12 g hh next) Q) := by
  unfold fillVb
  iintro ⟨HK, HX⟩ Hk
  iapply (run_ld c Q arg7 V _ _ _ _ _) $$ HK
  iintro HK
  iapply (run_ld c Q arg12 X _ _ _ _ _) $$ HX
  iintro HX
  iapply (run_st c Q arg12 X _ _ _ _ _ _) $$ HX
  iintro HX
  iapply (run_ld c Q arg12 _ _ _ _ _ _) $$ HX
  iintro HX
  iapply (run_st c Q arg12 _ _ _ _ _ _ _) $$ HX
  iintro HX
  iapply Hk
  isplitl [HK]
  · iexact HK
  · iexact HX

theorem run_fill (Q : β → sProp 𝕄) (X : S4x16x64.Idx → Elt F .f32) (Y : S4x4x80x1024.Idx → Elt F .bf16) (next : Pg F β) :
    iprop((Has c arg6 K ∗ Has c arg11 X) ∗ (Has c arg7 V ∗ Has c arg12 Y))
      ⊢ iprop((iprop((Has c arg6 K ∗ Has c arg11 (kmFilled K X)) ∗ (Has c arg7 V ∗ Has c arg12 (vbFilled V Y))) -∗ Run c next Q)
        -∗ Run c (fill arg6 arg7 arg11 arg12 harg12 next) Q) := by
  unfold fill
  iintro ⟨HA, HB⟩ Hk
  iapply (run_each c Q (fun X => iprop(Has c arg6 K ∗ Has c arg11 X)) (kmStep K) _ (fun hh X next => run_fillKm c arg6 arg11 K Q hh X next) heads X _) $$ HA
  iintro HA
  iapply (run_each c Q (fun X => iprop(Has c arg7 V ∗ Has c arg12 X)) (fun X g => heads.foldl (vbStep V g) X) _
    (fun g X next => run_each c Q (fun X => iprop(Has c arg7 V ∗ Has c arg12 X)) (vbStep V g) _ (fun hh X next => run_fillVb c arg7 arg12 harg12 V Q g hh X next) heads X next) heads Y _) $$ HB
  iintro HB
  iapply Hk
  isplitl [HA]
  · iexact HA
  · iexact HB

variable (i : grid0.Coords)

/-- The two banks after the filling phase: filled at the first query block, kept at the others. -/
def kmNow (X : S4x16x64.Idx → Elt F .f32) : S4x16x64.Idx → Elt F .f32 := if isFirst i = 1#1 then kmFilled K X else X
def vbNow (Y : S4x4x80x1024.Idx → Elt F .bf16) : S4x4x80x1024.Idx → Elt F .bf16 := if isFirst i = 1#1 then vbFilled V Y else Y

theorem run_phFill (Q : β → sProp 𝕄) (X : S4x16x64.Idx → Elt F .f32) (Y : S4x4x80x1024.Idx → Elt F .bf16) (next : Pg F β) :
    iprop((Has c arg6 K ∗ Has c arg11 X) ∗ (Has c arg7 V ∗ Has c arg12 Y))
      ⊢ iprop((iprop((Has c arg6 K ∗ Has c arg11 (kmNow K i X)) ∗ (Has c arg7 V ∗ Has c arg12 (vbNow V i Y))) -∗ Run c next Q)
        -∗ Run c (phFill i arg6 arg7 arg11 arg12 harg12 next) Q) := by
  unfold phFill kmNow vbNow
  by_cases h : isFirst i = 1#1
  · simp only [if_pos h]
    exact run_fill c arg6 arg7 arg11 arg12 harg12 K V Q X Y next
  · simp only [if_neg h]
    iintro H Hk
    iapply Hk $$ H
end

/-! ## The selection -/

def selStep (i : grid0.Coords) (q : FVec F S256x256 .f32) (X : S4x16x64.Idx → Elt F .f32) (B : S4x16x256.Idx → Elt F .f32) (hh : Fin 4) : S4x16x256.Idx → Elt F .f32 :=
  put B ![hh.val, 0, 0] S1x16x256.size (biasOf i (blockScores i q (window X ![hh.val, 0, 0] S1x16x64.size (inb_km hh)) hh))

/-- The queries as the body reads them off their window. -/
def queriesOf (Q4 : S1x256x256.Idx → Elt F .f32) : FVec F S256x256 .f32 := queries (window Q4 ![0, 0, 0] S1x256x256.size inb_S1x256x256_S1x256x256_0_0_0)

/-- The bias rows after the selection. -/
def selected (i : grid0.Coords) (q : FVec F S256x256 .f32) (X : S4x16x64.Idx → Elt F .f32) (B : S4x16x256.Idx → Elt F .f32) : S4x16x256.Idx → Elt F .f32 :=
  heads.foldl (selStep i q X) B

section
variable (arg4 : Memref sig .tc .vmem S1x256x256 .f32) (arg11 : Memref sig .tc .vmem S4x16x64 .f32) (arg13 : Memref sig .tc .vmem S4x16x256 .f32)
  (i : grid0.Coords) (q : FVec F S256x256 .f32) (X : S4x16x64.Idx → Elt F .f32)

theorem run_selectHead (Q : β → sProp 𝕄) (hh : Fin 4) (B : S4x16x256.Idx → Elt F .f32) (next : Pg F β) :
    iprop(Has c arg11 X ∗ Has c arg13 B) ⊢ iprop((iprop(Has c arg11 X ∗ Has c arg13 (selStep i q X B hh)) -∗ Run c next Q) -∗ Run c (selectHead arg11 arg13 i q hh next) Q) := by
  unfold selectHead
  iintro ⟨HK, HX⟩ Hk
  iapply (run_ld c Q arg11 X _ _ _ _ _) $$ HK
  iintro HK
  iapply (run_ld c Q arg13 B _ _ _ _ _) $$ HX
  iintro HX
  iapply (run_st c Q arg13 B _ _ _ _ _ _) $$ HX
  iintro HX
  iapply Hk
  isplitl [HK]
  · iexact HK
  · iexact HX

theorem run_phSelect (Q : β → sProp 𝕄) (Q4 : S1x256x256.Idx → Elt F .f32) (B : S4x16x256.Idx → Elt F .f32) (next : FVec F S256x256 .f32 → Pg F β) :
    iprop(Has c arg4 Q4 ∗ (Has c arg11 X ∗ Has c arg13 B))
      ⊢ iprop((iprop(Has c arg4 Q4 ∗ (Has c arg11 X ∗ Has c arg13 (selected i (queriesOf Q4) X B))) -∗ Run c (next (queriesOf Q4)) Q)
        -∗ Run c (phSelect i arg4 arg11 arg13 next) Q) := by
  unfold phSelect
  iintro ⟨HQ, H⟩ Hk
  iapply (run_ld c Q arg4 Q4 _ _ _ _ _) $$ HQ
  iintro HQ
  iapply (run_each c Q (fun B => iprop(Has c arg11 X ∗ Has c arg13 B)) (selStep i (queriesOf Q4) X) _ (fun hh B next => run_selectHead c arg11 arg13 i (queriesOf Q4) X Q hh B next) heads B _) $$ H
  iintro H
  iapply Hk
  isplitl [HQ]
  · iexact HQ
  · iexact H
end

/-! ## The first pass -/

section
variable (K : S1x4096x256.Idx → Elt F .bf16) (B : S4x16x256.Idx → Elt F .f32)

/-- A bias row of a head. -/
def biasAt (g : BitVec 32) (hg : g.toNat < 4) (hh j : Fin 4) : Vec F S1x1x256 .f32 := window B ![hh.val, (blkW g j).toNat, 0] S1x1x256.size (inb_b hh _ (blkW_lt g j hg))

/-- The keys of the first `n` rows of a group. -/
def keysAt (n : Nat) (hn : n ≤ 1024) (g : BitVec 32) (hg : g.toNat < 4) := window K ![0, (rowW g).toNat, 0] ![1, n, 256] (inb_k n _ (row_le g hg _ hn))

/-- The scores of grp. -/
def grpS (g : BitVec 32) (hg : g.toNat < 4) (w : FVec F S256x256 .bf16) (hh : Fin 4) : FVec F S1024x256 .f32 := groupScores (keysAt K 1024 (by decide) g hg) w (biasAt B g hg hh 0) (biasAt B g hg hh 1) (biasAt B g hg hh 2) (biasAt B g hg hh 3)
/-- Its store. -/
def grpT (g : BitVec 32) (hg : g.toNat < 4) (w : FVec F S256x256 .bf16) (hh : Fin 4) (S : S4x4096x256.Idx → Elt F .f32) : S4x4096x256.Idx → Elt F .f32 :=
  put S ![hh.val, (rowW g).toNat, 0] S1x1024x256.size (shapeCast S1x1024x256 (grpS K B g hg w hh) shapeCasts_S1024x256_S1x1024x256)
/-- Its maximum. -/
def grpM (g : BitVec 32) (hg : g.toNat < 4) (w : FVec F S256x256 .bf16) (hh : Fin 4) (m : FVec F S1x256 .f32) : FVec F S1x256 .f32 :=
  maximumf m (shapeCast S1x256 (multiReduction .maximumf [0] S256 (grpS K B g hg w hh) 0xFF800000#32 reduces_S1024x256_S256 (.inl rfl) rfl) shapeCasts_S256_S1x256)

/-- The scores of ow1. -/
def ow1S (g : BitVec 32) (hg : g.toNat < 4) (w : FVec F S256x256 .bf16) (hh : Fin 4) : FVec F S256x256 .f32 := own1Scores (keysAt K 256 (by decide) g hg) w
/-- Its store. -/
def ow1T (g : BitVec 32) (hg : g.toNat < 4) (w : FVec F S256x256 .bf16) (hh : Fin 4) (S : S4x4096x256.Idx → Elt F .f32) : S4x4096x256.Idx → Elt F .f32 :=
  put S ![hh.val, (rowW g).toNat, 0] S1x256x256.size (shapeCast S1x256x256 (ow1S K g hg w hh) shapeCasts_S256x256_S1x256x256)
/-- Its maximum. -/
def ow1M (g : BitVec 32) (hg : g.toNat < 4) (w : FVec F S256x256 .bf16) (hh : Fin 4) (m : FVec F S1x256 .f32) : FVec F S1x256 .f32 :=
  maximumf m (shapeCast S1x256 (multiReduction .maximumf [0] S256 (ow1S K g hg w hh) 0xFF800000#32 reduces_S256x256_S256 (.inl rfl) rfl) shapeCasts_S256_S1x256)

/-- The scores of ow2. -/
def ow2S (g : BitVec 32) (hg : g.toNat < 4) (w : FVec F S256x256 .bf16) (hh : Fin 4) : FVec F S512x256 .f32 := own2Scores (keysAt K 512 (by decide) g hg) w (biasAt B g hg hh 0)
/-- Its store. -/
def ow2T (g : BitVec 32) (hg : g.toNat < 4) (w : FVec F S256x256 .bf16) (hh : Fin 4) (S : S4x4096x256.Idx → Elt F .f32) : S4x4096x256.Idx → Elt F .f32 :=
  put S ![hh.val, (rowW g).toNat, 0] S1x512x256.size (shapeCast S1x512x256 (ow2S K B g hg w hh) shapeCasts_S512x256_S1x512x256)
/-- Its maximum. -/
def ow2M (g : BitVec 32) (hg : g.toNat < 4) (w : FVec F S256x256 .bf16) (hh : Fin 4) (m : FVec F S1x256 .f32) : FVec F S1x256 .f32 :=
  maximumf m (shapeCast S1x256 (multiReduction .maximumf [0] S256 (ow2S K B g hg w hh) 0xFF800000#32 reduces_S512x256_S256 (.inl rfl) rfl) shapeCasts_S256_S1x256)

/-- The scores of ow3. -/
def ow3S (g : BitVec 32) (hg : g.toNat < 4) (w : FVec F S256x256 .bf16) (hh : Fin 4) : FVec F S768x256 .f32 := own3Scores (keysAt K 768 (by decide) g hg) w (biasAt B g hg hh 0) (biasAt B g hg hh 1)
/-- Its store. -/
def ow3T (g : BitVec 32) (hg : g.toNat < 4) (w : FVec F S256x256 .bf16) (hh : Fin 4) (S : S4x4096x256.Idx → Elt F .f32) : S4x4096x256.Idx → Elt F .f32 :=
  put S ![hh.val, (rowW g).toNat, 0] S1x768x256.size (shapeCast S1x768x256 (ow3S K B g hg w hh) shapeCasts_S768x256_S1x768x256)
/-- Its maximum. -/
def ow3M (g : BitVec 32) (hg : g.toNat < 4) (w : FVec F S256x256 .bf16) (hh : Fin 4) (m : FVec F S1x256 .f32) : FVec F S1x256 .f32 :=
  maximumf m (shapeCast S1x256 (multiReduction .maximumf [0] S256 (ow3S K B g hg w hh) 0xFF800000#32 reduces_S768x256_S256 (.inl rfl) rfl) shapeCasts_S256_S1x256)

/-- The scores of ow4. -/
def ow4S (g : BitVec 32) (hg : g.toNat < 4) (w : FVec F S256x256 .bf16) (hh : Fin 4) : FVec F S1024x256 .f32 := own4Scores (keysAt K 1024 (by decide) g hg) w (biasAt B g hg hh 0) (biasAt B g hg hh 1) (biasAt B g hg hh 2)
/-- Its store. -/
def ow4T (g : BitVec 32) (hg : g.toNat < 4) (w : FVec F S256x256 .bf16) (hh : Fin 4) (S : S4x4096x256.Idx → Elt F .f32) : S4x4096x256.Idx → Elt F .f32 :=
  put S ![hh.val, (rowW g).toNat, 0] S1x1024x256.size (shapeCast S1x1024x256 (ow4S K B g hg w hh) shapeCasts_S1024x256_S1x1024x256)
/-- Its maximum. -/
def ow4M (g : BitVec 32) (hg : g.toNat < 4) (w : FVec F S256x256 .bf16) (hh : Fin 4) (m : FVec F S1x256 .f32) : FVec F S1x256 .f32 :=
  maximumf m (shapeCast S1x256 (multiReduction .maximumf [0] S256 (ow4S K B g hg w hh) 0xFF800000#32 reduces_S1024x256_S256 (.inl rfl) rfl) shapeCasts_S256_S1x256)

variable (arg5 : Memref sig .tc .vmem S1x4096x256 .bf16) (arg13 : Memref sig .tc .vmem S4x16x256 .f32) (arg14 : Memref sig .tc .vmem S4x4096x256 .f32)

/-- The buffers of the first pass. -/
abbrev Pass1 (S : S4x4096x256.Idx → Elt F .f32) : sProp 𝕄 := iprop(Has c arg5 K ∗ Has c arg13 B ∗ Has c arg14 S)

theorem run_group (Q : β → sProp 𝕄) (g : BitVec 32) (hg : g.toNat < 4) (w : FVec F S256x256 .bf16) (hh : Fin 4) (m : FVec F S1x256 .f32) (S : S4x4096x256.Idx → Elt F .f32) (next : FVec F S1x256 .f32 → Pg F β) :
    Pass1 c K B arg5 arg13 arg14 S ⊢ iprop((Pass1 c K B arg5 arg13 arg14 (grpT K B g hg w hh S) -∗ Run c (next (grpM K B g hg w hh m)) Q) -∗ Run c (group arg5 arg13 arg14 g hg w hh m next) Q) := by
  unfold group biasRow
  iintro ⟨HK, HB, HS⟩ Hk
  iapply (run_ld c Q arg5 K _ _ _ _ _) $$ HK
  iintro HK
  iapply (run_ld c Q arg13 B _ _ _ _ _) $$ HB
  iintro HB
  iapply (run_ld c Q arg13 B _ _ _ _ _) $$ HB
  iintro HB
  iapply (run_ld c Q arg13 B _ _ _ _ _) $$ HB
  iintro HB
  iapply (run_ld c Q arg13 B _ _ _ _ _) $$ HB
  iintro HB
  iapply (run_ld c Q arg14 S _ _ _ _ _) $$ HS
  iintro HS
  iapply (run_st c Q arg14 S _ _ _ _ _ _) $$ HS
  iintro HS
  iapply Hk
  isplitl [HK]; · iexact HK
  isplitl [HB]; · iexact HB
  iexact HS

theorem run_own1 (Q : β → sProp 𝕄) (g : BitVec 32) (hg : g.toNat < 4) (w : FVec F S256x256 .bf16) (hh : Fin 4) (m : FVec F S1x256 .f32) (S : S4x4096x256.Idx → Elt F .f32) (next : FVec F S1x256 .f32 → Pg F β) :
    Pass1 c K B arg5 arg13 arg14 S ⊢ iprop((Pass1 c K B arg5 arg13 arg14 (ow1T K g hg w hh S) -∗ Run c (next (ow1M K g hg w hh m)) Q) -∗ Run c (own1 arg5 arg13 arg14 g hg w hh m next) Q) := by
  unfold own1
  iintro ⟨HK, HB, HS⟩ Hk
  iapply (run_ld c Q arg5 K _ _ _ _ _) $$ HK
  iintro HK
  iapply (run_ld c Q arg14 S _ _ _ _ _) $$ HS
  iintro HS
  iapply (run_st c Q arg14 S _ _ _ _ _ _) $$ HS
  iintro HS
  iapply Hk
  isplitl [HK]; · iexact HK
  isplitl [HB]; · iexact HB
  iexact HS

theorem run_own2 (Q : β → sProp 𝕄) (g : BitVec 32) (hg : g.toNat < 4) (w : FVec F S256x256 .bf16) (hh : Fin 4) (m : FVec F S1x256 .f32) (S : S4x4096x256.Idx → Elt F .f32) (next : FVec F S1x256 .f32 → Pg F β) :
    Pass1 c K B arg5 arg13 arg14 S ⊢ iprop((Pass1 c K B arg5 arg13 arg14 (ow2T K B g hg w hh S) -∗ Run c (next (ow2M K B g hg w hh m)) Q) -∗ Run c (own2 arg5 arg13 arg14 g hg w hh m next) Q) := by
  unfold own2 biasRow
  iintro ⟨HK, HB, HS⟩ Hk
  iapply (run_ld c Q arg5 K _ _ _ _ _) $$ HK
  iintro HK
  iapply (run_ld c Q arg13 B _ _ _ _ _) $$ HB
  iintro HB
  iapply (run_ld c Q arg14 S _ _ _ _ _) $$ HS
  iintro HS
  iapply (run_st c Q arg14 S _ _ _ _ _ _) $$ HS
  iintro HS
  iapply Hk
  isplitl [HK]; · iexact HK
  isplitl [HB]; · iexact HB
  iexact HS

theorem run_own3 (Q : β → sProp 𝕄) (g : BitVec 32) (hg : g.toNat < 4) (w : FVec F S256x256 .bf16) (hh : Fin 4) (m : FVec F S1x256 .f32) (S : S4x4096x256.Idx → Elt F .f32) (next : FVec F S1x256 .f32 → Pg F β) :
    Pass1 c K B arg5 arg13 arg14 S ⊢ iprop((Pass1 c K B arg5 arg13 arg14 (ow3T K B g hg w hh S) -∗ Run c (next (ow3M K B g hg w hh m)) Q) -∗ Run c (own3 arg5 arg13 arg14 g hg w hh m next) Q) := by
  unfold own3 biasRow
  iintro ⟨HK, HB, HS⟩ Hk
  iapply (run_ld c Q arg5 K _ _ _ _ _) $$ HK
  iintro HK
  iapply (run_ld c Q arg13 B _ _ _ _ _) $$ HB
  iintro HB
  iapply (run_ld c Q arg13 B _ _ _ _ _) $$ HB
  iintro HB
  iapply (run_ld c Q arg14 S _ _ _ _ _) $$ HS
  iintro HS
  iapply (run_st c Q arg14 S _ _ _ _ _ _) $$ HS
  iintro HS
  iapply Hk
  isplitl [HK]; · iexact HK
  isplitl [HB]; · iexact HB
  iexact HS

theorem run_own4 (Q : β → sProp 𝕄) (g : BitVec 32) (hg : g.toNat < 4) (w : FVec F S256x256 .bf16) (hh : Fin 4) (m : FVec F S1x256 .f32) (S : S4x4096x256.Idx → Elt F .f32) (next : FVec F S1x256 .f32 → Pg F β) :
    Pass1 c K B arg5 arg13 arg14 S ⊢ iprop((Pass1 c K B arg5 arg13 arg14 (ow4T K B g hg w hh S) -∗ Run c (next (ow4M K B g hg w hh m)) Q) -∗ Run c (own4 arg5 arg13 arg14 g hg w hh m next) Q) := by
  unfold own4 biasRow
  iintro ⟨HK, HB, HS⟩ Hk
  iapply (run_ld c Q arg5 K _ _ _ _ _) $$ HK
  iintro HK
  iapply (run_ld c Q arg13 B _ _ _ _ _) $$ HB
  iintro HB
  iapply (run_ld c Q arg13 B _ _ _ _ _) $$ HB
  iintro HB
  iapply (run_ld c Q arg13 B _ _ _ _ _) $$ HB
  iintro HB
  iapply (run_ld c Q arg14 S _ _ _ _ _) $$ HS
  iintro HS
  iapply (run_st c Q arg14 S _ _ _ _ _ _) $$ HS
  iintro HS
  iapply Hk
  isplitl [HK]; · iexact HK
  isplitl [HB]; · iexact HB
  iexact HS

variable (i : grid0.Coords) (q : FVec F S256x256 .f32)

/-- A trip of the first pass, over the carried maxima and the scores. -/
def trip1Step (k : Fin (k0_t1_loop i).trips) (x : Four (FVec F S1x256 .f32) × (S4x4096x256.Idx → Elt F .f32)) : Four (FVec F S1x256 .f32) × (S4x4096x256.Idx → Elt F .f32) :=
  four (fun hh m S => grpT K B (trip1 i k) (trip1_lt i k) (headQ q hh) hh S) (fun hh m S => grpM K B (trip1 i k) (trip1_lt i k) (headQ q hh) hh m) x.1 x.2

def trip2Step (k : Fin (k0_t2_loop i).trips) (x : Four (FVec F S1x256 .f32) × (S4x4096x256.Idx → Elt F .f32)) : Four (FVec F S1x256 .f32) × (S4x4096x256.Idx → Elt F .f32) :=
  four (fun hh m S => grpT K B (trip2 i k) (trip2_lt i k) (headQ q hh) hh S) (fun hh m S => grpM K B (trip2 i k) (trip2_lt i k) (headQ q hh) hh m) x.1 x.2

/-- The maxima and the scores after the groups before the own group. -/
def scores1 (S : S4x4096x256.Idx → Elt F .f32) := upTo (trip1Step K B i q) ((noMax, noMax, noMax, noMax), S) (k0_t1_loop i).trips
def scores2 (m : Four (FVec F S1x256 .f32)) (S : S4x4096x256.Idx → Elt F .f32) := upTo (trip2Step K B i q) (m, S) (k0_t2_loop i).trips

theorem run_phScores (Q : β → sProp 𝕄) (S : S4x4096x256.Idx → Elt F .f32) (next : Four (FVec F S1x256 .f32) → Pg F β) :
    Pass1 c K B arg5 arg13 arg14 S ⊢ iprop((Pass1 c K B arg5 arg13 arg14 (scores1 K B i q S).2 -∗ Run c (next (scores1 K B i q S).1) Q)
      -∗ Run c (phScores i arg5 arg13 arg14 q >>= next) Q) := by
  unfold phScores scores1
  refine run_for c Q (k0_t1_loop i) (k0_t1_ok i) (fun S => Pass1 c K B arg5 arg13 arg14 S) (trip1Step K B i q) _ ?_ _ S next
  intro k m S Q
  unfold trip1Step
  iintro H Hk
  iapply (run_four c Q (fun S => Pass1 c K B arg5 arg13 arg14 S) (fun hh m S => grpT K B (trip1 i k) (trip1_lt i k) (headQ q hh) hh S) (fun hh m S => grpM K B (trip1 i k) (trip1_lt i k) (headQ q hh) hh m) _
    (fun hh m S next => run_group c K B arg5 arg13 arg14 Q _ _ _ hh m S next) m S pure) $$ H
  iintro H
  iapply (run_ret c _ Q)
  iapply Hk $$ %_ %rfl
  iexact H

theorem run_phScores' (Q : β → sProp 𝕄) (m : Four (FVec F S1x256 .f32)) (S : S4x4096x256.Idx → Elt F .f32) (next : Four (FVec F S1x256 .f32) → Pg F β) :
    Pass1 c K B arg5 arg13 arg14 S ⊢ iprop((Pass1 c K B arg5 arg13 arg14 (scores2 K B i q m S).2 -∗ Run c (next (scores2 K B i q m S).1) Q)
      -∗ Run c (phScores' i arg5 arg13 arg14 q m >>= next) Q) := by
  unfold phScores' scores2
  refine run_for c Q (k0_t2_loop i) (k0_t2_ok i) (fun S => Pass1 c K B arg5 arg13 arg14 S) (trip2Step K B i q) _ ?_ _ S next
  intro k m S Q
  unfold trip2Step
  iintro H Hk
  iapply (run_four c Q (fun S => Pass1 c K B arg5 arg13 arg14 S) (fun hh m S => grpT K B (trip2 i k) (trip2_lt i k) (headQ q hh) hh S) (fun hh m S => grpM K B (trip2 i k) (trip2_lt i k) (headQ q hh) hh m) _
    (fun hh m S next => run_group c K B arg5 arg13 arg14 Q _ _ _ hh m S next) m S pure) $$ H
  iintro H
  iapply (run_ret c _ Q)
  iapply Hk $$ %_ %rfl
  iexact H

/-- The maxima and the scores after the own group. -/
def scoresOwn (m : Four (FVec F S1x256 .f32)) (S : S4x4096x256.Idx → Elt F .f32) : Four (FVec F S1x256 .f32) × (S4x4096x256.Idx → Elt F .f32) :=
  if k0_cond5 i = 1#1 then
    if k0_cond6 i = 1#1 then
      if k0_cond7 i = 1#1 then four (fun hh m S => ow4T K B (ownW i) (ownW_lt i) (headQ q hh) hh S) (fun hh m S => ow4M K B (ownW i) (ownW_lt i) (headQ q hh) hh m) m S
      else four (fun hh m S => ow3T K B (ownW i) (ownW_lt i) (headQ q hh) hh S) (fun hh m S => ow3M K B (ownW i) (ownW_lt i) (headQ q hh) hh m) m S
    else four (fun hh m S => ow2T K B (ownW i) (ownW_lt i) (headQ q hh) hh S) (fun hh m S => ow2M K B (ownW i) (ownW_lt i) (headQ q hh) hh m) m S
  else four (fun hh m S => ow1T K (ownW i) (ownW_lt i) (headQ q hh) hh S) (fun hh m S => ow1M K (ownW i) (ownW_lt i) (headQ q hh) hh m) m S
end

/-! ## The second pass -/

section
variable (Y : S4x4x80x1024.Idx → Elt F .bf16) (S : S4x4096x256.Idx → Elt F .f32)

/-- The scores of the first `n` rows of a group. -/
def scoresAt (n : Nat) (hn : n ≤ 1024) (g : BitVec 32) (hg : g.toNat < 4) (hh : Fin 4) := window S ![hh.val, (rowW g).toNat, 0] ![1, n, 256] (inb_sc hh n _ (row_le g hg _ hn))
/-- The values of the first `n` keys of a group. -/
def valsAt (n : Nat) (hn : n ≤ 1024) (g : BitVec 32) (hg : g.toNat < 4) (hh : Fin 4) := window Y ![g.toNat, hh.val, 0, 0] ![1, 1, 80, n] (inb_v hh n hn g hg)

def wgh1 (g : BitVec 32) (hg : g.toNat < 4) (m : FVec F S1x256 .f32) (hh : Fin 4) (acc : FVec F S80x256 .f32) : FVec F S80x256 .f32 :=
  weighOf1 (scoresAt S 256 (by decide) g hg hh) (valsAt Y 256 (by decide) g hg hh) m acc
def wgh2 (g : BitVec 32) (hg : g.toNat < 4) (m : FVec F S1x256 .f32) (hh : Fin 4) (acc : FVec F S80x256 .f32) : FVec F S80x256 .f32 :=
  weighOf2 (scoresAt S 512 (by decide) g hg hh) (valsAt Y 512 (by decide) g hg hh) m acc
def wgh3 (g : BitVec 32) (hg : g.toNat < 4) (m : FVec F S1x256 .f32) (hh : Fin 4) (acc : FVec F S80x256 .f32) : FVec F S80x256 .f32 :=
  weighOf3 (scoresAt S 768 (by decide) g hg hh) (valsAt Y 768 (by decide) g hg hh) m acc
def wgh4 (g : BitVec 32) (hg : g.toNat < 4) (m : FVec F S1x256 .f32) (hh : Fin 4) (acc : FVec F S80x256 .f32) : FVec F S80x256 .f32 :=
  weighOf4 (scoresAt S 1024 (by decide) g hg hh) (valsAt Y 1024 (by decide) g hg hh) m acc

variable (arg12 : Memref sig .tc .vmem S4x4x80x1024 .bf16) (arg14 : Memref sig .tc .vmem S4x4096x256 .f32)

/-- The buffers of the second pass. -/
abbrev Pass2 : sProp 𝕄 := iprop(Has c arg12 Y ∗ Has c arg14 S)

theorem run_weigh1 (Q : β → sProp 𝕄) (g : BitVec 32) (hg : g.toNat < 4) (m : FVec F S1x256 .f32) (hh : Fin 4) (acc : FVec F S80x256 .f32) (next : FVec F S80x256 .f32 → Pg F β) :
    Pass2 c Y S arg12 arg14 ⊢ iprop((Pass2 c Y S arg12 arg14 -∗ Run c (next (wgh1 Y S g hg m hh acc)) Q) -∗ Run c (weigh1 arg12 arg14 g hg m hh acc next) Q) := by
  unfold weigh1
  iintro ⟨HY, HS⟩ Hk
  iapply (run_ld c Q arg14 S _ _ _ _ _) $$ HS
  iintro HS
  iapply (run_ld c Q arg12 Y _ _ _ _ _) $$ HY
  iintro HY
  iapply Hk
  isplitl [HY]; · iexact HY
  iexact HS

theorem run_weigh2 (Q : β → sProp 𝕄) (g : BitVec 32) (hg : g.toNat < 4) (m : FVec F S1x256 .f32) (hh : Fin 4) (acc : FVec F S80x256 .f32) (next : FVec F S80x256 .f32 → Pg F β) :
    Pass2 c Y S arg12 arg14 ⊢ iprop((Pass2 c Y S arg12 arg14 -∗ Run c (next (wgh2 Y S g hg m hh acc)) Q) -∗ Run c (weigh2 arg12 arg14 g hg m hh acc next) Q) := by
  unfold weigh2
  iintro ⟨HY, HS⟩ Hk
  iapply (run_ld c Q arg14 S _ _ _ _ _) $$ HS
  iintro HS
  iapply (run_ld c Q arg12 Y _ _ _ _ _) $$ HY
  iintro HY
  iapply Hk
  isplitl [HY]; · iexact HY
  iexact HS

theorem run_weigh3 (Q : β → sProp 𝕄) (g : BitVec 32) (hg : g.toNat < 4) (m : FVec F S1x256 .f32) (hh : Fin 4) (acc : FVec F S80x256 .f32) (next : FVec F S80x256 .f32 → Pg F β) :
    Pass2 c Y S arg12 arg14 ⊢ iprop((Pass2 c Y S arg12 arg14 -∗ Run c (next (wgh3 Y S g hg m hh acc)) Q) -∗ Run c (weigh3 arg12 arg14 g hg m hh acc next) Q) := by
  unfold weigh3
  iintro ⟨HY, HS⟩ Hk
  iapply (run_ld c Q arg14 S _ _ _ _ _) $$ HS
  iintro HS
  iapply (run_ld c Q arg12 Y _ _ _ _ _) $$ HY
  iintro HY
  iapply Hk
  isplitl [HY]; · iexact HY
  iexact HS

theorem run_weigh4 (Q : β → sProp 𝕄) (g : BitVec 32) (hg : g.toNat < 4) (m : FVec F S1x256 .f32) (hh : Fin 4) (acc : FVec F S80x256 .f32) (next : FVec F S80x256 .f32 → Pg F β) :
    Pass2 c Y S arg12 arg14 ⊢ iprop((Pass2 c Y S arg12 arg14 -∗ Run c (next (wgh4 Y S g hg m hh acc)) Q) -∗ Run c (weigh4 arg12 arg14 g hg m hh acc next) Q) := by
  unfold weigh4
  iintro ⟨HY, HS⟩ Hk
  iapply (run_ld c Q arg14 S _ _ _ _ _) $$ HS
  iintro HS
  iapply (run_ld c Q arg12 Y _ _ _ _ _) $$ HY
  iintro HY
  iapply Hk
  isplitl [HY]; · iexact HY
  iexact HS

variable (i : grid0.Coords) (m : Four (FVec F S1x256 .f32))

/-- The four heads' accumulators, each by its own step. -/
def fourAcc (f : Fin 4 → FVec F S80x256 .f32 → FVec F S80x256 .f32) (acc : Four (FVec F S80x256 .f32)) : Four (FVec F S80x256 .f32) :=
  (f 0 acc.1, f 1 acc.2.1, f 2 acc.2.2.1, f 3 acc.2.2.2)

def trip3Step (k : Fin (k0_t3_loop i).trips) (x : Four (FVec F S80x256 .f32) × Unit) : Four (FVec F S80x256 .f32) × Unit :=
  four (fun _ _ _ => ()) (fun hh acc _ => wgh4 Y S (trip3 i k) (trip3_lt i k) (m.at hh) hh acc) x.1 x.2
def trip4Step (k : Fin (k0_t4_loop i).trips) (x : Four (FVec F S80x256 .f32) × Unit) : Four (FVec F S80x256 .f32) × Unit :=
  four (fun _ _ _ => ()) (fun hh acc _ => wgh4 Y S (trip4 i k) (trip4_lt i k) (m.at hh) hh acc) x.1 x.2

/-- The weighted values after the groups before the own group. -/
def weighed1 : Four (FVec F S80x256 .f32) := (upTo (trip3Step Y S i m) ((noAcc, noAcc, noAcc, noAcc), ()) (k0_t3_loop i).trips).1
def weighed2 (acc : Four (FVec F S80x256 .f32)) : Four (FVec F S80x256 .f32) := (upTo (trip4Step Y S i m) (acc, ()) (k0_t4_loop i).trips).1

theorem run_phWeigh (Q : β → sProp 𝕄) (next : Four (FVec F S80x256 .f32) → Pg F β) :
    Pass2 c Y S arg12 arg14 ⊢ iprop((Pass2 c Y S arg12 arg14 -∗ Run c (next (weighed1 Y S i m)) Q) -∗ Run c (phWeigh i arg12 arg14 m >>= next) Q) := by
  unfold phWeigh weighed1
  refine run_for c Q (k0_t3_loop i) (k0_t3_ok i) (fun _ : Unit => Pass2 c Y S arg12 arg14) (trip3Step Y S i m) _ ?_ _ () next
  intro k acc u Q
  unfold trip3Step
  iintro H Hk
  iapply (run_four c Q (fun _ : Unit => Pass2 c Y S arg12 arg14) (fun _ _ _ => ()) (fun hh acc _ => wgh4 Y S (trip3 i k) (trip3_lt i k) (m.at hh) hh acc) _
    (fun hh acc _ next => run_weigh4 c Y S arg12 arg14 Q _ _ _ hh acc next) acc () pure) $$ H
  iintro H
  iapply (run_ret c _ Q)
  iapply Hk $$ %_ %rfl
  iexact H

theorem run_phWeigh' (Q : β → sProp 𝕄) (acc : Four (FVec F S80x256 .f32)) (next : Four (FVec F S80x256 .f32) → Pg F β) :
    Pass2 c Y S arg12 arg14 ⊢ iprop((Pass2 c Y S arg12 arg14 -∗ Run c (next (weighed2 Y S i m acc)) Q) -∗ Run c (phWeigh' i arg12 arg14 m acc >>= next) Q) := by
  unfold phWeigh' weighed2
  refine run_for c Q (k0_t4_loop i) (k0_t4_ok i) (fun _ : Unit => Pass2 c Y S arg12 arg14) (trip4Step Y S i m) _ ?_ _ () next
  intro k acc u Q
  unfold trip4Step
  iintro H Hk
  iapply (run_four c Q (fun _ : Unit => Pass2 c Y S arg12 arg14) (fun _ _ _ => ()) (fun hh acc _ => wgh4 Y S (trip4 i k) (trip4_lt i k) (m.at hh) hh acc) _
    (fun hh acc _ next => run_weigh4 c Y S arg12 arg14 Q _ _ _ hh acc next) acc () pure) $$ H
  iintro H
  iapply (run_ret c _ Q)
  iapply Hk $$ %_ %rfl
  iexact H

/-- The weighted values after the own group. -/
def weighedOwn (acc : Four (FVec F S80x256 .f32)) : Four (FVec F S80x256 .f32) :=
  if k0_cond8 i = 1#1 then
    if k0_cond9 i = 1#1 then
      if k0_cond10 i = 1#1 then fourAcc (fun hh => wgh4 Y S (ownW i) (ownW_lt i) (m.at hh) hh) acc
      else fourAcc (fun hh => wgh3 Y S (ownW i) (ownW_lt i) (m.at hh) hh) acc
    else fourAcc (fun hh => wgh2 Y S (ownW i) (ownW_lt i) (m.at hh) hh) acc
  else fourAcc (fun hh => wgh1 Y S (ownW i) (ownW_lt i) (m.at hh) hh) acc
end

end Cert.KernelIdeal.Body

end
-- ==== Proof.Pages.lean ====
/- The page copies of the body: what each cell of the ring holds, and what starting a copy, waiting for it, and summing its page does. -/
module

public import proofs.«01_k».proof.Proof.Rules
public import Idealize.ShloMosaic.Lib.ShareLeaves

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal

variable {F : FTy → Type} [FloatOps F] [Named F]
variable [Facts]
open Facts Facts₀ Shapes1.Facts₀ K0.R1.Facts₀ K0.R2.Facts₀

local notation "𝕄" => MT nD τ sig Unit (Elt F) ℕ (Pipeline.UD sig nD τ) ℕ

variable (c : Dev nD) {β : Type}

/-- The conjunction over a list. -/
def sepL {α : Type} (Φ : α → sProp 𝕄) : List α → sProp 𝕄
  | [] => iprop(emp)
  | a :: l => iprop(Φ a ∗ sepL Φ l)

theorem sepL_eq {α : Type} [DecidableEq α] (Φ : α → sProp 𝕄) : ∀ l : List α, l.Nodup → sepL Φ l = bigSep l.toFinset Φ
  | [], _ => rfl
  | a :: l, h => by
    rw [List.nodup_cons] at h
    rw [List.toFinset_cons, bigSep_insert (by simpa using h.1), sepL, sepL_eq Φ l h.2]; rfl

theorem pages_nodup : pages.Nodup := by decide
theorem pages_univ : pages.toFinset = (Finset.univ : Finset (Fin 32)) := by decide

theorem sepL_pages (Φ : Fin 32 → sProp 𝕄) : sepL Φ pages = bigSep Finset.univ Φ := by
  rw [sepL_eq Φ pages pages_nodup, pages_univ]

/-- Each of a list in turn, each turning its own share, with one resource common to all. -/
theorem run_list (Q : β → sProp 𝕄) {α : Type} (T : sProp 𝕄) (A B : α → sProp 𝕄) (f : α → Pg F β → Pg F β)
    (hf : ∀ a next, iprop(T ∗ A a) ⊢ iprop((iprop(T ∗ B a) -∗ Run c next Q) -∗ Run c (f a next) Q)) :
    ∀ (l : List α) (next : Pg F β), iprop(T ∗ sepL A l) ⊢ iprop((iprop(T ∗ sepL B l) -∗ Run c next Q) -∗ Run c (each f l next) Q)
  | [], next => by
    iintro H Hk
    simp only [each, sepL]
    iapply Hk $$ H
  | a :: l, next => by
    simp only [each, sepL]
    iintro ⟨HT, HA, HL⟩ Hk
    iapply (hf a (each f l next)) $$ [HT HA]
    · isplitl [HT] <;> iassumption
    iintro ⟨HT, HB⟩
    iapply (run_list Q T A B f hf l next) $$ [HT HL]
    · isplitl [HT] <;> iassumption
    iintro ⟨HT, HL⟩
    iapply Hk
    isplitl [HT]; · iexact HT
    isplitl [HB] <;> iassumption

section Cells

variable (arg3 : Memref sig .tc .smem S4096 .i32) (arg8 : Memref sig .tc .hbm S2x5120x8x64x128 .f32) (arg10 : Memref sig .tc .vmem S1x8x64x128 .f32)
  (arg15 : Memref sig .tc .vmem S2x32x8x64x128 .f32) (arg16 : DmaSems sig S2x32)
  (fc : arg8.view.ty.Contents (Elt F))

/-- Page `j` of slot `s`, held at anything. -/
def Piece (s : Fin 2) (j : Fin 32) : sProp 𝕄 :=
  iprop(∃ f : arg15.view.ty.Contents (Elt F), (arg15.view.loc (c : Thread nD τ) ↦[(pageBuf arg15 s.val s.2 j).view.set]{fullShare} f))

/-- The share of the cache that belongs to a cell. -/
def cellShare (s : Fin 2) (j : Fin 32) : PosShare TreeShare :=
  ShareLeaves.leaf 6 fullShare ⟨32 * s.val + j.val, by have := s.2; have := j.2; omega⟩

/-- What a cell holds beside its counter: its page and its share of the cache. -/
def Rest (s : Fin 2) (j : Fin 32) : sProp 𝕄 :=
  iprop(Piece c arg15 s j ∗ (arg8.view.loc (c : Thread nD τ) ↦[Finset.univ]{cellShare s j} fc))

/-- A cell's semaphore. -/
abbrev cellSem (s : Fin 2) (j : Fin 32) : DmaSem sig := (pageSem arg16 s.val s.2 j (inb_sem s.val s.2 j)).sem

/-- A cell with no copy in flight. -/
def Idle (s : Fin 2) (j : Fin 32) : sProp 𝕄 :=
  iprop(semVal ((c : Thread nD τ), .dma (cellSem arg16 s j)) 0 ∗ Rest c arg8 arg15 fc s j)

/-- A cell with a copy in flight, which gives its page and its share of the cache back. -/
def Busy (s : Fin 2) (j : Fin 32) : sProp 𝕄 :=
  iprop(∃ D : sProp 𝕄, Transfers.Flight (countersEmb (U := Pipeline.UD sig nD τ)) (c : Thread nD τ) (.dma (cellSem arg16 s j)) () (pageBuf arg15 s.val s.2 j).view.dmaCredit D
    ∗ (D -∗ Rest c arg8 arg15 fc s j))

/-- The copies' table, held at some share, its words pages of the pool. -/
def Tbl : sProp 𝕄 :=
  iprop(∃ (q : PosShare TreeShare) (ft : arg3.view.ty.Contents (Elt F)), ⌜∀ x : S4096.Idx, (arg3.view.read (Elt F) ft x : BitVec 32).toNat < 5120⌝
    ∗ (arg3.view.loc (c : Thread nD τ) ↦[arg3.view.set]{q} ft))

/-- What the core has waited for. -/
def Owe : sProp 𝕄 := iprop(∃ W : Waits sig Unit, owes (c : Thread nD τ) 0 W)

theorem cache_split (q : PosShare TreeShare) (S : Finset arg8.view.ty.Idx) :
    (arg8.view.loc (c : Thread nD τ) ↦[Finset.univ]{q} fc : sProp 𝕄) ⊢ iprop((arg8.view.loc (c : Thread nD τ) ↦[S]{q} fc) ∗ (arg8.view.loc (c : Thread nD τ) ↦[Finset.univ \ S]{q} fc)) :=
  (pointsTo_split_subset (Finset.subset_univ S)).1

theorem cache_join (q : PosShare TreeShare) (S : Finset arg8.view.ty.Idx) :
    iprop((arg8.view.loc (c : Thread nD τ) ↦[S]{q} fc) ∗ (arg8.view.loc (c : Thread nD τ) ↦[Finset.univ \ S]{q} fc)) ⊢ (arg8.view.loc (c : Thread nD τ) ↦[Finset.univ]{q} fc : sProp 𝕄) :=
  (pointsTo_split_subset (Finset.subset_univ S)).2

/-- The page of the cache a table word names. -/
abbrev srcPage (w : BitVec 32) (h : ∀ a, (![0, w.toNat, 0, 0, 0] : Fin 5 → Nat) a + S1x1x8x64x128.size a ≤ S2x5120x8x64x128.size a) : Memref sig .tc .hbm S8x64x128 .f32 :=
  (arg8.slice (Rect.unit (s := S2x5120x8x64x128) ![0, w.toNat, 0, 0, 0] S1x1x8x64x128.size h) (fun _ => rfl)).squeeze S8x64x128 squeezes_S1x1x8x64x128_S8x64x128

theorem run_copy (Q : β → sProp 𝕄) (s : Fin 2) (j : Fin 32) (next : Pg F β) (w : BitVec 32) (P : BitVec 32 → Prop) (dec : ∀ w, Decidable (P w))
    (hP : ∀ w, P w → ∀ a, (![0, w.toNat, 0, 0, 0] : Fin 5 → Nat) a + S1x1x8x64x128.size a ≤ S2x5120x8x64x128.size a) (hw : P w) :
    Idle c arg8 arg15 arg16 fc s j
      ⊢ iprop((Busy c arg8 arg15 arg16 fc s j -∗ Run c next Q)
        -∗ Run c (.op (.assume (P w) (dec w)) fun hw =>
  .op (.enqueueDma (srcPage arg8 w (hP w hw.down)) (.here (pageBuf arg15 s.val s.2 j)) (.dma (cellSem arg16 s j)) ((View.wordExact_bits rfl).reshape _ _) ((View.wordExact_bits rfl).reshape _ _) ⟨Or.inl rfl, trivial⟩) fun _ => next) Q) := by
  unfold Idle Rest Piece
  iintro ⟨Hs, ⟨%f, Hp⟩, Hc⟩ Hk
  iapply (wp_assume Variants.none (c : Thread nD τ) none Set.univ hw)
  ihave Hc := (cache_split c arg8 fc _ (srcPage arg8 w (hP w hw)).view.set) $$ Hc
  icases Hc with ⟨Hc, Hr⟩
  iapply (Transfers.wp_dmaLocal (countersEmb (U := Pipeline.UD sig nD τ)) Variants.none (c : Thread nD τ) none (src := srcPage arg8 w (hP w hw)) (dst := pageBuf arg15 s.val s.2 j)
    () (pageBuf arg15 s.val s.2 j).view.dmaCredit rfl
    (View.dmaCredit_pos _ (by decide)) (Finset.Subset.refl _)) $$ [Hc Hp Hs]
  · isplitl [Hc]; · iexact Hc
    isplitl [Hp]; · iexact Hp
    iexact Hs
  iintro HF
  iapply Hk
  unfold Busy Rest Piece
  iexists _
  isplitl [HF]
  · iexact HF
  iintro ⟨Hp, Hc⟩
  isplitl [Hp]
  · iexists _; iexact Hp
  iapply (cache_join c arg8 fc _ (srcPage arg8 w (hP w hw)).view.set)
  isplitl [Hc]
  · iexact Hc
  · iexact Hr

theorem run_startPage (Q : β → sProp 𝕄) (s : Fin 2) (off : Fin 32 → Nat) (hoff : ∀ j, ∀ a, (![off j] : Fin 1 → Nat) a + S1.size a ≤ S4096.size a)
    (P : BitVec 32 → Prop) (dec : ∀ w, Decidable (P w))
    (hP : ∀ w, P w → ∀ a, (![0, w.toNat, 0, 0, 0] : Fin 5 → Nat) a + S1x1x8x64x128.size a ≤ S2x5120x8x64x128.size a)
    (hT : ∀ w : BitVec 32, w.toNat < 5120 → P w) (j : Fin 32) (next : Pg F β) :
    iprop(Tbl c arg3 ∗ Idle c arg8 arg15 arg16 fc s j)
      ⊢ iprop((iprop(Tbl c arg3 ∗ Busy c arg8 arg15 arg16 fc s j) -∗ Run c next Q)
        -∗ Run c (startPage arg3 arg8 arg15 arg16 s.val s.2 off hoff P dec hP j next) Q) := by
  unfold Tbl startPage
  iintro ⟨⟨%q, %ft, %hft, HT⟩, Hi⟩ Hk
  iapply (wp_load Variants.none (c : Thread nD τ) none Set.univ (View.setOn_subset_set _ _)) $$ HT
  iintro HT
  iapply (run_copy c arg8 arg15 arg16 fc Q s j next _ P dec hP (hT _ (hft _))) $$ Hi
  iintro HB
  iapply Hk
  isplitl [HT]
  · iexists q; iexists ft
    isplitr
    · ipureintro; exact hft
    · iexact HT
  · iexact HB

theorem run_waitPage (Q : β → sProp 𝕄) (s : Fin 2) (j : Fin 32) (next : Pg F β) :
    iprop(Owe c ∗ Busy c arg8 arg15 arg16 fc s j)
      ⊢ iprop((iprop(Owe c ∗ Idle c arg8 arg15 arg16 fc s j) -∗ Run c next Q)
        -∗ Run c (waitPage arg15 arg16 s.val s.2 j next) Q) := by
  unfold Owe Busy Idle waitPage
  iintro ⟨⟨%W, HO⟩, ⟨%D, HF, HD⟩⟩ Hk
  iapply (Transfers.wp_waitLocal (countersEmb (U := Pipeline.UD sig nD τ)) Variants.none (c : Thread nD τ) none () rfl) $$ [HF HO]
  · isplitl [HF]; · iexact HF
    iexact HO
  iintro ⟨HD', Hs, HO⟩
  iapply Hk
  isplitl [HO]
  · iexists _; iexact HO
  isplitl [Hs]
  · iexact Hs
  iapply HD $$ HD'

/-- A slot with no copy in flight. -/
def AllIdle (s : Fin 2) : sProp 𝕄 := sepL (Idle c arg8 arg15 arg16 fc s) pages
/-- A slot with all its copies in flight. -/
def AllBusy (s : Fin 2) : sProp 𝕄 := sepL (Busy c arg8 arg15 arg16 fc s) pages

theorem split_at (Φ : Fin 32 → sProp 𝕄) (j : Fin 32) : bigSep Finset.univ Φ = iprop(Φ j ∗ bigSep (Finset.univ.erase j) Φ) := bigSep_univ_split j

theorem page_sub (s : Fin 2) (j : Fin 32) (h8 : Fin 8) (inb : ∀ a, (![s.val, j.val, h8.val, 0, 0] : Fin 5 → Nat) a + S1x1x1x64x128.size a ≤ S2x32x8x64x128.size a) :
    (arg15.access (Rect.unit (s := S2x32x8x64x128) ![s.val, j.val, h8.val, 0, 0] S1x1x1x64x128.size inb)).set ⊆ (pageBuf arg15 s.val s.2 j).view.set := by
  have e : (pageBuf arg15 s.val s.2 j).view.set = (Rect.unit (s := S2x32x8x64x128) ![s.val, j.val, 0, 0, 0] S1x1x8x64x128.size (inb_pg s.val s.2 j)).set.map arg15.view.emb :=
    (Memref.set_view_squeeze _ _).trans (View.set_slice arg15.view _)
  have e' : (arg15.access (Rect.unit (s := S2x32x8x64x128) ![s.val, j.val, h8.val, 0, 0] S1x1x1x64x128.size inb)).set
      = (Rect.unit (s := S2x32x8x64x128) ![s.val, j.val, h8.val, 0, 0] S1x1x1x64x128.size inb).set.map arg15.view.emb := View.set_slice arg15.view _
  refine (subset_of_eq e').trans (Finset.Subset.trans ?_ (subset_of_eq e.symm))
  rw [Finset.map_subset_map]
  intro y hy
  rw [Rect.mem_set_unit] at hy ⊢
  intro a
  fin_cases a
  · exact hy 0
  · exact hy 1
  · exact ⟨Nat.zero_le _, (y 2).2.trans_le (show S2x32x8x64x128.size 2 ≤ 0 + S1x1x8x64x128.size 2 by decide)⟩
  · exact hy 3
  · exact hy 4

/-- A load of a page hands over something. -/
theorem run_page (Q : β → sProp 𝕄) (s : Fin 2) (j : Fin 32) (h8 : Fin 8) (off : Fin 5 → Nat) (hoff : off = ![s.val, j.val, h8.val, 0, 0])
    (inb : ∀ a, off a + S1x1x1x64x128.size a ≤ S2x32x8x64x128.size a) (h : 0 < (Rect.unit (s := S2x32x8x64x128) off S1x1x1x64x128.size inb).toLoadRect.shape.numel)
    (k : Vec F S1x1x1x64x128 .f32 → Pg F β) :
    AllIdle c arg8 arg15 arg16 fc s ⊢ iprop((∀ v, AllIdle c arg8 arg15 arg16 fc s -∗ Run c (k v) Q)
      -∗ Run c (ld arg15 off S1x1x1x64x128.size inb h k) Q) := by
  subst hoff
  unfold AllIdle
  rw [sepL_pages, split_at _ j]
  iintro ⟨Hj, HL⟩ Hk
  ihave Hj := (show Idle c arg8 arg15 arg16 fc s j ⊢ iprop(semVal ((c : Thread nD τ), .dma (cellSem arg16 s j)) 0
    ∗ (∃ f : arg15.view.ty.Contents (Elt F), (arg15.view.loc (c : Thread nD τ) ↦[(pageBuf arg15 s.val s.2 j).view.set]{fullShare} f))
    ∗ (arg8.view.loc (c : Thread nD τ) ↦[Finset.univ]{cellShare s j} fc)) from .rfl) $$ Hj
  icases Hj with ⟨Hs, ⟨%f, Hp⟩, Hc⟩
  iapply (wp_load_rect Variants.none (c : Thread nD τ) none Set.univ (m := arg15) (r := Rect.unit (s := S2x32x8x64x128) ![s.val, j.val, h8.val, 0, 0] S1x1x1x64x128.size inb)
    (S := (pageBuf arg15 s.val s.2 j).view.set) (f := f) ?_) $$ Hp
  · exact page_sub arg15 s j h8 inb
  iintro Hp
  iapply Hk
  isplitl [Hs Hp Hc]
  · ihave Hx := (show iprop(semVal ((c : Thread nD τ), .dma (cellSem arg16 s j)) 0
      ∗ (∃ f : arg15.view.ty.Contents (Elt F), (arg15.view.loc (c : Thread nD τ) ↦[(pageBuf arg15 s.val s.2 j).view.set]{fullShare} f))
      ∗ (arg8.view.loc (c : Thread nD τ) ↦[Finset.univ]{cellShare s j} fc)) ⊢ Idle c arg8 arg15 arg16 fc s j from .rfl) $$ [Hs Hp Hc]
    · isplitl [Hs]; · iexact Hs
      isplitl [Hp]; · iexists f; iexact Hp
      iexact Hc
    iexact Hx
  · iexact HL

variable (i : grid0.Coords)

/-- The slot of the step. -/
def slot : Fin 2 := ⟨(slotW i).toNat, slotW_lt i⟩

/-- The block of page sums at anything. -/
def SomeSums : sProp 𝕄 := iprop(∃ Y, Has (F := F) c arg10 Y)

theorem run_pairSums (Q : β → sProp 𝕄) (h8 : Fin 8) (next : FVec F S64x128 .f32 → Pg F β) :
    ∀ (l : List (Fin 16)) (acc : FVec F S64x128 .f32), AllIdle c arg8 arg15 arg16 fc (slot i) ⊢ iprop((∀ y, AllIdle c arg8 arg15 arg16 fc (slot i) -∗ Run c (next y) Q)
      -∗ Run c (pairSums arg15 i h8 next l acc) Q)
  | [], acc => by
    iintro H Hk
    unfold pairSums
    iapply Hk $$ H
  | p :: l, acc => by
    iintro H Hk
    unfold pairSums
    iapply (run_page c arg8 arg15 arg16 fc Q (slot i) ⟨2 * p.val, by have := p.2; omega⟩ h8 _ rfl _ _ _) $$ H
    iintro %a H
    iapply (run_page c arg8 arg15 arg16 fc Q (slot i) ⟨2 * p.val + 1, by have := p.2; omega⟩ h8 _ rfl _ _ _) $$ H
    iintro %b H
    iapply (run_pairSums Q h8 next l _) $$ H Hk

theorem run_mergeHead (Q : β → sProp 𝕄) (h8 : Fin 8) (next : Pg F β) :
    iprop(SomeSums c arg10 ∗ AllIdle c arg8 arg15 arg16 fc (slot i)) ⊢ iprop((iprop(SomeSums c arg10 ∗ AllIdle c arg8 arg15 arg16 fc (slot i)) -∗ Run c next Q)
      -∗ Run c (mergeHead arg10 arg15 i h8 next) Q) := by
  unfold SomeSums mergeHead
  iintro ⟨⟨%Y, HY⟩, H⟩ Hk
  iapply (run_ld c Q arg10 Y _ _ _ _ _) $$ HY
  iintro HY
  iapply (run_pairSums c arg8 arg15 arg16 fc i Q h8 _ _ _) $$ H
  iintro %y H
  iapply (run_ld c Q arg10 Y _ _ _ _ _) $$ HY
  iintro HY
  iapply (run_st c Q arg10 Y _ _ _ _ _ _) $$ HY
  iintro HY
  iapply Hk
  isplitl [HY]
  · iexists _; iexact HY
  · iexact H

theorem run_merges (Q : β → sProp 𝕄) (l : List (Fin 8)) (next : Pg F β) :
    iprop(SomeSums c arg10 ∗ AllIdle c arg8 arg15 arg16 fc (slot i)) ⊢ iprop((iprop(SomeSums c arg10 ∗ AllIdle c arg8 arg15 arg16 fc (slot i)) -∗ Run c next Q)
      -∗ Run c (each (mergeHead arg10 arg15 i) l next) Q) := by
  refine (run_each c Q (fun _ : Unit => iprop(SomeSums c arg10 ∗ AllIdle c arg8 arg15 arg16 fc (slot i))) (fun _ _ => ()) _ ?_ l () next)
  exact fun a s next => run_mergeHead c arg8 arg10 arg15 arg16 fc i Q a next

end Cells

end Cert.KernelIdeal.Body

end
-- ==== Proof.BodyRun.lean ====
/- The body as a whole: from the buffers before a step to the buffers after it. -/
module

public import proofs.«01_k».proof.Proof.Steps
public import proofs.«01_k».proof.Proof.Pages

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal

variable {F : FTy → Type} [FloatOps F] [Named F]
variable [Facts]
open Facts Facts₀ Shapes1.Facts₀ K0.R1.Facts₀ K0.R2.Facts₀

local notation "𝕄" => MT nD τ sig Unit (Elt F) ℕ (Pipeline.UD sig nD τ) ℕ

variable (c : Dev nD) {β : Type}

section Copies

variable (arg3 : Memref sig .tc .smem S4096 .i32) (arg8 : Memref sig .tc .hbm S2x5120x8x64x128 .f32) (arg10 : Memref sig .tc .vmem S1x8x64x128 .f32)
  (arg15 : Memref sig .tc .vmem S2x32x8x64x128 .f32) (arg16 : DmaSems sig S2x32)
  (fc : arg8.view.ty.Contents (Elt F)) (i : grid0.Coords)

/-- The slot the step does not read. -/
def other : Fin 2 := ⟨(otherW i).toNat, otherW_lt i⟩

/-- The copies before step `n`: the pages of the step's own slot in flight, except before the first step and after the last. -/
def Cells (n : Nat) : sProp 𝕄 :=
  if n = 0 ∨ n = 128 then iprop(AllIdle c arg8 arg15 arg16 fc 0 ∗ AllIdle c arg8 arg15 arg16 fc 1)
  else if n % 2 = 0 then iprop(AllBusy c arg8 arg15 arg16 fc 0 ∗ AllIdle c arg8 arg15 arg16 fc 1)
  else iprop(AllBusy c arg8 arg15 arg16 fc 1 ∗ AllIdle c arg8 arg15 arg16 fc 0)

theorem slot_eq (s : Fin 2) (h : nn i % 2 = s.val) : slot i = s := Fin.ext ((slotW_toNat i).trans h)
theorem other_eq (s : Fin 2) (h : (nn i + 1) % 2 = s.val) : other i = s := Fin.ext ((otherW_toNat i).trans h)

theorem run_phFirst (Q : β → sProp 𝕄) (next : Pg F β) :
    iprop(Tbl c arg3 ∗ Cells c arg8 arg15 arg16 fc (nn i))
      ⊢ iprop((iprop(Tbl c arg3 ∗ AllBusy c arg8 arg15 arg16 fc (slot i) ∗ AllIdle c arg8 arg15 arg16 fc (other i)) -∗ Run c next Q)
        -∗ Run c (phFirst i arg3 arg8 arg15 arg16 next) Q) := by
  have hlt := nn_lt i
  unfold phFirst Cells
  by_cases h2 : k0_cond2 i = 1#1
  · have h0 : nn i = 0 := (cond2_iff i).1 h2
    rw [dif_pos h2, if_pos (Or.inl h0), slot_eq i 0 (by rw [h0]; rfl), other_eq i 1 (by rw [h0]; rfl)]
    iintro ⟨HT, HA, HB⟩ Hk
    unfold AllIdle AllBusy
    iapply (run_list c Q (Tbl c arg3) (Idle c arg8 arg15 arg16 fc 0) (Busy c arg8 arg15 arg16 fc 0) _
      (fun j next => run_startPage c arg3 arg8 arg15 arg16 fc Q 0 (fun j => j.val) inb_first (k0_chk1 i) (k0_chk1.dec i) (fun _ hw => hw h2) (fun w hw _ => inb_word w hw) j next) pages next) $$ [HT HA]
    · isplitl [HT]
      · iexact HT
      · iexact HA
    iintro ⟨HT, HA⟩
    iapply Hk
    isplitl [HT]; · iexact HT
    isplitl [HA]; · iexact HA
    iexact HB
  · have h0 : nn i ≠ 0 := fun h => h2 ((cond2_iff i).2 h)
    rw [dif_neg h2, if_neg (by omega)]
    rcases Nat.mod_two_eq_zero_or_one (nn i) with h | h
    · rw [if_pos h, slot_eq i 0 h, other_eq i 1 (by show _ = 1; omega)]
      iintro H Hk
      iapply Hk $$ H
    · rw [if_neg (by omega), slot_eq i 1 h, other_eq i 0 (by show _ = 0; omega)]
      iintro H Hk
      iapply Hk $$ H

/-- The other slot's pages once the next step's copies are started, where there is a next step. -/
def Started : sProp 𝕄 := if nn i + 1 < 128 then AllBusy c arg8 arg15 arg16 fc (other i) else AllIdle c arg8 arg15 arg16 fc (other i)

theorem run_phNext (Q : β → sProp 𝕄) (next : Pg F β) :
    iprop(Tbl c arg3 ∗ AllIdle c arg8 arg15 arg16 fc (other i))
      ⊢ iprop((iprop(Tbl c arg3 ∗ Started c arg8 arg15 arg16 fc i) -∗ Run c next Q)
        -∗ Run c (phNext i arg3 arg8 arg15 arg16 next) Q) := by
  unfold phNext Started
  by_cases h3 : k0_cond3 i = 1#1
  · have h0 : nn i + 1 < 128 := (cond3_iff i).1 h3
    rw [dif_pos h3, if_pos h0]
    unfold AllIdle AllBusy
    exact run_list c Q (Tbl c arg3) (Idle c arg8 arg15 arg16 fc (other i)) (Busy c arg8 arg15 arg16 fc (other i)) _
      (fun j next => run_startPage c arg3 arg8 arg15 arg16 fc Q (other i) (fun j => (nextW i j).toNat) (inb_next i h3) (k0_chk33 i) (k0_chk33.dec i) (fun _ hw => hw h3) (fun w hw _ => inb_word w hw) j next) pages next
  · have h0 : ¬ nn i + 1 < 128 := fun h => h3 ((cond3_iff i).2 h)
    rw [dif_neg h3, if_neg h0]
    iintro H Hk
    iapply Hk $$ H

theorem run_phWait (Q : β → sProp 𝕄) (next : Pg F β) :
    iprop(Owe c ∗ AllBusy c arg8 arg15 arg16 fc (slot i))
      ⊢ iprop((iprop(Owe c ∗ AllIdle c arg8 arg15 arg16 fc (slot i)) -∗ Run c next Q)
        -∗ Run c (phWait i arg15 arg16 next) Q) :=
  run_list c Q (Owe c) (Busy c arg8 arg15 arg16 fc (slot i)) (Idle c arg8 arg15 arg16 fc (slot i)) _
    (fun j next => run_waitPage c arg8 arg15 arg16 fc Q (slot i) j next) pages next

theorem cells_next : iprop(AllIdle c arg8 arg15 arg16 fc (slot i) ∗ Started c arg8 arg15 arg16 fc i) ⊢ Cells c arg8 arg15 arg16 fc (nn i + 1) := by
  have hlt := nn_lt i
  unfold Started Cells
  by_cases h : nn i + 1 < 128
  · rw [if_pos h, if_neg (by omega)]
    rcases Nat.mod_two_eq_zero_or_one (nn i) with h | h
    · rw [if_neg (by omega), slot_eq i 0 h, other_eq i 1 (by show _ = 1; omega)]
      iintro ⟨HA, HB⟩
      isplitl [HB] <;> iassumption
    · rw [if_pos (by omega), slot_eq i 1 h, other_eq i 0 (by show _ = 0; omega)]
      iintro ⟨HA, HB⟩
      isplitl [HB] <;> iassumption
  · rw [if_neg h, if_pos (by omega), slot_eq i 1 (by show _ = 1; omega), other_eq i 0 (by show _ = 0; omega)]
    iintro ⟨HA, HB⟩
    isplitl [HB] <;> iassumption

theorem run_phClear (Q : β → sProp 𝕄) (next : Pg F β) :
    SomeSums (F := F) c arg10 ⊢ iprop((SomeSums (F := F) c arg10 -∗ Run c next Q) -∗ Run c (phClear i arg10 next) Q) := by
  unfold phClear SomeSums
  by_cases h4 : k0_cond4 i = 1#1
  · rw [if_pos h4]
    iintro ⟨%Y, HY⟩ Hk
    iapply (run_ld c Q arg10 Y _ _ _ _ _) $$ HY
    iintro HY
    iapply (run_st c Q arg10 Y _ _ _ _ _ _) $$ HY
    iintro HY
    iapply Hk
    iexists _; iexact HY
  · rw [if_neg h4]
    iintro H Hk
    iapply Hk $$ H

/-! ## The two switches -/

/-- What the merges of page sums work on. -/
abbrev Merge : sProp 𝕄 := iprop(SomeSums (F := F) c arg10 ∗ AllIdle c arg8 arg15 arg16 fc (slot i))

variable (K : S1x4096x256.Idx → Elt F .bf16) (B : S4x16x256.Idx → Elt F .f32)
  (arg5 : Memref sig .tc .vmem S1x4096x256 .bf16) (arg13 : Memref sig .tc .vmem S4x16x256 .f32) (arg14 : Memref sig .tc .vmem S4x4096x256 .f32)

theorem run_br1 (Q : β → sProp 𝕄) (step : Fin 4 → FVec F S1x256 .f32 → (S4x4096x256.Idx → Elt F .f32) → S4x4096x256.Idx → Elt F .f32)
    (val : Fin 4 → FVec F S1x256 .f32 → (S4x4096x256.Idx → Elt F .f32) → FVec F S1x256 .f32)
    (f : Fin 4 → FVec F S1x256 .f32 → (FVec F S1x256 .f32 → Pg F β) → Pg F β)
    (hf : ∀ hh m S next, Pass1 c K B arg5 arg13 arg14 S ⊢ iprop((Pass1 c K B arg5 arg13 arg14 (step hh m S) -∗ Run c (next (val hh m S)) Q) -∗ Run c (f hh m next) Q))
    (m : Four (FVec F S1x256 .f32)) (S : S4x4096x256.Idx → Elt F .f32) (next : Four (FVec F S1x256 .f32) → Pg F β) :
    iprop(Merge c arg8 arg10 arg15 arg16 fc i ∗ Pass1 c K B arg5 arg13 arg14 S)
      ⊢ iprop((iprop(Merge c arg8 arg10 arg15 arg16 fc i ∗ Pass1 c K B arg5 arg13 arg14 (four step val m S).2) -∗ Run c (next (four step val m S).1) Q)
        -∗ Run c (br1 i arg10 arg15 f m next) Q) := by
  unfold br1
  iintro ⟨HM, HP⟩ Hk
  iapply (run_merges c arg8 arg10 arg15 arg16 fc i Q _ _) $$ HM
  iintro HM
  iapply (run_four c Q (fun S => Pass1 c K B arg5 arg13 arg14 S) step val f hf m S next) $$ HP
  iintro HP
  iapply Hk
  isplitl [HM]; · iexact HM
  iexact HP

theorem run_phOwn (Q : β → sProp 𝕄) (q : FVec F S256x256 .f32) (m : Four (FVec F S1x256 .f32)) (S : S4x4096x256.Idx → Elt F .f32) (next : Four (FVec F S1x256 .f32) → Pg F β) :
    iprop(Merge c arg8 arg10 arg15 arg16 fc i ∗ Pass1 c K B arg5 arg13 arg14 S)
      ⊢ iprop((iprop(Merge c arg8 arg10 arg15 arg16 fc i ∗ Pass1 c K B arg5 arg13 arg14 (scoresOwn K B i q m S).2) -∗ Run c (next (scoresOwn K B i q m S).1) Q)
        -∗ Run c (phOwn i arg5 arg10 arg13 arg14 arg15 q m next) Q) := by
  unfold phOwn scoresOwn
  by_cases h5 : k0_cond5 i = 1#1
  · by_cases h6 : k0_cond6 i = 1#1
    · by_cases h7 : k0_cond7 i = 1#1
      · simp only [if_pos h5, if_pos h6, if_pos h7]
        exact run_br1 c arg8 arg10 arg15 arg16 fc i K B arg5 arg13 arg14 Q (fun hh _ S => ow4T K B (ownW i) (ownW_lt i) (headQ q hh) hh S) (fun hh m _ => ow4M K B (ownW i) (ownW_lt i) (headQ q hh) hh m) (fun hh => own4 arg5 arg13 arg14 (ownW i) (ownW_lt i) (headQ q hh) hh) (fun hh m S next => run_own4 c K B arg5 arg13 arg14 Q _ _ _ hh m S next) m S next
      · simp only [if_pos h5, if_pos h6, if_neg h7]
        exact run_br1 c arg8 arg10 arg15 arg16 fc i K B arg5 arg13 arg14 Q (fun hh _ S => ow3T K B (ownW i) (ownW_lt i) (headQ q hh) hh S) (fun hh m _ => ow3M K B (ownW i) (ownW_lt i) (headQ q hh) hh m) (fun hh => own3 arg5 arg13 arg14 (ownW i) (ownW_lt i) (headQ q hh) hh) (fun hh m S next => run_own3 c K B arg5 arg13 arg14 Q _ _ _ hh m S next) m S next
    · simp only [if_pos h5, if_neg h6]
      exact run_br1 c arg8 arg10 arg15 arg16 fc i K B arg5 arg13 arg14 Q (fun hh _ S => ow2T K B (ownW i) (ownW_lt i) (headQ q hh) hh S) (fun hh m _ => ow2M K B (ownW i) (ownW_lt i) (headQ q hh) hh m) (fun hh => own2 arg5 arg13 arg14 (ownW i) (ownW_lt i) (headQ q hh) hh) (fun hh m S next => run_own2 c K B arg5 arg13 arg14 Q _ _ _ hh m S next) m S next
  · simp only [if_neg h5]
    exact run_br1 c arg8 arg10 arg15 arg16 fc i K B arg5 arg13 arg14 Q (fun hh _ S => ow1T K (ownW i) (ownW_lt i) (headQ q hh) hh S) (fun hh m _ => ow1M K (ownW i) (ownW_lt i) (headQ q hh) hh m) (fun hh => own1 arg5 arg13 arg14 (ownW i) (ownW_lt i) (headQ q hh) hh) (fun hh m S next => run_own1 c K B arg5 arg13 arg14 Q _ _ _ hh m S next) m S next

variable (arg12 : Memref sig .tc .vmem S4x4x80x1024 .bf16) (Y : S4x4x80x1024.Idx → Elt F .bf16) (S : S4x4096x256.Idx → Elt F .f32)

theorem run_br2 (Q : β → sProp 𝕄) (val : Fin 4 → FVec F S80x256 .f32 → FVec F S80x256 .f32)
    (f : Fin 4 → FVec F S80x256 .f32 → (FVec F S80x256 .f32 → Pg F β) → Pg F β)
    (hf : ∀ hh m next, Pass2 c Y S arg12 arg14 ⊢ iprop((Pass2 c Y S arg12 arg14 -∗ Run c (next (val hh m)) Q) -∗ Run c (f hh m next) Q))
    (m : Four (FVec F S80x256 .f32)) (next : Four (FVec F S80x256 .f32) → Pg F β) :
    iprop(Merge c arg8 arg10 arg15 arg16 fc i ∗ Pass2 c Y S arg12 arg14)
      ⊢ iprop((iprop(Merge c arg8 arg10 arg15 arg16 fc i ∗ Pass2 c Y S arg12 arg14) -∗ Run c (next (fourAcc val m)) Q)
        -∗ Run c (br2 i arg10 arg15 f m next) Q) := by
  unfold br2
  iintro ⟨HM, HP⟩ Hk
  iapply (run_merges c arg8 arg10 arg15 arg16 fc i Q _ _) $$ HM
  iintro HM
  iapply (run_four c Q (fun _ : Unit => Pass2 c Y S arg12 arg14) (fun _ _ _ => ()) (fun hh m _ => val hh m) f (fun hh m _ next => hf hh m next) m () next) $$ HP
  iintro HP
  iapply Hk
  isplitl [HM]; · iexact HM
  iexact HP

theorem run_phWeighOwn (Q : β → sProp 𝕄) (m : Four (FVec F S1x256 .f32)) (acc : Four (FVec F S80x256 .f32)) (next : Four (FVec F S80x256 .f32) → Pg F β) :
    iprop(Merge c arg8 arg10 arg15 arg16 fc i ∗ Pass2 c Y S arg12 arg14)
      ⊢ iprop((iprop(Merge c arg8 arg10 arg15 arg16 fc i ∗ Pass2 c Y S arg12 arg14) -∗ Run c (next (weighedOwn Y S i m acc)) Q)
        -∗ Run c (phWeighOwn i arg10 arg12 arg14 arg15 m acc next) Q) := by
  unfold phWeighOwn weighedOwn
  by_cases h5 : k0_cond8 i = 1#1
  · by_cases h6 : k0_cond9 i = 1#1
    · by_cases h7 : k0_cond10 i = 1#1
      · simp only [if_pos h5, if_pos h6, if_pos h7]
        exact run_br2 c arg8 arg10 arg15 arg16 fc i arg14 arg12 Y S Q _ _ (fun hh acc next => run_weigh4 c Y S arg12 arg14 Q _ _ _ hh acc next) acc next
      · simp only [if_pos h5, if_pos h6, if_neg h7]
        exact run_br2 c arg8 arg10 arg15 arg16 fc i arg14 arg12 Y S Q _ _ (fun hh acc next => run_weigh3 c Y S arg12 arg14 Q _ _ _ hh acc next) acc next
    · simp only [if_pos h5, if_neg h6]
      exact run_br2 c arg8 arg10 arg15 arg16 fc i arg14 arg12 Y S Q _ _ (fun hh acc next => run_weigh2 c Y S arg12 arg14 Q _ _ _ hh acc next) acc next
  · simp only [if_neg h5]
    exact run_br2 c arg8 arg10 arg15 arg16 fc i arg14 arg12 Y S Q _ _ (fun hh acc next => run_weigh1 c Y S arg12 arg14 Q _ _ _ hh acc next) acc next

/-! ## The body -/

variable (arg4 : Memref sig .tc .vmem S1x256x256 .f32) (arg6 arg7 : Memref sig .tc .vmem S1x256x4096 .f32)
  (arg9 : Memref sig .tc .vmem S1x256x256 .bf16) (harg9 : arg9.IsWhole) (arg11 : Memref sig .tc .vmem S4x16x64 .f32) (harg12 : arg12.IsWhole)
  (Q4 : S1x256x256.Idx → Elt F .f32) (KT VT : S1x256x4096.Idx → Elt F .f32) (X : S4x16x64.Idx → Elt F .f32)

/-- The maxima and scores after the first pass, from the bias rows and the scores before it. -/
def pass1 : Four (FVec F S1x256 .f32) × (S4x4096x256.Idx → Elt F .f32) :=
  let x1 := scores1 K B i (queriesOf Q4) S
  let x2 := scores2 K B i (queriesOf Q4) x1.1 x1.2
  scoresOwn K B i (queriesOf Q4) x2.1 x2.2

/-- The output block after the second pass. -/
def pass2 (m : Four (FVec F S1x256 .f32)) : Vec F S1x256x256 .bf16 :=
  shapeCast S1x256x256 (outBlock (weighedOwn Y S i m (weighed2 Y S i m (weighed1 Y S i m)))) shapeCasts_S256x256_S1x256x256

/-- The output block of a step, from what the step finds in its buffers. -/
def outOf : Vec F S1x256x256 .bf16 :=
  let B1 := selected i (queriesOf Q4) (kmNow KT i X) B
  let x := pass1 i K B1 S Q4
  pass2 i (vbNow VT i Y) x.2 x.1

theorem put_whole (O w : S1x256x256.Idx → Elt F .bf16) : put O ![0, 0, 0] S1x256x256.size w = w := by
  have e : (![0, 0, 0] : Fin 3 → Nat) = fun _ => 0 := by decide
  funext y
  unfold put
  rw [dif_pos (fun a => by rw [e]; exact ⟨Nat.zero_le _, by rw [Nat.zero_add]; exact (y a).2⟩)]
  exact congrArg w (funext fun a => Fin.ext (by show (y a).val - (![0, 0, 0] : Fin 3 → Nat) a = _; rw [e]; rfl))

theorem has_whole (O w : S1x256x256.Idx → Elt F .bf16) : Has c arg9 (put O ![0, 0, 0] S1x256x256.size w) ⊢ Has c arg9 w := by
  rw [put_whole]

theorem run_phOut (Q : PUnit → sProp 𝕄) (acc : Four (FVec F S80x256 .f32)) :
    iprop(∃ O, Has (F := F) c arg9 O) ⊢ iprop((∀ u, Has c arg9 (shapeCast S1x256x256 (outBlock acc) shapeCasts_S256x256_S1x256x256) -∗ Q u) -∗ Run c (phOut arg9 harg9 acc) Q) := by
  unfold phOut
  iintro ⟨%O, HO⟩ Hk
  iapply (run_ld c Q arg9 O _ _ _ _ _) $$ HO
  iintro HO
  iapply (run_st c Q arg9 O _ _ _ _ _ _) $$ HO
  iintro HO
  iapply (run_ret c _ Q)
  iapply Hk
  iapply (has_whole c arg9 O _) $$ HO

theorem run_body (Q : PUnit → sProp 𝕄) :
    iprop(Tbl c arg3 ∗ Owe c ∗ Cells c arg8 arg15 arg16 fc (nn i) ∗ Has c arg4 Q4 ∗ Has c arg5 K ∗ Has c arg6 KT ∗ Has c arg7 VT ∗ iprop(∃ O, Has (F := F) c arg9 O) ∗ SomeSums c arg10
        ∗ Has c arg11 X ∗ Has c arg12 Y ∗ Has c arg13 B ∗ Has c arg14 S)
      ⊢ iprop((∀ u, iprop(Tbl c arg3 ∗ Owe c ∗ Cells c arg8 arg15 arg16 fc (nn i + 1) ∗ Has c arg4 Q4 ∗ Has c arg5 K ∗ Has c arg6 KT ∗ Has c arg7 VT ∗ Has c arg9 (outOf i K B Y S Q4 KT VT X)
          ∗ SomeSums c arg10 ∗ Has c arg11 (kmNow KT i X) ∗ Has c arg12 (vbNow VT i Y) ∗ iprop(∃ B, Has c arg13 B) ∗ iprop(∃ S, Has c arg14 S)) -∗ Q u)
        -∗ Run c (body i arg3 arg4 arg5 arg6 arg7 arg8 arg9 harg9 arg10 arg11 arg12 harg12 arg13 arg14 arg15 arg16) Q) := by
  unfold body body2 body3 body4 body5 outOf pass1 pass2
  iintro ⟨HT, HW, HC, H4, H5, H6, H7, H9, H10, H11, H12, H13, H14⟩ Hk
  iapply (run_phFill c arg6 arg7 arg11 arg12 harg12 KT VT i Q X Y _) $$ [H6 H7 H11 H12]
  · isplitl [H6 H11]
    · isplitl [H6] <;> iassumption
    · isplitl [H7] <;> iassumption
  iintro ⟨⟨H6, H11⟩, ⟨H7, H12⟩⟩
  iapply (run_phSelect c arg4 arg11 arg13 i (kmNow KT i X) Q Q4 B _) $$ [H4 H11 H13]
  · isplitl [H4]; · iexact H4
    isplitl [H11] <;> iassumption
  iintro ⟨H4, H11, H13⟩
  iapply (run_phScores c K _ arg5 arg13 arg14 i _ Q S _) $$ [H5 H13 H14]
  · isplitl [H5]; · iexact H5
    isplitl [H13] <;> iassumption
  iintro HP
  iapply (run_phScores' c K _ arg5 arg13 arg14 i _ Q _ _ _) $$ HP
  iintro HP
  iapply (run_phFirst c arg3 arg8 arg15 arg16 fc i Q _) $$ [HT HC]
  · isplitl [HT] <;> iassumption
  iintro ⟨HT, HA, HI⟩
  iapply (run_phNext c arg3 arg8 arg15 arg16 fc i Q _) $$ [HT HI]
  · isplitl [HT] <;> iassumption
  iintro ⟨HT, HI⟩
  iapply (run_phClear c arg10 i Q _) $$ H10
  iintro H10
  iapply (run_phWait c arg8 arg15 arg16 fc i Q _) $$ [HW HA]
  · isplitl [HW] <;> iassumption
  iintro ⟨HW, HA⟩
  iapply (run_phOwn c arg8 arg10 arg15 arg16 fc i K _ arg5 arg13 arg14 Q _ _ _ _) $$ [HP H10 HA]
  · isplitl [H10 HA]
    · isplitl [H10] <;> iassumption
    · iexact HP
  iintro ⟨HM, H5, H13, H14⟩
  iapply (run_phWeigh c (vbNow VT i Y) _ arg12 arg14 i _ Q _) $$ [H12 H14]
  · isplitl [H12] <;> iassumption
  iintro HP
  iapply (run_phWeigh' c (vbNow VT i Y) _ arg12 arg14 i _ Q _ _) $$ HP
  iintro HP
  iapply (run_phWeighOwn c arg8 arg10 arg15 arg16 fc i arg14 arg12 _ _ Q _ _ _) $$ [HM HP]
  · isplitl [HM] <;> iassumption
  iintro ⟨⟨H10, HA⟩, H12, H14⟩
  iapply (run_phOut c arg9 harg9 Q _) $$ H9
  iintro %u H9
  iapply Hk
  isplitl [HT]; · iexact HT
  isplitl [HW]; · iexact HW
  isplitl [HA HI]
  · iapply (cells_next c arg8 arg15 arg16 fc i)
    isplitl [HA] <;> iassumption
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]
  · iexists _; iexact H13
  · iexists _; iexact H14

end Copies

end Cert.KernelIdeal.Body

end
-- ==== Proof.Held.lean ====
/- All copies' cells together: their counters, the page buffer cut into its pages, and the cache cut into equal shares. -/
module

public import proofs.«01_k».proof.Proof.BodyRun
public import Idealize.ShloMosaic.Lib.ShareLeaves

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal

variable {F : FTy → Type} [FloatOps F] [Named F]
variable [Facts]
open Facts Facts₀ Shapes1.Facts₀ K0.R1.Facts₀ K0.R2.Facts₀

local notation "𝕄" => MT nD τ sig Unit (Elt F) ℕ (Pipeline.UD sig nD τ) ℕ

/-- A slot and a page of it, numbered. -/
def num : Fin 2 × Fin 32 ≃ Fin 64 := (finProdFinEquiv : Fin 2 × Fin 32 ≃ Fin (2 * 32))

theorem num_eq (p : Fin 2 × Fin 32) : num p = ⟨32 * p.1.val + p.2.val, by have := p.1.2; have := p.2.2; omega⟩ :=
  Fin.ext (Nat.add_comm _ _)

variable (c : Dev nD)

section Pages

variable (arg8 : Memref sig .tc .hbm S2x5120x8x64x128 .f32)
  (arg15 : Memref sig .tc .vmem S2x32x8x64x128 .f32) (arg16 : DmaSems sig S2x32)
  (fc : arg8.view.ty.Contents (Elt F))

theorem page_set (s : Fin 2) (j : Fin 32) : (pageBuf arg15 s.val s.2 j).view.set
    = (Rect.unit (s := S2x32x8x64x128) ![s.val, j.val, 0, 0, 0] S1x1x8x64x128.size (inb_pg s.val s.2 j)).set.map arg15.view.emb :=
  (Memref.set_view_squeeze _ _).trans (View.set_slice arg15.view _)

theorem page_disj (p q : Fin 2 × Fin 32) (h : p ≠ q) :
    Disjoint (pageBuf arg15 p.1.val p.1.2 p.2).view.set (pageBuf arg15 q.1.val q.1.2 q.2).view.set := by
  rw [Finset.disjoint_left]
  intro y h1 h2
  rw [page_set, Finset.mem_map] at h1 h2
  obtain ⟨a, ha, rfl⟩ := h1
  obtain ⟨b, hb, hba⟩ := h2
  have := arg15.view.emb.injective hba
  subst this
  rw [Rect.mem_set_unit] at ha hb
  have a0 : p.1.val ≤ (b 0).val ∧ (b 0).val < p.1.val + 1 := ha 0
  have a1 : p.2.val ≤ (b 1).val ∧ (b 1).val < p.2.val + 1 := ha 1
  have b0 : q.1.val ≤ (b 0).val ∧ (b 0).val < q.1.val + 1 := hb 0
  have b1 : q.2.val ≤ (b 1).val ∧ (b 1).val < q.2.val + 1 := hb 1
  exact h (Prod.ext (Fin.ext (by omega)) (Fin.ext (by omega)))

theorem page_cover : (Finset.univ : Finset (Fin 2 × Fin 32)).biUnion (fun p => (pageBuf arg15 p.1.val p.1.2 p.2).view.set) = arg15.view.set := by
  ext y
  rw [Finset.mem_biUnion]
  constructor
  · rintro ⟨p, -, hp⟩
    rw [page_set, Finset.mem_map] at hp
    obtain ⟨a, -, rfl⟩ := hp
    exact Finset.mem_map_of_mem _ (Finset.mem_univ _)
  · intro hy
    obtain ⟨b, -, rfl⟩ := Finset.mem_map.mp hy
    refine ⟨((⟨(b 0).val, (b 0).2⟩ : Fin 2), (⟨(b 1).val, (b 1).2⟩ : Fin 32)), Finset.mem_univ _, ?_⟩
    rw [page_set]
    refine Finset.mem_map_of_mem _ ?_
    rw [Rect.mem_set_unit]
    intro a
    fin_cases a
    · exact ⟨Nat.le_refl _, Nat.lt_succ_self _⟩
    · exact ⟨Nat.le_refl _, Nat.lt_succ_self _⟩
    · exact ⟨Nat.zero_le _, (b 2).2.trans_le (show S2x32x8x64x128.size 2 ≤ 0 + S1x1x8x64x128.size 2 by decide)⟩
    · exact ⟨Nat.zero_le _, (b 3).2.trans_le (show S2x32x8x64x128.size 3 ≤ 0 + S1x1x8x64x128.size 3 by decide)⟩
    · exact ⟨Nat.zero_le _, (b 4).2.trans_le (show S2x32x8x64x128.size 4 ≤ 0 + S1x1x8x64x128.size 4 by decide)⟩

/-- The two slots' idle cells, as one product over slots and pages. -/
theorem idle_all : (iprop(AllIdle c arg8 arg15 arg16 fc 0 ∗ AllIdle c arg8 arg15 arg16 fc 1) : sProp 𝕄)
    = bigSep Finset.univ fun p : Fin 2 × Fin 32 => Idle c arg8 arg15 arg16 fc p.1 p.2 := by
  unfold AllIdle
  rw [sepL_pages, sepL_pages, bigSep_univ_prod, bigSep_fin_two]; rfl

theorem idle_parts : (bigSep Finset.univ fun p : Fin 2 × Fin 32 => Idle c arg8 arg15 arg16 fc p.1 p.2 : sProp 𝕄)
    = iprop((bigSep Finset.univ fun p : Fin 2 × Fin 32 => semVal ((c : Thread nD τ), SemLoc.dma (cellSem arg16 p.1 p.2)) 0)
      ∗ (bigSep Finset.univ fun p : Fin 2 × Fin 32 => Piece c arg15 p.1 p.2)
      ∗ (bigSep Finset.univ fun p : Fin 2 × Fin 32 => (arg8.view.loc (c : Thread nD τ) ↦[Finset.univ]{cellShare p.1 p.2} fc))) := by
  unfold Idle Rest
  rw [bigSep_sep', bigSep_sep']

theorem pieces_of (f : arg15.view.ty.Contents (Elt F)) : (arg15.view.loc (c : Thread nD τ) ↦[arg15.view.set]{fullShare} f : sProp 𝕄)
    ⊢ bigSep Finset.univ fun p : Fin 2 × Fin 32 => Piece c arg15 p.1 p.2 := by
  rw [← page_cover, pointsTo_biUnion _ _ fun p _ q _ h => page_disj arg15 p q h]
  exact bigSep_mono fun p _ => (show iprop(arg15.view.loc (c : Thread nD τ) ↦[(pageBuf arg15 p.1.val p.1.2 p.2).view.set]{fullShare} f) ⊢ (Piece c arg15 p.1 p.2 : sProp 𝕄) by
    unfold Piece
    iintro H
    iexists f
    iexact H)

theorem of_pieces (f₀ : arg15.view.ty.Contents (Elt F)) :
    (bigSep Finset.univ fun p : Fin 2 × Fin 32 => Piece c arg15 p.1 p.2 : sProp 𝕄)
      ⊢ iprop(∃ f : arg15.view.ty.Contents (Elt F), arg15.view.loc (c : Thread nD τ) ↦[arg15.view.set]{fullShare} f) := by
  haveI : Nonempty (arg15.view.ty.Contents (Elt F)) := ⟨f₀⟩
  unfold Piece
  iintro H
  ihave H := (bigSep_exists_pi (Finset.univ : Finset (Fin 2 × Fin 32)) fun p (f : arg15.view.ty.Contents (Elt F)) =>
    (arg15.view.loc (c : Thread nD τ) ↦[(pageBuf arg15 p.1.val p.1.2 p.2).view.set]{fullShare} f : sProp 𝕄)) $$ H
  icases H with ⟨%fs, H⟩
  ihave H := (pointsTo_biUnion_join (ℓ := arg15.view.loc (c : Thread nD τ)) (q := fullShare) (Finset.univ : Finset (Fin 2 × Fin 32))
    (fun p => (pageBuf arg15 p.1.val p.1.2 p.2).view.set) fs f₀ fun p _ q _ h => page_disj arg15 p q h) $$ H
  icases H with ⟨%g, -, H⟩
  iexists g
  rw [← page_cover]
  iexact H

theorem shares_all (ℓ : Loc nD τ sig) (f : Buf (Elt F) ℓ) : (ℓ ↦[Finset.univ]{fullShare} f : sProp 𝕄)
    = bigSep Finset.univ fun p : Fin 2 × Fin 32 => (ℓ ↦[Finset.univ]{cellShare p.1 p.2} f) := by
  rw [ShareLeaves.pointsTo_leaves Finset.univ f 6 fullShare,
    bigSep_univ_equiv (show Fin 2 × Fin 32 ≃ Fin (2 ^ 6) from num)]
  refine bigSep_congr fun p _ => ?_
  rw [show (show Fin 2 × Fin 32 ≃ Fin (2 ^ 6) from num) p = ⟨32 * p.1.val + p.2.val, by have := p.1.2; have := p.2.2; omega⟩ from num_eq p]
  rfl

end Pages

/-! ## The kernel's own buffers -/

/-- The copies' cells, numbered. -/
abbrev osem0 : Fin 64 → SemLoc sig := fun k => SemLoc.dma ⟨9 + k.val, by have := k.2; show _ < 73; omega⟩

theorem cell_eq (p : Fin 2 × Fin 32) : SemLoc.dma (sig := sig) (cellSem cc0_scratch5 p.1 p.2) = osem0 (num p) := by
  have h0 : ∀ k : (Rect.unit (s := S2x32) ![p.1.val, p.2.val] S1x1.size (inb_sem p.1.val p.1.2 p.2)).shape.Idx,
      (S2x32.rowMajor ((Rect.unit (s := S2x32) ![p.1.val, p.2.val] S1x1.size (inb_sem p.1.val p.1.2 p.2)).emb k)).val = 32 * p.1.val + p.2.val := by
    intro k
    have k0 : (k 0).val < 1 := (k 0).2
    have k1 : (k 1).val < 1 := (k 1).2
    have e0 : (((Rect.unit (s := S2x32) ![p.1.val, p.2.val] S1x1.size (inb_sem p.1.val p.1.2 p.2)).emb k) 0).val = p.1.val + 1 * (k 0).val := rfl
    have e1 : (((Rect.unit (s := S2x32) ![p.1.val, p.2.val] S1x1.size (inb_sem p.1.val p.1.2 p.2)).emb k) 1).val = p.2.val + 1 * (k 1).val := rfl
    refine (Shape.rowMajor_val_two _).trans ?_
    rw [e0, e1, show (![2, 32] : Fin 2 → Nat) 1 = 32 from rfl]
    omega
  show SemLoc.dma (sig := sig) _ = SemLoc.dma _
  refine congrArg SemLoc.dma (Fin.ext ?_)
  rw [num_eq]
  exact congrArg (9 + ·) (h0 _)

theorem sems_all : (Pipeline.ownSems0 (Ix := Unit) (Name := ℕ) (U := Pipeline.UD sig nD τ) (Lvl := ℕ) (Val := Elt F) (τ := τ) osem0 c : sProp 𝕄)
    = bigSep Finset.univ fun p : Fin 2 × Fin 32 => semVal ((c : Thread nD τ), SemLoc.dma (cellSem cc0_scratch5 p.1 p.2)) 0 := by
  unfold Pipeline.ownSems0
  rw [bigSep_univ_equiv num]
  exact bigSep_congr fun p _ => by rw [cell_eq]

end Cert.KernelIdeal.Body

end
-- ==== Proof.BodyEq.lean ====
/- The printed body is the program of `Proof.Body`: the printed text is cut where it branches and where it loops, the
   pieces between are compared as they stand. -/
module

public import proofs.«01_k».proof.KernelIdeal
public import proofs.«01_k».proof.Proof.Body
public import Idealize.ShloMosaic.Lib.Pipeline.Regions

@[expose] public section

noncomputable section

namespace Cert.KernelIdeal.Body

open Idealize.ShloMosaic Idealize.SL.Sem
open Cert.KernelIdeal

variable {F : FTy → Type} [FloatOps F] [Named F]
variable [Facts]
open Facts Facts₀ Shapes1.Facts₀ K0.R1.Facts₀ K0.R2.Facts₀

section Assoc
variable {E : Type → Type} {α β γ : Type}

/-- Two runs one after the other agree where their parts do. -/
theorem seq_congr {p p' : Prog E α} {f f' : α → Prog E β} (hp : p = p') (hf : ∀ x, f x = f' x) : (p >>= f) = (p' >>= f') := by
  subst hp; congr; funext x; exact hf x

/-- Three programs in a row. -/
theorem seq_assoc (p : Prog E α) (f : α → Prog E β) (g : β → Prog E γ) : ((p >>= f) >>= g) = (p >>= fun x => f x >>= g) :=
  Prog.bind_assoc p f g

/-- The same operation, then what agrees. -/
theorem op_congr {ρ : Type} {e : E ρ} {k k' : ρ → Prog E α} (h : ∀ x, k x = k' x) : (Prog.op e k) = Prog.op e k' := by
  congr; funext x; exact h x

end Assoc

section Tails
variable (i : grid0.Coords) (arg3 : Memref sig .tc .smem S4096 .i32) (harg3 : arg3.IsWhole) (arg4 : Memref sig .tc .vmem S1x256x256 .f32) (harg4 : arg4.IsWhole) (arg5 : Memref sig .tc .vmem S1x4096x256 .bf16) (harg5 : arg5.IsWhole) (arg6 : Memref sig .tc .vmem S1x256x4096 .f32) (harg6 : arg6.IsWhole) (arg7 : Memref sig .tc .vmem S1x256x4096 .f32) (harg7 : arg7.IsWhole) (arg8 : Memref sig .tc .hbm S2x5120x8x64x128 .f32) (harg8 : arg8.IsWhole) (arg9 : Memref sig .tc .vmem S1x256x256 .bf16) (harg9 : arg9.IsWhole) (arg10 : Memref sig .tc .vmem S1x8x64x128 .f32) (harg10 : arg10.IsWhole) (arg11 : Memref sig .tc .vmem S4x16x64 .f32) (harg11 : arg11.IsWhole) (arg12 : Memref sig .tc .vmem S4x4x80x1024 .bf16) (harg12 : arg12.IsWhole) (arg13 : Memref sig .tc .vmem S4x16x256 .f32) (harg13 : arg13.IsWhole) (arg14 : Memref sig .tc .vmem S4x4096x256 .f32) (harg14 : arg14.IsWhole) (arg15 : Memref sig .tc .vmem S2x32x8x64x128 .f32) (harg15 : arg15.IsWhole) (arg16 : DmaSems sig S2x32)

set_option cleanup.letToHave false in set_option maxHeartbeats 40000000 in
/-- The printed text from the second switch on. -/
def tail8 (v3 v840 v1083 c0_i32_430 : BitVec 32) (v1092_0 v1092_1 v1092_2 v1092_3 : FVec F S1x256 .f32) (v1103_0 v1103_1 v1103_2 v1103_3 : FVec F S80x256 .f32) : Pg F PUnit := do
  let c3_i32_431 : BitVec 32 := 3#32
  let v1104 : BitVec 32 := Scalar.maxsi v1083 c0_i32_430
  let v1105 : BitVec 32 := Scalar.minsi v1104 c3_i32_431
  let c0_i32_432 : BitVec 32 := 0#32
  let v1106 : BitVec 1 := Scalar.cmpi .ne v1105 c0_i32_432
  let (v1107_0, v1107_1, v1107_2, v1107_3) : FVec F S80x256 .f32 × FVec F S80x256 .f32 × FVec F S80x256 .f32 × FVec F S80x256 .f32 ← if k0_h8 : k0_cond8 i = 1#1 then do
      let c1_i32_436 : BitVec 32 := 1#32
      let v1130 : BitVec 32 := Scalar.subi v1105 c1_i32_436
      let c0_i32_437 : BitVec 32 := 0#32
      let v1131 : BitVec 1 := Scalar.cmpi .ne v1130 c0_i32_437
      let (v1132_0, v1132_1, v1132_2, v1132_3) : FVec F S80x256 .f32 × FVec F S80x256 .f32 × FVec F S80x256 .f32 × FVec F S80x256 .f32 ← if k0_h9 : k0_cond9 i = 1#1 then do
          let c1_i32_438 : BitVec 32 := 1#32
          let v1133 : BitVec 32 := Scalar.subi v1130 c1_i32_438
          let c0_i32_439 : BitVec 32 := 0#32
          let v1134 : BitVec 1 := Scalar.cmpi .ne v1133 c0_i32_439
          let (v1135_0, v1135_1, v1135_2, v1135_3) : FVec F S80x256 .f32 × FVec F S80x256 .f32 × FVec F S80x256 .f32 × FVec F S80x256 .f32 ← if k0_h10 : k0_cond10 i = 1#1 then do
              let ⟨v2214, v2226, v2238, v2247, v2248⟩ : Σ' (v2214 : FVec F S80x256 .f32) (v2226 : FVec F S80x256 .f32) (v2238 : FVec F S80x256 .f32) (v2247 : FVec F S80x1024 .bf16), FVec F S1024x256 .bf16 ← k0_part204 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9 k0_h10
              have cst_1184 : FVec F S80x256 .f32 := constant S80x256 .f32 0x00000000#32
              have v2249 : FVec F S80x256 .f32 := matmul dot_S80x1024_S1024x256_S80x256_1_0_0_1_n_n none v2247 v2248 cst_1184
              have v2250 : FVec F S80x256 .f32 := addf v1103_3 v2249
              pure (v2214, v2226, v2238, v2250)
            else do
              let ⟨v2214, v2226, v2238, v2247, v2248⟩ : Σ' (v2214 : FVec F S80x256 .f32) (v2226 : FVec F S80x256 .f32) (v2238 : FVec F S80x256 .f32) (v2247 : FVec F S80x768 .bf16), FVec F S768x256 .bf16 ← k0_part236 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9 k0_h10
              have cst_1184 : FVec F S80x256 .f32 := constant S80x256 .f32 0x00000000#32
              have v2249 : FVec F S80x256 .f32 := matmul dot_S80x768_S768x256_S80x256_1_0_0_1_n_n none v2247 v2248 cst_1184
              have v2250 : FVec F S80x256 .f32 := addf v1103_3 v2249
              pure (v2214, v2226, v2238, v2250)
          pure (v1135_0, v1135_1, v1135_2, v1135_3)
        else do
          let ⟨v2211, v2223, v2235, v2244, v2245⟩ : Σ' (v2211 : FVec F S80x256 .f32) (v2223 : FVec F S80x256 .f32) (v2235 : FVec F S80x256 .f32) (v2244 : FVec F S80x512 .bf16), FVec F S512x256 .bf16 ← k0_part268 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9
          have cst_1182 : FVec F S80x256 .f32 := constant S80x256 .f32 0x00000000#32
          have v2246 : FVec F S80x256 .f32 := matmul dot_S80x512_S512x256_S80x256_1_0_0_1_n_n none v2244 v2245 cst_1182
          have v2247 : FVec F S80x256 .f32 := addf v1103_3 v2246
          pure (v2211, v2223, v2235, v2247)
      pure (v1132_0, v1132_1, v1132_2, v1132_3)
    else do
      let ⟨v2208, v2220, v2232, v2241, v2242⟩ : Σ' (v2208 : FVec F S80x256 .f32) (v2220 : FVec F S80x256 .f32) (v2232 : FVec F S80x256 .f32) (v2241 : FVec F S80x256 .bf16), FVec F S256x256 .bf16 ← k0_part300 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8
      have cst_1180 : FVec F S80x256 .f32 := constant S80x256 .f32 0x00000000#32
      have v2243 : FVec F S80x256 .f32 := matmul dot_S80x256_S256x256_S80x256_1_0_0_1_n_n none v2241 v2242 cst_1180
      have v2244 : FVec F S80x256 .f32 := addf v1103_3 v2243
      pure (v2208, v2220, v2232, v2244)
  have v1108 : FVec F S64x256 .f32 := extractStridedSlice S64x256 ![0, 0] v1107_0 slices_S80x256_o0_0_S64x256
  have v1109 : FVec F S1x256 .f32 := extractStridedSlice S1x256 ![64, 0] v1107_0 slices_S80x256_o64_0_S1x256
  have v1110 : FVec F S64x256 .f32 := broadcastTo S64x256 v1109 broadcasts_S1x256_S64x256
  have v1111 : FVec F S64x256 .f32 := divf v1108 v1110
  have v1112 : FVec F S64x256 .f32 := extractStridedSlice S64x256 ![0, 0] v1107_1 slices_S80x256_o0_0_S64x256
  have v1113 : FVec F S1x256 .f32 := extractStridedSlice S1x256 ![64, 0] v1107_1 slices_S80x256_o64_0_S1x256
  have v1114 : FVec F S64x256 .f32 := broadcastTo S64x256 v1113 broadcasts_S1x256_S64x256
  have v1115 : FVec F S64x256 .f32 := divf v1112 v1114
  have v1116 : FVec F S64x256 .f32 := extractStridedSlice S64x256 ![0, 0] v1107_2 slices_S80x256_o0_0_S64x256
  have v1117 : FVec F S1x256 .f32 := extractStridedSlice S1x256 ![64, 0] v1107_2 slices_S80x256_o64_0_S1x256
  have v1118 : FVec F S64x256 .f32 := broadcastTo S64x256 v1117 broadcasts_S1x256_S64x256
  have v1119 : FVec F S64x256 .f32 := divf v1116 v1118
  have v1120 : FVec F S64x256 .f32 := extractStridedSlice S64x256 ![0, 0] v1107_3 slices_S80x256_o0_0_S64x256
  have v1121 : FVec F S1x256 .f32 := extractStridedSlice S1x256 ![64, 0] v1107_3 slices_S80x256_o64_0_S1x256
  have v1122 : FVec F S64x256 .f32 := broadcastTo S64x256 v1121 broadcasts_S1x256_S64x256
  have v1123 : FVec F S64x256 .f32 := divf v1120 v1122
  have v1124 : FVec F S256x256 .f32 := concatenate S256x256 0 [⟨S64x256, v1111⟩, ⟨S64x256, v1115⟩, ⟨S64x256, v1119⟩, ⟨S64x256, v1123⟩] concatenates_S64x256_S64x256_S64x256_S64x256_S256x256_d0
  have v1125 : FVec F S256x256 .f32 := transpose S256x256 [1, 0] v1124 transposes_S256x256_p1_0_S256x256
  have v1126 : FVec F S256x256 .bf16 := truncf .bf16 v1125 bitsLt_bf16_f32
  let c0_433 : Index := 0#32
  let c0_434 : Index := 0#32
  let c0_435 : Index := 0#32
  let v1127 : Vec F S1x256x256 .bf16 ← Prog.lift (.load arg9 (Rect.unit (s := S1x256x256) ![0, 0, 0] S1x256x256.size inb_S1x256x256_S1x256x256_0_0_0).toLoadRect (View.loadsAt_vmem h_S1x256x256))
  have v1128 : FVec F S256x256 .bf16 := shapeCast S256x256 v1127 shapeCasts_S1x256x256_S256x256
  have v1129 : FVec F S1x256x256 .bf16 := shapeCast S1x256x256 v1126 shapeCasts_S256x256_S1x256x256
  Prog.lift (.store arg9 (Rect.unit (s := S1x256x256) ![0, 0, 0] S1x256x256.size inb_S1x256x256_S1x256x256_0_0_0) v1129 Finset.univ (View.stores_vmem h_S1x256x256 (harg9.storeExact_slice rfl _ packedbf16_S1x256x256_S1x256x256_0_0_0) (fun _ => rfl)) (.inl rfl))
  pure ⟨⟩

set_option cleanup.letToHave false in set_option maxHeartbeats 40000000 in
/-- The printed text from the last wait on. -/
def tail327 (arg2 v3 v840 : BitVec 32) (v22 v224 v426 v628 : FVec F S256x256 .bf16) (v851_0 v851_1 v851_2 v851_3 : FVec F S1x256 .f32) : Pg F PUnit := do
  let ⟨v1083, v1092_0, v1092_1, v1092_2, v1092_3, v1103_0, v1103_1, v1103_2, v1103_3, c0_i32_430⟩ : Σ' (v1083 : BitVec 32) (v1092_0 : FVec F S1x256 .f32) (v1092_1 : FVec F S1x256 .f32) (v1092_2 : FVec F S1x256 .f32) (v1092_3 : FVec F S1x256 .f32) (v1103_0 : FVec F S80x256 .f32) (v1103_1 : FVec F S80x256 .f32) (v1103_2 : FVec F S80x256 .f32) (v1103_3 : FVec F S80x256 .f32), BitVec 32 ← k0_part327 i arg3 harg3 arg4 harg4 arg5 harg5 arg6 harg6 arg7 harg7 arg8 harg8 arg9 harg9 arg10 harg10 arg11 harg11 arg12 harg12 arg13 harg13 arg14 harg14 arg15 harg15 arg16 arg2 v3 v22 v224 v426 v628 v840 v851_0 v851_1 v851_2 v851_3
  let c3_i32_431 : BitVec 32 := 3#32
  let v1104 : BitVec 32 := Scalar.maxsi v1083 c0_i32_430
  let v1105 : BitVec 32 := Scalar.minsi v1104 c3_i32_431
  let c0_i32_432 : BitVec 32 := 0#32
  let v1106 : BitVec 1 := Scalar.cmpi .ne v1105 c0_i32_432
  let (v1107_0, v1107_1, v1107_2, v1107_3) : FVec F S80x256 .f32 × FVec F S80x256 .f32 × FVec F S80x256 .f32 × FVec F S80x256 .f32 ← if k0_h8 : k0_cond8 i = 1#1 then do
      let c1_i32_436 : BitVec 32 := 1#32
      let v1130 : BitVec 32 := Scalar.subi v1105 c1_i32_436
      let c0_i32_437 : BitVec 32 := 0#32
      let v1131 : BitVec 1 := Scalar.cmpi .ne v1130 c0_i32_437
      let (v1132_0, v1132_1, v1132_2, v1132_3) : FVec F S80x256 .f32 × FVec F S80x256 .f32 × FVec F S80x256 .f32 × FVec F S80x256 .f32 ← if k0_h9 : k0_cond9 i = 1#1 then do
          let c1_i32_438 : BitVec 32 := 1#32
          let v1133 : BitVec 32 := Scalar.subi v1130 c1_i32_438
          let c0_i32_439 : BitVec 32 := 0#32
          let v1134 : BitVec 1 := Scalar.cmpi .ne v1133 c0_i32_439
          let (v1135_0, v1135_1, v1135_2, v1135_3) : FVec F S80x256 .f32 × FVec F S80x256 .f32 × FVec F S80x256 .f32 × FVec F S80x256 .f32 ← if k0_h10 : k0_cond10 i = 1#1 then do
              let ⟨v2214, v2226, v2238, v2247, v2248⟩ : Σ' (v2214 : FVec F S80x256 .f32) (v2226 : FVec F S80x256 .f32) (v2238 : FVec F S80x256 .f32) (v2247 : FVec F S80x1024 .bf16), FVec F S1024x256 .bf16 ← k0_part204 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9 k0_h10
              have cst_1184 : FVec F S80x256 .f32 := constant S80x256 .f32 0x00000000#32
              have v2249 : FVec F S80x256 .f32 := matmul dot_S80x1024_S1024x256_S80x256_1_0_0_1_n_n none v2247 v2248 cst_1184
              have v2250 : FVec F S80x256 .f32 := addf v1103_3 v2249
              pure (v2214, v2226, v2238, v2250)
            else do
              let ⟨v2214, v2226, v2238, v2247, v2248⟩ : Σ' (v2214 : FVec F S80x256 .f32) (v2226 : FVec F S80x256 .f32) (v2238 : FVec F S80x256 .f32) (v2247 : FVec F S80x768 .bf16), FVec F S768x256 .bf16 ← k0_part236 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9 k0_h10
              have cst_1184 : FVec F S80x256 .f32 := constant S80x256 .f32 0x00000000#32
              have v2249 : FVec F S80x256 .f32 := matmul dot_S80x768_S768x256_S80x256_1_0_0_1_n_n none v2247 v2248 cst_1184
              have v2250 : FVec F S80x256 .f32 := addf v1103_3 v2249
              pure (v2214, v2226, v2238, v2250)
          pure (v1135_0, v1135_1, v1135_2, v1135_3)
        else do
          let ⟨v2211, v2223, v2235, v2244, v2245⟩ : Σ' (v2211 : FVec F S80x256 .f32) (v2223 : FVec F S80x256 .f32) (v2235 : FVec F S80x256 .f32) (v2244 : FVec F S80x512 .bf16), FVec F S512x256 .bf16 ← k0_part268 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9
          have cst_1182 : FVec F S80x256 .f32 := constant S80x256 .f32 0x00000000#32
          have v2246 : FVec F S80x256 .f32 := matmul dot_S80x512_S512x256_S80x256_1_0_0_1_n_n none v2244 v2245 cst_1182
          have v2247 : FVec F S80x256 .f32 := addf v1103_3 v2246
          pure (v2211, v2223, v2235, v2247)
      pure (v1132_0, v1132_1, v1132_2, v1132_3)
    else do
      let ⟨v2208, v2220, v2232, v2241, v2242⟩ : Σ' (v2208 : FVec F S80x256 .f32) (v2220 : FVec F S80x256 .f32) (v2232 : FVec F S80x256 .f32) (v2241 : FVec F S80x256 .bf16), FVec F S256x256 .bf16 ← k0_part300 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8
      have cst_1180 : FVec F S80x256 .f32 := constant S80x256 .f32 0x00000000#32
      have v2243 : FVec F S80x256 .f32 := matmul dot_S80x256_S256x256_S80x256_1_0_0_1_n_n none v2241 v2242 cst_1180
      have v2244 : FVec F S80x256 .f32 := addf v1103_3 v2243
      pure (v2208, v2220, v2232, v2244)
  have v1108 : FVec F S64x256 .f32 := extractStridedSlice S64x256 ![0, 0] v1107_0 slices_S80x256_o0_0_S64x256
  have v1109 : FVec F S1x256 .f32 := extractStridedSlice S1x256 ![64, 0] v1107_0 slices_S80x256_o64_0_S1x256
  have v1110 : FVec F S64x256 .f32 := broadcastTo S64x256 v1109 broadcasts_S1x256_S64x256
  have v1111 : FVec F S64x256 .f32 := divf v1108 v1110
  have v1112 : FVec F S64x256 .f32 := extractStridedSlice S64x256 ![0, 0] v1107_1 slices_S80x256_o0_0_S64x256
  have v1113 : FVec F S1x256 .f32 := extractStridedSlice S1x256 ![64, 0] v1107_1 slices_S80x256_o64_0_S1x256
  have v1114 : FVec F S64x256 .f32 := broadcastTo S64x256 v1113 broadcasts_S1x256_S64x256
  have v1115 : FVec F S64x256 .f32 := divf v1112 v1114
  have v1116 : FVec F S64x256 .f32 := extractStridedSlice S64x256 ![0, 0] v1107_2 slices_S80x256_o0_0_S64x256
  have v1117 : FVec F S1x256 .f32 := extractStridedSlice S1x256 ![64, 0] v1107_2 slices_S80x256_o64_0_S1x256
  have v1118 : FVec F S64x256 .f32 := broadcastTo S64x256 v1117 broadcasts_S1x256_S64x256
  have v1119 : FVec F S64x256 .f32 := divf v1116 v1118
  have v1120 : FVec F S64x256 .f32 := extractStridedSlice S64x256 ![0, 0] v1107_3 slices_S80x256_o0_0_S64x256
  have v1121 : FVec F S1x256 .f32 := extractStridedSlice S1x256 ![64, 0] v1107_3 slices_S80x256_o64_0_S1x256
  have v1122 : FVec F S64x256 .f32 := broadcastTo S64x256 v1121 broadcasts_S1x256_S64x256
  have v1123 : FVec F S64x256 .f32 := divf v1120 v1122
  have v1124 : FVec F S256x256 .f32 := concatenate S256x256 0 [⟨S64x256, v1111⟩, ⟨S64x256, v1115⟩, ⟨S64x256, v1119⟩, ⟨S64x256, v1123⟩] concatenates_S64x256_S64x256_S64x256_S64x256_S256x256_d0
  have v1125 : FVec F S256x256 .f32 := transpose S256x256 [1, 0] v1124 transposes_S256x256_p1_0_S256x256
  have v1126 : FVec F S256x256 .bf16 := truncf .bf16 v1125 bitsLt_bf16_f32
  let c0_433 : Index := 0#32
  let c0_434 : Index := 0#32
  let c0_435 : Index := 0#32
  let v1127 : Vec F S1x256x256 .bf16 ← Prog.lift (.load arg9 (Rect.unit (s := S1x256x256) ![0, 0, 0] S1x256x256.size inb_S1x256x256_S1x256x256_0_0_0).toLoadRect (View.loadsAt_vmem h_S1x256x256))
  have v1128 : FVec F S256x256 .bf16 := shapeCast S256x256 v1127 shapeCasts_S1x256x256_S256x256
  have v1129 : FVec F S1x256x256 .bf16 := shapeCast S1x256x256 v1126 shapeCasts_S256x256_S1x256x256
  Prog.lift (.store arg9 (Rect.unit (s := S1x256x256) ![0, 0, 0] S1x256x256.size inb_S1x256x256_S1x256x256_0_0_0) v1129 Finset.univ (View.stores_vmem h_S1x256x256 (harg9.storeExact_slice rfl _ packedbf16_S1x256x256_S1x256x256_0_0_0) (fun _ => rfl)) (.inl rfl))
  pure ⟨⟩

set_option cleanup.letToHave false in set_option maxHeartbeats 40000000 in
/-- The printed text from the copies on. -/
def tail318 (arg2 v3 v840 v853 v854 : BitVec 32) (v855 v858 : BitVec 1) (v22 v224 v426 v628 : FVec F S256x256 .bf16) (v851_0 v851_1 v851_2 v851_3 : FVec F S1x256 .f32) : Pg F PUnit := do
  k0_part318 i arg3 harg3 arg4 harg4 arg5 harg5 arg6 harg6 arg7 harg7 arg8 harg8 arg9 harg9 arg10 harg10 arg11 harg11 arg12 harg12 arg13 harg13 arg14 harg14 arg15 harg15 arg16 v3 v853 v854 v855 v858
  k0_part319 i arg3 harg3 arg4 harg4 arg5 harg5 arg6 harg6 arg7 harg7 arg8 harg8 arg9 harg9 arg10 harg10 arg11 harg11 arg12 harg12 arg13 harg13 arg14 harg14 arg15 harg15 arg16
  k0_part320 i arg3 harg3 arg4 harg4 arg5 harg5 arg6 harg6 arg7 harg7 arg8 harg8 arg9 harg9 arg10 harg10 arg11 harg11 arg12 harg12 arg13 harg13 arg14 harg14 arg15 harg15 arg16
  k0_part321 i arg3 harg3 arg4 harg4 arg5 harg5 arg6 harg6 arg7 harg7 arg8 harg8 arg9 harg9 arg10 harg10 arg11 harg11 arg12 harg12 arg13 harg13 arg14 harg14 arg15 harg15 arg16
  k0_part322 i arg3 harg3 arg4 harg4 arg5 harg5 arg6 harg6 arg7 harg7 arg8 harg8 arg9 harg9 arg10 harg10 arg11 harg11 arg12 harg12 arg13 harg13 arg14 harg14 arg15 harg15 arg16
  k0_part323 i arg3 harg3 arg4 harg4 arg5 harg5 arg6 harg6 arg7 harg7 arg8 harg8 arg9 harg9 arg10 harg10 arg11 harg11 arg12 harg12 arg13 harg13 arg14 harg14 arg15 harg15 arg16
  k0_part324 i arg3 harg3 arg4 harg4 arg5 harg5 arg6 harg6 arg7 harg7 arg8 harg8 arg9 harg9 arg10 harg10 arg11 harg11 arg12 harg12 arg13 harg13 arg14 harg14 arg15 harg15 arg16
  k0_part325 i arg3 harg3 arg4 harg4 arg5 harg5 arg6 harg6 arg7 harg7 arg8 harg8 arg9 harg9 arg10 harg10 arg11 harg11 arg12 harg12 arg13 harg13 arg14 harg14 arg15 harg15 arg16
  k0_part326 i arg3 harg3 arg4 harg4 arg5 harg5 arg6 harg6 arg7 harg7 arg8 harg8 arg9 harg9 arg10 harg10 arg11 harg11 arg12 harg12 arg13 harg13 arg14 harg14 arg15 harg15 arg16
  let ⟨v1083, v1092_0, v1092_1, v1092_2, v1092_3, v1103_0, v1103_1, v1103_2, v1103_3, c0_i32_430⟩ : Σ' (v1083 : BitVec 32) (v1092_0 : FVec F S1x256 .f32) (v1092_1 : FVec F S1x256 .f32) (v1092_2 : FVec F S1x256 .f32) (v1092_3 : FVec F S1x256 .f32) (v1103_0 : FVec F S80x256 .f32) (v1103_1 : FVec F S80x256 .f32) (v1103_2 : FVec F S80x256 .f32) (v1103_3 : FVec F S80x256 .f32), BitVec 32 ← k0_part327 i arg3 harg3 arg4 harg4 arg5 harg5 arg6 harg6 arg7 harg7 arg8 harg8 arg9 harg9 arg10 harg10 arg11 harg11 arg12 harg12 arg13 harg13 arg14 harg14 arg15 harg15 arg16 arg2 v3 v22 v224 v426 v628 v840 v851_0 v851_1 v851_2 v851_3
  let c3_i32_431 : BitVec 32 := 3#32
  let v1104 : BitVec 32 := Scalar.maxsi v1083 c0_i32_430
  let v1105 : BitVec 32 := Scalar.minsi v1104 c3_i32_431
  let c0_i32_432 : BitVec 32 := 0#32
  let v1106 : BitVec 1 := Scalar.cmpi .ne v1105 c0_i32_432
  let (v1107_0, v1107_1, v1107_2, v1107_3) : FVec F S80x256 .f32 × FVec F S80x256 .f32 × FVec F S80x256 .f32 × FVec F S80x256 .f32 ← if k0_h8 : k0_cond8 i = 1#1 then do
      let c1_i32_436 : BitVec 32 := 1#32
      let v1130 : BitVec 32 := Scalar.subi v1105 c1_i32_436
      let c0_i32_437 : BitVec 32 := 0#32
      let v1131 : BitVec 1 := Scalar.cmpi .ne v1130 c0_i32_437
      let (v1132_0, v1132_1, v1132_2, v1132_3) : FVec F S80x256 .f32 × FVec F S80x256 .f32 × FVec F S80x256 .f32 × FVec F S80x256 .f32 ← if k0_h9 : k0_cond9 i = 1#1 then do
          let c1_i32_438 : BitVec 32 := 1#32
          let v1133 : BitVec 32 := Scalar.subi v1130 c1_i32_438
          let c0_i32_439 : BitVec 32 := 0#32
          let v1134 : BitVec 1 := Scalar.cmpi .ne v1133 c0_i32_439
          let (v1135_0, v1135_1, v1135_2, v1135_3) : FVec F S80x256 .f32 × FVec F S80x256 .f32 × FVec F S80x256 .f32 × FVec F S80x256 .f32 ← if k0_h10 : k0_cond10 i = 1#1 then do
              let ⟨v2214, v2226, v2238, v2247, v2248⟩ : Σ' (v2214 : FVec F S80x256 .f32) (v2226 : FVec F S80x256 .f32) (v2238 : FVec F S80x256 .f32) (v2247 : FVec F S80x1024 .bf16), FVec F S1024x256 .bf16 ← k0_part204 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9 k0_h10
              have cst_1184 : FVec F S80x256 .f32 := constant S80x256 .f32 0x00000000#32
              have v2249 : FVec F S80x256 .f32 := matmul dot_S80x1024_S1024x256_S80x256_1_0_0_1_n_n none v2247 v2248 cst_1184
              have v2250 : FVec F S80x256 .f32 := addf v1103_3 v2249
              pure (v2214, v2226, v2238, v2250)
            else do
              let ⟨v2214, v2226, v2238, v2247, v2248⟩ : Σ' (v2214 : FVec F S80x256 .f32) (v2226 : FVec F S80x256 .f32) (v2238 : FVec F S80x256 .f32) (v2247 : FVec F S80x768 .bf16), FVec F S768x256 .bf16 ← k0_part236 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9 k0_h10
              have cst_1184 : FVec F S80x256 .f32 := constant S80x256 .f32 0x00000000#32
              have v2249 : FVec F S80x256 .f32 := matmul dot_S80x768_S768x256_S80x256_1_0_0_1_n_n none v2247 v2248 cst_1184
              have v2250 : FVec F S80x256 .f32 := addf v1103_3 v2249
              pure (v2214, v2226, v2238, v2250)
          pure (v1135_0, v1135_1, v1135_2, v1135_3)
        else do
          let ⟨v2211, v2223, v2235, v2244, v2245⟩ : Σ' (v2211 : FVec F S80x256 .f32) (v2223 : FVec F S80x256 .f32) (v2235 : FVec F S80x256 .f32) (v2244 : FVec F S80x512 .bf16), FVec F S512x256 .bf16 ← k0_part268 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9
          have cst_1182 : FVec F S80x256 .f32 := constant S80x256 .f32 0x00000000#32
          have v2246 : FVec F S80x256 .f32 := matmul dot_S80x512_S512x256_S80x256_1_0_0_1_n_n none v2244 v2245 cst_1182
          have v2247 : FVec F S80x256 .f32 := addf v1103_3 v2246
          pure (v2211, v2223, v2235, v2247)
      pure (v1132_0, v1132_1, v1132_2, v1132_3)
    else do
      let ⟨v2208, v2220, v2232, v2241, v2242⟩ : Σ' (v2208 : FVec F S80x256 .f32) (v2220 : FVec F S80x256 .f32) (v2232 : FVec F S80x256 .f32) (v2241 : FVec F S80x256 .bf16), FVec F S256x256 .bf16 ← k0_part300 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8
      have cst_1180 : FVec F S80x256 .f32 := constant S80x256 .f32 0x00000000#32
      have v2243 : FVec F S80x256 .f32 := matmul dot_S80x256_S256x256_S80x256_1_0_0_1_n_n none v2241 v2242 cst_1180
      have v2244 : FVec F S80x256 .f32 := addf v1103_3 v2243
      pure (v2208, v2220, v2232, v2244)
  have v1108 : FVec F S64x256 .f32 := extractStridedSlice S64x256 ![0, 0] v1107_0 slices_S80x256_o0_0_S64x256
  have v1109 : FVec F S1x256 .f32 := extractStridedSlice S1x256 ![64, 0] v1107_0 slices_S80x256_o64_0_S1x256
  have v1110 : FVec F S64x256 .f32 := broadcastTo S64x256 v1109 broadcasts_S1x256_S64x256
  have v1111 : FVec F S64x256 .f32 := divf v1108 v1110
  have v1112 : FVec F S64x256 .f32 := extractStridedSlice S64x256 ![0, 0] v1107_1 slices_S80x256_o0_0_S64x256
  have v1113 : FVec F S1x256 .f32 := extractStridedSlice S1x256 ![64, 0] v1107_1 slices_S80x256_o64_0_S1x256
  have v1114 : FVec F S64x256 .f32 := broadcastTo S64x256 v1113 broadcasts_S1x256_S64x256
  have v1115 : FVec F S64x256 .f32 := divf v1112 v1114
  have v1116 : FVec F S64x256 .f32 := extractStridedSlice S64x256 ![0, 0] v1107_2 slices_S80x256_o0_0_S64x256
  have v1117 : FVec F S1x256 .f32 := extractStridedSlice S1x256 ![64, 0] v1107_2 slices_S80x256_o64_0_S1x256
  have v1118 : FVec F S64x256 .f32 := broadcastTo S64x256 v1117 broadcasts_S1x256_S64x256
  have v1119 : FVec F S64x256 .f32 := divf v1116 v1118
  have v1120 : FVec F S64x256 .f32 := extractStridedSlice S64x256 ![0, 0] v1107_3 slices_S80x256_o0_0_S64x256
  have v1121 : FVec F S1x256 .f32 := extractStridedSlice S1x256 ![64, 0] v1107_3 slices_S80x256_o64_0_S1x256
  have v1122 : FVec F S64x256 .f32 := broadcastTo S64x256 v1121 broadcasts_S1x256_S64x256
  have v1123 : FVec F S64x256 .f32 := divf v1120 v1122
  have v1124 : FVec F S256x256 .f32 := concatenate S256x256 0 [⟨S64x256, v1111⟩, ⟨S64x256, v1115⟩, ⟨S64x256, v1119⟩, ⟨S64x256, v1123⟩] concatenates_S64x256_S64x256_S64x256_S64x256_S256x256_d0
  have v1125 : FVec F S256x256 .f32 := transpose S256x256 [1, 0] v1124 transposes_S256x256_p1_0_S256x256
  have v1126 : FVec F S256x256 .bf16 := truncf .bf16 v1125 bitsLt_bf16_f32
  let c0_433 : Index := 0#32
  let c0_434 : Index := 0#32
  let c0_435 : Index := 0#32
  let v1127 : Vec F S1x256x256 .bf16 ← Prog.lift (.load arg9 (Rect.unit (s := S1x256x256) ![0, 0, 0] S1x256x256.size inb_S1x256x256_S1x256x256_0_0_0).toLoadRect (View.loadsAt_vmem h_S1x256x256))
  have v1128 : FVec F S256x256 .bf16 := shapeCast S256x256 v1127 shapeCasts_S1x256x256_S256x256
  have v1129 : FVec F S1x256x256 .bf16 := shapeCast S1x256x256 v1126 shapeCasts_S256x256_S1x256x256
  Prog.lift (.store arg9 (Rect.unit (s := S1x256x256) ![0, 0, 0] S1x256x256.size inb_S1x256x256_S1x256x256_0_0_0) v1129 Finset.univ (View.stores_vmem h_S1x256x256 (harg9.storeExact_slice rfl _ packedbf16_S1x256x256_S1x256x256_0_0_0) (fun _ => rfl)) (.inl rfl))
  pure ⟨⟩

set_option cleanup.letToHave false in set_option maxHeartbeats 40000000 in
/-- The printed text from the scores on. -/
def tail317 (arg2 v3 : BitVec 32) (v22 v224 v426 v628 : FVec F S256x256 .bf16) (v820 : FVec F S16x256 .f32) : Pg F PUnit := do
  let ⟨v840, v851_0, v851_1, v851_2, v851_3, v853, v854, v855, v858⟩ : Σ' (v840 : BitVec 32) (v851_0 : FVec F S1x256 .f32) (v851_1 : FVec F S1x256 .f32) (v851_2 : FVec F S1x256 .f32) (v851_3 : FVec F S1x256 .f32) (v853 : BitVec 32) (v854 : BitVec 32) (v855 : BitVec 1), BitVec 1 ← k0_part317 i arg3 harg3 arg4 harg4 arg5 harg5 arg6 harg6 arg7 harg7 arg8 harg8 arg9 harg9 arg10 harg10 arg11 harg11 arg12 harg12 arg13 harg13 arg14 harg14 arg15 harg15 arg16 arg2 v3 v22 v224 v426 v628 v820
  k0_part318 i arg3 harg3 arg4 harg4 arg5 harg5 arg6 harg6 arg7 harg7 arg8 harg8 arg9 harg9 arg10 harg10 arg11 harg11 arg12 harg12 arg13 harg13 arg14 harg14 arg15 harg15 arg16 v3 v853 v854 v855 v858
  k0_part319 i arg3 harg3 arg4 harg4 arg5 harg5 arg6 harg6 arg7 harg7 arg8 harg8 arg9 harg9 arg10 harg10 arg11 harg11 arg12 harg12 arg13 harg13 arg14 harg14 arg15 harg15 arg16
  k0_part320 i arg3 harg3 arg4 harg4 arg5 harg5 arg6 harg6 arg7 harg7 arg8 harg8 arg9 harg9 arg10 harg10 arg11 harg11 arg12 harg12 arg13 harg13 arg14 harg14 arg15 harg15 arg16
  k0_part321 i arg3 harg3 arg4 harg4 arg5 harg5 arg6 harg6 arg7 harg7 arg8 harg8 arg9 harg9 arg10 harg10 arg11 harg11 arg12 harg12 arg13 harg13 arg14 harg14 arg15 harg15 arg16
  k0_part322 i arg3 harg3 arg4 harg4 arg5 harg5 arg6 harg6 arg7 harg7 arg8 harg8 arg9 harg9 arg10 harg10 arg11 harg11 arg12 harg12 arg13 harg13 arg14 harg14 arg15 harg15 arg16
  k0_part323 i arg3 harg3 arg4 harg4 arg5 harg5 arg6 harg6 arg7 harg7 arg8 harg8 arg9 harg9 arg10 harg10 arg11 harg11 arg12 harg12 arg13 harg13 arg14 harg14 arg15 harg15 arg16
  k0_part324 i arg3 harg3 arg4 harg4 arg5 harg5 arg6 harg6 arg7 harg7 arg8 harg8 arg9 harg9 arg10 harg10 arg11 harg11 arg12 harg12 arg13 harg13 arg14 harg14 arg15 harg15 arg16
  k0_part325 i arg3 harg3 arg4 harg4 arg5 harg5 arg6 harg6 arg7 harg7 arg8 harg8 arg9 harg9 arg10 harg10 arg11 harg11 arg12 harg12 arg13 harg13 arg14 harg14 arg15 harg15 arg16
  k0_part326 i arg3 harg3 arg4 harg4 arg5 harg5 arg6 harg6 arg7 harg7 arg8 harg8 arg9 harg9 arg10 harg10 arg11 harg11 arg12 harg12 arg13 harg13 arg14 harg14 arg15 harg15 arg16
  let ⟨v1083, v1092_0, v1092_1, v1092_2, v1092_3, v1103_0, v1103_1, v1103_2, v1103_3, c0_i32_430⟩ : Σ' (v1083 : BitVec 32) (v1092_0 : FVec F S1x256 .f32) (v1092_1 : FVec F S1x256 .f32) (v1092_2 : FVec F S1x256 .f32) (v1092_3 : FVec F S1x256 .f32) (v1103_0 : FVec F S80x256 .f32) (v1103_1 : FVec F S80x256 .f32) (v1103_2 : FVec F S80x256 .f32) (v1103_3 : FVec F S80x256 .f32), BitVec 32 ← k0_part327 i arg3 harg3 arg4 harg4 arg5 harg5 arg6 harg6 arg7 harg7 arg8 harg8 arg9 harg9 arg10 harg10 arg11 harg11 arg12 harg12 arg13 harg13 arg14 harg14 arg15 harg15 arg16 arg2 v3 v22 v224 v426 v628 v840 v851_0 v851_1 v851_2 v851_3
  let c3_i32_431 : BitVec 32 := 3#32
  let v1104 : BitVec 32 := Scalar.maxsi v1083 c0_i32_430
  let v1105 : BitVec 32 := Scalar.minsi v1104 c3_i32_431
  let c0_i32_432 : BitVec 32 := 0#32
  let v1106 : BitVec 1 := Scalar.cmpi .ne v1105 c0_i32_432
  let (v1107_0, v1107_1, v1107_2, v1107_3) : FVec F S80x256 .f32 × FVec F S80x256 .f32 × FVec F S80x256 .f32 × FVec F S80x256 .f32 ← if k0_h8 : k0_cond8 i = 1#1 then do
      let c1_i32_436 : BitVec 32 := 1#32
      let v1130 : BitVec 32 := Scalar.subi v1105 c1_i32_436
      let c0_i32_437 : BitVec 32 := 0#32
      let v1131 : BitVec 1 := Scalar.cmpi .ne v1130 c0_i32_437
      let (v1132_0, v1132_1, v1132_2, v1132_3) : FVec F S80x256 .f32 × FVec F S80x256 .f32 × FVec F S80x256 .f32 × FVec F S80x256 .f32 ← if k0_h9 : k0_cond9 i = 1#1 then do
          let c1_i32_438 : BitVec 32 := 1#32
          let v1133 : BitVec 32 := Scalar.subi v1130 c1_i32_438
          let c0_i32_439 : BitVec 32 := 0#32
          let v1134 : BitVec 1 := Scalar.cmpi .ne v1133 c0_i32_439
          let (v1135_0, v1135_1, v1135_2, v1135_3) : FVec F S80x256 .f32 × FVec F S80x256 .f32 × FVec F S80x256 .f32 × FVec F S80x256 .f32 ← if k0_h10 : k0_cond10 i = 1#1 then do
              let ⟨v2214, v2226, v2238, v2247, v2248⟩ : Σ' (v2214 : FVec F S80x256 .f32) (v2226 : FVec F S80x256 .f32) (v2238 : FVec F S80x256 .f32) (v2247 : FVec F S80x1024 .bf16), FVec F S1024x256 .bf16 ← k0_part204 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9 k0_h10
              have cst_1184 : FVec F S80x256 .f32 := constant S80x256 .f32 0x00000000#32
              have v2249 : FVec F S80x256 .f32 := matmul dot_S80x1024_S1024x256_S80x256_1_0_0_1_n_n none v2247 v2248 cst_1184
              have v2250 : FVec F S80x256 .f32 := addf v1103_3 v2249
              pure (v2214, v2226, v2238, v2250)
            else do
              let ⟨v2214, v2226, v2238, v2247, v2248⟩ : Σ' (v2214 : FVec F S80x256 .f32) (v2226 : FVec F S80x256 .f32) (v2238 : FVec F S80x256 .f32) (v2247 : FVec F S80x768 .bf16), FVec F S768x256 .bf16 ← k0_part236 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9 k0_h10
              have cst_1184 : FVec F S80x256 .f32 := constant S80x256 .f32 0x00000000#32
              have v2249 : FVec F S80x256 .f32 := matmul dot_S80x768_S768x256_S80x256_1_0_0_1_n_n none v2247 v2248 cst_1184
              have v2250 : FVec F S80x256 .f32 := addf v1103_3 v2249
              pure (v2214, v2226, v2238, v2250)
          pure (v1135_0, v1135_1, v1135_2, v1135_3)
        else do
          let ⟨v2211, v2223, v2235, v2244, v2245⟩ : Σ' (v2211 : FVec F S80x256 .f32) (v2223 : FVec F S80x256 .f32) (v2235 : FVec F S80x256 .f32) (v2244 : FVec F S80x512 .bf16), FVec F S512x256 .bf16 ← k0_part268 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8 k0_h9
          have cst_1182 : FVec F S80x256 .f32 := constant S80x256 .f32 0x00000000#32
          have v2246 : FVec F S80x256 .f32 := matmul dot_S80x512_S512x256_S80x256_1_0_0_1_n_n none v2244 v2245 cst_1182
          have v2247 : FVec F S80x256 .f32 := addf v1103_3 v2246
          pure (v2211, v2223, v2235, v2247)
      pure (v1132_0, v1132_1, v1132_2, v1132_3)
    else do
      let ⟨v2208, v2220, v2232, v2241, v2242⟩ : Σ' (v2208 : FVec F S80x256 .f32) (v2220 : FVec F S80x256 .f32) (v2232 : FVec F S80x256 .f32) (v2241 : FVec F S80x256 .bf16), FVec F S256x256 .bf16 ← k0_part300 i arg3 harg3 arg4 harg4 arg5 harg5 arg6 harg6 arg7 harg7 arg8 harg8 arg9 harg9 arg10 harg10 arg11 harg11 arg12 harg12 arg13 harg13 arg14 harg14 arg15 harg15 arg16 v3 v840 v1092_0 v1092_1 v1092_2 v1092_3 v1103_0 v1103_1 v1103_2 k0_h8
      have cst_1180 : FVec F S80x256 .f32 := constant S80x256 .f32 0x00000000#32
      have v2243 : FVec F S80x256 .f32 := matmul dot_S80x256_S256x256_S80x256_1_0_0_1_n_n none v2241 v2242 cst_1180
      have v2244 : FVec F S80x256 .f32 := addf v1103_3 v2243
      pure (v2208, v2220, v2232, v2244)
  have v1108 : FVec F S64x256 .f32 := extractStridedSlice S64x256 ![0, 0] v1107_0 slices_S80x256_o0_0_S64x256
  have v1109 : FVec F S1x256 .f32 := extractStridedSlice S1x256 ![64, 0] v1107_0 slices_S80x256_o64_0_S1x256
  have v1110 : FVec F S64x256 .f32 := broadcastTo S64x256 v1109 broadcasts_S1x256_S64x256
  have v1111 : FVec F S64x256 .f32 := divf v1108 v1110
  have v1112 : FVec F S64x256 .f32 := extractStridedSlice S64x256 ![0, 0] v1107_1 slices_S80x256_o0_0_S64x256
  have v1113 : FVec F S1x256 .f32 := extractStridedSlice S1x256 ![64, 0] v1107_1 slices_S80x256_o64_0_S1x256
  have v1114 : FVec F S64x256 .f32 := broadcastTo S64x256 v1113 broadcasts_S1x256_S64x256
  have v1115 : FVec F S64x256 .f32 := divf v1112 v1114
  have v1116 : FVec F S64x256 .f32 := extractStridedSlice S64x256 ![0, 0] v1107_2 slices_S80x256_o0_0_S64x256
  have v1117 : FVec F S1x256 .f32 := extractStridedSlice S1x256 ![64, 0] v1107_2 slices_S80x256_o64_0_S1x256
  have v1118 : FVec F S64x256 .f32 := broadcastTo S64x256 v1117 broadcasts_S1x256_S64x256
  have v1119 : FVec F S64x256 .f32 := divf v1116 v1118
  have v1120 : FVec F S64x256 .f32 := extractStridedSlice S64x256 ![0, 0] v1107_3 slices_S80x256_o0_0_S64x256
  have v1121 : FVec F S1x256 .f32 := extractStridedSlice S1x256 ![64, 0] v1107_3 slices_S80x256_o64_0_S1x256
  have v1122 : FVec F S64x256 .f32 := broadcastTo S64x256 v1121 broadcasts_S1x256_S64x256
  have v1123 : FVec F S64x256 .f32 := divf v1120 v1122
  have v1124 : FVec F S256x256 .f32 := concatenate S256x256 0 [⟨S64x256, v1111⟩, ⟨S64x256, v1115⟩, ⟨S64x256, v1119⟩, ⟨S64x256, v1123⟩] concatenates_S64x256_S64x256_S64x256_S64x256_S256x256_d0
  have v1125 : FVec F S256x256 .f32 := transpose S256x256 [1, 0] v1124 transposes_S256x256_p1_0_S256x256
  have v1126 : FVec F S256x256 .bf16 := truncf .bf16 v1125 bitsLt_bf16_f32
  let c0_433 : Index := 0#32
  let c0_434 : Index := 0#32
  let c0_435 : Index := 0#32
  let v1127 : Vec F S1x256x256 .bf16 ← Prog.lift (.load arg9 (Rect.unit (s := S1x256x256) ![0, 0, 0] S1x256x256.size inb_S1x256x256_S1x256x256_0_0_0).toLoadRect (View.loadsAt_vmem h_S1x256x256))
  have v1128 : FVec F S256x256 .bf16 := shapeCast S256x256 v1127 shapeCasts_S1x256x256_S256x256
  have v1129 : FVec F S1x256x256 .bf16 := shapeCast S1x256x256 v1126 shapeCasts_S256x256_S1x256x256
  Prog.lift (.store arg9 (Rect.unit (s := S1x256x256) ![0, 0, 0] S1x256x256.size inb_S1x256x256_S1x256x256_0_0_0) v1129 Finset.univ (View.stores_vmem h_S1x256x256 (harg9.storeExact_slice rfl _ packedbf16_S1x256x256_S1x256x256_0_0_0) (fun _ => rfl)) (.inl rfl))
  pure ⟨⟩

end Tails

set_option cleanup.letToHave false in set_option maxHeartbeats 40000000 in
/-- The printed text of the first part after its branch. -/
def p301b (i : grid0.Coords) (arg3 : Memref sig .tc .smem S4096 .i32) (harg3 : arg3.IsWhole) (arg4 : Memref sig .tc .vmem S1x256x256 .f32) (harg4 : arg4.IsWhole) (arg5 : Memref sig .tc .vmem S1x4096x256 .bf16) (harg5 : arg5.IsWhole) (arg6 : Memref sig .tc .vmem S1x256x4096 .f32) (harg6 : arg6.IsWhole) (arg7 : Memref sig .tc .vmem S1x256x4096 .f32) (harg7 : arg7.IsWhole) (arg8 : Memref sig .tc .hbm S2x5120x8x64x128 .f32) (harg8 : arg8.IsWhole) (arg9 : Memref sig .tc .vmem S1x256x256 .bf16) (harg9 : arg9.IsWhole) (arg10 : Memref sig .tc .vmem S1x8x64x128 .f32) (harg10 : arg10.IsWhole) (arg11 : Memref sig .tc .vmem S4x16x64 .f32) (harg11 : arg11.IsWhole) (arg12 : Memref sig .tc .vmem S4x4x80x1024 .bf16) (harg12 : arg12.IsWhole) (arg13 : Memref sig .tc .vmem S4x16x256 .f32) (harg13 : arg13.IsWhole) (arg14 : Memref sig .tc .vmem S4x4096x256 .f32) (harg14 : arg14.IsWhole) (arg15 : Memref sig .tc .vmem S2x32x8x64x128 .f32) (harg15 : arg15.IsWhole) (arg16 : DmaSems sig S2x32) (arg2 v3 : BitVec 32) :
    Prog (TpuEff nD τ sig (Elt F) Λ₀ .tc) (Σ' (arg2 : BitVec 32) (v3 : BitVec 32) (v8 : FVec F S256x256 .f32) (v11 : FVec F S256x256 .bf16) (v12 : IVec S256x256 32) (v13 : IVec S16x256 32) (v15 : IVec S16x256 1) (v22 : FVec F S256x256 .bf16) (v28 : FVec F S16x256 .f32) (v29 : IVec S16x256 32) (v32 : IVec S16x256 1), IVec S16x256 1) := do
  let c0 : Index := 0#32
  let c0_1 : Index := 0#32
  let c0_2 : Index := 0#32
  let v7 : Vec F S1x256x256 .f32 ← Prog.lift (.load arg4 (Rect.unit (s := S1x256x256) ![0, 0, 0] S1x256x256.size inb_S1x256x256_S1x256x256_0_0_0).toLoadRect (View.loadsAt_vmem h_S1x256x256))
  have v8 : FVec F S256x256 .f32 := shapeCast S256x256 v7 shapeCasts_S1x256x256_S256x256
  have cst : F .f32 := Named.named κ "scale" 0x3E38AA3B#32
  have v9 : FVec F S256x256 .f32 := broadcast S256x256 cst
  have v10 : FVec F S256x256 .f32 := mulf v8 v9
  have v11 : FVec F S256x256 .bf16 := truncf .bf16 v10 bitsLt_bf16_f32
  have v12 : IVec S256x256 32 := iota .tc S256x256 32 [0] iota_S256x256_d0_w32
  have v13 : IVec S16x256 32 := iota .tc S16x256 32 [0] iota_S16x256_d0_w32
  have v14 : IVec S16x256 32 := broadcast S16x256 arg2
  have v15 : IVec S16x256 1 := cmpi .slt v13 v14
  let c0_i32_3 : BitVec 32 := 0#32
  have v16 : IVec S256x256 32 := broadcast S256x256 c0_i32_3
  have v17 : IVec S256x256 1 := cmpi .sge v12 v16
  let c64_i32 : BitVec 32 := 64#32
  have v18 : IVec S256x256 32 := broadcast S256x256 c64_i32
  have v19 : IVec S256x256 1 := cmpi .slt v12 v18
  have v20 : IVec S256x256 1 := andi v17 v19
  have cst_4 : F .bf16 := Scalar.ofBits .bf16 0x0000#16
  have v21 : FVec F S256x256 .bf16 := broadcast S256x256 cst_4
  have v22 : FVec F S256x256 .bf16 := select v20 v11 v21
  let c0_5 : Index := 0#32
  let c0_6 : Index := 0#32
  let c0_7 : Index := 0#32
  let v23 : Vec F S1x16x64 .f32 ← Prog.lift (.load arg11 (Rect.unit (s := S4x16x64) ![0, 0, 0] S1x16x64.size inb_S4x16x64_S1x16x64_0_0_0).toLoadRect (View.loadsAt_vmem h_S1x16x64))
  have v24 : FVec F S16x64 .f32 := shapeCast S16x64 v23 shapeCasts_S1x16x64_S16x64
  have v25 : FVec F S64x256 .f32 := extractStridedSlice S64x256 ![0, 0] v8 slices_S256x256_o0_0_S64x256
  have cst_8 : FVec F S16x256 .f32 := constant S16x256 .f32 0x00000000#32
  have v26 : FVec F S16x256 .f32 := matmul dot_S16x64_S64x256_S16x256_1_0_0_1_n_n (some .fp32) v24 v25 cst_8
  have cst_9 : F .f32 := Scalar.ofBits .f32 0xFF800000#32
  have v27 : FVec F S16x256 .f32 := broadcast S16x256 cst_9
  have v28 : FVec F S16x256 .f32 := select v15 v26 v27
  let c0_i32_10 : BitVec 32 := 0#32
  have v29 : IVec S16x256 32 := broadcast S16x256 c0_i32_10
  have v30 : FVec F S1x256 .f32 := extractStridedSlice S1x256 ![0, 0] v28 slices_S16x256_o0_0_S1x256
  have v31 : FVec F S16x256 .f32 := broadcastTo S16x256 v30 broadcasts_S1x256_S16x256
  have v32 : IVec S16x256 1 := cmpf .ogt v31 v28
  have v33 : FVec F S16x256 .f32 := broadcastTo S16x256 v30 broadcasts_S1x256_S16x256
  have v34 : IVec S16x256 1 := cmpf .oeq v33 v28
  let c0_i32_11 : BitVec 32 := 0#32
  have v35 : IVec S16x256 32 := broadcast S16x256 c0_i32_11
  have v36 : IVec S16x256 1 := cmpi .sgt v13 v35
  have v37 : IVec S16x256 1 := andi v34 v36
  pure ⟨arg2, v3, v8, v11, v12, v13, v15, v22, v28, v29, v32, v37⟩

section Eq
variable (i : grid0.Coords) (arg3 : Memref sig .tc .smem S4096 .i32) (harg3 : arg3.IsWhole) (arg4 : Memref sig .tc .vmem S1x256x256 .f32) (harg4 : arg4.IsWhole) (arg5 : Memref sig .tc .vmem S1x4096x256 .bf16) (harg5 : arg5.IsWhole) (arg6 : Memref sig .tc .vmem S1x256x4096 .f32) (harg6 : arg6.IsWhole) (arg7 : Memref sig .tc .vmem S1x256x4096 .f32) (harg7 : arg7.IsWhole) (arg8 : Memref sig .tc .hbm S2x5120x8x64x128 .f32) (harg8 : arg8.IsWhole) (arg9 : Memref sig .tc .vmem S1x256x256 .bf16) (harg9 : arg9.IsWhole) (arg10 : Memref sig .tc .vmem S1x8x64x128 .f32) (harg10 : arg10.IsWhole) (arg11 : Memref sig .tc .vmem S4x16x64 .f32) (harg11 : arg11.IsWhole) (arg12 : Memref sig .tc .vmem S4x4x80x1024 .bf16) (harg12 : arg12.IsWhole) (arg13 : Memref sig .tc .vmem S4x16x256 .f32) (harg13 : arg13.IsWhole) (arg14 : Memref sig .tc .vmem S4x4096x256 .f32) (harg14 : arg14.IsWhole) (arg15 : Memref sig .tc .vmem S2x32x8x64x128 .f32) (harg15 : arg15.IsWhole) (arg16 : DmaSems sig S2x32)

theorem tail8_eq (m : Four (FVec F S1x256 .f32)) (acc : Four (FVec F S80x256 .f32)) :
    tail8 i arg3 harg3 arg4 harg4 arg5 harg5 arg6 harg6 arg7 harg7 arg8 harg8 arg9 harg9 arg10 harg10 arg11 harg11 arg12 harg12 arg13 harg13 arg14 harg14 arg15 harg15 arg16 (stepW i) (ownW i) (modW (qiW i) 4#32) 0#32 m.1 m.2.1 m.2.2.1 m.2.2.2 acc.1 acc.2.1 acc.2.2.1 acc.2.2.2
      = phWeighOwn i arg10 arg12 arg14 arg15 m acc (phOut arg9 harg9) := by
  chain_rfl

theorem part327_eq (q : FVec F S256x256 .f32) (m : Four (FVec F S1x256 .f32)) :
    k0_part327 i arg3 harg3 arg4 harg4 arg5 harg5 arg6 harg6 arg7 harg7 arg8 harg8 arg9 harg9 arg10 harg10 arg11 harg11 arg12 harg12 arg13 harg13 arg14 harg14 arg15 harg15 arg16 (qiW i) (stepW i) (headQ q 0) (headQ q 1) (headQ q 2) (headQ q 3) (ownW i) m.1 m.2.1 m.2.2.1 m.2.2.2
      = each (waitPage arg15 arg16 (slotW i).toNat (slotW_lt i)) [31] (phOwn i arg5 arg10 arg13 arg14 arg15 q m fun m =>
          (phWeigh i arg12 arg14 m >>= fun acc => phWeigh' i arg12 arg14 m acc >>= fun acc =>
            pure ⟨modW (qiW i) 4#32, m.1, m.2.1, m.2.2.1, m.2.2.2, acc.1, acc.2.1, acc.2.2.1, acc.2.2.2, 0#32⟩)) := by
  chain_rfl

theorem part318_eq :
    k0_part318 (F := F) i arg3 harg3 arg4 harg4 arg5 harg5 arg6 harg6 arg7 harg7 arg8 harg8 arg9 harg9 arg10 harg10 arg11 harg11 arg12 harg12 arg13 harg13 arg14 harg14 arg15 harg15 arg16 (stepW i) 2#32 (Scalar.remsi (stepW i) 2#32) (Scalar.cmpi .ne (Scalar.remsi (stepW i) 2#32) 0#32) (Scalar.xori (Scalar.cmpi .slt (Scalar.remsi (stepW i) 2#32) 0#32) (Scalar.cmpi .slt 2#32 0#32))
      = (phFirst i arg3 arg8 arg15 arg16 <| phNext i arg3 arg8 arg15 arg16 <| phClear i arg10 <|
          each (waitPage arg15 arg16 (slotW i).toNat (slotW_lt i)) [0] (pure ⟨⟩)) := by
  chain_rfl

/-- The last head's bias stored. -/
def storeBias {β : Type} (b : FVec F S16x256 .f32) (next : Pg F β) : Pg F β :=
  ld arg13 ![3, 0, 0] S1x16x256.size (inb_bias 3) h_S1x16x256 fun (_ : Vec F S1x16x256 .f32) =>
  st arg13 ![3, 0, 0] S1x16x256.size (inb_bias 3) (shapeCast S1x16x256 b shapeCasts_S16x256_S1x16x256) (View.stores_vmem_bits_univ h_S1x16x256 rfl) next

theorem part317_eq (q : FVec F S256x256 .f32) (b : FVec F S16x256 .f32) :
    k0_part317 i arg3 harg3 arg4 harg4 arg5 harg5 arg6 harg6 arg7 harg7 arg8 harg8 arg9 harg9 arg10 harg10 arg11 harg11 arg12 harg12 arg13 harg13 arg14 harg14 arg15 harg15 arg16 (qiW i) (stepW i) (headQ q 0) (headQ q 1) (headQ q 2) (headQ q 3) b
      = storeBias arg13 b (phScores i arg5 arg13 arg14 q >>= fun m => phScores' i arg5 arg13 arg14 q m >>= fun m =>
          pure ⟨ownW i, m.1, m.2.1, m.2.2.1, m.2.2.2, 2#32, Scalar.remsi (stepW i) 2#32, Scalar.cmpi .ne (Scalar.remsi (stepW i) 2#32) 0#32, Scalar.xori (Scalar.cmpi .slt (Scalar.remsi (stepW i) 2#32) 0#32) (Scalar.cmpi .slt 2#32 0#32)⟩) := by
  chain_rfl

theorem part301_eq :
    k0_part301 (F := F) i arg3 harg3 arg4 harg4 arg5 harg5 arg6 harg6 arg7 harg7 arg8 harg8 arg9 harg9 arg10 harg10 arg11 harg11 arg12 harg12 arg13 harg13 arg14 harg14 arg15 harg15 arg16 = phFill i arg6 arg7 arg11 arg12 harg12 (p301b i arg3 harg3 arg4 harg4 arg5 harg5 arg6 harg6 arg7 harg7 arg8 harg8 arg9 harg9 arg10 harg10 arg11 harg11 arg12 harg12 arg13 harg13 arg14 harg14 arg15 harg15 arg16 (qiW i) (stepW i)) := by
  chain_rfl

theorem phFill_bind {α β : Type} (next : Pg F α) (K : α → Pg F β) : (phFill i arg6 arg7 arg11 arg12 harg12 next >>= K) = phFill i arg6 arg7 arg11 arg12 harg12 (next >>= K) := by
  unfold phFill; split <;> chain_rfl

theorem phFirst_bind {α β : Type} (next : Pg F α) (K : α → Pg F β) : (phFirst i arg3 arg8 arg15 arg16 next >>= K) = phFirst i arg3 arg8 arg15 arg16 (next >>= K) := by
  unfold phFirst; split <;> chain_rfl

theorem phNext_bind {α β : Type} (next : Pg F α) (K : α → Pg F β) : (phNext i arg3 arg8 arg15 arg16 next >>= K) = phNext i arg3 arg8 arg15 arg16 (next >>= K) := by
  unfold phNext; split <;> chain_rfl

theorem phClear_bind {α β : Type} (next : Pg F α) (K : α → Pg F β) : (phClear i arg10 next >>= K) = phClear i arg10 (next >>= K) := by
  unfold phClear; split <;> chain_rfl

theorem phOwn_bind {α β : Type} (q : FVec F S256x256 .f32) (m : Four (FVec F S1x256 .f32)) (next : Four (FVec F S1x256 .f32) → Pg F α) (K : α → Pg F β) :
    (phOwn i arg5 arg10 arg13 arg14 arg15 q m next >>= K) = phOwn i arg5 arg10 arg13 arg14 arg15 q m (fun m => next m >>= K) := by
  unfold phOwn
  split
  · split
    · split <;> chain_rfl
    · chain_rfl
  · chain_rfl

/-- From the last wait on. -/
theorem tail327_eq (q : FVec F S256x256 .f32) (m : Four (FVec F S1x256 .f32)) :
    tail327 i arg3 harg3 arg4 harg4 arg5 harg5 arg6 harg6 arg7 harg7 arg8 harg8 arg9 harg9 arg10 harg10 arg11 harg11 arg12 harg12 arg13 harg13 arg14 harg14 arg15 harg15 arg16 (qiW i) (stepW i) (ownW i) (headQ q 0) (headQ q 1) (headQ q 2) (headQ q 3) m.1 m.2.1 m.2.2.1 m.2.2.2
      = each (waitPage arg15 arg16 (slotW i).toNat (slotW_lt i)) [31] (body4 i arg5 arg9 harg9 arg10 arg12 arg13 arg14 arg15 q m) := by
  unfold tail327
  rw [part327_eq]
  refine op_congr fun _ => ?_
  refine (phOwn_bind ..).trans ?_
  unfold body4
  congr 1
  funext m
  refine (seq_assoc _ _ _).trans (seq_congr rfl fun acc => ?_)
  refine (seq_assoc _ _ _).trans (seq_congr rfl fun acc => ?_)
  exact tail8_eq i arg3 harg3 arg4 harg4 arg5 harg5 arg6 harg6 arg7 harg7 arg8 harg8 arg9 harg9 arg10 harg10 arg11 harg11 arg12 harg12 arg13 harg13 arg14 harg14 arg15 harg15 arg16 m acc

/-- From the copies on. -/
theorem tail318_eq (q : FVec F S256x256 .f32) (m : Four (FVec F S1x256 .f32)) :
    tail318 i arg3 harg3 arg4 harg4 arg5 harg5 arg6 harg6 arg7 harg7 arg8 harg8 arg9 harg9 arg10 harg10 arg11 harg11 arg12 harg12 arg13 harg13 arg14 harg14 arg15 harg15 arg16 (qiW i) (stepW i) (ownW i) 2#32 (Scalar.remsi (stepW i) 2#32) (Scalar.cmpi .ne (Scalar.remsi (stepW i) 2#32) 0#32) (Scalar.xori (Scalar.cmpi .slt (Scalar.remsi (stepW i) 2#32) 0#32) (Scalar.cmpi .slt 2#32 0#32)) (headQ q 0) (headQ q 1) (headQ q 2) (headQ q 3) m.1 m.2.1 m.2.2.1 m.2.2.2
      = body3 i arg3 arg5 arg8 arg9 harg9 arg10 arg12 arg13 arg14 arg15 arg16 q m := by
  unfold tail318
  rw [part318_eq]
  refine (phFirst_bind ..).trans ?_
  rw [phNext_bind, phClear_bind]
  unfold body3
  congr 3
  exact Eq.trans (b := each (waitPage arg15 arg16 (slotW i).toNat (slotW_lt i)) [0, 1, 2, 3, 4, 5, 6, 7, 8, 9, 10, 11, 12, 13, 14, 15, 16, 17, 18, 19, 20, 21, 22, 23, 24, 25, 26, 27, 28, 29, 30]
    (tail327 i arg3 harg3 arg4 harg4 arg5 harg5 arg6 harg6 arg7 harg7 arg8 harg8 arg9 harg9 arg10 harg10 arg11 harg11 arg12 harg12 arg13 harg13 arg14 harg14 arg15 harg15 arg16 (qiW i) (stepW i) (ownW i) (headQ q 0) (headQ q 1) (headQ q 2) (headQ q 3) m.1 m.2.1 m.2.2.1 m.2.2.2)) (by chain_rfl)
    ((congrArg (each (waitPage arg15 arg16 (slotW i).toNat (slotW_lt i)) [0, 1, 2, 3, 4, 5, 6, 7, 8, 9, 10, 11, 12, 13, 14, 15, 16, 17, 18, 19, 20, 21, 22, 23, 24, 25, 26, 27, 28, 29, 30]) (tail327_eq i arg3 harg3 arg4 harg4 arg5 harg5 arg6 harg6 arg7 harg7 arg8 harg8 arg9 harg9 arg10 harg10 arg11 harg11 arg12 harg12 arg13 harg13 arg14 harg14 arg15 harg15 arg16 q m)).trans (by chain_rfl))

/-- From the scores on. -/
theorem tail317_eq (q : FVec F S256x256 .f32) (b : FVec F S16x256 .f32) :
    tail317 i arg3 harg3 arg4 harg4 arg5 harg5 arg6 harg6 arg7 harg7 arg8 harg8 arg9 harg9 arg10 harg10 arg11 harg11 arg12 harg12 arg13 harg13 arg14 harg14 arg15 harg15 arg16 (qiW i) (stepW i) (headQ q 0) (headQ q 1) (headQ q 2) (headQ q 3) b
      = storeBias arg13 b (body2 i arg3 arg5 arg8 arg9 harg9 arg10 arg12 arg13 arg14 arg15 arg16 q) := by
  unfold tail317
  rw [part317_eq]
  unfold storeBias
  refine op_congr fun _ => op_congr fun _ => ?_
  unfold body2
  refine (seq_assoc _ _ _).trans (seq_congr rfl fun acc => ?_)
  refine (seq_assoc _ _ _).trans (seq_congr rfl fun acc => ?_)
  exact tail318_eq i arg3 harg3 arg4 harg4 arg5 harg5 arg6 harg6 arg7 harg7 arg8 harg8 arg9 harg9 arg10 harg10 arg11 harg11 arg12 harg12 arg13 harg13 arg14 harg14 arg15 harg15 arg16 q acc

/-- The selection up to the last head's bias, which is left to store. -/
def selectTo {β : Type} (next : FVec F S256x256 .f32 → FVec F S16x256 .f32 → Pg F β) : Pg F β :=
  ld arg4 ![0, 0, 0] S1x256x256.size inb_S1x256x256_S1x256x256_0_0_0 h_S1x256x256 fun (q : Vec F S1x256x256 .f32) =>
  each (selectHead arg11 arg13 i (queries q)) [0, 1, 2] <|
  ld arg11 ![3, 0, 0] S1x16x64.size (inb_km 3) h_S1x16x64 fun (km : Vec F S1x16x64 .f32) =>
  next (queries q) (biasRows i (blockScores i (queries q) km 3))

/-- **The printed body is the program.** -/
theorem body_eq : cc0_moba_prompt (F := F) i arg3 harg3 arg4 harg4 arg5 harg5 arg6 harg6 arg7 harg7 arg8 harg8 arg9 harg9 arg10 harg10 arg11 harg11 arg12 harg12 arg13 harg13 arg14 harg14 arg15 harg15 arg16 = body i arg3 arg4 arg5 arg6 arg7 arg8 arg9 harg9 arg10 arg11 arg12 harg12 arg13 arg14 arg15 arg16 := by
  unfold cc0_moba_prompt
  rw [part301_eq]
  refine (phFill_bind ..).trans ?_
  unfold body
  refine congrArg (phFill i arg6 arg7 arg11 arg12 harg12) ?_
  exact Eq.trans (b := selectTo i arg4 arg11 arg13 fun q b => tail317 i arg3 harg3 arg4 harg4 arg5 harg5 arg6 harg6 arg7 harg7 arg8 harg8 arg9 harg9 arg10 harg10 arg11 harg11 arg12 harg12 arg13 harg13 arg14 harg14 arg15 harg15 arg16 (qiW i) (stepW i) (headQ q 0) (headQ q 1) (headQ q 2) (headQ q 3) b) (by chain_rfl)
    ((congrArg (selectTo i arg4 arg11 arg13) (funext fun q => funext fun b => tail317_eq i arg3 harg3 arg4 harg4 arg5 harg5 arg6 harg6 arg7 harg7 arg8 harg8 arg9 harg9 arg10 harg10 arg11 harg11 arg12 harg12 arg13 harg13 arg14 harg14 arg15 harg15 arg16 q b)).trans (by chain_rfl))

end Eq

end Cert.KernelIdeal.Body

end
-- ==== Proof.Region.lean ====
/- The call's launch: what the host leaves in the operands, what the call holds between two steps, how it is set up and given back, and one step. -/
module

public import proofs.«01_k».proof.Proof.Held
public import proofs.«01_k».proof.Proof.BodyEq
public import proofs.«01_k».proof.Proof.Gen.KernelIdeal.Launch
public import Idealize.ShloMosaic.Lib.Pipeline.FrameBody
public import Idealize.ShloMosaic.Lib.Tactic

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the host's operations leave in a buffer. -/
def V (c : Dev nD) (b : Ref sig .tc) : Buf (Elt F) ((c.tc : Thread nD τ).loc b) :=
  StableHlo.after (([hostOps0 (F := F)] : List (List (HloOp τ sig (Elt F)))).flatten) (fun b => m (c, b)) b

theorem hmain : Pipeline.HMainP (Ix := Unit) (Name := ℕ) (U := Pipeline.UD sig nD τ) (Lvl := ℕ) (pcfgs (F := F)) 0 defs₀ Variants.none m (main (F := F)) (V m) :=
  Pipeline.hmainP_prefixes pcfgs 0 defs₀ Variants.none m main [hostOps0] hostOps0_sub
    (by simp only [List.Forall]; repeat' apply And.intro
        all_goals rfl) main_chain

/-- An argument is left as it was. -/
theorem V_arg (c : Dev nD) {r : Ref sig .tc} (hr : r ∉ [main_v0, main_v1, main_v2, main_v3, main_v4, main_v5, main_v6, main_v7, main_v8, main_v9]) :
    V m c r = m ((c.tc : Thread nD τ).loc r) :=
  StableHlo.after_of_writes_sub (W := [main_v0, main_v1, main_v2, main_v3, main_v4, main_v5, main_v6, main_v7, main_v8, main_v9])
    _ _ (StableHlo.forall_writes_sub_of_map rfl) hr

/-- The copies' table, as the host leaves it. -/
def tbl : pre0.Contents (Elt F) := fun k => V m 0 (pre0.ref k)

abbrev adm : (pcfg0 (F := F)).Adm := ⟨tbl m, trivial⟩

theorem V_tbl (c : Dev nD) (k : Fin pre0.K) : V m c (pre0.ref k) = tbl m k := by
  obtain rfl : c = 0 := Subsingleton.elim _ _
  rfl

/-- The table's words. -/
def words (c : Dev nD) : S4096.Idx → BitVec 32 := (Memref.whole main_v1 : Memref sig .tc .smem S4096 .i32).view.read (Elt F) (V m c main_v1)

/-- What the call holds between two steps; `J n` says what is known of the two kept scratch buffers before step `n`. -/
def Inv (J : ℕ → (S4x16x64.Idx → Elt F .f32) → (S4x4x80x1024.Idx → Elt F .bf16) → Prop) (c : Dev nD) (n : ℕ) : sProp 𝕄 :=
  iprop((∃ r, prngReg c r) ∗ Tbl c (Memref.whole main_v1)
    ∗ Cells c (Memref.whole main_v0) (Memref.whole cc0_scratch4) cc0_scratch5 (V m c main_v0) n
    ∗ (∃ X Y, ⌜J n X Y⌝ ∗ Has c (Memref.whole cc0_scratch0) X ∗ Has c (Memref.whole cc0_scratch1) Y)
    ∗ (∃ B, Has c (Memref.whole cc0_scratch2) B) ∗ (∃ S, Has c (Memref.whole cc0_scratch3) S))

theorem ownSemFacts0 : Pipeline.OwnSemFacts spec0 osem0 := by decide

/-- The cache, which the call reads itself. -/
def H0 : Finset (Ref sig .tc) := {main_v0}
theorem H0_sub : H0 ⊆ Pipeline.restRefsP sig pre0 spec0 := by decide

theorem has_of (c : Dev nD) (b : Ref sig .tc) (f : Buf (Elt F) ((c.tc : Thread nD τ).loc b)) :
    (((c.tc : Thread nD τ).loc b) ↦{fullShare} f : sProp 𝕄) ⊢ owns (c : Thread nD τ) (Memref.whole b) fullShare f := by
  rw [owns_whole]

theorem of_has (c : Dev nD) (b : Ref sig .tc) (f : Buf (Elt F) ((c.tc : Thread nD τ).loc b)) :
    (owns (c : Thread nD τ) (Memref.whole b) fullShare f : sProp 𝕄) ⊢ (((c.tc : Thread nD τ).loc b) ↦{fullShare} f) := by
  rw [owns_whole]

variable (J : ℕ → (S4x16x64.Idx → Elt F .f32) → (S4x4x80x1024.Idx → Elt F .bf16) → Prop)

theorem cells_0 (c : Dev nD) (n : ℕ) (hn : n = 0 ∨ n = 128) : (Cells c (Memref.whole main_v0) (Memref.whole cc0_scratch4) cc0_scratch5 (V m c main_v0) n : sProp 𝕄)
    = iprop((Pipeline.ownSems0 (Ix := Unit) (Name := ℕ) (U := Pipeline.UD sig nD τ) (Lvl := ℕ) (Val := Elt F) (τ := τ) osem0 c)
      ∗ (bigSep Finset.univ fun p : Fin 2 × Fin 32 => Piece c (Memref.whole cc0_scratch4) p.1 p.2)
      ∗ (((c.tc : Thread nD τ).loc main_v0) ↦{fullShare} V m c main_v0)) := by
  unfold Cells
  rw [if_pos hn, idle_all, idle_parts, sems_all, shares_all]

theorem pages_of (c : Dev nD) (f : Buf (Elt F) ((c.tc : Thread nD τ).loc cc0_scratch4)) :
    (((c.tc : Thread nD τ).loc cc0_scratch4) ↦{fullShare} f : sProp 𝕄) ⊢ bigSep Finset.univ fun p : Fin 2 × Fin 32 => Piece c (Memref.whole cc0_scratch4) p.1 p.2 := by
  have h := pieces_of c (Memref.whole cc0_scratch4 : Memref sig .tc .vmem S2x32x8x64x128 .f32) f
  rw [show (Memref.whole cc0_scratch4 : Memref sig .tc .vmem S2x32x8x64x128 .f32).view.set = Finset.univ from View.set_whole _] at h
  exact h

theorem of_pages (c : Dev nD) :
    (bigSep Finset.univ fun p : Fin 2 × Fin 32 => Piece c (Memref.whole cc0_scratch4) p.1 p.2 : sProp 𝕄)
      ⊢ iprop(∃ f : Buf (Elt F) ((c.tc : Thread nD τ).loc cc0_scratch4), ((c.tc : Thread nD τ).loc cc0_scratch4) ↦{fullShare} f) := by
  have h := of_pieces c (Memref.whole cc0_scratch4 : Memref sig .tc .vmem S2x32x8x64x128 .f32) (F := F) (fun _ => Classical.arbitrary _)
  rw [show (Memref.whole cc0_scratch4 : Memref sig .tc .vmem S2x32x8x64x128 .f32).view.set = Finset.univ from View.set_whole _] at h
  exact h

theorem table_of (c : Dev nD) (hw : ∀ x, (words m c x).toNat < 5120) :
    (Pipeline.ΦT pre0 (tbl m) c : sProp 𝕄) ⊢ Tbl c (Memref.whole main_v1) := by
  unfold Pipeline.ΦT Pipeline.prefHeld Tbl
  rw [show (Finset.univ : Finset (Fin pre0.K)) = {(0 : Fin 1)} from by decide, bigSep_singleton, ← V_tbl m c,
    show (Memref.whole main_v1 : Memref sig .tc .smem S4096 .i32).view.set = Finset.univ from View.set_whole _]
  iintro H
  iexists fullShare.right, V m c main_v1
  isplitr
  · ipureintro; exact hw
  iexact H

/-- The set-up. -/
theorem enter (hJ : ∀ X Y, J 0 X Y) (c : Dev nD) (hw : ∀ x, (words m c x).toNat < 5120) :
    iprop(Pipeline.ΦD osem0 spec0 H0 (V m) c ∗ Pipeline.ΦT pre0 (tbl m) c) ⊢ (Inv m J c 0 : sProp 𝕄) := by
  rw [Pipeline.ΦD_eq, scopedRest0_eq]
  unfold Inv H0
  rw [bigSep_singleton, cells_0 m c 0 (Or.inl rfl)]
  iintro ⟨⟨⟨⟨%f0, H0⟩, ⟨%f1, H1⟩, ⟨%f2, H2⟩, ⟨%f3, H3⟩, ⟨%f4, H4⟩⟩, Hg, Hs, Hc⟩, Ht⟩
  isplitl [Hg]; · iexact Hg
  isplitl [Ht]
  · iapply (table_of m c hw); iexact Ht
  isplitl [Hs Hc H4]
  · isplitl [Hs]; · iexact Hs
    isplitl [H4]
    · iapply (pages_of c f4)
      iexact H4
    iexact Hc
  isplitl [H0 H1]
  · iexists f0, f1
    isplitr
    · ipureintro; exact hJ _ _
    isplitl [H0]
    · iapply (has_of c cc0_scratch0 f0); iexact H0
    iapply (has_of c cc0_scratch1 f1); iexact H1
  isplitl [H2]
  · iexists f2
    iapply (has_of c cc0_scratch2 f2); iexact H2
  iexists f3
  iapply (has_of c cc0_scratch3 f3); iexact H3

/-- The giving back. -/
theorem leave (c : Dev nD) : (Inv m J c 128 : sProp 𝕄) ⊢ Pipeline.ΦD osem0 spec0 H0 (V m) c := by
  rw [Pipeline.ΦD_eq, scopedRest0_eq]
  unfold Inv H0
  rw [bigSep_singleton, cells_0 m c 128 (Or.inr rfl)]
  iintro ⟨Hg, -, ⟨Hs, Hp, Hc⟩, ⟨%X, %Y, -, H0, H1⟩, ⟨%B, H2⟩, ⟨%S, H3⟩⟩
  isplitl [H0 H1 H2 H3 Hp]
  · isplitl [H0]
    · iexists X
      iapply (of_has c cc0_scratch0 X); iexact H0
    isplitl [H1]
    · iexists Y
      iapply (of_has c cc0_scratch1 Y); iexact H1
    isplitl [H2]
    · iexists B
      iapply (of_has c cc0_scratch2 B); iexact H2
    isplitl [H3]
    · iexists S
      iapply (of_has c cc0_scratch3 S); iexact H3
    iapply (of_pages c); iexact Hp
  isplitl [Hg]; · iexact Hg
  isplitl [Hs]; · iexact Hs
  iexact Hc

/-- A step's number. -/
theorem nn_coords : ∀ t : Fin grid0.N, nn (grid0.coords t) = t.val := by decide +kernel

end Cert.KernelIdeal.Body

end
-- ==== Proof.Frame.lean ====
/- The call's frame: it runs, every argument ends as it began, and every counter ends at zero, for pages in the pool. -/
module

public import proofs.«01_k».proof.Proof.Region

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

abbrev cfgM : Pipeline.Cfg sig Λ₀ := cfg0 (adm m)

/-- The step's body at the call's buffers. -/
abbrev bodyAt (t : Fin (cfgM m).N) :=
  body (F := F) (grid0.coords t) (Memref.whole main_v1) (spec0_0.stage (((cfgM m).slots t 0).cast nbuf0_0)) (spec0_1.stage (((cfgM m).slots t 1).cast nbuf0_1))
    (spec0_2.stage (((cfgM m).slots t 2).cast nbuf0_2)) (spec0_3.stage (((cfgM m).slots t 3).cast nbuf0_3)) (Memref.whole main_v0)
    (spec0_4.stage (((cfgM m).slots t 4).cast nbuf0_4)) (hstage0_4 (((cfgM m).slots t 4).cast nbuf0_4)) (spec0_5.stage (((cfgM m).slots t 5).cast nbuf0_5))
    (Memref.whole cc0_scratch0) (Memref.whole cc0_scratch1) (Memref.isWhole_whole _) (Memref.whole cc0_scratch2) (Memref.whole cc0_scratch3)
    (Memref.whole cc0_scratch4) cc0_scratch5

theorem defs₀_row (t : Fin (cfgM m).N) :
    defs₀ (F := F) .tc (cfgM m).body ((cfgM m).bodyArgs t ((cfgM m).slots t)) = bodyAt m t := by
  unfold defs₀
  rw [Defs.onTc_tc]
  exact body_eq ..

/-- Data that say nothing of the windows. -/
def datsF (_ : Fin 1) (c : Dev nD) : Dat τ (Elt F) Unit ℕ (Pipeline.UD sig nD τ) ℕ (cfgM m) c where
  A w := V m c (Pipeline.arrRef spec0 w)
  after := Dat.unnamed
  Φ t := Inv m (fun _ _ _ => True) c t.val
  q _ := fullShare
  owed _ := 0

theorem A_eqF (c : Dev nD) (w : Fin (cfgM m).W) : (datsF m 0 c).A w = V m c (Pipeline.arrRef spec0 w) := by
  dsimp only [datsF]

theorem Φ_castF (c : Dev nD) (t : Fin (cfgM m).N) : (datsF m 0 c).Φ t.castSucc = Inv m (fun _ _ _ => True) c t.val := by
  dsimp only [datsF]
  exact Dat.Φ_castSucc (fun n _ => Inv m (fun _ _ _ => True) c n) t
theorem Φ_succF (c : Dev nD) (t : Fin (cfgM m).N) : (datsF m 0 c).Φ t.succ = Inv m (fun _ _ _ => True) c (t.val + 1) := by
  dsimp only [datsF]; rfl
theorem Φ_lastF (c : Dev nD) : (datsF m 0 c).Φ (Fin.last (cfgM m).N) = Inv m (fun _ _ _ => True) c 128 := by
  dsimp only [datsF]
  exact congrArg (Inv m (fun _ _ _ => True) c) N_0

theorem sound_bodyF (c : Dev nD) (t : Fin (cfgM m).N) :
    iprop(Inv m (fun _ _ _ => True) c t.val ∗ (datsF m 0 c).owesAt () t.castSucc
      ∗ (∃ X, Has c (spec0_0.stage (((cfgM m).slots t 0).cast nbuf0_0)) X) ∗ (∃ X, Has c (spec0_1.stage (((cfgM m).slots t 1).cast nbuf0_1)) X)
      ∗ (∃ X, Has c (spec0_2.stage (((cfgM m).slots t 2).cast nbuf0_2)) X) ∗ (∃ X, Has c (spec0_3.stage (((cfgM m).slots t 3).cast nbuf0_3)) X)
      ∗ (∃ X, Has c (spec0_4.stage (((cfgM m).slots t 4).cast nbuf0_4)) X) ∗ (∃ X, Has c (spec0_5.stage (((cfgM m).slots t 5).cast nbuf0_5)) X))
    ⊢ Run c (bodyAt m t) fun _ => iprop(Inv m (fun _ _ _ => True) c (t.val + 1) ∗ (datsF m 0 c).owesAt () t.succ
      ∗ (∃ X, Has c (spec0_0.stage (((cfgM m).slots t 0).cast nbuf0_0)) X) ∗ (∃ X, Has c (spec0_1.stage (((cfgM m).slots t 1).cast nbuf0_1)) X)
      ∗ (∃ X, Has c (spec0_2.stage (((cfgM m).slots t 2).cast nbuf0_2)) X) ∗ (∃ X, Has c (spec0_3.stage (((cfgM m).slots t 3).cast nbuf0_3)) X)
      ∗ (∃ X, Has c (spec0_4.stage (((cfgM m).slots t 4).cast nbuf0_4)) X) ∗ (∃ X, Has c (spec0_5.stage (((cfgM m).slots t 5).cast nbuf0_5)) X)) := by
  unfold Dat.owesAt Pipeline.owesWithin
  rw [show (datsF m 0 c).owed t.castSucc = 0 from rfl, show (datsF m 0 c).owed t.succ = 0 from rfl]
  unfold Inv
  iintro ⟨⟨Hg, Ht, Hc, ⟨%X, %Y, -, H0, H1⟩, ⟨%B, H2⟩, ⟨%S, H3⟩⟩, ⟨%W, -, HW⟩, ⟨%Q4, W0⟩, ⟨%K, W1⟩, ⟨%KT, W2⟩, ⟨%VT, W3⟩, W4, W5⟩
  have hn := nn_coords t
  iapply (run_body (c := c) (fc := V m c main_v0) (K := K) (B := B) (Y := Y) (S := S) (Q4 := Q4) (KT := KT) (VT := VT) (X := X)) $$ [Ht Hc H0 H1 H2 H3 HW W0 W1 W2 W3 W4 W5]
  · rw [hn]
    isplitl [Ht]; · iexact Ht
    isplitl [HW]
    · unfold Owe; iexists W; iexact HW
    isplitl [Hc]; · iexact Hc
    isplitl [W0]; · iexact W0
    isplitl [W1]; · iexact W1
    isplitl [W2]; · iexact W2
    isplitl [W3]; · iexact W3
    isplitl [W4]; · iexact W4
    isplitl [W5]; · unfold SomeSums; iexact W5
    isplitl [H0]; · iexact H0
    isplitl [H1]; · iexact H1
    isplitl [H2]; · iexact H2
    iexact H3
  iintro %u ⟨Ht, HW, Hc, W0, W1, W2, W3, W4, W5, H0, H1, H2, H3⟩
  rw [hn]
  unfold Owe SomeSums
  icases HW with ⟨%W', HW⟩
  isplitl [Hg Ht Hc H0 H1 H2 H3]
  · isplitl [Hg]; · iexact Hg
    isplitl [Ht]; · iexact Ht
    isplitl [Hc]; · iexact Hc
    isplitl [H0 H1]
    · iexists (kmNow KT (grid0.coords t) X), (vbNow VT (grid0.coords t) Y)
      isplitr
      · ipureintro; trivial
      isplitl [H0]; · iexact H0
      iexact H1
    isplitl [H2]; · iexact H2
    iexact H3
  isplitl [HW]
  · iexists W'; isplitr; · ipureintro; exact fun _ _ => Or.inl trivial
    iexact HW
  isplitl [W0]; · iexists _; iexact W0
  isplitl [W1]; · iexists _; iexact W1
  isplitl [W2]; · iexists _; iexact W2
  isplitl [W3]; · iexists _; iexact W3
  isplitl [W4]; · iexists _; iexact W4
  iexact W5

theorem body_obligationF (c : Dev nD) : Pipeline.BodyObligationLoose (datsF (F := F) m 0 c) (defs₀ (F := F)) Variants.none () Set.univ (fun _ => true) := fun t => by
  simp only [bigSep_W0]
  rw [Φ_castF, Φ_succF]
  refine triple_restated (sound_bodyF m c t) ?_ ?_ fun _ => ?_
  · rw [← defs₀_row]
  · exact .rfl
  · exact .rfl

set_option backward.isDefEq.respectTransparency.types false in
set_option maxHeartbeats 2000000 in
theorem run_mainF (hw : ∀ c x, (words m c x).toNat < 5120) : θ_run defs (onTc (τ := τ) (main (F := F))) ⟨m, fun _ => 0, ρ⟩
    (fun r => Pipeline.RDat.FramePost (cfgM m) (fun c => (datsF m 0 c).toRForget fun _ => true) (V m) r ∧ r.2.sem = fun _ => 0) :=
  Pipeline.θ_run_frameP_dma_forget (Q' := _) pcfgs (fun _ => adm m) (datsF m) (0 : Fin 1) launch0 osem0 defs₀ Variants.none (fun _ => true) ownSemFacts0 H0 H0_sub m ρ main
    (hbody := fun c => body_obligationF m c) (hshare := fun c => (datsF m 0 c).share_full fun _ => rfl)
    (howed := fun _ _ => rfl) (V := V m) (hmain := hmain m) (hA := A_eqF m) (hpf := V_tbl m)
    (hin := fun c => enter m (fun _ _ _ => True) (fun _ _ => trivial) c (hw c))
    (hout := fun c => (Φ_lastF m c) ▸ leave m (fun _ _ _ => True) c)
    (hQ' := fun _ h => h)

/-- The frame. -/
theorem frame_kernel (hw : ∀ c x, (words m c x).toNat < 5120) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (show ∀ w : Fin 6, (spec0 w).arr.view.ref ≠ main_arg0 from by decide))).trans (V_arg m c (by decide)),
      ((h.1 c).2 main_arg1 (Pipeline.mem_restRefs_of main_arg1 (by decide) (show ∀ w : Fin 6, (spec0 w).arr.view.ref ≠ main_arg1 from by decide))).trans (V_arg m c (by decide)),
      ((h.1 c).2 main_arg2 (Pipeline.mem_restRefs_of main_arg2 (by decide) (show ∀ w : Fin 6, (spec0 w).arr.view.ref ≠ main_arg2 from by decide))).trans (V_arg m c (by decide)),
      ((h.1 c).2 main_arg3 (Pipeline.mem_restRefs_of main_arg3 (by decide) (show ∀ w : Fin 6, (spec0 w).arr.view.ref ≠ main_arg3 from by decide))).trans (V_arg m c (by decide)),
      ((h.1 c).2 main_arg4 (Pipeline.mem_restRefs_of main_arg4 (by decide) (show ∀ w : Fin 6, (spec0 w).arr.view.ref ≠ main_arg4 from by decide))).trans (V_arg m c (by decide))⟩, h.2⟩) (run_mainF m ρ hw)

end Cert.KernelIdeal.Body

end
-- ==== Proof.Pool.lean ====
/- The precondition read: every word of the page table names a page of the pool; and the kernel's frame from it. -/
module

public import proofs.«01_k».proof.Proof.Frame
public import proofs.«01_k».proof.Pre_pages_in_pool
public import Idealize.ShloMosaic.Lib.StableHlo.Predicate

@[expose] public section

noncomputable section

namespace Cert.KernelIdeal.Body

open Idealize.ShloMosaic Idealize.ShloMosaic.TcCoe
open Idealize.SL.Sem
open Cert.KernelIdeal Cert.KernelIdeal.Gen

/-- The predicate's one broadcast is well formed. -/
instance facts_pool : Cert.Pre_pages_in_pool.Facts where
  bcast_S_S32x128 := by decide

theorem word_range (a : BitVec 32) (h : IntOp.andi (IntOp.cmpi .sge a 0#32) (IntOp.cmpi .slt a 5120#32) = 1#1) : a.toNat < 5120 := by
  have both : ∀ p q : Bool, BitVec.ofBool p &&& BitVec.ofBool q = 1#1 → p = true ∧ q = true := by decide
  obtain ⟨h1, h2⟩ := both _ _ h
  have h1 : (0#32).sle a = true := h1
  have h2 : a.slt 5120#32 = true := h2
  rw [BitVec.sle_iff_toInt_le] at h1
  rw [BitVec.slt_iff_toInt_lt] at h2
  rw [show (0#32 : BitVec 32).toInt = 0 from by decide] at h1
  rw [show (5120#32 : BitVec 32).toInt = 5120 from by decide] at h2
  rw [BitVec.toInt_eq_toNat_cond] at h1 h2
  split at h1 <;> omega

variable {F : FTy → Type} [FloatOps F] [Named F]

theorem pool_words (a0 a1 a2 : FVec F Cert.Pre_pages_in_pool.S4x8x4096x64 .f32) (a3 : FVec F Cert.Pre_pages_in_pool.S2x5120x8x128x64 .f32)
    (a4 : IVec Cert.Pre_pages_in_pool.S32x128 32) (h : Cert.Pre_pages_in_pool.fn a0 a1 a2 a3 a4 = fun _ => 1#1) (y : Cert.Pre_pages_in_pool.S32x128.Idx) :
    (a4 y : BitVec 32).toNat < 5120 :=
  word_range _ (congrFun h y)

variable (m : (ℓ : Loc nD τ sig) → Buf (Elt F) ℓ) (ρ : Dev nD → PrngReg)

/-- The table is the page table, row by row. -/
theorem V_v1 (c : Dev nD) : V m c main_v1 = shapeCast (s := S32x128) S4096 (m ((c.tc : Thread nD τ).loc main_arg4)) shapeCasts_S32x128_S4096 := by
  unfold V
  simp only [List.flatten, hostOps0, List.append]
  after_results_simp <;> rfl

theorem words_lt (c : Dev nD) (h : ∀ y : S32x128.Idx, (m ((c.tc : Thread nD τ).loc main_arg4) y : BitVec 32).toNat < 5120) (x : S4096.Idx) : (words m c x).toNat < 5120 := by
  unfold words
  rw [V_v1]
  exact h _

end Cert.KernelIdeal.Body

end
-- ==== Proof.Claims.lean ====
/- The frames, each read at its claim, and the ideal pass's two constants. -/
module

public import proofs.«01_k».proof.Defs
public import proofs.«01_k».proof.Proof.Pool
public import proofs.«01_k».proof.Proof.Gen.Kernel
public import proofs.«01_k».proof.Proof.Gen.ReferenceIdeal.Run
public import Idealize.ShloMosaic.Lib.Pipeline.Regions

@[expose] public section

noncomputable section

namespace Cert.Proof

open Idealize.ShloMosaic Idealize.ShloMosaic.TcCoe
open Idealize.SL.Sem

/-- The idealized kernel leaves its arguments and every semaphore at rest. -/
theorem frame_ideal : Cert.quiescent_KernelIdeal (hKernelIdeal := Cert.KernelIdeal.Gen.facts) (hPre_pages_in_pool := Cert.KernelIdeal.Body.facts_pool) := fun m ρ h =>
  Cert.KernelIdeal.Body.frame_kernel (F := Ideal) m ρ fun c => Cert.KernelIdeal.Body.words_lt m c (Cert.KernelIdeal.Body.pool_words (F := Ideal) _ _ _ _ _ (h c))

/-- At the bit-exact instance a named constant is the bits it is printed with. -/
@[instance_reducible] def namedBits : Named Bits where
  named _ _ {φ} bits := FloatOps.ofBits φ bits

/-- The reference has no semaphore. -/
theorem no_sem (s : GSem Cert.ReferenceIdeal.nD Cert.ReferenceIdeal.τ Cert.ReferenceIdeal.sig → ℤ) : s = fun _ => 0 := by
  funext g
  exact (by decide : ∀ _ : SemLoc Cert.ReferenceIdeal.sig, False) g.2 |>.elim

theorem frame_reference : Cert.quiescent_ReferenceIdeal (hReferenceIdeal := Cert.ReferenceIdeal.Gen.facts) := fun m ρ _ =>
  (θ_run Cert.ReferenceIdeal.defs _ _).mono (fun r h => ⟨fun c => (h c).2, no_sem _⟩) (Cert.ReferenceIdeal.Value.run (F := Ideal) m ρ)

theorem frame_reference_pre : Cert.quiescent_ReferenceIdeal_pre_pages_in_pool (hReferenceIdeal := Cert.ReferenceIdeal.Gen.facts) (hPre_pages_in_pool := Cert.KernelIdeal.Body.facts_pool) := fun m ρ _ =>
  frame_reference m ρ trivial

/-- The two constants the pass names: 1/(8·ln 2) and the mask's `-∞`. -/
theorem preserves : Cert.preserves_Kernel_KernelIdeal :=
  ⟨IdealRules.named_const.statement _ _ _ _ _ rfl, IdealRules.named_const.statement _ _ _ _ _ rfl⟩

end Cert.Proof

end
-- ==== Proof.FrameBits.lean ====
/- The bit-exact frame: with each named constant read as its printed bits, the idealized program's text IS the kernel's,
   so its frame, proved at every float instance, is the kernel's. -/
module

public import proofs.«01_k».proof.Proof.Claims

@[expose] public section

noncomputable section

namespace Cert.Proof

open Idealize.ShloMosaic Idealize.ShloMosaic.TcCoe
open Idealize.SL.Sem

local instance : Cert.Kernel.Facts := Cert.Kernel.Gen.facts
local instance : Cert.KernelIdeal.Facts := Cert.KernelIdeal.Gen.facts
local instance : Cert.Pre_pages_in_pool.Facts := Cert.KernelIdeal.Body.facts_pool

/-- The idealized program's frame at the bit-exact instance, its named constants as printed. -/
def BitsFrame : Prop :=
  letI : Named Bits := namedBits
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD, Cert.Pre_pages_in_pool.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem bits_frame : BitsFrame := fun m g h =>
  letI : Named Bits := namedBits
  Cert.KernelIdeal.Body.frame_kernel (F := Bits) m g fun c => Cert.KernelIdeal.Body.words_lt m c (Cert.KernelIdeal.Body.pool_words (F := Bits) _ _ _ _ _ (h c))

/-- The two statements are one. -/
theorem same_statement : BitsFrame = Cert.quiescent_Kernel := by
  chain_rfl

theorem frame_bits : Cert.quiescent_Kernel := same_statement ▸ bits_frame

end Cert.Proof

end
-- ==== Proof.HostValue.lean ====
/- What the host hands the call: each operand, and where its elements come from. -/
module

public import proofs.«01_k».proof.Proof.Region
public import Idealize.ShloMosaic.Lib.Pointwise

@[expose] public section

noncomputable section

namespace Cert.KernelIdeal.Body

open Idealize.ShloMosaic Idealize.ShloMosaic.TcCoe
open Cert.KernelIdeal Cert.KernelIdeal.Gen

/-- The operand the host makes of an argument: heads by rows, positions along. -/
def headRows (x : Vec Ideal S4x8x4096x64 .f32) : Vec Ideal S4x512x4096 .f32 :=
  shapeCast S4x512x4096 (transpose S4x8x64x4096 [0, 1, 3, 2] x transposes_S4x8x4096x64_S4x8x64x4096_0_1_3_2) shapeCasts_S4x8x64x4096_S4x512x4096

/-- The keys, positions by rows, rounded. -/
def headCols (x : Vec Ideal S4x512x4096 .f32) : Vec Ideal S4x4096x512 .bf16 :=
  truncf .bf16 (transpose S4x4096x512 [0, 2, 1] x transposes_S4x512x4096_S4x4096x512_0_2_1 : FVec Ideal S4x4096x512 .f32) bitsLt_bf16_f32

theorem headRows_at (x : Vec Ideal S4x8x4096x64 .f32) (b : Fin 4) (h : Fin 8) (d : Fin 64) (p : Fin 4096) :
    headRows x (ix3 b ⟨h.val * 64 + d.val, by omega⟩ p) = x (ix4 b h p d) := by
  pointwise [headRows]

theorem headCols_at (x : Vec Ideal S4x512x4096 .f32) (b : Fin 4) (e : Fin 512) (p : Fin 4096) : headCols x (ix3 b p e) = x (ix3 b e p) := by
  pointwise [headCols]

variable (m : (ℓ : Loc nD τ sig) → Buf (Elt Ideal) ℓ)

theorem V_v3 (c : Dev nD) : V m c main_v3 = headRows (m ((c.tc : Thread nD τ).loc main_arg0)) := by
  unfold V
  simp only [List.flatten, hostOps0, List.append]
  after_results_simp <;> rfl

theorem V_v5 (c : Dev nD) : V m c main_v5 = headRows (m ((c.tc : Thread nD τ).loc main_arg1)) := by
  unfold V
  simp only [List.flatten, hostOps0, List.append]
  after_results_simp <;> rfl

theorem V_v7 (c : Dev nD) : V m c main_v7 = headRows (m ((c.tc : Thread nD τ).loc main_arg2)) := by
  unfold V
  simp only [List.flatten, hostOps0, List.append]
  after_results_simp <;> rfl

theorem V_v9 (c : Dev nD) : V m c main_v9 = headCols (headRows (m ((c.tc : Thread nD τ).loc main_arg1))) := by
  unfold V
  simp only [List.flatten, hostOps0, List.append]
  after_results_simp <;> rfl

end Cert.KernelIdeal.Body

end
-- ==== Proof.Blocks.lean ====
/- Where a window's block lies in its array, at a step; and what an input's buffer holds there. -/
module

public import proofs.«01_k».proof.Proof.Frame
public import proofs.«01_k».proof.Proof.HostValue
public import Idealize.ShloMosaic.Lib.Pipeline.Value
public import Idealize.ShloMosaic.Lib.Pointwise

@[expose] public section

noncomputable section

namespace Cert.KernelIdeal.Body

open Idealize.ShloMosaic Idealize.ShloMosaic.TcCoe
open Idealize.ShloMosaic.Pipeline (Dat Cfg Window heldIn)
open Cert.KernelIdeal Cert.KernelIdeal.Gen

variable (m : (ℓ : Loc nD τ sig) → Buf (Elt Ideal) ℓ)

abbrev AllOf (c : Dev nD) := (w : Fin (cfgM m).W) → Buf (Elt Ideal) (((cfgM m).win w).arr.view.loc (c.tc : Thread nD τ))

/-- The element of the array that element `y` of window 0's block is, for a block number `f`. -/
def place0 (f : Fin 3 → ℕ) (y : S1x256x256.Idx) : S4x512x4096.Idx := ix3 (Fin.ofNat 4 (f 0 * 1 + (y 0).val)) (Fin.ofNat 512 (f 1 * 256 + (y 1).val)) (Fin.ofNat 4096 (f 2 * 256 + (y 2).val))

theorem emb0 (t : Fin (cfgM m).N) (y : S1x256x256.Idx) : (((cfgM m).win (0 : Fin 6)).blk t).view.emb y = place0 (((cfgM m).win (0 : Fin 6)).index t) y := by
  funext a
  apply Fin.ext
  have h0 := ((((cfgM m).win (0 : Fin 6)).blk t).view.emb y 0).isLt
  have h1 := ((((cfgM m).win (0 : Fin 6)).blk t).view.emb y 1).isLt
  have h2 := ((((cfgM m).win (0 : Fin 6)).blk t).view.emb y 2).isLt
  have e0 : ((((cfgM m).win (0 : Fin 6)).blk t).view.emb y 0).val = ((cfgM m).win (0 : Fin 6)).index t 0 * 1 + (y 0).val := by
    show ((cfgM m).win (0 : Fin 6)).index t 0 * 1 + 1 * (y 0).val = _; omega
  have e1 : ((((cfgM m).win (0 : Fin 6)).blk t).view.emb y 1).val = ((cfgM m).win (0 : Fin 6)).index t 1 * 256 + (y 1).val := by
    show ((cfgM m).win (0 : Fin 6)).index t 1 * 256 + 1 * (y 1).val = _; omega
  have e2 : ((((cfgM m).win (0 : Fin 6)).blk t).view.emb y 2).val = ((cfgM m).win (0 : Fin 6)).index t 2 * 256 + (y 2).val := by
    show ((cfgM m).win (0 : Fin 6)).index t 2 * 256 + 1 * (y 2).val = _; omega
  match a with
  | ⟨0, _⟩ => exact e0.trans (Nat.mod_eq_of_lt (e0 ▸ h0)).symm
  | ⟨1, _⟩ => exact e1.trans (Nat.mod_eq_of_lt (e1 ▸ h1)).symm
  | ⟨2, _⟩ => exact e2.trans (Nat.mod_eq_of_lt (e2 ▸ h2)).symm

theorem held0 (c : Dev nD) (A : AllOf m c) (n : ℕ) (h : n < (cfgM m).N) :
    (heldIn (cfgM m) A (0 : Fin 6) n h : S1x256x256.Idx → EReal) = fun y => A (0 : Fin 6) (place0 (((cfgM m).win (0 : Fin 6)).index ⟨n, h⟩) y) := by
  have hfetch : ∀ t : Fin (cfgM m).N, ((cfgM m).win (0 : Fin 6)).fetch t = true →
      (heldIn (cfgM m) A (0 : Fin 6) t.val t.isLt : S1x256x256.Idx → EReal) = fun y => A (0 : Fin 6) (place0 (((cfgM m).win (0 : Fin 6)).index t) y) := fun t ht => by
    rw [Pipeline.heldIn_of_fetch A (0 : Fin 6) t ht]
    funext y
    have hm : ((cfgM m).win (0 : Fin 6)).moved ((cfgM m).grid.coords t) y = true := (((cfgM m).win (0 : Fin 6)).moved_iff _ y).mpr fun a => (y a).isLt
    unfold Window.fill
    rw [dif_pos hm]
    exact congrArg (A (0 : Fin 6)) (emb0 m t y)
  induction n with
  | zero => exact hfetch ⟨0, h⟩ ((((cfgM m).win (0 : Fin 6)).fetch_in rfl _).mpr (Or.inl rfl))
  | succ n ih =>
    by_cases hf : ((cfgM m).win (0 : Fin 6)).fetch ⟨n + 1, h⟩ = true
    · exact hfetch ⟨n + 1, h⟩ hf
    · rw [Pipeline.heldIn_of_not_fetch A (0 : Fin 6) n h (Bool.eq_false_iff.mpr hf), ih (Nat.lt_of_succ_lt h)]
      have he : ((cfgM m).win (0 : Fin 6)).index ⟨n + 1, h⟩ = ((cfgM m).win (0 : Fin 6)).index ⟨n, Nat.lt_of_succ_lt h⟩ := by
        by_contra hne
        exact hf ((((cfgM m).win (0 : Fin 6)).fetch_in rfl _).mpr (Or.inr ⟨Nat.succ_pos n, hne⟩))
      rw [he]

theorem index0 (t : Fin (cfgM m).N) : ((cfgM m).win (0 : Fin 6)).index t = ![(grid0.coords t 0).val, (grid0.coords t 1).val, (grid0.coords t 2).val] := by
  show cc0_transform_0 (grid0.coords t) = _
  have h0 : (grid0.coords t 0).val < 4 := (grid0.coords t 0).isLt
  have h1 : (grid0.coords t 1).val < 2 := (grid0.coords t 1).isLt
  have h2 : (grid0.coords t 2).val < 16 := (grid0.coords t 2).isLt
  unfold cc0_transform_0
  simp only [BitVec.toNat_ofNat]
  rw [Nat.mod_eq_of_lt (show (grid0.coords t 0).val < 2 ^ 32 by omega), Nat.mod_eq_of_lt (show (grid0.coords t 1).val < 2 ^ 32 by omega)]
  try rw [Nat.mod_eq_of_lt (show (grid0.coords t 2).val < 2 ^ 32 by omega)]
  try rfl

/-- The element of the array that element `y` of window 1's block is, for a block number `f`. -/
def place1 (f : Fin 3 → ℕ) (y : S1x4096x256.Idx) : S4x4096x512.Idx := ix3 (Fin.ofNat 4 (f 0 * 1 + (y 0).val)) (Fin.ofNat 4096 (f 1 * 4096 + (y 1).val)) (Fin.ofNat 512 (f 2 * 256 + (y 2).val))

theorem emb1 (t : Fin (cfgM m).N) (y : S1x4096x256.Idx) : (((cfgM m).win (1 : Fin 6)).blk t).view.emb y = place1 (((cfgM m).win (1 : Fin 6)).index t) y := by
  funext a
  apply Fin.ext
  have h0 := ((((cfgM m).win (1 : Fin 6)).blk t).view.emb y 0).isLt
  have h1 := ((((cfgM m).win (1 : Fin 6)).blk t).view.emb y 1).isLt
  have h2 := ((((cfgM m).win (1 : Fin 6)).blk t).view.emb y 2).isLt
  have e0 : ((((cfgM m).win (1 : Fin 6)).blk t).view.emb y 0).val = ((cfgM m).win (1 : Fin 6)).index t 0 * 1 + (y 0).val := by
    show ((cfgM m).win (1 : Fin 6)).index t 0 * 1 + 1 * (y 0).val = _; omega
  have e1 : ((((cfgM m).win (1 : Fin 6)).blk t).view.emb y 1).val = ((cfgM m).win (1 : Fin 6)).index t 1 * 4096 + (y 1).val := by
    show ((cfgM m).win (1 : Fin 6)).index t 1 * 4096 + 1 * (y 1).val = _; omega
  have e2 : ((((cfgM m).win (1 : Fin 6)).blk t).view.emb y 2).val = ((cfgM m).win (1 : Fin 6)).index t 2 * 256 + (y 2).val := by
    show ((cfgM m).win (1 : Fin 6)).index t 2 * 256 + 1 * (y 2).val = _; omega
  match a with
  | ⟨0, _⟩ => exact e0.trans (Nat.mod_eq_of_lt (e0 ▸ h0)).symm
  | ⟨1, _⟩ => exact e1.trans (Nat.mod_eq_of_lt (e1 ▸ h1)).symm
  | ⟨2, _⟩ => exact e2.trans (Nat.mod_eq_of_lt (e2 ▸ h2)).symm

theorem held1 (c : Dev nD) (A : AllOf m c) (n : ℕ) (h : n < (cfgM m).N) :
    (heldIn (cfgM m) A (1 : Fin 6) n h : S1x4096x256.Idx → EReal) = fun y => A (1 : Fin 6) (place1 (((cfgM m).win (1 : Fin 6)).index ⟨n, h⟩) y) := by
  have hfetch : ∀ t : Fin (cfgM m).N, ((cfgM m).win (1 : Fin 6)).fetch t = true →
      (heldIn (cfgM m) A (1 : Fin 6) t.val t.isLt : S1x4096x256.Idx → EReal) = fun y => A (1 : Fin 6) (place1 (((cfgM m).win (1 : Fin 6)).index t) y) := fun t ht => by
    rw [Pipeline.heldIn_of_fetch A (1 : Fin 6) t ht]
    funext y
    have hm : ((cfgM m).win (1 : Fin 6)).moved ((cfgM m).grid.coords t) y = true := (((cfgM m).win (1 : Fin 6)).moved_iff _ y).mpr fun a => (y a).isLt
    unfold Window.fill
    rw [dif_pos hm]
    exact congrArg (A (1 : Fin 6)) (emb1 m t y)
  induction n with
  | zero => exact hfetch ⟨0, h⟩ ((((cfgM m).win (1 : Fin 6)).fetch_in rfl _).mpr (Or.inl rfl))
  | succ n ih =>
    by_cases hf : ((cfgM m).win (1 : Fin 6)).fetch ⟨n + 1, h⟩ = true
    · exact hfetch ⟨n + 1, h⟩ hf
    · rw [Pipeline.heldIn_of_not_fetch A (1 : Fin 6) n h (Bool.eq_false_iff.mpr hf), ih (Nat.lt_of_succ_lt h)]
      have he : ((cfgM m).win (1 : Fin 6)).index ⟨n + 1, h⟩ = ((cfgM m).win (1 : Fin 6)).index ⟨n, Nat.lt_of_succ_lt h⟩ := by
        by_contra hne
        exact hf ((((cfgM m).win (1 : Fin 6)).fetch_in rfl _).mpr (Or.inr ⟨Nat.succ_pos n, hne⟩))
      rw [he]

theorem index1 (t : Fin (cfgM m).N) : ((cfgM m).win (1 : Fin 6)).index t = ![(grid0.coords t 0).val, 0, (grid0.coords t 1).val] := by
  show cc0_transform_1 (grid0.coords t) = _
  have h0 : (grid0.coords t 0).val < 4 := (grid0.coords t 0).isLt
  have h1 : (grid0.coords t 1).val < 2 := (grid0.coords t 1).isLt
  have h2 : (grid0.coords t 2).val < 16 := (grid0.coords t 2).isLt
  unfold cc0_transform_1
  simp only [BitVec.toNat_ofNat]
  rw [Nat.mod_eq_of_lt (show (grid0.coords t 0).val < 2 ^ 32 by omega), Nat.mod_eq_of_lt (show (grid0.coords t 1).val < 2 ^ 32 by omega)]
  try rw [Nat.mod_eq_of_lt (show (grid0.coords t 2).val < 2 ^ 32 by omega)]
  try rfl

/-- The element of the array that element `y` of window 2's block is, for a block number `f`. -/
def place2 (f : Fin 3 → ℕ) (y : S1x256x4096.Idx) : S4x512x4096.Idx := ix3 (Fin.ofNat 4 (f 0 * 1 + (y 0).val)) (Fin.ofNat 512 (f 1 * 256 + (y 1).val)) (Fin.ofNat 4096 (f 2 * 4096 + (y 2).val))

theorem emb2 (t : Fin (cfgM m).N) (y : S1x256x4096.Idx) : (((cfgM m).win (2 : Fin 6)).blk t).view.emb y = place2 (((cfgM m).win (2 : Fin 6)).index t) y := by
  funext a
  apply Fin.ext
  have h0 := ((((cfgM m).win (2 : Fin 6)).blk t).view.emb y 0).isLt
  have h1 := ((((cfgM m).win (2 : Fin 6)).blk t).view.emb y 1).isLt
  have h2 := ((((cfgM m).win (2 : Fin 6)).blk t).view.emb y 2).isLt
  have e0 : ((((cfgM m).win (2 : Fin 6)).blk t).view.emb y 0).val = ((cfgM m).win (2 : Fin 6)).index t 0 * 1 + (y 0).val := by
    show ((cfgM m).win (2 : Fin 6)).index t 0 * 1 + 1 * (y 0).val = _; omega
  have e1 : ((((cfgM m).win (2 : Fin 6)).blk t).view.emb y 1).val = ((cfgM m).win (2 : Fin 6)).index t 1 * 256 + (y 1).val := by
    show ((cfgM m).win (2 : Fin 6)).index t 1 * 256 + 1 * (y 1).val = _; omega
  have e2 : ((((cfgM m).win (2 : Fin 6)).blk t).view.emb y 2).val = ((cfgM m).win (2 : Fin 6)).index t 2 * 4096 + (y 2).val := by
    show ((cfgM m).win (2 : Fin 6)).index t 2 * 4096 + 1 * (y 2).val = _; omega
  match a with
  | ⟨0, _⟩ => exact e0.trans (Nat.mod_eq_of_lt (e0 ▸ h0)).symm
  | ⟨1, _⟩ => exact e1.trans (Nat.mod_eq_of_lt (e1 ▸ h1)).symm
  | ⟨2, _⟩ => exact e2.trans (Nat.mod_eq_of_lt (e2 ▸ h2)).symm

theorem held2 (c : Dev nD) (A : AllOf m c) (n : ℕ) (h : n < (cfgM m).N) :
    (heldIn (cfgM m) A (2 : Fin 6) n h : S1x256x4096.Idx → EReal) = fun y => A (2 : Fin 6) (place2 (((cfgM m).win (2 : Fin 6)).index ⟨n, h⟩) y) := by
  have hfetch : ∀ t : Fin (cfgM m).N, ((cfgM m).win (2 : Fin 6)).fetch t = true →
      (heldIn (cfgM m) A (2 : Fin 6) t.val t.isLt : S1x256x4096.Idx → EReal) = fun y => A (2 : Fin 6) (place2 (((cfgM m).win (2 : Fin 6)).index t) y) := fun t ht => by
    rw [Pipeline.heldIn_of_fetch A (2 : Fin 6) t ht]
    funext y
    have hm : ((cfgM m).win (2 : Fin 6)).moved ((cfgM m).grid.coords t) y = true := (((cfgM m).win (2 : Fin 6)).moved_iff _ y).mpr fun a => (y a).isLt
    unfold Window.fill
    rw [dif_pos hm]
    exact congrArg (A (2 : Fin 6)) (emb2 m t y)
  induction n with
  | zero => exact hfetch ⟨0, h⟩ ((((cfgM m).win (2 : Fin 6)).fetch_in rfl _).mpr (Or.inl rfl))
  | succ n ih =>
    by_cases hf : ((cfgM m).win (2 : Fin 6)).fetch ⟨n + 1, h⟩ = true
    · exact hfetch ⟨n + 1, h⟩ hf
    · rw [Pipeline.heldIn_of_not_fetch A (2 : Fin 6) n h (Bool.eq_false_iff.mpr hf), ih (Nat.lt_of_succ_lt h)]
      have he : ((cfgM m).win (2 : Fin 6)).index ⟨n + 1, h⟩ = ((cfgM m).win (2 : Fin 6)).index ⟨n, Nat.lt_of_succ_lt h⟩ := by
        by_contra hne
        exact hf ((((cfgM m).win (2 : Fin 6)).fetch_in rfl _).mpr (Or.inr ⟨Nat.succ_pos n, hne⟩))
      rw [he]

theorem index2 (t : Fin (cfgM m).N) : ((cfgM m).win (2 : Fin 6)).index t = ![(grid0.coords t 0).val, (grid0.coords t 1).val, 0] := by
  show cc0_transform_2 (grid0.coords t) = _
  have h0 : (grid0.coords t 0).val < 4 := (grid0.coords t 0).isLt
  have h1 : (grid0.coords t 1).val < 2 := (grid0.coords t 1).isLt
  have h2 : (grid0.coords t 2).val < 16 := (grid0.coords t 2).isLt
  unfold cc0_transform_2
  simp only [BitVec.toNat_ofNat]
  rw [Nat.mod_eq_of_lt (show (grid0.coords t 0).val < 2 ^ 32 by omega), Nat.mod_eq_of_lt (show (grid0.coords t 1).val < 2 ^ 32 by omega)]
  try rw [Nat.mod_eq_of_lt (show (grid0.coords t 2).val < 2 ^ 32 by omega)]
  try rfl

/-- The element of the array that element `y` of window 3's block is, for a block number `f`. -/
def place3 (f : Fin 3 → ℕ) (y : S1x256x4096.Idx) : S4x512x4096.Idx := ix3 (Fin.ofNat 4 (f 0 * 1 + (y 0).val)) (Fin.ofNat 512 (f 1 * 256 + (y 1).val)) (Fin.ofNat 4096 (f 2 * 4096 + (y 2).val))

theorem emb3 (t : Fin (cfgM m).N) (y : S1x256x4096.Idx) : (((cfgM m).win (3 : Fin 6)).blk t).view.emb y = place3 (((cfgM m).win (3 : Fin 6)).index t) y := by
  funext a
  apply Fin.ext
  have h0 := ((((cfgM m).win (3 : Fin 6)).blk t).view.emb y 0).isLt
  have h1 := ((((cfgM m).win (3 : Fin 6)).blk t).view.emb y 1).isLt
  have h2 := ((((cfgM m).win (3 : Fin 6)).blk t).view.emb y 2).isLt
  have e0 : ((((cfgM m).win (3 : Fin 6)).blk t).view.emb y 0).val = ((cfgM m).win (3 : Fin 6)).index t 0 * 1 + (y 0).val := by
    show ((cfgM m).win (3 : Fin 6)).index t 0 * 1 + 1 * (y 0).val = _; omega
  have e1 : ((((cfgM m).win (3 : Fin 6)).blk t).view.emb y 1).val = ((cfgM m).win (3 : Fin 6)).index t 1 * 256 + (y 1).val := by
    show ((cfgM m).win (3 : Fin 6)).index t 1 * 256 + 1 * (y 1).val = _; omega
  have e2 : ((((cfgM m).win (3 : Fin 6)).blk t).view.emb y 2).val = ((cfgM m).win (3 : Fin 6)).index t 2 * 4096 + (y 2).val := by
    show ((cfgM m).win (3 : Fin 6)).index t 2 * 4096 + 1 * (y 2).val = _; omega
  match a with
  | ⟨0, _⟩ => exact e0.trans (Nat.mod_eq_of_lt (e0 ▸ h0)).symm
  | ⟨1, _⟩ => exact e1.trans (Nat.mod_eq_of_lt (e1 ▸ h1)).symm
  | ⟨2, _⟩ => exact e2.trans (Nat.mod_eq_of_lt (e2 ▸ h2)).symm

theorem held3 (c : Dev nD) (A : AllOf m c) (n : ℕ) (h : n < (cfgM m).N) :
    (heldIn (cfgM m) A (3 : Fin 6) n h : S1x256x4096.Idx → EReal) = fun y => A (3 : Fin 6) (place3 (((cfgM m).win (3 : Fin 6)).index ⟨n, h⟩) y) := by
  have hfetch : ∀ t : Fin (cfgM m).N, ((cfgM m).win (3 : Fin 6)).fetch t = true →
      (heldIn (cfgM m) A (3 : Fin 6) t.val t.isLt : S1x256x4096.Idx → EReal) = fun y => A (3 : Fin 6) (place3 (((cfgM m).win (3 : Fin 6)).index t) y) := fun t ht => by
    rw [Pipeline.heldIn_of_fetch A (3 : Fin 6) t ht]
    funext y
    have hm : ((cfgM m).win (3 : Fin 6)).moved ((cfgM m).grid.coords t) y = true := (((cfgM m).win (3 : Fin 6)).moved_iff _ y).mpr fun a => (y a).isLt
    unfold Window.fill
    rw [dif_pos hm]
    exact congrArg (A (3 : Fin 6)) (emb3 m t y)
  induction n with
  | zero => exact hfetch ⟨0, h⟩ ((((cfgM m).win (3 : Fin 6)).fetch_in rfl _).mpr (Or.inl rfl))
  | succ n ih =>
    by_cases hf : ((cfgM m).win (3 : Fin 6)).fetch ⟨n + 1, h⟩ = true
    · exact hfetch ⟨n + 1, h⟩ hf
    · rw [Pipeline.heldIn_of_not_fetch A (3 : Fin 6) n h (Bool.eq_false_iff.mpr hf), ih (Nat.lt_of_succ_lt h)]
      have he : ((cfgM m).win (3 : Fin 6)).index ⟨n + 1, h⟩ = ((cfgM m).win (3 : Fin 6)).index ⟨n, Nat.lt_of_succ_lt h⟩ := by
        by_contra hne
        exact hf ((((cfgM m).win (3 : Fin 6)).fetch_in rfl _).mpr (Or.inr ⟨Nat.succ_pos n, hne⟩))
      rw [he]

theorem index3 (t : Fin (cfgM m).N) : ((cfgM m).win (3 : Fin 6)).index t = ![(grid0.coords t 0).val, (grid0.coords t 1).val, 0] := by
  show cc0_transform_3 (grid0.coords t) = _
  have h0 : (grid0.coords t 0).val < 4 := (grid0.coords t 0).isLt
  have h1 : (grid0.coords t 1).val < 2 := (grid0.coords t 1).isLt
  have h2 : (grid0.coords t 2).val < 16 := (grid0.coords t 2).isLt
  unfold cc0_transform_3
  simp only [BitVec.toNat_ofNat]
  rw [Nat.mod_eq_of_lt (show (grid0.coords t 0).val < 2 ^ 32 by omega), Nat.mod_eq_of_lt (show (grid0.coords t 1).val < 2 ^ 32 by omega)]
  try rw [Nat.mod_eq_of_lt (show (grid0.coords t 2).val < 2 ^ 32 by omega)]
  try rfl

/-- The element of the array that element `y` of window 4's block is, for a block number `f`. -/
def place4 (f : Fin 3 → ℕ) (y : S1x256x256.Idx) : S4x4096x512.Idx := ix3 (Fin.ofNat 4 (f 0 * 1 + (y 0).val)) (Fin.ofNat 4096 (f 1 * 256 + (y 1).val)) (Fin.ofNat 512 (f 2 * 256 + (y 2).val))

theorem emb4 (t : Fin (cfgM m).N) (y : S1x256x256.Idx) : (((cfgM m).win (4 : Fin 6)).blk t).view.emb y = place4 (((cfgM m).win (4 : Fin 6)).index t) y := by
  funext a
  apply Fin.ext
  have h0 := ((((cfgM m).win (4 : Fin 6)).blk t).view.emb y 0).isLt
  have h1 := ((((cfgM m).win (4 : Fin 6)).blk t).view.emb y 1).isLt
  have h2 := ((((cfgM m).win (4 : Fin 6)).blk t).view.emb y 2).isLt
  have e0 : ((((cfgM m).win (4 : Fin 6)).blk t).view.emb y 0).val = ((cfgM m).win (4 : Fin 6)).index t 0 * 1 + (y 0).val := by
    show ((cfgM m).win (4 : Fin 6)).index t 0 * 1 + 1 * (y 0).val = _; omega
  have e1 : ((((cfgM m).win (4 : Fin 6)).blk t).view.emb y 1).val = ((cfgM m).win (4 : Fin 6)).index t 1 * 256 + (y 1).val := by
    show ((cfgM m).win (4 : Fin 6)).index t 1 * 256 + 1 * (y 1).val = _; omega
  have e2 : ((((cfgM m).win (4 : Fin 6)).blk t).view.emb y 2).val = ((cfgM m).win (4 : Fin 6)).index t 2 * 256 + (y 2).val := by
    show ((cfgM m).win (4 : Fin 6)).index t 2 * 256 + 1 * (y 2).val = _; omega
  match a with
  | ⟨0, _⟩ => exact e0.trans (Nat.mod_eq_of_lt (e0 ▸ h0)).symm
  | ⟨1, _⟩ => exact e1.trans (Nat.mod_eq_of_lt (e1 ▸ h1)).symm
  | ⟨2, _⟩ => exact e2.trans (Nat.mod_eq_of_lt (e2 ▸ h2)).symm

theorem index4 (t : Fin (cfgM m).N) : ((cfgM m).win (4 : Fin 6)).index t = ![(grid0.coords t 0).val, (grid0.coords t 2).val, (grid0.coords t 1).val] := by
  show cc0_transform_5 (grid0.coords t) = _
  have h0 : (grid0.coords t 0).val < 4 := (grid0.coords t 0).isLt
  have h1 : (grid0.coords t 1).val < 2 := (grid0.coords t 1).isLt
  have h2 : (grid0.coords t 2).val < 16 := (grid0.coords t 2).isLt
  unfold cc0_transform_5
  simp only [BitVec.toNat_ofNat]
  rw [Nat.mod_eq_of_lt (show (grid0.coords t 0).val < 2 ^ 32 by omega), Nat.mod_eq_of_lt (show (grid0.coords t 1).val < 2 ^ 32 by omega)]
  try rw [Nat.mod_eq_of_lt (show (grid0.coords t 2).val < 2 ^ 32 by omega)]
  try rfl

end Cert.KernelIdeal.Body

end
-- ==== Proof.Attn.lean ====
/- The attention of one query row over the extended reals: as the reference writes it, as the kernel computes it, and
   that the two are the same number. -/
module

public import Idealize.ShloMosaic.Lib.Pointwise

@[expose] public section

noncomputable section

namespace Cert.Attn

open Idealize.ShloMosaic

theorem toInt_small (a : ℕ) (ha : a < 4096) : (BitVec.ofNat 32 a).toInt = a := by
  have h : (BitVec.ofNat 32 a).toNat = a := by rw [BitVec.toNat_ofNat]; omega
  rw [BitVec.toInt_eq_toNat_of_lt (by omega), h]

theorem slt_nat (a b : ℕ) (ha : a < 4096) (hb : b < 4096) : IntOp.cmpi .slt (BitVec.ofNat 32 a) (BitVec.ofNat 32 b) = BitVec.ofBool (decide (a < b)) := by
  have h1 : (BitVec.ofNat 32 a).toInt = a := toInt_small a ha
  have h2 : (BitVec.ofNat 32 b).toInt = b := toInt_small b hb
  simp only [IntOp.cmpi, BitVec.slt, h1, h2]
  congr 1
  simp

theorem sle_nat (a b : ℕ) (ha : a < 4096) (hb : b < 4096) : IntOp.cmpi .sle (BitVec.ofNat 32 a) (BitVec.ofNat 32 b) = BitVec.ofBool (decide (a ≤ b)) := by
  have h1 : (BitVec.ofNat 32 a).toInt = a := toInt_small a ha
  have h2 : (BitVec.ofNat 32 b).toInt = b := toInt_small b hb
  simp only [IntOp.cmpi, BitVec.sle, h1, h2]
  congr 1
  simp

theorem eq_nat (a b : ℕ) (ha : a < 4096) (hb : b < 4096) : IntOp.cmpi .eq (BitVec.ofNat 32 a) (BitVec.ofNat 32 b) = BitVec.ofBool (decide (a = b)) := by
  have h1 : (BitVec.ofNat 32 a).toNat = a := by rw [BitVec.toNat_ofNat]; omega
  have h2 : (BitVec.ofNat 32 b).toNat = b := by rw [BitVec.toNat_ofNat]; omega
  simp only [IntOp.cmpi]
  congr 1
  by_cases h : a = b
  · simp [h]
  · have : BitVec.ofNat 32 a ≠ BitVec.ofNat 32 b := fun e => h (by rw [← h1, ← h2, e])
    simp [h, this]

theorem mul_sum' {ι : Type} (L : ℝ) (hL : 0 < L) (s : Finset ι) (f : ι → EReal) : (L : EReal) * ∑ i ∈ s, f i = ∑ i ∈ s, (L : EReal) * f i := by
  classical
  induction s using Finset.induction_on with
  | empty => simp
  | insert a s ha ih => rw [Finset.sum_insert ha, Finset.sum_insert ha, EReal.left_distrib_of_nonneg_of_ne_top (by exact_mod_cast hL.le) (EReal.coe_ne_top L), ih]

theorem mul_sub' (L : ℝ) (hL : 0 < L) (x y : EReal) : (L : EReal) * (x - y) = L * x - L * y := by
  rw [sub_eq_add_neg, EReal.left_distrib_of_nonneg_of_ne_top (by exact_mod_cast hL.le) (EReal.coe_ne_top L), sub_eq_add_neg, mul_neg]

theorem exp2_mul (x : EReal) : Ideal.exp2 ((((Real.log 2)⁻¹ : ℝ) : EReal) * x) = Ideal.exp x := by
  have hl : 0 < Real.log 2 := Real.log_pos (by norm_num)
  have hL : 0 < (Real.log 2)⁻¹ := inv_pos.mpr hl
  induction x with
  | bot => rw [EReal.coe_mul_bot_of_pos hL]; rfl
  | top => rw [EReal.coe_mul_top_of_pos hL]; rfl
  | coe a =>
    rw [← EReal.coe_mul, Ideal.exp2_coe, Ideal.exp_coe]
    congr 1
    rw [Real.rpow_eq_pow, Real.rpow_def_of_pos (by norm_num)]
    congr 1
    field_simp

theorem mul_max' (L : ℝ) (hL : 0 < L) (x y : EReal) : (L : EReal) * (x ⊔ y) = (L * x) ⊔ (L * y) := by
  have hm : Monotone fun x : EReal => (L : EReal) * x := fun a b h => mul_le_mul_of_nonneg_left h (by exact_mod_cast hL.le)
  exact hm.map_sup x y

theorem mul_sup' (L : ℝ) (hL : 0 < L) (s : Finset ℕ) (f : ℕ → EReal) : (L : EReal) * s.sup f = s.sup fun i => (L : EReal) * f i :=
  Finset.comp_sup_eq_sup_comp (fun x : EReal => (L : EReal) * x) (fun a b => mul_max' L hL a b) (EReal.coe_mul_bot_of_pos hL)

theorem fold_max (n : ℕ) (f : ℕ → EReal) : Finset.fold max (⊥ : EReal) (fun x : Fin n => f x.val) Finset.univ = (Finset.range n).sup f := by
  apply le_antisymm
  · rw [Finset.fold_max_le]
    exact ⟨bot_le, fun x _ => Finset.le_sup (f := f) (Finset.mem_range.mpr x.2)⟩
  · refine Finset.sup_le fun p hp => ?_
    rw [Finset.le_fold_max]
    exact .inr ⟨⟨p, Finset.mem_range.mp hp⟩, Finset.mem_univ _, le_rfl⟩

theorem sup_add (n k : ℕ) (f : ℕ → EReal) : (Finset.range (n + k)).sup f = (Finset.range n).sup f ⊔ (Finset.range k).sup fun x => f (n + x) := by
  apply le_antisymm
  · refine Finset.sup_le fun p hp => ?_
    rcases Nat.lt_or_ge p n with h | h
    · exact le_sup_of_le_left (Finset.le_sup (f := f) (Finset.mem_range.mpr h))
    · refine le_sup_of_le_right ?_
      have := Finset.mem_range.mp hp
      have e : f p = (fun x => f (n + x)) (p - n) := by show _ = f (n + (p - n)); congr 1; omega
      rw [e]
      exact Finset.le_sup (f := fun x => f (n + x)) (Finset.mem_range.mpr (by omega))
  · refine sup_le (Finset.sup_mono fun p hp => ?_) (Finset.sup_le fun p hp => ?_)
    · have := Finset.mem_range.mp hp; exact Finset.mem_range.mpr (by omega)
    · have := Finset.mem_range.mp hp; exact Finset.le_sup (f := f) (Finset.mem_range.mpr (by omega))

theorem ofBits_ninf : Ideal.ofBits FTy.f32 4286578688#32 = (⊥ : EReal) := by
  simp [Ideal.ofBits, Ideal.ieee]

theorem ofBits_256 : Ideal.ofBits FTy.f32 1132462080#32 = ((256 : ℝ) : EReal) := by
  simp [Ideal.ofBits, Ideal.ieee, -EReal.coe_mul]; norm_num

theorem ofBits_8th : Ideal.ofBits FTy.f32 1040187392#32 = ((1 / 8 : ℝ) : EReal) := by
  simp [Ideal.ofBits, Ideal.ieee, -EReal.coe_mul]; norm_num

theorem ofBits_256th : Ideal.ofBits FTy.f32 998244352#32 = ((1 / 256 : ℝ) : EReal) := by
  simp [Ideal.ofBits, Ideal.ieee, -EReal.coe_mul]; norm_num

theorem fold_addi (f : Fin 16 → BitVec 32) : Finset.fold IntOp.addi 0#32 f Finset.univ = (List.finRange 16).foldl (fun c k => IntOp.addi c (f k)) 0#32 := by
  rw [Finset.fold]
  have : (Finset.univ : Finset (Fin 16)).val = ((List.finRange 16 : List (Fin 16)) : Multiset (Fin 16)) := rfl
  rw [this, Multiset.map_coe, Multiset.coe_fold_l, List.foldl_map]

/-! ## The attention of one query row, as the reference writes it -/

/-- The block scores of a query row, past blocks only. -/
def blk (q : Fin 64 → EReal) (km : Fin 16 → Fin 64 → EReal) (n : ℕ) (m : Fin 16) : EReal :=
  Scalar.select (IntOp.cmpi .slt (BitVec.ofNat 32 m.val) (BitVec.ofNat 32 n)) (∑ d, q d * km m d) ⊥

/-- Whether block `a` beats block `b`. -/
def beat (s : Fin 16 → EReal) (a b : Fin 16) : BitVec 1 :=
  IntOp.ori (BitVec.ofBool (decide (s b < s a))) (IntOp.andi (BitVec.ofBool (decide (s a = s b))) (IntOp.cmpi .slt (BitVec.ofNat 32 a.val) (BitVec.ofNat 32 b.val)))

/-- How many blocks beat a block. -/
def rank (s : Fin 16 → EReal) (b : Fin 16) : BitVec 32 := Finset.fold IntOp.addi 0#32 (fun a => BitVec.setWidth 32 (beat s a b)) Finset.univ

/-- The chosen blocks. -/
def isChosen (s : Fin 16 → EReal) (n : ℕ) (m : Fin 16) : BitVec 1 :=
  IntOp.andi (IntOp.cmpi .slt (rank s m) 3#32) (IntOp.cmpi .slt (BitVec.ofNat 32 m.val) (BitVec.ofNat 32 n))

/-- The block of a key. -/
def blkOf (p : ℕ) : Fin 16 := Fin.ofNat 16 (p / 256)

/-- The keys a query row sees. -/
def mask (s : Fin 16 → EReal) (n r p : ℕ) : BitVec 1 :=
  IntOp.ori (isChosen s n (blkOf p)) (IntOp.andi (IntOp.cmpi .eq (BitVec.ofNat 32 n) (BitVec.ofNat 32 (blkOf p).val)) (IntOp.cmpi .sle (BitVec.ofNat 32 (p % 256)) (BitVec.ofNat 32 r)))

/-- The scores, masked. -/
def tsc (s : Fin 16 → EReal) (q : Fin 64 → EReal) (k : ℕ → Fin 64 → EReal) (n r p : ℕ) : EReal :=
  Scalar.select (mask s n r p) (∑ d, q d * ((1 / 8 : ℝ) : EReal) * k p d) ⊥

/-- The weighted values over the weights' sum. -/
def out (t v : ℕ → EReal) : EReal :=
  Ideal.div (∑ p ∈ Finset.range 4096, Ideal.exp (t p - (Finset.range 4096).sup t) * v p) (∑ p ∈ Finset.range 4096, Ideal.exp (t p - (Finset.range 4096).sup t))

/-! ## The same, as the kernel computes it -/

/-- The kernel's score before any mask. -/
def kraw (q : Fin 64 → EReal) (k : ℕ → Fin 64 → EReal) (p : ℕ) : EReal := ∑ d, k p d * (q d * ((1 / 8 * (Real.log 2)⁻¹ : ℝ) : EReal))

/-- Whether the bias of a block is zero. -/
def flag (s : Fin 16 → EReal) (n : ℕ) (m : Fin 16) : BitVec 1 := IntOp.ori (isChosen s n m) (IntOp.cmpi .eq (BitVec.ofNat 32 m.val) (BitVec.ofNat 32 n))

/-- The kernel's scores. -/
def ksc (s : Fin 16 → EReal) (q : Fin 64 → EReal) (k : ℕ → Fin 64 → EReal) (n r p : ℕ) : EReal :=
  if p / 256 < n then kraw q k p + Scalar.select (flag s n (blkOf p)) 0 ⊥
  else Scalar.select (IntOp.cmpi .sle (BitVec.ofNat 32 (p % 256)) (BitVec.ofNat 32 r)) (kraw q k p) ⊥

/-- The kernel's output: sums over the first `N` keys, divided at the end. -/
def kout (t v : ℕ → EReal) (N : ℕ) : EReal :=
  Ideal.div (∑ p ∈ Finset.range N, v p * Ideal.exp2 (t p - (Finset.range N).sup t)) (∑ p ∈ Finset.range N, 1 * Ideal.exp2 (t p - (Finset.range N).sup t))

/-! ## They agree -/

theorem kraw_eq (q : Fin 64 → EReal) (k : ℕ → Fin 64 → EReal) (p : ℕ) :
    kraw q k p = (((Real.log 2)⁻¹ : ℝ) : EReal) * ∑ d, q d * ((1 / 8 : ℝ) : EReal) * k p d := by
  have hL : 0 < (Real.log 2)⁻¹ := inv_pos.mpr (Real.log_pos (by norm_num))
  rw [mul_sum' _ hL]
  unfold kraw
  refine Finset.sum_congr rfl fun d _ => ?_
  rw [EReal.coe_mul]
  ac_rfl

theorem blkOf_val (p : ℕ) (hp : p < 4096) : (blkOf p).val = p / 256 := by
  show p / 256 % 16 = _
  omega

theorem ksc_eq (s : Fin 16 → EReal) (q : Fin 64 → EReal) (k : ℕ → Fin 64 → EReal) (n r p : ℕ) (hn : n < 16) (hr : r < 256) (hp : p < 256 * (n + 1)) :
    ksc s q k n r p = (((Real.log 2)⁻¹ : ℝ) : EReal) * tsc s q k n r p := by
  have hL : 0 < (Real.log 2)⁻¹ := inv_pos.mpr (Real.log_pos (by norm_num))
  have hb : (blkOf p).val = p / 256 := blkOf_val p (by omega)
  unfold ksc tsc mask flag
  rw [kraw_eq]
  simp only [isChosen, hb, slt_nat (p / 256) n (by omega) (by omega), eq_nat (p / 256) n (by omega) (by omega), eq_nat n (p / 256) (by omega) (by omega), sle_nat (p % 256) r (by omega) (by omega)]
  by_cases h : p / 256 < n
  · rw [if_pos h]
    have e : ¬ p / 256 = n := by omega
    have e' : ¬ n = p / 256 := by omega
    rcases BitVec.eq_zero_or_eq_one (IntOp.cmpi .slt (rank s (blkOf p)) 3#32) with c | c <;>
      simp [h, e, e', c, IntOp.andi, IntOp.ori, Scalar.select, EReal.coe_mul_bot_of_pos hL]
  · rw [if_neg h]
    have e : p / 256 = n := by omega
    by_cases j : p % 256 ≤ r <;>
      simp [e, j, IntOp.andi, IntOp.ori, Scalar.select, EReal.coe_mul_bot_of_pos hL]

theorem tsc_far (s : Fin 16 → EReal) (q : Fin 64 → EReal) (k : ℕ → Fin 64 → EReal) (n r p : ℕ) (hn : n < 16) (hr : r < 256) (hp : ¬ p < 256 * (n + 1)) (hp' : p < 4096) :
    tsc s q k n r p = ⊥ := by
  have hb : (blkOf p).val = p / 256 := blkOf_val p (by omega)
  unfold tsc mask
  have e : ¬ p / 256 < n := by omega
  have e' : ¬ n = p / 256 := by omega
  simp [isChosen, hb, slt_nat (p / 256) n (by omega) (by omega), eq_nat n (p / 256) (by omega) (by omega), e, e', IntOp.andi, IntOp.ori, Scalar.select]

theorem kout_eq (s : Fin 16 → EReal) (q : Fin 64 → EReal) (k : ℕ → Fin 64 → EReal) (v : ℕ → EReal) (n r : ℕ) (hn : n < 16) (hr : r < 256) :
    kout (ksc s q k n r) v (256 * (n + 1)) = out (tsc s q k n r) v := by
  have hL : 0 < (Real.log 2)⁻¹ := inv_pos.mpr (Real.log_pos (by norm_num))
  have hsub : Finset.range (256 * (n + 1)) ⊆ Finset.range 4096 := Finset.range_subset_range.mpr (by omega)
  have hsup : (Finset.range (256 * (n + 1))).sup (ksc s q k n r) = (((Real.log 2)⁻¹ : ℝ) : EReal) * (Finset.range 4096).sup (tsc s q k n r) := by
    rw [mul_sup' _ hL]
    apply le_antisymm
    · refine Finset.sup_le fun p hp => ?_
      rw [ksc_eq s q k n r p hn hr (Finset.mem_range.mp hp)]
      exact Finset.le_sup (f := fun i => (((Real.log 2)⁻¹ : ℝ) : EReal) * tsc s q k n r i) (hsub hp)
    · refine Finset.sup_le fun p hp => ?_
      by_cases h : p < 256 * (n + 1)
      · rw [← ksc_eq s q k n r p hn hr h]
        exact Finset.le_sup (Finset.mem_range.mpr h)
      · rw [tsc_far s q k n r p hn hr h (Finset.mem_range.mp hp), EReal.coe_mul_bot_of_pos hL]
        exact bot_le
  have he : ∀ p ∈ Finset.range (256 * (n + 1)), Ideal.exp2 (ksc s q k n r p - (Finset.range (256 * (n + 1))).sup (ksc s q k n r)) = Ideal.exp (tsc s q k n r p - (Finset.range 4096).sup (tsc s q k n r)) := by
    intro p hp
    rw [hsup, ksc_eq s q k n r p hn hr (Finset.mem_range.mp hp), ← mul_sub' _ hL, exp2_mul]
  have hz : ∀ p ∈ Finset.range 4096, p ∉ Finset.range (256 * (n + 1)) → Ideal.exp (tsc s q k n r p - (Finset.range 4096).sup (tsc s q k n r)) = 0 := by
    intro p hp hq
    rw [tsc_far s q k n r p hn hr (fun h => hq (Finset.mem_range.mpr h)) (Finset.mem_range.mp hp), sub_eq_add_neg, EReal.bot_add]
    rfl
  unfold kout out
  congr 1
  · rw [← Finset.sum_subset hsub (fun p hp hq => by rw [hz p hp hq, zero_mul])]
    exact Finset.sum_congr rfl fun p hp => by rw [he p hp, mul_comm]
  · rw [← Finset.sum_subset hsub (fun p hp hq => hz p hp hq)]
    exact Finset.sum_congr rfl fun p hp => by rw [he p hp, one_mul]

end Cert.Attn

end
-- ==== Proof.Pieces.lean ====
/- The kernel's pieces read at an index, and the windows and stores of a buffer read at an index. -/
module

public import proofs.«01_k».proof.Proof.BodyRun
public import proofs.«01_k».proof.Proof.Attn
public import Idealize.ShloMosaic.Lib.Pointwise
public import Idealize.ShloMosaic.Lib.Pipeline.ValueKit.Acc

@[expose] public section

noncomputable section

namespace Cert.KernelIdeal.Body

open Cert.KernelIdeal Idealize.ShloMosaic Idealize.ShloMosaic.TcCoe Idealize.SL.Sem
open Idealize.ShloMosaic.VecWindow (window put)

variable [Facts]
open Facts Facts₀ Shapes1.Facts₀ K0.R1.Facts₀ K0.R2.Facts₀

theorem window3 {α : Type} {a b c a' b' c' : ℕ} (x : (⟨3, ![a, b, c]⟩ : Shape).Idx → α) (o : Fin 3 → ℕ) (inb : ∀ q, o q + (![a', b', c'] : Fin 3 → ℕ) q ≤ (![a, b, c] : Fin 3 → ℕ) q)
    (u : Fin a') (v : Fin b') (w : Fin c') (h0 : o 0 + u.val < a) (h1 : o 1 + v.val < b) (h2 : o 2 + w.val < c) :
    window x o ![a', b', c'] inb (ix3 u v w) = x (ix3 ⟨o 0 + u.val, h0⟩ ⟨o 1 + v.val, h1⟩ ⟨o 2 + w.val, h2⟩) := by
  unfold window
  refine congrArg x (funext fun q => Fin.ext ?_)
  match q with
  | 0 => show o 0 + 1 * u.val = o 0 + u.val; omega
  | 1 => show o 1 + 1 * v.val = o 1 + v.val; omega
  | 2 => show o 2 + 1 * w.val = o 2 + w.val; omega

theorem window4 {α : Type} {a b c d a' b' c' d' : ℕ} (x : (⟨4, ![a, b, c, d]⟩ : Shape).Idx → α) (o : Fin 4 → ℕ) (inb : ∀ q, o q + (![a', b', c', d'] : Fin 4 → ℕ) q ≤ (![a, b, c, d] : Fin 4 → ℕ) q)
    (u : Fin a') (v : Fin b') (w : Fin c') (y : Fin d') (h0 : o 0 + u.val < a) (h1 : o 1 + v.val < b) (h2 : o 2 + w.val < c) (h3 : o 3 + y.val < d) :
    window x o ![a', b', c', d'] inb (ix4 u v w y) = x (ix4 ⟨o 0 + u.val, h0⟩ ⟨o 1 + v.val, h1⟩ ⟨o 2 + w.val, h2⟩ ⟨o 3 + y.val, h3⟩) := by
  unfold window
  refine congrArg x (funext fun q => Fin.ext ?_)
  match q with
  | 0 => show o 0 + 1 * u.val = o 0 + u.val; omega
  | 1 => show o 1 + 1 * v.val = o 1 + v.val; omega
  | 2 => show o 2 + 1 * w.val = o 2 + w.val; omega
  | 3 => show o 3 + 1 * y.val = o 3 + y.val; omega

theorem put3 {α : Type} {a b c a' b' c' : ℕ} (x : (⟨3, ![a, b, c]⟩ : Shape).Idx → α) (o : Fin 3 → ℕ) (w : (⟨3, ![a', b', c']⟩ : Shape).Idx → α)
    (u : Fin a) (v : Fin b) (z : Fin c) (h0 : o 0 ≤ u.val ∧ u.val < o 0 + a') (h1 : o 1 ≤ v.val ∧ v.val < o 1 + b') (h2 : o 2 ≤ z.val ∧ z.val < o 2 + c') :
    put x o ![a', b', c'] w (ix3 u v z) = w (ix3 ⟨u.val - o 0, by omega⟩ ⟨v.val - o 1, by omega⟩ ⟨z.val - o 2, by omega⟩) := by
  unfold put
  rw [dif_pos (fun q => by match q with | 0 => exact h0 | 1 => exact h1 | 2 => exact h2)]
  refine congrArg w (funext fun q => ?_)
  match q with
  | 0 => rfl
  | 1 => rfl
  | 2 => rfl

theorem put3_not {α : Type} {a b c a' b' c' : ℕ} (x : (⟨3, ![a, b, c]⟩ : Shape).Idx → α) (o : Fin 3 → ℕ) (w : (⟨3, ![a', b', c']⟩ : Shape).Idx → α)
    (u : Fin a) (v : Fin b) (z : Fin c) (h : ¬ ((o 0 ≤ u.val ∧ u.val < o 0 + a') ∧ (o 1 ≤ v.val ∧ v.val < o 1 + b') ∧ (o 2 ≤ z.val ∧ z.val < o 2 + c'))) :
    put x o ![a', b', c'] w (ix3 u v z) = x (ix3 u v z) := by
  unfold put
  rw [dif_neg (fun hq => h ⟨hq 0, hq 1, hq 2⟩)]

theorem put4 {α : Type} {a b c d a' b' c' d' : ℕ} (x : (⟨4, ![a, b, c, d]⟩ : Shape).Idx → α) (o : Fin 4 → ℕ) (w : (⟨4, ![a', b', c', d']⟩ : Shape).Idx → α)
    (u : Fin a) (v : Fin b) (z : Fin c) (y : Fin d) (h0 : o 0 ≤ u.val ∧ u.val < o 0 + a') (h1 : o 1 ≤ v.val ∧ v.val < o 1 + b') (h2 : o 2 ≤ z.val ∧ z.val < o 2 + c') (h3 : o 3 ≤ y.val ∧ y.val < o 3 + d') :
    put x o ![a', b', c', d'] w (ix4 u v z y) = w (ix4 ⟨u.val - o 0, by omega⟩ ⟨v.val - o 1, by omega⟩ ⟨z.val - o 2, by omega⟩ ⟨y.val - o 3, by omega⟩) := by
  unfold put
  rw [dif_pos (fun q => by match q with | 0 => exact h0 | 1 => exact h1 | 2 => exact h2 | 3 => exact h3)]
  refine congrArg w (funext fun q => ?_)
  match q with
  | 0 => rfl
  | 1 => rfl
  | 2 => rfl
  | 3 => rfl

theorem put4_not {α : Type} {a b c d a' b' c' d' : ℕ} (x : (⟨4, ![a, b, c, d]⟩ : Shape).Idx → α) (o : Fin 4 → ℕ) (w : (⟨4, ![a', b', c', d']⟩ : Shape).Idx → α)
    (u : Fin a) (v : Fin b) (z : Fin c) (y : Fin d) (h : ¬ ((o 0 ≤ u.val ∧ u.val < o 0 + a') ∧ (o 1 ≤ v.val ∧ v.val < o 1 + b') ∧ (o 2 ≤ z.val ∧ z.val < o 2 + c') ∧ (o 3 ≤ y.val ∧ y.val < o 3 + d'))) :
    put x o ![a', b', c', d'] w (ix4 u v z y) = x (ix4 u v z y) := by
  unfold put
  rw [dif_neg (fun hq => h ⟨hq 0, hq 1, hq 2, hq 3⟩)]

theorem split4 (f : Fin 256 → EReal) : ∑ x : Fin 256, f x = ∑ a : Fin 4, ∑ d : Fin 64, f ⟨a.val * 64 + d.val, by omega⟩ :=
  (Fin.sum_mul_add_fin 4 64 f).symm

theorem bm_word : ∀ p : Fin 4096, (Scalar.select
          (IntOp.andi
            (IntOp.cmpi CmpIPredicate.ne
              (IntOp.subi (BitVec.setWidth 32 (IntOp.cmpi CmpIPredicate.sgt (BitVec.ofNat 32 p.val) 0#32))
                (BitVec.setWidth 32 (IntOp.cmpi CmpIPredicate.slt (BitVec.ofNat 32 p.val) 0#32)))
              (Scalar.subi (Scalar.extui (Scalar.cmpi CmpIPredicate.sgt 256#32 0#32))
                (Scalar.extui (Scalar.cmpi CmpIPredicate.slt 256#32 0#32))))
            (IntOp.cmpi CmpIPredicate.ne (IntOp.remsi ArithUnit.vector (BitVec.ofNat 32 p.val) 256#32) 0#32))
          (IntOp.subi (IntOp.divsi ArithUnit.vector (BitVec.ofNat 32 p.val) 256#32) 1#32)
          (IntOp.divsi ArithUnit.vector (BitVec.ofNat 32 p.val) 256#32)) = BitVec.ofNat 32 (p.val / 256) := by
  decide +kernel

theorem ones_at (d : Fin 16) (p : Fin 1024) (hd : d.val = 0) : onesOf (F := Ideal) (ix4 0 0 d p) = (1 : EReal) := by
  pointwise [onesOf, onesRow]
  rw [hd]
  simp [IntOp.cmpi]
  show (((1#32 : BitVec 32).toInt : ℝ) : EReal) = 1
  norm_num

theorem values_at (v : Vec Ideal S1x64x1024 .f32) (d : Fin 64) (p : Fin 1024) : valuesOf v (ix4 0 0 d p) = v (ix3 0 d p) := by
  pointwise [valuesOf]

theorem headQ_at (q : FVec Ideal S256x256 .f32) (hh h' : Fin 4) (d : Fin 64) (r : Fin 256) : headQ q hh (ix2 ⟨h'.val * 64 + d.val, by omega⟩ r)
     = if h' = hh then q (ix2 ⟨h'.val * 64 + d.val, by omega⟩ r) * (((1 / 8 * (Real.log 2)⁻¹ : ℝ)) : EReal) else 0 := by
  have hs : (Named.named (F := Ideal) κ "scale" (φ := .f32) 1043900987#32 : EReal) = (((1 / 8 * (Real.log 2)⁻¹ : ℝ)) : EReal) := rfl
  pointwise [headQ]
  have e1 : IntOp.cmpi .sge (BitVec.ofNat 32 (h'.val * 64 + d.val)) (BitVec.ofNat 32 (64 * hh.val)) = BitVec.ofBool (decide (64 * hh.val ≤ h'.val * 64 + d.val)) := Attn.sle_nat _ _ (by omega) (by omega)
  rw [hs, e1, Attn.slt_nat _ _ (by omega) (by omega)]
  by_cases h : h' = hh
  · subst h
    have a1 : 64 * h'.val ≤ h'.val * 64 + d.val := by omega
    have a2 : h'.val * 64 + d.val < 64 * h'.val + 64 := by omega
    simp [a1, a2, IntOp.andi, Scalar.select]
  · rw [if_neg h]
    have : h'.val ≠ hh.val := fun e => h (Fin.ext e)
    rcases Nat.lt_or_ge h'.val hh.val with a | a
    · have a1 : ¬ 64 * hh.val ≤ h'.val * 64 + d.val := by omega
      simp [a1, IntOp.andi, Scalar.select]
    · have a2 : ¬ h'.val * 64 + d.val < 64 * hh.val + 64 := by omega
      simp [a2, IntOp.andi, Scalar.select]

theorem blockScores_at (i : grid0.Coords) (q : FVec Ideal S256x256 .f32) (km : Vec Ideal S1x16x64 .f32) (hh : Fin 4) (n : Fin 16) (r : Fin 256) : blockScores i q km hh (ix2 n r)
     = Attn.blk (fun d => q (ix2 ⟨hh.val * 64 + d.val, by omega⟩ r)) (fun m d => km (ix3 0 m d)) (i 2).val n := by
  unfold Attn.blk
  rw [← Attn.ofBits_ninf]
  pointwise [blockScores, isPast, rowNo, qiW]
  congr 1
  refine Finset.sum_congr rfl fun d _ => ?_
  rw [mul_comm]
  congr 3
  exact Fin.ext (by show 64 * hh.val + d.val = hh.val * 64 + d.val; omega)

theorem rankCount_at (sb : FVec Ideal S16x256 .f32) (n : Fin 16) (r : Fin 256) : rankCount sb (ix2 n r) = Attn.rank (fun m => sb (ix2 m r)) n := by
  have h : ∀ (l : List (Fin 16)) (c : IVec S16x256 32), (l.foldl (countBlock sb) c) (ix2 n r) = l.foldl (fun c a => IntOp.addi c (BitVec.setWidth 32 (Attn.beat (fun m => sb (ix2 m r)) a n))) (c (ix2 n r)) := by
    intro l
    induction l with
    | nil => intro c; rfl
    | cons a l ih =>
      intro c
      rw [List.foldl_cons, List.foldl_cons, ih]
      congr 1
      pointwise [countBlock, rowNo]
      rfl
  unfold rankCount Attn.rank
  rw [h, Attn.fold_addi]
  rfl

theorem bias_at (i : grid0.Coords) (sb : FVec Ideal S16x256 .f32) (n : Fin 16) (r : Fin 256)
    (hr : rankCount sb (ix2 n r) = Attn.rank (fun m => sb (ix2 m r)) n) :
    biasOf i sb (ix3 0 n r) = Scalar.select (Attn.flag (fun m => sb (ix2 m r)) (i 2).val n) 0 ⊥ := by
  have hs : (Named.named (F := Ideal) κ "mask" (φ := .f32) 4048155338#32 : EReal) = ⊥ := rfl
  unfold Attn.flag Attn.isChosen
  rw [← hr, ← hs]
  pointwise [biasOf, biasRows, isPast, rowNo, qiW]

theorem outBlock_at (acc : Four (FVec Ideal S80x256 .f32)) (hh : Fin 4) (d : Fin 64) (r : Fin 256) : outBlock acc (ix2 r ⟨hh.val * 64 + d.val, by omega⟩)
    = Ideal.div (acc.at hh (ix2 ⟨d.val, by omega⟩ r)) (acc.at hh (ix2 64 r)) := by
  have ho : ∀ (a : FVec Ideal S80x256 .f32) (d : Fin 64), headOut a (ix2 d r) = Ideal.div (a (ix2 ⟨d.val, by omega⟩ r)) (a (ix2 64 r)) := by
    intro a d
    pointwise [headOut]
  pointwise [outBlock]
  match hh with
  | 0 =>
    rw [dif_pos (show (0 : Fin 4).val * 64 + d.val < 64 by show 0 * 64 + d.val < 64; omega), ho]
    simp only [Four.at, Fin.val_zero, Nat.zero_mul, Nat.zero_add]
  | 1 =>
    have a : (1 : Fin 4).val = 1 := rfl
    simp only [a]
    rw [dif_neg (by omega), dif_pos (by omega), ho]
    simp only [Four.at]
    have e : 1 * 64 + d.val - 64 = d.val := by omega
    simp only [e]
  | 2 =>
    have a : (2 : Fin 4).val = 2 := rfl
    simp only [a]
    rw [dif_neg (by omega), dif_neg (by omega), dif_pos (by omega), ho]
    simp only [Four.at]
    have e : 2 * 64 + d.val - 64 - 64 = d.val := by omega
    simp only [e]
  | 3 =>
    have a : (3 : Fin 4).val = 3 := rfl
    simp only [a]
    rw [dif_neg (by omega), dif_neg (by omega), dif_neg (by omega), ho]
    simp only [Four.at]
    have e : 3 * 64 + d.val - 64 - 64 - 64 = d.val := by omega
    simp only [e]

theorem queries_at (Q4 : S1x256x256.Idx → Elt Ideal .f32) (x r : Fin 256) : queriesOf Q4 (ix2 x r) = Q4 (ix3 0 x r) := by
  have e : queriesOf Q4 (ix2 x r) = window Q4 ![0, 0, 0] S1x256x256.size inb_S1x256x256_S1x256x256_0_0_0 (ix3 0 x r) := by
    pointwise [queriesOf, queries]
  rw [e]
  unfold window
  refine congrArg Q4 (funext fun q => Fin.ext ?_)
  match q with
  | 0 => rfl
  | 1 => show 0 + 1 * x.val = x.val; omega
  | 2 => show 0 + 1 * r.val = r.val; omega

end Cert.KernelIdeal.Body

end
-- ==== Proof.Fill.lean ====
/- What the filling and the selection leave in their buffers, read at an index. -/
module

public import proofs.«01_k».proof.Proof.BodyRun
public import proofs.«01_k».proof.Proof.Pieces
public import Idealize.ShloMosaic.Lib.Pointwise
public import Idealize.ShloMosaic.Lib.Pipeline.ValueKit.Acc

@[expose] public section

noncomputable section

namespace Cert.KernelIdeal.Body

open Cert.KernelIdeal Idealize.ShloMosaic Idealize.ShloMosaic.TcCoe Idealize.SL.Sem
open Idealize.ShloMosaic.VecWindow (window put)

variable [Facts]
open Facts Facts₀ Shapes1.Facts₀ K0.R1.Facts₀ K0.R2.Facts₀

/-- A fold keeps what none of its steps changes. -/
theorem foldl_keep {σ κ α : Type} (step : σ → κ → σ) (read : σ → α) (l : List κ) (h : ∀ s, ∀ k ∈ l, read (step s k) = read s) (s : σ) : read (l.foldl step s) = read s := by
  induction l generalizing s with
  | nil => rfl
  | cons a l ih => rw [List.foldl_cons, ih (fun s k hk => h s k (List.mem_cons_of_mem _ hk)), h s a List.mem_cons_self]

/-- A fold leaves what the step of its key leaves. -/
theorem foldl_read {σ κ α : Type} [DecidableEq κ] (step : σ → κ → σ) (read : σ → α) (k : κ) (v : α) (hv : ∀ s, read (step s k) = v)
    (hk : ∀ s k', k' ≠ k → read (step s k') = read s) (l : List κ) (hl : k ∈ l) (s : σ) : read (l.foldl step s) = v := by
  induction l generalizing s with
  | nil => exact absurd hl List.not_mem_nil
  | cons a l ih =>
    rw [List.foldl_cons]
    by_cases h : k ∈ l
    · exact ih h _
    · have ha : a = k := by
        rcases List.mem_cons.mp hl with e | e
        · exact e.symm
        · exact absurd e h
      rw [foldl_keep step read l (fun s k' hk' => hk s k' (fun e => h (e ▸ hk'))), ha, hv]

/-- A sum over the keys weighted by a block's averaging row. -/
theorem blockMean_sum (n : Fin 16) (f : Fin 4096 → EReal) :
    ∑ x : Fin 4096, blockMean (F := Ideal) (ix2 n x) * f x = Ideal.div (∑ j : Fin 256, f ⟨n.val * 256 + j.val, by omega⟩) ((256 : ℝ) : EReal) := by
  have hb : ∀ (a : Fin 16) (j : Fin 256), blockMean (F := Ideal) (ix2 n ⟨a.val * 256 + j.val, by omega⟩) = if a = n then ((1 / 256 : ℝ) : EReal) else 0 := by
    intro a j
    pointwise [blockMean]
    have hw := bm_word ⟨a.val * 256 + j.val, by omega⟩
    dsimp only at hw
    rw [hw]
    have e : (a.val * 256 + j.val) / 256 = a.val := by omega
    rw [e, Attn.eq_nat _ _ (by omega) (by omega), Attn.ofBits_256th]
    by_cases h : a = n
    · subst h; simp [Scalar.select]
    · have : a.val ≠ n.val := fun e => h (Fin.ext e)
      simp [Scalar.select, h, this]
  rw [← Fin.sum_mul_add_fin 16 256 (fun x : Fin 4096 => blockMean (F := Ideal) (ix2 n x) * f x), Finset.sum_eq_single n]
  · rw [Ideal.div_coe (by norm_num)]
    refine Eq.trans ?_ (mul_comm _ _)
    rw [Attn.mul_sum' _ (by norm_num)]
    exact Finset.sum_congr rfl fun j _ => congrArg (· * f _) ((hb n j).trans ((if_pos rfl).trans (by norm_num)))
  · intro a _ h
    exact Finset.sum_eq_zero fun j _ => by rw [hb, if_neg h, zero_mul]
  · intro h; exact absurd (Finset.mem_univ n) h

theorem means_at (K : S1x256x4096.Idx → Elt Ideal .f32) (hh : Fin 4) (n : Fin 16) (d : Fin 64) :
    meansOf (window K ![0, 64 * hh.val, 0] S1x64x4096.size (inb_kt hh)) (ix3 0 n d)
      = Ideal.div (∑ j : Fin 256, K (ix3 0 ⟨hh.val * 64 + d.val, by omega⟩ ⟨n.val * 256 + j.val, by omega⟩)) ((256 : ℝ) : EReal) := by
  rw [← blockMean_sum n (fun x => K (ix3 0 ⟨hh.val * 64 + d.val, by omega⟩ x))]
  pointwise [meansOf]
  refine Finset.sum_congr rfl fun x _ => ?_
  congr 1
  refine (window3 K _ _ 0 d x (by show 0 + 0 < 1; omega) (by show 64 * hh.val + d.val < 256; omega) (by show 0 + x.val < 4096; omega)).trans ?_
  refine congrArg K (funext fun q => Fin.ext ?_)
  match q with
  | 0 => rfl
  | 1 => show 64 * hh.val + d.val = hh.val * 64 + d.val; omega
  | 2 => show 0 + x.val = x.val; omega

theorem kmFilled_at (K : S1x256x4096.Idx → Elt Ideal .f32) (X : S4x16x64.Idx → Elt Ideal .f32) (hh : Fin 4) (n : Fin 16) (d : Fin 64) :
    kmFilled K X (ix3 hh n d) = Ideal.div (∑ j : Fin 256, K (ix3 0 ⟨hh.val * 64 + d.val, by omega⟩ ⟨n.val * 256 + j.val, by omega⟩)) ((256 : ℝ) : EReal) := by
  unfold kmFilled
  refine foldl_read (kmStep K) (fun X => X (ix3 hh n d)) hh _ (fun X => ?_) (fun X h' hne => ?_) heads ?_ X
  · rw [← means_at]
    refine (put3 X _ _ hh n d ?_ ?_ ?_).trans ?_
    · exact ⟨Nat.le_refl _, Nat.lt_succ_self _⟩
    · exact ⟨Nat.zero_le _, by show n.val < 0 + 16; omega⟩
    · exact ⟨Nat.zero_le _, by show d.val < 0 + 64; omega⟩
    · refine congrArg _ (funext fun q => Fin.ext ?_)
      match q with
      | 0 => show hh.val - hh.val = 0; omega
      | 1 => rfl
      | 2 => rfl
  · refine put3_not X _ _ hh n d fun h => hne (Fin.ext ?_)
    have h0 : h'.val ≤ hh.val ∧ hh.val < h'.val + 1 := h.1
    omega
  · revert hh; decide

theorem vbStep_other (V : S1x256x4096.Idx → Elt Ideal .f32) (Y : S4x4x80x1024.Idx → Elt Ideal .bf16) (g g' hh h' : Fin 4) (hne : g' ≠ g ∨ h' ≠ hh) (e : Fin 80) (p : Fin 1024) :
    vbStep V g' Y h' (ix4 g hh e p) = Y (ix4 g hh e p) := by
  have hn : ¬ ((g'.val ≤ g.val ∧ g.val < g'.val + 1) ∧ (h'.val ≤ hh.val ∧ hh.val < h'.val + 1)) := by
    intro h
    rcases hne with a | a
    · exact a (Fin.ext (by omega))
    · exact a (Fin.ext (by omega))
  unfold vbStep
  rw [put4_not _ _ _ g hh e p fun h => hn ⟨h.1, h.2.1⟩, put4_not _ _ _ g hh e p fun h => hn ⟨h.1, h.2.1⟩]

theorem vbStep_value (V : S1x256x4096.Idx → Elt Ideal .f32) (Y : S4x4x80x1024.Idx → Elt Ideal .bf16) (g hh : Fin 4) (e : Fin 64) (p : Fin 1024) :
    vbStep V g Y hh (ix4 g hh ⟨e.val, by omega⟩ p) = V (ix3 0 ⟨hh.val * 64 + e.val, by omega⟩ ⟨g.val * 1024 + p.val, by omega⟩) := by
  unfold vbStep
  rw [put4_not _ _ _ g hh _ p fun h => by
    have : 64 ≤ e.val := h.2.2.1.1
    omega]
  refine (put4 Y _ _ g hh _ p ⟨Nat.le_refl _, Nat.lt_succ_self _⟩ ⟨Nat.le_refl _, Nat.lt_succ_self _⟩ ⟨Nat.zero_le _, by show e.val < 0 + 64; omega⟩ ⟨Nat.zero_le _, by show p.val < 0 + 1024; omega⟩).trans ?_
  refine (congrArg (valuesOf (F := Ideal) _) (funext fun q => Fin.ext ?_)).trans ((values_at _ e p).trans ?_)
  · match q with
    | 0 => show g.val - g.val = 0; omega
    | 1 => show hh.val - hh.val = 0; omega
    | 2 => rfl
    | 3 => rfl
  · refine (window3 V _ _ 0 e p (by show 0 + 0 < 1; omega) (by show 64 * hh.val + e.val < 256; omega) (by show 1024 * g.val + p.val < 4096; omega)).trans ?_
    refine congrArg V (funext fun q => Fin.ext ?_)
    match q with
    | 0 => rfl
    | 1 => show 64 * hh.val + e.val = hh.val * 64 + e.val; omega
    | 2 => show 1024 * g.val + p.val = g.val * 1024 + p.val; omega

theorem vbStep_one (V : S1x256x4096.Idx → Elt Ideal .f32) (Y : S4x4x80x1024.Idx → Elt Ideal .bf16) (g hh : Fin 4) (p : Fin 1024) :
    vbStep V g Y hh (ix4 g hh 64 p) = (1 : EReal) := by
  unfold vbStep
  refine (put4 _ _ _ g hh 64 p ⟨Nat.le_refl _, Nat.lt_succ_self _⟩ ⟨Nat.le_refl _, Nat.lt_succ_self _⟩ ⟨Nat.le_refl 64, by show 64 < 64 + 16; omega⟩ ⟨Nat.zero_le _, by show p.val < 0 + 1024; omega⟩).trans ?_
  refine (congrArg (onesOf (F := Ideal)) (funext fun q => Fin.ext ?_)).trans (ones_at 0 p rfl)
  match q with
  | 0 => show g.val - g.val = 0; omega
  | 1 => show hh.val - hh.val = 0; omega
  | 2 => rfl
  | 3 => rfl

theorem vbFilled_read (V : S1x256x4096.Idx → Elt Ideal .f32) (Y : S4x4x80x1024.Idx → Elt Ideal .bf16) (g hh : Fin 4) (e : Fin 80) (p : Fin 1024) (v : EReal)
    (hv : ∀ Y, vbStep V g Y hh (ix4 g hh e p) = v) : vbFilled V Y (ix4 g hh e p) = v := by
  have hm : ∀ x : Fin 4, x ∈ heads := by decide
  unfold vbFilled
  refine foldl_read (fun Y g => heads.foldl (vbStep V g) Y) (fun Y => Y (ix4 g hh e p)) g v (fun Y => ?_) (fun Y g' hne => ?_) heads (hm g) Y
  · exact foldl_read (vbStep V g) (fun Y => Y (ix4 g hh e p)) hh v hv (fun Y h' hne => vbStep_other V Y g g hh h' (.inr hne) e p) heads (hm hh) Y
  · exact foldl_keep (vbStep V g') (fun Y => Y (ix4 g hh e p)) heads (fun Y h' _ => vbStep_other V Y g g' hh h' (.inl hne) e p) Y

theorem vbFilled_value (V : S1x256x4096.Idx → Elt Ideal .f32) (Y : S4x4x80x1024.Idx → Elt Ideal .bf16) (g hh : Fin 4) (e : Fin 64) (p : Fin 1024) :
    vbFilled V Y (ix4 g hh ⟨e.val, by omega⟩ p) = V (ix3 0 ⟨hh.val * 64 + e.val, by omega⟩ ⟨g.val * 1024 + p.val, by omega⟩) :=
  vbFilled_read V Y g hh _ p _ fun Y => vbStep_value V Y g hh e p

theorem vbFilled_one (V : S1x256x4096.Idx → Elt Ideal .f32) (Y : S4x4x80x1024.Idx → Elt Ideal .bf16) (g hh : Fin 4) (p : Fin 1024) :
    vbFilled V Y (ix4 g hh 64 p) = (1 : EReal) :=
  vbFilled_read V Y g hh _ p _ fun Y => vbStep_one V Y g hh p

/-- The bias rows after the selection: zero at the blocks a query sees, the bottom at the others. -/
theorem selected_at (i : grid0.Coords) (q : FVec Ideal S256x256 .f32) (X : S4x16x64.Idx → Elt Ideal .f32) (B : S4x16x256.Idx → Elt Ideal .f32) (hh : Fin 4) (n : Fin 16) (r : Fin 256) :
    selected i q X B (ix3 hh n r)
      = Scalar.select (Attn.flag (Attn.blk (fun d => q (ix2 ⟨hh.val * 64 + d.val, by omega⟩ r)) (fun m d => X (ix3 hh m d)) (i 2).val) (i 2).val n) 0 (⊥ : EReal) := by
  unfold selected
  refine foldl_read (selStep i q X) (fun B => B (ix3 hh n r)) hh _ (fun B => ?_) (fun B h' hne => ?_) heads ?_ B
  · have hk : ∀ m d, window X ![hh.val, 0, 0] S1x16x64.size (inb_km hh) (ix3 0 m d) = X (ix3 hh m d) := by
      intro m d
      refine (window3 X _ _ 0 m d (by show hh.val + 0 < 4; omega) (by show 0 + m.val < 16; omega) (by show 0 + d.val < 64; omega)).trans ?_
      refine congrArg X (funext fun q => Fin.ext ?_)
      match q with
      | 0 => rfl
      | 1 => show 0 + m.val = m.val; omega
      | 2 => show 0 + d.val = d.val; omega
    have hs : (fun m => blockScores i q (window X ![hh.val, 0, 0] S1x16x64.size (inb_km hh)) hh (ix2 m r))
        = Attn.blk (fun d => q (ix2 ⟨hh.val * 64 + d.val, by omega⟩ r)) (fun m d => X (ix3 hh m d)) (i 2).val := by
      funext m
      rw [blockScores_at]
      simp only [hk]
    refine (put3 B _ _ hh n r ⟨Nat.le_refl _, Nat.lt_succ_self _⟩ ⟨Nat.zero_le _, by show n.val < 0 + 16; omega⟩ ⟨Nat.zero_le _, by show r.val < 0 + 256; omega⟩).trans ?_
    refine (congrArg (biasOf (F := Ideal) i _) (funext fun q => Fin.ext ?_)).trans ((bias_at i _ n r (rankCount_at _ n r)).trans (by rw [hs]))
    match q with
    | 0 => show hh.val - hh.val = 0; omega
    | 1 => rfl
    | 2 => rfl
  · refine put3_not B _ _ hh n r fun h => hne (Fin.ext ?_)
    have h0 : h'.val ≤ hh.val ∧ hh.val < h'.val + 1 := h.1
    omega
  · revert hh; decide

end Cert.KernelIdeal.Body

end
-- ==== Proof.Scores.lean ====
/- The scores the kernel computes, piece by piece, as scores of keys. -/
module

public import proofs.«01_k».proof.Proof.BodyRun
public import proofs.«01_k».proof.Proof.Fill
public import Idealize.ShloMosaic.Lib.Pointwise
public import Idealize.ShloMosaic.Lib.Pipeline.ValueKit.Acc

@[expose] public section

noncomputable section

namespace Cert.KernelIdeal.Body

open Cert.KernelIdeal Idealize.ShloMosaic Idealize.ShloMosaic.TcCoe Idealize.SL.Sem
open Idealize.ShloMosaic.VecWindow (window put)

variable [Facts]
open Facts Facts₀ Shapes1.Facts₀ K0.R1.Facts₀ K0.R2.Facts₀

variable (K : S1x4096x256.Idx → Elt Ideal .bf16) (B : S4x16x256.Idx → Elt Ideal .f32) (q : FVec Ideal S256x256 .f32) (n : ℕ) (s : Fin 4 → Fin 256 → Fin 16 → EReal)

/-- A query of a head. -/
def qv (hh : Fin 4) (r : Fin 256) (d : Fin 64) : EReal := q (ix2 ⟨hh.val * 64 + d.val, by omega⟩ r)
/-- A key of a head. -/
def kv (hh : Fin 4) (p : ℕ) (d : Fin 64) : EReal := K (ix3 0 (Fin.ofNat 4096 p) ⟨hh.val * 64 + d.val, by omega⟩)
/-- The score the kernel keeps for a key and a query. -/
def fs (hh : Fin 4) (r : Fin 256) (p : ℕ) : EReal := Attn.ksc (s hh r) (qv q hh r) (kv K hh) n r.val p

theorem keys_at (n' : Nat) (hn : n' ≤ 1024) (g : BitVec 32) (hg : g.toNat < 4) (x : Fin n') (y : Fin 256) :
    keysAt K n' hn g hg (ix3 0 x y) = K (ix3 0 ⟨1024 * g.toNat + x.val, by omega⟩ y) := by
  have hr := rowW_le g hg
  refine (window3 K _ _ 0 x y (by show 0 + 0 < 1; omega) (by show (rowW g).toNat + x.val < 4096; omega) (by show 0 + y.val < 256; omega)).trans ?_
  refine congrArg K (funext fun q => Fin.ext ?_)
  match q with
  | 0 => rfl
  | 1 => show (rowW g).toNat + x.val = 1024 * g.toNat + x.val; omega
  | 2 => show 0 + y.val = y.val; omega

theorem bias_row (g : BitVec 32) (hg : g.toNat < 4) (hh j : Fin 4) (r : Fin 256) :
    biasAt B g hg hh j (ix3 0 0 r) = B (ix3 hh ⟨4 * g.toNat + j.val, by omega⟩ r) := by
  have hr := blkW_toNat g j hg
  refine (window3 B _ _ 0 0 r (by show hh.val + 0 < 4; omega) (by show (blkW g j).toNat + 0 < 16; omega) (by show 0 + r.val < 256; omega)).trans ?_
  refine congrArg B (funext fun q => Fin.ext ?_)
  match q with
  | 0 => rfl
  | 1 => show (blkW g j).toNat + 0 = 4 * g.toNat + j.val; omega
  | 2 => show 0 + r.val = r.val; omega

/-- The product of a key's row with a head's queries is the head's part of it. -/
theorem raw_at (n' : Nat) (hn : n' ≤ 1024) (g : BitVec 32) (hg : g.toNat < 4) (hh : Fin 4) (x : Fin n') (r : Fin 256) :
    ∑ y : Fin 256, keysAt K n' hn g hg (ix3 0 x y) * headQ q hh (ix2 y r) = Attn.kraw (qv q hh r) (kv K hh) (1024 * g.toNat + x.val) := by
  rw [split4, Finset.sum_eq_single hh]
  · unfold Attn.kraw qv kv
    refine Finset.sum_congr rfl fun d _ => ?_
    rw [headQ_at, if_pos rfl, keys_at]
    refine congrArg (· * _) (congrArg K (funext fun q => Fin.ext ?_))
    match q with
    | 0 => rfl
    | 1 => show 1024 * g.toNat + x.val = (1024 * g.toNat + x.val) % 4096; omega
    | 2 => rfl
  · intro a _ h
    exact Finset.sum_eq_zero fun d _ => by rw [headQ_at, if_neg h, mul_zero]
  · intro h; exact absurd (Finset.mem_univ hh) h

theorem far_at (hB : ∀ hh m r, B (ix3 hh m r) = Scalar.select (Attn.flag (s hh r) n m) 0 (⊥ : EReal)) (hh : Fin 4) (r : Fin 256) (p : ℕ) (b : Fin 16) (hb : p / 256 = b.val) (h : b.val < n) :
    Attn.kraw (qv q hh r) (kv K hh) p + B (ix3 hh b r) = fs K q n s hh r p := by
  have e : Attn.blkOf p = b := Fin.ext (by rw [Attn.blkOf_val p (by omega)]; exact hb)
  unfold fs Attn.ksc
  rw [if_pos (by omega), hB, e]

theorem near_at (hh : Fin 4) (r : Fin 256) (p l : ℕ) (hb : p / 256 = n) (hl : p % 256 = l) :
    Scalar.select (IntOp.cmpi .sle (BitVec.ofNat 32 l) (BitVec.ofNat 32 r.val)) (Attn.kraw (qv q hh r) (kv K hh) p) (⊥ : EReal) = fs K q n s hh r p := by
  unfold fs Attn.ksc
  rw [if_neg (by omega), hl]

theorem mask_eq : (Named.named (F := Ideal) κ "mask" (φ := .f32) 4048155338#32 : EReal) = ⊥ := rfl

/-! A score block read at an index. -/

theorem group_raw (k : Vec Ideal S1x1024x256 .bf16) (w : FVec Ideal S256x256 .bf16) (b0 b1 b2 b3 : Vec Ideal S1x1x256 .f32) (x : Fin 1024) (r : Fin 256) :
    groupScores k w b0 b1 b2 b3 (ix2 x r) =
      if h : x.val < 256 then ∑ y : Fin 256, k (ix3 0 x y) * w (ix2 y r) + b0 (ix3 0 0 r) else
      if h : x.val - 256 < 256 then ∑ y : Fin 256, k (ix3 0 ⟨256 + (x.val - 256), by omega⟩ y) * w (ix2 y r) + b1 (ix3 0 0 r) else
      if h : x.val - 256 - 256 < 256 then ∑ y : Fin 256, k (ix3 0 ⟨512 + (x.val - 256 - 256), by omega⟩ y) * w (ix2 y r) + b2 (ix3 0 0 r) else
      ∑ y : Fin 256, k (ix3 0 ⟨768 + (x.val - 256 - 256 - 256), by omega⟩ y) * w (ix2 y r) + b3 (ix3 0 0 r) := by
  pointwise [groupScores, ownScores, overBlock, causal]

theorem group_pt (k : Vec Ideal S1x1024x256 .bf16) (w : FVec Ideal S256x256 .bf16) (b0 b1 b2 b3 : Vec Ideal S1x1x256 .f32) (x : Fin 1024) (r : Fin 256) (R v : EReal)
    (hR : ∑ y : Fin 256, k (ix3 0 x y) * w (ix2 y r) = R)
    (h0 : 0 ≤ x.val → x.val < 256 → R + b0 (ix3 0 0 r) = v)
    (h1 : 256 ≤ x.val → x.val < 512 → R + b1 (ix3 0 0 r) = v)
    (h2 : 512 ≤ x.val → x.val < 768 → R + b2 (ix3 0 0 r) = v)
    (h3 : 768 ≤ x.val → x.val < 1024 → R + b3 (ix3 0 0 r) = v) :
    groupScores k w b0 b1 b2 b3 (ix2 x r) = v := by
  rw [group_raw]
  split_ifs with c0 c1 c2
  · exact (congrArg (· + _) hR).trans (h0 (by omega) (by omega))
  · have e : 256 + (x.val - 256) = x.val := by omega
    simp only [e]
    exact (congrArg (· + _) hR).trans (h1 (by omega) (by omega))
  · have e : 512 + (x.val - 256 - 256) = x.val := by omega
    simp only [e]
    exact (congrArg (· + _) hR).trans (h2 (by omega) (by omega))
  · have e : 768 + (x.val - 256 - 256 - 256) = x.val := by omega
    simp only [e]
    exact (congrArg (· + _) hR).trans (h3 (by omega) (by omega))

theorem own1_raw (k : Vec Ideal S1x256x256 .bf16) (w : FVec Ideal S256x256 .bf16) (x : Fin 256) (r : Fin 256) :
    own1Scores k w  (ix2 x r) =
      Scalar.select (IntOp.cmpi .sle (BitVec.ofNat 32 (x.val)) (BitVec.ofNat 32 r.val)) (∑ y : Fin 256, k (ix3 0 x y) * w (ix2 y r)) (Named.named (F := Ideal) κ "mask" (φ := .f32) 4048155338#32 : EReal) := by
  pointwise [own1Scores, ownScores, overBlock, causal]

theorem own1_pt (k : Vec Ideal S1x256x256 .bf16) (w : FVec Ideal S256x256 .bf16) (x : Fin 256) (r : Fin 256) (R v : EReal)
    (hR : ∑ y : Fin 256, k (ix3 0 x y) * w (ix2 y r) = R)
    (ho : 0 ≤ x.val → Scalar.select (IntOp.cmpi .sle (BitVec.ofNat 32 (x.val - 0)) (BitVec.ofNat 32 r.val)) R (⊥ : EReal) = v) :
    own1Scores k w  (ix2 x r) = v := by
  rw [own1_raw]
  exact (congrArg (fun R => Scalar.select _ R (⊥ : EReal)) hR).trans (ho (Nat.zero_le _))

theorem own2_raw (k : Vec Ideal S1x512x256 .bf16) (w : FVec Ideal S256x256 .bf16) (b0 : Vec Ideal S1x1x256 .f32) (x : Fin 512) (r : Fin 256) :
    own2Scores k w b0 (ix2 x r) =
      if h : x.val < 256 then ∑ y : Fin 256, k (ix3 0 x y) * w (ix2 y r) + b0 (ix3 0 0 r) else
      Scalar.select (IntOp.cmpi .sle (BitVec.ofNat 32 (x.val - 256)) (BitVec.ofNat 32 r.val)) (∑ y : Fin 256, k (ix3 0 ⟨256 + (x.val - 256), by omega⟩ y) * w (ix2 y r)) (Named.named (F := Ideal) κ "mask" (φ := .f32) 4048155338#32 : EReal) := by
  pointwise [own2Scores, ownScores, overBlock, causal]

theorem own2_pt (k : Vec Ideal S1x512x256 .bf16) (w : FVec Ideal S256x256 .bf16) (b0 : Vec Ideal S1x1x256 .f32) (x : Fin 512) (r : Fin 256) (R v : EReal)
    (hR : ∑ y : Fin 256, k (ix3 0 x y) * w (ix2 y r) = R)
    (h0 : 0 ≤ x.val → x.val < 256 → R + b0 (ix3 0 0 r) = v)
    (ho : 256 ≤ x.val → Scalar.select (IntOp.cmpi .sle (BitVec.ofNat 32 (x.val - 256)) (BitVec.ofNat 32 r.val)) R (⊥ : EReal) = v) :
    own2Scores k w b0 (ix2 x r) = v := by
  rw [own2_raw]
  split_ifs with c0
  · exact (congrArg (· + _) hR).trans (h0 (by omega) (by omega))
  · have e : 256 + (x.val - 256) = x.val := by omega
    simp only [e]
    exact (congrArg (fun R => Scalar.select _ R (⊥ : EReal)) hR).trans (ho (by omega))

theorem own3_raw (k : Vec Ideal S1x768x256 .bf16) (w : FVec Ideal S256x256 .bf16) (b0 b1 : Vec Ideal S1x1x256 .f32) (x : Fin 768) (r : Fin 256) :
    own3Scores k w b0 b1 (ix2 x r) =
      if h : x.val < 256 then ∑ y : Fin 256, k (ix3 0 x y) * w (ix2 y r) + b0 (ix3 0 0 r) else
      if h : x.val - 256 < 256 then ∑ y : Fin 256, k (ix3 0 ⟨256 + (x.val - 256), by omega⟩ y) * w (ix2 y r) + b1 (ix3 0 0 r) else
      Scalar.select (IntOp.cmpi .sle (BitVec.ofNat 32 (x.val - 256 - 256)) (BitVec.ofNat 32 r.val)) (∑ y : Fin 256, k (ix3 0 ⟨512 + (x.val - 256 - 256), by omega⟩ y) * w (ix2 y r)) (Named.named (F := Ideal) κ "mask" (φ := .f32) 4048155338#32 : EReal) := by
  pointwise [own3Scores, ownScores, overBlock, causal]

theorem own3_pt (k : Vec Ideal S1x768x256 .bf16) (w : FVec Ideal S256x256 .bf16) (b0 b1 : Vec Ideal S1x1x256 .f32) (x : Fin 768) (r : Fin 256) (R v : EReal)
    (hR : ∑ y : Fin 256, k (ix3 0 x y) * w (ix2 y r) = R)
    (h0 : 0 ≤ x.val → x.val < 256 → R + b0 (ix3 0 0 r) = v)
    (h1 : 256 ≤ x.val → x.val < 512 → R + b1 (ix3 0 0 r) = v)
    (ho : 512 ≤ x.val → Scalar.select (IntOp.cmpi .sle (BitVec.ofNat 32 (x.val - 512)) (BitVec.ofNat 32 r.val)) R (⊥ : EReal) = v) :
    own3Scores k w b0 b1 (ix2 x r) = v := by
  rw [own3_raw]
  split_ifs with c0 c1
  · exact (congrArg (· + _) hR).trans (h0 (by omega) (by omega))
  · have e : 256 + (x.val - 256) = x.val := by omega
    simp only [e]
    exact (congrArg (· + _) hR).trans (h1 (by omega) (by omega))
  · have e : 512 + (x.val - 256 - 256) = x.val := by omega
    simp only [e]
    have e2 : x.val - 256 - 256 = x.val - 512 := by omega
    simp only [e2]
    exact (congrArg (fun R => Scalar.select _ R (⊥ : EReal)) hR).trans (ho (by omega))

theorem own4_raw (k : Vec Ideal S1x1024x256 .bf16) (w : FVec Ideal S256x256 .bf16) (b0 b1 b2 : Vec Ideal S1x1x256 .f32) (x : Fin 1024) (r : Fin 256) :
    own4Scores k w b0 b1 b2 (ix2 x r) =
      if h : x.val < 256 then ∑ y : Fin 256, k (ix3 0 x y) * w (ix2 y r) + b0 (ix3 0 0 r) else
      if h : x.val - 256 < 256 then ∑ y : Fin 256, k (ix3 0 ⟨256 + (x.val - 256), by omega⟩ y) * w (ix2 y r) + b1 (ix3 0 0 r) else
      if h : x.val - 256 - 256 < 256 then ∑ y : Fin 256, k (ix3 0 ⟨512 + (x.val - 256 - 256), by omega⟩ y) * w (ix2 y r) + b2 (ix3 0 0 r) else
      Scalar.select (IntOp.cmpi .sle (BitVec.ofNat 32 (x.val - 256 - 256 - 256)) (BitVec.ofNat 32 r.val)) (∑ y : Fin 256, k (ix3 0 ⟨768 + (x.val - 256 - 256 - 256), by omega⟩ y) * w (ix2 y r)) (Named.named (F := Ideal) κ "mask" (φ := .f32) 4048155338#32 : EReal) := by
  pointwise [own4Scores, ownScores, overBlock, causal]

theorem own4_pt (k : Vec Ideal S1x1024x256 .bf16) (w : FVec Ideal S256x256 .bf16) (b0 b1 b2 : Vec Ideal S1x1x256 .f32) (x : Fin 1024) (r : Fin 256) (R v : EReal)
    (hR : ∑ y : Fin 256, k (ix3 0 x y) * w (ix2 y r) = R)
    (h0 : 0 ≤ x.val → x.val < 256 → R + b0 (ix3 0 0 r) = v)
    (h1 : 256 ≤ x.val → x.val < 512 → R + b1 (ix3 0 0 r) = v)
    (h2 : 512 ≤ x.val → x.val < 768 → R + b2 (ix3 0 0 r) = v)
    (ho : 768 ≤ x.val → Scalar.select (IntOp.cmpi .sle (BitVec.ofNat 32 (x.val - 768)) (BitVec.ofNat 32 r.val)) R (⊥ : EReal) = v) :
    own4Scores k w b0 b1 b2 (ix2 x r) = v := by
  rw [own4_raw]
  split_ifs with c0 c1 c2
  · exact (congrArg (· + _) hR).trans (h0 (by omega) (by omega))
  · have e : 256 + (x.val - 256) = x.val := by omega
    simp only [e]
    exact (congrArg (· + _) hR).trans (h1 (by omega) (by omega))
  · have e : 512 + (x.val - 256 - 256) = x.val := by omega
    simp only [e]
    exact (congrArg (· + _) hR).trans (h2 (by omega) (by omega))
  · have e : 768 + (x.val - 256 - 256 - 256) = x.val := by omega
    simp only [e]
    have e2 : x.val - 256 - 256 - 256 = x.val - 768 := by omega
    simp only [e2]
    exact (congrArg (fun R => Scalar.select _ R (⊥ : EReal)) hR).trans (ho (by omega))

section
variable (hB : ∀ hh m r, B (ix3 hh m r) = Scalar.select (Attn.flag (s hh r) n m) 0 (⊥ : EReal)) (g : BitVec 32) (hg : g.toNat < 4) (hh : Fin 4) (r : Fin 256)
include hB

theorem group_at (h : 4 * g.toNat + 4 ≤ n) (x : Fin 1024) : grpS K B g hg (headQ q hh) hh (ix2 x r) = fs K q n s hh r (1024 * g.toNat + x.val) := by
  unfold grpS
  refine group_pt _ _ _ _ _ _ x r _ _ (raw_at K q 1024 _ g hg hh x r) ?_ ?_ ?_ ?_
  · intro a b
    rw [bias_row]
    exact far_at K B q n s hB hh r _ ⟨4 * g.toNat + 0, by omega⟩ (by show _ = 4 * g.toNat + 0; omega) (by show 4 * g.toNat + 0 < n; omega)
  · intro a b
    rw [bias_row]
    exact far_at K B q n s hB hh r _ ⟨4 * g.toNat + 1, by omega⟩ (by show _ = 4 * g.toNat + 1; omega) (by show 4 * g.toNat + 1 < n; omega)
  · intro a b
    rw [bias_row]
    exact far_at K B q n s hB hh r _ ⟨4 * g.toNat + 2, by omega⟩ (by show _ = 4 * g.toNat + 2; omega) (by show 4 * g.toNat + 2 < n; omega)
  · intro a b
    rw [bias_row]
    exact far_at K B q n s hB hh r _ ⟨4 * g.toNat + 3, by omega⟩ (by show _ = 4 * g.toNat + 3; omega) (by show 4 * g.toNat + 3 < n; omega)

theorem own1_at (h : 4 * g.toNat + 0 = n) (x : Fin 256) : ow1S K g hg (headQ q hh) hh (ix2 x r) = fs K q n s hh r (1024 * g.toNat + x.val) := by
  unfold ow1S
  refine own1_pt _ _ x r _ _ (raw_at K q 256 _ g hg hh x r) ?_
  · intro a
    exact near_at K q n s hh r _ _ (by omega) (by omega)

theorem own2_at (h : 4 * g.toNat + 1 = n) (x : Fin 512) : ow2S K B g hg (headQ q hh) hh (ix2 x r) = fs K q n s hh r (1024 * g.toNat + x.val) := by
  unfold ow2S
  refine own2_pt _ _ _ x r _ _ (raw_at K q 512 _ g hg hh x r) ?_ ?_
  · intro a b
    rw [bias_row]
    exact far_at K B q n s hB hh r _ ⟨4 * g.toNat + 0, by omega⟩ (by show _ = 4 * g.toNat + 0; omega) (by show 4 * g.toNat + 0 < n; omega)
  · intro a
    exact near_at K q n s hh r _ _ (by omega) (by omega)

theorem own3_at (h : 4 * g.toNat + 2 = n) (x : Fin 768) : ow3S K B g hg (headQ q hh) hh (ix2 x r) = fs K q n s hh r (1024 * g.toNat + x.val) := by
  unfold ow3S
  refine own3_pt _ _ _ _ x r _ _ (raw_at K q 768 _ g hg hh x r) ?_ ?_ ?_
  · intro a b
    rw [bias_row]
    exact far_at K B q n s hB hh r _ ⟨4 * g.toNat + 0, by omega⟩ (by show _ = 4 * g.toNat + 0; omega) (by show 4 * g.toNat + 0 < n; omega)
  · intro a b
    rw [bias_row]
    exact far_at K B q n s hB hh r _ ⟨4 * g.toNat + 1, by omega⟩ (by show _ = 4 * g.toNat + 1; omega) (by show 4 * g.toNat + 1 < n; omega)
  · intro a
    exact near_at K q n s hh r _ _ (by omega) (by omega)

theorem own4_at (h : 4 * g.toNat + 3 = n) (x : Fin 1024) : ow4S K B g hg (headQ q hh) hh (ix2 x r) = fs K q n s hh r (1024 * g.toNat + x.val) := by
  unfold ow4S
  refine own4_pt _ _ _ _ _ x r _ _ (raw_at K q 1024 _ g hg hh x r) ?_ ?_ ?_ ?_
  · intro a b
    rw [bias_row]
    exact far_at K B q n s hB hh r _ ⟨4 * g.toNat + 0, by omega⟩ (by show _ = 4 * g.toNat + 0; omega) (by show 4 * g.toNat + 0 < n; omega)
  · intro a b
    rw [bias_row]
    exact far_at K B q n s hB hh r _ ⟨4 * g.toNat + 1, by omega⟩ (by show _ = 4 * g.toNat + 1; omega) (by show 4 * g.toNat + 1 < n; omega)
  · intro a b
    rw [bias_row]
    exact far_at K B q n s hB hh r _ ⟨4 * g.toNat + 2, by omega⟩ (by show _ = 4 * g.toNat + 2; omega) (by show 4 * g.toNat + 2 < n; omega)
  · intro a
    exact near_at K q n s hh r _ _ (by omega) (by omega)
end

section
variable (m : FVec Ideal S1x256 .f32) (f : ℕ → EReal) (N : ℕ) (r : Fin 256)

/-- A maximum carried on over the next keys. -/
theorem sup_step (a : EReal) (n' : ℕ) (t : Fin n' → EReal) (ht : ∀ x, t x = f (N + x.val)) (ha : a = (Finset.range N).sup f) :
    max a (Finset.fold max (Ideal.ofBits .f32 4286578688#32) t Finset.univ) = (Finset.range (N + n')).sup f := by
  rw [ha, Attn.ofBits_ninf, Attn.sup_add, ← Attn.fold_max n' (fun x => f (N + x))]
  refine congrArg (max _) (congrArg (fun t => Finset.fold max ⊥ t Finset.univ) (funext ht))

theorem max256 (w : FVec Ideal S256x256 .f32) (h1 h2 h3 h4) (hw : ∀ x : Fin 256, w (ix2 x r) = f (N + x.val)) (hm : m (ix2 0 r) = (Finset.range N).sup f) :
    maximumf m (shapeCast S1x256 (multiReduction .maximumf [0] S256 w 0xFF800000#32 h1 h2 h3) h4) (ix2 0 r) = (Finset.range (N + 256)).sup f := by
  pointwise []
  exact sup_step f N _ 256 _ hw hm

theorem max512 (w : FVec Ideal S512x256 .f32) (h1 h2 h3 h4) (hw : ∀ x : Fin 512, w (ix2 x r) = f (N + x.val)) (hm : m (ix2 0 r) = (Finset.range N).sup f) :
    maximumf m (shapeCast S1x256 (multiReduction .maximumf [0] S256 w 0xFF800000#32 h1 h2 h3) h4) (ix2 0 r) = (Finset.range (N + 512)).sup f := by
  pointwise []
  exact sup_step f N _ 512 _ hw hm

theorem max768 (w : FVec Ideal S768x256 .f32) (h1 h2 h3 h4) (hw : ∀ x : Fin 768, w (ix2 x r) = f (N + x.val)) (hm : m (ix2 0 r) = (Finset.range N).sup f) :
    maximumf m (shapeCast S1x256 (multiReduction .maximumf [0] S256 w 0xFF800000#32 h1 h2 h3) h4) (ix2 0 r) = (Finset.range (N + 768)).sup f := by
  pointwise []
  exact sup_step f N _ 768 _ hw hm

theorem max1024 (w : FVec Ideal S1024x256 .f32) (h1 h2 h3 h4) (hw : ∀ x : Fin 1024, w (ix2 x r) = f (N + x.val)) (hm : m (ix2 0 r) = (Finset.range N).sup f) :
    maximumf m (shapeCast S1x256 (multiReduction .maximumf [0] S256 w 0xFF800000#32 h1 h2 h3) h4) (ix2 0 r) = (Finset.range (N + 1024)).sup f := by
  pointwise []
  exact sup_step f N _ 1024 _ hw hm

theorem cast256 (w : FVec Ideal S256x256 .f32) (h) (x : Fin 256) : shapeCast S1x256x256 w h (ix3 0 x r) = w (ix2 x r) := by pointwise []
theorem cast512 (w : FVec Ideal S512x256 .f32) (h) (x : Fin 512) : shapeCast S1x512x256 w h (ix3 0 x r) = w (ix2 x r) := by pointwise []
theorem cast768 (w : FVec Ideal S768x256 .f32) (h) (x : Fin 768) : shapeCast S1x768x256 w h (ix3 0 x r) = w (ix2 x r) := by pointwise []
theorem cast1024 (w : FVec Ideal S1024x256 .f32) (h) (x : Fin 1024) : shapeCast S1x1024x256 w h (ix3 0 x r) = w (ix2 x r) := by pointwise []
end

end Cert.KernelIdeal.Body

end
-- ==== Proof.Pass1.lean ====
/- The first pass: the buffer of scores and the rows of maxima it leaves. -/
module

public import proofs.«01_k».proof.Proof.BodyRun
public import proofs.«01_k».proof.Proof.Scores
public import Idealize.ShloMosaic.Lib.Pointwise
public import Idealize.ShloMosaic.Lib.Pipeline.ValueKit.Acc

@[expose] public section

noncomputable section

namespace Cert.KernelIdeal.Body

open Cert.KernelIdeal Idealize.ShloMosaic Idealize.ShloMosaic.TcCoe Idealize.SL.Sem
open Idealize.ShloMosaic.VecWindow (window put)

variable [Facts]
open Facts Facts₀ Shapes1.Facts₀ K0.R1.Facts₀ K0.R2.Facts₀

variable (K : S1x4096x256.Idx → Elt Ideal .bf16) (B : S4x16x256.Idx → Elt Ideal .f32) (q : FVec Ideal S256x256 .f32) (n : ℕ) (s : Fin 4 → Fin 256 → Fin 16 → EReal)

/-- The first `N` keys' scores of a head are in the buffer. -/
def Kept (S : S4x4096x256.Idx → Elt Ideal .f32) (hh : Fin 4) (N : ℕ) : Prop := ∀ (r : Fin 256) (p : Fin 4096), p.val < N → S (ix3 hh p r) = fs K q n s hh r p.val
/-- A row of maxima is the largest of the first `N` keys' scores. -/
def Top (m : FVec Ideal S1x256 .f32) (hh : Fin 4) (N : ℕ) : Prop := ∀ r : Fin 256, m (ix2 0 r) = (Finset.range N).sup (fs K q n s hh r)
/-- Both, for all four heads. -/
def Good (x : Four (FVec Ideal S1x256 .f32) × (S4x4096x256.Idx → Elt Ideal .f32)) (N : ℕ) : Prop := ∀ hh, Kept K q n s x.2 hh N ∧ Top K q n s (x.1.at hh) hh N

theorem store_own (S : S4x4096x256.Idx → Elt Ideal .f32) (hh : Fin 4) (g : BitVec 32) (hg : g.toNat < 4) (n' : ℕ) (W : (⟨3, ![1, n', 256]⟩ : Shape).Idx → EReal)
    (hW : ∀ (x : Fin n') (r : Fin 256), W (ix3 0 x r) = fs K q n s hh r (1024 * g.toNat + x.val)) (h : Kept K q n s S hh (1024 * g.toNat)) :
    Kept K q n s (put S ![hh.val, (rowW g).toNat, 0] ![1, n', 256] W) hh (1024 * g.toNat + n') := by
  intro r p hp
  have hr := rowW_le g hg
  by_cases hN : p.val < 1024 * g.toNat
  · refine (put3_not S _ W hh p r fun c => ?_).trans (h r p hN)
    have : (rowW g).toNat ≤ p.val := c.2.1.1
    omega
  · refine (put3 S _ W hh p r ⟨Nat.le_refl _, Nat.lt_succ_self _⟩ ⟨by show (rowW g).toNat ≤ p.val; omega, by show p.val < (rowW g).toNat + n'; omega⟩ ⟨Nat.zero_le _, by show r.val < 0 + 256; omega⟩).trans ?_
    refine (congrArg W (funext fun a => Fin.ext ?_)).trans ((hW ⟨p.val - 1024 * g.toNat, by omega⟩ r).trans (congrArg _ (by show 1024 * g.toNat + (p.val - 1024 * g.toNat) = p.val; omega)))
    match a with
    | 0 => show hh.val - hh.val = 0; omega
    | 1 => show p.val - (rowW g).toNat = p.val - 1024 * g.toNat; omega
    | 2 => rfl

theorem store_other (S : S4x4096x256.Idx → Elt Ideal .f32) (hh h' : Fin 4) (hne : h' ≠ hh) (o n' : ℕ) (W : (⟨3, ![1, n', 256]⟩ : Shape).Idx → EReal) (p : Fin 4096) (r : Fin 256) :
    put S ![h'.val, o, 0] ![1, n', 256] W (ix3 hh p r) = S (ix3 hh p r) := by
  refine put3_not S _ W hh p r fun c => hne (Fin.ext ?_)
  have : h'.val ≤ hh.val ∧ hh.val < h'.val + 1 := c.1
  omega

theorem good_four (N N' : ℕ) (step : Fin 4 → FVec Ideal S1x256 .f32 → (S4x4096x256.Idx → Elt Ideal .f32) → (S4x4096x256.Idx → Elt Ideal .f32))
    (val : Fin 4 → FVec Ideal S1x256 .f32 → (S4x4096x256.Idx → Elt Ideal .f32) → FVec Ideal S1x256 .f32)
    (hown : ∀ hh m S, Kept K q n s S hh N → Kept K q n s (step hh m S) hh N')
    (hoth : ∀ hh h' m S p r, h' ≠ hh → step h' m S (ix3 hh p r) = S (ix3 hh p r))
    (hval : ∀ hh m S, Top K q n s m hh N → Top K q n s (val hh m S) hh N') (m : Four (FVec Ideal S1x256 .f32)) (S : S4x4096x256.Idx → Elt Ideal .f32)
    (h : Good K q n s (m, S) N) : Good K q n s (four step val m S) N' := by
  have hk : ∀ hh h' m S M, h' ≠ hh → Kept K q n s S hh M → Kept K q n s (step h' m S) hh M :=
    fun hh h' m S M hne hS r p hp => (hoth hh h' m S p r hne).trans (hS r p hp)
  intro hh
  obtain ⟨a, b⟩ := h hh
  match hh with
  | 0 => exact ⟨hk _ _ _ _ _ (by decide) (hk _ _ _ _ _ (by decide) (hk _ _ _ _ _ (by decide) (hown _ _ _ a))), hval _ _ _ b⟩
  | 1 => exact ⟨hk _ _ _ _ _ (by decide) (hk _ _ _ _ _ (by decide) (hown _ _ _ (hk _ _ _ _ _ (by decide) a))), hval _ _ _ b⟩
  | 2 => exact ⟨hk _ _ _ _ _ (by decide) (hown _ _ _ (hk _ _ _ _ _ (by decide) (hk _ _ _ _ _ (by decide) a))), hval _ _ _ b⟩
  | 3 => exact ⟨hown _ _ _ (hk _ _ _ _ _ (by decide) (hk _ _ _ _ _ (by decide) (hk _ _ _ _ _ (by decide) a))), hval _ _ _ b⟩

section
variable (hB : ∀ hh m r, B (ix3 hh m r) = Scalar.select (Attn.flag (s hh r) n m) 0 (⊥ : EReal)) (g : BitVec 32) (hg : g.toNat < 4)
  (m : Four (FVec Ideal S1x256 .f32)) (S : S4x4096x256.Idx → Elt Ideal .f32) (hG : Good K q n s (m, S) (1024 * g.toNat))
include hB hG

theorem good_group (h : 4 * g.toNat + 4 ≤ n) :
    Good K q n s (four (fun hh m S => grpT K B g hg (headQ q hh) hh S) (fun hh m S => grpM K B g hg (headQ q hh) hh m) m S) (1024 * g.toNat + 1024) :=
  good_four K q n s _ _ _ _ (fun hh m S => store_own K q n s S hh g hg 1024 _ fun x r => (cast1024 r _ _ x).trans (group_at K B q n s hB g hg hh r h x))
    (fun hh h' m S p r hne => store_other S hh h' hne _ 1024 _ p r)
    (fun hh m S hm r => max1024 m _ _ r _ _ _ _ _ (fun x => group_at K B q n s hB g hg hh r h x) (hm r)) m S hG

theorem good_own1 (h : 4 * g.toNat + 0 = n) :
    Good K q n s (four (fun hh m S => ow1T K g hg (headQ q hh) hh S) (fun hh m S => ow1M K g hg (headQ q hh) hh m) m S) (1024 * g.toNat + 256) :=
  good_four K q n s _ _ _ _ (fun hh m S => store_own K q n s S hh g hg 256 _ fun x r => (cast256 r _ _ x).trans (own1_at K B q n s hB g hg hh r h x))
    (fun hh h' m S p r hne => store_other S hh h' hne _ 256 _ p r)
    (fun hh m S hm r => max256 m _ _ r _ _ _ _ _ (fun x => own1_at K B q n s hB g hg hh r h x) (hm r)) m S hG

theorem good_own2 (h : 4 * g.toNat + 1 = n) :
    Good K q n s (four (fun hh m S => ow2T K B g hg (headQ q hh) hh S) (fun hh m S => ow2M K B g hg (headQ q hh) hh m) m S) (1024 * g.toNat + 512) :=
  good_four K q n s _ _ _ _ (fun hh m S => store_own K q n s S hh g hg 512 _ fun x r => (cast512 r _ _ x).trans (own2_at K B q n s hB g hg hh r h x))
    (fun hh h' m S p r hne => store_other S hh h' hne _ 512 _ p r)
    (fun hh m S hm r => max512 m _ _ r _ _ _ _ _ (fun x => own2_at K B q n s hB g hg hh r h x) (hm r)) m S hG

theorem good_own3 (h : 4 * g.toNat + 2 = n) :
    Good K q n s (four (fun hh m S => ow3T K B g hg (headQ q hh) hh S) (fun hh m S => ow3M K B g hg (headQ q hh) hh m) m S) (1024 * g.toNat + 768) :=
  good_four K q n s _ _ _ _ (fun hh m S => store_own K q n s S hh g hg 768 _ fun x r => (cast768 r _ _ x).trans (own3_at K B q n s hB g hg hh r h x))
    (fun hh h' m S p r hne => store_other S hh h' hne _ 768 _ p r)
    (fun hh m S hm r => max768 m _ _ r _ _ _ _ _ (fun x => own3_at K B q n s hB g hg hh r h x) (hm r)) m S hG

theorem good_own4 (h : 4 * g.toNat + 3 = n) :
    Good K q n s (four (fun hh m S => ow4T K B g hg (headQ q hh) hh S) (fun hh m S => ow4M K B g hg (headQ q hh) hh m) m S) (1024 * g.toNat + 1024) :=
  good_four K q n s _ _ _ _ (fun hh m S => store_own K q n s S hh g hg 1024 _ fun x r => (cast1024 r _ _ x).trans (own4_at K B q n s hB g hg hh r h x))
    (fun hh h' m S p r hne => store_other S hh h' hne _ 1024 _ p r)
    (fun hh m S hm r => max1024 m _ _ r _ _ _ _ _ (fun x => own4_at K B q n s hB g hg hh r h x) (hm r)) m S hG
end

/-- A grid point with a given query block. -/
def atBlock (n : Fin 16) : grid0.Coords
  | 0 => ⟨0, by decide⟩
  | 1 => ⟨0, by decide⟩
  | 2 => n

theorem cond5_iff (i : grid0.Coords) : k0_cond5 i = 1#1 ↔ (i 2).val % 4 ≠ 0 :=
  (by decide +kernel : ∀ n : Fin 16, k0_cond5 (atBlock n) = 1#1 ↔ n.val % 4 ≠ 0) (i 2)
theorem cond6_iff (i : grid0.Coords) : k0_cond6 i = 1#1 ↔ (i 2).val % 4 ≠ 0 ∧ (i 2).val % 4 ≠ 1 ∨ (i 2).val % 4 = 0 ∧ k0_cond6 (atBlock 0) = 1#1 :=
  (by decide +kernel : ∀ n : Fin 16, k0_cond6 (atBlock n) = 1#1 ↔ n.val % 4 ≠ 0 ∧ n.val % 4 ≠ 1 ∨ n.val % 4 = 0 ∧ k0_cond6 (atBlock 0) = 1#1) (i 2)
theorem cond7_of (i : grid0.Coords) (h : (i 2).val % 4 = 2) : ¬ k0_cond7 i = 1#1 :=
  (by decide +kernel : ∀ n : Fin 16, n.val % 4 = 2 → ¬ k0_cond7 (atBlock n) = 1#1) (i 2) h
theorem cond7_of' (i : grid0.Coords) (h : (i 2).val % 4 = 3) : k0_cond7 i = 1#1 :=
  (by decide +kernel : ∀ n : Fin 16, n.val % 4 = 3 → k0_cond7 (atBlock n) = 1#1) (i 2) h
theorem cond8_eq (i : grid0.Coords) : k0_cond8 i = k0_cond5 i := rfl
theorem cond9_eq (i : grid0.Coords) : k0_cond9 i = k0_cond6 i := rfl
theorem cond10_eq (i : grid0.Coords) : k0_cond10 i = k0_cond7 i := rfl

theorem upTo_none {k : Nat} {σ : Type} (step : Fin k → σ → σ) (x : σ) (t : Nat) (h : t = 0) : upTo step x t = x := by
  subst h; rfl

/-- After the first pass the buffer holds the scores of every key up to the query block's end, and the rows of maxima are their largest. -/
theorem pass1_good (i : grid0.Coords) (Q4 : S1x256x256.Idx → Elt Ideal .f32) (S : S4x4096x256.Idx → Elt Ideal .f32)
    (hB : ∀ hh m r, B (ix3 hh m r) = Scalar.select (Attn.flag (s hh r) (i 2).val m) 0 (⊥ : EReal)) :
    Good K (queriesOf Q4) (i 2).val s (pass1 i K B S Q4) (256 * ((i 2).val + 1)) := by
  have h2 : (i 2).val < 16 := (i 2).2
  have h0 : Good K (queriesOf Q4) (i 2).val s ((noMax, noMax, noMax, noMax), S) (1024 * 0) := by
    intro hh
    refine ⟨fun r p hp => absurd hp (by omega), fun r => ?_⟩
    match hh with
    | 0 => rfl
    | 1 => rfl
    | 2 => rfl
    | 3 => rfl
  have hl : ∀ k, k ≤ (k0_t1_loop i).trips → Good K (queriesOf Q4) (i 2).val s (upTo (trip1Step K B i (queriesOf Q4)) ((noMax, noMax, noMax, noMax), S) k) (1024 * k) := by
    intro k
    induction k with
    | zero => exact fun _ => h0
    | succ k ih =>
      intro hk
      have hk' : k < (k0_t1_loop i).trips := hk
      have e := upTo_succ (trip1Step K B i (queriesOf Q4)) ((noMax, noMax, noMax, noMax), S) ⟨k, hk'⟩
      have hb : k < (i 2).val / 4 := lt_of_lt_of_eq hk' (trips1 i)
      have ht : (trip1 i ⟨k, hk'⟩).toNat = k := trip1_toNat i ⟨k, hk'⟩
      dsimp only at e
      rw [e]
      have := good_group K B (queriesOf Q4) (i 2).val s hB (trip1 i ⟨k, hk'⟩) (trip1_lt i ⟨k, hk'⟩)
        (upTo (trip1Step K B i (queriesOf Q4)) ((noMax, noMax, noMax, noMax), S) k).1 (upTo (trip1Step K B i (queriesOf Q4)) ((noMax, noMax, noMax, noMax), S) k).2
        (by rw [ht]; exact ih (by omega)) (by omega)
      rw [ht] at this
      exact this
  have hw := ownW_toNat i
  have ht : (ownW i).toNat = (k0_t1_loop i).trips := hw.trans (trips1 i).symm
  have hx : Good K (queriesOf Q4) (i 2).val s (scores1 K B i (queriesOf Q4) S) (1024 * (ownW i).toNat) := by
    have h1 := hl _ (Nat.le_refl _)
    rw [ht]
    exact h1
  have hy : scores2 K B i (queriesOf Q4) (scores1 K B i (queriesOf Q4) S).1 (scores1 K B i (queriesOf Q4) S).2 = scores1 K B i (queriesOf Q4) S :=
    upTo_none _ _ _ (trips2 i)
  unfold pass1
  dsimp only
  rw [hy]
  unfold scoresOwn
  have c5 := cond5_iff i
  have c6 := cond6_iff i
  split_ifs with a b c
  · have hn : (i 2).val % 4 = 3 := by
      by_contra hc
      rcases c6.mp b with d | d
      · exact cond7_of i (by omega) c
      · exact c5.mp a d.1
    have e : 256 * ((i 2).val + 1) = 1024 * (ownW i).toNat + 1024 := by omega
    rw [e]
    exact good_own4 K B (queriesOf Q4) (i 2).val s hB (ownW i) (ownW_lt i) _ _ hx (by omega)
  · have hn : (i 2).val % 4 = 2 := by
      by_contra hc
      rcases c6.mp b with d | d
      · exact c (cond7_of' i (by omega))
      · exact c5.mp a d.1
    have e : 256 * ((i 2).val + 1) = 1024 * (ownW i).toNat + 768 := by omega
    rw [e]
    exact good_own3 K B (queriesOf Q4) (i 2).val s hB (ownW i) (ownW_lt i) _ _ hx (by omega)
  · have hn : (i 2).val % 4 = 1 := by
      have := c5.mp a
      by_contra hc
      exact b (c6.mpr (.inl ⟨by omega, by omega⟩))
    have e : 256 * ((i 2).val + 1) = 1024 * (ownW i).toNat + 512 := by omega
    rw [e]
    exact good_own2 K B (queriesOf Q4) (i 2).val s hB (ownW i) (ownW_lt i) _ _ hx (by omega)
  · have hn : (i 2).val % 4 = 0 := by
      by_contra hc
      exact a (c5.mpr hc)
    have e : 256 * ((i 2).val + 1) = 1024 * (ownW i).toNat + 256 := by omega
    rw [e]
    exact good_own1 K B (queriesOf Q4) (i 2).val s hB (ownW i) (ownW_lt i) _ _ hx (by omega)

end Cert.KernelIdeal.Body

end
-- ==== Proof.Pass2.lean ====
/- The second pass, and the output block of a step. -/
module

public import proofs.«01_k».proof.Proof.BodyRun
public import proofs.«01_k».proof.Proof.Pass1
public import Idealize.ShloMosaic.Lib.Pointwise
public import Idealize.ShloMosaic.Lib.Pipeline.ValueKit.Acc

@[expose] public section

noncomputable section

namespace Cert.KernelIdeal.Body

open Cert.KernelIdeal Idealize.ShloMosaic Idealize.ShloMosaic.TcCoe Idealize.SL.Sem
open Idealize.ShloMosaic.VecWindow (window put)

variable [Facts]
open Facts Facts₀ Shapes1.Facts₀ K0.R1.Facts₀ K0.R2.Facts₀

variable (K : S1x4096x256.Idx → Elt Ideal .bf16) (q : FVec Ideal S256x256 .f32) (n : ℕ) (s : Fin 4 → Fin 256 → Fin 16 → EReal)
  (Y : S4x4x80x1024.Idx → Elt Ideal .bf16) (S : S4x4096x256.Idx → Elt Ideal .f32)

theorem weighOf1_at (sc : Vec Ideal S1x256x256 .f32) (v : Vec Ideal S1x1x80x256 .bf16) (m : FVec Ideal S1x256 .f32) (acc : FVec Ideal S80x256 .f32) (e : Fin 80) (r : Fin 256) :
    weighOf1 sc v m acc (ix2 e r) = acc (ix2 e r) + ∑ x : Fin 256, v (ix4 0 0 e x) * Ideal.exp2 (sc (ix3 0 x r) - m (ix2 0 r)) := by
  pointwise [weighOf1]
  rfl

theorem weighOf2_at (sc : Vec Ideal S1x512x256 .f32) (v : Vec Ideal S1x1x80x512 .bf16) (m : FVec Ideal S1x256 .f32) (acc : FVec Ideal S80x256 .f32) (e : Fin 80) (r : Fin 256) :
    weighOf2 sc v m acc (ix2 e r) = acc (ix2 e r) + ∑ x : Fin 512, v (ix4 0 0 e x) * Ideal.exp2 (sc (ix3 0 x r) - m (ix2 0 r)) := by
  pointwise [weighOf2]
  rfl

theorem weighOf3_at (sc : Vec Ideal S1x768x256 .f32) (v : Vec Ideal S1x1x80x768 .bf16) (m : FVec Ideal S1x256 .f32) (acc : FVec Ideal S80x256 .f32) (e : Fin 80) (r : Fin 256) :
    weighOf3 sc v m acc (ix2 e r) = acc (ix2 e r) + ∑ x : Fin 768, v (ix4 0 0 e x) * Ideal.exp2 (sc (ix3 0 x r) - m (ix2 0 r)) := by
  pointwise [weighOf3]
  rfl

theorem weighOf4_at (sc : Vec Ideal S1x1024x256 .f32) (v : Vec Ideal S1x1x80x1024 .bf16) (m : FVec Ideal S1x256 .f32) (acc : FVec Ideal S80x256 .f32) (e : Fin 80) (r : Fin 256) :
    weighOf4 sc v m acc (ix2 e r) = acc (ix2 e r) + ∑ x : Fin 1024, v (ix4 0 0 e x) * Ideal.exp2 (sc (ix3 0 x r) - m (ix2 0 r)) := by
  pointwise [weighOf4]
  rfl

/-- The entry the bank of values keeps for a key: a coordinate of its value, or one. -/
def vv (hh : Fin 4) (e : Fin 80) (p : ℕ) : EReal := Y (ix4 (Fin.ofNat 4 (p / 1024)) hh e (Fin.ofNat 1024 p))

theorem scoresAt_at (n' : Nat) (hn : n' ≤ 1024) (g : BitVec 32) (hg : g.toNat < 4) (hh : Fin 4) (x : Fin n') (r : Fin 256) :
    scoresAt S n' hn g hg hh (ix3 0 x r) = S (ix3 hh ⟨1024 * g.toNat + x.val, by omega⟩ r) := by
  have hr := rowW_le g hg
  refine (window3 S _ _ 0 x r (by show hh.val + 0 < 4; omega) (by show (rowW g).toNat + x.val < 4096; omega) (by show 0 + r.val < 256; omega)).trans ?_
  refine congrArg S (funext fun a => Fin.ext ?_)
  match a with
  | 0 => rfl
  | 1 => show (rowW g).toNat + x.val = 1024 * g.toNat + x.val; omega
  | 2 => show 0 + r.val = r.val; omega

theorem valsAt_at (n' : Nat) (hn : n' ≤ 1024) (g : BitVec 32) (hg : g.toNat < 4) (hh : Fin 4) (e : Fin 80) (x : Fin n') :
    valsAt Y n' hn g hg hh (ix4 0 0 e x) = vv Y hh e (1024 * g.toNat + x.val) := by
  unfold vv
  refine (window4 Y _ _ 0 0 e x (by show g.toNat + 0 < 4; omega) (by show hh.val + 0 < 4; omega) (by show 0 + e.val < 80; omega) (by show 0 + x.val < 1024; omega)).trans ?_
  refine congrArg Y (funext fun a => Fin.ext ?_)
  match a with
  | 0 => show g.toNat + 0 = (1024 * g.toNat + x.val) / 1024 % 4; omega
  | 1 => rfl
  | 2 => show 0 + e.val = e.val; omega
  | 3 => show 0 + x.val = (1024 * g.toNat + x.val) % 1024; omega

/-- An accumulator holds the weighted values of the first `N` keys. -/
def Summed (m : FVec Ideal S1x256 .f32) (acc : FVec Ideal S80x256 .f32) (hh : Fin 4) (N : ℕ) : Prop :=
  ∀ (e : Fin 80) (r : Fin 256), acc (ix2 e r) = ∑ p ∈ Finset.range N, vv Y hh e p * Ideal.exp2 (fs K q n s hh r p - m (ix2 0 r))

theorem sum_step (n' : ℕ) (hn : n' ≤ 1024) (g : BitVec 32) (hg : g.toNat < 4) (hh : Fin 4) (e : Fin 80) (r : Fin 256) (m : FVec Ideal S1x256 .f32) (acc : FVec Ideal S80x256 .f32)
    (hS : Kept K q n s S hh (1024 * g.toNat + n')) (h : Summed K q n s Y m acc hh (1024 * g.toNat)) :
    acc (ix2 e r) + ∑ x : Fin n', valsAt Y n' hn g hg hh (ix4 0 0 e x) * Ideal.exp2 (scoresAt S n' hn g hg hh (ix3 0 x r) - m (ix2 0 r))
      = ∑ p ∈ Finset.range (1024 * g.toNat + n'), vv Y hh e p * Ideal.exp2 (fs K q n s hh r p - m (ix2 0 r)) := by
  rw [Finset.sum_range_add, h e r, Finset.sum_range (fun x => vv Y hh e (1024 * g.toNat + x) * Ideal.exp2 (fs K q n s hh r (1024 * g.toNat + x) - m (ix2 0 r)))]
  refine congrArg _ (Finset.sum_congr rfl fun x _ => ?_)
  rw [valsAt_at, scoresAt_at, hS r ⟨1024 * g.toNat + x.val, by omega⟩ (by show 1024 * g.toNat + x.val < _; omega)]

theorem wgh1_sum (g : BitVec 32) (hg : g.toNat < 4) (hh : Fin 4) (m : FVec Ideal S1x256 .f32) (acc : FVec Ideal S80x256 .f32)
    (hS : Kept K q n s S hh (1024 * g.toNat + 256)) (h : Summed K q n s Y m acc hh (1024 * g.toNat)) : Summed K q n s Y m (wgh1 Y S g hg m hh acc) hh (1024 * g.toNat + 256) :=
  fun e r => (weighOf1_at _ _ m acc e r).trans (sum_step K q n s Y S 256 _ g hg hh e r m acc hS h)

theorem wgh2_sum (g : BitVec 32) (hg : g.toNat < 4) (hh : Fin 4) (m : FVec Ideal S1x256 .f32) (acc : FVec Ideal S80x256 .f32)
    (hS : Kept K q n s S hh (1024 * g.toNat + 512)) (h : Summed K q n s Y m acc hh (1024 * g.toNat)) : Summed K q n s Y m (wgh2 Y S g hg m hh acc) hh (1024 * g.toNat + 512) :=
  fun e r => (weighOf2_at _ _ m acc e r).trans (sum_step K q n s Y S 512 _ g hg hh e r m acc hS h)

theorem wgh3_sum (g : BitVec 32) (hg : g.toNat < 4) (hh : Fin 4) (m : FVec Ideal S1x256 .f32) (acc : FVec Ideal S80x256 .f32)
    (hS : Kept K q n s S hh (1024 * g.toNat + 768)) (h : Summed K q n s Y m acc hh (1024 * g.toNat)) : Summed K q n s Y m (wgh3 Y S g hg m hh acc) hh (1024 * g.toNat + 768) :=
  fun e r => (weighOf3_at _ _ m acc e r).trans (sum_step K q n s Y S 768 _ g hg hh e r m acc hS h)

theorem wgh4_sum (g : BitVec 32) (hg : g.toNat < 4) (hh : Fin 4) (m : FVec Ideal S1x256 .f32) (acc : FVec Ideal S80x256 .f32)
    (hS : Kept K q n s S hh (1024 * g.toNat + 1024)) (h : Summed K q n s Y m acc hh (1024 * g.toNat)) : Summed K q n s Y m (wgh4 Y S g hg m hh acc) hh (1024 * g.toNat + 1024) :=
  fun e r => (weighOf4_at _ _ m acc e r).trans (sum_step K q n s Y S 1024 _ g hg hh e r m acc hS h)

theorem four_at (f : Fin 4 → FVec Ideal S80x256 .f32 → FVec Ideal S80x256 .f32) (acc : Four (FVec Ideal S80x256 .f32)) (hh : Fin 4) :
    (fourAcc f acc).at hh = f hh (acc.at hh) := by
  match hh with
  | 0 => rfl
  | 1 => rfl
  | 2 => rfl
  | 3 => rfl

/-- After the second pass each head's accumulator holds the weighted values of every key up to the query block's end. -/
theorem pass2_sum (i : grid0.Coords) (m : Four (FVec Ideal S1x256 .f32)) (hn : n = (i 2).val) (hS : ∀ hh, Kept K q n s S hh (256 * (n + 1))) (hh : Fin 4) :
    Summed K q n s Y (m.at hh) ((weighedOwn Y S i m (weighed2 Y S i m (weighed1 Y S i m))).at hh) hh (256 * (n + 1)) := by
  have h2 : (i 2).val < 16 := (i 2).2
  have mono : ∀ N, N ≤ 256 * (n + 1) → Kept K q n s S hh N := fun N h r p hp => hS hh r p (by omega)
  have h0 : Summed K q n s Y (m.at hh) (Four.at (noAcc, noAcc, noAcc, noAcc) hh) hh (1024 * 0) := by
    intro e r
    refine Eq.trans ?_ (Finset.sum_range_zero _).symm
    have hz : ∀ j, (noAcc : FVec Ideal S80x256 .f32) j = 0 := fun j => by
      unfold noAcc
      exact Ideal.ofBits_zero_f32
    match hh with
    | 0 => exact hz (ix2 e r)
    | 1 => exact hz (ix2 e r)
    | 2 => exact hz (ix2 e r)
    | 3 => exact hz (ix2 e r)
  have hl : ∀ k, k ≤ (k0_t3_loop i).trips → Summed K q n s Y (m.at hh) ((upTo (trip3Step Y S i m) ((noAcc, noAcc, noAcc, noAcc), ()) k).1.at hh) hh (1024 * k) := by
    intro k
    induction k with
    | zero => exact fun _ => h0
    | succ k ih =>
      intro hk
      have hk' : k < (k0_t3_loop i).trips := hk
      have e := upTo_succ (trip3Step Y S i m) ((noAcc, noAcc, noAcc, noAcc), ()) ⟨k, hk'⟩
      have hb : k < (i 2).val / 4 := lt_of_lt_of_eq hk' (trips3 i)
      have ht : (trip3 i ⟨k, hk'⟩).toNat = k := trip3_toNat i ⟨k, hk'⟩
      dsimp only at e
      rw [e]
      have := wgh4_sum K q n s Y S (trip3 i ⟨k, hk'⟩) (trip3_lt i ⟨k, hk'⟩) hh (m.at hh)
        ((upTo (trip3Step Y S i m) ((noAcc, noAcc, noAcc, noAcc), ()) k).1.at hh) (mono _ (by omega)) (by rw [ht]; exact ih (by omega))
      rw [ht] at this
      have ef : ((trip3Step Y S i m ⟨k, hk'⟩ (upTo (trip3Step Y S i m) ((noAcc, noAcc, noAcc, noAcc), ()) k)).1.at hh)
          = wgh4 Y S (trip3 i ⟨k, hk'⟩) (trip3_lt i ⟨k, hk'⟩) (m.at hh) hh ((upTo (trip3Step Y S i m) ((noAcc, noAcc, noAcc, noAcc), ()) k).1.at hh) := by
        match hh with
        | 0 => rfl
        | 1 => rfl
        | 2 => rfl
        | 3 => rfl
      rw [ef]
      exact this
  have hw := ownW_toNat i
  have ht : (ownW i).toNat = (k0_t3_loop i).trips := hw.trans (trips3 i).symm
  have hy : weighed2 Y S i m (weighed1 Y S i m) = weighed1 Y S i m :=
    congrArg Prod.fst (upTo_none (trip4Step Y S i m) (weighed1 Y S i m, ()) _ (trips4 i))
  have hx : Summed K q n s Y (m.at hh) ((weighed1 Y S i m).at hh) hh (1024 * (ownW i).toNat) := by
    have h1 := hl _ (Nat.le_refl _)
    rw [ht]
    exact h1
  rw [hy]
  unfold weighedOwn
  rw [cond8_eq, cond9_eq, cond10_eq]
  have c5 := cond5_iff i
  have c6 := cond6_iff i
  split_ifs with a b c
  · have hn : (i 2).val % 4 = 3 := by
      by_contra hc
      rcases c6.mp b with d | d
      · exact cond7_of i (by omega) c
      · exact c5.mp a d.1
    have e : 256 * (n + 1) = 1024 * (ownW i).toNat + 1024 := by omega
    rw [four_at, e]
    exact wgh4_sum K q n s Y S (ownW i) (ownW_lt i) hh _ _ (mono _ (by omega)) hx
  · have hn : (i 2).val % 4 = 2 := by
      by_contra hc
      rcases c6.mp b with d | d
      · exact c (cond7_of' i (by omega))
      · exact c5.mp a d.1
    have e : 256 * (n + 1) = 1024 * (ownW i).toNat + 768 := by omega
    rw [four_at, e]
    exact wgh3_sum K q n s Y S (ownW i) (ownW_lt i) hh _ _ (mono _ (by omega)) hx
  · have hn : (i 2).val % 4 = 1 := by
      have := c5.mp a
      by_contra hc
      exact b (c6.mpr (.inl ⟨by omega, by omega⟩))
    have e : 256 * (n + 1) = 1024 * (ownW i).toNat + 512 := by omega
    rw [four_at, e]
    exact wgh2_sum K q n s Y S (ownW i) (ownW_lt i) hh _ _ (mono _ (by omega)) hx
  · have hn : (i 2).val % 4 = 0 := by
      by_contra hc
      exact a (c5.mpr hc)
    have e : 256 * (n + 1) = 1024 * (ownW i).toNat + 256 := by omega
    rw [four_at, e]
    exact wgh1_sum K q n s Y S (ownW i) (ownW_lt i) hh _ _ (mono _ (by omega)) hx

theorem cast256' (w : FVec Ideal S256x256 .bf16) (h) (r x : Fin 256) : shapeCast S1x256x256 w h (ix3 0 r x) = w (ix2 r x) := by pointwise []

/-- The output block of a step, from its queries, its keys, the block means and the bank of values. -/
theorem outOf_at (i : grid0.Coords) (Q4 : S1x256x256.Idx → Elt Ideal .f32) (KT VT : S1x256x4096.Idx → Elt Ideal .f32) (X : S4x16x64.Idx → Elt Ideal .f32) (B : S4x16x256.Idx → Elt Ideal .f32)
    (km : Fin 4 → Fin 16 → Fin 64 → EReal) (vf : Fin 4 → Fin 64 → ℕ → EReal)
    (hX : ∀ hh m d, kmNow KT i X (ix3 hh m d) = km hh m d)
    (hY : ∀ (hh g : Fin 4) (e : Fin 64) (p : Fin 1024), vbNow VT i Y (ix4 g hh ⟨e.val, by omega⟩ p) = vf hh e (g.val * 1024 + p.val))
    (hO : ∀ (hh g : Fin 4) (p : Fin 1024), vbNow VT i Y (ix4 g hh 64 p) = (1 : EReal))
    (hh : Fin 4) (d : Fin 64) (r : Fin 256) :
    outOf i K B Y S Q4 KT VT X (ix3 0 r ⟨hh.val * 64 + d.val, by omega⟩)
      = Attn.out (Attn.tsc (Attn.blk (fun d => Q4 (ix3 0 ⟨hh.val * 64 + d.val, by omega⟩ r)) (km hh) (i 2).val) (fun d => Q4 (ix3 0 ⟨hh.val * 64 + d.val, by omega⟩ r)) (kv K hh) (i 2).val r.val) (vf hh d) := by
  have h2 : (i 2).val < 16 := (i 2).2
  rw [← Attn.kout_eq _ _ _ _ _ _ h2 r.2]
  have hq : ∀ (hh : Fin 4) (r : Fin 256), qv (queriesOf Q4) hh r = fun d => Q4 (ix3 0 ⟨hh.val * 64 + d.val, by omega⟩ r) := fun hh r => funext fun d => queries_at Q4 _ r
  have hB : ∀ hh m r, selected i (queriesOf Q4) (kmNow KT i X) B (ix3 hh m r)
      = Scalar.select (Attn.flag (Attn.blk (qv (queriesOf Q4) hh r) (km hh) (i 2).val) (i 2).val m) 0 (⊥ : EReal) := by
    intro hh m r
    rw [selected_at]
    simp only [hX]
    rfl
  have hG := pass1_good K (selected i (queriesOf Q4) (kmNow KT i X) B) (fun hh r => Attn.blk (qv (queriesOf Q4) hh r) (km hh) (i 2).val) i Q4 S hB
  have hP := pass2_sum K (queriesOf Q4) (i 2).val _ (vbNow VT i Y) (pass1 i K (selected i (queriesOf Q4) (kmNow KT i X) B) S Q4).2 i
    (pass1 i K (selected i (queriesOf Q4) (kmNow KT i X) B) S Q4).1 rfl (fun hh => (hG hh).1) hh
  have hT := (hG hh).2 r
  unfold outOf pass2
  dsimp only
  rw [cast256', outBlock_at, hP ⟨d.val, by omega⟩ r, hP 64 r, hT]
  unfold Attn.kout
  have hf : ∀ p, fs K (queriesOf Q4) (i 2).val (fun hh r => Attn.blk (qv (queriesOf Q4) hh r) (km hh) (i 2).val) hh r p
      = Attn.ksc (Attn.blk (fun d => Q4 (ix3 0 ⟨hh.val * 64 + d.val, by omega⟩ r)) (km hh) (i 2).val) (fun d => Q4 (ix3 0 ⟨hh.val * 64 + d.val, by omega⟩ r)) (kv K hh) (i 2).val r.val p := by
    intro p
    unfold fs
    simp only [hq]
  have hf' := funext hf
  rw [hf']
  refine congrArg₂ Ideal.div (Finset.sum_congr rfl fun p hp => ?_) (Finset.sum_congr rfl fun p hp => ?_)
  · have hp' : p < 4096 := by have := Finset.mem_range.mp hp; omega
    refine congrArg (· * _) ((hY hh (Fin.ofNat 4 (p / 1024)) d (Fin.ofNat 1024 p)).trans (congrArg (vf hh d) ?_))
    show p / 1024 % 4 * 1024 + p % 1024 = p
    omega
  · exact congrArg (· * _) (hO hh _ _)

end Cert.KernelIdeal.Body

end
-- ==== Proof.Ref.lean ====
/- The reference's term, its stages named. -/
module

public import proofs.«01_k».proof.Proof.Gen.ReferenceIdeal.Run
public import Idealize.ShloMosaic.Lib.Pointwise
public import Idealize.ShloMosaic.Lib.Pipeline.Regions

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo

/-- Queries, keys or values as the call takes them. -/
abbrev Arg := FVec Ideal S4x8x4096x64 .f32

/-- Heads in blocks of rows. -/
def inBlocks (x : Arg) : FVec Ideal S32x16x256x64 .f32 := shapeCast S32x16x256x64 x shapeCasts_S4x8x4096x64_S32x16x256x64
/-- Heads row by row. -/
def inRows (x : Arg) : FVec Ideal S32x4096x64 .f32 := shapeCast S32x4096x64 x shapeCasts_S4x8x4096x64_S32x4096x64

/-- Block means. -/
def kMean (k : Arg) : FVec Ideal S32x16x64 .f32 :=
  Host.divf (Host.reduceAdd (inBlocks k) (constant S_ .f32 0x00000000#32) reducesTo_S32x16x256x64_S32x16x64_d2 h_S_)
    (broadcastInDim S32x16x64 ![] bcast_S_S32x16x64 (constant S_ .f32 0x43800000#32))

/-- Key block before query block. -/
def past : IVec S16x16 1 :=
  cmpi .slt (broadcastInDim S16x16 ![0, 1] bcast_S1x16_S16x16_0_1 (broadcastInDim S1x16 ![1] bcast_S16_S1x16_1 (iotaInDim S16 32 0)))
    (broadcastInDim S16x16 ![0, 1] bcast_S16x1_S16x16_0_1 (broadcastInDim S16x1 ![0] bcast_S16_S16x1_0 (iotaInDim S16 32 0)))

/-- Block scores, past blocks only. -/
def blkScores (q k : Arg) : FVec Ideal S32x16x256x16 .f32 :=
  select (broadcastInDim S32x16x256x16 ![1, 2, 3] bcast_S16x1x16_S32x16x256x16_1_2_3 (broadcastInDim S16x1x16 ![0, 2] bcast_S16x16_S16x1x16_0_2 past))
    (Host.dotGeneral dot_S32x16x256x64_S32x16x64_S32x16x256x16_3_2_12_1_0_0 none (inBlocks q) (kMean k))
    (broadcastInDim S32x16x256x16 ![] bcast_S_S32x16x256x16 (id (constant S_ .f32 0xFF800000#32)))

/-- One block's score against another's. -/
def beats (s : FVec Ideal S32x16x256x16 .f32) : IVec S32x16x256x16x16 1 :=
  ori (cmpf .ogt (broadcastInDim S32x16x256x16x16 ![0, 1, 2, 3, 4] bcast_S32x16x256x16x1_S32x16x256x16x16_0_1_2_3_4 (broadcastInDim S32x16x256x16x1 ![0, 1, 2, 3] bcast_S32x16x256x16_S32x16x256x16x1_0_1_2_3 s))
      (broadcastInDim S32x16x256x16x16 ![0, 1, 2, 3, 4] bcast_S32x16x256x1x16_S32x16x256x16x16_0_1_2_3_4 (broadcastInDim S32x16x256x1x16 ![0, 1, 2, 4] bcast_S32x16x256x16_S32x16x256x1x16_0_1_2_4 s)))
    (andi (cmpf .oeq (broadcastInDim S32x16x256x16x16 ![0, 1, 2, 3, 4] bcast_S32x16x256x16x1_S32x16x256x16x16_0_1_2_3_4 (broadcastInDim S32x16x256x16x1 ![0, 1, 2, 3] bcast_S32x16x256x16_S32x16x256x16x1_0_1_2_3 s))
      (broadcastInDim S32x16x256x16x16 ![0, 1, 2, 3, 4] bcast_S32x16x256x1x16_S32x16x256x16x16_0_1_2_3_4 (broadcastInDim S32x16x256x1x16 ![0, 1, 2, 4] bcast_S32x16x256x16_S32x16x256x1x16_0_1_2_4 s)))
      (broadcastInDim S32x16x256x16x16 ![0, 1, 2, 3, 4] bcast_S1x1x1x16x16_S32x16x256x16x16_0_1_2_3_4 (broadcastInDim S1x1x1x16x16 ![3, 4] bcast_S16x16_S1x1x1x16x16_3_4
        (cmpi .slt (broadcastInDim S16x16 ![0, 1] bcast_S16x1_S16x16_0_1 (broadcastInDim S16x1 ![0] bcast_S16_S16x1_0 (iotaInDim S16 32 0)))
          (broadcastInDim S16x16 ![0, 1] bcast_S1x16_S16x16_0_1 (broadcastInDim S1x16 ![1] bcast_S16_S1x16_1 (iotaInDim S16 32 0)))))))

/-- How many blocks beat each. -/
def rank (s : FVec Ideal S32x16x256x16 .f32) : IVec S32x16x256x16 32 :=
  Host.reduce IntOp.addi (extui 32 (beats s) natLt_1_32) (constantI S_ 32 0#32) reducesTo_S32x16x256x16x16_S32x16x256x16_d3 h_S_

/-- The three best past blocks. -/
def chosen (s : FVec Ideal S32x16x256x16 .f32) : IVec S32x16x256x16 1 :=
  andi (cmpi .slt (rank s) (broadcastInDim S32x16x256x16 ![] bcast_S_S32x16x256x16 (constantI S_ 32 3#32)))
    (broadcastInDim S32x16x256x16 ![0, 1, 2, 3] bcast_S1x16x1x16_S32x16x256x16_0_1_2_3 (broadcastInDim S1x16x1x16 ![1, 2, 3] bcast_S16x1x16_S1x16x1x16_1_2_3 (broadcastInDim S16x1x16 ![0, 2] bcast_S16x16_S16x1x16_0_2 past)))

/-- Same block, not after. -/
def own : IVec S16x256x16x256 1 :=
  andi (broadcastInDim S16x256x16x256 ![0, 1, 2, 3] bcast_S16x1x16x1_S16x256x16x256_0_1_2_3 (broadcastInDim S16x1x16x1 ![0, 2] bcast_S16x16_S16x1x16x1_0_2
      (cmpi .eq (broadcastInDim S16x16 ![0, 1] bcast_S16x1_S16x16_0_1 (broadcastInDim S16x1 ![0] bcast_S16_S16x1_0 (iotaInDim S16 32 0)))
        (broadcastInDim S16x16 ![0, 1] bcast_S1x16_S16x16_0_1 (broadcastInDim S1x16 ![1] bcast_S16_S1x16_1 (iotaInDim S16 32 0))))))
    (broadcastInDim S16x256x16x256 ![0, 1, 2, 3] bcast_S1x256x1x256_S16x256x16x256_0_1_2_3 (broadcastInDim S1x256x1x256 ![1, 3] bcast_S256x256_S1x256x1x256_1_3
      (cmpi .sle (broadcastInDim S256x256 ![0, 1] bcast_S1x256_S256x256_0_1 (broadcastInDim S1x256 ![1] bcast_S256_S1x256_1 (iotaInDim S256 32 0)))
        (broadcastInDim S256x256 ![0, 1] bcast_S256x1_S256x256_0_1 (broadcastInDim S256x1 ![0] bcast_S256_S256x1_0 (iotaInDim S256 32 0))))))

/-- What a query sees. -/
def sees (s : FVec Ideal S32x16x256x16 .f32) : IVec S32x16x256x4096 1 :=
  shapeCast S32x16x256x4096 (ori (broadcastInDim S32x16x256x16x256 ![0, 1, 2, 3, 4] bcast_S32x16x256x16x1_S32x16x256x16x256_0_1_2_3_4 (broadcastInDim S32x16x256x16x1 ![0, 1, 2, 3] bcast_S32x16x256x16_S32x16x256x16x1_0_1_2_3 (chosen s)))
    (broadcastInDim S32x16x256x16x256 ![0, 1, 2, 3, 4] bcast_S1x16x256x16x256_S32x16x256x16x256_0_1_2_3_4 (broadcastInDim S1x16x256x16x256 ![1, 2, 3, 4] bcast_S16x256x16x256_S1x16x256x16x256_1_2_3_4 own)))
    shapeCasts_S32x16x256x16x256_S32x16x256x4096

/-- Masked scores. -/
def scores (q k : Arg) : FVec Ideal S32x16x256x4096 .f32 :=
  select (sees (blkScores q k))
    (Host.dotGeneral dot_S32x16x256x64_S32x4096x64_S32x16x256x4096_3_2_12_1_0_0 none (mulf (inBlocks q) (broadcastInDim S32x16x256x64 ![] bcast_S_S32x16x256x64 (constant S_ .f32 0x3E000000#32))) (inRows k))
    (broadcastInDim S32x16x256x4096 ![] bcast_S_S32x16x256x4096 (id (constant S_ .f32 0xFF800000#32)))

/-- The largest of a row. -/
def top (s : FVec Ideal S32x16x256x4096 .f32) : FVec Ideal S32x16x256 .f32 :=
  Host.reduce FloatOps.maximumf s (constant S_ .f32 0xFF800000#32) reducesTo_S32x16x256x4096_S32x16x256_d3 h_S_

/-- The exponentials from the largest. -/
def exps (s : FVec Ideal S32x16x256x4096 .f32) : FVec Ideal S32x16x256x4096 .f32 :=
  Host.exp (subf s (broadcastInDim S32x16x256x4096 ![0, 1, 2, 3] bcast_S32x16x256x1_S32x16x256x4096_0_1_2_3 (broadcastInDim S32x16x256x1 ![0, 1, 2] bcast_S32x16x256_S32x16x256x1_0_1_2 (top s))))

/-- The attention of every head. -/
def attended (e : FVec Ideal S32x16x256x4096 .f32) (v : Arg) : FVec Ideal S32x16x256x64 .f32 :=
  Host.divf (Host.dotGeneral dot_S32x16x256x4096_S32x4096x64_S32x16x256x64_3_1_12_2_0_0 none e (inRows v))
    (broadcastInDim S32x16x256x64 ![0, 1, 2, 3] bcast_S32x16x256x1_S32x16x256x64_0_1_2_3 (broadcastInDim S32x16x256x1 ![0, 1, 2] bcast_S32x16x256_S32x16x256x1_0_1_2
      (Host.reduceAdd e (constant S_ .f32 0x00000000#32) reducesTo_S32x16x256x4096_S32x16x256_d3 h_S_)))

/-- The result. -/
def result (q k v : Arg) : FVec Ideal S4x4096x512 .bf16 :=
  truncf .bf16 (shapeCast S4x4096x512 (transpose S4x4096x8x64 [0, 2, 1, 3] (shapeCast S4x8x4096x64 (attended (exps (scores q k)) v) shapeCasts_S32x16x256x64_S4x8x4096x64) transposes_S4x8x4096x64_S4x4096x8x64_0_2_1_3) shapeCasts_S4x4096x8x64_S4x4096x512) bitsLt_bf16_f32

theorem result_eq (m : (ℓ : Loc nD τ sig) → Buf (Elt Ideal) ℓ) (c : Dev nD) :
    (Value.res_main_v80 m c : S4x4096x512.Idx → EReal) = result (m ((c.tc : Thread nD τ).loc main_arg0)) (m ((c.tc : Thread nD τ).loc main_arg1)) (m ((c.tc : Thread nD τ).loc main_arg2)) := by
  chain_rfl

end Cert.ReferenceIdeal.Stages

end
-- ==== Proof.RefAt.lean ====
/- The reference read at an index: the attention of a query row. -/
module

public import proofs.«01_k».proof.Proof.Ref
public import proofs.«01_k».proof.Proof.Attn

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo

theorem top_at (s : FVec Ideal S32x16x256x4096 .f32) (z : Fin 32) (n : Fin 16) (r : Fin 256) : top s (ix3 z n r) = Finset.fold max (⊥ : EReal) (fun x : Fin 4096 => s (ix4 z n r x)) Finset.univ := by
  have hr : S32x16x256x4096.Reduces [3] S32x16x256 := by decide
  unfold top
  rw [Host.reduce_eq_fold_single FloatOps.maximumf s _ _ hr _]
  have e : s ∘ hr.lift (ix3 z n r) = fun x : Fin 4096 => s (ix4 z n r x) := by
    funext x
    refine congrArg s (funext fun a => ?_)
    match a with
    | 0 => rfl
    | 1 => rfl
    | 2 => rfl
    | 3 => rfl
  rw [e]
  show Finset.fold max (Ideal.ofBits FTy.f32 4286578688#32) _ _ = _
  rw [Attn.ofBits_ninf]
  rfl

theorem rank_at (s : FVec Ideal S32x16x256x16 .f32) (z : Fin 32) (n : Fin 16) (r : Fin 256) (m : Fin 16) :
    rank s (ix4 z n r m) = Finset.fold IntOp.addi 0#32 (fun x : Fin 16 => BitVec.setWidth 32 (beats s (ix5 z n r x m))) Finset.univ := by
  pointwise [rank]

theorem sees_at (s : FVec Ideal S32x16x256x16 .f32) (z : Fin 32) (n : Fin 16) (r : Fin 256) (m : Fin 16) (j : Fin 256) :
    sees s (ix4 z n r ⟨m.val * 256 + j.val, by omega⟩) = IntOp.ori (chosen s (ix4 z n r m)) (own (ix4 n r m j)) := by
  pointwise [sees]

theorem own_at (n : Fin 16) (r : Fin 256) (m : Fin 16) (j : Fin 256) :
    own (ix4 n r m j) = IntOp.andi (IntOp.cmpi .eq (BitVec.ofNat 32 n.val) (BitVec.ofNat 32 m.val)) (IntOp.cmpi .sle (BitVec.ofNat 32 j.val) (BitVec.ofNat 32 r.val)) := by
  pointwise [own]

theorem beats_at (s : FVec Ideal S32x16x256x16 .f32) (z : Fin 32) (n : Fin 16) (r : Fin 256) (a b : Fin 16) :
    beats s (ix5 z n r a b) = Attn.beat (fun m => s (ix4 z n r m)) a b := by
  pointwise [beats]
  rfl

theorem att_at (s : FVec Ideal S32x16x256x4096 .f32) (v : Arg) (z : Fin 32) (n : Fin 16) (r : Fin 256) (m : Fin 64) :
    attended s v (ix4 z n r m) = Ideal.div (∑ x : Fin 4096, s (ix4 z n r x) * inRows v (ix3 z x m)) (∑ x : Fin 4096, s (ix4 z n r x)) := by
  pointwise [attended]

theorem exps_at (s : FVec Ideal S32x16x256x4096 .f32) (z : Fin 32) (n : Fin 16) (r : Fin 256) (x : Fin 4096) :
    exps s (ix4 z n r x) = Ideal.exp (s (ix4 z n r x) - top s (ix3 z n r)) := by
  pointwise [exps]

theorem res_at (q k v : Arg) (b : Fin 4) (h : Fin 8) (n : Fin 16) (r : Fin 256) (d : Fin 64) :
    result q k v (ix3 b ⟨n.val * 256 + r.val, by omega⟩ ⟨h.val * 64 + d.val, by omega⟩) = attended (exps (scores q k)) v (ix4 ⟨b.val * 8 + h.val, by omega⟩ n r d) := by
  pointwise [result]

theorem kMean_at (k : Arg) (z : Fin 32) (n : Fin 16) (d : Fin 64) : kMean k (ix3 z n d) = Ideal.div (∑ x : Fin 256, inBlocks k (ix4 z n x d)) ((256 : ℝ) : EReal) := by
  rw [← Attn.ofBits_256]
  pointwise [kMean]

theorem blk_at (q k : Arg) (z : Fin 32) (n : Fin 16) (r : Fin 256) (m : Fin 16) :
    blkScores q k (ix4 z n r m) = Attn.blk (fun x => inBlocks q (ix4 z n r x)) (fun m x => kMean k (ix3 z m x)) n.val m := by
  unfold Attn.blk
  rw [← Attn.ofBits_ninf]
  pointwise [blkScores, past]
  rfl

theorem scores_at (q k : Arg) (z : Fin 32) (n : Fin 16) (r : Fin 256) (x : Fin 4096) :
    scores q k (ix4 z n r x) = Scalar.select (sees (blkScores q k) (ix4 z n r x)) (∑ d : Fin 64, inBlocks q (ix4 z n r d) * ((1 / 8 : ℝ) : EReal) * inRows k (ix3 z x d)) ⊥ := by
  rw [← Attn.ofBits_ninf, ← Attn.ofBits_8th]
  pointwise [scores]
  rfl

theorem chosen_at (s : FVec Ideal S32x16x256x16 .f32) (z : Fin 32) (n : Fin 16) (r : Fin 256) (m : Fin 16) :
    chosen s (ix4 z n r m) = Attn.isChosen (fun m => s (ix4 z n r m)) n.val m := by
  unfold Attn.isChosen Attn.rank
  simp only [← beats_at]
  rw [← rank_at]
  pointwise [chosen, past]

theorem inBlocks_at (q : Arg) (b : Fin 4) (h : Fin 8) (n : Fin 16) (r : Fin 256) (m : Fin 64) :
    inBlocks q (ix4 ⟨b.val * 8 + h.val, by omega⟩ n r m) = q (ix4 b h ⟨n.val * 256 + r.val, by omega⟩ m) := by
  pointwise [inBlocks]

theorem inRows_at (q : Arg) (b : Fin 4) (h : Fin 8) (n : Fin 4096) (m : Fin 64) :
    inRows q (ix3 ⟨b.val * 8 + h.val, by omega⟩ n m) = q (ix4 b h n m) := by
  pointwise [inRows]

/-! ## A head's rows -/

/-- A row of a head. -/
def row (x : Arg) (b : Fin 4) (h : Fin 8) (p : ℕ) (d : Fin 64) : EReal := x (ix4 b h (Fin.ofNat 4096 p) d)

/-- A head's block means. -/
def means (k : Arg) (b : Fin 4) (h : Fin 8) (m : Fin 16) (d : Fin 64) : EReal :=
  Ideal.div (∑ x : Fin 256, row k b h (m.val * 256 + x.val) d) ((256 : ℝ) : EReal)

/-- The attention of a query row. -/
def rowOut (q k v : Arg) (b : Fin 4) (h : Fin 8) (n : Fin 16) (r : Fin 256) (d : Fin 64) : EReal :=
  Attn.out (Attn.tsc (Attn.blk (row q b h (n.val * 256 + r.val)) (means k b h) n.val) (row q b h (n.val * 256 + r.val)) (row k b h) n.val r.val) (fun p => row v b h p d)

theorem ofNat_of {n : ℕ} [NeZero n] (p : ℕ) (h : p < n) : Fin.ofNat n p = ⟨p, h⟩ := Fin.ext (Nat.mod_eq_of_lt h)

theorem row_val (x : Arg) (b : Fin 4) (h : Fin 8) (p : Fin 4096) (d : Fin 64) : row x b h p.val d = x (ix4 b h p d) := by
  unfold row; rw [ofNat_of _ p.2]

theorem mask_at (s : FVec Ideal S32x16x256x16 .f32) (z : Fin 32) (n : Fin 16) (r : Fin 256) (x : Fin 4096) :
    sees s (ix4 z n r x) = Attn.mask (fun m => s (ix4 z n r m)) n.val r.val x.val := by
  have hx : x = ⟨(Attn.blkOf x.val).val * 256 + (⟨x.val % 256, by omega⟩ : Fin 256).val, by rw [Attn.blkOf_val _ x.2]; dsimp only; omega⟩ := by
    refine Fin.ext ?_
    show x.val = (Attn.blkOf x.val).val * 256 + x.val % 256
    rw [Attn.blkOf_val _ x.2]; omega
  unfold Attn.mask
  rw [← chosen_at, ← own_at n r (Attn.blkOf x.val) ⟨x.val % 256, by omega⟩, ← sees_at, ← hx]

theorem result_at (q k v : Arg) (b : Fin 4) (h : Fin 8) (n : Fin 16) (r : Fin 256) (d : Fin 64) :
    result q k v (ix3 b ⟨n.val * 256 + r.val, by omega⟩ ⟨h.val * 64 + d.val, by omega⟩) = rowOut q k v b h n r d := by
  have hq : (fun x => inBlocks q (ix4 ⟨b.val * 8 + h.val, by omega⟩ n r x)) = row q b h (n.val * 256 + r.val) := by
    funext x; rw [inBlocks_at]; unfold row; rw [ofNat_of _ (by omega)]
  have hm : (fun m x => kMean k (ix3 ⟨b.val * 8 + h.val, by omega⟩ m x)) = means k b h := by
    funext m x; rw [kMean_at]; unfold means
    congr 1
    refine Finset.sum_congr rfl fun j _ => ?_
    rw [inBlocks_at]; unfold row; rw [ofNat_of _ (by omega)]
  have ht : ∀ x : Fin 4096, scores q k (ix4 ⟨b.val * 8 + h.val, by omega⟩ n r x)
      = Attn.tsc (Attn.blk (row q b h (n.val * 256 + r.val)) (means k b h) n.val) (row q b h (n.val * 256 + r.val)) (row k b h) n.val r.val x.val := by
    intro x
    rw [scores_at, mask_at]
    unfold Attn.tsc
    have e : (fun m => blkScores q k (ix4 ⟨b.val * 8 + h.val, by omega⟩ n r m)) = Attn.blk (row q b h (n.val * 256 + r.val)) (means k b h) n.val := by
      funext m; rw [blk_at, hq, hm]
    rw [e]
    congr 1
    refine Finset.sum_congr rfl fun d _ => ?_
    rw [← hq, inRows_at]; unfold row; rw [ofNat_of _ x.2]
  rw [res_at, att_at]
  unfold rowOut Attn.out
  have htop : top (scores q k) (ix3 ⟨b.val * 8 + h.val, by omega⟩ n r)
      = (Finset.range 4096).sup (Attn.tsc (Attn.blk (row q b h (n.val * 256 + r.val)) (means k b h) n.val) (row q b h (n.val * 256 + r.val)) (row k b h) n.val r.val) := by
    rw [top_at, ← Attn.fold_max]
    exact congrArg (fun f => Finset.fold max (⊥ : EReal) f Finset.univ) (funext ht)
  rw [Finset.sum_range, Finset.sum_range]
  refine congrArg₂ Ideal.div ?_ ?_
  · refine Finset.sum_congr rfl fun x _ => ?_
    rw [exps_at, ht, htop, inRows_at]
    show _ = _ * row v b h x.val d
    rw [row_val]
  · refine Finset.sum_congr rfl fun x _ => ?_
    rw [exps_at, ht, htop]

end Cert.ReferenceIdeal.Stages

end
-- ==== Proof.StepValue.lean ====
/- A step's values: what its inputs' buffers hold of the arguments, what the kept scratch buffers hold, and the output block as a block of the reference's result. -/
module

public import proofs.«01_k».proof.Proof.Blocks
public import proofs.«01_k».proof.Proof.Pass2
public import proofs.«01_k».proof.Proof.RefAt

@[expose] public section

noncomputable section

namespace Cert.KernelIdeal.Body

open Idealize.ShloMosaic Idealize.ShloMosaic.TcCoe
open Idealize.ShloMosaic.Pipeline (Dat Cfg Window heldIn)
open Cert.KernelIdeal Cert.KernelIdeal.Gen
open Cert.ReferenceIdeal.Stages (row means rowOut result result_at)

variable (m : (ℓ : Loc nD τ sig) → Buf (Elt Ideal) ℓ)

/-- The queries, the keys and the values. -/
def argQ (c : Dev nD) : Cert.ReferenceIdeal.Stages.Arg := m ((c.tc : Thread nD τ).loc main_arg0)
def argK (c : Dev nD) : Cert.ReferenceIdeal.Stages.Arg := m ((c.tc : Thread nD τ).loc main_arg1)
def argV (c : Dev nD) : Cert.ReferenceIdeal.Stages.Arg := m ((c.tc : Thread nD τ).loc main_arg2)

/-- The windows' arrays as the host leaves them. -/
def arrs (c : Dev nD) : AllOf m c := fun w => V m c (Pipeline.arrRef spec0 w)

/-- The four inputs' buffers at a step. -/
def inQ (c : Dev nD) (t : Fin (cfgM m).N) : S1x256x256.Idx → Elt Ideal .f32 := heldIn (cfgM m) (arrs m c) (0 : Fin 6) t.val t.isLt
def inK (c : Dev nD) (t : Fin (cfgM m).N) : S1x4096x256.Idx → Elt Ideal .bf16 := heldIn (cfgM m) (arrs m c) (1 : Fin 6) t.val t.isLt
def inKT (c : Dev nD) (t : Fin (cfgM m).N) : S1x256x4096.Idx → Elt Ideal .f32 := heldIn (cfgM m) (arrs m c) (2 : Fin 6) t.val t.isLt
def inVT (c : Dev nD) (t : Fin (cfgM m).N) : S1x256x4096.Idx → Elt Ideal .f32 := heldIn (cfgM m) (arrs m c) (3 : Fin 6) t.val t.isLt

/-- A step's batch, half and block. -/
def bOf (i : grid0.Coords) : Fin 4 := i 0
def sOf (i : grid0.Coords) : Fin 2 := i 1
def nOf (i : grid0.Coords) : Fin 16 := i 2

/-- The head a half's row of heads stands for. -/
def headOf (s : Fin 2) (hh : Fin 4) : Fin 8 := ⟨s.val * 4 + hh.val, by omega⟩

theorem place0_at (i : grid0.Coords) (hh : Fin 4) (d : Fin 64) (r : Fin 256) :
    place0 ![(i 0).val, (i 1).val, (i 2).val] (ix3 0 ⟨hh.val * 64 + d.val, by omega⟩ r)
      = ix3 (bOf i) ⟨(headOf (sOf i) hh).val * 64 + d.val, by omega⟩ (Fin.ofNat 4096 ((nOf i).val * 256 + r.val)) := by
  have h0 : (i 0).val < 4 := (i 0).isLt
  have h1 : (i 1).val < 2 := (i 1).isLt
  funext a
  apply Fin.ext
  match a with
  | ⟨0, _⟩ => show ((i 0).val * 1 + 0) % 4 = (i 0).val; omega
  | ⟨1, _⟩ => show ((i 1).val * 256 + (hh.val * 64 + d.val)) % 512 = ((i 1).val * 4 + hh.val) * 64 + d.val; omega
  | ⟨2, _⟩ => rfl

theorem place2_at (i : grid0.Coords) (hh : Fin 4) (d : Fin 64) (p : Fin 4096) :
    place2 ![(i 0).val, (i 1).val, 0] (ix3 0 ⟨hh.val * 64 + d.val, by omega⟩ p) = ix3 (bOf i) ⟨(headOf (sOf i) hh).val * 64 + d.val, by omega⟩ p := by
  have h0 : (i 0).val < 4 := (i 0).isLt
  have h1 : (i 1).val < 2 := (i 1).isLt
  funext a
  apply Fin.ext
  match a with
  | ⟨0, _⟩ => show ((i 0).val * 1 + 0) % 4 = (i 0).val; omega
  | ⟨1, _⟩ => show ((i 1).val * 256 + (hh.val * 64 + d.val)) % 512 = ((i 1).val * 4 + hh.val) * 64 + d.val; omega
  | ⟨2, _⟩ => show (0 * 4096 + p.val) % 4096 = p.val; omega

theorem place3_at (i : grid0.Coords) (hh : Fin 4) (d : Fin 64) (p : Fin 4096) :
    place3 ![(i 0).val, (i 1).val, 0] (ix3 0 ⟨hh.val * 64 + d.val, by omega⟩ p) = ix3 (bOf i) ⟨(headOf (sOf i) hh).val * 64 + d.val, by omega⟩ p :=
  place2_at i hh d p

theorem place1_at (i : grid0.Coords) (hh : Fin 4) (d : Fin 64) (p : Fin 4096) :
    place1 ![(i 0).val, 0, (i 1).val] (ix3 0 p ⟨hh.val * 64 + d.val, by omega⟩) = ix3 (bOf i) p ⟨(headOf (sOf i) hh).val * 64 + d.val, by omega⟩ := by
  have h0 : (i 0).val < 4 := (i 0).isLt
  have h1 : (i 1).val < 2 := (i 1).isLt
  funext a
  apply Fin.ext
  match a with
  | ⟨0, _⟩ => show ((i 0).val * 1 + 0) % 4 = (i 0).val; omega
  | ⟨1, _⟩ => show (0 * 4096 + p.val) % 4096 = p.val; omega
  | ⟨2, _⟩ => show ((i 1).val * 256 + (hh.val * 64 + d.val)) % 512 = ((i 1).val * 4 + hh.val) * 64 + d.val; omega

theorem place4_at (i : grid0.Coords) (hh : Fin 4) (d : Fin 64) (r : Fin 256) :
    place4 ![(i 0).val, (i 2).val, (i 1).val] (ix3 0 r ⟨hh.val * 64 + d.val, by omega⟩)
      = ix3 (bOf i) ⟨(nOf i).val * 256 + r.val, by omega⟩ ⟨(headOf (sOf i) hh).val * 64 + d.val, by omega⟩ := by
  have h0 : (i 0).val < 4 := (i 0).isLt
  have h1 : (i 1).val < 2 := (i 1).isLt
  have h2 : (i 2).val < 16 := (i 2).isLt
  funext a
  apply Fin.ext
  match a with
  | ⟨0, _⟩ => show ((i 0).val * 1 + 0) % 4 = (i 0).val; omega
  | ⟨1, _⟩ => show ((i 2).val * 256 + r.val) % 4096 = (i 2).val * 256 + r.val; omega
  | ⟨2, _⟩ => show ((i 1).val * 256 + (hh.val * 64 + d.val)) % 512 = ((i 1).val * 4 + hh.val) * 64 + d.val; omega

theorem inQ_at (c : Dev nD) (t : Fin (cfgM m).N) (hh : Fin 4) (d : Fin 64) (r : Fin 256) :
    inQ m c t (ix3 0 ⟨hh.val * 64 + d.val, by omega⟩ r)
      = row (argQ m c) (bOf (grid0.coords t)) (headOf (sOf (grid0.coords t)) hh) ((nOf (grid0.coords t)).val * 256 + r.val) d := by
  unfold inQ
  rw [held0, index0]
  show V m c main_v3 _ = _
  rw [V_v3, place0_at]
  exact headRows_at _ _ _ _ _

theorem inKT_at (c : Dev nD) (t : Fin (cfgM m).N) (hh : Fin 4) (d : Fin 64) (p : Fin 4096) :
    inKT m c t (ix3 0 ⟨hh.val * 64 + d.val, by omega⟩ p) = argK m c (ix4 (bOf (grid0.coords t)) (headOf (sOf (grid0.coords t)) hh) p d) := by
  unfold inKT
  rw [held2, index2]
  show V m c main_v5 _ = _
  rw [V_v5, place2_at]
  exact headRows_at _ _ _ _ _

theorem inVT_at (c : Dev nD) (t : Fin (cfgM m).N) (hh : Fin 4) (d : Fin 64) (p : Fin 4096) :
    inVT m c t (ix3 0 ⟨hh.val * 64 + d.val, by omega⟩ p) = argV m c (ix4 (bOf (grid0.coords t)) (headOf (sOf (grid0.coords t)) hh) p d) := by
  unfold inVT
  rw [held3, index3]
  show V m c main_v7 _ = _
  rw [V_v7, place3_at]
  exact headRows_at _ _ _ _ _

theorem inK_at (c : Dev nD) (t : Fin (cfgM m).N) (hh : Fin 4) :
    kv (inK m c t) hh = row (argK m c) (bOf (grid0.coords t)) (headOf (sOf (grid0.coords t)) hh) := by
  funext p d
  unfold kv inK
  rw [held1, index1]
  show V m c main_v9 _ = _
  rw [V_v9, place1_at, headCols_at]
  exact headRows_at _ _ _ _ _

/-- What the kept scratch buffers hold within a group of sixteen steps: the block means of the keys; the values, and a row of ones under them. -/
def KeptAt (c : Dev nD) (b : Fin 4) (s : Fin 2) (X : S4x16x64.Idx → Elt Ideal .f32) (Y : S4x4x80x1024.Idx → Elt Ideal .bf16) : Prop :=
  (∀ hh n d, X (ix3 hh n d) = means (argK m c) b (headOf s hh) n d)
  ∧ (∀ (hh g : Fin 4) (e : Fin 64) (p : Fin 1024), Y (ix4 g hh ⟨e.val, by omega⟩ p) = row (argV m c) b (headOf s hh) (g.val * 1024 + p.val) e)
  ∧ (∀ (hh g : Fin 4) (p : Fin 1024), Y (ix4 g hh 64 p) = (1 : EReal))

/-- What is known of them before a step. -/
def keptBefore (c : Dev nD) (n : ℕ) (X : S4x16x64.Idx → Elt Ideal .f32) (Y : S4x4x80x1024.Idx → Elt Ideal .bf16) : Prop :=
  n % 16 ≠ 0 → KeptAt m c (Fin.ofNat 4 (n / 32)) (Fin.ofNat 2 (n / 16)) X Y

theorem step_coords : ∀ t : Fin grid0.N, (grid0.coords t 0).val = t.val / 32 % 4 ∧ (grid0.coords t 1).val = t.val / 16 % 2 ∧ (grid0.coords t 2).val = t.val % 16 := by
  decide +kernel

theorem isFirst_iff : ∀ t : Fin grid0.N, (isFirst (grid0.coords t) = 1#1 ↔ t.val % 16 = 0) := by decide +kernel

theorem bOf_eq (t : Fin grid0.N) : bOf (grid0.coords t) = Fin.ofNat 4 (t.val / 32) := Fin.ext (step_coords t).1
theorem sOf_eq (t : Fin grid0.N) : sOf (grid0.coords t) = Fin.ofNat 2 (t.val / 16) := Fin.ext (step_coords t).2.1

/-- After the step's filling the scratch buffers hold its group's values. -/
theorem kept_now (c : Dev nD) (t : Fin (cfgM m).N) (X : S4x16x64.Idx → Elt Ideal .f32) (Y : S4x4x80x1024.Idx → Elt Ideal .bf16) (h : keptBefore m c t.val X Y) :
    KeptAt m c (bOf (grid0.coords t)) (sOf (grid0.coords t)) (kmNow (inKT m c t) (grid0.coords t) X) (vbNow (inVT m c t) (grid0.coords t) Y) := by
  unfold kmNow vbNow
  by_cases hf : isFirst (grid0.coords t) = 1#1
  · rw [if_pos hf, if_pos hf]
    refine ⟨fun hh n d => ?_, fun hh g e p => ?_, fun hh g p => vbFilled_one _ _ _ _ _⟩
    · rw [kmFilled_at]
      unfold means
      refine congrArg (fun z => Ideal.div z ((256 : ℝ) : EReal)) (Finset.sum_congr rfl fun x _ => ?_)
      rw [inKT_at]
      unfold row
      refine congrArg (fun p => argK m c (ix4 _ _ p d)) (Fin.ext ?_)
      show n.val * 256 + x.val = (n.val * 256 + x.val) % 4096
      omega
    · rw [vbFilled_value, inVT_at]
      unfold row
      refine congrArg (fun p => argV m c (ix4 _ _ p e)) (Fin.ext ?_)
      show g.val * 1024 + p.val = (g.val * 1024 + p.val) % 4096
      omega
  · rw [if_neg hf, if_neg hf, bOf_eq, sOf_eq]
    exact h fun h0 => hf ((isFirst_iff t).mpr h0)

theorem kept_succ (c : Dev nD) (t : Fin (cfgM m).N) (X : S4x16x64.Idx → Elt Ideal .f32) (Y : S4x4x80x1024.Idx → Elt Ideal .bf16)
    (h : KeptAt m c (bOf (grid0.coords t)) (sOf (grid0.coords t)) X Y) : keptBefore m c (t.val + 1) X Y := by
  intro hn
  rw [show (t.val + 1) / 32 = t.val / 32 by omega, show (t.val + 1) / 16 = t.val / 16 by omega]
  rw [bOf_eq, sOf_eq] at h
  exact h

/-- The output block of a step: a block of the reference's result. -/
def outAt (c : Dev nD) (t : Fin (cfgM m).N) : S1x256x256.Idx → Elt Ideal .bf16 :=
  fun y => result (argQ m c) (argK m c) (argV m c) (place4 (((cfgM m).win (4 : Fin 6)).index t) y)

theorem idx3_eq (y : S1x256x256.Idx) : ∃ (r : Fin 256) (hh : Fin 4) (d : Fin 64), y = ix3 0 r ⟨hh.val * 64 + d.val, by omega⟩ := by
  have h0 : (y 0).val < 1 := (y 0).isLt
  have h2 : (y 2).val < 256 := (y 2).isLt
  refine ⟨y 1, ⟨(y 2).val / 64, by omega⟩, ⟨(y 2).val % 64, by omega⟩, ?_⟩
  funext a
  apply Fin.ext
  match a with
  | ⟨0, _⟩ => show (y 0).val = 0; omega
  | ⟨1, _⟩ => rfl
  | ⟨2, _⟩ => show (y 2).val = (y 2).val / 64 * 64 + (y 2).val % 64; omega

theorem out_step (c : Dev nD) (t : Fin (cfgM m).N) (X : S4x16x64.Idx → Elt Ideal .f32) (Y : S4x4x80x1024.Idx → Elt Ideal .bf16)
    (B : S4x16x256.Idx → Elt Ideal .f32) (S : S4x4096x256.Idx → Elt Ideal .f32) (h : keptBefore m c t.val X Y) :
    outOf (grid0.coords t) (inK m c t) B Y S (inQ m c t) (inKT m c t) (inVT m c t) X = outAt m c t := by
  obtain ⟨hX, hY, hO⟩ := kept_now m c t X Y h
  funext y
  obtain ⟨r, hh, d, rfl⟩ := idx3_eq y
  rw [outOf_at (inK m c t) Y S (grid0.coords t) (inQ m c t) (inKT m c t) (inVT m c t) X B _
    (fun hh e p => row (argV m c) (bOf (grid0.coords t)) (headOf (sOf (grid0.coords t)) hh) p e) hX hY hO hh d r]
  unfold outAt
  rw [index4, place4_at, result_at]
  unfold rowOut
  rw [inK_at, show (fun d => inQ m c t (ix3 0 ⟨hh.val * 64 + d.val, by omega⟩ r)) = _ from funext fun d => inQ_at m c t hh d r]
  rfl

end Cert.KernelIdeal.Body

end
-- ==== Proof.ValueFrame.lean ====
/- The call's value: the attention's array ends as the reference's result of the queries, the keys and the values. -/
module

public import proofs.«01_k».proof.Proof.StepValue

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat Window heldIn)
open Cert.KernelIdeal Cert.KernelIdeal.Gen

local notation "𝕄" => MT nD τ sig Unit (Elt Ideal) ℕ (Pipeline.UD sig nD τ) ℕ

variable (m : (ℓ : Loc nD τ sig) → Buf (Elt Ideal) ℓ) (ρ : Dev nD → PrngReg)

/-- What a step leaves in each window's buffer: the inputs as they were, the attention's block; the sums' block is not named. -/
def afterV (c : Dev nD) : (w : Fin 6) → (t : Fin (cfgM m).N) → ((cfgM m).win w).block.Idx → Elt Ideal ((cfgM m).win w).elt
  | 0 => fun t => inQ m c t
  | 1 => fun t => inK m c t
  | 2 => fun t => inKT m c t
  | 3 => fun t => inVT m c t
  | 4 => fun t => outAt m c t
  | 5 => fun _ _ => Classical.arbitrary _
  | ⟨_ + 6, h⟩ => absurd h (Nat.not_lt.2 (Nat.le_add_left _ _))

/-- The sums' window alone is not named. -/
def unnamed : Fin 6 → Bool
  | 0 => false
  | 1 => false
  | 2 => false
  | 3 => false
  | 4 => false
  | 5 => true
  | ⟨_ + 6, h⟩ => absurd h (Nat.not_lt.2 (Nat.le_add_left _ _))

def datsV (_ : Fin 1) (c : Dev nD) : Dat τ (Elt Ideal) Unit ℕ (Pipeline.UD sig nD τ) ℕ (cfgM m) c where
  A := arrs m c
  after := afterV m c
  Φ t := Inv m (keptBefore m c) c t.val
  q _ := fullShare
  owed _ := 0

theorem A_eqV (c : Dev nD) (w : Fin (cfgM m).W) : (datsV m 0 c).A w = V m c (Pipeline.arrRef spec0 w) := by
  dsimp only [datsV, arrs]

theorem Φ_castV (c : Dev nD) (t : Fin (cfgM m).N) : (datsV m 0 c).Φ t.castSucc = Inv m (keptBefore m c) c t.val := by
  dsimp only [datsV]
  exact Dat.Φ_castSucc (fun n _ => Inv m (keptBefore m c) c n) t
theorem Φ_succV (c : Dev nD) (t : Fin (cfgM m).N) : (datsV m 0 c).Φ t.succ = Inv m (keptBefore m c) c (t.val + 1) := by
  dsimp only [datsV]; rfl
theorem Φ_lastV (c : Dev nD) : (datsV m 0 c).Φ (Fin.last (cfgM m).N) = Inv m (keptBefore m c) c 128 := by
  dsimp only [datsV]
  exact congrArg (Inv m (keptBefore m c) c) N_0

theorem before0 (c : Dev nD) (t : Fin (cfgM m).N) (d) : ((datsV m 0 c).before (0 : Fin 6) t d : S1x256x256.Idx → Elt Ideal .f32) = inQ m c t :=
  (datsV m 0 c).before_eq_heldIn (0 : Fin 6) rfl (fun _ => rfl) (fun _ _ => rfl) (fun _ => rfl) t d
theorem before1 (c : Dev nD) (t : Fin (cfgM m).N) (d) : ((datsV m 0 c).before (1 : Fin 6) t d : S1x4096x256.Idx → Elt Ideal .bf16) = inK m c t :=
  (datsV m 0 c).before_eq_heldIn (1 : Fin 6) rfl (fun _ => rfl) (fun _ _ => rfl) (fun _ => rfl) t d
theorem before2 (c : Dev nD) (t : Fin (cfgM m).N) (d) : ((datsV m 0 c).before (2 : Fin 6) t d : S1x256x4096.Idx → Elt Ideal .f32) = inKT m c t :=
  (datsV m 0 c).before_eq_heldIn (2 : Fin 6) rfl (fun _ => rfl) (fun _ _ => rfl) (fun _ => rfl) t d
theorem before3 (c : Dev nD) (t : Fin (cfgM m).N) (d) : ((datsV m 0 c).before (3 : Fin 6) t d : S1x256x4096.Idx → Elt Ideal .f32) = inVT m c t :=
  (datsV m 0 c).before_eq_heldIn (3 : Fin 6) rfl (fun _ => rfl) (fun _ _ => rfl) (fun _ => rfl) t d

theorem sound_bodyV (c : Dev nD) (t : Fin (cfgM m).N) :
    iprop(Inv m (keptBefore m c) c t.val ∗ (datsV m 0 c).owesAt () t.castSucc
      ∗ (∃ d, Has c (spec0_0.stage (((cfgM m).slots t 0).cast nbuf0_0)) ((datsV m 0 c).before (0 : Fin 6) t d)) ∗ (∃ d, Has c (spec0_1.stage (((cfgM m).slots t 1).cast nbuf0_1)) ((datsV m 0 c).before (1 : Fin 6) t d))
      ∗ (∃ d, Has c (spec0_2.stage (((cfgM m).slots t 2).cast nbuf0_2)) ((datsV m 0 c).before (2 : Fin 6) t d)) ∗ (∃ d, Has c (spec0_3.stage (((cfgM m).slots t 3).cast nbuf0_3)) ((datsV m 0 c).before (3 : Fin 6) t d))
      ∗ (∃ d, Has c (spec0_4.stage (((cfgM m).slots t 4).cast nbuf0_4)) ((datsV m 0 c).before (4 : Fin 6) t d)) ∗ (∃ X, Has c (spec0_5.stage (((cfgM m).slots t 5).cast nbuf0_5)) X))
    ⊢ Run c (bodyAt m t) fun _ => iprop(Inv m (keptBefore m c) c (t.val + 1) ∗ (datsV m 0 c).owesAt () t.succ
      ∗ Has c (spec0_0.stage (((cfgM m).slots t 0).cast nbuf0_0)) (inQ m c t) ∗ Has c (spec0_1.stage (((cfgM m).slots t 1).cast nbuf0_1)) (inK m c t)
      ∗ Has c (spec0_2.stage (((cfgM m).slots t 2).cast nbuf0_2)) (inKT m c t) ∗ Has c (spec0_3.stage (((cfgM m).slots t 3).cast nbuf0_3)) (inVT m c t)
      ∗ Has c (spec0_4.stage (((cfgM m).slots t 4).cast nbuf0_4)) (outAt m c t) ∗ (∃ X, Has c (spec0_5.stage (((cfgM m).slots t 5).cast nbuf0_5)) X)) := by
  unfold Dat.owesAt Pipeline.owesWithin
  rw [show (datsV m 0 c).owed t.castSucc = 0 from rfl, show (datsV m 0 c).owed t.succ = 0 from rfl]
  simp only [before0, before1, before2, before3]
  unfold Inv
  iintro ⟨⟨Hg, Ht, Hc, ⟨%X, %Y, %hJ, H0, H1⟩, ⟨%B, H2⟩, ⟨%S, H3⟩⟩, ⟨%W, -, HW⟩, ⟨%d0, W0⟩, ⟨%d1, W1⟩, ⟨%d2, W2⟩, ⟨%d3, W3⟩, ⟨%d4, W4⟩, W5⟩
  have hn := nn_coords t
  have hK := kept_succ m c t _ _ (kept_now m c t X Y hJ)
  have hO := out_step m c t X Y B S hJ
  iapply (run_body (c := c) (fc := V m c main_v0) (K := inK m c t) (B := B) (Y := Y) (S := S) (Q4 := inQ m c t) (KT := inKT m c t) (VT := inVT m c t) (X := X)) $$ [Ht Hc H0 H1 H2 H3 HW W0 W1 W2 W3 W4 W5]
  · rw [hn]
    isplitl [Ht]; · iexact Ht
    isplitl [HW]
    · unfold Owe; iexists W; iexact HW
    isplitl [Hc]; · iexact Hc
    isplitl [W0]; · iexact W0
    isplitl [W1]; · iexact W1
    isplitl [W2]; · iexact W2
    isplitl [W3]; · iexact W3
    isplitl [W4]; · iexists _; iexact W4
    isplitl [W5]; · unfold SomeSums; iexact W5
    isplitl [H0]; · iexact H0
    isplitl [H1]; · iexact H1
    isplitl [H2]; · iexact H2
    iexact H3
  iintro %u ⟨Ht, HW, Hc, W0, W1, W2, W3, W4, W5, H0, H1, H2, H3⟩
  rw [hn, hO]
  unfold Owe SomeSums
  icases HW with ⟨%W', HW⟩
  isplitl [Hg Ht Hc H0 H1 H2 H3]
  · isplitl [Hg]; · iexact Hg
    isplitl [Ht]; · iexact Ht
    isplitl [Hc]; · iexact Hc
    isplitl [H0 H1]
    · iexists (kmNow (inKT m c t) (grid0.coords t) X), (vbNow (inVT m c t) (grid0.coords t) Y)
      isplitr
      · ipureintro; exact hK
      isplitl [H0]; · iexact H0
      iexact H1
    isplitl [H2]; · iexact H2
    iexact H3
  isplitl [HW]
  · iexists W'; isplitr; · ipureintro; exact fun _ _ => Or.inl trivial
    iexact HW
  isplitl [W0]; · iexact W0
  isplitl [W1]; · iexact W1
  isplitl [W2]; · iexact W2
  isplitl [W3]; · iexact W3
  isplitl [W4]; · iexact W4
  iexact W5

theorem body_obligationV (c : Dev nD) : Pipeline.BodyObligationLoose (datsV m 0 c) (defs₀ (F := Ideal)) Variants.none () Set.univ unnamed := fun t => by
  simp only [bigSep_W0]
  rw [Φ_castV, Φ_succV]
  refine triple_restated (sound_bodyV m c t) ?_ ?_ fun _ => ?_
  · rw [← defs₀_row]
  · exact .rfl
  · exact .rfl

set_option backward.isDefEq.respectTransparency.types false in
set_option maxHeartbeats 2000000 in
theorem run_mainV (hw : ∀ c x, (words m c x).toNat < 5120) : θ_run defs (onTc (τ := τ) (main (F := Ideal))) ⟨m, fun _ => 0, ρ⟩
    (fun r => Pipeline.RDat.FramePost (cfgM m) (fun c => (datsV m 0 c).toRForget unnamed) (V m) r ∧ r.2.sem = fun _ => 0) :=
  Pipeline.θ_run_frameP_dma_forget (Q' := _) pcfgs (fun _ => adm m) (datsV m) (0 : Fin 1) launch0 osem0 defs₀ Variants.none unnamed ownSemFacts0 H0 H0_sub m ρ main
    (hbody := fun c => body_obligationV m c) (hshare := fun c => (datsV m 0 c).share_full fun _ => rfl)
    (howed := fun _ _ => rfl) (V := V m) (hmain := hmain m) (hA := A_eqV m) (hpf := V_tbl m)
    (hin := fun c => enter m (keptBefore m c) (fun _ _ h => absurd rfl h) c (hw c))
    (hout := fun c => (Φ_lastV m c) ▸ leave m (keptBefore m c) c)
    (hQ' := fun _ h => h)

end Cert.KernelIdeal.Body

end
-- ==== Proof.ValueEnd.lean ====
/- The array after the last step is the reference's result of the queries, the keys and the values; and the run with it. -/
module

public import proofs.«01_k».proof.Proof.ValueFrame

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat Window heldIn)
open Cert.KernelIdeal Cert.KernelIdeal.Gen

variable (m : (ℓ : Loc nD τ sig) → Buf (Elt Ideal) ℓ) (ρ : Dev nD → PrngReg)

theorem flushes_of : ∀ t : Fin grid0.N, Window.flushOf grid0 true cc0_transform_5 t = true := by decide +kernel

theorem flushes (t : Fin (cfgM m).N) : ((cfgM m).win (4 : Fin 6)).flush t = true :=
  (Window.flush_eq_flushOf ((cfgM m).win (4 : Fin 6)) t).trans (flushes_of t)

/-- The point that writes an element, and where in its block. -/
theorem covers (i : S4x4096x512.Idx) : ∃ t : Fin (cfgM m).N, ∃ y : S1x256x256.Idx, place4 (((cfgM m).win (4 : Fin 6)).index t) y = i := by
  have h0 : (i 0).val < 4 := (i 0).isLt
  have h1 : (i 1).val < 4096 := (i 1).isLt
  have h2 : (i 2).val < 512 := (i 2).isLt
  have ht : 32 * (i 0).val + 16 * ((i 2).val / 256) + (i 1).val / 256 < grid0.N := by rw [N_0]; omega
  obtain ⟨t, hv⟩ : ∃ t : Fin grid0.N, t.val = 32 * (i 0).val + 16 * ((i 2).val / 256) + (i 1).val / 256 := ⟨⟨_, ht⟩, rfl⟩
  obtain ⟨e0, e1, e2⟩ := step_coords t
  refine ⟨t, ix3 0 ⟨(i 1).val % 256, by omega⟩ ⟨(i 2).val % 256, by omega⟩, ?_⟩
  rw [index4, e0, e1, e2, hv]
  funext a
  apply Fin.ext
  match a with
  | ⟨0, _⟩ => show ((32 * (i 0).val + 16 * ((i 2).val / 256) + (i 1).val / 256) / 32 % 4 * 1 + 0) % 4 = (i 0).val; omega
  | ⟨1, _⟩ => show ((32 * (i 0).val + 16 * ((i 2).val / 256) + (i 1).val / 256) % 16 * 256 + (i 1).val % 256) % 4096 = (i 1).val; omega
  | ⟨2, _⟩ => show ((32 * (i 0).val + 16 * ((i 2).val / 256) + (i 1).val / 256) / 16 % 2 * 256 + (i 2).val % 256) % 512 = (i 2).val; omega

/-- An array's block at a step, read. -/
theorem read_block (c : Dev nD) (t : Fin (cfgM m).N) (G : S4x4096x512.Idx → Elt Ideal .bf16) :
    (((cfgM m).win (4 : Fin 6)).blk t).view.read (Elt Ideal) G = fun y : S1x256x256.Idx => G (place4 (((cfgM m).win (4 : Fin 6)).index t) y) := by
  funext y
  exact congrArg G (emb4 m t y)

theorem flushed_is (c : Dev nD) (t : Fin (cfgM m).N) : (datsV m 0 c).flushed (4 : Fin 6) t = outAt m c t := rfl

theorem array_of (c : Dev nD) (G : S4x4096x512.Idx → Elt Ideal .bf16)
    (hG : ∀ t : Fin (cfgM m).N, outAt m c t = fun y : S1x256x256.Idx => G (place4 (((cfgM m).win (4 : Fin 6)).index t) y)) :
    (datsV m 0 c).arrAt (4 : Fin 6) (cfgM m).N = G := by
  refine (datsV m 0 c).arrAt_eq_of_cover (4 : Fin 6) G (fun t _ => (flushed_is m c t).trans ((hG t).trans (read_block m c t G).symm)) (fun i => ?_)
  obtain ⟨t, y, h⟩ := covers m i
  refine ⟨t, flushes m t, ?_⟩
  rw [← h, ← emb4]
  exact View.emb_mem_set _ _

theorem array_end (c : Dev nD) : (datsV m 0 c).arrAt (4 : Fin 6) (cfgM m).N = Cert.ReferenceIdeal.Stages.result (argQ m c) (argK m c) (argV m c) :=
  array_of m c _ fun t => by unfold outAt; rfl

/-- The run with its value. -/
theorem value_kernel (hw : ∀ c x, (words m c x).toNat < 5120) : θ_run defs (onTc (τ := τ) (main (F := Ideal))) ⟨m, fun _ => 0, ρ⟩ (fun r => ∀ c : Dev nD,
      r.2.mem ((c.tc : Thread nD τ).loc main_v10_0) = Cert.ReferenceIdeal.Stages.result (argQ m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(((datsV m 0 c).toRForget_arrAt_iff (fgt := unnamed) (w := (4 : Fin 6)) rfl _ _).mp ((h.1 c).1 (4 : Fin 6))).trans (array_end m c),
      ((h.1 c).2 main_arg0 (Pipeline.mem_restRefs_of main_arg0 (by decide) (show ∀ w : Fin 6, (spec0 w).arr.view.ref ≠ main_arg0 from by decide))).trans (V_arg m c (by decide)),
      ((h.1 c).2 main_arg1 (Pipeline.mem_restRefs_of main_arg1 (by decide) (show ∀ w : Fin 6, (spec0 w).arr.view.ref ≠ main_arg1 from by decide))).trans (V_arg m c (by decide)),
      ((h.1 c).2 main_arg2 (Pipeline.mem_restRefs_of main_arg2 (by decide) (show ∀ w : Fin 6, (spec0 w).arr.view.ref ≠ main_arg2 from by decide))).trans (V_arg m c (by decide)),
      ((h.1 c).2 main_arg3 (Pipeline.mem_restRefs_of main_arg3 (by decide) (show ∀ w : Fin 6, (spec0 w).arr.view.ref ≠ main_arg3 from by decide))).trans (V_arg m c (by decide)),
      ((h.1 c).2 main_arg4 (Pipeline.mem_restRefs_of main_arg4 (by decide) (show ∀ w : Fin 6, (spec0 w).arr.view.ref ≠ main_arg4 from by decide))).trans (V_arg m c (by decide))⟩) (run_mainV m ρ hw)

end Cert.KernelIdeal.Body

end
-- ==== Proof.Algebraic.lean ====
/- The value equality: the kernel's attention and the reference's result are one, at the ideal instance. -/
module

public import proofs.«01_k».proof.Proof.Claims
public import proofs.«01_k».proof.Proof.ValueEnd
public import proofs.«01_k».proof.Proof.Ref

@[expose] public section

noncomputable section

namespace Cert.Proof

open Idealize.ShloMosaic Idealize.ShloMosaic.TcCoe
open Idealize.SL.Sem

theorem algebraic : Cert.algebraic_KernelIdeal_ReferenceIdeal (hKernelIdeal := Cert.KernelIdeal.Gen.facts) (hReferenceIdeal := Cert.ReferenceIdeal.Gen.facts)
    (hPre_pages_in_pool := Cert.KernelIdeal.Body.facts_pool) := fun m g m' g' hpre hargs =>
  ⟨fun c => Cert.ReferenceIdeal.Stages.result (Cert.KernelIdeal.Body.argQ m c) (Cert.KernelIdeal.Body.argK m c) (Cert.KernelIdeal.Body.argV m c),
    Cert.KernelIdeal.Body.value_kernel m g fun c => Cert.KernelIdeal.Body.words_lt m c (Cert.KernelIdeal.Body.pool_words (F := Ideal) _ _ _ _ _ (hpre c)),
    (θ_run Cert.ReferenceIdeal.defs _ _).mono (fun r h c => ⟨(h c).1.trans ((Cert.ReferenceIdeal.Stages.result_eq m' c).trans (by
        obtain ⟨e0, e1, e2, -, -⟩ := hargs c
        have e0' : m' ((c.tc : Thread Cert.ReferenceIdeal.nD Cert.ReferenceIdeal.τ).loc Cert.ReferenceIdeal.main_arg0) = Cert.KernelIdeal.Body.argQ m c := e0
        have e1' : m' ((c.tc : Thread Cert.ReferenceIdeal.nD Cert.ReferenceIdeal.τ).loc Cert.ReferenceIdeal.main_arg1) = Cert.KernelIdeal.Body.argK m c := e1
        have e2' : m' ((c.tc : Thread Cert.ReferenceIdeal.nD Cert.ReferenceIdeal.τ).loc Cert.ReferenceIdeal.main_arg2) = Cert.KernelIdeal.Body.argV m c := e2
        rw [e0', e1', e2'])), (h c).2⟩) (Cert.ReferenceIdeal.Value.run (F := Ideal) m' g')⟩

end Cert.Proof

end
-- ==== Proof.InRef.lean ====
/- The input projection's reference: its term, the stages named. -/
module

public import proofs.«01_k».proof.Proof.Gen.Reference2Ideal.Run
public import Idealize.ShloMosaic.Lib.Pointwise
public import Idealize.ShloMosaic.Lib.Pipeline.Regions

@[expose] public section

noncomputable section

namespace Cert.Reference2Ideal.Stages

open Cert.Reference2Ideal Cert.Reference2Ideal.Gen Idealize.ShloMosaic Idealize.ShloMosaic.TcCoe Idealize.SL.Sem Idealize.ShloMosaic.StableHlo

/-- The normed and modulated rows. -/
def hidden (x : FVec Ideal S4x4096x1024 .f32) (sc sh : FVec Ideal S4x1x1024 .f32) (g : FVec Ideal S1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

/-- The whole projection. -/
def proj (h : FVec Ideal S4x4096x1024 .f32) (w : FVec Ideal S1024x3072 .f32) : FVec Ideal S4x4096x3072 .f32 :=
  Host.dotGeneral dot_S4x4096x1024_S1024x3072_S4x4096x3072_2_0_01_1_n_n none h w

/-- The recurrences' inputs. -/
def uOf (p : FVec Ideal S4x4096x3072 .f32) : FVec Ideal S4x4096x512 .f32 :=
  concatenate S4x4096x512 2 [⟨S4x4096x256, extractStridedSlice S4x4096x256 ![0, 0, 0] p slices_S4x4096x3072_S4x4096x256_0_0_0⟩, ⟨S4x4096x256, extractStridedSlice S4x4096x256 ![0, 0, 2560] p slices_S4x4096x3072_S4x4096x256_0_0_2560⟩] concatenates_S4x4096x256_S4x4096x256_S4x4096x512_d2

/-- The gates before their activation. -/
def preGate (p : FVec Ideal S4x4096x3072 .f32) : FVec Ideal S4x4096x1024 .f32 :=
  concatenate S4x4096x1024 2 [⟨S4x4096x256, extractStridedSlice S4x4096x256 ![0, 0, 256] p slices_S4x4096x3072_S4x4096x256_0_0_256⟩, ⟨S4x4096x512, extractStridedSlice S4x4096x512 ![0, 0, 2048] p slices_S4x4096x3072_S4x4096x512_0_0_2048⟩, ⟨S4x4096x256, extractStridedSlice S4x4096x256 ![0, 0, 2816] p slices_S4x4096x3072_S4x4096x256_0_0_2816⟩] concatenates_S4x4096x256_S4x4096x512_S4x4096x256_S4x4096x1024_d2

/-- The gates. -/
def gateOf (p : FVec Ideal S4x4096x3072 .f32) : FVec Ideal S4x4096x1024 .bf16 :=
  truncf .bf16 (mulf (preGate p) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (preGate p)))))) bitsLt_bf16_f32

/-- The angles, by position and pair. -/
def angle : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table of the angles, by head. -/
def spread (a : FVec Ideal S4096x32 .f32) : FVec Ideal S4x4096x8x32 .f32 :=
  broadcastInDim S4x4096x8x32 ![0, 1, 2, 3] bcast_S1x4096x1x32_S4x4096x8x32_0_1_2_3 (broadcastInDim S1x4096x1x32 ![1, 3] bcast_S4096x32_S1x4096x1x32_1_3 a)

def fst (t : FVec Ideal S4x4096x512 .f32) : FVec Ideal S4x4096x8x32 .f32 :=
  extractStridedSlice S4x4096x8x32 ![0, 0, 0, 0] (shapeCast S4x4096x8x64 t shapeCasts_S4x4096x512_S4x4096x8x64) slices_S4x4096x8x64_S4x4096x8x32_0_0_0_0
def snd (t : FVec Ideal S4x4096x512 .f32) : FVec Ideal S4x4096x8x32 .f32 :=
  extractStridedSlice S4x4096x8x32 ![0, 0, 0, 32] (shapeCast S4x4096x8x64 t shapeCasts_S4x4096x512_S4x4096x8x64) slices_S4x4096x8x64_S4x4096x8x32_0_0_0_32

/-- The rotary embedding. -/
def rope (t : FVec Ideal S4x4096x512 .f32) : FVec Ideal S4x4096x512 .f32 :=
  shapeCast S4x4096x512 (concatenate S4x4096x8x64 3 [⟨S4x4096x8x32, subf (mulf (fst t) (spread (Host.cos angle))) (mulf (snd t) (spread (Host.sin angle)))⟩,
    ⟨S4x4096x8x32, addf (mulf (snd t) (spread (Host.cos angle))) (mulf (fst t) (spread (Host.sin angle)))⟩] concatenates_S4x4096x8x32_S4x4096x8x32_S4x4096x8x64_d3) shapeCasts_S4x4096x8x64_S4x4096x512

def qCols (p : FVec Ideal S4x4096x3072 .f32) : FVec Ideal S4x4096x512 .f32 := extractStridedSlice S4x4096x512 ![0, 0, 512] p slices_S4x4096x3072_S4x4096x512_0_0_512
def kCols (p : FVec Ideal S4x4096x3072 .f32) : FVec Ideal S4x4096x512 .f32 := extractStridedSlice S4x4096x512 ![0, 0, 1024] p slices_S4x4096x3072_S4x4096x512_0_0_1024
def vCols (p : FVec Ideal S4x4096x3072 .f32) : FVec Ideal S4x4096x512 .f32 := extractStridedSlice S4x4096x512 ![0, 0, 1536] p slices_S4x4096x3072_S4x4096x512_0_0_1536

/-- Features by rows. -/
def rows (t : FVec Ideal S4x4096x512 .f32) : FVec Ideal S4x512x4096 .f32 := transpose S4x512x4096 [0, 2, 1] t transposes_S4x4096x512_S4x512x4096_0_2_1

def rounded (t : FVec Ideal S4x4096x512 .f32) : FVec Ideal S4x4096x512 .bf16 := truncf .bf16 t bitsLt_bf16_f32

variable (m : (ℓ : Loc nD τ sig) → Buf (Elt Ideal) ℓ)

/-- The projection of a memory's arguments. -/
abbrev projM (c : Dev nD) : FVec Ideal S4x4096x3072 .f32 :=
  proj (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

theorem gate_eq (c : Dev nD) : (Value.res_out1 m c : S4x4096x1024.Idx → EReal) = gateOf (projM m c) := by chain_rfl
theorem krm_eq (c : Dev nD) : (Value.res_out2 m c : S4x4096x512.Idx → EReal) = rounded (rope (kCols (projM m c))) := by chain_rfl
theorem q_eq (c : Dev nD) : (Value.res_out3 m c : S4x512x4096.Idx → EReal) = rows (rope (qCols (projM m c))) := by chain_rfl
theorem k_eq (c : Dev nD) : (Value.res_out4 m c : S4x512x4096.Idx → EReal) = rows (rope (kCols (projM m c))) := by chain_rfl

theorem run_named (ρ : Dev nD → PrngReg) : θ_run defs (onTc (τ := τ) (main (F := Ideal))) ⟨m, fun _ => 0, ρ⟩ fun r => ∀ c : Dev nD,
      r.2.mem ((c.tc : Thread nD τ).loc main_v60) = uOf (projM m c)
      ∧ r.2.mem ((c.tc : Thread nD τ).loc main_v63) = gateOf (projM m c)
      ∧ r.2.mem ((c.tc : Thread nD τ).loc main_v64) = rounded (rope (kCols (projM m c)))
      ∧ r.2.mem ((c.tc : Thread nD τ).loc main_v80) = rows (rope (qCols (projM m c)))
      ∧ r.2.mem ((c.tc : Thread nD τ).loc main_v81) = rows (rope (kCols (projM m c)))
      ∧ r.2.mem ((c.tc : Thread nD τ).loc main_v82) = rows (vCols (projM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4, h5, ha⟩ := h c
    exact ⟨h0.trans (by chain_rfl), h1.trans (gate_eq m c), h2.trans (krm_eq m c), h3.trans (q_eq m c), h4.trans (k_eq m c), h5.trans (by chain_rfl), ha⟩) (Value.run (F := Ideal) m ρ)

end Cert.Reference2Ideal.Stages

end
-- ==== Proof.InRefAt.lean ====
/- The input projection's reference read at an index. -/
module

public import proofs.«01_k».proof.Proof.InRef

@[expose] public section

noncomputable section

namespace Cert.Reference2Ideal.Stages

open Cert.Reference2Ideal Cert.Reference2Ideal.Gen Idealize.ShloMosaic Idealize.ShloMosaic.TcCoe Idealize.SL.Sem Idealize.ShloMosaic.StableHlo

/-- The normed and modulated row `x` at column `d`. -/
def hid (x : Fin 1024 → EReal) (sc sh g : EReal) (d : Fin 1024) : EReal :=
  x d * Ideal.rsqrt (Ideal.div (∑ k, x k * x k) (Ideal.ofBits .f32 0x44800000#32) + Ideal.ofBits .f32 0x358637BD#32) * g * (1 + sc) + sh

theorem hidden_at (x : FVec Ideal S4x4096x1024 .f32) (sc sh : FVec Ideal S4x1x1024 .f32) (g : FVec Ideal S1024 .f32) (b : Fin 4) (s : Fin 4096) (d : Fin 1024) :
    hidden x sc sh g (ix3 b s d) = hid (fun k => x (ix3 b s k)) (sc (ix3 b 0 d)) (sh (ix3 b 0 d)) (g (ix1 d)) d := by
  unfold hid
  pointwise [hidden]

theorem proj_at (h : FVec Ideal S4x4096x1024 .f32) (w : FVec Ideal S1024x3072 .f32) (b : Fin 4) (s : Fin 4096) (n : Fin 3072) :
    proj h w (ix3 b s n) = ∑ d : Fin 1024, h (ix3 b s d) * w (ix2 d n) := by
  pointwise [proj]

theorem angle_at (s : Fin 4096) (r : Fin 32) : angle (ix2 s r) = (FloatOps.sitofp .f32 (BitVec.ofNat 32 s.val) : Ideal .f32) * Ideal.pow (Ideal.ofBits .f32 0x461C4000#32) (Ideal.div (-(FloatOps.sitofp .f32 (BitVec.ofNat 32 r.val) : Ideal .f32)) (Ideal.ofBits .f32 0x42000000#32)) := by
  pointwise [angle]

theorem spread_at (a : FVec Ideal S4096x32 .f32) (b : Fin 4) (s : Fin 4096) (h : Fin 8) (r : Fin 32) : spread a (ix4 b s h r) = a (ix2 s r) := by
  pointwise [spread]

theorem fst_at (t : FVec Ideal S4x4096x512 .f32) (b : Fin 4) (s : Fin 4096) (h : Fin 8) (r : Fin 32) : fst t (ix4 b s h r) = t (ix3 b s ⟨h.val * 64 + r.val, by omega⟩) := by
  pointwise [fst]
theorem snd_at (t : FVec Ideal S4x4096x512 .f32) (b : Fin 4) (s : Fin 4096) (h : Fin 8) (r : Fin 32) : snd t (ix4 b s h r) = t (ix3 b s ⟨h.val * 64 + r.val + 32, by omega⟩) := by
  pointwise [snd]
  exact congrArg (fun k => t (ix3 b s k)) (Fin.ext (by dsimp only; omega))

/-- The rotary embedding of column `n` of a row `f`, with the cosines `c` and the sines `k` of its position. -/
def ropeVal (f : Fin 512 → EReal) (c k : Fin 32 → EReal) (n : Fin 512) : EReal :=
  if n.val % 64 < 32 then f n * c (Fin.ofNat 32 (n.val % 64)) - f (Fin.ofNat 512 (n.val + 32)) * k (Fin.ofNat 32 (n.val % 64))
  else f n * c (Fin.ofNat 32 (n.val % 64 - 32)) + f (Fin.ofNat 512 (n.val - 32)) * k (Fin.ofNat 32 (n.val % 64 - 32))

theorem rope_at (t : FVec Ideal S4x4096x512 .f32) (b : Fin 4) (s : Fin 4096) (n : Fin 512) :
    rope t (ix3 b s n) = ropeVal (fun k => t (ix3 b s k)) (fun r => Ideal.cos (angle (ix2 s r))) (fun r => Ideal.sin (angle (ix2 s r))) n := by
  have hn := n.isLt
  unfold ropeVal
  pointwise [rope, spread]
  split <;> rename_i hc
  · simp only [fst_at, snd_at, dif_pos hc]
    have e1 : (⟨n.val / 64 * 64 + n.val % 64, by omega⟩ : Fin 512) = n := Fin.ext (by dsimp only; omega)
    have e2 : (⟨n.val / 64 * 64 + n.val % 64 + 32, by omega⟩ : Fin 512) = Fin.ofNat 512 (n.val + 32) := Fin.ext (by show _ = (n.val + 32) % 512; dsimp only; omega)
    have e3 : (⟨n.val % 64, hc⟩ : Fin 32) = Fin.ofNat 32 (n.val % 64) := Fin.ext (by show _ = (n.val % 64) % 32; dsimp only; omega)
    rw [e1, e2, e3]
  · simp only [fst_at, snd_at, dif_neg hc]
    have e1 : (⟨n.val / 64 * 64 + (n.val % 64 - 32) + 32, by omega⟩ : Fin 512) = n := Fin.ext (by dsimp only; omega)
    have e2 : (⟨n.val / 64 * 64 + (n.val % 64 - 32), by omega⟩ : Fin 512) = Fin.ofNat 512 (n.val - 32) := Fin.ext (by show _ = (n.val - 32) % 512; dsimp only; omega)
    have e3 : (⟨n.val % 64 - 32, by omega⟩ : Fin 32) = Fin.ofNat 32 (n.val % 64 - 32) := Fin.ext (by show _ = (n.val % 64 - 32) % 32; dsimp only; omega)
    rw [e1, e2, e3]

theorem q_at (p : FVec Ideal S4x4096x3072 .f32) (b : Fin 4) (s : Fin 4096) (r : Fin 512) : qCols p (ix3 b s r) = p (ix3 b s ⟨512 + r.val, by omega⟩) := by
  pointwise [qCols]
theorem k_at (p : FVec Ideal S4x4096x3072 .f32) (b : Fin 4) (s : Fin 4096) (r : Fin 512) : kCols p (ix3 b s r) = p (ix3 b s ⟨1024 + r.val, by omega⟩) := by
  pointwise [kCols]
theorem v_at (p : FVec Ideal S4x4096x3072 .f32) (b : Fin 4) (s : Fin 4096) (r : Fin 512) : vCols p (ix3 b s r) = p (ix3 b s ⟨1536 + r.val, by omega⟩) := by
  pointwise [vCols]
theorem rows_at (t : FVec Ideal S4x4096x512 .f32) (b : Fin 4) (s : Fin 4096) (r : Fin 512) : rows t (ix3 b r s) = t (ix3 b s r) := by
  pointwise [rows]

/-- The column of the weights that column `j` of the recurrences' inputs is. -/
def uCol (j : ℕ) : ℕ := if j < 256 then j else j + 2304
/-- The column of the weights that gate `j` is. -/
def gCol (j : ℕ) : ℕ := if j < 256 then 256 + j else if j < 768 then 1792 + j else 2048 + j

theorem u_at (p : FVec Ideal S4x4096x3072 .f32) (b : Fin 4) (s : Fin 4096) (j : Fin 512) : uOf p (ix3 b s j) = p (ix3 b s (Fin.ofNat 3072 (uCol j.val))) := by
  pointwise [uOf]
  have hj := j.isLt
  split <;> rename_i hc
  · exact congrArg (fun k => p (ix3 b s k)) (Fin.ext (by show _ = uCol j.val % 3072; simp only [uCol, hc, if_true]; omega))
  · exact congrArg (fun k => p (ix3 b s k)) (Fin.ext (by show _ = uCol j.val % 3072; simp only [uCol, hc, if_false]; omega))

theorem preGate_at (p : FVec Ideal S4x4096x3072 .f32) (b : Fin 4) (s : Fin 4096) (j : Fin 1024) : preGate p (ix3 b s j) = p (ix3 b s (Fin.ofNat 3072 (gCol j.val))) := by
  pointwise [preGate]
  have hj := j.isLt
  split <;> rename_i hc
  · exact congrArg (fun k => p (ix3 b s k)) (Fin.ext (by show _ = gCol j.val % 3072; simp only [gCol, hc, if_true]; omega))
  · split <;> rename_i hd
    · have hd' : j.val < 768 := by omega
      exact congrArg (fun k => p (ix3 b s k)) (Fin.ext (by show _ = gCol j.val % 3072; simp only [gCol, hc, hd', if_false, if_true]; omega))
    · have hd' : ¬ j.val < 768 := by omega
      exact congrArg (fun k => p (ix3 b s k)) (Fin.ext (by show _ = gCol j.val % 3072; simp only [gCol, hc, hd', if_false]; omega))

theorem gate_at (p : FVec Ideal S4x4096x3072 .f32) (b : Fin 4) (s : Fin 4096) (j : Fin 1024) : gateOf p (ix3 b s j) = preGate p (ix3 b s j) * Ideal.div 1 (1 + Ideal.exp (-preGate p (ix3 b s j))) := by
  pointwise [gateOf]

end Cert.Reference2Ideal.Stages

end
-- ==== Proof.InStep.lean ====
/- What a step of the input projection leaves in its blocks. -/
module

public import proofs.«01_k».proof.Proof.Gen.Kernel2Ideal.Value
public import proofs.«01_k».proof.Proof.InRefAt
public import Idealize.ShloMosaic.Lib.Pointwise

@[expose] public section

noncomputable section

namespace Cert.Kernel2Ideal.Step

open Cert.Kernel2Ideal Cert.Kernel2Ideal.Gen Idealize.ShloMosaic Idealize.ShloMosaic.TcCoe Idealize.SL.Sem
open Cert.Reference2Ideal.Stages (hid ropeVal)

theorem hidden_at (x : FVec Ideal S1x512x1024 .f32) (g : FVec Ideal S1x1024 .f32) (sc sh : FVec Ideal S1x1x1024 .f32) (p : Fin 512) (d : Fin 1024) :
    (k0_pay8 (F := Ideal) x g sc sh (ix2 p d) : EReal) = hid (fun k => x (ix3 0 p k)) (sc (ix3 0 0 d)) (sh (ix3 0 0 d)) (g (ix2 0 d)) d := by
  unfold hid
  pointwise [k0_pay8]

theorem u_at (x : FVec Ideal S1x512x1024 .f32) (g : FVec Ideal S1x1024 .f32) (sc sh : FVec Ideal S1x1x1024 .f32) (w : FVec Ideal S1024x512 .bf16) (p n : Fin 512) :
    (k0_pay9 (F := Ideal) x g sc sh w (ix3 0 p n) : EReal) = ∑ d : Fin 1024, (k0_pay8 (F := Ideal) x g sc sh (ix2 p d) : EReal) * w (ix2 d n) := by
  pointwise [k0_pay9]

theorem gate_at (h : FVec Ideal S512x1024 .bf16) (w : FVec Ideal S1024x1024 .bf16) (p : Fin 512) (n : Fin 1024) :
    k0_pay10 h w (ix3 0 p n) = (∑ d : Fin 1024, h (ix2 p d) * w (ix2 d n)) * Ideal.div 1 (1 + Ideal.exp (-∑ d : Fin 1024, h (ix2 p d) * w (ix2 d n))) := by
  pointwise [k0_pay10]
  rfl

theorem v_at (h : FVec Ideal S512x1024 .bf16) (w : FVec Ideal S512x1024 .bf16) (n p : Fin 512) :
    k0_pay6 h w (ix3 0 n p) = ∑ d : Fin 1024, w (ix2 n d) * h (ix2 p d) := by
  pointwise [k0_pay6]

theorem q_at (h : FVec Ideal S512x1024 .bf16) (w : FVec Ideal S512x1024 .bf16) (n p : Fin 512) :
    k0_pay13 h w (ix2 n p) = ∑ d : Fin 1024, w (ix2 n d) * h (ix2 p d) := by
  pointwise [k0_pay13]

theorem k_at (h : FVec Ideal S512x1024 .bf16) (w : FVec Ideal S512x1024 .bf16) (n p : Fin 512) :
    k0_pay47 h w (ix2 n p) = ∑ d : Fin 1024, w (ix2 n d) * h (ix2 p d) := by
  pointwise [k0_pay47]

theorem krm_at (t : FVec Ideal S1x512x512 .f32) (p n : Fin 512) :
    (k0_pay7 (F := Ideal) t (ix3 0 p n) : EReal) = t (ix3 0 n p) := by
  pointwise [k0_pay7]

end Cert.Kernel2Ideal.Step

end
-- ==== Proof.InOut.lean ====
/- The blocks a step of the input projection leaves, read at an index. -/
module

public import proofs.«01_k».proof.Proof.InStep
public import Idealize.ShloMosaic.Lib.Pipeline.ValueKit.Tiles
@[expose] public section
noncomputable section
namespace Cert.Kernel2Ideal.Step
open Cert.Reference2Ideal.Stages (hid ropeVal)
open Cert.Kernel2Ideal Cert.Kernel2Ideal.Gen Idealize.ShloMosaic Idealize.ShloMosaic.TcCoe Idealize.SL.Sem

theorem hz2 : (![0, 0] : Fin 2 → ℕ) = fun _ => 0 := by funext a; fin_cases a <;> rfl
theorem hz3 : (![0, 0, 0] : Fin 3 → ℕ) = fun _ => 0 := by funext a; fin_cases a <;> rfl

/-- The rotary embedding of a block held features by rows. -/
def ropeG (A : FVec Ideal S512x512 .f32) (C N : FVec Ideal S32x512 .f32) : S1x512x512.Idx → EReal := fun y =>
  ropeVal (fun k => A (ix2 k (y 2 : Fin 512))) (fun r => C (ix2 r (y 2 : Fin 512))) (fun r => N (ix2 r (y 2 : Fin 512))) (y 1 : Fin 512)

theorem piece_fst (A : FVec Ideal S512x512 .f32) (C N : FVec Ideal S32x512 .f32) (o : ℕ) (ho : o % 64 = 0) (hb : o ≤ 448)
    (inb : ∀ a, (![0, o, 0] : Fin 3 → ℕ) a + (![1, 32, 512] : Fin 3 → ℕ) a ≤ S1x512x512.size a) (q : FVec Ideal S1x32x512 .f32)
    (h : ∀ (r : Fin 32) (p : Fin 512), q (ix3 0 r p) = A (ix2 ⟨o + r.val, by omega⟩ p) * C (ix2 r p) - A (ix2 ⟨o + 32 + r.val, by omega⟩ p) * N (ix2 r p))
    (x : S1x32x512.Idx) : q x = ropeG A C N ((Rect.unit (s := S1x512x512) ![0, o, 0] ![1, 32, 512] inb).emb x) := by
  obtain ⟨r, hr⟩ : ∃ r : Fin 32, r = x 1 := ⟨_, rfl⟩
  obtain ⟨p, hp⟩ : ∃ p : Fin 512, p = x 2 := ⟨_, rfl⟩
  have hx : x = ix3 0 r p := by
    rw [hr, hp]; funext a; apply Fin.ext
    match a with
    | ⟨0, _⟩ => have := (x 0).isLt; show (x 0).val = 0; have h1 : S1x32x512.size 0 = 1 := rfl; omega
    | ⟨1, _⟩ => rfl
    | ⟨2, _⟩ => rfl
  subst hx
  have hl := r.isLt
  have hy : (Rect.unit (s := S1x512x512) ![0, o, 0] ![1, 32, 512] inb).emb (ix3 0 r p) = (ix3 0 ⟨o + r.val, by omega⟩ p : S1x512x512.Idx) := by
    funext a; apply Fin.ext
    match a with
    | ⟨0, _⟩ => rfl
    | ⟨1, _⟩ => show o + 1 * r.val = o + r.val; omega
    | ⟨2, _⟩ => show 0 + 1 * p.val = p.val; omega
  refine (h r p).trans ?_
  refine Eq.trans ?_ (congrArg (ropeG A C N) hy).symm
  show _ = ropeVal (fun k => A (ix2 k p)) (fun r => C (ix2 r p)) (fun r => N (ix2 r p)) ⟨o + r.val, by omega⟩
  unfold ropeVal
  have hc : (o + r.val) % 64 < 32 := by omega
  have e2 : (⟨o + 32 + r.val, by omega⟩ : Fin 512) = Fin.ofNat 512 (o + r.val + 32) := Fin.ext (by show _ = (o + r.val + 32) % 512; dsimp only; omega)
  have e3 : r = Fin.ofNat 32 ((o + r.val) % 64) := Fin.ext (by show _ = ((o + r.val) % 64) % 32; omega)
  simp only [hc, if_true]
  rw [← e3, ← e2]

theorem piece_snd (A : FVec Ideal S512x512 .f32) (C N : FVec Ideal S32x512 .f32) (o : ℕ) (ho : o % 64 = 32) (hb : o ≤ 480)
    (inb : ∀ a, (![0, o, 0] : Fin 3 → ℕ) a + (![1, 32, 512] : Fin 3 → ℕ) a ≤ S1x512x512.size a) (q : FVec Ideal S1x32x512 .f32)
    (h : ∀ (r : Fin 32) (p : Fin 512), q (ix3 0 r p) = A (ix2 ⟨o + r.val, by omega⟩ p) * C (ix2 r p) + A (ix2 ⟨o - 32 + r.val, by omega⟩ p) * N (ix2 r p))
    (x : S1x32x512.Idx) : q x = ropeG A C N ((Rect.unit (s := S1x512x512) ![0, o, 0] ![1, 32, 512] inb).emb x) := by
  obtain ⟨r, hr⟩ : ∃ r : Fin 32, r = x 1 := ⟨_, rfl⟩
  obtain ⟨p, hp⟩ : ∃ p : Fin 512, p = x 2 := ⟨_, rfl⟩
  have hx : x = ix3 0 r p := by
    rw [hr, hp]; funext a; apply Fin.ext
    match a with
    | ⟨0, _⟩ => have := (x 0).isLt; show (x 0).val = 0; have h1 : S1x32x512.size 0 = 1 := rfl; omega
    | ⟨1, _⟩ => rfl
    | ⟨2, _⟩ => rfl
  subst hx
  have hl := r.isLt
  have hy : (Rect.unit (s := S1x512x512) ![0, o, 0] ![1, 32, 512] inb).emb (ix3 0 r p) = (ix3 0 ⟨o + r.val, by omega⟩ p : S1x512x512.Idx) := by
    funext a; apply Fin.ext
    match a with
    | ⟨0, _⟩ => rfl
    | ⟨1, _⟩ => show o + 1 * r.val = o + r.val; omega
    | ⟨2, _⟩ => show 0 + 1 * p.val = p.val; omega
  refine (h r p).trans ?_
  refine Eq.trans ?_ (congrArg (ropeG A C N) hy).symm
  show _ = ropeVal (fun k => A (ix2 k p)) (fun r => C (ix2 r p)) (fun r => N (ix2 r p)) ⟨o + r.val, by omega⟩
  unfold ropeVal
  have hc : ¬ (o + r.val) % 64 < 32 := by omega
  have e2 : (⟨o - 32 + r.val, by omega⟩ : Fin 512) = Fin.ofNat 512 (o + r.val - 32) := Fin.ext (by show _ = (o + r.val - 32) % 512; dsimp only; omega)
  have e3 : r = Fin.ofNat 32 ((o + r.val) % 64 - 32) := Fin.ext (by show _ = ((o + r.val) % 64 - 32) % 32; omega)
  simp only [hc, if_false]
  rw [← e3, ← e2]

variable (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1536 .bf16) (harg6 : arg6.IsWhole) (arg7 : Memref sig .tc .vmem S1536x1024 .bf16) (harg7 : arg7.IsWhole) (arg8 : Memref sig .tc .vmem S32x512 .f32) (harg8 : arg8.IsWhole) (arg9 : Memref sig .tc .vmem S32x512 .f32) (harg9 : arg9.IsWhole) (arg10 : Memref sig .tc .vmem S1x512x512 .f32) (harg10 : arg10.IsWhole) (arg11 : Memref sig .tc .vmem S1x512x1024 .bf16) (harg11 : arg11.IsWhole) (arg12 : Memref sig .tc .vmem S1x512x512 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole)
  (x0 : Vec Ideal S1x512x1024 .f32) (x1 : Vec Ideal S1x1x1024 .f32) (x2 : Vec Ideal S1x1x1024 .f32) (x3 : Vec Ideal S1x1024 .f32) (x4 : Vec Ideal S1024x1536 .bf16) (x5 : Vec Ideal S1536x1024 .bf16) (x6 : Vec Ideal S32x512 .f32) (x7 : Vec Ideal S32x512 .f32)

theorem r_eq : kernelRun0_A.sl.r c arg2 harg2 arg3 harg3 arg4 harg4 arg5 harg5 x0 x1 x2 x3 = k0_pay8 x0 x3 x1 x2 := by
  unfold kernelRun0_A.sl.r
  simp only [View.readAt_eq_ld, harg2.read_unread, harg3.read_unread, harg4.read_unread, harg5.read_unread]
  rw [View.ld_unit_zero hz3, View.ld_unit_zero hz2, View.ld_unit_zero hz3, View.ld_unit_zero hz3]

theorem rd7 (o : ℕ) (inb : ∀ a, (![o, 0] : Fin 2 → ℕ) a + (![512, 1024] : Fin 2 → ℕ) a ≤ S1536x1024.size a) (n : Fin 512) (d : Fin 1024) (ho : o ≤ 1024) :
    View.readAt (Elt Ideal) arg7.view (Rect.unit (s := S1536x1024) ![o, 0] ![512, 1024] inb).toLoadRect (harg7.unread x5) (ix2 n d : S512x1024.Idx) = x5 (ix2 ⟨o + n.val, by omega⟩ d) := by
  rw [View.readAt_eq_ld, harg7.read_unread]
  exact View.ld_unit_apply_of _ _ _ _ _ _ (fun a => by match a with | ⟨0, _⟩ => rfl | ⟨1, _⟩ => exact (Nat.zero_add _).symm)

theorem out13_at (n p : Fin 512) : out0_A_13 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 n p) = ∑ d : Fin 1024, x5 (ix2 ⟨1024 + n.val, by omega⟩ d) * (k0_pay8 (F := Ideal) x0 x3 x1 x2 (ix2 p d) : EReal) := by
  unfold out0_A_13
  rw [View.read_writes_junk_eq_canon]
  unfold kernelRun0_A
  dsimp only
  rw [View.canon_unit_zero hz3, r_eq, v_at]
  exact Finset.sum_congr rfl fun d _ => by rw [rd7 (ho := Nat.le_refl _)]

theorem out8_at (p n : Fin 512) : out0_A_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 p n) = ∑ d : Fin 1024, (k0_pay8 (F := Ideal) x0 x3 x1 x2 (ix2 p d) : EReal) * x4 (ix2 d ⟨n.val, by omega⟩) := by
  unfold out0_A_8
  rw [View.read_writes_junk_eq_canon]
  unfold kernelRun0_A
  dsimp only
  rw [View.canon_unit_zero hz3]
  simp only [View.readAt_eq_ld, harg2.read_unread, harg3.read_unread, harg4.read_unread, harg5.read_unread, harg6.read_unread]
  rw [View.ld_unit_zero hz3, View.ld_unit_zero hz2, View.ld_unit_zero hz3, View.ld_unit_zero hz3]
  refine (u_at _ _ _ _ _ _ _).trans (Finset.sum_congr rfl fun d _ => congrArg _ ?_)
  exact View.ld_unit_apply_of _ _ _ _ _ _ (fun a => by match a with | ⟨0, _⟩ => exact (Nat.zero_add _).symm | ⟨1, _⟩ => exact (Nat.zero_add _).symm)

theorem out9_at (p : Fin 512) (n : Fin 1024) : out0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 p n)
    = (∑ d : Fin 1024, (k0_pay8 (F := Ideal) x0 x3 x1 x2 (ix2 p d) : EReal) * x4 (ix2 d ⟨512 + n.val, by omega⟩)) * Ideal.div 1 (1 + Ideal.exp (-∑ d : Fin 1024, (k0_pay8 (F := Ideal) x0 x3 x1 x2 (ix2 p d) : EReal) * x4 (ix2 d ⟨512 + n.val, by omega⟩))) := by
  unfold out0_A_9
  rw [View.read_writes_junk_eq_canon]
  unfold kernelRun0_A
  dsimp only
  rw [View.canon_unit_zero hz3, r_eq, gate_at]
  have e : ∀ d : Fin 1024, kernelRun0_A.sl.r_1 c arg6 harg6 x4 (ix2 d n) = x4 (ix2 d ⟨512 + n.val, by omega⟩) := fun d => by
    unfold kernelRun0_A.sl.r_1
    rw [View.readAt_eq_ld, harg6.read_unread]
    refine Eq.trans ?_ (View.ld_unit_apply_of x4 ![0, 512] ![1024, 1024] inb_S1024x1536_S1024x1024_0_512 (ix2 d n : S1024x1024.Idx) (ix2 d ⟨512 + n.val, by omega⟩) (fun a => by match a with | ⟨0, _⟩ => exact (Nat.zero_add _).symm | ⟨1, _⟩ => rfl))
    first | rfl | (pointwise)
  simp only [e]

end Cert.Kernel2Ideal.Step

end
-- ==== Proof.InRope.lean ====
/- The queries' and the keys' blocks of a step of the input projection. -/
module

public import proofs.«01_k».proof.Proof.InOut
public import Idealize.ShloMosaic.Lib.Pipeline.ValueKit.Tiles
@[expose] public section
noncomputable section
namespace Cert.Kernel2Ideal.Step
set_option maxHeartbeats 4000000

open Cert.Reference2Ideal.Stages (hid ropeVal)
open Cert.Kernel2Ideal Cert.Kernel2Ideal.Gen Idealize.ShloMosaic Idealize.ShloMosaic.TcCoe Idealize.SL.Sem

variable (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1536 .bf16) (harg6 : arg6.IsWhole) (arg7 : Memref sig .tc .vmem S1536x1024 .bf16) (harg7 : arg7.IsWhole) (arg8 : Memref sig .tc .vmem S32x512 .f32) (harg8 : arg8.IsWhole) (arg9 : Memref sig .tc .vmem S32x512 .f32) (harg9 : arg9.IsWhole) (arg10 : Memref sig .tc .vmem S1x512x512 .f32) (harg10 : arg10.IsWhole) (arg11 : Memref sig .tc .vmem S1x512x1024 .bf16) (harg11 : arg11.IsWhole) (arg12 : Memref sig .tc .vmem S1x512x512 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole)
  (x0 : Vec Ideal S1x512x1024 .f32) (x1 : Vec Ideal S1x1x1024 .f32) (x2 : Vec Ideal S1x1x1024 .f32) (x3 : Vec Ideal S1x1024 .f32) (x4 : Vec Ideal S1024x1536 .bf16) (x5 : Vec Ideal S1536x1024 .bf16) (x6 : Vec Ideal S32x512 .f32) (x7 : Vec Ideal S32x512 .f32)

/-- The queries before their rotation, features by rows. -/
abbrev qMat : FVec Ideal S512x512 .f32 := kernelRun0_A.sl.r_4 c arg2 harg2 arg3 harg3 arg4 harg4 arg5 harg5 arg7 harg7 x0 x1 x2 x3 x5

theorem rd8 : View.readAt (Elt Ideal) arg8.view (Rect.unit ![0, 0] ![32, 512] inb_S32x512_S32x512_0_0).toLoadRect (harg8.unread x6) = x6 := by
  rw [View.readAt_eq_ld, harg8.read_unread]; exact View.ld_unit_zero hz2 _ _

theorem out11_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = ropeG (qMat c arg2 harg2 arg3 harg3 arg4 harg4 arg5 harg5 arg7 harg7 x0 x1 x2 x3 x5) x6 x7 := by
  funext y
  unfold out0_A_11
  rw [View.read_writes_junk_eq_canon]
  refine View.canon_apply_of_pieces _ _ ?_ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  have h8 := rd8 arg8 harg8 x6
  have h9 := rd8 arg9 harg9 x7
  intro q hq
  simp only [List.mem_cons, List.mem_nil_iff, or_false] at hq
  rcases hq with rfl | rfl | rfl | rfl | rfl | rfl | rfl | rfl | rfl | rfl | rfl | rfl | rfl | rfl | rfl | rfl
  all_goals
    first
    | refine piece_fst _ _ _ _ (by decide) (by decide) (by intro a; fin_cases a <;> decide) _ ?_
    | refine piece_snd _ _ _ _ (by decide) (by decide) (by intro a; fin_cases a <;> decide) _ ?_
    intro r p
    unfold qMat
    pointwise [k0_pay1, k0_pay2, k0_pay3, k0_pay4, k0_pay5, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19]
    try simp only [h8, h9]

/-- The keys before their rotation, features by rows. -/
abbrev kMat : FVec Ideal S512x512 .f32 := kernelRun0_A.sl.r_12 c arg2 harg2 arg3 harg3 arg4 harg4 arg5 harg5 arg7 harg7 x0 x1 x2 x3 x5

theorem out12_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = ropeG (kMat c arg2 harg2 arg3 harg3 arg4 harg4 arg5 harg5 arg7 harg7 x0 x1 x2 x3 x5) x6 x7 := by
  funext y
  unfold out0_A_12
  rw [View.read_writes_junk_eq_canon]
  refine View.canon_apply_of_pieces _ _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  simp only [kernelRun0_A.sl.H12_16]
  have h8 := rd8 arg8 harg8 x6
  have h9 := rd8 arg9 harg9 x7
  intro q hq
  simp only [List.mem_cons, List.mem_nil_iff, or_false] at hq
  rcases hq with rfl | rfl | rfl | rfl | rfl | rfl | rfl | rfl | rfl | rfl | rfl | rfl | rfl | rfl | rfl | rfl
  all_goals
    first
    | refine piece_fst _ _ _ _ (by decide) (by decide) (by intro a; fin_cases a <;> decide) _ ?_
    | refine piece_snd _ _ _ _ (by decide) (by decide) (by intro a; fin_cases a <;> decide) _ ?_
    intro r p
    unfold kMat
    pointwise [k0_pay1, k0_pay2, k0_pay3, k0_pay4, k0_pay5, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19]
    try simp only [h8, h9]

theorem out10_at (p n : Fin 512) : out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 p n) = out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 n p) := by
  unfold out0_A_10
  rw [View.read_writes_junk_eq_canon]
  unfold out0_A_12
  rw [View.read_writes_junk_eq_canon]
  unfold kernelRun0_A
  dsimp only
  rw [View.canon_unit_zero hz3]
  rw [krm_at]
  unfold kernelRun0_A.sl.v282
  refine (congrFun (View.readCov_eq_canon_ld _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)) _).trans ?_
  exact congrFun (View.ld_unit_zero hz3 _ _) _

theorem qMat_at (k p : Fin 512) : qMat c arg2 harg2 arg3 harg3 arg4 harg4 arg5 harg5 arg7 harg7 x0 x1 x2 x3 x5 (ix2 k p)
    = ∑ d : Fin 1024, x5 (ix2 ⟨k.val, by omega⟩ d) * (k0_pay8 (F := Ideal) x0 x3 x1 x2 (ix2 p d) : EReal) := by
  unfold qMat kernelRun0_A.sl.r_4
  rw [q_at, r_eq]
  refine Finset.sum_congr rfl fun d _ => ?_
  refine congrArg (fun z : EReal => z * (k0_pay8 (F := Ideal) x0 x3 x1 x2 (ix2 p d) : EReal)) ?_
  refine (rd7 arg7 harg7 x5 _ _ k d (by omega)).trans ?_
  first | rfl | exact congrArg (fun z => x5 (ix2 z d)) (Fin.ext (Nat.zero_add _))

theorem out11_at (n p : Fin 512) : out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 n p)
    = ropeVal (fun k => ∑ d : Fin 1024, x5 (ix2 ⟨k.val, by omega⟩ d) * (k0_pay8 (F := Ideal) x0 x3 x1 x2 (ix2 p d) : EReal)) (fun r => x6 (ix2 r p)) (fun r => x7 (ix2 r p)) n := by
  rw [out11_eq]
  exact congrArg (fun f => ropeVal f (fun r => x6 (ix2 r p)) (fun r => x7 (ix2 r p)) n) (funext fun k => qMat_at c arg2 harg2 arg3 harg3 arg4 harg4 arg5 harg5 arg7 harg7 x0 x1 x2 x3 x5 k p)

theorem kMat_at (k p : Fin 512) : kMat c arg2 harg2 arg3 harg3 arg4 harg4 arg5 harg5 arg7 harg7 x0 x1 x2 x3 x5 (ix2 k p)
    = ∑ d : Fin 1024, x5 (ix2 ⟨512 + k.val, by omega⟩ d) * (k0_pay8 (F := Ideal) x0 x3 x1 x2 (ix2 p d) : EReal) := by
  unfold kMat kernelRun0_A.sl.r_12
  rw [k_at, r_eq]
  refine Finset.sum_congr rfl fun d _ => ?_
  refine congrArg (fun z : EReal => z * (k0_pay8 (F := Ideal) x0 x3 x1 x2 (ix2 p d) : EReal)) ?_
  refine (rd7 arg7 harg7 x5 _ _ k d (by omega)).trans ?_
  first | rfl | exact congrArg (fun z => x5 (ix2 z d)) (Fin.ext (Nat.zero_add _))

theorem out12_at (n p : Fin 512) : out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 n p)
    = ropeVal (fun k => ∑ d : Fin 1024, x5 (ix2 ⟨512 + k.val, by omega⟩ d) * (k0_pay8 (F := Ideal) x0 x3 x1 x2 (ix2 p d) : EReal)) (fun r => x6 (ix2 r p)) (fun r => x7 (ix2 r p)) n := by
  rw [out12_eq]
  exact congrArg (fun f => ropeVal f (fun r => x6 (ix2 r p)) (fun r => x7 (ix2 r p)) n) (funext fun k => kMat_at c arg2 harg2 arg3 harg3 arg4 harg4 arg5 harg5 arg7 harg7 x0 x1 x2 x3 x5 k p)

end Cert.Kernel2Ideal.Step

end
-- ==== Proof.InHost.lean ====
/- What the host hands the input projection: the two halves of the weights, the tables and the norm's row. -/
module

public import proofs.«01_k».proof.Proof.Gen.Kernel2Ideal.Value
public import proofs.«01_k».proof.Proof.InRefAt
public import Idealize.ShloMosaic.Lib.Pointwise

@[expose] public section

noncomputable section

namespace Cert.Kernel2Ideal.Step

open Cert.Kernel2Ideal Cert.Kernel2Ideal.Gen Idealize.ShloMosaic Idealize.ShloMosaic.TcCoe Idealize.SL.Sem
open Cert.Reference2Ideal.Stages (uCol gCol angle angle_at)

/-- The columns whose products lie positions by rows: the recurrences' inputs, then the gates. -/
def rowCols (w : FVec Ideal S1024x3072 .f32) : FVec Ideal S1024x1536 .bf16 :=
  truncf .bf16 (concatenate S1024x1536 1 [⟨S1024x256, extractStridedSlice S1024x256 ![0, 0] w slices_S1024x3072_S1024x256_0_0⟩, ⟨S1024x256, extractStridedSlice S1024x256 ![0, 2560] w slices_S1024x3072_S1024x256_0_2560⟩, ⟨S1024x256, extractStridedSlice S1024x256 ![0, 256] w slices_S1024x3072_S1024x256_0_256⟩, ⟨S1024x512, extractStridedSlice S1024x512 ![0, 2048] w slices_S1024x3072_S1024x512_0_2048⟩, ⟨S1024x256, extractStridedSlice S1024x256 ![0, 2816] w slices_S1024x3072_S1024x256_0_2816⟩] concatenates_S1024x256_S1024x256_S1024x256_S1024x512_S1024x256_S1024x1536_d1) bitsLt_bf16_f32

/-- The columns whose products lie features by rows, as rows. -/
def headCols (w : FVec Ideal S1024x3072 .f32) : FVec Ideal S1536x1024 .bf16 :=
  truncf .bf16 (transpose S1536x1024 [1, 0] (concatenate S1024x1536 1 [⟨S1024x512, extractStridedSlice S1024x512 ![0, 512] w slices_S1024x3072_S1024x512_0_512⟩, ⟨S1024x512, extractStridedSlice S1024x512 ![0, 1024] w slices_S1024x3072_S1024x512_0_1024⟩, ⟨S1024x512, extractStridedSlice S1024x512 ![0, 1536] w slices_S1024x3072_S1024x512_0_1536⟩] concatenates_S1024x512_S1024x512_S1024x512_S1024x1536_d1) transposes_S1024x1536_S1536x1024_1_0) bitsLt_bf16_f32

/-- The angles, by pair and position. -/
def angles : FVec Ideal S32x4096 .f32 :=
  mulf (broadcastInDim S32x4096 ![0, 1] bcast_S32x1_S32x4096_0_1 (broadcastInDim S32x1 ![0] bcast_S32_S32x1_0 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))
    (broadcastInDim S32x4096 ![0, 1] bcast_S1x4096_S32x4096_0_1 (broadcastInDim S1x4096 ![1] bcast_S4096_S1x4096_1 (sitofp .f32 (iotaInDim S4096 32 0))))

def normRow (g : FVec Ideal S1024 .f32) : FVec Ideal S1x1024 .f32 := shapeCast S1x1024 g shapeCasts_S1024_S1x1024

theorem rowCols_u (w : FVec Ideal S1024x3072 .f32) (d : Fin 1024) (j : Fin 512) :
    rowCols w (ix2 d ⟨j.val, by omega⟩) = w (ix2 d (Fin.ofNat 3072 (uCol j.val))) := by
  have hj := j.isLt
  pointwise [rowCols]
  split <;> rename_i hc
  · exact congrArg (fun k => w (ix2 d k)) (Fin.ext (by show _ = uCol j.val % 3072; simp only [uCol, hc, if_true]; omega))
  · have hd : j.val - 256 < 256 := by omega
    simp only [hd, dite_true]
    exact congrArg (fun k => w (ix2 d k)) (Fin.ext (by show _ = uCol j.val % 3072; simp only [uCol, hc, if_false]; omega))

theorem rowCols_g (w : FVec Ideal S1024x3072 .f32) (d : Fin 1024) (j : Fin 1024) :
    rowCols w (ix2 d ⟨512 + j.val, by omega⟩) = w (ix2 d (Fin.ofNat 3072 (gCol j.val))) := by
  have hj := j.isLt
  pointwise [rowCols]
  have h1 : ¬ 512 + j.val < 256 := by omega
  have h2 : ¬ 512 + j.val - 256 < 256 := by omega
  simp only [h1, h2, dite_false]
  split <;> rename_i hc
  · have hc' : j.val < 256 := by omega
    exact congrArg (fun k => w (ix2 d k)) (Fin.ext (by show _ = gCol j.val % 3072; simp only [gCol, hc', if_true]; omega))
  · have hc' : ¬ j.val < 256 := by omega
    split <;> rename_i hd
    · have hd' : j.val < 768 := by omega
      exact congrArg (fun k => w (ix2 d k)) (Fin.ext (by show _ = gCol j.val % 3072; simp only [gCol, hc', hd', if_false, if_true]; omega))
    · have hd' : ¬ j.val < 768 := by omega
      exact congrArg (fun k => w (ix2 d k)) (Fin.ext (by show _ = gCol j.val % 3072; simp only [gCol, hc', hd', if_false]; omega))

theorem headCols_at (w : FVec Ideal S1024x3072 .f32) (k : Fin 1536) (d : Fin 1024) :
    headCols w (ix2 k d) = w (ix2 d ⟨512 + k.val, by omega⟩) := by
  have hk := k.isLt
  pointwise [headCols]
  split <;> rename_i hc
  · rfl
  · split <;> rename_i hd
    · exact congrArg (fun k => w (ix2 d k)) (Fin.ext (by dsimp only; omega))
    · exact congrArg (fun k => w (ix2 d k)) (Fin.ext (by dsimp only; omega))

theorem angles_at (r : Fin 32) (s : Fin 4096) : angles (ix2 r s) = angle (ix2 s r) := by
  rw [angle_at]
  pointwise [angles]
  exact mul_comm _ _

theorem normRow_at (g : FVec Ideal S1024 .f32) (d : Fin 1024) : normRow g (ix2 0 d) = g (ix1 d) := by
  pointwise [normRow]

variable (m : (ℓ : Loc nD τ sig) → Buf (Elt Ideal) ℓ)

theorem V_v9 (c : Dev nD) : V m c main_v9 = rowCols (m ((c.tc : Thread nD τ).loc main_arg4)) := by
  unfold V
  simp only [List.flatten, hostOps0, List.append]
  after_results_simp <;> rfl

theorem V_v12 (c : Dev nD) : V m c main_v12 = headCols (m ((c.tc : Thread nD τ).loc main_arg4)) := by
  unfold V
  simp only [List.flatten, hostOps0, List.append]
  after_results_simp <;> rfl

theorem V_v26 (c : Dev nD) : V m c main_v26 = Host.cos angles := by
  unfold V
  simp only [List.flatten, hostOps0, List.append]
  after_results_simp <;> rfl

theorem V_v27 (c : Dev nD) : V m c main_v27 = Host.sin angles := by
  unfold V
  simp only [List.flatten, hostOps0, List.append]
  after_results_simp <;> rfl

theorem V_v28 (c : Dev nD) : V m c main_v28 = normRow (m ((c.tc : Thread nD τ).loc main_arg3)) := by
  unfold V
  simp only [List.flatten, hostOps0, List.append]
  after_results_simp <;> rfl

end Cert.Kernel2Ideal.Step

end
-- ==== Proof.InBlocks.lean ====
/- The arrays after the last step of the input projection, and the reference's results. -/
module

public import proofs.«01_k».proof.Proof.InRope
public import proofs.«01_k».proof.Proof.InHost

@[expose] public section

noncomputable section

namespace Cert.Kernel2Ideal.Step

open Cert.Kernel2Ideal Cert.Kernel2Ideal.Gen Idealize.ShloMosaic Idealize.ShloMosaic.TcCoe Idealize.SL.Sem
open Idealize.ShloMosaic.Pipeline (Dat Window)
open Cert.Reference2Ideal.Stages (hid ropeVal hidden proj uCol gCol uOf gateOf preGate rope rows rounded qCols kCols vCols angle)

variable (m : (ℓ : Loc nD τ sig) → Buf (Elt Ideal) ℓ)

/-- A step's batch, and the positions of its block. -/
def bT (t : Fin cfg0.N) : Fin 4 := Fin.ofNat 4 (t.val / 8)
def sT (t : Fin cfg0.N) (p : Fin 512) : Fin 4096 := Fin.ofNat 4096 (t.val % 8 * 512 + p.val)

theorem t_lt (t : Fin cfg0.N) : t.val < 32 := lt_of_lt_of_eq t.isLt N_0
theorem bT_val (t : Fin cfg0.N) : (bT t).val = t.val / 8 := by have := t_lt t; show t.val / 8 % 4 = _; omega
theorem sT_val (t : Fin cfg0.N) (p : Fin 512) : (sT t p).val = t.val % 8 * 512 + p.val := by have := p.isLt; show (t.val % 8 * 512 + p.val) % 4096 = _; omega

/-- The projection of the arguments. -/
abbrev hidM (c : Dev nD) : FVec Ideal S4x4096x1024 .f32 :=
  hidden (m ((c.tc : Thread nD τ).loc main_arg0)) (m ((c.tc : Thread nD τ).loc main_arg1)) (m ((c.tc : Thread nD τ).loc main_arg2)) (m ((c.tc : Thread nD τ).loc main_arg3))
abbrev projM (c : Dev nD) : FVec Ideal Cert.Reference2Ideal.S4x4096x3072 .f32 := proj (hidM m c) (m ((c.tc : Thread nD τ).loc main_arg4))

theorem idx0 : ∀ t : Fin grid0.N, cc0_transform_0 (grid0.coords t) = ![t.val / 8, t.val % 8, 0] := by decide +kernel
theorem idx1 : ∀ t : Fin grid0.N, cc0_transform_1 (grid0.coords t) = ![t.val / 8, 0, 0] := by decide +kernel
theorem idx2 : ∀ t : Fin grid0.N, cc0_transform_2 (grid0.coords t) = ![t.val / 8, 0, 0] := by decide +kernel
theorem idx3 : ∀ t : Fin grid0.N, cc0_transform_3 (grid0.coords t) = ![0, 0] := by decide +kernel
theorem idx4 : ∀ t : Fin grid0.N, cc0_transform_4 (grid0.coords t) = ![0, 0] := by decide +kernel
theorem idx5 : ∀ t : Fin grid0.N, cc0_transform_5 (grid0.coords t) = ![0, 0] := by decide +kernel
theorem idx6 : ∀ t : Fin grid0.N, cc0_transform_6 (grid0.coords t) = ![0, t.val % 8] := by decide +kernel
theorem idx7 : ∀ t : Fin grid0.N, cc0_transform_7 (grid0.coords t) = ![0, t.val % 8] := by decide +kernel
theorem idx8 : ∀ t : Fin grid0.N, cc0_transform_8 (grid0.coords t) = ![t.val / 8, t.val % 8, 0] := by decide +kernel
theorem idx9 : ∀ t : Fin grid0.N, cc0_transform_9 (grid0.coords t) = ![t.val / 8, t.val % 8, 0] := by decide +kernel
theorem idx10 : ∀ t : Fin grid0.N, cc0_transform_10 (grid0.coords t) = ![t.val / 8, t.val % 8, 0] := by decide +kernel
theorem idx11 : ∀ t : Fin grid0.N, cc0_transform_11 (grid0.coords t) = ![t.val / 8, 0, t.val % 8] := by decide +kernel
theorem idx12 : ∀ t : Fin grid0.N, cc0_transform_12 (grid0.coords t) = ![t.val / 8, 0, t.val % 8] := by decide +kernel
theorem idx13 : ∀ t : Fin grid0.N, cc0_transform_13 (grid0.coords t) = ![t.val / 8, 0, t.val % 8] := by decide +kernel

theorem emb0 (t : Fin cfg0.N) (p : Fin 512) (n : Fin 1024) : ((cfg0.win 0).blk t).view.emb ((ix3 0 p n : (⟨3, ![1, 512, 1024]⟩ : Shape).Idx)) = (ix3 (bT t) (sT t p) n) := by
  have ht := t_lt t
  funext a
  apply Fin.ext
  match a with
  | ⟨0, _⟩ => show cc0_transform_0 (grid0.coords t) 0 * 1 + 1 * 0 = (bT t).val; rw [idx0 t]; first | (simp only [bT_val, sT_val]; show (t.val / 8) * 1 + 1 * 0 = _; omega) | (show (t.val / 8) * 1 + 1 * 0 = _; omega)
  | ⟨1, _⟩ => show cc0_transform_0 (grid0.coords t) 1 * 512 + 1 * p.val = (sT t p).val; rw [idx0 t]; first | (simp only [bT_val, sT_val]; show (t.val % 8) * 512 + 1 * p.val = _; omega) | (show (t.val % 8) * 512 + 1 * p.val = _; omega)
  | ⟨2, _⟩ => show cc0_transform_0 (grid0.coords t) 2 * 1024 + 1 * n.val = n.val; rw [idx0 t]; first | (simp only [bT_val, sT_val]; show (0) * 1024 + 1 * n.val = _; omega) | (show (0) * 1024 + 1 * n.val = _; omega)

theorem emb1 (t : Fin cfg0.N) (d : Fin 1024) : ((cfg0.win 1).blk t).view.emb ((ix3 0 0 d : (⟨3, ![1, 1, 1024]⟩ : Shape).Idx)) = (ix3 (bT t) 0 d) := by
  have ht := t_lt t
  funext a
  apply Fin.ext
  match a with
  | ⟨0, _⟩ => show cc0_transform_1 (grid0.coords t) 0 * 1 + 1 * 0 = (bT t).val; rw [idx1 t]; first | (simp only [bT_val, sT_val]; show (t.val / 8) * 1 + 1 * 0 = _; omega) | (show (t.val / 8) * 1 + 1 * 0 = _; omega)
  | ⟨1, _⟩ => show cc0_transform_1 (grid0.coords t) 1 * 1 + 1 * 0 = 0; rw [idx1 t]; first | (simp only [bT_val, sT_val]; show (0) * 1 + 1 * 0 = _; omega) | (show (0) * 1 + 1 * 0 = _; omega)
  | ⟨2, _⟩ => show cc0_transform_1 (grid0.coords t) 2 * 1024 + 1 * d.val = d.val; rw [idx1 t]; first | (simp only [bT_val, sT_val]; show (0) * 1024 + 1 * d.val = _; omega) | (show (0) * 1024 + 1 * d.val = _; omega)

theorem emb2 (t : Fin cfg0.N) (d : Fin 1024) : ((cfg0.win 2).blk t).view.emb ((ix3 0 0 d : (⟨3, ![1, 1, 1024]⟩ : Shape).Idx)) = (ix3 (bT t) 0 d) := by
  have ht := t_lt t
  funext a
  apply Fin.ext
  match a with
  | ⟨0, _⟩ => show cc0_transform_2 (grid0.coords t) 0 * 1 + 1 * 0 = (bT t).val; rw [idx2 t]; first | (simp only [bT_val, sT_val]; show (t.val / 8) * 1 + 1 * 0 = _; omega) | (show (t.val / 8) * 1 + 1 * 0 = _; omega)
  | ⟨1, _⟩ => show cc0_transform_2 (grid0.coords t) 1 * 1 + 1 * 0 = 0; rw [idx2 t]; first | (simp only [bT_val, sT_val]; show (0) * 1 + 1 * 0 = _; omega) | (show (0) * 1 + 1 * 0 = _; omega)
  | ⟨2, _⟩ => show cc0_transform_2 (grid0.coords t) 2 * 1024 + 1 * d.val = d.val; rw [idx2 t]; first | (simp only [bT_val, sT_val]; show (0) * 1024 + 1 * d.val = _; omega) | (show (0) * 1024 + 1 * d.val = _; omega)

theorem emb3 (t : Fin cfg0.N) (d : Fin 1024) : ((cfg0.win 3).blk t).view.emb ((ix2 0 d : (⟨2, ![1, 1024]⟩ : Shape).Idx)) = (ix2 0 d) := by
  have ht := t_lt t
  funext a
  apply Fin.ext
  match a with
  | ⟨0, _⟩ => show cc0_transform_3 (grid0.coords t) 0 * 1 + 1 * 0 = 0; rw [idx3 t]; first | (simp only [bT_val, sT_val]; show (0) * 1 + 1 * 0 = _; omega) | (show (0) * 1 + 1 * 0 = _; omega)
  | ⟨1, _⟩ => show cc0_transform_3 (grid0.coords t) 1 * 1024 + 1 * d.val = d.val; rw [idx3 t]; first | (simp only [bT_val, sT_val]; show (0) * 1024 + 1 * d.val = _; omega) | (show (0) * 1024 + 1 * d.val = _; omega)

theorem emb4 (t : Fin cfg0.N) (d : Fin 1024) (j : Fin 1536) : ((cfg0.win 4).blk t).view.emb ((ix2 d j : (⟨2, ![1024, 1536]⟩ : Shape).Idx)) = (ix2 d j) := by
  have ht := t_lt t
  funext a
  apply Fin.ext
  match a with
  | ⟨0, _⟩ => show cc0_transform_4 (grid0.coords t) 0 * 1024 + 1 * d.val = d.val; rw [idx4 t]; first | (simp only [bT_val, sT_val]; show (0) * 1024 + 1 * d.val = _; omega) | (show (0) * 1024 + 1 * d.val = _; omega)
  | ⟨1, _⟩ => show cc0_transform_4 (grid0.coords t) 1 * 1536 + 1 * j.val = j.val; rw [idx4 t]; first | (simp only [bT_val, sT_val]; show (0) * 1536 + 1 * j.val = _; omega) | (show (0) * 1536 + 1 * j.val = _; omega)

theorem emb5 (t : Fin cfg0.N) (j : Fin 1536) (d : Fin 1024) : ((cfg0.win 5).blk t).view.emb ((ix2 j d : (⟨2, ![1536, 1024]⟩ : Shape).Idx)) = (ix2 j d) := by
  have ht := t_lt t
  funext a
  apply Fin.ext
  match a with
  | ⟨0, _⟩ => show cc0_transform_5 (grid0.coords t) 0 * 1536 + 1 * j.val = j.val; rw [idx5 t]; first | (simp only [bT_val, sT_val]; show (0) * 1536 + 1 * j.val = _; omega) | (show (0) * 1536 + 1 * j.val = _; omega)
  | ⟨1, _⟩ => show cc0_transform_5 (grid0.coords t) 1 * 1024 + 1 * d.val = d.val; rw [idx5 t]; first | (simp only [bT_val, sT_val]; show (0) * 1024 + 1 * d.val = _; omega) | (show (0) * 1024 + 1 * d.val = _; omega)

theorem emb6 (t : Fin cfg0.N) (r : Fin 32) (p : Fin 512) : ((cfg0.win 6).blk t).view.emb ((ix2 r p : (⟨2, ![32, 512]⟩ : Shape).Idx)) = (ix2 r (sT t p)) := by
  have ht := t_lt t
  funext a
  apply Fin.ext
  match a with
  | ⟨0, _⟩ => show cc0_transform_6 (grid0.coords t) 0 * 32 + 1 * r.val = r.val; rw [idx6 t]; first | (simp only [bT_val, sT_val]; show (0) * 32 + 1 * r.val = _; omega) | (show (0) * 32 + 1 * r.val = _; omega)
  | ⟨1, _⟩ => show cc0_transform_6 (grid0.coords t) 1 * 512 + 1 * p.val = (sT t p).val; rw [idx6 t]; first | (simp only [bT_val, sT_val]; show (t.val % 8) * 512 + 1 * p.val = _; omega) | (show (t.val % 8) * 512 + 1 * p.val = _; omega)

theorem emb7 (t : Fin cfg0.N) (r : Fin 32) (p : Fin 512) : ((cfg0.win 7).blk t).view.emb ((ix2 r p : (⟨2, ![32, 512]⟩ : Shape).Idx)) = (ix2 r (sT t p)) := by
  have ht := t_lt t
  funext a
  apply Fin.ext
  match a with
  | ⟨0, _⟩ => show cc0_transform_7 (grid0.coords t) 0 * 32 + 1 * r.val = r.val; rw [idx7 t]; first | (simp only [bT_val, sT_val]; show (0) * 32 + 1 * r.val = _; omega) | (show (0) * 32 + 1 * r.val = _; omega)
  | ⟨1, _⟩ => show cc0_transform_7 (grid0.coords t) 1 * 512 + 1 * p.val = (sT t p).val; rw [idx7 t]; first | (simp only [bT_val, sT_val]; show (t.val % 8) * 512 + 1 * p.val = _; omega) | (show (t.val % 8) * 512 + 1 * p.val = _; omega)

theorem emb8 (t : Fin cfg0.N) (p : Fin 512) (n : Fin 512) : ((cfg0.win 8).blk t).view.emb ((ix3 0 p n : (⟨3, ![1, 512, 512]⟩ : Shape).Idx)) = (ix3 (bT t) (sT t p) n) := by
  have ht := t_lt t
  funext a
  apply Fin.ext
  match a with
  | ⟨0, _⟩ => show cc0_transform_8 (grid0.coords t) 0 * 1 + 1 * 0 = (bT t).val; rw [idx8 t]; first | (simp only [bT_val, sT_val]; show (t.val / 8) * 1 + 1 * 0 = _; omega) | (show (t.val / 8) * 1 + 1 * 0 = _; omega)
  | ⟨1, _⟩ => show cc0_transform_8 (grid0.coords t) 1 * 512 + 1 * p.val = (sT t p).val; rw [idx8 t]; first | (simp only [bT_val, sT_val]; show (t.val % 8) * 512 + 1 * p.val = _; omega) | (show (t.val % 8) * 512 + 1 * p.val = _; omega)
  | ⟨2, _⟩ => show cc0_transform_8 (grid0.coords t) 2 * 512 + 1 * n.val = n.val; rw [idx8 t]; first | (simp only [bT_val, sT_val]; show (0) * 512 + 1 * n.val = _; omega) | (show (0) * 512 + 1 * n.val = _; omega)

theorem emb9 (t : Fin cfg0.N) (p : Fin 512) (n : Fin 1024) : ((cfg0.win 9).blk t).view.emb ((ix3 0 p n : (⟨3, ![1, 512, 1024]⟩ : Shape).Idx)) = (ix3 (bT t) (sT t p) n) := by
  have ht := t_lt t
  funext a
  apply Fin.ext
  match a with
  | ⟨0, _⟩ => show cc0_transform_9 (grid0.coords t) 0 * 1 + 1 * 0 = (bT t).val; rw [idx9 t]; first | (simp only [bT_val, sT_val]; show (t.val / 8) * 1 + 1 * 0 = _; omega) | (show (t.val / 8) * 1 + 1 * 0 = _; omega)
  | ⟨1, _⟩ => show cc0_transform_9 (grid0.coords t) 1 * 512 + 1 * p.val = (sT t p).val; rw [idx9 t]; first | (simp only [bT_val, sT_val]; show (t.val % 8) * 512 + 1 * p.val = _; omega) | (show (t.val % 8) * 512 + 1 * p.val = _; omega)
  | ⟨2, _⟩ => show cc0_transform_9 (grid0.coords t) 2 * 1024 + 1 * n.val = n.val; rw [idx9 t]; first | (simp only [bT_val, sT_val]; show (0) * 1024 + 1 * n.val = _; omega) | (show (0) * 1024 + 1 * n.val = _; omega)

theorem emb10 (t : Fin cfg0.N) (p : Fin 512) (n : Fin 512) : ((cfg0.win 10).blk t).view.emb ((ix3 0 p n : (⟨3, ![1, 512, 512]⟩ : Shape).Idx)) = (ix3 (bT t) (sT t p) n) := by
  have ht := t_lt t
  funext a
  apply Fin.ext
  match a with
  | ⟨0, _⟩ => show cc0_transform_10 (grid0.coords t) 0 * 1 + 1 * 0 = (bT t).val; rw [idx10 t]; first | (simp only [bT_val, sT_val]; show (t.val / 8) * 1 + 1 * 0 = _; omega) | (show (t.val / 8) * 1 + 1 * 0 = _; omega)
  | ⟨1, _⟩ => show cc0_transform_10 (grid0.coords t) 1 * 512 + 1 * p.val = (sT t p).val; rw [idx10 t]; first | (simp only [bT_val, sT_val]; show (t.val % 8) * 512 + 1 * p.val = _; omega) | (show (t.val % 8) * 512 + 1 * p.val = _; omega)
  | ⟨2, _⟩ => show cc0_transform_10 (grid0.coords t) 2 * 512 + 1 * n.val = n.val; rw [idx10 t]; first | (simp only [bT_val, sT_val]; show (0) * 512 + 1 * n.val = _; omega) | (show (0) * 512 + 1 * n.val = _; omega)

theorem emb11 (t : Fin cfg0.N) (n p : Fin 512) : ((cfg0.win 11).blk t).view.emb ((ix3 0 n p : (⟨3, ![1, 512, 512]⟩ : Shape).Idx)) = (ix3 (bT t) n (sT t p)) := by
  have ht := t_lt t
  funext a
  apply Fin.ext
  match a with
  | ⟨0, _⟩ => show cc0_transform_11 (grid0.coords t) 0 * 1 + 1 * 0 = (bT t).val; rw [idx11 t]; first | (simp only [bT_val, sT_val]; show (t.val / 8) * 1 + 1 * 0 = _; omega) | (show (t.val / 8) * 1 + 1 * 0 = _; omega)
  | ⟨1, _⟩ => show cc0_transform_11 (grid0.coords t) 1 * 512 + 1 * n.val = n.val; rw [idx11 t]; first | (simp only [bT_val, sT_val]; show (0) * 512 + 1 * n.val = _; omega) | (show (0) * 512 + 1 * n.val = _; omega)
  | ⟨2, _⟩ => show cc0_transform_11 (grid0.coords t) 2 * 512 + 1 * p.val = (sT t p).val; rw [idx11 t]; first | (simp only [bT_val, sT_val]; show (t.val % 8) * 512 + 1 * p.val = _; omega) | (show (t.val % 8) * 512 + 1 * p.val = _; omega)

theorem emb12 (t : Fin cfg0.N) (n p : Fin 512) : ((cfg0.win 12).blk t).view.emb ((ix3 0 n p : (⟨3, ![1, 512, 512]⟩ : Shape).Idx)) = (ix3 (bT t) n (sT t p)) := by
  have ht := t_lt t
  funext a
  apply Fin.ext
  match a with
  | ⟨0, _⟩ => show cc0_transform_12 (grid0.coords t) 0 * 1 + 1 * 0 = (bT t).val; rw [idx12 t]; first | (simp only [bT_val, sT_val]; show (t.val / 8) * 1 + 1 * 0 = _; omega) | (show (t.val / 8) * 1 + 1 * 0 = _; omega)
  | ⟨1, _⟩ => show cc0_transform_12 (grid0.coords t) 1 * 512 + 1 * n.val = n.val; rw [idx12 t]; first | (simp only [bT_val, sT_val]; show (0) * 512 + 1 * n.val = _; omega) | (show (0) * 512 + 1 * n.val = _; omega)
  | ⟨2, _⟩ => show cc0_transform_12 (grid0.coords t) 2 * 512 + 1 * p.val = (sT t p).val; rw [idx12 t]; first | (simp only [bT_val, sT_val]; show (t.val % 8) * 512 + 1 * p.val = _; omega) | (show (t.val % 8) * 512 + 1 * p.val = _; omega)

theorem emb13 (t : Fin cfg0.N) (n p : Fin 512) : ((cfg0.win 13).blk t).view.emb ((ix3 0 n p : (⟨3, ![1, 512, 512]⟩ : Shape).Idx)) = (ix3 (bT t) n (sT t p)) := by
  have ht := t_lt t
  funext a
  apply Fin.ext
  match a with
  | ⟨0, _⟩ => show cc0_transform_13 (grid0.coords t) 0 * 1 + 1 * 0 = (bT t).val; rw [idx13 t]; first | (simp only [bT_val, sT_val]; show (t.val / 8) * 1 + 1 * 0 = _; omega) | (show (t.val / 8) * 1 + 1 * 0 = _; omega)
  | ⟨1, _⟩ => show cc0_transform_13 (grid0.coords t) 1 * 512 + 1 * n.val = n.val; rw [idx13 t]; first | (simp only [bT_val, sT_val]; show (0) * 512 + 1 * n.val = _; omega) | (show (0) * 512 + 1 * n.val = _; omega)
  | ⟨2, _⟩ => show cc0_transform_13 (grid0.coords t) 2 * 512 + 1 * p.val = (sT t p).val; rw [idx13 t]; first | (simp only [bT_val, sT_val]; show (t.val % 8) * 512 + 1 * p.val = _; omega) | (show (t.val % 8) * 512 + 1 * p.val = _; omega)

theorem in0 (c : Dev nD) (t : Fin cfg0.N) (p : Fin 512) (d : Fin 1024) : (iblk m c 0 t : _ → EReal) ((ix3 0 p d : S1x512x1024.Idx)) = (m ((c.tc : Thread nD τ).loc main_arg0) : S4x4096x1024.Idx → EReal) (ix3 (bT t) (sT t p) d) := by
  show V m c main_arg0 (((cfg0.win 0).blk t).view.emb ((ix3 0 p d : S1x512x1024.Idx))) = _
  rw [emb0]
  rw [V_main_arg0]

theorem in1 (c : Dev nD) (t : Fin cfg0.N) (d : Fin 1024) : (iblk m c 1 t : _ → EReal) ((ix3 0 0 d : S1x1x1024.Idx)) = (m ((c.tc : Thread nD τ).loc main_arg1) : S4x1x1024.Idx → EReal) (ix3 (bT t) 0 d) := by
  show V m c main_arg1 (((cfg0.win 1).blk t).view.emb ((ix3 0 0 d : S1x1x1024.Idx))) = _
  rw [emb1]
  rw [V_main_arg1]

theorem in2 (c : Dev nD) (t : Fin cfg0.N) (d : Fin 1024) : (iblk m c 2 t : _ → EReal) ((ix3 0 0 d : S1x1x1024.Idx)) = (m ((c.tc : Thread nD τ).loc main_arg2) : S4x1x1024.Idx → EReal) (ix3 (bT t) 0 d) := by
  show V m c main_arg2 (((cfg0.win 2).blk t).view.emb ((ix3 0 0 d : S1x1x1024.Idx))) = _
  rw [emb2]
  rw [V_main_arg2]

theorem in3 (c : Dev nD) (t : Fin cfg0.N) (d : Fin 1024) : (iblk m c 3 t : _ → EReal) ((ix2 0 d : S1x1024.Idx)) = (m ((c.tc : Thread nD τ).loc main_arg3) : S1024.Idx → EReal) (ix1 d) := by
  show V m c main_v28 (((cfg0.win 3).blk t).view.emb ((ix2 0 d : S1x1024.Idx))) = _
  rw [emb3]
  rw [V_v28]; exact normRow_at _ d

theorem in4 (c : Dev nD) (t : Fin cfg0.N) (d : Fin 1024) (j : Fin 1536) : (iblk m c 4 t : _ → EReal) ((ix2 d j : S1024x1536.Idx)) = rowCols (m ((c.tc : Thread nD τ).loc main_arg4)) (ix2 d j) := by
  show V m c main_v9 (((cfg0.win 4).blk t).view.emb ((ix2 d j : S1024x1536.Idx))) = _
  rw [emb4]
  rw [V_v9]

theorem in5 (c : Dev nD) (t : Fin cfg0.N) (j : Fin 1536) (d : Fin 1024) : (iblk m c 5 t : _ → EReal) ((ix2 j d : S1536x1024.Idx)) = headCols (m ((c.tc : Thread nD τ).loc main_arg4)) (ix2 j d) := by
  show V m c main_v12 (((cfg0.win 5).blk t).view.emb ((ix2 j d : S1536x1024.Idx))) = _
  rw [emb5]
  rw [V_v12]

theorem in6 (c : Dev nD) (t : Fin cfg0.N) (r : Fin 32) (p : Fin 512) : (iblk m c 6 t : _ → EReal) ((ix2 r p : S32x512.Idx)) = Ideal.cos (angle (ix2 (sT t p) r)) := by
  show V m c main_v26 (((cfg0.win 6).blk t).view.emb ((ix2 r p : S32x512.Idx))) = _
  rw [emb6]
  rw [V_v26]; exact congrArg Ideal.cos (angles_at r (sT t p))

theorem in7 (c : Dev nD) (t : Fin cfg0.N) (r : Fin 32) (p : Fin 512) : (iblk m c 7 t : _ → EReal) ((ix2 r p : S32x512.Idx)) = Ideal.sin (angle (ix2 (sT t p) r)) := by
  show V m c main_v27 (((cfg0.win 7).blk t).view.emb ((ix2 r p : S32x512.Idx))) = _
  rw [emb7]
  rw [V_v27]; exact congrArg Ideal.sin (angles_at r (sT t p))

theorem hid_congr {x x' : Fin 1024 → EReal} {sc sc' sh sh' g g' : EReal} (hx : x = x') (h1 : sc = sc') (h2 : sh = sh') (h3 : g = g') (d : Fin 1024) :
    hid x sc sh g d = hid x' sc' sh' g' d := by subst hx h1 h2 h3; rfl

theorem ropeVal_congr {f f' : Fin 512 → EReal} {u u' v v' : Fin 32 → EReal} (hf : f = f') (hu : u = u') (hv : v = v') (n : Fin 512) :
    ropeVal f u v n = ropeVal f' u' v' n := by subst hf hu hv; rfl

/-- A step's normed and modulated block is the reference's, at its positions. -/
theorem hid_block (c : Dev nD) (t : Fin cfg0.N) (p : Fin 512) (d : Fin 1024) :
    (k0_pay8 (F := Ideal) (iblk m c 0 t) (iblk m c 3 t) (iblk m c 1 t) (iblk m c 2 t) (ix2 p d) : EReal) = hidM m c (ix3 (bT t) (sT t p) d) := by
  refine (hidden_at _ _ _ _ p d).trans (Eq.trans ?_ (Cert.Reference2Ideal.Stages.hidden_at (m ((c.tc : Thread nD τ).loc main_arg0)) (m ((c.tc : Thread nD τ).loc main_arg1)) (m ((c.tc : Thread nD τ).loc main_arg2)) (m ((c.tc : Thread nD τ).loc main_arg3)) (bT t) (sT t p) d).symm)
  exact hid_congr (funext fun k => in0 m c t p k) (in1 m c t d) (in2 m c t d) (in3 m c t d) d

end Cert.Kernel2Ideal.Step

end
-- ==== Proof.InSum.lean ====
/- The blocks a step leaves, with the heads' sums named. -/
module

public import proofs.«01_k».proof.Proof.InRope
@[expose] public section
noncomputable section
namespace Cert.Kernel2Ideal.Step
set_option maxHeartbeats 4000000

open Cert.Reference2Ideal.Stages (hid ropeVal)
open Cert.Kernel2Ideal Cert.Kernel2Ideal.Gen Idealize.ShloMosaic Idealize.ShloMosaic.TcCoe Idealize.SL.Sem

/-- A head's column of a step: a row of the turned weight against a row of the normed input. -/
def headSum (w : S1536x1024.Idx → EReal) (h : S512x1024.Idx → EReal) (k : Fin 1536) (p : Fin 512) : EReal := ∑ d : Fin 1024, w (ix2 k d) * h (ix2 p d)

/-- A step's rotated columns of the queries. -/
def qRope (w : S1536x1024.Idx → EReal) (h : S512x1024.Idx → EReal) (C N : S32x512.Idx → EReal) (n p : Fin 512) : EReal :=
  ropeVal (fun k => headSum w h ⟨k.val, by omega⟩ p) (fun r => C (ix2 r p)) (fun r => N (ix2 r p)) n

/-- A step's rotated columns of the keys. -/
def kRope (w : S1536x1024.Idx → EReal) (h : S512x1024.Idx → EReal) (C N : S32x512.Idx → EReal) (n p : Fin 512) : EReal :=
  ropeVal (fun k => headSum w h ⟨512 + k.val, by omega⟩ p) (fun r => C (ix2 r p)) (fun r => N (ix2 r p)) n

variable (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1536 .bf16) (harg6 : arg6.IsWhole) (arg7 : Memref sig .tc .vmem S1536x1024 .bf16) (harg7 : arg7.IsWhole) (arg8 : Memref sig .tc .vmem S32x512 .f32) (harg8 : arg8.IsWhole) (arg9 : Memref sig .tc .vmem S32x512 .f32) (harg9 : arg9.IsWhole) (arg10 : Memref sig .tc .vmem S1x512x512 .f32) (harg10 : arg10.IsWhole) (arg11 : Memref sig .tc .vmem S1x512x1024 .bf16) (harg11 : arg11.IsWhole) (arg12 : Memref sig .tc .vmem S1x512x512 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole)
  (x0 : Vec Ideal S1x512x1024 .f32) (x1 : Vec Ideal S1x1x1024 .f32) (x2 : Vec Ideal S1x1x1024 .f32) (x3 : Vec Ideal S1x1024 .f32) (x4 : Vec Ideal S1024x1536 .bf16) (x5 : Vec Ideal S1536x1024 .bf16) (x6 : Vec Ideal S32x512 .f32) (x7 : Vec Ideal S32x512 .f32)

theorem out13_sum (n p : Fin 512) : out0_A_13 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 n p) = headSum x5 (k0_pay8 (F := Ideal) x0 x3 x1 x2) ⟨1024 + n.val, by omega⟩ p :=
  out13_at c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 n p

theorem out11_sum (n p : Fin 512) : out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 n p)
    = qRope x5 (k0_pay8 (F := Ideal) x0 x3 x1 x2) x6 x7 n p :=
  out11_at c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 n p

theorem out12_sum (n p : Fin 512) : out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 n p)
    = kRope x5 (k0_pay8 (F := Ideal) x0 x3 x1 x2) x6 x7 n p :=
  out12_at c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 n p

end Cert.Kernel2Ideal.Step

end
-- ==== Proof.InHeads.lean ====
/- The heads' columns of a step, as the reference's projection at the step's positions. -/
module

public import proofs.«01_k».proof.Proof.InBlocks
public import proofs.«01_k».proof.Proof.InSum

@[expose] public section

noncomputable section

namespace Cert.Kernel2Ideal.Step

open Cert.Kernel2Ideal Cert.Kernel2Ideal.Gen Idealize.ShloMosaic Idealize.ShloMosaic.TcCoe Idealize.SL.Sem
open Idealize.ShloMosaic.Pipeline (Dat Window)
open Cert.Reference2Ideal.Stages (hid ropeVal hidden proj uCol gCol uOf gateOf preGate rope rows rounded qCols kCols vCols angle)

variable (m : (ℓ : Loc nD τ sig) → Buf (Elt Ideal) ℓ)

theorem sum_swap (a h w h' : Fin 1024 → EReal) (ea : ∀ d, a d = w d) (eh : ∀ d, h d = h' d) : (∑ d, a d * h d) = ∑ d, h' d * w d :=
  Finset.sum_congr rfl fun d _ => by rw [ea, eh, mul_comm]

theorem head_sum (c : Dev nD) (t : Fin cfg0.N) (p : Fin 512) (k : Fin 1536) :
    headSum (iblk m c 5 t) (k0_pay8 (F := Ideal) (iblk m c 0 t) (iblk m c 3 t) (iblk m c 1 t) (iblk m c 2 t)) k p
      = projM m c (ix3 (bT t) (sT t p) ⟨512 + k.val, by omega⟩) :=
  (sum_swap (fun d => (iblk m c 5 t : _ → EReal) ((ix2 k d : S1536x1024.Idx))) (fun d => k0_pay8 (F := Ideal) (iblk m c 0 t) (iblk m c 3 t) (iblk m c 1 t) (iblk m c 2 t) (ix2 p d))
    (fun d => (m ((c.tc : Thread nD τ).loc main_arg4) : S1024x3072.Idx → EReal) (ix2 d ⟨512 + k.val, by omega⟩)) (fun d => hidM m c (ix3 (bT t) (sT t p) d))
    (fun d => (in5 m c t k d).trans (headCols_at (m ((c.tc : Thread nD τ).loc main_arg4) : S1024x3072.Idx → EReal) k d)) (fun d => hid_block m c t p d)).trans
    (Cert.Reference2Ideal.Stages.proj_at (hidM m c) (m ((c.tc : Thread nD τ).loc main_arg4) : S1024x3072.Idx → EReal) (bT t) (sT t p) ⟨512 + k.val, by omega⟩).symm

theorem q_sum (c : Dev nD) (t : Fin cfg0.N) (p k : Fin 512) :
    headSum (iblk m c 5 t) (k0_pay8 (F := Ideal) (iblk m c 0 t) (iblk m c 3 t) (iblk m c 1 t) (iblk m c 2 t)) ⟨k.val, by omega⟩ p
      = qCols (projM m c) (ix3 (bT t) (sT t p) k) := by
  have e : (⟨512 + (k.val), by omega⟩ : Fin 3072) = ⟨512 + k.val, by omega⟩ := Fin.ext rfl
  have h := head_sum m c t p ⟨k.val, by omega⟩
  rw [show (⟨512 + (⟨k.val, by omega⟩ : Fin 1536).val, by omega⟩ : Fin 3072) = ⟨512 + k.val, by omega⟩ from e] at h
  exact h.trans (Cert.Reference2Ideal.Stages.q_at (projM m c) (bT t) (sT t p) k).symm

theorem k_sum (c : Dev nD) (t : Fin cfg0.N) (p k : Fin 512) :
    headSum (iblk m c 5 t) (k0_pay8 (F := Ideal) (iblk m c 0 t) (iblk m c 3 t) (iblk m c 1 t) (iblk m c 2 t)) ⟨512 + k.val, by omega⟩ p
      = kCols (projM m c) (ix3 (bT t) (sT t p) k) := by
  have e : (⟨512 + (512 + k.val), by omega⟩ : Fin 3072) = ⟨1024 + k.val, by omega⟩ := Fin.ext (show 512 + (512 + k.val) = 1024 + k.val by omega)
  have h := head_sum m c t p ⟨512 + k.val, by omega⟩
  rw [show (⟨512 + (⟨512 + k.val, by omega⟩ : Fin 1536).val, by omega⟩ : Fin 3072) = ⟨1024 + k.val, by omega⟩ from e] at h
  exact h.trans (Cert.Reference2Ideal.Stages.k_at (projM m c) (bT t) (sT t p) k).symm

theorem v_sum (c : Dev nD) (t : Fin cfg0.N) (p k : Fin 512) :
    headSum (iblk m c 5 t) (k0_pay8 (F := Ideal) (iblk m c 0 t) (iblk m c 3 t) (iblk m c 1 t) (iblk m c 2 t)) ⟨1024 + k.val, by omega⟩ p
      = vCols (projM m c) (ix3 (bT t) (sT t p) k) := by
  have e : (⟨512 + (1024 + k.val), by omega⟩ : Fin 3072) = ⟨1536 + k.val, by omega⟩ := Fin.ext (show 512 + (1024 + k.val) = 1536 + k.val by omega)
  have h := head_sum m c t p ⟨1024 + k.val, by omega⟩
  rw [show (⟨512 + (⟨1024 + k.val, by omega⟩ : Fin 1536).val, by omega⟩ : Fin 3072) = ⟨1536 + k.val, by omega⟩ from e] at h
  exact h.trans (Cert.Reference2Ideal.Stages.v_at (projM m c) (bT t) (sT t p) k).symm

theorem q_rope (c : Dev nD) (t : Fin cfg0.N) (n p : Fin 512) :
    qRope (iblk m c 5 t) (k0_pay8 (F := Ideal) (iblk m c 0 t) (iblk m c 3 t) (iblk m c 1 t) (iblk m c 2 t)) (iblk m c 6 t) (iblk m c 7 t) n p
      = rope (qCols (projM m c)) (ix3 (bT t) (sT t p) n) :=
  (ropeVal_congr (funext fun k => q_sum m c t p k) (funext fun r => in6 m c t r p) (funext fun r => in7 m c t r p) n).trans
    (Cert.Reference2Ideal.Stages.rope_at (qCols (projM m c)) (bT t) (sT t p) n).symm

theorem k_rope (c : Dev nD) (t : Fin cfg0.N) (n p : Fin 512) :
    kRope (iblk m c 5 t) (k0_pay8 (F := Ideal) (iblk m c 0 t) (iblk m c 3 t) (iblk m c 1 t) (iblk m c 2 t)) (iblk m c 6 t) (iblk m c 7 t) n p
      = rope (kCols (projM m c)) (ix3 (bT t) (sT t p) n) :=
  (ropeVal_congr (funext fun k => k_sum m c t p k) (funext fun r => in6 m c t r p) (funext fun r => in7 m c t r p) n).trans
    (Cert.Reference2Ideal.Stages.rope_at (kCols (projM m c)) (bT t) (sT t p) n).symm

end Cert.Kernel2Ideal.Step

end
-- ==== Proof.InArrays.lean ====
/- An output of the input projection is assembled from its steps' blocks; the columns of the branches and gates. -/
module

public import proofs.«01_k».proof.Proof.InHeads

@[expose] public section

noncomputable section

namespace Cert.Kernel2Ideal.Step

open Cert.Kernel2Ideal Cert.Kernel2Ideal.Gen Idealize.ShloMosaic Idealize.ShloMosaic.TcCoe Idealize.SL.Sem
open Idealize.ShloMosaic.Pipeline (Dat Window)
open Cert.Reference2Ideal.Stages (hid ropeVal hidden proj uCol gCol uOf gateOf preGate rope rows rounded qCols kCols vCols angle)

variable (m : (ℓ : Loc nD τ sig) → Buf (Elt Ideal) ℓ)

theorem idx_rows (N : ℕ) (y : (⟨3, ![1, 512, N]⟩ : Shape).Idx) : ∃ (p : Fin 512) (n : Fin N), y = ix3 0 p n :=
  ⟨y 1, y 2, by
    funext a; apply Fin.ext
    match a with
    | ⟨0, _⟩ => have := (y 0).isLt; show (y 0).val = 0; have h1 : (⟨3, ![1, 512, N]⟩ : Shape).size 0 = 1 := rfl; omega
    | ⟨1, _⟩ => rfl
    | ⟨2, _⟩ => rfl⟩

/-- The point of a batch's position, and where in its block. -/
theorem point (b : Fin 4) (s : Fin 4096) : ∃ (t : Fin cfg0.N) (p : Fin 512), bT t = b ∧ sT t p = s := by
  have hb := b.isLt
  have hs := s.isLt
  have ht : 8 * b.val + s.val / 512 < cfg0.N := lt_of_lt_of_eq (by omega : 8 * b.val + s.val / 512 < 32) N_0.symm
  refine ⟨⟨_, ht⟩, ⟨s.val % 512, by omega⟩, Fin.ext ?_, Fin.ext ?_⟩
  · rw [bT_val]; dsimp only; omega
  · rw [sT_val]; dsimp only; omega

theorem flushes_of8 : ∀ t : Fin grid0.N, Window.flushOf grid0 true cc0_transform_8 t = true := by decide +kernel
theorem flushes8 (t : Fin cfg0.N) : (cfg0.win 8).flush t = true := (Window.flush_eq_flushOf (cfg0.win 8) t).trans (flushes_of8 t)
theorem flushes_of9 : ∀ t : Fin grid0.N, Window.flushOf grid0 true cc0_transform_9 t = true := by decide +kernel
theorem flushes9 (t : Fin cfg0.N) : (cfg0.win 9).flush t = true := (Window.flush_eq_flushOf (cfg0.win 9) t).trans (flushes_of9 t)
theorem flushes_of10 : ∀ t : Fin grid0.N, Window.flushOf grid0 true cc0_transform_10 t = true := by decide +kernel
theorem flushes10 (t : Fin cfg0.N) : (cfg0.win 10).flush t = true := (Window.flush_eq_flushOf (cfg0.win 10) t).trans (flushes_of10 t)
theorem flushes_of11 : ∀ t : Fin grid0.N, Window.flushOf grid0 true cc0_transform_11 t = true := by decide +kernel
theorem flushes11 (t : Fin cfg0.N) : (cfg0.win 11).flush t = true := (Window.flush_eq_flushOf (cfg0.win 11) t).trans (flushes_of11 t)
theorem flushes_of12 : ∀ t : Fin grid0.N, Window.flushOf grid0 true cc0_transform_12 t = true := by decide +kernel
theorem flushes12 (t : Fin cfg0.N) : (cfg0.win 12).flush t = true := (Window.flush_eq_flushOf (cfg0.win 12) t).trans (flushes_of12 t)
theorem flushes_of13 : ∀ t : Fin grid0.N, Window.flushOf grid0 true cc0_transform_13 t = true := by decide +kernel
theorem flushes13 (t : Fin cfg0.N) : (cfg0.win 13).flush t = true := (Window.flush_eq_flushOf (cfg0.win 13) t).trans (flushes_of13 t)

theorem array8 (c : Dev nD) (G : S4x4096x512.Idx → Elt Ideal .f32)
    (h : ∀ t : Fin cfg0.N, (dats m 0 c).flushed 8 t = ((cfg0.win 8).blk t).view.read (Elt Ideal) G) :
    (dats m 0 c).arrAt 8 cfg0.N = G := by
  refine (dats m 0 c).arrAt_eq_of_cover 8 G (fun t _ => h t) (fun i => ?_)
  obtain ⟨t, p, hb, hs⟩ := point (i 0) (i 1)
  refine ⟨t, flushes8 t, ?_⟩
  have e : i = ((cfg0.win 8).blk t).view.emb (ix3 0 p (i 2 : Fin 512) : (⟨3, ![1, 512, 512]⟩ : Shape).Idx) := by
    refine Eq.trans ?_ (emb8 t p (i 2)).symm
    rw [hb, hs]; exact eq_ix3 i
  rw [e]
  exact View.emb_mem_set _ _

theorem array9 (c : Dev nD) (G : S4x4096x1024.Idx → Elt Ideal .bf16)
    (h : ∀ t : Fin cfg0.N, (dats m 0 c).flushed 9 t = ((cfg0.win 9).blk t).view.read (Elt Ideal) G) :
    (dats m 0 c).arrAt 9 cfg0.N = G := by
  refine (dats m 0 c).arrAt_eq_of_cover 9 G (fun t _ => h t) (fun i => ?_)
  obtain ⟨t, p, hb, hs⟩ := point (i 0) (i 1)
  refine ⟨t, flushes9 t, ?_⟩
  have e : i = ((cfg0.win 9).blk t).view.emb (ix3 0 p (i 2 : Fin 1024) : (⟨3, ![1, 512, 1024]⟩ : Shape).Idx) := by
    refine Eq.trans ?_ (emb9 t p (i 2)).symm
    rw [hb, hs]; exact eq_ix3 i
  rw [e]
  exact View.emb_mem_set _ _

theorem array10 (c : Dev nD) (G : S4x4096x512.Idx → Elt Ideal .bf16)
    (h : ∀ t : Fin cfg0.N, (dats m 0 c).flushed 10 t = ((cfg0.win 10).blk t).view.read (Elt Ideal) G) :
    (dats m 0 c).arrAt 10 cfg0.N = G := by
  refine (dats m 0 c).arrAt_eq_of_cover 10 G (fun t _ => h t) (fun i => ?_)
  obtain ⟨t, p, hb, hs⟩ := point (i 0) (i 1)
  refine ⟨t, flushes10 t, ?_⟩
  have e : i = ((cfg0.win 10).blk t).view.emb (ix3 0 p (i 2 : Fin 512) : (⟨3, ![1, 512, 512]⟩ : Shape).Idx) := by
    refine Eq.trans ?_ (emb10 t p (i 2)).symm
    rw [hb, hs]; exact eq_ix3 i
  rw [e]
  exact View.emb_mem_set _ _

theorem array11 (c : Dev nD) (G : S4x512x4096.Idx → Elt Ideal .f32)
    (h : ∀ t : Fin cfg0.N, (dats m 0 c).flushed 11 t = ((cfg0.win 11).blk t).view.read (Elt Ideal) G) :
    (dats m 0 c).arrAt 11 cfg0.N = G := by
  refine (dats m 0 c).arrAt_eq_of_cover 11 G (fun t _ => h t) (fun i => ?_)
  obtain ⟨t, p, hb, hs⟩ := point (i 0) (i 2)
  refine ⟨t, flushes11 t, ?_⟩
  have e : i = ((cfg0.win 11).blk t).view.emb (ix3 0 (i 1 : Fin 512) p : (⟨3, ![1, 512, 512]⟩ : Shape).Idx) := by
    refine Eq.trans ?_ (emb11 t (i 1) p).symm
    rw [hb, hs]; exact eq_ix3 i
  rw [e]
  exact View.emb_mem_set _ _

theorem array12 (c : Dev nD) (G : S4x512x4096.Idx → Elt Ideal .f32)
    (h : ∀ t : Fin cfg0.N, (dats m 0 c).flushed 12 t = ((cfg0.win 12).blk t).view.read (Elt Ideal) G) :
    (dats m 0 c).arrAt 12 cfg0.N = G := by
  refine (dats m 0 c).arrAt_eq_of_cover 12 G (fun t _ => h t) (fun i => ?_)
  obtain ⟨t, p, hb, hs⟩ := point (i 0) (i 2)
  refine ⟨t, flushes12 t, ?_⟩
  have e : i = ((cfg0.win 12).blk t).view.emb (ix3 0 (i 1 : Fin 512) p : (⟨3, ![1, 512, 512]⟩ : Shape).Idx) := by
    refine Eq.trans ?_ (emb12 t (i 1) p).symm
    rw [hb, hs]; exact eq_ix3 i
  rw [e]
  exact View.emb_mem_set _ _

theorem array13 (c : Dev nD) (G : S4x512x4096.Idx → Elt Ideal .f32)
    (h : ∀ t : Fin cfg0.N, (dats m 0 c).flushed 13 t = ((cfg0.win 13).blk t).view.read (Elt Ideal) G) :
    (dats m 0 c).arrAt 13 cfg0.N = G := by
  refine (dats m 0 c).arrAt_eq_of_cover 13 G (fun t _ => h t) (fun i => ?_)
  obtain ⟨t, p, hb, hs⟩ := point (i 0) (i 2)
  refine ⟨t, flushes13 t, ?_⟩
  have e : i = ((cfg0.win 13).blk t).view.emb (ix3 0 (i 1 : Fin 512) p : (⟨3, ![1, 512, 512]⟩ : Shape).Idx) := by
    refine Eq.trans ?_ (emb13 t (i 1) p).symm
    rw [hb, hs]; exact eq_ix3 i
  rw [e]
  exact View.emb_mem_set _ _

theorem value8 (c : Dev nD) : (dats m 0 c).arrAt 8 cfg0.N = uOf (projM m c) := by
  refine array8 m c _ fun t => ?_
  rw [Value.flushed8_A]
  funext y
  obtain ⟨p, n, rfl⟩ := idx_rows 512 y
  refine Eq.trans ?_ (congrArg (uOf (projM m c)) (emb8 t p n)).symm
  refine Eq.trans (out8_at ..) (Eq.trans ?_ (Cert.Reference2Ideal.Stages.u_at _ _ _ _).symm)
  refine Eq.trans ?_ (Cert.Reference2Ideal.Stages.proj_at _ _ _ _ _).symm
  exact Finset.sum_congr rfl fun d _ => congrArg₂ (fun a b : EReal => a * b) (hid_block m c t p d) ((in4 m c t d _).trans (rowCols_u _ d n))

theorem gate_pre (c : Dev nD) (t : Fin cfg0.N) (p : Fin 512) (n : Fin 1024) :
    (∑ d : Fin 1024, (k0_pay8 (F := Ideal) (iblk m c 0 t) (iblk m c 3 t) (iblk m c 1 t) (iblk m c 2 t) (ix2 p d) : EReal) * ((iblk m c 4 t : S1024x1536.Idx → EReal) (ix2 d ⟨512 + n.val, by omega⟩) : EReal))
      = preGate (projM m c) (ix3 (bT t) (sT t p) n) := by
  refine Eq.trans ?_ (Cert.Reference2Ideal.Stages.preGate_at _ _ _ _).symm
  refine Eq.trans ?_ (Cert.Reference2Ideal.Stages.proj_at _ _ _ _ _).symm
  exact Finset.sum_congr rfl fun d _ => congrArg₂ (fun a b : EReal => a * b) (hid_block m c t p d) ((in4 m c t d _).trans (rowCols_g _ d n))

theorem value9 (c : Dev nD) : (dats m 0 c).arrAt 9 cfg0.N = gateOf (projM m c) := by
  refine array9 m c _ fun t => ?_
  rw [Value.flushed9_A]
  funext y
  obtain ⟨p, n, rfl⟩ := idx_rows 1024 y
  refine Eq.trans ?_ (congrArg (gateOf (projM m c)) (emb9 t p n)).symm
  refine Eq.trans (out9_at ..) (Eq.trans ?_ (Cert.Reference2Ideal.Stages.gate_at _ _ _ _).symm)
  exact congrArg (fun z : EReal => z * Ideal.div 1 (1 + Ideal.exp (-z))) (gate_pre m c t p n)

end Cert.Kernel2Ideal.Step

end
-- ==== Proof.InEnd.lean ====
/- The arrays after the last step of the input projection are the reference's results; and the run with them. -/
module

public import proofs.«01_k».proof.Proof.InArrays

@[expose] public section

noncomputable section

namespace Cert.Kernel2Ideal.Step

open Cert.Kernel2Ideal Cert.Kernel2Ideal.Gen Idealize.ShloMosaic Idealize.ShloMosaic.TcCoe Idealize.SL.Sem
open Idealize.ShloMosaic.Pipeline (Dat Window)
open Cert.Reference2Ideal.Stages (hid ropeVal hidden proj uCol gCol uOf gateOf preGate rope rows rounded qCols kCols vCols angle)

variable (m : (ℓ : Loc nD τ sig) → Buf (Elt Ideal) ℓ)

theorem cut11 (t : Fin cfg0.N) (v : Vec Ideal S1x512x512 .f32) (y : S1x512x512.Idx) : (cfg0.win 11).cut (grid0.coords t) v y = v y := rfl
theorem cut12 (t : Fin cfg0.N) (v : Vec Ideal S1x512x512 .f32) (y : S1x512x512.Idx) : (cfg0.win 12).cut (grid0.coords t) v y = v y := rfl
theorem cut10 (t : Fin cfg0.N) (v : Vec Ideal S1x512x512 .bf16) (y : S1x512x512.Idx) : (cfg0.win 10).cut (grid0.coords t) v y = v y := rfl
theorem cut13 (t : Fin cfg0.N) (v : Vec Ideal S1x512x512 .f32) (y : S1x512x512.Idx) : (cfg0.win 13).cut (grid0.coords t) v y = v y := rfl

theorem blocks11 (c : Dev nD) (G : S4x512x4096.Idx → Elt Ideal .f32)
    (h : ∀ (t : Fin cfg0.N) (n p : Fin 512), ((dats m 0 c).flushed 11 t : S1x512x512.Idx → Elt Ideal .f32) (ix3 0 n p) = G (ix3 (bT t) n (sT t p))) :
    (dats m 0 c).arrAt 11 cfg0.N = G := by
  refine array11 m c G fun t => ?_
  funext y
  obtain ⟨n, p, rfl⟩ := idx_rows 512 y
  exact (h t n p).trans (congrArg G (emb11 t n p)).symm

theorem blocks12 (c : Dev nD) (G : S4x512x4096.Idx → Elt Ideal .f32)
    (h : ∀ (t : Fin cfg0.N) (n p : Fin 512), ((dats m 0 c).flushed 12 t : S1x512x512.Idx → Elt Ideal .f32) (ix3 0 n p) = G (ix3 (bT t) n (sT t p))) :
    (dats m 0 c).arrAt 12 cfg0.N = G := by
  refine array12 m c G fun t => ?_
  funext y
  obtain ⟨n, p, rfl⟩ := idx_rows 512 y
  exact (h t n p).trans (congrArg G (emb12 t n p)).symm

theorem blocks10 (c : Dev nD) (G : S4x4096x512.Idx → Elt Ideal .bf16)
    (h : ∀ (t : Fin cfg0.N) (n p : Fin 512), ((dats m 0 c).flushed 10 t : S1x512x512.Idx → Elt Ideal .bf16) (ix3 0 p n) = G (ix3 (bT t) (sT t p) n)) :
    (dats m 0 c).arrAt 10 cfg0.N = G := by
  refine array10 m c G fun t => ?_
  funext y
  obtain ⟨p, n, rfl⟩ := idx_rows 512 y
  exact (h t n p).trans (congrArg G (emb10 t p n)).symm

theorem blocks13 (c : Dev nD) (G : S4x512x4096.Idx → Elt Ideal .f32)
    (h : ∀ (t : Fin cfg0.N) (n p : Fin 512), ((dats m 0 c).flushed 13 t : S1x512x512.Idx → Elt Ideal .f32) (ix3 0 n p) = G (ix3 (bT t) n (sT t p))) :
    (dats m 0 c).arrAt 13 cfg0.N = G := by
  refine array13 m c G fun t => ?_
  funext y
  obtain ⟨n, p, rfl⟩ := idx_rows 512 y
  exact (h t n p).trans (congrArg G (emb13 t n p)).symm

theorem value11 (c : Dev nD) : (dats m 0 c).arrAt 11 cfg0.N = rows (rope (qCols (projM m c))) := by
  refine blocks11 m c _ fun t n p => ?_
  rw [Value.flushed11_A]
  refine Eq.trans ?_ (Cert.Reference2Ideal.Stages.rows_at (rope (qCols (projM m c))) (bT t) (sT t p) n).symm
  refine Eq.trans (cut11 t _ _) ?_
  refine Eq.trans (out11_sum ..) ?_
  exact q_rope m c t n p

theorem value12 (c : Dev nD) : (dats m 0 c).arrAt 12 cfg0.N = rows (rope (kCols (projM m c))) := by
  refine blocks12 m c _ fun t n p => ?_
  rw [Value.flushed12_A]
  refine Eq.trans ?_ (Cert.Reference2Ideal.Stages.rows_at (rope (kCols (projM m c))) (bT t) (sT t p) n).symm
  refine Eq.trans (cut12 t _ _) ?_
  refine Eq.trans (out12_sum ..) ?_
  exact k_rope m c t n p

theorem rounded_at (x : FVec Ideal Cert.Reference2Ideal.S4x4096x512 .f32) (i : Cert.Reference2Ideal.S4x4096x512.Idx) : (rounded x : _ → EReal) i = x i := rfl

theorem value10 (c : Dev nD) : (dats m 0 c).arrAt 10 cfg0.N = rounded (rope (kCols (projM m c))) := by
  refine blocks10 m c _ fun t n p => ?_
  rw [Value.flushed10_A]
  refine Eq.trans ?_ (rounded_at (rope (kCols (projM m c))) (ix3 (bT t) (sT t p) n)).symm
  refine Eq.trans (cut10 t _ _) ?_
  refine Eq.trans (out10_at ..) ?_
  refine Eq.trans (out12_sum ..) ?_
  exact k_rope m c t n p

theorem value13 (c : Dev nD) : (dats m 0 c).arrAt 13 cfg0.N = rows (vCols (projM m c)) := by
  refine blocks13 m c _ fun t n p => ?_
  rw [Value.flushed13_A]
  refine Eq.trans ?_ (Cert.Reference2Ideal.Stages.rows_at (vCols (projM m c)) (bT t) (sT t p) n).symm
  exact Eq.trans (out13_sum ..) (v_sum m c t p n)

/-- The run with its values. -/
theorem value_kernel (ρ : Dev nD → PrngReg) : θ_run defs (onTc (τ := τ) (main (F := Ideal))) ⟨m, fun _ => 0, ρ⟩ fun r => ∀ c : Dev nD,
      r.2.mem ((c.tc : Thread nD τ).loc main_v29_0) = uOf (projM m c)
      ∧ r.2.mem ((c.tc : Thread nD τ).loc main_v29_1) = gateOf (projM m c)
      ∧ r.2.mem ((c.tc : Thread nD τ).loc main_v29_2) = rounded (rope (kCols (projM m c)))
      ∧ r.2.mem ((c.tc : Thread nD τ).loc main_v29_3) = rows (rope (qCols (projM m c)))
      ∧ r.2.mem ((c.tc : Thread nD τ).loc main_v29_4) = rows (rope (kCols (projM m c)))
      ∧ r.2.mem ((c.tc : Thread nD τ).loc main_v29_5) = rows (vCols (projM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4, h5, ha⟩ := h c
    exact ⟨h0.trans (value8 m c), h1.trans (value9 m c), h2.trans (value10 m c), h3.trans (value11 m c), h4.trans (value12 m c), h5.trans (value13 m c), ha⟩) (Value.run_blocks (F := Ideal) m ρ)

end Cert.Kernel2Ideal.Step

end
-- ==== Proof.InClaims.lean ====
/- The input projection's claims: its frames, and the equation of its six results with the reference's. -/
module

public import proofs.«01_k».proof.Defs
public import proofs.«01_k».proof.Proof.InEnd
public import proofs.«01_k».proof.Proof.Gen.Kernel2.Frame
public import proofs.«01_k».proof.Proof.Gen.Kernel2Ideal.Frame

@[expose] public section

noncomputable section

namespace Cert.Proof

open Idealize.ShloMosaic Idealize.ShloMosaic.TcCoe
open Idealize.SL.Sem
open Cert.Reference2Ideal.Stages (uOf gateOf rounded rope rows qCols kCols vCols)

theorem frame_in_bits : Cert.quiescent_Kernel2 (hKernel2 := Cert.Kernel2.Gen.facts) := fun m ρ _ => Cert.Kernel2.Gen.frame (F := Bits) m ρ

theorem frame_in_ideal : Cert.quiescent_Kernel2Ideal (hKernel2Ideal := Cert.Kernel2Ideal.Gen.facts) := fun m ρ _ => Cert.Kernel2Ideal.Gen.frame (F := Ideal) m ρ

/-- The reference has no semaphore. -/
theorem no_sem_in (s : GSem Cert.Reference2Ideal.nD Cert.Reference2Ideal.τ Cert.Reference2Ideal.sig → ℤ) : s = fun _ => 0 := by
  funext g
  exact (by decide : ∀ _ : SemLoc Cert.Reference2Ideal.sig, False) g.2 |>.elim

theorem frame_in_reference : Cert.quiescent_Reference2Ideal (hReference2Ideal := Cert.Reference2Ideal.Gen.facts) := fun m ρ _ =>
  (θ_run Cert.Reference2Ideal.defs _ _).mono (fun r h => ⟨fun c => (h c).2.2.2.2.2.2, no_sem_in _⟩) (Cert.Reference2Ideal.Stages.run_named m ρ)

/-- The reference's projection depends on the arguments alone. -/
theorem proj_eq (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Cert.Reference2Ideal.Stages.projM m' c = Cert.Kernel2Ideal.Step.projM m c := by
  obtain ⟨e0, e1, e2, e3, e4⟩ := h
  unfold Cert.Reference2Ideal.Stages.projM Cert.Kernel2Ideal.Step.projM Cert.Kernel2Ideal.Step.hidM
  rw [e0, e1, e2, e3, e4]

theorem algebraic_in : Cert.algebraic_Kernel2Ideal_Reference2Ideal (hKernel2Ideal := Cert.Kernel2Ideal.Gen.facts) (hReference2Ideal := Cert.Reference2Ideal.Gen.facts) := fun m g m' g' _ hargs =>
  ⟨fun c => uOf (Cert.Kernel2Ideal.Step.projM m c),
    fun c => gateOf (Cert.Kernel2Ideal.Step.projM m c),
    fun c => rounded (rope (kCols (Cert.Kernel2Ideal.Step.projM m c))),
    fun c => rows (rope (qCols (Cert.Kernel2Ideal.Step.projM m c))),
    fun c => rows (rope (kCols (Cert.Kernel2Ideal.Step.projM m c))),
    fun c => rows (vCols (Cert.Kernel2Ideal.Step.projM m c)),
    Cert.Kernel2Ideal.Step.value_kernel m g,
    (θ_run Cert.Reference2Ideal.defs _ _).mono (fun r h c => by
      have e := proj_eq m m' c (hargs c)
      obtain ⟨h0, h1, h2, h3, h4, h5, ha⟩ := h c
      exact ⟨h0.trans (congrArg (fun P => uOf P) e), h1.trans (congrArg (fun P => gateOf P) e), h2.trans (congrArg (fun P => rounded (rope (kCols P))) e), h3.trans (congrArg (fun P => rows (rope (qCols P))) e),
        h4.trans (congrArg (fun P => rows (rope (kCols P))) e), h5.trans (congrArg (fun P => rows (vCols P)) e), ha⟩) (Cert.Reference2Ideal.Stages.run_named m' g')⟩

end Cert.Proof

end
-- ==== Proof.lean ====
/- The certificate's claims, each from its own module: the kernel's frames (`frame_kernel`, proved once at every float
   instance, read at the two programs), the reference's frame, the ideal pass's two named constants, and the value equality;
   and those of the input projection. -/
module

public import proofs.«01_k».proof.Defs
public import proofs.«01_k».proof.Proof.FrameBits
public import proofs.«01_k».proof.Proof.Algebraic
public import proofs.«01_k».proof.Proof.InClaims

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.KernelIdeal.Body.facts_pool, frame_bits, frame_ideal, frame_reference, frame_reference_pre, frame_in_bits, frame_in_ideal, frame_in_reference,
    preserves, algebraic, trivial, algebraic_in⟩

end Cert.Proof

end
